-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_slots_in_range : Cert.Pre_slots_in_range.Facts] (m : (ℓ : Loc Cert.Kernel8.nD Cert.Kernel8.τ Cert.Kernel8.sig) → Buf (Elt Bits) ℓ) : Prop :=
  ∀ c : Dev Cert.Kernel8.nD,
    (Cert.Pre_slots_in_range.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5))) = (fun _ => 1#1)

def Pre_Kernel8Ideal [hPre_slots_in_range : Cert.Pre_slots_in_range.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_slots_in_range.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_slots_in_range [hPre_slots_in_range : Cert.Pre_slots_in_range.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_slots_in_range.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 [hPre_tokens_in_range : Cert.Pre_tokens_in_range.Facts] (m : (ℓ : Loc Cert.Kernel9.nD Cert.Kernel9.τ Cert.Kernel9.sig) → Buf (Elt Bits) ℓ) : Prop :=
  ∀ c : Dev Cert.Kernel9.nD,
    (Cert.Pre_tokens_in_range.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4))) = (fun _ => 1#1)

def Pre_Kernel9Ideal [hPre_tokens_in_range : Cert.Pre_tokens_in_range.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_tokens_in_range.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_tokens_in_range [hPre_tokens_in_range : Cert.Pre_tokens_in_range.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_tokens_in_range.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 [hPre_sample_tokens_in_range : Cert.Pre_sample_tokens_in_range.Facts] (m : (ℓ : Loc Cert.Kernel10.nD Cert.Kernel10.τ Cert.Kernel10.sig) → Buf (Elt Bits) ℓ) : Prop :=
  ∀ c : Dev Cert.Kernel10.nD,
    (Cert.Pre_sample_tokens_in_range.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4))) = (fun _ => 1#1)

def Pre_Kernel10Ideal [hPre_sample_tokens_in_range : Cert.Pre_sample_tokens_in_range.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_sample_tokens_in_range.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_sample_tokens_in_range [hPre_sample_tokens_in_range : Cert.Pre_sample_tokens_in_range.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_sample_tokens_in_range.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] [hPre_slots_in_range : Cert.Pre_slots_in_range.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] [hPre_slots_in_range : Cert.Pre_slots_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_slots_in_range [hReference8Ideal : Cert.Reference8Ideal.Facts] [hPre_slots_in_range : Cert.Pre_slots_in_range.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_slots_in_range m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] [hPre_tokens_in_range : Cert.Pre_tokens_in_range.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] [hPre_tokens_in_range : Cert.Pre_tokens_in_range.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_tokens_in_range [hReference9Ideal : Cert.Reference9Ideal.Facts] [hPre_tokens_in_range : Cert.Pre_tokens_in_range.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_tokens_in_range m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] [hPre_sample_tokens_in_range : Cert.Pre_sample_tokens_in_range.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] [hPre_sample_tokens_in_range : Cert.Pre_sample_tokens_in_range.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_sample_tokens_in_range [hReference10Ideal : Cert.Reference10Ideal.Facts] [hPre_sample_tokens_in_range : Cert.Pre_sample_tokens_in_range.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_sample_tokens_in_range m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v132) = v0 c
          ∧ r.2.mem ((c.tc : Thread Cert.Reference6Ideal.nD Cert.Reference6Ideal.τ).loc Cert.Reference6Ideal.main_v102) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] [hPre_slots_in_range : Cert.Pre_slots_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] [hPre_tokens_in_range : Cert.Pre_tokens_in_range.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] [hPre_sample_tokens_in_range : Cert.Pre_sample_tokens_in_range.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v31) = v0 c
          ∧ r.2.mem ((c.tc : Thread Cert.Reference13Ideal.nD Cert.Reference13Ideal.τ).loc Cert.Reference13Ideal.main_v32) = v1 c
          ∧ r.2.mem ((c.tc : Thread Cert.Reference13Ideal.nD Cert.Reference13Ideal.τ).loc Cert.Reference13Ideal.main_v33) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "mask" .f32 0xF149F2CA#32 ⊥

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v39)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v39) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v211) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_slots_in_range : Cert.Pre_slots_in_range.Facts) (hPre_tokens_in_range : Cert.Pre_tokens_in_range.Facts) (hPre_sample_tokens_in_range : Cert.Pre_sample_tokens_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_slots_in_range := hPre_slots_in_range)
    ∧ quiescent_Kernel8Ideal (hKernel8Ideal := hKernel8Ideal) (hPre_slots_in_range := hPre_slots_in_range)
    ∧ quiescent_Reference8Ideal (hReference8Ideal := hReference8Ideal)
    ∧ quiescent_Reference8Ideal_pre_slots_in_range (hReference8Ideal := hReference8Ideal) (hPre_slots_in_range := hPre_slots_in_range)
    ∧ quiescent_Kernel9 (hKernel9 := hKernel9) (hPre_tokens_in_range := hPre_tokens_in_range)
    ∧ quiescent_Kernel9Ideal (hKernel9Ideal := hKernel9Ideal) (hPre_tokens_in_range := hPre_tokens_in_range)
    ∧ quiescent_Reference9Ideal (hReference9Ideal := hReference9Ideal)
    ∧ quiescent_Reference9Ideal_pre_tokens_in_range (hReference9Ideal := hReference9Ideal) (hPre_tokens_in_range := hPre_tokens_in_range)
    ∧ quiescent_Kernel10 (hKernel10 := hKernel10) (hPre_sample_tokens_in_range := hPre_sample_tokens_in_range)
    ∧ quiescent_Kernel10Ideal (hKernel10Ideal := hKernel10Ideal) (hPre_sample_tokens_in_range := hPre_sample_tokens_in_range)
    ∧ quiescent_Reference10Ideal (hReference10Ideal := hReference10Ideal)
    ∧ quiescent_Reference10Ideal_pre_sample_tokens_in_range (hReference10Ideal := hReference10Ideal) (hPre_sample_tokens_in_range := hPre_sample_tokens_in_range)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_slots_in_range := hPre_slots_in_range)
    ∧ preserves_Kernel9_Kernel9Ideal
    ∧ algebraic_Kernel9Ideal_Reference9Ideal (hKernel9Ideal := hKernel9Ideal) (hReference9Ideal := hReference9Ideal) (hPre_tokens_in_range := hPre_tokens_in_range)
    ∧ preserves_Kernel10_Kernel10Ideal
    ∧ algebraic_Kernel10Ideal_Reference10Ideal (hKernel10Ideal := hKernel10Ideal) (hReference10Ideal := hReference10Ideal) (hPre_sample_tokens_in_range := hPre_sample_tokens_in_range)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_sample_tokens_in_range.lean ====
abbrev S8x16x512 : Shape := ⟨3, ![8, 16, 512]⟩
abbrev S16x5120x2048 : Shape := ⟨3, ![16, 5120, 2048]⟩
abbrev S32768x2048 : Shape := ⟨2, ![32768, 2048]⟩
abbrev S96x1x2048 : Shape := ⟨3, ![96, 1, 2048]⟩
abbrev S_ : Shape := ⟨0, ![]⟩

class Facts : Prop where
  bcast_S_S8x16x512 : S_.BroadcastsInDim S8x16x512 (![] : Fin 0 → Fin S8x16x512.rank)

variable [Facts]

def fn {F : FTy → Type} [FloatOps F] (main_arg0 : IVec S8x16x512 32) (main_arg1 : FVec F S8x16x512 .f32) (main_arg2 : FVec F S16x5120x2048 .bf16) (main_arg3 : FVec F S32768x2048 .f32) (main_arg4 : FVec F S96x1x2048 .f32) : IVec S8x16x512 1 :=
  let main_c : IVec S_ 32 := constantI S_ 32 0#32
  let main_v0 : IVec S8x16x512 32 := broadcastInDim S8x16x512 ![] bcast_S_S8x16x512 main_c
  let main_v1 : IVec S8x16x512 1 := cmpi .sge main_arg0 main_v0
  let main_c_0 : IVec S_ 32 := constantI S_ 32 4096#32
  let main_v2 : IVec S8x16x512 32 := broadcastInDim S8x16x512 ![] bcast_S_S8x16x512 main_c_0
  let main_v3 : IVec S8x16x512 1 := cmpi .slt main_arg0 main_v2
  let main_v4 : IVec S8x16x512 1 := andi main_v1 main_v3
  main_v4
-- ==== Pre_slots_in_range.lean ====
abbrev S16x5120 : Shape := ⟨2, ![16, 5120]⟩
abbrev S8192x2048 : Shape := ⟨2, ![8192, 2048]⟩
abbrev S32768x2048 : Shape := ⟨2, ![32768, 2048]⟩
abbrev S16x2048x2048 : Shape := ⟨3, ![16, 2048, 2048]⟩
abbrev S_ : Shape := ⟨0, ![]⟩

class Facts : Prop where
  bcast_S_S16x5120 : S_.BroadcastsInDim S16x5120 (![] : Fin 0 → Fin S16x5120.rank)

variable [Facts]

def fn {F : FTy → Type} [FloatOps F] (main_arg0 : IVec S16x5120 32) (main_arg1 : FVec F S8192x2048 .f32) (main_arg2 : FVec F S32768x2048 .f32) (main_arg3 : FVec F S16x2048x2048 .bf16) (main_arg4 : FVec F S16x2048x2048 .bf16) (main_arg5 : FVec F S16x2048x2048 .bf16) : IVec S16x5120 1 :=
  let main_v0 : IVec S16x5120 32 := iotaInDim S16x5120 32 1
  let main_c : IVec S_ 32 := constantI S_ 32 0#32
  let main_v1 : IVec S16x5120 32 := broadcastInDim S16x5120 ![] bcast_S_S16x5120 main_c
  let main_v2 : IVec S16x5120 1 := cmpi .sge main_arg0 main_v1
  let main_c_0 : IVec S_ 32 := constantI S_ 32 32768#32
  let main_v3 : IVec S16x5120 32 := broadcastInDim S16x5120 ![] bcast_S_S16x5120 main_c_0
  let main_v4 : IVec S16x5120 1 := cmpi .slt main_arg0 main_v3
  let main_v5 : IVec S16x5120 1 := andi main_v2 main_v4
  let main_c_1 : IVec S_ 32 := constantI S_ 32 1024#32
  let main_v6 : IVec S16x5120 32 := broadcastInDim S16x5120 ![] bcast_S_S16x5120 main_c_1
  let main_v7 : IVec S16x5120 1 := cmpi .sge main_v0 main_v6
  let main_c_2 : IVec S_ 32 := constantI S_ 32 8192#32
  let main_v8 : IVec S16x5120 32 := broadcastInDim S16x5120 ![] bcast_S_S16x5120 main_c_2
  let main_v9 : IVec S16x5120 1 := cmpi .slt main_arg0 main_v8
  let main_v10 : IVec S16x5120 1 := ori main_v7 main_v9
  let main_v11 : IVec S16x5120 1 := andi main_v5 main_v10
  main_v11
-- ==== Pre_tokens_in_range.lean ====
abbrev S32x16x32 : Shape := ⟨3, ![32, 16, 32]⟩
abbrev S16x5120x2048 : Shape := ⟨3, ![16, 5120, 2048]⟩
abbrev S8192x2048 : Shape := ⟨2, ![8192, 2048]⟩
abbrev S96x1x2048 : Shape := ⟨3, ![96, 1, 2048]⟩
abbrev S_ : Shape := ⟨0, ![]⟩

class Facts : Prop where
  bcast_S_S32x16x32 : S_.BroadcastsInDim S32x16x32 (![] : Fin 0 → Fin S32x16x32.rank)

variable [Facts]

def fn {F : FTy → Type} [FloatOps F] (main_arg0 : IVec S32x16x32 32) (main_arg1 : FVec F S32x16x32 .f32) (main_arg2 : FVec F S16x5120x2048 .bf16) (main_arg3 : FVec F S8192x2048 .f32) (main_arg4 : FVec F S96x1x2048 .f32) : IVec S32x16x32 1 :=
  let main_c : IVec S_ 32 := constantI S_ 32 0#32
  let main_v0 : IVec S32x16x32 32 := broadcastInDim S32x16x32 ![] bcast_S_S32x16x32 main_c
  let main_v1 : IVec S32x16x32 1 := cmpi .sge main_arg0 main_v0
  let main_c_0 : IVec S_ 32 := constantI S_ 32 256#32
  let main_v2 : IVec S32x16x32 32 := broadcastInDim S32x16x32 ![] bcast_S_S32x16x32 main_c_0
  let main_v3 : IVec S32x16x32 1 := cmpi .slt main_arg0 main_v2
  let main_v4 : IVec S32x16x32 1 := andi main_v1 main_v3
  main_v4
-- ==== Kernel.lean ====
abbrev S8192x12288 : Shape := ⟨2, ![8192, 12288]⟩
abbrev S2x8 : Shape := ⟨2, ![2, 8]⟩
abbrev S8192x4096 : Shape := ⟨2, ![8192, 4096]⟩
abbrev S32x8x256x512 : Shape := ⟨4, ![32, 8, 256, 512]⟩
abbrev S128x256 : Shape := ⟨2, ![128, 256]⟩
abbrev S128x512 : Shape := ⟨2, ![128, 512]⟩
abbrev S1x1x256x512 : Shape := ⟨4, ![1, 1, 256, 512]⟩
abbrev S256x512 : Shape := ⟨2, ![256, 512]⟩
abbrev S1x1 : Shape := ⟨2, ![1, 1]⟩
abbrev S128x128 : Shape := ⟨2, ![128, 128]⟩
abbrev S128x1 : Shape := ⟨2, ![128, 1]⟩

abbrev nBuf : Space → Nat
  | .hbm => 4
  | .vmem => 11
  | .smem => 1
  | _ => 0

abbrev bufTy : (tb : Table) → Fin (tcTables nBuf tb) → BufTy
  | .hbm, ⟨0, _⟩ => ⟨S8192x12288, .bf16⟩
  | .hbm, ⟨1, _⟩ => ⟨S2x8, .f32⟩
  | .hbm, ⟨2, _⟩ => ⟨S8192x4096, .f32⟩
  | .hbm, ⟨3, _⟩ => ⟨S32x8x256x512, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S1x1x256x512, .f32⟩
  | .local _ .vmem, ⟨9, _⟩ => ⟨S1x1x256x512, .f32⟩
  | .local _ .vmem, ⟨10, _⟩ => ⟨S256x512, .f32⟩
  | .local _ .smem, ⟨0, _⟩ => ⟨S2x8, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 8, 2], ![false, false, false]⟩

def k0_off1 (i : grid0.Coords) : Fin 2 → Nat :=
  let c0 : Index := 0#32
  let arg1 : BitVec 32 := BitVec.ofNat 32 (i 1).val
  let v3 : Index := Scalar.indexCast arg1
  ![0, v3.toNat]
def k0_cond2 (i : grid0.Coords) : BitVec 1 :=
  let arg2 : BitVec 32 := BitVec.ofNat 32 (i 2).val
  let c1_i32 : BitVec 32 := 1#32
  let v70 : BitVec 1 := Scalar.cmpi .eq arg2 c1_i32
  let v71 : BitVec 32 := Scalar.extui v70
  let c0_i32_26 : BitVec 32 := 0#32
  let v72 : BitVec 1 := Scalar.cmpi .ne v71 c0_i32_26
  v72

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S8192x12288 : Shape := ⟨2, ![8192, 12288]⟩
abbrev S2x8 : Shape := ⟨2, ![2, 8]⟩
abbrev S32x256x12288 : Shape := ⟨3, ![32, 256, 12288]⟩
abbrev S32x256x2048 : Shape := ⟨3, ![32, 256, 2048]⟩
abbrev S32x256x4096 : Shape := ⟨3, ![32, 256, 4096]⟩
abbrev S32x256x8x256 : Shape := ⟨4, ![32, 256, 8, 256]⟩
abbrev S_ : Shape := ⟨0, ![]⟩
abbrev S32x256x8x512 : Shape := ⟨4, ![32, 256, 8, 512]⟩
abbrev S32x8x256x512 : Shape := ⟨4, ![32, 8, 256, 512]⟩
abbrev S1x8 : Shape := ⟨2, ![1, 8]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x128x128 : Shape := ⟨3, ![8, 128, 128]⟩
abbrev S8x1x1 : Shape := ⟨3, ![8, 1, 1]⟩
abbrev S1x128x128 : Shape := ⟨3, ![1, 128, 128]⟩
abbrev S128x8 : Shape := ⟨2, ![128, 8]⟩
abbrev S32x128x8x256 : Shape := ⟨4, ![32, 128, 8, 256]⟩
abbrev S32x128x8x512 : Shape := ⟨4, ![32, 128, 8, 512]⟩
abbrev S32x8x128x128 : Shape := ⟨4, ![32, 8, 128, 128]⟩
abbrev S1x8x128x128 : Shape := ⟨4, ![1, 8, 128, 128]⟩
abbrev S32x8x512x128 : Shape := ⟨4, ![32, 8, 512, 128]⟩
abbrev S1x128x8x1 : Shape := ⟨4, ![1, 128, 8, 1]⟩
abbrev S1x8x1x1 : Shape := ⟨4, ![1, 8, 1, 1]⟩
abbrev S8192x4096 : Shape := ⟨2, ![8192, 4096]⟩

abbrev nBuf : Space → Nat
  | .hbm => 112
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S2x8, .f32⟩
  | .hbm, ⟨2, _⟩ => ⟨S8192x12288, .f32⟩
  | .hbm, ⟨3, _⟩ => ⟨S32x256x12288, .f32⟩
  | .hbm, ⟨4, _⟩ => ⟨S32x256x2048, .f32⟩
  | .hbm, ⟨5, _⟩ => ⟨S32x256x2048, .f32⟩
  | .hbm, ⟨6, _⟩ => ⟨S32x256x4096, .f32⟩
  | .hbm, ⟨7, _⟩ => ⟨S32x256x4096, .f32⟩
  | .hbm, ⟨8, _⟩ => ⟨S32x256x8x256, .f32⟩
  | .hbm, ⟨9, _⟩ => ⟨S32x256x8x256, .f32⟩
  | .hbm, ⟨10, _⟩ => ⟨S_, .f32⟩
  | .hbm, ⟨11, _⟩ => ⟨S32x256x8x256, .f32⟩
  | .hbm, ⟨12, _⟩ => ⟨S32x256x8x256, .f32⟩
  | .hbm, ⟨13, _⟩ => ⟨S32x256x8x512, .f32⟩
  | .hbm, ⟨14, _⟩ => ⟨S2x8, .f32⟩
  | .hbm, ⟨15, _⟩ => ⟨S2x8, .f32⟩
  | .hbm, ⟨16, _⟩ => ⟨S_, .f32⟩
  | .hbm, ⟨17, _⟩ => ⟨S32x8x256x512, .f32⟩
  | .hbm, ⟨18, _⟩ => ⟨S1x8, .f32⟩
  | .hbm, ⟨19, _⟩ => ⟨S8, .f32⟩
  | .hbm, ⟨20, _⟩ => ⟨S128, .f32⟩
  | .hbm, ⟨21, _⟩ => ⟨S128x1, .f32⟩
  | .hbm, ⟨22, _⟩ => ⟨S1x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S_, .f32⟩
  | .hbm, ⟨27, _⟩ => ⟨S128x128, .f32⟩
  | .hbm, ⟨28, _⟩ => ⟨S128x128, .i1⟩
  | .hbm, ⟨29, _⟩ => ⟨S8x128x128, .i1⟩
  | .hbm, ⟨30, _⟩ => ⟨S8x1x1, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S1x128x128, .f32⟩
  | .hbm, ⟨35, _⟩ => ⟨S8x128x128, .f32⟩
  | .hbm, ⟨36, _⟩ => ⟨S8x128x128, .f32⟩
  | .hbm, ⟨37, _⟩ => ⟨S8x128x128, .f32⟩
  | .hbm, ⟨38, _⟩ => ⟨S8x128x128, .f32⟩
  | .hbm, ⟨39, _⟩ => ⟨S_, .f32⟩
  | .hbm, ⟨40, _⟩ => ⟨S8x128x128, .f32⟩
  | .hbm, ⟨41, _⟩ => ⟨S8x128x128, .f32⟩
  | .hbm, ⟨42, _⟩ => ⟨S1x8, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S128x8, .f32⟩
  | .hbm, ⟨48, _⟩ => ⟨S128x8, .f32⟩
  | .hbm, ⟨49, _⟩ => ⟨S128x8, .f32⟩
  | .hbm, ⟨50, _⟩ => ⟨S128x8, .f32⟩
  | .hbm, ⟨51, _⟩ => ⟨S1x8, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S128x8, .f32⟩
  | .hbm, ⟨57, _⟩ => ⟨S128x8, .f32⟩
  | .hbm, ⟨58, _⟩ => ⟨S128x8, .f32⟩
  | .hbm, ⟨59, _⟩ => ⟨S128x8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S32x128x8x256, .f32⟩
  | .hbm, ⟨65, _⟩ => ⟨S32x128x8x256, .f32⟩
  | .hbm, ⟨66, _⟩ => ⟨S32x128x8x512, .f32⟩
  | .hbm, ⟨67, _⟩ => ⟨S32x8x128x128, .f32⟩
  | .hbm, ⟨68, _⟩ => ⟨S1x8x128x128, .f32⟩
  | .hbm, ⟨69, _⟩ => ⟨S32x8x128x128, .f32⟩
  | .hbm, ⟨70, _⟩ => ⟨S32x8x128x128, .f32⟩
  | .hbm, ⟨71, _⟩ => ⟨S32x8x512x128, .f32⟩
  | .hbm, ⟨72, _⟩ => ⟨S32x128x8x512, .f32⟩
  | .hbm, ⟨73, _⟩ => ⟨S32x8x512x128, .f32⟩
  | .hbm, ⟨74, _⟩ => ⟨S32x128x8x512, .f32⟩
  | .hbm, ⟨75, _⟩ => ⟨S1x128x8x1, .f32⟩
  | .hbm, ⟨76, _⟩ => ⟨S32x128x8x512, .f32⟩
  | .hbm, ⟨77, _⟩ => ⟨S32x128x8x512, .f32⟩
  | .hbm, ⟨78, _⟩ => ⟨S32x128x8x512, .f32⟩
  | .hbm, ⟨79, _⟩ => ⟨S1x8x1x1, .f32⟩
  | .hbm, ⟨80, _⟩ => ⟨S32x8x256x512, .f32⟩
  | .hbm, ⟨81, _⟩ => ⟨S32x8x256x512, .f32⟩
  | .hbm, ⟨82, _⟩ => ⟨S1x128x8x1, .f32⟩
  | .hbm, ⟨83, _⟩ => ⟨S32x128x8x256, .f32⟩
  | .hbm, ⟨84, _⟩ => ⟨S32x128x8x256, .f32⟩
  | .hbm, ⟨85, _⟩ => ⟨S32x8x256x512, .f32⟩
  | .hbm, ⟨86, _⟩ => ⟨S32x8x256x512, .f32⟩
  | .hbm, ⟨87, _⟩ => ⟨S32x128x8x256, .f32⟩
  | .hbm, ⟨88, _⟩ => ⟨S32x128x8x256, .f32⟩
  | .hbm, ⟨89, _⟩ => ⟨S32x128x8x512, .f32⟩
  | .hbm, ⟨90, _⟩ => ⟨S32x8x128x128, .f32⟩
  | .hbm, ⟨91, _⟩ => ⟨S1x8x128x128, .f32⟩
  | .hbm, ⟨92, _⟩ => ⟨S32x8x128x128, .f32⟩
  | .hbm, ⟨93, _⟩ => ⟨S32x8x128x128, .f32⟩
  | .hbm, ⟨94, _⟩ => ⟨S32x8x512x128, .f32⟩
  | .hbm, ⟨95, _⟩ => ⟨S32x128x8x512, .f32⟩
  | .hbm, ⟨96, _⟩ => ⟨S32x8x512x128, .f32⟩
  | .hbm, ⟨97, _⟩ => ⟨S32x128x8x512, .f32⟩
  | .hbm, ⟨98, _⟩ => ⟨S1x128x8x1, .f32⟩
  | .hbm, ⟨99, _⟩ => ⟨S32x128x8x512, .f32⟩
  | .hbm, ⟨100, _⟩ => ⟨S32x128x8x512, .f32⟩
  | .hbm, ⟨101, _⟩ => ⟨S32x128x8x512, .f32⟩
  | .hbm, ⟨102, _⟩ => ⟨S1x8x1x1, .f32⟩
  | .hbm, ⟨103, _⟩ => ⟨S32x8x256x512, .f32⟩
  | .hbm, ⟨104, _⟩ => ⟨S32x8x256x512, .f32⟩
  | .hbm, ⟨105, _⟩ => ⟨S1x128x8x1, .f32⟩
  | .hbm, ⟨106, _⟩ => ⟨S32x128x8x256, .f32⟩
  | .hbm, ⟨107, _⟩ => ⟨S32x128x8x256, .f32⟩
  | .hbm, ⟨108, _⟩ => ⟨S32x8x256x512, .f32⟩
  | .hbm, ⟨109, _⟩ => ⟨S32x8x256x512, .f32⟩
  | .hbm, ⟨110, _⟩ => ⟨S32x256x8x512, .f32⟩
  | .hbm, ⟨111, _⟩ => ⟨S8192x4096, .f32⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩

abbrev nD : Nat := 1
abbrev τ : Topo := Topo.v7x

variable {F : FTy → Type} [FloatOps F]
-- ==== Kernel2.lean ====
abbrev S32768x2048 : Shape := ⟨2, ![32768, 2048]⟩
abbrev S2048x12288 : Shape := ⟨2, ![2048, 12288]⟩
abbrev S32768x12288 : Shape := ⟨2, ![32768, 12288]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x12288, .bf16⟩
  | .hbm, ⟨2, _⟩ => ⟨S32768x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2048x12288 : Shape := ⟨2, ![2048, 12288]⟩
abbrev S32768x12288 : Shape := ⟨2, ![32768, 12288]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x12288, .bf16⟩
  | .hbm, ⟨2, _⟩ => ⟨S32768x2048, .f32⟩
  | .hbm, ⟨3, _⟩ => ⟨S2048x12288, .f32⟩
  | .hbm, ⟨4, _⟩ => ⟨S32768x12288, .f32⟩
  | .hbm, ⟨5, _⟩ => ⟨S32768x12288, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S32768x2048 : Shape := ⟨2, ![32768, 2048]⟩
abbrev S2048x4608 : Shape := ⟨2, ![2048, 4608]⟩
abbrev S32768x4608 : Shape := ⟨2, ![32768, 4608]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x4608, .bf16⟩
  | .hbm, ⟨2, _⟩ => ⟨S32768x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S2048x4608 : Shape := ⟨2, ![2048, 4608]⟩
abbrev S32768x4608 : Shape := ⟨2, ![32768, 4608]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4608, .bf16⟩
  | .hbm, ⟨2, _⟩ => ⟨S32768x2048, .f32⟩
  | .hbm, ⟨3, _⟩ => ⟨S2048x4608, .f32⟩
  | .hbm, ⟨4, _⟩ => ⟨S32768x4608, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x4096 : Shape := ⟨2, ![32768, 4096]⟩
abbrev S4096x2048 : Shape := ⟨2, ![4096, 2048]⟩
abbrev S32768x2048 : Shape := ⟨2, ![32768, 2048]⟩
abbrev S96x1x2048 : Shape := ⟨3, ![96, 1, 2048]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .bf16⟩
  | .hbm, ⟨2, _⟩ => ⟨S32768x2048, .f32⟩
  | .hbm, ⟨3, _⟩ => ⟨S96x1x2048, .f32⟩
  | .hbm, ⟨4, _⟩ => ⟨S32768x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c2_i32 : BitVec 32 := 2#32
  let v20 : BitVec 32 := Scalar.addi v19 c2_i32
  let c0_i32_5 : BitVec 32 := 0#32
  let c0_i32_6 : BitVec 32 := 0#32
  ![v20.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32768x4096 : Shape := ⟨2, ![32768, 4096]⟩
abbrev S4096x2048 : Shape := ⟨2, ![4096, 2048]⟩
abbrev S32768x2048 : Shape := ⟨2, ![32768, 2048]⟩
abbrev S96x1x2048 : Shape := ⟨3, ![96, 1, 2048]⟩
abbrev S16x6x2048 : Shape := ⟨3, ![16, 6, 2048]⟩
abbrev S8x1x2048 : Shape := ⟨3, ![8, 1, 2048]⟩
abbrev S8x2048 : Shape := ⟨2, ![8, 2048]⟩
abbrev S8x4096x2048 : Shape := ⟨3, ![8, 4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .bf16⟩
  | .hbm, ⟨2, _⟩ => ⟨S32768x2048, .f32⟩
  | .hbm, ⟨3, _⟩ => ⟨S96x1x2048, .f32⟩
  | .hbm, ⟨4, _⟩ => ⟨S16x6x2048, .f32⟩
  | .hbm, ⟨5, _⟩ => ⟨S8x1x2048, .f32⟩
  | .hbm, ⟨6, _⟩ => ⟨S8x2048, .f32⟩
  | .hbm, ⟨7, _⟩ => ⟨S8x1x2048, .f32⟩
  | .hbm, ⟨8, _⟩ => ⟨S32768x4096, .f32⟩
  | .hbm, ⟨9, _⟩ => ⟨S4096x2048, .f32⟩
  | .hbm, ⟨10, _⟩ => ⟨S32768x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S32768x1024 : Shape := ⟨2, ![32768, 1024]⟩
abbrev S1024x2048 : Shape := ⟨2, ![1024, 2048]⟩
abbrev S32768x2048 : Shape := ⟨2, ![32768, 2048]⟩
abbrev S96x1x2048 : Shape := ⟨3, ![96, 1, 2048]⟩
abbrev S1024x1024 : Shape := ⟨2, ![1024, 1024]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .bf16⟩
  | .hbm, ⟨3, _⟩ => ⟨S1024x2048, .bf16⟩
  | .hbm, ⟨4, _⟩ => ⟨S32768x2048, .f32⟩
  | .hbm, ⟨5, _⟩ => ⟨S96x1x2048, .f32⟩
  | .hbm, ⟨6, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c2_i32 : BitVec 32 := 2#32
  let v20 : BitVec 32 := Scalar.addi v19 c2_i32
  let c0_i32_5 : BitVec 32 := 0#32
  let c0_i32_6 : BitVec 32 := 0#32
  ![v20.toNat, c0_i32_5.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S32768x1024 : Shape := ⟨2, ![32768, 1024]⟩
abbrev S1024x2048 : Shape := ⟨2, ![1024, 2048]⟩
abbrev S32768x2048 : Shape := ⟨2, ![32768, 2048]⟩
abbrev S96x1x2048 : Shape := ⟨3, ![96, 1, 2048]⟩
abbrev S16x6x2048 : Shape := ⟨3, ![16, 6, 2048]⟩
abbrev S8x1x2048 : Shape := ⟨3, ![8, 1, 2048]⟩
abbrev S8x2048 : Shape := ⟨2, ![8, 2048]⟩
abbrev S2048x2048 : Shape := ⟨2, ![2048, 2048]⟩
abbrev S8x4096x2048 : Shape := ⟨3, ![8, 4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .bf16⟩
  | .hbm, ⟨3, _⟩ => ⟨S1024x2048, .bf16⟩
  | .hbm, ⟨4, _⟩ => ⟨S32768x2048, .f32⟩
  | .hbm, ⟨5, _⟩ => ⟨S96x1x2048, .f32⟩
  | .hbm, ⟨6, _⟩ => ⟨S16x6x2048, .f32⟩
  | .hbm, ⟨7, _⟩ => ⟨S8x1x2048, .f32⟩
  | .hbm, ⟨8, _⟩ => ⟨S8x2048, .f32⟩
  | .hbm, ⟨9, _⟩ => ⟨S8x1x2048, .f32⟩
  | .hbm, ⟨10, _⟩ => ⟨S32768x2048, .bf16⟩
  | .hbm, ⟨11, _⟩ => ⟨S32768x2048, .f32⟩
  | .hbm, ⟨12, _⟩ => ⟨S2048x2048, .bf16⟩
  | .hbm, ⟨13, _⟩ => ⟨S2048x2048, .f32⟩
  | .hbm, ⟨14, _⟩ => ⟨S32768x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S8192x12288 : Shape := ⟨2, ![8192, 12288]⟩
abbrev S2x8 : Shape := ⟨2, ![2, 8]⟩
abbrev S8192x4096 : Shape := ⟨2, ![8192, 4096]⟩
abbrev S8x512 : Shape := ⟨2, ![8, 512]⟩
abbrev S8x1x512 : Shape := ⟨3, ![8, 1, 512]⟩
abbrev S32x8x256x512 : Shape := ⟨4, ![32, 8, 256, 512]⟩
abbrev S128x256 : Shape := ⟨2, ![128, 256]⟩
abbrev S128x512 : Shape := ⟨2, ![128, 512]⟩
abbrev S1x1x512 : Shape := ⟨3, ![1, 1, 512]⟩
abbrev S1x1x256x512 : Shape := ⟨4, ![1, 1, 256, 512]⟩
abbrev S256x512 : Shape := ⟨2, ![256, 512]⟩
abbrev S1x1 : Shape := ⟨2, ![1, 1]⟩
abbrev S128x128 : Shape := ⟨2, ![128, 128]⟩
abbrev S128x1 : Shape := ⟨2, ![128, 1]⟩
abbrev S128 : Shape := ⟨1, ![128]⟩
abbrev S1x512 : Shape := ⟨2, ![1, 512]⟩

abbrev nBuf : Space → Nat
  | .hbm => 7
  | .vmem => 17
  | .smem => 1
  | _ => 0

abbrev bufTy : (tb : Table) → Fin (tcTables nBuf tb) → BufTy
  | .hbm, ⟨0, _⟩ => ⟨S8192x12288, .bf16⟩
  | .hbm, ⟨1, _⟩ => ⟨S2x8, .f32⟩
  | .hbm, ⟨2, _⟩ => ⟨S8192x4096, .f32⟩
  | .hbm, ⟨3, _⟩ => ⟨S8x512, .f32⟩
  | .hbm, ⟨4, _⟩ => ⟨S8x1x512, .f32⟩
  | .hbm, ⟨5, _⟩ => ⟨S8192x4096, .bf16⟩
  | .hbm, ⟨6, _⟩ => ⟨S32x8x256x512, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S128x512, .bf16⟩
  | .local _ .vmem, ⟨9, _⟩ => ⟨S128x512, .bf16⟩
  | .local _ .vmem, ⟨10, _⟩ => ⟨S1x1x512, .f32⟩
  | .local _ .vmem, ⟨11, _⟩ => ⟨S1x1x512, .f32⟩
  | .local _ .vmem, ⟨12, _⟩ => ⟨S128x512, .bf16⟩
  | .local _ .vmem, ⟨13, _⟩ => ⟨S128x512, .bf16⟩
  | .local _ .vmem, ⟨14, _⟩ => ⟨S1x1x256x512, .f32⟩
  | .local _ .vmem, ⟨15, _⟩ => ⟨S1x1x256x512, .f32⟩
  | .local _ .vmem, ⟨16, _⟩ => ⟨S256x512, .f32⟩
  | .local _ .smem, ⟨0, _⟩ => ⟨S2x8, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![32, 8, 2], ![false, false, false]⟩

def k0_off1 (i : grid0.Coords) : Fin 2 → Nat :=
  let c1 : Index := 1#32
  let arg1 : BitVec 32 := BitVec.ofNat 32 (i 1).val
  let v3 : Index := Scalar.indexCast arg1
  ![1, v3.toNat]
def k0_cond2 (i : grid0.Coords) : BitVec 1 :=
  let arg2 : BitVec 32 := BitVec.ofNat 32 (i 2).val
  let c1_i32 : BitVec 32 := 1#32
  let v98 : BitVec 1 := Scalar.cmpi .eq arg2 c1_i32
  let v99 : BitVec 32 := Scalar.extui v98
  let c0_i32_36 : BitVec 32 := 0#32
  let v100 : BitVec 1 := Scalar.cmpi .ne v99 c0_i32_36
  v100

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c0_i32 : BitVec 32 := 0#32
  let v3 : BitVec 32 := Scalar.addi c0_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c8_i32 : BitVec 32 := 8#32
  let v3 : BitVec 32 := Scalar.addi c8_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c8_i32 : BitVec 32 := 8#32
  let v3 : BitVec 32 := Scalar.addi c8_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c0_i32 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c16_i32 : BitVec 32 := 16#32
  let v3 : BitVec 32 := Scalar.addi c16_i32 arg1
  let c0_i32 : BitVec 32 := 0#32
  ![v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c1_i32 : BitVec 32 := 1#32
  let v1 : BitVec 32 := Scalar.subi c1_i32 arg2
  let v2 : BitVec 32 := Scalar.addi v0 v1
  let c0_i32 : BitVec 32 := 0#32
  ![v2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference6Ideal.lean ====
abbrev S8192x12288 : Shape := ⟨2, ![8192, 12288]⟩
abbrev S2x8 : Shape := ⟨2, ![2, 8]⟩
abbrev S8192x4096 : Shape := ⟨2, ![8192, 4096]⟩
abbrev S8x512 : Shape := ⟨2, ![8, 512]⟩
abbrev S32x256x12288 : Shape := ⟨3, ![32, 256, 12288]⟩
abbrev S32x256x2048 : Shape := ⟨3, ![32, 256, 2048]⟩
abbrev S32x256x4096 : Shape := ⟨3, ![32, 256, 4096]⟩
abbrev S32x256x8x256 : Shape := ⟨4, ![32, 256, 8, 256]⟩
abbrev S_ : Shape := ⟨0, ![]⟩
abbrev S32x256x8x512 : Shape := ⟨4, ![32, 256, 8, 512]⟩
abbrev S32x8x256x512 : Shape := ⟨4, ![32, 8, 256, 512]⟩
abbrev S1x8 : Shape := ⟨2, ![1, 8]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x128x128 : Shape := ⟨3, ![8, 128, 128]⟩
abbrev S8x1x1 : Shape := ⟨3, ![8, 1, 1]⟩
abbrev S1x128x128 : Shape := ⟨3, ![1, 128, 128]⟩
abbrev S128x8 : Shape := ⟨2, ![128, 8]⟩
abbrev S32x128x8x256 : Shape := ⟨4, ![32, 128, 8, 256]⟩
abbrev S32x128x8x512 : Shape := ⟨4, ![32, 128, 8, 512]⟩
abbrev S32x8x128x128 : Shape := ⟨4, ![32, 8, 128, 128]⟩
abbrev S1x8x128x128 : Shape := ⟨4, ![1, 8, 128, 128]⟩
abbrev S32x8x512x128 : Shape := ⟨4, ![32, 8, 512, 128]⟩
abbrev S1x128x8x1 : Shape := ⟨4, ![1, 128, 8, 1]⟩
abbrev S1x8x1x1 : Shape := ⟨4, ![1, 8, 1, 1]⟩
abbrev S32x256x8 : Shape := ⟨3, ![32, 256, 8]⟩
abbrev S32x256x8x1 : Shape := ⟨4, ![32, 256, 8, 1]⟩
abbrev S1x1x8x512 : Shape := ⟨4, ![1, 1, 8, 512]⟩

abbrev nBuf : Space → Nat
  | .hbm => 158
  | .vmem => 0
  | .smem => 0
  | _ => 0

abbrev hbmTy0_0 (i : Nat) : BufTy := match i % 128 with
  | 0 => ⟨S8192x12288, .bf16⟩
  | 1 => ⟨S2x8, .f32⟩
  | 2 => ⟨S8192x4096, .f32⟩
  | 3 => ⟨S8x512, .f32⟩
  | 4 => ⟨S8192x12288, .f32⟩
  | 5 => ⟨S32x256x12288, .f32⟩
  | 6 => ⟨S32x256x2048, .f32⟩
  | 7 => ⟨S32x256x2048, .f32⟩
  | 8 => ⟨S32x256x4096, .f32⟩
  | 9 => ⟨S32x256x4096, .f32⟩
  | 10 => ⟨S32x256x8x256, .f32⟩
  | 11 => ⟨S32x256x8x256, .f32⟩
  | 12 => ⟨S_, .f32⟩
  | 13 => ⟨S32x256x8x256, .f32⟩
  | 14 => ⟨S32x256x8x256, .f32⟩
  | 15 => ⟨S32x256x8x512, .f32⟩
  | 16 => ⟨S2x8, .f32⟩
  | 17 => ⟨S2x8, .f32⟩
  | 18 => ⟨S_, .f32⟩
  | 19 => ⟨S32x8x256x512, .f32⟩
  | 20 => ⟨S32x256x8x256, .f32⟩
  | 21 => ⟨S32x256x8x256, .f32⟩
  | 22 => ⟨S32x256x8x512, .f32⟩
  | 23 => ⟨S1x8, .f32⟩
  | 24 => ⟨S8, .f32⟩
  | 25 => ⟨S128, .f32⟩
  | 26 => ⟨S128x1, .f32⟩
  | 27 => ⟨S1x128, .f32⟩
  | 28 => ⟨S128x128, .f32⟩
  | 29 => ⟨S128x128, .f32⟩
  | 30 => ⟨S128x128, .f32⟩
  | 31 => ⟨S_, .f32⟩
  | 32 => ⟨S128x128, .f32⟩
  | 33 => ⟨S128x128, .i1⟩
  | 34 => ⟨S8x128x128, .i1⟩
  | 35 => ⟨S8x1x1, .f32⟩
  | 36 => ⟨S_, .f32⟩
  | 37 => ⟨S128x128, .f32⟩
  | 38 => ⟨S128x128, .f32⟩
  | 39 => ⟨S1x128x128, .f32⟩
  | 40 => ⟨S8x128x128, .f32⟩
  | 41 => ⟨S8x128x128, .f32⟩
  | 42 => ⟨S8x128x128, .f32⟩
  | 43 => ⟨S8x128x128, .f32⟩
  | 44 => ⟨S_, .f32⟩
  | 45 => ⟨S8x128x128, .f32⟩
  | 46 => ⟨S8x128x128, .f32⟩
  | 47 => ⟨S1x8, .f32⟩
  | 48 => ⟨S128x1, .f32⟩
  | 49 => ⟨S_, .f32⟩
  | 50 => ⟨S128x1, .f32⟩
  | 51 => ⟨S128x1, .f32⟩
  | 52 => ⟨S128x8, .f32⟩
  | 53 => ⟨S128x8, .f32⟩
  | 54 => ⟨S128x8, .f32⟩
  | 55 => ⟨S128x8, .f32⟩
  | 56 => ⟨S1x8, .f32⟩
  | 57 => ⟨S128x1, .f32⟩
  | 58 => ⟨S_, .f32⟩
  | 59 => ⟨S128x1, .f32⟩
  | 60 => ⟨S128x1, .f32⟩
  | 61 => ⟨S128x8, .f32⟩
  | 62 => ⟨S128x8, .f32⟩
  | 63 => ⟨S128x8, .f32⟩
  | 64 => ⟨S128x8, .f32⟩
  | 65 => ⟨S_, .f32⟩
  | 66 => ⟨S8, .f32⟩
  | 67 => ⟨S8, .f32⟩
  | 68 => ⟨S8, .f32⟩
  | 69 => ⟨S32x128x8x256, .f32⟩
  | 70 => ⟨S32x128x8x256, .f32⟩
  | 71 => ⟨S32x128x8x512, .f32⟩
  | 72 => ⟨S32x8x128x128, .f32⟩
  | 73 => ⟨S1x8x128x128, .f32⟩
  | 74 => ⟨S32x8x128x128, .f32⟩
  | 75 => ⟨S32x8x128x128, .f32⟩
  | 76 => ⟨S32x8x512x128, .f32⟩
  | 77 => ⟨S32x128x8x512, .f32⟩
  | 78 => ⟨S32x8x512x128, .f32⟩
  | 79 => ⟨S32x128x8x512, .f32⟩
  | 80 => ⟨S1x128x8x1, .f32⟩
  | 81 => ⟨S32x128x8x512, .f32⟩
  | 82 => ⟨S32x128x8x512, .f32⟩
  | 83 => ⟨S32x128x8x512, .f32⟩
  | 84 => ⟨S1x8x1x1, .f32⟩
  | 85 => ⟨S32x8x256x512, .f32⟩
  | 86 => ⟨S32x8x256x512, .f32⟩
  | 87 => ⟨S1x128x8x1, .f32⟩
  | 88 => ⟨S32x128x8x256, .f32⟩
  | 89 => ⟨S32x128x8x256, .f32⟩
  | 90 => ⟨S32x8x256x512, .f32⟩
  | 91 => ⟨S32x8x256x512, .f32⟩
  | 92 => ⟨S32x128x8x256, .f32⟩
  | 93 => ⟨S32x128x8x256, .f32⟩
  | 94 => ⟨S32x128x8x512, .f32⟩
  | 95 => ⟨S32x8x128x128, .f32⟩
  | 96 => ⟨S1x8x128x128, .f32⟩
  | 97 => ⟨S32x8x128x128, .f32⟩
  | 98 => ⟨S32x8x128x128, .f32⟩
  | 99 => ⟨S32x8x512x128, .f32⟩
  | 100 => ⟨S32x128x8x512, .f32⟩
  | 101 => ⟨S32x8x512x128, .f32⟩
  | 102 => ⟨S32x128x8x512, .f32⟩
  | 103 => ⟨S1x128x8x1, .f32⟩
  | 104 => ⟨S32x128x8x512, .f32⟩
  | 105 => ⟨S32x128x8x512, .f32⟩
  | 106 => ⟨S32x128x8x512, .f32⟩
  | 107 => ⟨S1x8x1x1, .f32⟩
  | 108 => ⟨S32x8x256x512, .f32⟩
  | 109 => ⟨S32x8x256x512, .f32⟩
  | 110 => ⟨S1x128x8x1, .f32⟩
  | 111 => ⟨S32x128x8x256, .f32⟩
  | 112 => ⟨S32x128x8x256, .f32⟩
  | 113 => ⟨S32x8x256x512, .f32⟩
  | 114 => ⟨S32x8x256x512, .f32⟩
  | 115 => ⟨S32x256x8x512, .f32⟩
  | 116 => ⟨S32x256x8x512, .f32⟩
  | 117 => ⟨S32x256x8x512, .f32⟩
  | 118 => ⟨S32x256x8x512, .f32⟩
  | 119 => ⟨S_, .f32⟩
  | 120 => ⟨S32x256x8, .f32⟩
  | 121 => ⟨S32x256x8x1, .f32⟩
  | 122 => ⟨S_, .f32⟩
  | 123 => ⟨S32x256x8x1, .f32⟩
  | 124 => ⟨S32x256x8x1, .f32⟩
  | 125 => ⟨S32x256x8x512, .f32⟩
  | 126 => ⟨S32x256x8x512, .f32⟩
  | 127 => ⟨S32x256x8x512, .f32⟩
  | _ => ⟨S8192x12288, .bf16⟩

abbrev hbmTy0_1 (i : Nat) : BufTy := match i % 128 with
  | 0 => ⟨S_, .f32⟩
  | 1 => ⟨S32x256x8, .f32⟩
  | 2 => ⟨S32x256x8x1, .f32⟩
  | 3 => ⟨S_, .f32⟩
  | 4 => ⟨S32x256x8x1, .f32⟩
  | 5 => ⟨S32x256x8x1, .f32⟩
  | 6 => ⟨S32x256x8x512, .f32⟩
  | 7 => ⟨S32x256x8x512, .f32⟩
  | 8 => ⟨S_, .f32⟩
  | 9 => ⟨S32x256x8x1, .f32⟩
  | 10 => ⟨S32x256x8x1, .f32⟩
  | 11 => ⟨S32x256x8x1, .f32⟩
  | 12 => ⟨S32x256x8x512, .f32⟩
  | 13 => ⟨S32x256x8x512, .f32⟩
  | 14 => ⟨S1x1x8x512, .f32⟩
  | 15 => ⟨S32x256x8x512, .f32⟩
  | 16 => ⟨S32x256x8x512, .f32⟩
  | 17 => ⟨S32x256x4096, .f32⟩
  | 18 => ⟨S32x256x4096, .f32⟩
  | 19 => ⟨S32x256x4096, .f32⟩
  | 20 => ⟨S_, .f32⟩
  | 21 => ⟨S32x256x4096, .f32⟩
  | 22 => ⟨S32x256x4096, .f32⟩
  | 23 => ⟨S_, .f32⟩
  | 24 => ⟨S32x256x4096, .f32⟩
  | 25 => ⟨S32x256x4096, .f32⟩
  | 26 => ⟨S32x256x4096, .f32⟩
  | 27 => ⟨S32x256x4096, .f32⟩
  | 28 => ⟨S8192x4096, .f32⟩
  | 29 => ⟨S8192x4096, .bf16⟩
  | _ => ⟨S8192x12288, .bf16⟩

abbrev hbmTy (i : Nat) : BufTy := match i / 128 with
  | 0 => hbmTy0_0 i
  | 1 => hbmTy0_1 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_cst_7 : Ref sig .tc := ⟨.hbm, 119, rfl⟩
abbrev main_v107 : Ref sig .tc := ⟨.hbm, 120, rfl⟩
abbrev main_v108 : Ref sig .tc := ⟨.hbm, 121, rfl⟩
abbrev main_cst_8 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_9 : Ref sig .tc := ⟨.hbm, 128, rfl⟩
abbrev main_v114 : Ref sig .tc := ⟨.hbm, 129, rfl⟩
abbrev main_v115 : Ref sig .tc := ⟨.hbm, 130, rfl⟩
abbrev main_cst_10 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_cst_11 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_call0_v0 : Ref sig .tc := ⟨.hbm, 146, rfl⟩
abbrev main_call0_v1 : Ref sig .tc := ⟨.hbm, 147, rfl⟩
abbrev main_call0_cst : Ref sig .tc := ⟨.hbm, 148, rfl⟩
abbrev main_call0_v2 : Ref sig .tc := ⟨.hbm, 149, rfl⟩
abbrev main_call0_v3 : Ref sig .tc := ⟨.hbm, 150, rfl⟩
abbrev main_call0_cst_0 : Ref sig .tc := ⟨.hbm, 151, rfl⟩
abbrev main_call0_v4 : Ref sig .tc := ⟨.hbm, 152, rfl⟩
abbrev main_call0_v5 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩

abbrev nD : Nat := 1
abbrev τ : Topo := Topo.v7x

variable {F : FTy → Type} [FloatOps F]
-- ==== Kernel7.lean ====
abbrev S8192x4608 : Shape := ⟨2, ![8192, 4608]⟩
abbrev S128 : Shape := ⟨1, ![128]⟩
abbrev S8 : Shape := ⟨1, ![8]⟩
abbrev S1x128 : Shape := ⟨2, ![1, 128]⟩
abbrev S8192x1024 : Shape := ⟨2, ![8192, 1024]⟩
abbrev S8192x256 : Shape := ⟨2, ![8192, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1 : Shape := ⟨1, ![1]⟩
abbrev S1x1 : Shape := ⟨2, ![1, 1]⟩

abbrev nBuf : Space → Nat
  | .hbm => 9
  | .vmem => 14
  | .smem => 1
  | _ => 0

abbrev bufTy : (tb : Table) → Fin (tcTables nBuf tb) → BufTy
  | .hbm, ⟨0, _⟩ => ⟨S8192x4608, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S1x128, .f32⟩
  | .hbm, ⟨5, _⟩ => ⟨S1x128, .f32⟩
  | .hbm, ⟨6, _⟩ => ⟨S8192x1024, .bf16⟩
  | .hbm, ⟨7, _⟩ => ⟨S8192x256, .f32⟩
  | .hbm, ⟨8, _⟩ => ⟨S8192x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .smem, ⟨0, _⟩ => ⟨S8, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 2], ![false, false]⟩

def k0_off1 (i : grid0.Coords) (c0_i32 : BitVec 32) : Fin 1 → Nat :=
  let arg1 : BitVec 32 := BitVec.ofNat 32 (i 1).val
  let c4_i32 : BitVec 32 := 4#32
  let v39 : BitVec 32 := Scalar.muli arg1 c4_i32
  let v40 : BitVec 32 := Scalar.addi v39 c0_i32
  let v41 : Index := Scalar.indexCast v40
  ![v41.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8192x4608 : Shape := ⟨2, ![8192, 4608]⟩
abbrev S128 : Shape := ⟨1, ![128]⟩
abbrev S8 : Shape := ⟨1, ![8]⟩
abbrev S32x256x4608 : Shape := ⟨3, ![32, 256, 4608]⟩
abbrev S32x256x3072 : Shape := ⟨3, ![32, 256, 3072]⟩
abbrev S32x256x1024 : Shape := ⟨3, ![32, 256, 1024]⟩
abbrev S32x256x256 : Shape := ⟨3, ![32, 256, 256]⟩
abbrev S32x256x8x128 : Shape := ⟨4, ![32, 256, 8, 128]⟩
abbrev S_ : Shape := ⟨0, ![]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x2x4x128 : Shape := ⟨5, ![32, 256, 2, 4, 128]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x2x256x256x4 : Shape := ⟨5, ![32, 2, 256, 256, 4]⟩
abbrev S32x2x4x256x256 : Shape := ⟨5, ![32, 2, 4, 256, 256]⟩
abbrev S2x4 : Shape := ⟨2, ![2, 4]⟩
abbrev S1x2x4x1x1 : Shape := ⟨5, ![1, 2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x128x4x256 : Shape := ⟨5, ![32, 2, 128, 4, 256]⟩
abbrev S8192x1024 : Shape := ⟨2, ![8192, 1024]⟩
abbrev S8192x256 : Shape := ⟨2, ![8192, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S32x256x4608, .f32⟩
  | .hbm, ⟨5, _⟩ => ⟨S32x256x3072, .f32⟩
  | .hbm, ⟨6, _⟩ => ⟨S32x256x1024, .f32⟩
  | .hbm, ⟨7, _⟩ => ⟨S32x256x256, .f32⟩
  | .hbm, ⟨8, _⟩ => ⟨S32x256x256, .f32⟩
  | .hbm, ⟨9, _⟩ => ⟨S32x256x8x128, .f32⟩
  | .hbm, ⟨10, _⟩ => ⟨S32x256x8x128, .f32⟩
  | .hbm, ⟨11, _⟩ => ⟨S_, .f32⟩
  | .hbm, ⟨12, _⟩ => ⟨S32x256x8, .f32⟩
  | .hbm, ⟨13, _⟩ => ⟨S32x256x8x1, .f32⟩
  | .hbm, ⟨14, _⟩ => ⟨S_, .f32⟩
  | .hbm, ⟨15, _⟩ => ⟨S32x256x8x1, .f32⟩
  | .hbm, ⟨16, _⟩ => ⟨S32x256x8x1, .f32⟩
  | .hbm, ⟨17, _⟩ => ⟨S_, .f32⟩
  | .hbm, ⟨18, _⟩ => ⟨S32x256x8x1, .f32⟩
  | .hbm, ⟨19, _⟩ => ⟨S32x256x8x1, .f32⟩
  | .hbm, ⟨20, _⟩ => ⟨S32x256x8x1, .f32⟩
  | .hbm, ⟨21, _⟩ => ⟨S32x256x8x128, .f32⟩
  | .hbm, ⟨22, _⟩ => ⟨S32x256x8x128, .f32⟩
  | .hbm, ⟨23, _⟩ => ⟨S1x1x1x128, .f32⟩
  | .hbm, ⟨24, _⟩ => ⟨S32x256x8x128, .f32⟩
  | .hbm, ⟨25, _⟩ => ⟨S32x256x8x128, .f32⟩
  | .hbm, ⟨26, _⟩ => ⟨S32x256x2x4x128, .f32⟩
  | .hbm, ⟨27, _⟩ => ⟨S32x256x2x128, .f32⟩
  | .hbm, ⟨28, _⟩ => ⟨S32x256x2x128, .f32⟩
  | .hbm, ⟨29, _⟩ => ⟨S_, .f32⟩
  | .hbm, ⟨30, _⟩ => ⟨S32x256x2, .f32⟩
  | .hbm, ⟨31, _⟩ => ⟨S32x256x2x1, .f32⟩
  | .hbm, ⟨32, _⟩ => ⟨S_, .f32⟩
  | .hbm, ⟨33, _⟩ => ⟨S32x256x2x1, .f32⟩
  | .hbm, ⟨34, _⟩ => ⟨S32x256x2x1, .f32⟩
  | .hbm, ⟨35, _⟩ => ⟨S_, .f32⟩
  | .hbm, ⟨36, _⟩ => ⟨S32x256x2x1, .f32⟩
  | .hbm, ⟨37, _⟩ => ⟨S32x256x2x1, .f32⟩
  | .hbm, ⟨38, _⟩ => ⟨S32x256x2x1, .f32⟩
  | .hbm, ⟨39, _⟩ => ⟨S32x256x2x128, .f32⟩
  | .hbm, ⟨40, _⟩ => ⟨S32x256x2x128, .f32⟩
  | .hbm, ⟨41, _⟩ => ⟨S1x1x1x128, .f32⟩
  | .hbm, ⟨42, _⟩ => ⟨S32x256x2x128, .f32⟩
  | .hbm, ⟨43, _⟩ => ⟨S32x256x2x128, .f32⟩
  | .hbm, ⟨44, _⟩ => ⟨S32x256x2x128, .f32⟩
  | .hbm, ⟨45, _⟩ => ⟨S32x2x256x256x4, .f32⟩
  | .hbm, ⟨46, _⟩ => ⟨S32x2x4x256x256, .f32⟩
  | .hbm, ⟨47, _⟩ => ⟨S_, .f32⟩
  | .hbm, ⟨48, _⟩ => ⟨S32x2x4x256x256, .f32⟩
  | .hbm, ⟨49, _⟩ => ⟨S32x2x4x256x256, .f32⟩
  | .hbm, ⟨50, _⟩ => ⟨S2x4, .f32⟩
  | .hbm, ⟨51, _⟩ => ⟨S1x2x4x1x1, .f32⟩
  | .hbm, ⟨52, _⟩ => ⟨S32x2x4x256x1, .f32⟩
  | .hbm, ⟨53, _⟩ => ⟨S32x2x4x256x257, .f32⟩
  | .hbm, ⟨54, _⟩ => ⟨S_, .f32⟩
  | .hbm, ⟨55, _⟩ => ⟨S32x2x4x256, .f32⟩
  | .hbm, ⟨56, _⟩ => ⟨S32x2x4x256x1, .f32⟩
  | .hbm, ⟨57, _⟩ => ⟨S32x2x4x256x257, .f32⟩
  | .hbm, ⟨58, _⟩ => ⟨S32x2x4x256x257, .f32⟩
  | .hbm, ⟨59, _⟩ => ⟨S32x2x4x256x257, .f32⟩
  | .hbm, ⟨60, _⟩ => ⟨S_, .f32⟩
  | .hbm, ⟨61, _⟩ => ⟨S32x2x4x256, .f32⟩
  | .hbm, ⟨62, _⟩ => ⟨S32x2x4x256x1, .f32⟩
  | .hbm, ⟨63, _⟩ => ⟨S_, .f32⟩
  | .hbm, ⟨64, _⟩ => ⟨S32x2x4x256x1, .f32⟩
  | .hbm, ⟨65, _⟩ => ⟨S32x2x4x256x1, .f32⟩
  | .hbm, ⟨66, _⟩ => ⟨S32x2x4x256x257, .f32⟩
  | .hbm, ⟨67, _⟩ => ⟨S32x2x4x256x257, .f32⟩
  | .hbm, ⟨68, _⟩ => ⟨S32x2x4x256x256, .f32⟩
  | .hbm, ⟨69, _⟩ => ⟨S32x2x128x4x256, .f32⟩
  | .hbm, ⟨70, _⟩ => ⟨S32x256x2x4x128, .f32⟩
  | .hbm, ⟨71, _⟩ => ⟨S8192x1024, .f32⟩
  | .hbm, ⟨72, _⟩ => ⟨S8192x1024, .bf16⟩
  | .hbm, ⟨73, _⟩ => ⟨S8192x256, .f32⟩
  | .hbm, ⟨74, _⟩ => ⟨S8192x256, .f32⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel8.lean ====
abbrev S16x5120 : Shape := ⟨2, ![16, 5120]⟩
abbrev S8192x2048 : Shape := ⟨2, ![8192, 2048]⟩
abbrev S32768x2048 : Shape := ⟨2, ![32768, 2048]⟩
abbrev S16x2048x2048 : Shape := ⟨3, ![16, 2048, 2048]⟩
abbrev S160x1x512 : Shape := ⟨3, ![160, 1, 512]⟩
abbrev S16x5120x2048 : Shape := ⟨3, ![16, 5120, 2048]⟩
abbrev S1x1x512 : Shape := ⟨3, ![1, 1, 512]⟩
abbrev S1x2048x512 : Shape := ⟨3, ![1, 2048, 512]⟩
abbrev S1x512x2048 : Shape := ⟨3, ![1, 512, 2048]⟩
abbrev S512x2048 : Shape := ⟨2, ![512, 2048]⟩
abbrev S_ : Shape := ⟨0, ![]⟩
abbrev S1x1x1 : Shape := ⟨3, ![1, 1, 1]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 8
  | .vmem => 11
  | .smem => 2
  | _ => 0

abbrev bufTy : (tb : Table) → Fin (tcTables nBuf tb) → BufTy
  | .hbm, ⟨0, _⟩ => ⟨S16x5120, .i32⟩
  | .hbm, ⟨1, _⟩ => ⟨S8192x2048, .f32⟩
  | .hbm, ⟨2, _⟩ => ⟨S32768x2048, .f32⟩
  | .hbm, ⟨3, _⟩ => ⟨S16x2048x2048, .bf16⟩
  | .hbm, ⟨4, _⟩ => ⟨S16x2048x2048, .bf16⟩
  | .hbm, ⟨5, _⟩ => ⟨S16x2048x2048, .bf16⟩
  | .hbm, ⟨6, _⟩ => ⟨S160x1x512, .i32⟩
  | .hbm, ⟨7, _⟩ => ⟨S16x5120x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | .local _ .smem, ⟨0, _⟩ => ⟨S1x1x512, .i32⟩
  | .local _ .smem, ⟨1, _⟩ => ⟨S1x1x512, .i32⟩
  | _, _ => ⟨S16x5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 10, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg1 : BitVec 32 := BitVec.ofNat 32 (i 1).val
  let c2_i32 : BitVec 32 := 2#32
  let v1 : BitVec 1 := Scalar.cmpi .slt arg1 c2_i32
  let v2 : BitVec 1 := Scalar.andi v0 v1
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_23 : BitVec 32 := 0#32
  let c512_i32 : BitVec 32 := 512#32
  let v36 : BitVec 32 := Scalar.addi c0_i32_23 c512_i32
  let c1_i32 : BitVec 32 := 1#32
  ⟨c0_i32_23, v36, c1_i32⟩
def k0_off1 (k0_t1 : Fin k0_t1_loop.trips) : Fin 3 → Nat :=
  let c0_28 : Index := 0#32
  let c0_29 : Index := 0#32
  let c0_i32_23 : BitVec 32 := 0#32
  let c1_i32 : BitVec 32 := 1#32
  let arg15 : BitVec 32 := Scf.iv c0_i32_23 c1_i32 k0_t1
  let v38 : Index := Scalar.indexCast arg15
  ![0, 0, v38.toNat]
def k0_off2 (k0_t1 : Fin k0_t1_loop.trips) : Fin 2 → Nat :=
  let c0_i32_23 : BitVec 32 := 0#32
  let c1_i32 : BitVec 32 := 1#32
  let arg15 : BitVec 32 := Scf.iv c0_i32_23 c1_i32 k0_t1
  let c0_i32_30 : BitVec 32 := 0#32
  ![arg15.toNat, 0]
def k0_off3 (v39 : BitVec 32) : Fin 2 → Nat :=
  let c0_i32_31 : BitVec 32 := 0#32
  ![v39.toNat, 0]

def k0_chk1 (i : grid0.Coords) (v39 : BitVec 32) : Prop :=
  (∀ (k0_h1 : k0_cond1 i = 1#1), ∀ a, (k0_off3 v39) a + S1x2048.size a ≤ S8192x2048.size a)
theorem k0_off3_inb : ∀ (i : grid0.Coords) (v39 : BitVec 32) (k0_hw1 : k0_chk1 i v39), ∀ (k0_h1 : k0_cond1 i = 1#1), ∀ a, (k0_off3 v39) a + S1x2048.size a ≤ S8192x2048.size a := fun i v39 k0_hw1 k0_h1 => k0_hw1 k0_h1

@[reducible] def k0_t2_loop : Scf.Loop 32 :=
  let c0_i32_25 : BitVec 32 := 0#32
  let c512_i32_26 : BitVec 32 := 512#32
  let v37 : BitVec 32 := Scalar.addi c0_i32_25 c512_i32_26
  let c1_i32_27 : BitVec 32 := 1#32
  ⟨c0_i32_25, v37, c1_i32_27⟩
def k0_cond2 (i : grid0.Coords) : BitVec 1 :=
  let arg2 : BitVec 32 := BitVec.ofNat 32 (i 2).val
  let c0_i32_1 : BitVec 32 := 0#32
  let v5 : BitVec 1 := Scalar.cmpi .eq arg2 c0_i32_1
  let arg1 : BitVec 32 := BitVec.ofNat 32 (i 1).val
  let c2_i32_2 : BitVec 32 := 2#32
  let v6 : BitVec 1 := Scalar.cmpi .sge arg1 c2_i32_2
  let v7 : BitVec 1 := Scalar.andi v5 v6
  let v8 : BitVec 32 := Scalar.extui v7
  let c0_i32_3 : BitVec 32 := 0#32
  let v9 : BitVec 1 := Scalar.cmpi .ne v8 c0_i32_3
  v9

@[reducible] def k0_t3_loop : Scf.Loop 32 :=
  let c0_i32_23 : BitVec 32 := 0#32
  let c512_i32 : BitVec 32 := 512#32
  let v36 : BitVec 32 := Scalar.addi c0_i32_23 c512_i32
  let c1_i32 : BitVec 32 := 1#32
  ⟨c0_i32_23, v36, c1_i32⟩
def k0_off4 (k0_t3 : Fin k0_t3_loop.trips) : Fin 3 → Nat :=
  let c0_28 : Index := 0#32
  let c0_29 : Index := 0#32
  let c0_i32_23 : BitVec 32 := 0#32
  let c1_i32 : BitVec 32 := 1#32
  let arg15 : BitVec 32 := Scf.iv c0_i32_23 c1_i32 k0_t3
  let v38 : Index := Scalar.indexCast arg15
  ![0, 0, v38.toNat]
def k0_off5 (k0_t3 : Fin k0_t3_loop.trips) : Fin 2 → Nat :=
  let c0_i32_23 : BitVec 32 := 0#32
  let c1_i32 : BitVec 32 := 1#32
  let arg15 : BitVec 32 := Scf.iv c0_i32_23 c1_i32 k0_t3
  let c0_i32_30 : BitVec 32 := 0#32
  ![arg15.toNat, 0]
def k0_off6 (v39 : BitVec 32) : Fin 2 → Nat :=
  let c0_i32_31 : BitVec 32 := 0#32
  ![v39.toNat, 0]

def k0_chk2 (i : grid0.Coords) (v39 : BitVec 32) : Prop :=
  (∀ (k0_h2 : k0_cond2 i = 1#1), ∀ a, (k0_off6 v39) a + S1x2048.size a ≤ S32768x2048.size a)
theorem k0_off6_inb : ∀ (i : grid0.Coords) (v39 : BitVec 32) (k0_hw2 : k0_chk2 i v39), ∀ (k0_h2 : k0_cond2 i = 1#1), ∀ a, (k0_off6 v39) a + S1x2048.size a ≤ S32768x2048.size a := fun i v39 k0_hw2 k0_h2 => k0_hw2 k0_h2

@[reducible] def k0_t4_loop : Scf.Loop 32 :=
  let c0_i32_25 : BitVec 32 := 0#32
  let c512_i32_26 : BitVec 32 := 512#32
  let v37 : BitVec 32 := Scalar.addi c0_i32_25 c512_i32_26
  let c1_i32_27 : BitVec 32 := 1#32
  ⟨c0_i32_25, v37, c1_i32_27⟩
def k0_cond6 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_22 : BitVec 32 := 0#32
  let v35 : BitVec 1 := Scalar.cmpi .ne v34 c0_i32_22
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S16x5120 : Shape := ⟨2, ![16, 5120]⟩
abbrev S8192x2048 : Shape := ⟨2, ![8192, 2048]⟩
abbrev S32768x2048 : Shape := ⟨2, ![32768, 2048]⟩
abbrev S16x2048x2048 : Shape := ⟨3, ![16, 2048, 2048]⟩
abbrev S16x1024 : Shape := ⟨2, ![16, 1024]⟩
abbrev S_ : Shape := ⟨0, ![]⟩
abbrev S16x1024x1 : Shape := ⟨3, ![16, 1024, 1]⟩
abbrev S16x1024x2048 : Shape := ⟨3, ![16, 1024, 2048]⟩
abbrev S16x4096 : Shape := ⟨2, ![16, 4096]⟩
abbrev S16x4096x1 : Shape := ⟨3, ![16, 4096, 1]⟩
abbrev S16x4096x2048 : Shape := ⟨3, ![16, 4096, 2048]⟩
abbrev S16x5120x2048 : Shape := ⟨3, ![16, 5120, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x5120, .i32⟩
  | .hbm, ⟨1, _⟩ => ⟨S8192x2048, .f32⟩
  | .hbm, ⟨2, _⟩ => ⟨S32768x2048, .f32⟩
  | .hbm, ⟨3, _⟩ => ⟨S16x2048x2048, .bf16⟩
  | .hbm, ⟨4, _⟩ => ⟨S16x2048x2048, .bf16⟩
  | .hbm, ⟨5, _⟩ => ⟨S16x2048x2048, .bf16⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x1024, .i32⟩
  | .hbm, ⟨10, _⟩ => ⟨S_, .i32⟩
  | .hbm, ⟨11, _⟩ => ⟨S16x1024, .i32⟩
  | .hbm, ⟨12, _⟩ => ⟨S16x1024, .i1⟩
  | .hbm, ⟨13, _⟩ => ⟨S_, .i32⟩
  | .hbm, ⟨14, _⟩ => ⟨S16x1024, .i32⟩
  | .hbm, ⟨15, _⟩ => ⟨S16x1024, .i32⟩
  | .hbm, ⟨16, _⟩ => ⟨S16x1024, .i32⟩
  | .hbm, ⟨17, _⟩ => ⟨S16x1024x1, .i32⟩
  | .hbm, ⟨18, _⟩ => ⟨S16x1024x2048, .f32⟩
  | .hbm, ⟨19, _⟩ => ⟨S16x4096, .i32⟩
  | .hbm, ⟨20, _⟩ => ⟨S_, .i32⟩
  | .hbm, ⟨21, _⟩ => ⟨S16x4096, .i32⟩
  | .hbm, ⟨22, _⟩ => ⟨S16x4096, .i1⟩
  | .hbm, ⟨23, _⟩ => ⟨S_, .i32⟩
  | .hbm, ⟨24, _⟩ => ⟨S16x4096, .i32⟩
  | .hbm, ⟨25, _⟩ => ⟨S16x4096, .i32⟩
  | .hbm, ⟨26, _⟩ => ⟨S16x4096, .i32⟩
  | .hbm, ⟨27, _⟩ => ⟨S16x4096x1, .i32⟩
  | .hbm, ⟨28, _⟩ => ⟨S16x4096x2048, .f32⟩
  | .hbm, ⟨29, _⟩ => ⟨S16x5120x2048, .f32⟩
  | .hbm, ⟨30, _⟩ => ⟨S16x5120x2048, .f32⟩
  | .hbm, ⟨31, _⟩ => ⟨S16x5120x2048, .f32⟩
  | .hbm, ⟨32, _⟩ => ⟨S16x5120x2048, .f32⟩
  | .hbm, ⟨33, _⟩ => ⟨S16x5120x2048, .f32⟩
  | .hbm, ⟨34, _⟩ => ⟨S_, .f32⟩
  | .hbm, ⟨35, _⟩ => ⟨S16x5120x2048, .f32⟩
  | .hbm, ⟨36, _⟩ => ⟨S16x5120x2048, .f32⟩
  | .hbm, ⟨37, _⟩ => ⟨S_, .f32⟩
  | .hbm, ⟨38, _⟩ => ⟨S16x5120x2048, .f32⟩
  | .hbm, ⟨39, _⟩ => ⟨S16x5120x2048, .f32⟩
  | .hbm, ⟨40, _⟩ => ⟨S16x5120x2048, .f32⟩
  | .hbm, ⟨41, _⟩ => ⟨S16x5120x2048, .f32⟩
  | .hbm, ⟨42, _⟩ => ⟨S16x5120x2048, .f32⟩
  | .hbm, ⟨43, _⟩ => ⟨S16x5120x2048, .bf16⟩
  | _, _ => ⟨S16x5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel9.lean ====
abbrev S32x16x32 : Shape := ⟨3, ![32, 16, 32]⟩
abbrev S16x5120x2048 : Shape := ⟨3, ![16, 5120, 2048]⟩
abbrev S8192x2048 : Shape := ⟨2, ![8192, 2048]⟩
abbrev S96x1x2048 : Shape := ⟨3, ![96, 1, 2048]⟩
abbrev S512x1x32 : Shape := ⟨3, ![512, 1, 32]⟩
abbrev S1x1x32 : Shape := ⟨3, ![1, 1, 32]⟩
abbrev S1x32x2048 : Shape := ⟨3, ![1, 32, 2048]⟩
abbrev S256x2048 : Shape := ⟨2, ![256, 2048]⟩
abbrev S1x1x2048 : Shape := ⟨3, ![1, 1, 2048]⟩
abbrev S1x16x2048 : Shape := ⟨3, ![1, 16, 2048]⟩
abbrev S16x2048 : Shape := ⟨2, ![16, 2048]⟩
abbrev S1x1x1 : Shape := ⟨3, ![1, 1, 1]⟩
abbrev S1x2048 : Shape := ⟨2, ![1, 2048]⟩

abbrev nBuf : Space → Nat
  | .hbm => 8
  | .vmem => 7
  | .smem => 4
  | _ => 0

abbrev bufTy : (tb : Table) → Fin (tcTables nBuf tb) → BufTy
  | .hbm, ⟨0, _⟩ => ⟨S32x16x32, .i32⟩
  | .hbm, ⟨1, _⟩ => ⟨S32x16x32, .f32⟩
  | .hbm, ⟨2, _⟩ => ⟨S16x5120x2048, .bf16⟩
  | .hbm, ⟨3, _⟩ => ⟨S8192x2048, .f32⟩
  | .hbm, ⟨4, _⟩ => ⟨S96x1x2048, .f32⟩
  | .hbm, ⟨5, _⟩ => ⟨S512x1x32, .i32⟩
  | .hbm, ⟨6, _⟩ => ⟨S512x1x32, .f32⟩
  | .hbm, ⟨7, _⟩ => ⟨S8192x2048, .f32⟩
  | .local _ .vmem, ⟨0, _⟩ => ⟨S1x32x2048, .bf16⟩
  | .local _ .vmem, ⟨1, _⟩ => ⟨S1x32x2048, .bf16⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S256x2048, .f32⟩
  | .local _ .vmem, ⟨6, _⟩ => ⟨S256x2048, .f32⟩
  | .local _ .smem, ⟨0, _⟩ => ⟨S1x1x32, .i32⟩
  | .local _ .smem, ⟨1, _⟩ => ⟨S1x1x32, .i32⟩
  | .local _ .smem, ⟨2, _⟩ => ⟨S1x1x32, .f32⟩
  | .local _ .smem, ⟨3, _⟩ => ⟨S1x1x32, .f32⟩
  | _, _ => ⟨S32x16x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![32, 1, 16], ![false, false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  v7
def k0_off1 (k0_t1 : Fin k0_t1_loop.trips) : Fin 3 → Nat :=
  let c0 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v9 : Index := Scalar.indexCast v8
  let c0_4 : Index := 0#32
  ![0, v9.toNat, 0]
def k0_off2 (k0_t1 : Fin k0_t1_loop.trips) : Fin 3 → Nat :=
  let c0_6 : Index := 0#32
  let c0_7 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let c0_i32_5 : BitVec 32 := 0#32
  let v13 : BitVec 32 := Scalar.addi v8 c0_i32_5
  let v14 : Index := Scalar.indexCast v13
  ![0, 0, v14.toNat]
def k0_off3 (v15 : BitVec 32) : Fin 2 → Nat :=
  let v16 : Index := Scalar.indexCast v15
  let c0_8 : Index := 0#32
  ![v16.toNat, 0]

def k0_chk1 (v15 : BitVec 32) : Prop :=
  (∀ a, (k0_off3 v15) a + S1x2048.size a ≤ S256x2048.size a)
theorem k0_off3_inb : ∀ (v15 : BitVec 32) (k0_hw1 : k0_chk1 v15), ∀ a, (k0_off3 v15) a + S1x2048.size a ≤ S256x2048.size a := fun v15 k0_hw1 => k0_hw1

def k0_off4 (k0_t1 : Fin k0_t1_loop.trips) (c0_i32_9 : BitVec 32) : Fin 3 → Nat :=
  let c0_10 : Index := 0#32
  let c0_11 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v19 : BitVec 32 := Scalar.addi v8 c0_i32_9
  let v20 : Index := Scalar.indexCast v19
  ![0, 0, v20.toNat]
def k0_off5 (v30 : BitVec 32) : Fin 2 → Nat :=
  let v31 : Index := Scalar.indexCast v30
  let c0_16 : Index := 0#32
  ![v31.toNat, 0]

def k0_chk2 (v30 : BitVec 32) : Prop :=
  (∀ a, (k0_off5 v30) a + S1x2048.size a ≤ S256x2048.size a)
theorem k0_off5_inb : ∀ (v30 : BitVec 32) (k0_hw2 : k0_chk2 v30), ∀ a, (k0_off5 v30) a + S1x2048.size a ≤ S256x2048.size a := fun v30 k0_hw2 => k0_hw2

def k0_off6 (k0_t1 : Fin k0_t1_loop.trips) (c1_i32_17 : BitVec 32) : Fin 3 → Nat :=
  let c0_18 : Index := 0#32
  let c0_19 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v34 : BitVec 32 := Scalar.addi v8 c1_i32_17
  let v35 : Index := Scalar.indexCast v34
  ![0, 0, v35.toNat]
def k0_off7 (v45 : BitVec 32) : Fin 2 → Nat :=
  let v46 : Index := Scalar.indexCast v45
  let c0_24 : Index := 0#32
  ![v46.toNat, 0]

def k0_chk3 (v45 : BitVec 32) : Prop :=
  (∀ a, (k0_off7 v45) a + S1x2048.size a ≤ S256x2048.size a)
theorem k0_off7_inb : ∀ (v45 : BitVec 32) (k0_hw3 : k0_chk3 v45), ∀ a, (k0_off7 v45) a + S1x2048.size a ≤ S256x2048.size a := fun v45 k0_hw3 => k0_hw3

def k0_off8 (k0_t1 : Fin k0_t1_loop.trips) (c2_i32_25 : BitVec 32) : Fin 3 → Nat :=
  let c0_26 : Index := 0#32
  let c0_27 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v49 : BitVec 32 := Scalar.addi v8 c2_i32_25
  let v50 : Index := Scalar.indexCast v49
  ![0, 0, v50.toNat]
def k0_off9 (v60 : BitVec 32) : Fin 2 → Nat :=
  let v61 : Index := Scalar.indexCast v60
  let c0_31 : Index := 0#32
  ![v61.toNat, 0]

def k0_chk4 (v60 : BitVec 32) : Prop :=
  (∀ a, (k0_off9 v60) a + S1x2048.size a ≤ S256x2048.size a)
theorem k0_off9_inb : ∀ (v60 : BitVec 32) (k0_hw4 : k0_chk4 v60), ∀ a, (k0_off9 v60) a + S1x2048.size a ≤ S256x2048.size a := fun v60 k0_hw4 => k0_hw4

def k0_off10 (k0_t1 : Fin k0_t1_loop.trips) (c3_i32_32 : BitVec 32) : Fin 3 → Nat :=
  let c0_33 : Index := 0#32
  let c0_34 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v64 : BitVec 32 := Scalar.addi v8 c3_i32_32
  let v65 : Index := Scalar.indexCast v64
  ![0, 0, v65.toNat]
def k0_off11 (v75 : BitVec 32) : Fin 2 → Nat :=
  let v76 : Index := Scalar.indexCast v75
  let c0_38 : Index := 0#32
  ![v76.toNat, 0]

def k0_chk5 (v75 : BitVec 32) : Prop :=
  (∀ a, (k0_off11 v75) a + S1x2048.size a ≤ S256x2048.size a)
theorem k0_off11_inb : ∀ (v75 : BitVec 32) (k0_hw5 : k0_chk5 v75), ∀ a, (k0_off11 v75) a + S1x2048.size a ≤ S256x2048.size a := fun v75 k0_hw5 => k0_hw5

def k0_off12 (k0_t1 : Fin k0_t1_loop.trips) (c4_i32_39 : BitVec 32) : Fin 3 → Nat :=
  let c0_40 : Index := 0#32
  let c0_41 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v79 : BitVec 32 := Scalar.addi v8 c4_i32_39
  let v80 : Index := Scalar.indexCast v79
  ![0, 0, v80.toNat]
def k0_off13 (v90 : BitVec 32) : Fin 2 → Nat :=
  let v91 : Index := Scalar.indexCast v90
  let c0_45 : Index := 0#32
  ![v91.toNat, 0]

def k0_chk6 (v90 : BitVec 32) : Prop :=
  (∀ a, (k0_off13 v90) a + S1x2048.size a ≤ S256x2048.size a)
theorem k0_off13_inb : ∀ (v90 : BitVec 32) (k0_hw6 : k0_chk6 v90), ∀ a, (k0_off13 v90) a + S1x2048.size a ≤ S256x2048.size a := fun v90 k0_hw6 => k0_hw6

def k0_off14 (k0_t1 : Fin k0_t1_loop.trips) (c5_i32_46 : BitVec 32) : Fin 3 → Nat :=
  let c0_47 : Index := 0#32
  let c0_48 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v94 : BitVec 32 := Scalar.addi v8 c5_i32_46
  let v95 : Index := Scalar.indexCast v94
  ![0, 0, v95.toNat]
def k0_off15 (v105 : BitVec 32) : Fin 2 → Nat :=
  let v106 : Index := Scalar.indexCast v105
  let c0_52 : Index := 0#32
  ![v106.toNat, 0]

def k0_chk7 (v105 : BitVec 32) : Prop :=
  (∀ a, (k0_off15 v105) a + S1x2048.size a ≤ S256x2048.size a)
theorem k0_off15_inb : ∀ (v105 : BitVec 32) (k0_hw7 : k0_chk7 v105), ∀ a, (k0_off15 v105) a + S1x2048.size a ≤ S256x2048.size a := fun v105 k0_hw7 => k0_hw7

def k0_off16 (k0_t1 : Fin k0_t1_loop.trips) (c6_i32_53 : BitVec 32) : Fin 3 → Nat :=
  let c0_54 : Index := 0#32
  let c0_55 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v109 : BitVec 32 := Scalar.addi v8 c6_i32_53
  let v110 : Index := Scalar.indexCast v109
  ![0, 0, v110.toNat]
def k0_off17 (v120 : BitVec 32) : Fin 2 → Nat :=
  let v121 : Index := Scalar.indexCast v120
  let c0_59 : Index := 0#32
  ![v121.toNat, 0]

def k0_chk8 (v120 : BitVec 32) : Prop :=
  (∀ a, (k0_off17 v120) a + S1x2048.size a ≤ S256x2048.size a)
theorem k0_off17_inb : ∀ (v120 : BitVec 32) (k0_hw8 : k0_chk8 v120), ∀ a, (k0_off17 v120) a + S1x2048.size a ≤ S256x2048.size a := fun v120 k0_hw8 => k0_hw8

def k0_off18 (k0_t1 : Fin k0_t1_loop.trips) (c7_i32_60 : BitVec 32) : Fin 3 → Nat :=
  let c0_61 : Index := 0#32
  let c0_62 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v124 : BitVec 32 := Scalar.addi v8 c7_i32_60
  let v125 : Index := Scalar.indexCast v124
  ![0, 0, v125.toNat]
def k0_off19 (v135 : BitVec 32) : Fin 2 → Nat :=
  let v136 : Index := Scalar.indexCast v135
  let c0_66 : Index := 0#32
  ![v136.toNat, 0]

def k0_chk9 (v135 : BitVec 32) : Prop :=
  (∀ a, (k0_off19 v135) a + S1x2048.size a ≤ S256x2048.size a)
theorem k0_off19_inb : ∀ (v135 : BitVec 32) (k0_hw9 : k0_chk9 v135), ∀ a, (k0_off19 v135) a + S1x2048.size a ≤ S256x2048.size a := fun v135 k0_hw9 => k0_hw9

def k0_off20 (k0_t1 : Fin k0_t1_loop.trips) (c8_i32_67 : BitVec 32) : Fin 3 → Nat :=
  let c0_68 : Index := 0#32
  let c0_69 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v139 : BitVec 32 := Scalar.addi v8 c8_i32_67
  let v140 : Index := Scalar.indexCast v139
  ![0, 0, v140.toNat]
def k0_off21 (v150 : BitVec 32) : Fin 2 → Nat :=
  let v151 : Index := Scalar.indexCast v150
  let c0_73 : Index := 0#32
  ![v151.toNat, 0]

def k0_chk10 (v150 : BitVec 32) : Prop :=
  (∀ a, (k0_off21 v150) a + S1x2048.size a ≤ S256x2048.size a)
theorem k0_off21_inb : ∀ (v150 : BitVec 32) (k0_hw10 : k0_chk10 v150), ∀ a, (k0_off21 v150) a + S1x2048.size a ≤ S256x2048.size a := fun v150 k0_hw10 => k0_hw10

def k0_off22 (k0_t1 : Fin k0_t1_loop.trips) (c9_i32_74 : BitVec 32) : Fin 3 → Nat :=
  let c0_75 : Index := 0#32
  let c0_76 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v154 : BitVec 32 := Scalar.addi v8 c9_i32_74
  let v155 : Index := Scalar.indexCast v154
  ![0, 0, v155.toNat]
def k0_off23 (v165 : BitVec 32) : Fin 2 → Nat :=
  let v166 : Index := Scalar.indexCast v165
  let c0_80 : Index := 0#32
  ![v166.toNat, 0]

def k0_chk11 (v165 : BitVec 32) : Prop :=
  (∀ a, (k0_off23 v165) a + S1x2048.size a ≤ S256x2048.size a)
theorem k0_off23_inb : ∀ (v165 : BitVec 32) (k0_hw11 : k0_chk11 v165), ∀ a, (k0_off23 v165) a + S1x2048.size a ≤ S256x2048.size a := fun v165 k0_hw11 => k0_hw11

def k0_off24 (k0_t1 : Fin k0_t1_loop.trips) (c10_i32_81 : BitVec 32) : Fin 3 → Nat :=
  let c0_82 : Index := 0#32
  let c0_83 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v169 : BitVec 32 := Scalar.addi v8 c10_i32_81
  let v170 : Index := Scalar.indexCast v169
  ![0, 0, v170.toNat]
def k0_off25 (v180 : BitVec 32) : Fin 2 → Nat :=
  let v181 : Index := Scalar.indexCast v180
  let c0_87 : Index := 0#32
  ![v181.toNat, 0]

def k0_chk12 (v180 : BitVec 32) : Prop :=
  (∀ a, (k0_off25 v180) a + S1x2048.size a ≤ S256x2048.size a)
theorem k0_off25_inb : ∀ (v180 : BitVec 32) (k0_hw12 : k0_chk12 v180), ∀ a, (k0_off25 v180) a + S1x2048.size a ≤ S256x2048.size a := fun v180 k0_hw12 => k0_hw12

def k0_off26 (k0_t1 : Fin k0_t1_loop.trips) (c11_i32_88 : BitVec 32) : Fin 3 → Nat :=
  let c0_89 : Index := 0#32
  let c0_90 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v184 : BitVec 32 := Scalar.addi v8 c11_i32_88
  let v185 : Index := Scalar.indexCast v184
  ![0, 0, v185.toNat]
def k0_off27 (v195 : BitVec 32) : Fin 2 → Nat :=
  let v196 : Index := Scalar.indexCast v195
  let c0_94 : Index := 0#32
  ![v196.toNat, 0]

def k0_chk13 (v195 : BitVec 32) : Prop :=
  (∀ a, (k0_off27 v195) a + S1x2048.size a ≤ S256x2048.size a)
theorem k0_off27_inb : ∀ (v195 : BitVec 32) (k0_hw13 : k0_chk13 v195), ∀ a, (k0_off27 v195) a + S1x2048.size a ≤ S256x2048.size a := fun v195 k0_hw13 => k0_hw13

def k0_off28 (k0_t1 : Fin k0_t1_loop.trips) (c12_i32_95 : BitVec 32) : Fin 3 → Nat :=
  let c0_96 : Index := 0#32
  let c0_97 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v199 : BitVec 32 := Scalar.addi v8 c12_i32_95
  let v200 : Index := Scalar.indexCast v199
  ![0, 0, v200.toNat]
def k0_off29 (v210 : BitVec 32) : Fin 2 → Nat :=
  let v211 : Index := Scalar.indexCast v210
  let c0_101 : Index := 0#32
  ![v211.toNat, 0]

def k0_chk14 (v210 : BitVec 32) : Prop :=
  (∀ a, (k0_off29 v210) a + S1x2048.size a ≤ S256x2048.size a)
theorem k0_off29_inb : ∀ (v210 : BitVec 32) (k0_hw14 : k0_chk14 v210), ∀ a, (k0_off29 v210) a + S1x2048.size a ≤ S256x2048.size a := fun v210 k0_hw14 => k0_hw14

def k0_off30 (k0_t1 : Fin k0_t1_loop.trips) (c13_i32_102 : BitVec 32) : Fin 3 → Nat :=
  let c0_103 : Index := 0#32
  let c0_104 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v214 : BitVec 32 := Scalar.addi v8 c13_i32_102
  let v215 : Index := Scalar.indexCast v214
  ![0, 0, v215.toNat]
def k0_off31 (v225 : BitVec 32) : Fin 2 → Nat :=
  let v226 : Index := Scalar.indexCast v225
  let c0_108 : Index := 0#32
  ![v226.toNat, 0]

def k0_chk15 (v225 : BitVec 32) : Prop :=
  (∀ a, (k0_off31 v225) a + S1x2048.size a ≤ S256x2048.size a)
theorem k0_off31_inb : ∀ (v225 : BitVec 32) (k0_hw15 : k0_chk15 v225), ∀ a, (k0_off31 v225) a + S1x2048.size a ≤ S256x2048.size a := fun v225 k0_hw15 => k0_hw15

def k0_off32 (k0_t1 : Fin k0_t1_loop.trips) (c14_i32_109 : BitVec 32) : Fin 3 → Nat :=
  let c0_110 : Index := 0#32
  let c0_111 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v229 : BitVec 32 := Scalar.addi v8 c14_i32_109
  let v230 : Index := Scalar.indexCast v229
  ![0, 0, v230.toNat]
def k0_off33 (v240 : BitVec 32) : Fin 2 → Nat :=
  let v241 : Index := Scalar.indexCast v240
  let c0_116 : Index := 0#32
  ![v241.toNat, 0]

def k0_chk16 (v240 : BitVec 32) : Prop :=
  (∀ a, (k0_off33 v240) a + S1x2048.size a ≤ S256x2048.size a)
theorem k0_off33_inb : ∀ (v240 : BitVec 32) (k0_hw16 : k0_chk16 v240), ∀ a, (k0_off33 v240) a + S1x2048.size a ≤ S256x2048.size a := fun v240 k0_hw16 => k0_hw16

def k0_off34 (k0_t1 : Fin k0_t1_loop.trips) : Fin 3 → Nat :=
  let c0_118 : Index := 0#32
  let c0_119 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let c15_i32_117 : BitVec 32 := 15#32
  let v244 : BitVec 32 := Scalar.addi v8 c15_i32_117
  let v245 : Index := Scalar.indexCast v244
  ![0, 0, v245.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  ![c5_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .smem S1x1x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .smem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S32x16x32 : Shape := ⟨3, ![32, 16, 32]⟩
abbrev S16x5120x2048 : Shape := ⟨3, ![16, 5120, 2048]⟩
abbrev S8192x2048 : Shape := ⟨2, ![8192, 2048]⟩
abbrev S96x1x2048 : Shape := ⟨3, ![96, 1, 2048]⟩
abbrev S16x6x2048 : Shape := ⟨3, ![16, 6, 2048]⟩
abbrev S1x1x2048 : Shape := ⟨3, ![1, 1, 2048]⟩
abbrev S2048 : Shape := ⟨1, ![2048]⟩
abbrev S16x1024x2048 : Shape := ⟨3, ![16, 1024, 2048]⟩
abbrev S16x32x32x2048 : Shape := ⟨4, ![16, 32, 32, 2048]⟩
abbrev S16x32x32 : Shape := ⟨3, ![16, 32, 32]⟩
abbrev S16x32x32x1 : Shape := ⟨4, ![16, 32, 32, 1]⟩
abbrev S32x1x16x32 : Shape := ⟨4, ![32, 1, 16, 32]⟩
abbrev S256 : Shape := ⟨1, ![256]⟩
abbrev S1x256x1x1 : Shape := ⟨4, ![1, 256, 1, 1]⟩
abbrev S32x256x16x32 : Shape := ⟨4, ![32, 256, 16, 32]⟩
abbrev S32x256x2048 : Shape := ⟨3, ![32, 256, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32x16x32, .i32⟩
  | .hbm, ⟨1, _⟩ => ⟨S32x16x32, .f32⟩
  | .hbm, ⟨2, _⟩ => ⟨S16x5120x2048, .bf16⟩
  | .hbm, ⟨3, _⟩ => ⟨S8192x2048, .f32⟩
  | .hbm, ⟨4, _⟩ => ⟨S96x1x2048, .f32⟩
  | .hbm, ⟨5, _⟩ => ⟨S16x6x2048, .f32⟩
  | .hbm, ⟨6, _⟩ => ⟨S1x1x2048, .f32⟩
  | .hbm, ⟨7, _⟩ => ⟨S2048, .f32⟩
  | .hbm, ⟨8, _⟩ => ⟨S16x5120x2048, .f32⟩
  | .hbm, ⟨9, _⟩ => ⟨S16x1024x2048, .f32⟩
  | .hbm, ⟨10, _⟩ => ⟨S16x32x32x2048, .f32⟩
  | .hbm, ⟨11, _⟩ => ⟨S16x32x32, .f32⟩
  | .hbm, ⟨12, _⟩ => ⟨S16x32x32x1, .f32⟩
  | .hbm, ⟨13, _⟩ => ⟨S16x32x32x2048, .f32⟩
  | .hbm, ⟨14, _⟩ => ⟨S16x32x32x2048, .f32⟩
  | .hbm, ⟨15, _⟩ => ⟨S32x1x16x32, .i32⟩
  | .hbm, ⟨16, _⟩ => ⟨S256, .i32⟩
  | .hbm, ⟨17, _⟩ => ⟨S1x256x1x1, .i32⟩
  | .hbm, ⟨18, _⟩ => ⟨S32x256x16x32, .i32⟩
  | .hbm, ⟨19, _⟩ => ⟨S32x256x16x32, .i32⟩
  | .hbm, ⟨20, _⟩ => ⟨S32x256x16x32, .i1⟩
  | .hbm, ⟨21, _⟩ => ⟨S32x256x16x32, .f32⟩
  | .hbm, ⟨22, _⟩ => ⟨S32x256x2048, .f32⟩
  | .hbm, ⟨23, _⟩ => ⟨S32x256x2048, .f32⟩
  | .hbm, ⟨24, _⟩ => ⟨S1x1x2048, .f32⟩
  | .hbm, ⟨25, _⟩ => ⟨S32x256x2048, .f32⟩
  | .hbm, ⟨26, _⟩ => ⟨S32x256x2048, .f32⟩
  | .hbm, ⟨27, _⟩ => ⟨S32x256x2048, .f32⟩
  | .hbm, ⟨28, _⟩ => ⟨S8192x2048, .f32⟩
  | _, _ => ⟨S32x16x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel10.lean ====
abbrev S8x16x512 : Shape := ⟨3, ![8, 16, 512]⟩
abbrev S16x5120x2048 : Shape := ⟨3, ![16, 5120, 2048]⟩
abbrev S32768x2048 : Shape := ⟨2, ![32768, 2048]⟩
abbrev S96x1x2048 : Shape := ⟨3, ![96, 1, 2048]⟩
abbrev S128x1x512 : Shape := ⟨3, ![128, 1, 512]⟩
abbrev S1x1x512 : Shape := ⟨3, ![1, 1, 512]⟩
abbrev S1x512x1024 : Shape := ⟨3, ![1, 512, 1024]⟩
abbrev S4096x1024 : Shape := ⟨2, ![4096, 1024]⟩
abbrev S1x1x1024 : Shape := ⟨3, ![1, 1, 1024]⟩
abbrev S1x16x1024 : Shape := ⟨3, ![1, 16, 1024]⟩
abbrev S16x1024 : Shape := ⟨2, ![16, 1024]⟩
abbrev S1x1x1 : Shape := ⟨3, ![1, 1, 1]⟩
abbrev S1x1024 : Shape := ⟨2, ![1, 1024]⟩

abbrev nBuf : Space → Nat
  | .hbm => 8
  | .vmem => 6
  | .smem => 4
  | _ => 0

abbrev bufTy : (tb : Table) → Fin (tcTables nBuf tb) → BufTy
  | .hbm, ⟨0, _⟩ => ⟨S8x16x512, .i32⟩
  | .hbm, ⟨1, _⟩ => ⟨S8x16x512, .f32⟩
  | .hbm, ⟨2, _⟩ => ⟨S16x5120x2048, .bf16⟩
  | .hbm, ⟨3, _⟩ => ⟨S32768x2048, .f32⟩
  | .hbm, ⟨4, _⟩ => ⟨S96x1x2048, .f32⟩
  | .hbm, ⟨5, _⟩ => ⟨S128x1x512, .i32⟩
  | .hbm, ⟨6, _⟩ => ⟨S128x1x512, .f32⟩
  | .hbm, ⟨7, _⟩ => ⟨S32768x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S4096x1024, .f32⟩
  | .local _ .smem, ⟨0, _⟩ => ⟨S1x1x512, .i32⟩
  | .local _ .smem, ⟨1, _⟩ => ⟨S1x1x512, .i32⟩
  | .local _ .smem, ⟨2, _⟩ => ⟨S1x1x512, .f32⟩
  | .local _ .smem, ⟨3, _⟩ => ⟨S1x1x512, .f32⟩
  | _, _ => ⟨S8x16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![8, 2, 16], ![false, false, false]⟩

@[reducible] def k0_t1_loop : Scf.Loop 32 :=
  let c0_i32_1 : BitVec 32 := 0#32
  let c32_i32 : BitVec 32 := 32#32
  let v3 : BitVec 32 := Scalar.addi c0_i32_1 c32_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  v7
def k0_off1 (k0_t1 : Fin k0_t1_loop.trips) : Fin 3 → Nat :=
  let c0 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v9 : Index := Scalar.indexCast v8
  let c0_4 : Index := 0#32
  ![0, v9.toNat, 0]
def k0_off2 (k0_t1 : Fin k0_t1_loop.trips) : Fin 3 → Nat :=
  let c0_6 : Index := 0#32
  let c0_7 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let c0_i32_5 : BitVec 32 := 0#32
  let v13 : BitVec 32 := Scalar.addi v8 c0_i32_5
  let v14 : Index := Scalar.indexCast v13
  ![0, 0, v14.toNat]
def k0_off3 (v15 : BitVec 32) : Fin 2 → Nat :=
  let v16 : Index := Scalar.indexCast v15
  let c0_8 : Index := 0#32
  ![v16.toNat, 0]

def k0_chk1 (v15 : BitVec 32) : Prop :=
  (∀ a, (k0_off3 v15) a + S1x1024.size a ≤ S4096x1024.size a)
theorem k0_off3_inb : ∀ (v15 : BitVec 32) (k0_hw1 : k0_chk1 v15), ∀ a, (k0_off3 v15) a + S1x1024.size a ≤ S4096x1024.size a := fun v15 k0_hw1 => k0_hw1

def k0_off4 (k0_t1 : Fin k0_t1_loop.trips) (c0_i32_9 : BitVec 32) : Fin 3 → Nat :=
  let c0_10 : Index := 0#32
  let c0_11 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v19 : BitVec 32 := Scalar.addi v8 c0_i32_9
  let v20 : Index := Scalar.indexCast v19
  ![0, 0, v20.toNat]
def k0_off5 (v30 : BitVec 32) : Fin 2 → Nat :=
  let v31 : Index := Scalar.indexCast v30
  let c0_16 : Index := 0#32
  ![v31.toNat, 0]

def k0_chk2 (v30 : BitVec 32) : Prop :=
  (∀ a, (k0_off5 v30) a + S1x1024.size a ≤ S4096x1024.size a)
theorem k0_off5_inb : ∀ (v30 : BitVec 32) (k0_hw2 : k0_chk2 v30), ∀ a, (k0_off5 v30) a + S1x1024.size a ≤ S4096x1024.size a := fun v30 k0_hw2 => k0_hw2

def k0_off6 (k0_t1 : Fin k0_t1_loop.trips) (c1_i32_17 : BitVec 32) : Fin 3 → Nat :=
  let c0_18 : Index := 0#32
  let c0_19 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v34 : BitVec 32 := Scalar.addi v8 c1_i32_17
  let v35 : Index := Scalar.indexCast v34
  ![0, 0, v35.toNat]
def k0_off7 (v45 : BitVec 32) : Fin 2 → Nat :=
  let v46 : Index := Scalar.indexCast v45
  let c0_23 : Index := 0#32
  ![v46.toNat, 0]

def k0_chk3 (v45 : BitVec 32) : Prop :=
  (∀ a, (k0_off7 v45) a + S1x1024.size a ≤ S4096x1024.size a)
theorem k0_off7_inb : ∀ (v45 : BitVec 32) (k0_hw3 : k0_chk3 v45), ∀ a, (k0_off7 v45) a + S1x1024.size a ≤ S4096x1024.size a := fun v45 k0_hw3 => k0_hw3

def k0_off8 (k0_t1 : Fin k0_t1_loop.trips) (c2_i32_24 : BitVec 32) : Fin 3 → Nat :=
  let c0_25 : Index := 0#32
  let c0_26 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v49 : BitVec 32 := Scalar.addi v8 c2_i32_24
  let v50 : Index := Scalar.indexCast v49
  ![0, 0, v50.toNat]
def k0_off9 (v60 : BitVec 32) : Fin 2 → Nat :=
  let v61 : Index := Scalar.indexCast v60
  let c0_30 : Index := 0#32
  ![v61.toNat, 0]

def k0_chk4 (v60 : BitVec 32) : Prop :=
  (∀ a, (k0_off9 v60) a + S1x1024.size a ≤ S4096x1024.size a)
theorem k0_off9_inb : ∀ (v60 : BitVec 32) (k0_hw4 : k0_chk4 v60), ∀ a, (k0_off9 v60) a + S1x1024.size a ≤ S4096x1024.size a := fun v60 k0_hw4 => k0_hw4

def k0_off10 (k0_t1 : Fin k0_t1_loop.trips) (c3_i32_31 : BitVec 32) : Fin 3 → Nat :=
  let c0_32 : Index := 0#32
  let c0_33 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v64 : BitVec 32 := Scalar.addi v8 c3_i32_31
  let v65 : Index := Scalar.indexCast v64
  ![0, 0, v65.toNat]
def k0_off11 (v75 : BitVec 32) : Fin 2 → Nat :=
  let v76 : Index := Scalar.indexCast v75
  let c0_37 : Index := 0#32
  ![v76.toNat, 0]

def k0_chk5 (v75 : BitVec 32) : Prop :=
  (∀ a, (k0_off11 v75) a + S1x1024.size a ≤ S4096x1024.size a)
theorem k0_off11_inb : ∀ (v75 : BitVec 32) (k0_hw5 : k0_chk5 v75), ∀ a, (k0_off11 v75) a + S1x1024.size a ≤ S4096x1024.size a := fun v75 k0_hw5 => k0_hw5

def k0_off12 (k0_t1 : Fin k0_t1_loop.trips) (c4_i32_38 : BitVec 32) : Fin 3 → Nat :=
  let c0_39 : Index := 0#32
  let c0_40 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v79 : BitVec 32 := Scalar.addi v8 c4_i32_38
  let v80 : Index := Scalar.indexCast v79
  ![0, 0, v80.toNat]
def k0_off13 (v90 : BitVec 32) : Fin 2 → Nat :=
  let v91 : Index := Scalar.indexCast v90
  let c0_44 : Index := 0#32
  ![v91.toNat, 0]

def k0_chk6 (v90 : BitVec 32) : Prop :=
  (∀ a, (k0_off13 v90) a + S1x1024.size a ≤ S4096x1024.size a)
theorem k0_off13_inb : ∀ (v90 : BitVec 32) (k0_hw6 : k0_chk6 v90), ∀ a, (k0_off13 v90) a + S1x1024.size a ≤ S4096x1024.size a := fun v90 k0_hw6 => k0_hw6

def k0_off14 (k0_t1 : Fin k0_t1_loop.trips) (c5_i32_45 : BitVec 32) : Fin 3 → Nat :=
  let c0_46 : Index := 0#32
  let c0_47 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v94 : BitVec 32 := Scalar.addi v8 c5_i32_45
  let v95 : Index := Scalar.indexCast v94
  ![0, 0, v95.toNat]
def k0_off15 (v105 : BitVec 32) : Fin 2 → Nat :=
  let v106 : Index := Scalar.indexCast v105
  let c0_51 : Index := 0#32
  ![v106.toNat, 0]

def k0_chk7 (v105 : BitVec 32) : Prop :=
  (∀ a, (k0_off15 v105) a + S1x1024.size a ≤ S4096x1024.size a)
theorem k0_off15_inb : ∀ (v105 : BitVec 32) (k0_hw7 : k0_chk7 v105), ∀ a, (k0_off15 v105) a + S1x1024.size a ≤ S4096x1024.size a := fun v105 k0_hw7 => k0_hw7

def k0_off16 (k0_t1 : Fin k0_t1_loop.trips) (c6_i32_52 : BitVec 32) : Fin 3 → Nat :=
  let c0_53 : Index := 0#32
  let c0_54 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v109 : BitVec 32 := Scalar.addi v8 c6_i32_52
  let v110 : Index := Scalar.indexCast v109
  ![0, 0, v110.toNat]
def k0_off17 (v120 : BitVec 32) : Fin 2 → Nat :=
  let v121 : Index := Scalar.indexCast v120
  let c0_58 : Index := 0#32
  ![v121.toNat, 0]

def k0_chk8 (v120 : BitVec 32) : Prop :=
  (∀ a, (k0_off17 v120) a + S1x1024.size a ≤ S4096x1024.size a)
theorem k0_off17_inb : ∀ (v120 : BitVec 32) (k0_hw8 : k0_chk8 v120), ∀ a, (k0_off17 v120) a + S1x1024.size a ≤ S4096x1024.size a := fun v120 k0_hw8 => k0_hw8

def k0_off18 (k0_t1 : Fin k0_t1_loop.trips) (c7_i32_59 : BitVec 32) : Fin 3 → Nat :=
  let c0_60 : Index := 0#32
  let c0_61 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v124 : BitVec 32 := Scalar.addi v8 c7_i32_59
  let v125 : Index := Scalar.indexCast v124
  ![0, 0, v125.toNat]
def k0_off19 (v135 : BitVec 32) : Fin 2 → Nat :=
  let v136 : Index := Scalar.indexCast v135
  let c0_65 : Index := 0#32
  ![v136.toNat, 0]

def k0_chk9 (v135 : BitVec 32) : Prop :=
  (∀ a, (k0_off19 v135) a + S1x1024.size a ≤ S4096x1024.size a)
theorem k0_off19_inb : ∀ (v135 : BitVec 32) (k0_hw9 : k0_chk9 v135), ∀ a, (k0_off19 v135) a + S1x1024.size a ≤ S4096x1024.size a := fun v135 k0_hw9 => k0_hw9

def k0_off20 (k0_t1 : Fin k0_t1_loop.trips) (c8_i32_66 : BitVec 32) : Fin 3 → Nat :=
  let c0_67 : Index := 0#32
  let c0_68 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v139 : BitVec 32 := Scalar.addi v8 c8_i32_66
  let v140 : Index := Scalar.indexCast v139
  ![0, 0, v140.toNat]
def k0_off21 (v150 : BitVec 32) : Fin 2 → Nat :=
  let v151 : Index := Scalar.indexCast v150
  let c0_72 : Index := 0#32
  ![v151.toNat, 0]

def k0_chk10 (v150 : BitVec 32) : Prop :=
  (∀ a, (k0_off21 v150) a + S1x1024.size a ≤ S4096x1024.size a)
theorem k0_off21_inb : ∀ (v150 : BitVec 32) (k0_hw10 : k0_chk10 v150), ∀ a, (k0_off21 v150) a + S1x1024.size a ≤ S4096x1024.size a := fun v150 k0_hw10 => k0_hw10

def k0_off22 (k0_t1 : Fin k0_t1_loop.trips) (c9_i32_73 : BitVec 32) : Fin 3 → Nat :=
  let c0_74 : Index := 0#32
  let c0_75 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v154 : BitVec 32 := Scalar.addi v8 c9_i32_73
  let v155 : Index := Scalar.indexCast v154
  ![0, 0, v155.toNat]
def k0_off23 (v165 : BitVec 32) : Fin 2 → Nat :=
  let v166 : Index := Scalar.indexCast v165
  let c0_79 : Index := 0#32
  ![v166.toNat, 0]

def k0_chk11 (v165 : BitVec 32) : Prop :=
  (∀ a, (k0_off23 v165) a + S1x1024.size a ≤ S4096x1024.size a)
theorem k0_off23_inb : ∀ (v165 : BitVec 32) (k0_hw11 : k0_chk11 v165), ∀ a, (k0_off23 v165) a + S1x1024.size a ≤ S4096x1024.size a := fun v165 k0_hw11 => k0_hw11

def k0_off24 (k0_t1 : Fin k0_t1_loop.trips) (c10_i32_80 : BitVec 32) : Fin 3 → Nat :=
  let c0_81 : Index := 0#32
  let c0_82 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v169 : BitVec 32 := Scalar.addi v8 c10_i32_80
  let v170 : Index := Scalar.indexCast v169
  ![0, 0, v170.toNat]
def k0_off25 (v180 : BitVec 32) : Fin 2 → Nat :=
  let v181 : Index := Scalar.indexCast v180
  let c0_86 : Index := 0#32
  ![v181.toNat, 0]

def k0_chk12 (v180 : BitVec 32) : Prop :=
  (∀ a, (k0_off25 v180) a + S1x1024.size a ≤ S4096x1024.size a)
theorem k0_off25_inb : ∀ (v180 : BitVec 32) (k0_hw12 : k0_chk12 v180), ∀ a, (k0_off25 v180) a + S1x1024.size a ≤ S4096x1024.size a := fun v180 k0_hw12 => k0_hw12

def k0_off26 (k0_t1 : Fin k0_t1_loop.trips) (c11_i32_87 : BitVec 32) : Fin 3 → Nat :=
  let c0_88 : Index := 0#32
  let c0_89 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v184 : BitVec 32 := Scalar.addi v8 c11_i32_87
  let v185 : Index := Scalar.indexCast v184
  ![0, 0, v185.toNat]
def k0_off27 (v195 : BitVec 32) : Fin 2 → Nat :=
  let v196 : Index := Scalar.indexCast v195
  let c0_93 : Index := 0#32
  ![v196.toNat, 0]

def k0_chk13 (v195 : BitVec 32) : Prop :=
  (∀ a, (k0_off27 v195) a + S1x1024.size a ≤ S4096x1024.size a)
theorem k0_off27_inb : ∀ (v195 : BitVec 32) (k0_hw13 : k0_chk13 v195), ∀ a, (k0_off27 v195) a + S1x1024.size a ≤ S4096x1024.size a := fun v195 k0_hw13 => k0_hw13

def k0_off28 (k0_t1 : Fin k0_t1_loop.trips) (c12_i32_94 : BitVec 32) : Fin 3 → Nat :=
  let c0_95 : Index := 0#32
  let c0_96 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v199 : BitVec 32 := Scalar.addi v8 c12_i32_94
  let v200 : Index := Scalar.indexCast v199
  ![0, 0, v200.toNat]
def k0_off29 (v210 : BitVec 32) : Fin 2 → Nat :=
  let v211 : Index := Scalar.indexCast v210
  let c0_100 : Index := 0#32
  ![v211.toNat, 0]

def k0_chk14 (v210 : BitVec 32) : Prop :=
  (∀ a, (k0_off29 v210) a + S1x1024.size a ≤ S4096x1024.size a)
theorem k0_off29_inb : ∀ (v210 : BitVec 32) (k0_hw14 : k0_chk14 v210), ∀ a, (k0_off29 v210) a + S1x1024.size a ≤ S4096x1024.size a := fun v210 k0_hw14 => k0_hw14

def k0_off30 (k0_t1 : Fin k0_t1_loop.trips) (c13_i32_101 : BitVec 32) : Fin 3 → Nat :=
  let c0_102 : Index := 0#32
  let c0_103 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v214 : BitVec 32 := Scalar.addi v8 c13_i32_101
  let v215 : Index := Scalar.indexCast v214
  ![0, 0, v215.toNat]
def k0_off31 (v225 : BitVec 32) : Fin 2 → Nat :=
  let v226 : Index := Scalar.indexCast v225
  let c0_107 : Index := 0#32
  ![v226.toNat, 0]

def k0_chk15 (v225 : BitVec 32) : Prop :=
  (∀ a, (k0_off31 v225) a + S1x1024.size a ≤ S4096x1024.size a)
theorem k0_off31_inb : ∀ (v225 : BitVec 32) (k0_hw15 : k0_chk15 v225), ∀ a, (k0_off31 v225) a + S1x1024.size a ≤ S4096x1024.size a := fun v225 k0_hw15 => k0_hw15

def k0_off32 (k0_t1 : Fin k0_t1_loop.trips) (c14_i32_108 : BitVec 32) : Fin 3 → Nat :=
  let c0_109 : Index := 0#32
  let c0_110 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let v229 : BitVec 32 := Scalar.addi v8 c14_i32_108
  let v230 : Index := Scalar.indexCast v229
  ![0, 0, v230.toNat]
def k0_off33 (v240 : BitVec 32) : Fin 2 → Nat :=
  let v241 : Index := Scalar.indexCast v240
  let c0_115 : Index := 0#32
  ![v241.toNat, 0]

def k0_chk16 (v240 : BitVec 32) : Prop :=
  (∀ a, (k0_off33 v240) a + S1x1024.size a ≤ S4096x1024.size a)
theorem k0_off33_inb : ∀ (v240 : BitVec 32) (k0_hw16 : k0_chk16 v240), ∀ a, (k0_off33 v240) a + S1x1024.size a ≤ S4096x1024.size a := fun v240 k0_hw16 => k0_hw16

def k0_off34 (k0_t1 : Fin k0_t1_loop.trips) : Fin 3 → Nat :=
  let c0_117 : Index := 0#32
  let c0_118 : Index := 0#32
  let c0_i32_1 : BitVec 32 := 0#32
  let c1_i32 : BitVec 32 := 1#32
  let arg9 : BitVec 32 := Scf.iv c0_i32_1 c1_i32 k0_t1
  let c16_i32 : BitVec 32 := 16#32
  let v7 : BitVec 32 := Scalar.muli arg9 c16_i32
  let v8 : BitVec 32 := v7
  let c15_i32_116 : BitVec 32 := 15#32
  let v244 : BitVec 32 := Scalar.addi v8 c15_i32_116
  let v245 : Index := Scalar.indexCast v244
  ![0, 0, v245.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg2.toNat, v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c6_i32 : BitVec 32 := 6#32
  let v1 : BitVec 32 := Scalar.muli v0 c6_i32
  let c5_i32 : BitVec 32 := 5#32
  let v2 : BitVec 32 := Scalar.addi v1 c5_i32
  let c0_i32 : BitVec 32 := 0#32
  let c0_i32_0 : BitVec 32 := 0#32
  ![v2.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .smem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== Reference10Ideal.lean ====
abbrev S8x16x512 : Shape := ⟨3, ![8, 16, 512]⟩
abbrev S16x5120x2048 : Shape := ⟨3, ![16, 5120, 2048]⟩
abbrev S32768x2048 : Shape := ⟨2, ![32768, 2048]⟩
abbrev S96x1x2048 : Shape := ⟨3, ![96, 1, 2048]⟩
abbrev S16x6x2048 : Shape := ⟨3, ![16, 6, 2048]⟩
abbrev S8x1x2048 : Shape := ⟨3, ![8, 1, 2048]⟩
abbrev S8x2048 : Shape := ⟨2, ![8, 2048]⟩
abbrev S16x4096x2048 : Shape := ⟨3, ![16, 4096, 2048]⟩
abbrev S16x8x512x2048 : Shape := ⟨4, ![16, 8, 512, 2048]⟩
abbrev S16x8x512 : Shape := ⟨3, ![16, 8, 512]⟩
abbrev S16x8x512x1 : Shape := ⟨4, ![16, 8, 512, 1]⟩
abbrev S8x1x16x512 : Shape := ⟨4, ![8, 1, 16, 512]⟩
abbrev S4096 : Shape := ⟨1, ![4096]⟩
abbrev S1x4096x1x1 : Shape := ⟨4, ![1, 4096, 1, 1]⟩
abbrev S8x4096x16x512 : Shape := ⟨4, ![8, 4096, 16, 512]⟩
abbrev S8x4096x2048 : Shape := ⟨3, ![8, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x16x512, .i32⟩
  | .hbm, ⟨1, _⟩ => ⟨S8x16x512, .f32⟩
  | .hbm, ⟨2, _⟩ => ⟨S16x5120x2048, .bf16⟩
  | .hbm, ⟨3, _⟩ => ⟨S32768x2048, .f32⟩
  | .hbm, ⟨4, _⟩ => ⟨S96x1x2048, .f32⟩
  | .hbm, ⟨5, _⟩ => ⟨S16x6x2048, .f32⟩
  | .hbm, ⟨6, _⟩ => ⟨S8x1x2048, .f32⟩
  | .hbm, ⟨7, _⟩ => ⟨S8x2048, .f32⟩
  | .hbm, ⟨8, _⟩ => ⟨S8x1x2048, .f32⟩
  | .hbm, ⟨9, _⟩ => ⟨S16x5120x2048, .f32⟩
  | .hbm, ⟨10, _⟩ => ⟨S16x4096x2048, .f32⟩
  | .hbm, ⟨11, _⟩ => ⟨S16x8x512x2048, .f32⟩
  | .hbm, ⟨12, _⟩ => ⟨S16x8x512, .f32⟩
  | .hbm, ⟨13, _⟩ => ⟨S16x8x512x1, .f32⟩
  | .hbm, ⟨14, _⟩ => ⟨S16x8x512x2048, .f32⟩
  | .hbm, ⟨15, _⟩ => ⟨S16x8x512x2048, .f32⟩
  | .hbm, ⟨16, _⟩ => ⟨S8x1x16x512, .i32⟩
  | .hbm, ⟨17, _⟩ => ⟨S4096, .i32⟩
  | .hbm, ⟨18, _⟩ => ⟨S1x4096x1x1, .i32⟩
  | .hbm, ⟨19, _⟩ => ⟨S8x4096x16x512, .i32⟩
  | .hbm, ⟨20, _⟩ => ⟨S8x4096x16x512, .i32⟩
  | .hbm, ⟨21, _⟩ => ⟨S8x4096x16x512, .i1⟩
  | .hbm, ⟨22, _⟩ => ⟨S8x4096x16x512, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S32768x2048, .f32⟩
  | _, _ => ⟨S8x16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel11.lean ====
abbrev S32768x2048 : Shape := ⟨2, ![32768, 2048]⟩
abbrev S1x2048 : Shape := ⟨2, ![1, 2048]⟩
abbrev S96x1x2048 : Shape := ⟨3, ![96, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S96x1x2048, .f32⟩
  | .hbm, ⟨3, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c6_i32 : BitVec 32 := 6#32
  let v19 : BitVec 32 := Scalar.muli v18 c6_i32
  let c0_i32_5 : BitVec 32 := 0#32
  let v20 : BitVec 32 := Scalar.addi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S32768x2048 : Shape := ⟨2, ![32768, 2048]⟩
abbrev S1x2048 : Shape := ⟨2, ![1, 2048]⟩
abbrev S96x1x2048 : Shape := ⟨3, ![96, 1, 2048]⟩
abbrev S16x6x2048 : Shape := ⟨3, ![16, 6, 2048]⟩
abbrev S8x1x2048 : Shape := ⟨3, ![8, 1, 2048]⟩
abbrev S8x2048 : Shape := ⟨2, ![8, 2048]⟩
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S96x1x2048, .f32⟩
  | .hbm, ⟨3, _⟩ => ⟨S16x6x2048, .f32⟩
  | .hbm, ⟨4, _⟩ => ⟨S8x1x2048, .f32⟩
  | .hbm, ⟨5, _⟩ => ⟨S8x2048, .f32⟩
  | .hbm, ⟨6, _⟩ => ⟨S8x1x2048, .f32⟩
  | .hbm, ⟨7, _⟩ => ⟨S16x6x2048, .f32⟩
  | .hbm, ⟨8, _⟩ => ⟨S8x1x2048, .f32⟩
  | .hbm, ⟨9, _⟩ => ⟨S8x2048, .f32⟩
  | .hbm, ⟨10, _⟩ => ⟨S8x1x2048, .f32⟩
  | .hbm, ⟨11, _⟩ => ⟨S8x4096x2048, .f32⟩
  | .hbm, ⟨12, _⟩ => ⟨S2048, .f32⟩
  | .hbm, ⟨13, _⟩ => ⟨S8x4096x2048, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S32768x2048, .f32⟩
  | .hbm, ⟨37, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel12.lean ====
abbrev S1024x1x8192 : Shape := ⟨3, ![1024, 1, 8192]⟩
abbrev S8192x1024 : Shape := ⟨2, ![8192, 1024]⟩
abbrev S1024 : Shape := ⟨1, ![1024]⟩
abbrev S1x1024 : Shape := ⟨2, ![1, 1024]⟩
abbrev S128x1x256 : Shape := ⟨3, ![128, 1, 256]⟩
abbrev S256x128 : Shape := ⟨2, ![256, 128]⟩
abbrev S1x128 : Shape := ⟨2, ![1, 128]⟩
abbrev S128x256 : Shape := ⟨2, ![128, 256]⟩

abbrev nBuf : Space → Nat
  | .hbm => 6
  | .vmem => 10
  | .smem => 0
  | _ => 0

abbrev bufTy : (tb : Table) → Fin (tcTables nBuf tb) → BufTy
  | .hbm, ⟨0, _⟩ => ⟨S1024x1x8192, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .bf16⟩
  | .local _ .vmem, ⟨0, _⟩ => ⟨S128x1x256, .f32⟩
  | .local _ .vmem, ⟨1, _⟩ => ⟨S128x1x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | _, _ => ⟨S1024x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S1024x1x8192 : Shape := ⟨3, ![1024, 1, 8192]⟩
abbrev S8192x1024 : Shape := ⟨2, ![8192, 1024]⟩
abbrev S1024 : Shape := ⟨1, ![1024]⟩
abbrev S1024x1x32x256 : Shape := ⟨4, ![1024, 1, 32, 256]⟩
abbrev S32x1x256x1024 : Shape := ⟨4, ![32, 1, 256, 1024]⟩
abbrev S32x256x1024 : Shape := ⟨3, ![32, 256, 1024]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x1x8192, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1x32x256, .f32⟩
  | .hbm, ⟨5, _⟩ => ⟨S32x1x256x1024, .f32⟩
  | .hbm, ⟨6, _⟩ => ⟨S32x256x1024, .f32⟩
  | .hbm, ⟨7, _⟩ => ⟨S32x256x1024, .f32⟩
  | .hbm, ⟨8, _⟩ => ⟨S32x256x1024, .f32⟩
  | .hbm, ⟨9, _⟩ => ⟨S1x1x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S8192x1024, .f32⟩
  | .hbm, ⟨15, _⟩ => ⟨S8192x1024, .bf16⟩
  | _, _ => ⟨S1024x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel13.lean ====
abbrev S8192x4608 : Shape := ⟨2, ![8192, 4608]⟩
abbrev S3x3072 : Shape := ⟨2, ![3, 3072]⟩
abbrev S3072 : Shape := ⟨1, ![3072]⟩
abbrev S1x3072 : Shape := ⟨2, ![1, 3072]⟩
abbrev S8192x1024 : Shape := ⟨2, ![8192, 1024]⟩
abbrev S1024x1x8192 : Shape := ⟨3, ![1024, 1, 8192]⟩
abbrev S256x128 : Shape := ⟨2, ![256, 128]⟩
abbrev S3x128 : Shape := ⟨2, ![3, 128]⟩
abbrev S1x128 : Shape := ⟨2, ![1, 128]⟩
abbrev S128x1x256 : Shape := ⟨3, ![128, 1, 256]⟩
abbrev S128x256 : Shape := ⟨2, ![128, 256]⟩

abbrev nBuf : Space → Nat
  | .hbm => 7
  | .vmem => 24
  | .smem => 0
  | _ => 0

abbrev bufTy : (tb : Table) → Fin (tcTables nBuf tb) → BufTy
  | .hbm, ⟨0, _⟩ => ⟨S8192x4608, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S8192x1024, .f32⟩
  | .hbm, ⟨5, _⟩ => ⟨S8192x1024, .f32⟩
  | .hbm, ⟨6, _⟩ => ⟨S1024x1x8192, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S128x1x256, .f32⟩
  | .local _ .vmem, ⟨23, _⟩ => ⟨S128x1x256, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference13Ideal.lean ====
abbrev S8192x4608 : Shape := ⟨2, ![8192, 4608]⟩
abbrev S3x3072 : Shape := ⟨2, ![3, 3072]⟩
abbrev S3072 : Shape := ⟨1, ![3072]⟩
abbrev S32x256x4608 : Shape := ⟨3, ![32, 256, 4608]⟩
abbrev S32x256x3072 : Shape := ⟨3, ![32, 256, 3072]⟩
abbrev S_ : Shape := ⟨0, ![]⟩
abbrev S32x258x3072 : Shape := ⟨3, ![32, 258, 3072]⟩
abbrev S1x3072 : Shape := ⟨2, ![1, 3072]⟩
abbrev S1x1x3072 : Shape := ⟨3, ![1, 1, 3072]⟩
abbrev S32x256x1024 : Shape := ⟨3, ![32, 256, 1024]⟩
abbrev S32x1x256x1024 : Shape := ⟨4, ![32, 1, 256, 1024]⟩
abbrev S1024x1x32x256 : Shape := ⟨4, ![1024, 1, 32, 256]⟩
abbrev S8192x1024 : Shape := ⟨2, ![8192, 1024]⟩
abbrev S1024x1x8192 : Shape := ⟨3, ![1024, 1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S3x3072, .f32⟩
  | .hbm, ⟨2, _⟩ => ⟨S3072, .f32⟩
  | .hbm, ⟨3, _⟩ => ⟨S32x256x4608, .f32⟩
  | .hbm, ⟨4, _⟩ => ⟨S32x256x3072, .f32⟩
  | .hbm, ⟨5, _⟩ => ⟨S_, .i32⟩
  | .hbm, ⟨6, _⟩ => ⟨S_, .f32⟩
  | .hbm, ⟨7, _⟩ => ⟨S32x258x3072, .f32⟩
  | .hbm, ⟨8, _⟩ => ⟨S32x256x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S32x256x3072, .f32⟩
  | .hbm, ⟨13, _⟩ => ⟨S32x256x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S32x256x3072, .f32⟩
  | .hbm, ⟨18, _⟩ => ⟨S32x256x3072, .f32⟩
  | .hbm, ⟨19, _⟩ => ⟨S32x256x3072, .f32⟩
  | .hbm, ⟨20, _⟩ => ⟨S32x256x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S32x256x3072, .f32⟩
  | .hbm, ⟨25, _⟩ => ⟨S32x256x3072, .f32⟩
  | .hbm, ⟨26, _⟩ => ⟨S32x256x3072, .f32⟩
  | .hbm, ⟨27, _⟩ => ⟨S1x1x3072, .f32⟩
  | .hbm, ⟨28, _⟩ => ⟨S32x256x3072, .f32⟩
  | .hbm, ⟨29, _⟩ => ⟨S32x256x3072, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x1x256x1024, .f32⟩
  | .hbm, ⟨35, _⟩ => ⟨S1024x1x32x256, .f32⟩
  | .hbm, ⟨36, _⟩ => ⟨S8192x1024, .f32⟩
  | .hbm, ⟨37, _⟩ => ⟨S8192x1024, .f32⟩
  | .hbm, ⟨38, _⟩ => ⟨S1024x1x8192, .f32⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel14.lean ====
abbrev S32768x4608 : Shape := ⟨2, ![32768, 4608]⟩
abbrev S8x512x256 : Shape := ⟨3, ![8, 512, 256]⟩
abbrev S128 : Shape := ⟨1, ![128]⟩
abbrev S8 : Shape := ⟨1, ![8]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S32768x1024 : Shape := ⟨2, ![32768, 1024]⟩
abbrev S128x512 : Shape := ⟨2, ![128, 512]⟩
abbrev S128x128 : Shape := ⟨2, ![128, 128]⟩
abbrev S1x512x128 : Shape := ⟨3, ![1, 512, 128]⟩
abbrev S128x1 : Shape := ⟨2, ![128, 1]⟩
abbrev S384x128 : Shape := ⟨2, ![384, 128]⟩
abbrev S512x128 : Shape := ⟨2, ![512, 128]⟩
abbrev S128x384 : Shape := ⟨2, ![128, 384]⟩
abbrev S1 : Shape := ⟨1, ![1]⟩
abbrev S1x1 : Shape := ⟨2, ![1, 1]⟩

abbrev nBuf : Space → Nat
  | .hbm => 48
  | .vmem => 34
  | .smem => 1
  | _ => 0

abbrev bufTy : (tb : Table) → Fin (tcTables nBuf tb) → BufTy
  | .hbm, ⟨0, _⟩ => ⟨S32768x4608, .f32⟩
  | .hbm, ⟨1, _⟩ => ⟨S8x512x256, .f32⟩
  | .hbm, ⟨2, _⟩ => ⟨S8x512x256, .f32⟩
  | .hbm, ⟨3, _⟩ => ⟨S128, .f32⟩
  | .hbm, ⟨4, _⟩ => ⟨S128, .f32⟩
  | .hbm, ⟨5, _⟩ => ⟨S8, .f32⟩
  | .hbm, ⟨6, _⟩ => ⟨S64, .i32⟩
  | .hbm, ⟨7, _⟩ => ⟨S64x64, .i32⟩
  | .hbm, ⟨8, _⟩ => ⟨S4096, .i32⟩
  | .hbm, ⟨9, _⟩ => ⟨S4096, .f32⟩
  | .hbm, ⟨10, _⟩ => ⟨S64, .i32⟩
  | .hbm, ⟨11, _⟩ => ⟨S1x64, .i32⟩
  | .hbm, ⟨12, _⟩ => ⟨S64x64, .i32⟩
  | .hbm, ⟨13, _⟩ => ⟨S4096, .i32⟩
  | .hbm, ⟨14, _⟩ => ⟨S4096, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x1, .f32⟩
  | .hbm, ⟨29, _⟩ => ⟨S1x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x128, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x128, .f32⟩
  | .hbm, ⟨45, _⟩ => ⟨S1x128, .f32⟩
  | .hbm, ⟨46, _⟩ => ⟨S1x128, .f32⟩
  | .hbm, ⟨47, _⟩ => ⟨S32768x1024, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S128x512, .bf16⟩
  | .local _ .vmem, ⟨33, _⟩ => ⟨S128x512, .bf16⟩
  | .local _ .smem, ⟨0, _⟩ => ⟨S8, .f32⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨3, ![8, 2, 32], ![false, false, false]⟩

def k0_off1 (i : grid0.Coords) (c0_i32_120 : BitVec 32) : Fin 1 → Nat :=
  let arg1 : BitVec 32 := BitVec.ofNat 32 (i 1).val
  let c4_i32 : BitVec 32 := 4#32
  let v313 : BitVec 32 := Scalar.muli arg1 c4_i32
  let v314 : BitVec 32 := Scalar.addi v313 c0_i32_120
  let v315 : Index := Scalar.indexCast v314
  ![v315.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c32_i32_0 : BitVec 32 := 32#32
  let v4 : BitVec 32 := Scalar.addi c32_i32_0 arg1
  let c0_i32_1 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c32_i32_0 : BitVec 32 := 32#32
  let v2 : BitVec 32 := Scalar.addi c32_i32_0 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.addi arg2 c1_i32
  let c31_i32 : BitVec 32 := 31#32
  let v2 : BitVec 32 := Scalar.minsi v1 c31_i32
  let v3 : BitVec 32 := Scalar.addi v0 v2
  let c32_i32_0 : BitVec 32 := 32#32
  let v4 : BitVec 32 := Scalar.addi c32_i32_0 arg1
  let c0_i32 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c34_i32 : BitVec 32 := 34#32
  let v4 : BitVec 32 := Scalar.addi c34_i32 arg1
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c34_i32 : BitVec 32 := 34#32
  let v2 : BitVec 32 := Scalar.addi c34_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.addi arg2 c1_i32
  let c31_i32 : BitVec 32 := 31#32
  let v2 : BitVec 32 := Scalar.minsi v1 c31_i32
  let v3 : BitVec 32 := Scalar.addi v0 v2
  let c34_i32 : BitVec 32 := 34#32
  let v4 : BitVec 32 := Scalar.addi c34_i32 arg1
  let c0_i32 : BitVec 32 := 0#32
  ![v3.toNat, v4.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]
-- ==== Kernel14Ideal.lean ====
variable {F : FTy → Type} [FloatOps F] [Named F]
def κ : String → Option EReal := fun
  | "mask" => some ⊥
  | _ => none
-- ==== Reference14Ideal.lean ====
abbrev S32768x4608 : Shape := ⟨2, ![32768, 4608]⟩
abbrev S8x512x256 : Shape := ⟨3, ![8, 512, 256]⟩
abbrev S128 : Shape := ⟨1, ![128]⟩
abbrev S8 : Shape := ⟨1, ![8]⟩
abbrev S8x4096x4608 : Shape := ⟨3, ![8, 4096, 4608]⟩
abbrev S8x4096x3072 : Shape := ⟨3, ![8, 4096, 3072]⟩
abbrev S8x4096x1024 : Shape := ⟨3, ![8, 4096, 1024]⟩
abbrev S8x4096x256 : Shape := ⟨3, ![8, 4096, 256]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S8x4096x8x64 : Shape := ⟨4, ![8, 4096, 8, 64]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩
abbrev S8x4096x2x4x128 : Shape := ⟨5, ![8, 4096, 2, 4, 128]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x2x64 : Shape := ⟨4, ![8, 4096, 2, 64]⟩
abbrev S8x4096x2x32 : Shape := ⟨4, ![8, 4096, 2, 32]⟩
abbrev S8x512x2x128 : Shape := ⟨4, ![8, 512, 2, 128]⟩
abbrev S1x4096 : Shape := ⟨2, ![1, 4096]⟩
abbrev S4096x4096 : Shape := ⟨2, ![4096, 4096]⟩
abbrev S8x2x4096x4096x4 : Shape := ⟨5, ![8, 2, 4096, 4096, 4]⟩
abbrev S8x2x4x4096x4096 : Shape := ⟨5, ![8, 2, 4, 4096, 4096]⟩
abbrev S8x2x512x4096x4 : Shape := ⟨5, ![8, 2, 512, 4096, 4]⟩
abbrev S8x2x4x4096x512 : Shape := ⟨5, ![8, 2, 4, 4096, 512]⟩
abbrev S8x2x4x4096x4608 : Shape := ⟨5, ![8, 2, 4, 4096, 4608]⟩
abbrev S2x4 : Shape := ⟨2, ![2, 4]⟩
abbrev S1x2x4x1x1 : Shape := ⟨5, ![1, 2, 4, 1, 1]⟩
abbrev S8x2x4x4096x1 : Shape := ⟨5, ![8, 2, 4, 4096, 1]⟩
abbrev S8x2x4x4096x4609 : Shape := ⟨5, ![8, 2, 4, 4096, 4609]⟩
abbrev S8x2x4x4096 : Shape := ⟨4, ![8, 2, 4, 4096]⟩
abbrev S8x2x128x4x4096 : Shape := ⟨5, ![8, 2, 128, 4, 4096]⟩
abbrev S32768x1024 : Shape := ⟨2, ![32768, 1024]⟩

abbrev nBuf : Space → Nat
  | .hbm => 239
  | .vmem => 0
  | .smem => 0
  | _ => 0

abbrev hbmTy0_0 (i : Nat) : BufTy := match i % 128 with
  | 0 => ⟨S32768x4608, .f32⟩
  | 1 => ⟨S8x512x256, .f32⟩
  | 2 => ⟨S8x512x256, .f32⟩
  | 3 => ⟨S128, .f32⟩
  | 4 => ⟨S128, .f32⟩
  | 5 => ⟨S8, .f32⟩
  | 6 => ⟨S8x4096x4608, .f32⟩
  | 7 => ⟨S8x4096x3072, .f32⟩
  | 8 => ⟨S8x4096x1024, .f32⟩
  | 9 => ⟨S8x4096x256, .f32⟩
  | 10 => ⟨S8x4096x256, .f32⟩
  | 11 => ⟨S8x4096x8x128, .f32⟩
  | 12 => ⟨S8x4096x8x128, .f32⟩
  | 13 => ⟨S_, .f32⟩
  | 14 => ⟨S8x4096x8, .f32⟩
  | 15 => ⟨S8x4096x8x1, .f32⟩
  | 16 => ⟨S_, .f32⟩
  | 17 => ⟨S8x4096x8x1, .f32⟩
  | 18 => ⟨S8x4096x8x1, .f32⟩
  | 19 => ⟨S_, .f32⟩
  | 20 => ⟨S8x4096x8x1, .f32⟩
  | 21 => ⟨S8x4096x8x1, .f32⟩
  | 22 => ⟨S8x4096x8x1, .f32⟩
  | 23 => ⟨S8x4096x8x128, .f32⟩
  | 24 => ⟨S8x4096x8x128, .f32⟩
  | 25 => ⟨S1x1x1x128, .f32⟩
  | 26 => ⟨S8x4096x8x128, .f32⟩
  | 27 => ⟨S8x4096x8x128, .f32⟩
  | 28 => ⟨S64, .i32⟩
  | 29 => ⟨S64x64, .i32⟩
  | 30 => ⟨S4096, .i32⟩
  | 31 => ⟨S4096, .f32⟩
  | 32 => ⟨S64, .i32⟩
  | 33 => ⟨S1x64, .i32⟩
  | 34 => ⟨S64x64, .i32⟩
  | 35 => ⟨S4096, .i32⟩
  | 36 => ⟨S4096, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S8x4096x8x64, .f32⟩
  | 46 => ⟨S4096x1, .f32⟩
  | 47 => ⟨S1x32, .f32⟩
  | 48 => ⟨S4096x32, .f32⟩
  | 49 => ⟨S4096x32, .f32⟩
  | 50 => ⟨S4096x32, .f32⟩
  | 51 => ⟨S4096x32, .f32⟩
  | 52 => ⟨S1x4096x1x32, .f32⟩
  | 53 => ⟨S4096x32, .f32⟩
  | 54 => ⟨S1x4096x1x32, .f32⟩
  | 55 => ⟨S8x4096x8x32, .f32⟩
  | 56 => ⟨S8x4096x8x32, .f32⟩
  | 57 => ⟨S8x4096x8x32, .f32⟩
  | 58 => ⟨S8x4096x8x32, .f32⟩
  | 59 => ⟨S8x4096x8x32, .f32⟩
  | 60 => ⟨S8x4096x8x32, .f32⟩
  | 61 => ⟨S8x4096x8x32, .f32⟩
  | 62 => ⟨S8x4096x8x32, .f32⟩
  | 63 => ⟨S8x4096x8x32, .f32⟩
  | 64 => ⟨S8x4096x8x32, .f32⟩
  | 65 => ⟨S8x4096x8x32, .f32⟩
  | 66 => ⟨S8x4096x8x32, .f32⟩
  | 67 => ⟨S8x4096x8x64, .f32⟩
  | 68 => ⟨S8x4096x8x64, .f32⟩
  | 69 => ⟨S4096x1, .f32⟩
  | 70 => ⟨S1x32, .f32⟩
  | 71 => ⟨S4096x32, .f32⟩
  | 72 => ⟨S4096x32, .f32⟩
  | 73 => ⟨S4096x32, .f32⟩
  | 74 => ⟨S4096x32, .f32⟩
  | 75 => ⟨S1x4096x1x32, .f32⟩
  | 76 => ⟨S4096x32, .f32⟩
  | 77 => ⟨S1x4096x1x32, .f32⟩
  | 78 => ⟨S8x4096x8x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x32, .f32⟩
  | 84 => ⟨S8x4096x8x32, .f32⟩
  | 85 => ⟨S8x4096x8x32, .f32⟩
  | 86 => ⟨S8x4096x8x32, .f32⟩
  | 87 => ⟨S8x4096x8x32, .f32⟩
  | 88 => ⟨S8x4096x8x32, .f32⟩
  | 89 => ⟨S8x4096x8x32, .f32⟩
  | 90 => ⟨S8x4096x8x64, .f32⟩
  | 91 => ⟨S8x4096x8x128, .f32⟩
  | 92 => ⟨S8x4096x2x4x128, .f32⟩
  | 93 => ⟨S8x4096x2x128, .f32⟩
  | 94 => ⟨S8x4096x2x128, .f32⟩
  | 95 => ⟨S_, .f32⟩
  | 96 => ⟨S8x4096x2, .f32⟩
  | 97 => ⟨S8x4096x2x1, .f32⟩
  | 98 => ⟨S_, .f32⟩
  | 99 => ⟨S8x4096x2x1, .f32⟩
  | 100 => ⟨S8x4096x2x1, .f32⟩
  | 101 => ⟨S_, .f32⟩
  | 102 => ⟨S8x4096x2x1, .f32⟩
  | 103 => ⟨S8x4096x2x1, .f32⟩
  | 104 => ⟨S8x4096x2x1, .f32⟩
  | 105 => ⟨S8x4096x2x128, .f32⟩
  | 106 => ⟨S8x4096x2x128, .f32⟩
  | 107 => ⟨S1x1x1x128, .f32⟩
  | 108 => ⟨S8x4096x2x128, .f32⟩
  | 109 => ⟨S8x4096x2x128, .f32⟩
  | 110 => ⟨S64, .i32⟩
  | 111 => ⟨S64x64, .i32⟩
  | 112 => ⟨S4096, .i32⟩
  | 113 => ⟨S4096, .f32⟩
  | 114 => ⟨S64, .i32⟩
  | 115 => ⟨S1x64, .i32⟩
  | 116 => ⟨S64x64, .i32⟩
  | 117 => ⟨S4096, .i32⟩
  | 118 => ⟨S4096, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S32, .f32⟩
  | 127 => ⟨S8x4096x2x64, .f32⟩
  | _ => ⟨S32768x4608, .f32⟩

abbrev hbmTy0_1 (i : Nat) : BufTy := match i % 128 with
  | 0 => ⟨S4096x1, .f32⟩
  | 1 => ⟨S1x32, .f32⟩
  | 2 => ⟨S4096x32, .f32⟩
  | 3 => ⟨S4096x32, .f32⟩
  | 4 => ⟨S4096x32, .f32⟩
  | 5 => ⟨S4096x32, .f32⟩
  | 6 => ⟨S1x4096x1x32, .f32⟩
  | 7 => ⟨S4096x32, .f32⟩
  | 8 => ⟨S1x4096x1x32, .f32⟩
  | 9 => ⟨S8x4096x2x32, .f32⟩
  | 10 => ⟨S8x4096x2x32, .f32⟩
  | 11 => ⟨S8x4096x2x32, .f32⟩
  | 12 => ⟨S8x4096x2x32, .f32⟩
  | 13 => ⟨S8x4096x2x32, .f32⟩
  | 14 => ⟨S8x4096x2x32, .f32⟩
  | 15 => ⟨S8x4096x2x32, .f32⟩
  | 16 => ⟨S8x4096x2x32, .f32⟩
  | 17 => ⟨S8x4096x2x32, .f32⟩
  | 18 => ⟨S8x4096x2x32, .f32⟩
  | 19 => ⟨S8x4096x2x32, .f32⟩
  | 20 => ⟨S8x4096x2x32, .f32⟩
  | 21 => ⟨S8x4096x2x64, .f32⟩
  | 22 => ⟨S8x4096x2x64, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x32, .f32⟩
  | 29 => ⟨S1x4096x1x32, .f32⟩
  | 30 => ⟨S4096x32, .f32⟩
  | 31 => ⟨S1x4096x1x32, .f32⟩
  | 32 => ⟨S8x4096x2x32, .f32⟩
  | 33 => ⟨S8x4096x2x32, .f32⟩
  | 34 => ⟨S8x4096x2x32, .f32⟩
  | 35 => ⟨S8x4096x2x32, .f32⟩
  | 36 => ⟨S8x4096x2x32, .f32⟩
  | 37 => ⟨S8x4096x2x32, .f32⟩
  | 38 => ⟨S8x4096x2x32, .f32⟩
  | 39 => ⟨S8x4096x2x32, .f32⟩
  | 40 => ⟨S8x4096x2x32, .f32⟩
  | 41 => ⟨S8x4096x2x32, .f32⟩
  | 42 => ⟨S8x4096x2x32, .f32⟩
  | 43 => ⟨S8x4096x2x32, .f32⟩
  | 44 => ⟨S8x4096x2x64, .f32⟩
  | 45 => ⟨S8x4096x2x128, .f32⟩
  | 46 => ⟨S8x4096x2x128, .f32⟩
  | 47 => ⟨S8x512x2x128, .f32⟩
  | 48 => ⟨S8x512x2x128, .f32⟩
  | 49 => ⟨S4096, .i32⟩
  | 50 => ⟨S1x4096, .i32⟩
  | 51 => ⟨S4096x1, .i32⟩
  | 52 => ⟨S_, .i32⟩
  | 53 => ⟨S4096x1, .i32⟩
  | 54 => ⟨S4096x1, .i32⟩
  | 55 => ⟨S4096x4096, .i32⟩
  | 56 => ⟨S4096x4096, .i32⟩
  | 57 => ⟨S4096x4096, .i1⟩
  | 58 => ⟨S1x4096, .i32⟩
  | 59 => ⟨S4096x1, .i32⟩
  | 60 => ⟨S_, .i32⟩
  | 61 => ⟨S4096x1, .i32⟩
  | 62 => ⟨S4096x1, .i32⟩
  | 63 => ⟨S4096x4096, .i32⟩
  | 64 => ⟨S4096x4096, .i32⟩
  | 65 => ⟨S4096x4096, .i1⟩
  | 66 => ⟨S4096x4096, .i1⟩
  | 67 => ⟨S8x2x4096x4096x4, .f32⟩
  | 68 => ⟨S8x2x4x4096x4096, .f32⟩
  | 69 => ⟨S_, .f32⟩
  | 70 => ⟨S8x2x4x4096x4096, .f32⟩
  | 71 => ⟨S8x2x4x4096x4096, .f32⟩
  | 72 => ⟨S_, .f32⟩
  | 73 => ⟨S_, .f32⟩
  | 74 => ⟨S8x2x4x4096x4096, .i1⟩
  | 75 => ⟨S8x2x4x4096x4096, .f32⟩
  | 76 => ⟨S8x2x4x4096x4096, .f32⟩
  | 77 => ⟨S8x2x512x4096x4, .f32⟩
  | 78 => ⟨S8x2x4x4096x512, .f32⟩
  | 79 => ⟨S_, .f32⟩
  | 80 => ⟨S8x2x4x4096x512, .f32⟩
  | 81 => ⟨S8x2x4x4096x512, .f32⟩
  | 82 => ⟨S8x2x4x4096x4608, .f32⟩
  | 83 => ⟨S2x4, .f32⟩
  | 84 => ⟨S1x2x4x1x1, .f32⟩
  | 85 => ⟨S8x2x4x4096x1, .f32⟩
  | 86 => ⟨S8x2x4x4096x4609, .f32⟩
  | 87 => ⟨S_, .f32⟩
  | 88 => ⟨S8x2x4x4096, .f32⟩
  | 89 => ⟨S8x2x4x4096x1, .f32⟩
  | 90 => ⟨S8x2x4x4096x4609, .f32⟩
  | 91 => ⟨S8x2x4x4096x4609, .f32⟩
  | 92 => ⟨S8x2x4x4096x4609, .f32⟩
  | 93 => ⟨S_, .f32⟩
  | 94 => ⟨S8x2x4x4096, .f32⟩
  | 95 => ⟨S8x2x4x4096x1, .f32⟩
  | 96 => ⟨S_, .f32⟩
  | 97 => ⟨S8x2x4x4096x1, .f32⟩
  | 98 => ⟨S8x2x4x4096x1, .f32⟩
  | 99 => ⟨S8x2x4x4096x4609, .f32⟩
  | 100 => ⟨S8x2x4x4096x4609, .f32⟩
  | 101 => ⟨S8x2x4x4096x4608, .f32⟩
  | 102 => ⟨S8x2x4x4096x4096, .f32⟩
  | 103 => ⟨S8x2x128x4x4096, .f32⟩
  | 104 => ⟨S8x4096x2x4x128, .f32⟩
  | 105 => ⟨S8x2x4x4096x512, .f32⟩
  | 106 => ⟨S8x2x128x4x4096, .f32⟩
  | 107 => ⟨S8x4096x2x4x128, .f32⟩
  | 108 => ⟨S8x4096x2x4x128, .f32⟩
  | 109 => ⟨S32768x1024, .f32⟩
  | 110 => ⟨S32768x1024, .bf16⟩
  | _ => ⟨S32768x4608, .f32⟩

abbrev hbmTy (i : Nat) : BufTy := match i / 128 with
  | 0 => hbmTy0_0 i
  | 1 => hbmTy0_1 i
  | _ => ⟨S32768x4608, .f32⟩

abbrev bufTy : (tb : Table) → Fin (tcTables nBuf tb) → BufTy
  | .hbm, ⟨i, _⟩ => hbmTy i
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_4 : Ref sig .tc := ⟨.hbm, 95, rfl⟩
abbrev main_v84 : Ref sig .tc := ⟨.hbm, 96, rfl⟩
abbrev main_v85 : Ref sig .tc := ⟨.hbm, 97, rfl⟩
abbrev main_cst_5 : Ref sig .tc := ⟨.hbm, 98, rfl⟩
abbrev main_v86 : Ref sig .tc := ⟨.hbm, 99, rfl⟩
abbrev main_v87 : Ref sig .tc := ⟨.hbm, 100, rfl⟩
abbrev main_cst_6 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_7 : Ref sig .tc := ⟨.hbm, 120, rfl⟩
abbrev main_v106 : Ref sig .tc := ⟨.hbm, 121, rfl⟩
abbrev main_v107 : Ref sig .tc := ⟨.hbm, 122, rfl⟩
abbrev main_cst_8 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_c : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_c_9 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_cst_10 : Ref sig .tc := ⟨.hbm, 197, rfl⟩
abbrev main_v179 : Ref sig .tc := ⟨.hbm, 198, rfl⟩
abbrev main_v180 : Ref sig .tc := ⟨.hbm, 199, rfl⟩
abbrev main_cst_11 : Ref sig .tc := ⟨.hbm, 200, rfl⟩
abbrev main_call0_v0 : Ref sig .tc := ⟨.hbm, 201, rfl⟩
abbrev main_call0_v1 : Ref sig .tc := ⟨.hbm, 202, rfl⟩
abbrev main_call0_v2 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_cst_12 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_cst_13 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_cst_14 : Ref sig .tc := ⟨.hbm, 221, rfl⟩
abbrev main_v196 : Ref sig .tc := ⟨.hbm, 222, rfl⟩
abbrev main_v197 : Ref sig .tc := ⟨.hbm, 223, rfl⟩
abbrev main_cst_15 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩

abbrev nD : Nat := 1
abbrev τ : Topo := Topo.v7x

variable {F : FTy → Type} [FloatOps F]
-- ==== Proof.RetentionChunk.lean ====
/- One chunk of the retention recurrence as mathematics, and the kernel's payloads read as it.
   A chunk takes 128 positions of one head: queries `q`, keys `k` (scaled), values `v`, and the state `s` the chunks
   before left. The decay of the head is `exp (rate d)` per position, `d` the layer's decay parameter. -/
module

public import proofs.«01_k».proof.Proof.Gen.KernelIdeal.Value
public import Idealize.ShloMosaic.Lib.Pipeline.Value
public import Idealize.ShloMosaic.Lib.MatmulPlain
public import Idealize.ShloMosaic.Lib.ValueIdx

@[expose] public section

noncomputable section

open Idealize.ShloMosaic Idealize.ShloMosaic.TcCoe Idealize.SL.Sem
open Idealize.ShloMosaic.ValueIdx
open scoped BigOperators

namespace Cert.Retention

/-- The head's log decay. -/
def rate (d : EReal) : EReal := -Ideal.exp d
/-- A position as a number. -/
def pos (i : Fin 128) : EReal := (((i.val : ℤ) : ℝ) : EReal)
/-- The weight of position `j` in the output at position `i` of the same chunk: decayed by their distance, none ahead. -/
def within (d : EReal) (i j : Fin 128) : EReal :=
  if j ≤ i then Ideal.exp (rate d * ((((i.val : ℤ) - (j.val : ℤ) : ℤ) : ℝ) : EReal)) else 0
/-- The decay from the chunk's entry to position `i`. -/
def fromEntry (d : EReal) (i : Fin 128) : EReal := Ideal.exp (rate d * (pos i + Ideal.ofBits .f32 0x3F800000#32))
/-- The decay from position `j` to the chunk's end. -/
def toEnd (d : EReal) (j : Fin 128) : EReal := Ideal.exp (rate d * (Ideal.ofBits .f32 0x42FE0000#32 - pos j))
/-- The decay over a whole chunk. -/
def across (d : EReal) : EReal := Ideal.exp (rate d * Ideal.ofBits .f32 0x43000000#32)
/-- The scale of the keys, `256 ^ (-1/2)`. -/
def scale : EReal := Ideal.ofBits .f32 0x3D800000#32

/-- The chunk's output. -/
def out (d : EReal) (q k : Fin 128 → Fin 256 → EReal) (v : Fin 128 → Fin 512 → EReal) (s : Fin 256 → Fin 512 → EReal)
    (i : Fin 128) (e : Fin 512) : EReal :=
  (∑ j : Fin 128, ((∑ x : Fin 256, q i x * k j x) * within d i j) * v j e) + (∑ x : Fin 256, q i x * s x e) * fromEntry d i
/-- The state after the chunk. -/
def next (d : EReal) (k : Fin 128 → Fin 256 → EReal) (v : Fin 128 → Fin 512 → EReal) (s : Fin 256 → Fin 512 → EReal)
    (x : Fin 256) (e : Fin 512) : EReal :=
  s x e * across d + ∑ j : Fin 128, (k j x * toEnd d j) * v j e

/-- Row of position `i` of chunk `n` of sequence `b`: a sequence is two chunks of 128 positions. -/
abbrev row (b : Fin 32) (n : Fin 2) (i : Fin 128) : Fin 8192 := ⟨b.val * 256 + n.val * 128 + i.val, by omega⟩
/-- Columns of head `h`'s queries, keys and values in a projection of 8 · 256 queries, 8 · 256 keys and 8 · 512 values. -/
abbrev qcol (h : Fin 8) (x : Fin 256) : Fin 12288 := ⟨h.val * 256 + x.val, by omega⟩
abbrev kcol (h : Fin 8) (x : Fin 256) : Fin 12288 := ⟨2048 + h.val * 256 + x.val, by omega⟩
abbrev vcol (h : Fin 8) (e : Fin 512) : Fin 12288 := ⟨4096 + h.val * 512 + e.val, by omega⟩
/-- The projection, read as the queries, scaled keys and values of a chunk of a head. -/
abbrev Q (a : (⟨2, ![8192, 12288]⟩ : Shape).Idx → EReal) (b : Fin 32) (n : Fin 2) (h : Fin 8) (i : Fin 128) (x : Fin 256) : EReal := a (ix2 (row b n i) (qcol h x))
abbrev K (a : (⟨2, ![8192, 12288]⟩ : Shape).Idx → EReal) (b : Fin 32) (n : Fin 2) (h : Fin 8) (j : Fin 128) (x : Fin 256) : EReal := a (ix2 (row b n j) (kcol h x)) * scale
abbrev V (a : (⟨2, ![8192, 12288]⟩ : Shape).Idx → EReal) (b : Fin 32) (n : Fin 2) (h : Fin 8) (j : Fin 128) (e : Fin 512) : EReal := a (ix2 (row b n j) (vcol h e))
/-- The state after the first chunk, which starts from nothing. -/
def mid (d : EReal) (a : (⟨2, ![8192, 12288]⟩ : Shape).Idx → EReal) (b : Fin 32) (h : Fin 8) : Fin 256 → Fin 512 → EReal :=
  next d (K a b 0 h) (V a b 0 h) (fun _ _ => 0)

/-- A small word's signed value. -/
theorem toInt_small : ∀ i : Fin 128, (BitVec.ofNat 32 i.val).toInt = (i.val : ℤ) := by decide
theorem sge_small : ∀ i j : Fin 128, IntOp.cmpi .sge (IntOp.subi (BitVec.ofNat 32 i.val) (BitVec.ofNat 32 j.val)) 0#32 = BitVec.ofBool (decide (j ≤ i)) := by
  decide +kernel
theorem max_small : ∀ i j : Fin 128, j ≤ i → (IntOp.maxsi (IntOp.subi (BitVec.ofNat 32 i.val) (BitVec.ofNat 32 j.val)) 0#32).toInt = (i.val : ℤ) - (j.val : ℤ) := by
  decide +kernel

/-- The kernel's mask at one position pair. -/
theorem masked (d : EReal) (i j : Fin 128) (n z : EReal) (hn : j ≤ i → n = ((((i.val : ℤ) - (j.val : ℤ) : ℤ) : ℝ) : EReal)) (hz : z = 0) :
    Scalar.select (BitVec.ofBool (decide (j ≤ i))) (Ideal.exp (rate d * n)) z = within d i j := by
  unfold within
  by_cases h : j ≤ i
  · rw [if_pos h, decide_eq_true h, hn h]; rfl
  · rw [if_neg h, decide_eq_false h, hz]; rfl

end Cert.Retention

namespace Cert.KernelIdeal.Retention

open Cert.KernelIdeal Cert.KernelIdeal.Gen Cert.Retention

theorem zero_sub_exp (d : EReal) : Ideal.ofBits .f32 0x00000000#32 - Ideal.exp d = rate d := by
  rw [Ideal.ofBits_zero_f32, zero_sub]; rfl

theorem pay7_apply (d : EReal) (i j : Fin 128) : k0_pay7 (F := Ideal) d (ix2 i j) = within d i j := by
  rw [← masked d i j ((((IntOp.maxsi (IntOp.subi (BitVec.ofNat 32 i.val) (BitVec.ofNat 32 j.val)) 0#32).toInt : ℝ)) : EReal)
    (Ideal.ofBits .f32 0x00000000#32) (fun h => by rw [max_small i j h]) Ideal.ofBits_zero_f32, ← sge_small, ← zero_sub_exp]
  show Scalar.select (IntOp.cmpi .sge (IntOp.subi (iota .tc S128x128 32 [0] _ (ix2 i j)) (iota .tc S128x128 32 [1] _ (ix2 i j))) 0#32)
    (Ideal.exp (_ * (((IntOp.maxsi (IntOp.subi (iota .tc S128x128 32 [0] _ (ix2 i j)) (iota .tc S128x128 32 [1] _ (ix2 i j))) 0#32).toInt : ℝ) : EReal))) _ = _
  rw [iota_single_apply, iota_single_apply]
  rfl

theorem pay8_apply (i : Fin 128) : k0_pay8 (F := Ideal) (ix2 i 0) = pos i := by
  show (((iota .tc S128x1 32 [0] _ (ix2 i 0)).toInt : ℝ) : EReal) = _
  rw [iota_single_apply]
  exact congrArg (fun z : ℤ => ((z : ℝ) : EReal)) (toInt_small i)

theorem pay9_apply (d : EReal) (i : Fin 128) : k0_pay9 (F := Ideal) d (ix2 i 0) = rate d := zero_sub_exp d

theorem pay10_apply (d : EReal) (i : Fin 128) : k0_pay10 (F := Ideal) d (ix2 i 0) = fromEntry d i := by
  show Ideal.exp (k0_pay9 (F := Ideal) d (ix2 i 0) * (k0_pay8 (F := Ideal) (ix2 i 0) + _)) = _
  rw [pay9_apply, pay8_apply]; rfl

theorem pay11_apply (d : EReal) (i : Fin 128) : k0_pay11 (F := Ideal) d (ix2 i 0) = toEnd d i := by
  show Ideal.exp (k0_pay9 (F := Ideal) d (ix2 i 0) * (_ - k0_pay8 (F := Ideal) (ix2 i 0))) = _
  rw [pay9_apply, pay8_apply]; rfl

theorem pay12_apply (d : EReal) : k0_pay12 (F := Ideal) d (ix2 0 0) = across d := by
  show Ideal.exp ((Ideal.ofBits .f32 0x00000000#32 - Ideal.exp d) * _) = _
  rw [zero_sub_exp]; rfl

theorem pay6_apply (x : Fin 256) (e : Fin 512) : k0_pay6 (F := Ideal) (ix2 x e) = 0 := by
  unfold k0_pay6
  rw [shapeCast_self]
  exact Ideal.ofBits_zero_f32

/-- A product contracting both operands' FIRST axes, read at (r, c). -/
theorem matmul_first_apply (a : FVec Ideal S128x256 .bf16) (b : FVec Ideal S128x512 .bf16) (acc : FVec Ideal S256x512 .f32) (r : Fin 256) (n : Fin 512) :
    FloatOps.matmul (F := Ideal) (φ₁ := .bf16) (φ₂ := .bf16) dot_S128x256_S128x512_S256x512_0_0_1_1_n_n none a b acc (ix2 r n) = acc (ix2 r n) + ∑ k : Fin 128, a (ix2 k r) * b (ix2 k n) := by
  rw [Ideal.matmul_apply, ← Equiv.sum_comp (contrEquiv1 dot_S128x256_S128x512_S256x512_0_0_1_1_n_n 128 rfl rfl).symm]
  refine congrArg (acc (ix2 r n) + ·) (Finset.sum_congr rfl fun k _ => ?_)
  have hk := contrEquiv1_symm_val dot_S128x256_S128x512_S256x512_0_0_1_1_n_n 128 rfl rfl k
  have el : dot_S128x256_S128x512_S256x512_0_0_1_1_n_n.lhsIdx (ix2 r n) ((contrEquiv1 dot_S128x256_S128x512_S256x512_0_0_1_1_n_n 128 rfl rfl).symm k) = ix2 k r := by
    funext a; apply Fin.ext
    match a with
    | ⟨0, _⟩ => exact hk
    | ⟨1, _⟩ => rfl
  have er : dot_S128x256_S128x512_S256x512_0_0_1_1_n_n.rhsIdx (ix2 r n) ((contrEquiv1 dot_S128x256_S128x512_S256x512_0_0_1_1_n_n 128 rfl rfl).symm k) = ix2 k n := by
    funext a; apply Fin.ext
    match a with
    | ⟨0, _⟩ => exact hk
    | ⟨1, _⟩ => rfl
  rw [el, er]

/-- The scaled keys. -/
abbrev key (k : Vec Ideal S128x256 .bf16) (j : Fin 128) (x : Fin 256) : EReal := k (ix2 j x) * scale

/-- The output payload is the chunk's output. -/
theorem pay2_apply (d : EReal) (q k : Vec Ideal S128x256 .bf16) (v : Vec Ideal S128x512 .bf16) (s : Vec Ideal S256x512 .f32) (i : Fin 128) (e : Fin 512) :
    k0_pay2 (F := Ideal) (k0_pay7 d) (k0_pay10 d) q k v s (ix2 i e)
      = out d (fun i x => q (ix2 i x)) (key k) (fun j e => v (ix2 j e)) (fun x e => s (ix2 x e)) i e := by
  show FloatOps.matmul (F := Ideal) (φ₁ := .bf16) (φ₂ := .bf16) (DotDims.plain 128 128 512) none
      (fun y => FloatOps.matmul (F := Ideal) (φ₁ := .bf16) (φ₂ := .bf16) (DotDims.transposedRhs 128 256 128) none q
        (fun y => k y * scale) (constant S128x128 .f32 0x00000000#32) y * k0_pay7 (F := Ideal) d y) v (constant S128x512 .f32 0x00000000#32) (ix2 i e)
    + FloatOps.matmul (F := Ideal) (φ₁ := .bf16) (φ₂ := .bf16) (DotDims.plain 128 256 512) none q s (constant S128x512 .f32 0x00000000#32) (ix2 i e)
      * broadcastTo S128x512 (k0_pay10 (F := Ideal) d) broadcasts_S128x1_S128x512 (ix2 i e) = _
  rw [Ideal.matmul_plain_apply, Ideal.matmul_plain_apply,
    broadcastTo_apply _ _ (ix2 i e) (ix2 i 0) (by intro a; match a with | ⟨0, _⟩ => rfl | ⟨1, _⟩ => rfl), pay10_apply]
  show (Ideal.ofBits .f32 0x00000000#32 + _) + (Ideal.ofBits .f32 0x00000000#32 + _) * _ = _
  rw [Ideal.ofBits_zero_f32, zero_add, zero_add]
  refine congrArg (· + _) (Finset.sum_congr rfl fun j _ => ?_)
  rw [Ideal.matmul_transposedRhs_apply, pay7_apply]
  show ((Ideal.ofBits .f32 0x00000000#32 + _) * _) * _ = _
  rw [Ideal.ofBits_zero_f32, zero_add]

/-- The state payload is the state after the chunk. -/
theorem pay3_apply (d : EReal) (k : Vec Ideal S128x256 .bf16) (v : Vec Ideal S128x512 .bf16) (s : Vec Ideal S256x512 .f32) (x : Fin 256) (e : Fin 512) :
    k0_pay3 (F := Ideal) (k0_pay11 d) (k0_pay12 d) k v s (ix2 x e)
      = next d (key k) (fun j e => v (ix2 j e)) (fun x e => s (ix2 x e)) x e := by
  show s (ix2 x e) * broadcastTo S256x512 (k0_pay12 (F := Ideal) d) broadcasts_S1x1_S256x512 (ix2 x e)
    + FloatOps.matmul (F := Ideal) (φ₁ := .bf16) (φ₂ := .bf16) dot_S128x256_S128x512_S256x512_0_0_1_1_n_n none
        (fun y => (k y * scale) * broadcastTo S128x256 (k0_pay11 (F := Ideal) d) broadcasts_S128x1_S128x256 y) v (constant S256x512 .f32 0x00000000#32) (ix2 x e) = _
  rw [matmul_first_apply, broadcastTo_apply _ _ (ix2 x e) (ix2 0 0) (by intro a; match a with | ⟨0, _⟩ => rfl | ⟨1, _⟩ => rfl), pay12_apply]
  show _ + (Ideal.ofBits .f32 0x00000000#32 + _) = _
  rw [Ideal.ofBits_zero_f32, zero_add]
  refine congrArg (_ + ·) (Finset.sum_congr rfl fun j _ => ?_)
  rw [broadcastTo_apply _ _ (ix2 j x) (ix2 j 0) (by intro a; match a with | ⟨0, _⟩ => rfl | ⟨1, _⟩ => rfl), pay11_apply]

theorem pay4_apply (d : EReal) (k : Vec Ideal S128x256 .bf16) (v : Vec Ideal S128x512 .bf16) (s : Vec Ideal S256x512 .f32) (x : Fin 256) (e : Fin 512) :
    k0_pay4 (F := Ideal) (k0_pay11 d) (k0_pay12 d) k v s (ix2 x e)
      = next d (key k) (fun j e => v (ix2 j e)) (fun x e => s (ix2 x e)) x e := by
  unfold k0_pay4
  rw [shapeCast_self]
  exact pay3_apply d k v s x e

theorem pay5_apply (d : EReal) (k : Vec Ideal S128x256 .bf16) (v : Vec Ideal S128x512 .bf16) (s : Vec Ideal S256x512 .f32) (x : Fin 256) (e : Fin 512) :
    k0_pay5 (F := Ideal) (k0_pay11 d) (k0_pay12 d) k v s (ix4 0 0 x e)
      = next d (key k) (fun j e => v (ix2 j e)) (fun x e => s (ix2 x e)) x e := by
  unfold k0_pay5
  rw [shapeCast_apply _ _ (ix4 0 0 x e) (ix2 x e) (by rw [Shape.rowMajor_val_two, Shape.rowMajor_val_four]; show x.val * 512 + e.val = ((0 * 1 + 0) * 256 + x.val) * 512 + e.val; omega)]
  exact pay3_apply d k v s x e

end Cert.KernelIdeal.Retention
-- ==== Proof.RetentionRef.lean ====
/- The forward retention's reference, read chunk by chunk: its two chunk outputs and its final state are `Retention.out`
   and `Retention.next` of the projection's entries. -/
module

public import proofs.«01_k».proof.Proof.RetentionChunk
public import proofs.«01_k».proof.Proof.Gen.ReferenceIdeal.Read

@[expose] public section

noncomputable section

open Idealize.ShloMosaic Idealize.ShloMosaic.TcCoe Idealize.SL.Sem
open Idealize.ShloMosaic.ValueIdx
open scoped BigOperators

namespace Cert.ReferenceIdeal.Retention

open Cert.ReferenceIdeal Cert.ReferenceIdeal.Gen Cert.ReferenceIdeal.Read Cert.Retention

variable (a : (⟨S8192x12288, .bf16⟩ : BufTy).Contents (Elt Ideal)) (g : (⟨S2x8, .f32⟩ : BufTy).Contents (Elt Ideal))

/-- The reshape into sequences. -/
theorem token_apply (b : Fin 32) (t : Fin 256) (c : Fin 12288) :
    val_main_v1 (F := Ideal) a (ix3 b t c) = a (ix2 ⟨b.val * 256 + t.val, by omega⟩ c) := by
  rw [val_main_v1_apply]
  refine congrArg a ?_
  funext p; apply Fin.ext
  match p with
  | ⟨0, _⟩ => show ((b.val * 256 + t.val) * 12288 + c.val) / 12288 = _; dsimp only [ix2]; omega
  | ⟨1, _⟩ => show ((b.val * 256 + t.val) * 12288 + c.val) % 12288 = c.val; omega

theorem query_apply (b : Fin 32) (t : Fin 256) (h : Fin 8) (x : Fin 256) :
    val_main_v6 (F := Ideal) a (ix4 b t h x) = a (ix2 ⟨b.val * 256 + t.val, by omega⟩ (qcol h x)) := by
  rw [val_main_v6_apply, val_main_v2_apply, ← token_apply a]
  refine congrArg (val_main_v1 (F := Ideal) a) ?_
  funext p; apply Fin.ext
  match p with
  | ⟨0, _⟩ => show (((b.val * 256 + t.val) * 8 + h.val) * 256 + x.val) / 524288 = b.val; omega
  | ⟨1, _⟩ => show (((b.val * 256 + t.val) * 8 + h.val) * 256 + x.val) / 2048 % 256 = t.val; omega
  | ⟨2, _⟩ => show (((b.val * 256 + t.val) * 8 + h.val) * 256 + x.val) % 2048 = h.val * 256 + x.val; omega

theorem key_apply (b : Fin 32) (t : Fin 256) (h : Fin 8) (x : Fin 256) :
    val_main_v9 (F := Ideal) a (ix4 b t h x) = a (ix2 ⟨b.val * 256 + t.val, by omega⟩ (kcol h x)) * scale := by
  rw [val_main_v9_apply, val_main_v7_apply, val_main_v3_apply, val_main_v8_apply, ← token_apply a]
  refine congrArg (fun z => val_main_v1 (F := Ideal) a z * scale) ?_
  funext p; apply Fin.ext
  match p with
  | ⟨0, _⟩ => show (((b.val * 256 + t.val) * 8 + h.val) * 256 + x.val) / 524288 = b.val; omega
  | ⟨1, _⟩ => show (((b.val * 256 + t.val) * 8 + h.val) * 256 + x.val) / 2048 % 256 = t.val; omega
  | ⟨2, _⟩ => show 2048 + (((b.val * 256 + t.val) * 8 + h.val) * 256 + x.val) % 2048 = 2048 + h.val * 256 + x.val; omega

theorem value_apply (b : Fin 32) (t : Fin 256) (h : Fin 8) (e : Fin 512) :
    val_main_v10 (F := Ideal) a (ix4 b t h e) = a (ix2 ⟨b.val * 256 + t.val, by omega⟩ (vcol h e)) := by
  rw [val_main_v10_apply, val_main_v4_apply, ← token_apply a]
  refine congrArg (val_main_v1 (F := Ideal) a) ?_
  funext p; apply Fin.ext
  match p with
  | ⟨0, _⟩ => show (((b.val * 256 + t.val) * 8 + h.val) * 512 + e.val) / 1048576 = b.val; omega
  | ⟨1, _⟩ => show (((b.val * 256 + t.val) * 8 + h.val) * 512 + e.val) / 4096 % 256 = t.val; omega
  | ⟨2, _⟩ => show 4096 + (((b.val * 256 + t.val) * 8 + h.val) * 512 + e.val) % 4096 = 4096 + h.val * 512 + e.val; omega

/-- The head's log decay, kept in the reference's first row. -/
theorem rate_apply (h : Fin 8) : val_main_v15 (F := Ideal) g (ix1 h) = rate (g (ix2 0 h)) := by
  rw [val_main_v15_apply, val_main_v14_apply, val_main_v12_apply, val_main_v11_apply]
  refine congrArg (fun z => rate (g z)) ?_
  funext p; apply Fin.ext
  match p with
  | ⟨0, _⟩ => rfl
  | ⟨1, _⟩ => show h.val % 8 = h.val; omega

theorem pos_apply (i : Fin 128) : val_main_v16 (F := Ideal) (ix1 i) = pos i := by
  show (((BitVec.ofNat 32 i.val).toInt : ℝ) : EReal) = _
  exact congrArg (fun z : ℤ => ((z : ℝ) : EReal)) (toInt_small i)

theorem diff_apply (i j : Fin 128) : val_main_v21 (F := Ideal) (ix2 i j) = ((((i.val : ℤ) - (j.val : ℤ) : ℤ) : ℝ) : EReal) := by
  rw [val_main_v21_apply, val_main_v19_apply, val_main_v17_apply, val_main_v20_apply, val_main_v18_apply]
  have ei : idx_main_v17 (idx_main_v19 (ix2 i j)) = ix1 i := eq_ix1 _
  have ej : idx_main_v18 (idx_main_v20 (ix2 i j)) = ix1 j := eq_ix1 _
  rw [ei, ej, pos_apply, pos_apply]
  show ((((i.val : ℤ) : ℝ) : EReal)) - ((((j.val : ℤ) : ℝ) : EReal)) = _
  rw [← EReal.coe_sub]
  push_cast
  rfl

theorem within_apply (h : Fin 8) (i j : Fin 128) : val_main_v34 (F := Ideal) g (ix3 h i j) = within (g (ix2 0 h)) i j := by
  rw [val_main_v34_apply, val_main_v24_apply, val_main_v23_apply, val_main_v32_apply, val_main_v31_apply, val_main_v29_apply,
    val_main_v25_apply, val_main_v30_apply, val_main_v28_apply, val_main_v27_apply, val_main_v26_apply, val_main_v33_apply, val_main_v22_apply]
  have e0 : idx_main_v24 (ix3 h i j) = ix2 i j := eq_ix2 _
  have e1 : idx_main_v25 (idx_main_v29 (ix3 h i j)) = ix1 h := eq_ix1 _
  have e2 : idx_main_v28 (idx_main_v30 (ix3 h i j)) = ix2 i j := eq_ix2 _
  rw [e0, e1, e2, rate_apply, diff_apply]
  have hle : Ideal.cmp .oge ((((i.val : ℤ) - (j.val : ℤ) : ℤ) : ℝ) : EReal) (Ideal.ofBits .f32 0x00000000#32) = BitVec.ofBool (decide (j ≤ i)) := by
    rw [Ideal.ofBits_zero_f32]
    show BitVec.ofBool (decide ((0 : EReal) ≤ _)) = _
    refine congrArg BitVec.ofBool (decide_eq_decide.mpr ?_)
    rw [← EReal.coe_zero, EReal.coe_le_coe_iff]
    constructor
    · intro hh
      have : (0 : ℤ) ≤ (i.val : ℤ) - (j.val : ℤ) := by exact_mod_cast hh
      exact Fin.le_def.mpr (by omega)
    · intro hh
      have : (0 : ℤ) ≤ (i.val : ℤ) - (j.val : ℤ) := by have := Fin.le_def.mp hh; omega
      exact_mod_cast this
  show Scalar.select (Ideal.cmp .oge _ (Ideal.ofBits .f32 0x00000000#32)) (Ideal.exp (rate _ * max _ (Ideal.ofBits .f32 0x00000000#32))) (Ideal.ofBits .f32 0x00000000#32) = _
  rw [hle]
  refine masked _ i j _ _ (fun hh => ?_) Ideal.ofBits_zero_f32
  rw [Ideal.ofBits_zero_f32, max_eq_left]
  rw [← EReal.coe_zero, EReal.coe_le_coe_iff]
  have : (0 : ℤ) ≤ (i.val : ℤ) - (j.val : ℤ) := by have := Fin.le_def.mp hh; omega
  exact_mod_cast this

theorem fromEntry_apply (i : Fin 128) (h : Fin 8) : val_main_v42 (F := Ideal) g (ix2 i h) = fromEntry (g (ix2 0 h)) i := by
  rw [val_main_v42_apply, val_main_v41_apply, val_main_v39_apply, val_main_v35_apply, val_main_v40_apply, val_main_v38_apply,
    val_main_v36_apply, val_main_v37_apply]
  have e1 : idx_main_v35 (idx_main_v39 (ix2 i h)) = ix1 h := eq_ix1 _
  have e2 : idx_main_v36 (idx_main_v40 (ix2 i h)) = ix1 i := eq_ix1 _
  rw [e1, e2, rate_apply, pos_apply]
  rfl

theorem toEnd_apply (i : Fin 128) (h : Fin 8) : val_main_v50 (F := Ideal) g (ix2 i h) = toEnd (g (ix2 0 h)) i := by
  rw [val_main_v50_apply, val_main_v49_apply, val_main_v47_apply, val_main_v43_apply, val_main_v48_apply, val_main_v46_apply,
    val_main_v44_apply, val_main_v45_apply]
  have e1 : idx_main_v43 (idx_main_v47 (ix2 i h)) = ix1 h := eq_ix1 _
  have e2 : idx_main_v44 (idx_main_v48 (ix2 i h)) = ix1 i := eq_ix1 _
  rw [e1, e2, rate_apply, pos_apply]
  rfl

theorem across_apply (h : Fin 8) : val_main_v53 (F := Ideal) g (ix1 h) = across (g (ix2 0 h)) := by
  rw [val_main_v53_apply, val_main_v52_apply, val_main_v51_apply, rate_apply]
  rfl

/-! ### The first chunk, from the empty state -/

theorem q0 (b : Fin 32) (i : Fin 128) (h : Fin 8) (x : Fin 256) : val_main_v54 (F := Ideal) a (ix4 b i h x) = Q a b 0 h i x := by
  rw [val_main_v54_apply]
  exact query_apply a b ⟨i.val, by omega⟩ h x

theorem k0 (b : Fin 32) (i : Fin 128) (h : Fin 8) (x : Fin 256) : val_main_v55 (F := Ideal) a (ix4 b i h x) = K a b 0 h i x := by
  rw [val_main_v55_apply]
  exact key_apply a b ⟨i.val, by omega⟩ h x

theorem v0 (b : Fin 32) (i : Fin 128) (h : Fin 8) (e : Fin 512) : val_main_v56 (F := Ideal) a (ix4 b i h e) = V a b 0 h i e := by
  rw [val_main_v56_apply]
  exact value_apply a b ⟨i.val, by omega⟩ h e

theorem s0 (i : S32x8x256x512.Idx) : val_main_v13 (F := Ideal) i = 0 := by
  rw [val_main_v13_apply]
  exact Ideal.ofBits_zero_f32

theorem score0 (b : Fin 32) (h : Fin 8) (i j : Fin 128) :
    val_main_v60 (F := Ideal) a g (ix4 b h i j) = (∑ x : Fin 256, Q a b 0 h i x * K a b 0 h j x) * within (g (ix2 0 h)) i j := by
  rw [val_main_v60_apply, val_main_v57_apply, val_main_v59_apply, val_main_v58_apply]
  refine congrArg₂ (· * ·) (Finset.sum_congr rfl fun x _ => ?_) ?_
  · exact congrArg₂ (· * ·) (q0 a b i h x) (k0 a b j h x)
  · exact within_apply g h i j

theorem out0 (b : Fin 32) (i : Fin 128) (h : Fin 8) (e : Fin 512) :
    val_main_v68 (F := Ideal) a g (ix4 b i h e) = out (g (ix2 0 h)) (Q a b 0 h) (K a b 0 h) (V a b 0 h) (fun _ _ => 0) i e := by
  rw [val_main_v68_apply, val_main_v62_apply, val_main_v61_apply, val_main_v67_apply, val_main_v64_apply, val_main_v63_apply,
    val_main_v66_apply, val_main_v65_apply]
  unfold out
  refine congrArg₂ (· + ·) (Finset.sum_congr rfl fun j _ => ?_) (congrArg₂ (· * ·) (Finset.sum_congr rfl fun x _ => ?_) ?_)
  · have el : lidx_main_v61 (idx_main_v62 (ix4 b i h e)) j = ix4 b j h e := eq_ix4 _
    have er : ridx_main_v61 (idx_main_v62 (ix4 b i h e)) j = ix4 b h i j := eq_ix4 _
    rw [el, er, v0, score0]
    exact mul_comm _ _
  · exact (congrArg₂ (· * ·) (s0 _) (q0 a b i h x)).trans (mul_comm _ _)
  · exact fromEntry_apply g i h

theorem next0 (b : Fin 32) (h : Fin 8) (x : Fin 256) (e : Fin 512) :
    val_main_v76 (F := Ideal) a g (ix4 b h x e) = mid (g (ix2 0 h)) a b h x e := by
  rw [val_main_v76_apply, val_main_v71_apply, val_main_v70_apply, val_main_v69_apply, val_main_v75_apply]
  unfold mid next
  refine congrArg₂ (· + ·) (congrArg₂ (· * ·) (s0 _) (across_apply g h)) (Finset.sum_congr rfl fun j _ => ?_)
  rw [val_main_v74_apply, val_main_v73_apply, val_main_v72_apply]
  exact congrArg₂ (· * ·) (congrArg₂ (· * ·) (k0 a b j h x) (toEnd_apply g j h)) (v0 a b j h e)

/-! ### The second chunk, from the first one's state -/

theorem q1 (b : Fin 32) (i : Fin 128) (h : Fin 8) (x : Fin 256) : val_main_v77 (F := Ideal) a (ix4 b i h x) = Q a b 1 h i x := by
  rw [val_main_v77_apply]
  refine (query_apply a b ⟨128 + i.val, by omega⟩ h x).trans (congrArg a ?_)
  exact congrArg (fun r => ix2 r (qcol h x)) (Fin.ext (show b.val * 256 + (128 + i.val) = b.val * 256 + 1 * 128 + i.val by omega))

theorem k1 (b : Fin 32) (i : Fin 128) (h : Fin 8) (x : Fin 256) : val_main_v78 (F := Ideal) a (ix4 b i h x) = K a b 1 h i x := by
  rw [val_main_v78_apply]
  refine (key_apply a b ⟨128 + i.val, by omega⟩ h x).trans (congrArg (fun z => a z * scale) ?_)
  exact congrArg (fun r => ix2 r (kcol h x)) (Fin.ext (show b.val * 256 + (128 + i.val) = b.val * 256 + 1 * 128 + i.val by omega))

theorem v1 (b : Fin 32) (i : Fin 128) (h : Fin 8) (e : Fin 512) : val_main_v79 (F := Ideal) a (ix4 b i h e) = V a b 1 h i e := by
  rw [val_main_v79_apply]
  refine (value_apply a b ⟨128 + i.val, by omega⟩ h e).trans (congrArg a ?_)
  exact congrArg (fun r => ix2 r (vcol h e)) (Fin.ext (show b.val * 256 + (128 + i.val) = b.val * 256 + 1 * 128 + i.val by omega))

theorem score1 (b : Fin 32) (h : Fin 8) (i j : Fin 128) :
    val_main_v83 (F := Ideal) a g (ix4 b h i j) = (∑ x : Fin 256, Q a b 1 h i x * K a b 1 h j x) * within (g (ix2 0 h)) i j := by
  rw [val_main_v83_apply, val_main_v80_apply, val_main_v82_apply, val_main_v81_apply]
  refine congrArg₂ (· * ·) (Finset.sum_congr rfl fun x _ => ?_) ?_
  · exact congrArg₂ (· * ·) (q1 a b i h x) (k1 a b j h x)
  · exact within_apply g h i j

theorem out1 (b : Fin 32) (i : Fin 128) (h : Fin 8) (e : Fin 512) :
    val_main_v91 (F := Ideal) a g (ix4 b i h e) = out (g (ix2 0 h)) (Q a b 1 h) (K a b 1 h) (V a b 1 h) (mid (g (ix2 0 h)) a b h) i e := by
  rw [val_main_v91_apply, val_main_v85_apply, val_main_v84_apply, val_main_v90_apply, val_main_v87_apply, val_main_v86_apply,
    val_main_v89_apply, val_main_v88_apply]
  unfold out
  refine congrArg₂ (· + ·) (Finset.sum_congr rfl fun j _ => ?_) (congrArg₂ (· * ·) (Finset.sum_congr rfl fun x _ => ?_) ?_)
  · have el : lidx_main_v84 (idx_main_v85 (ix4 b i h e)) j = ix4 b j h e := eq_ix4 _
    have er : ridx_main_v84 (idx_main_v85 (ix4 b i h e)) j = ix4 b h i j := eq_ix4 _
    rw [el, er, v1, score1]
    exact mul_comm _ _
  · have el : lidx_main_v86 (idx_main_v87 (ix4 b i h e)) x = ix4 b h x e := eq_ix4 _
    have er : ridx_main_v86 (idx_main_v87 (ix4 b i h e)) x = ix4 b i h x := eq_ix4 _
    rw [el, er, next0, q1]
    exact mul_comm _ _
  · exact fromEntry_apply g i h

/-- The final state of head `h` of sequence `b`. -/
theorem next1 (b : Fin 32) (h : Fin 8) (x : Fin 256) (e : Fin 512) :
    val_main_v99 (F := Ideal) a g (ix4 b h x e) = next (g (ix2 0 h)) (K a b 1 h) (V a b 1 h) (mid (g (ix2 0 h)) a b h) x e := by
  rw [val_main_v99_apply, val_main_v94_apply, val_main_v93_apply, val_main_v92_apply, val_main_v98_apply]
  unfold next
  refine congrArg₂ (· + ·) (congrArg₂ (· * ·) (next0 a g b h x e) (across_apply g h)) (Finset.sum_congr rfl fun j _ => ?_)
  rw [val_main_v97_apply, val_main_v96_apply, val_main_v95_apply]
  exact congrArg₂ (· * ·) (congrArg₂ (· * ·) (k1 a b j h x) (toEnd_apply g j h)) (v1 a b j h e)

/-- The result's row of position `i` of chunk `n` of sequence `b`, column of value `e` of head `h`. -/
theorem result_idx (b : Fin 32) (n : Fin 2) (i : Fin 128) (h : Fin 8) (e : Fin 512) :
    idx_main_v101 (ix2 (row b n i) ⟨h.val * 512 + e.val, by omega⟩) = ix4 b ⟨n.val * 128 + i.val, by omega⟩ h e := by
  funext p; apply Fin.ext
  match p with
  | ⟨0, _⟩ => show ((b.val * 256 + n.val * 128 + i.val) * 4096 + (h.val * 512 + e.val)) / 1048576 = b.val; omega
  | ⟨1, _⟩ => show ((b.val * 256 + n.val * 128 + i.val) * 4096 + (h.val * 512 + e.val)) / 4096 % 256 = n.val * 128 + i.val; omega
  | ⟨2, _⟩ => show ((b.val * 256 + n.val * 128 + i.val) * 4096 + (h.val * 512 + e.val)) / 512 % 8 = h.val; omega
  | ⟨3, _⟩ => show ((b.val * 256 + n.val * 128 + i.val) * 4096 + (h.val * 512 + e.val)) % 512 = e.val; omega

theorem result0 (b : Fin 32) (i : Fin 128) (h : Fin 8) (e : Fin 512) :
    val_main_v101 (F := Ideal) a g (ix2 (row b 0 i) ⟨h.val * 512 + e.val, by omega⟩)
      = out (g (ix2 0 h)) (Q a b 0 h) (K a b 0 h) (V a b 0 h) (fun _ _ => 0) i e := by
  rw [val_main_v101_apply, result_idx, ← out0]
  unfold val_main_v100
  refine concatenate_pair_apply_left (t := S32x256x8x512) (s₁ := S32x128x8x512) (s₂ := S32x128x8x512) (1 : Fin 4) _ _ _ _ rfl (ix4 b i h e) (fun p => ?_)
  match p with
  | ⟨0, _⟩ => rfl
  | ⟨1, _⟩ => show i.val = 0 * 128 + i.val; omega
  | ⟨2, _⟩ => rfl
  | ⟨3, _⟩ => rfl

theorem result1 (b : Fin 32) (i : Fin 128) (h : Fin 8) (e : Fin 512) :
    val_main_v101 (F := Ideal) a g (ix2 (row b 1 i) ⟨h.val * 512 + e.val, by omega⟩)
      = out (g (ix2 0 h)) (Q a b 1 h) (K a b 1 h) (V a b 1 h) (mid (g (ix2 0 h)) a b h) i e := by
  rw [val_main_v101_apply, result_idx, ← out1]
  unfold val_main_v100
  refine concatenate_pair_apply_right (t := S32x256x8x512) (s₁ := S32x128x8x512) (s₂ := S32x128x8x512) (1 : Fin 4) _ _ _ _ rfl rfl (ix4 b i h e) (fun p hp => ?_) ?_
  · match p with
    | ⟨0, _⟩ => rfl
    | ⟨1, _⟩ => exact absurd rfl hp
    | ⟨2, _⟩ => rfl
    | ⟨3, _⟩ => rfl
  · show i.val + 128 = 1 * 128 + i.val; omega

end Cert.ReferenceIdeal.Retention
-- ==== Proof.Retention.lean ====
/- The forward retention (program 1). Point `t` of the 32 × 8 × 2 grid takes chunk `t % 2` of head `t / 2 % 8` of sequence
   `t / 16`. An even point starts from the empty state and leaves the state after the first chunk in scratch; the odd
   point after it takes that state, and writes the final one. -/
module

public import proofs.«01_k».proof.Defs
public import proofs.«01_k».proof.Proof.RetentionRef
public import proofs.«01_k».proof.Proof.Gen.ReferenceIdeal.Run
public import Idealize.ShloMosaic.Lib.Pipeline.ValueKit
public import Idealize.ShloMosaic.Lib.Pipeline.ReadBack

@[expose] public section

noncomputable section

open Idealize.ShloMosaic hiding ix1 ix2 ix3 ix4 eq_ix1 eq_ix2 eq_ix3 eq_ix4
open Idealize.ShloMosaic.TcCoe Idealize.SL.Sem
open Idealize.ShloMosaic.Pipeline (Dat)
open Idealize.ShloMosaic.ValueIdx

namespace Cert.KernelIdeal.Retention

open Cert.KernelIdeal Cert.KernelIdeal.Gen Cert.Retention

variable (m : (ℓ : Loc nD τ sig) → Buf (Elt Ideal) ℓ) (ρ : Dev nD → PrngReg)

/-- The projection and the decay parameters. -/
abbrev A (c : Dev nD) : Buf (Elt Ideal) ((c : Thread nD τ).loc main_arg0) := m ((c : Thread nD τ).loc main_arg0)
abbrev G (c : Dev nD) : Buf (Elt Ideal) ((c : Thread nD τ).loc main_arg1) := m ((c : Thread nD τ).loc main_arg1)
/-- The reference's two results, of the kernel's own arguments. -/
abbrev goal4 (c : Dev nD) : Buf (Elt Ideal) ((c : Thread nD τ).loc main_v0_0) :=
  Cert.ReferenceIdeal.Read.val_main_v101 (F := Ideal) (A m c) (G m c)
abbrev goal5 (c : Dev nD) : Buf (Elt Ideal) ((c : Thread nD τ).loc main_v0_1) :=
  Cert.ReferenceIdeal.Read.val_main_v99 (F := Ideal) (A m c) (G m c)

theorem N_eq : cfg0.N = 512 := N_0

/-- The sequence and the head of point `t`. -/
abbrev seqOf (t : Fin cfg0.N) : Fin 32 := ⟨t.val / 16, by have := t.isLt; have := N_eq; omega⟩
abbrev headOf (t : Fin cfg0.N) : Fin 8 := ⟨t.val / 2 % 8, by omega⟩
abbrev chunkOf (t : Fin cfg0.N) : Fin 2 := ⟨t.val % 2, by omega⟩

theorem where_blocks : ∀ t : Fin cfg0.N,
    (win0_0.index t 0 = 0 ∧ win0_0.index t 1 = 0) ∧ (win0_1.index t 0 = t.val / 16 * 2 + t.val % 2 ∧ win0_1.index t 1 = t.val / 2 % 8)
      ∧ (win0_2.index t 0 = t.val / 16 * 2 + t.val % 2 ∧ win0_2.index t 1 = 8 + t.val / 2 % 8)
      ∧ (win0_3.index t 0 = t.val / 16 * 2 + t.val % 2 ∧ win0_3.index t 1 = 8 + t.val / 2 % 8)
      ∧ (win0_4.index t 0 = t.val / 16 * 2 + t.val % 2 ∧ win0_4.index t 1 = t.val / 2 % 8)
      ∧ (win0_5.index t 0 = t.val / 16 ∧ win0_5.index t 1 = t.val / 2 % 8 ∧ win0_5.index t 2 = 0 ∧ win0_5.index t 3 = 0) :=
  (by decide +kernel : ∀ t : Fin grid0.N, _)

theorem where_decay : ∀ t : Fin cfg0.N, k0_off1 (grid0.coords t) 0 = 0 ∧ k0_off1 (grid0.coords t) 1 = t.val / 2 % 8 :=
  (by decide +kernel : ∀ t : Fin grid0.N, _)

theorem flush4 : ∀ t : Fin cfg0.N, (cfg0.win 4).flush t = true := (by decide +kernel : ∀ t : Fin grid0.N, _)
theorem flush5 : ∀ t : Fin cfg0.N, (cfg0.win 5).flush t = decide (t.val % 2 = 1) := (by decide +kernel : ∀ t : Fin grid0.N, _)

/-! ### The blocks a point reads -/

/-- The decay parameter of the point's head. -/
theorem decay_at (c : Dev nD) (t : Fin cfg0.N) (hb) (p) :
    View.ld (iblk m c 0 t) (Rect.unit (s := S2x8) (k0_off1 (grid0.coords t)) ![1, 1] hb) (Shape.Idx.first p)
      = G m c (ix2 0 (headOf t)) := by
  obtain ⟨⟨a0, a1⟩, -⟩ := where_blocks t
  obtain ⟨d0, d1⟩ := where_decay t
  rw [View.ld_unit]
  show G m c ((win0_0.rect t).emb _) = _
  refine congrArg (G m c) ?_
  funext a; apply Fin.ext
  match a with
  | ⟨0, _⟩ => exact (win0_0.rect_emb_val_of_index_zero t 0 a0 _).trans (by show k0_off1 (grid0.coords t) 0 + 0 = 0; omega)
  | ⟨1, _⟩ => exact (win0_0.rect_emb_val_of_index_zero t 1 a1 _).trans (by show k0_off1 (grid0.coords t) 1 + 0 = t.val / 2 % 8; omega)

theorem q_at (c : Dev nD) (t : Fin cfg0.N) (i : Fin 128) (x : Fin 256) :
    iblk m c 1 t (ix2 i x) = Q (A m c) (seqOf t) (chunkOf t) (headOf t) i x := by
  obtain ⟨-, ⟨a0, a1⟩, -⟩ := where_blocks t
  show A m c ((win0_1.rect t).emb (ix2 i x)) = _
  refine congrArg (A m c) ?_
  funext a; apply Fin.ext
  match a with
  | ⟨0, _⟩ => exact (win0_1.rect_emb_val t _ 0).trans (by rw [a0]; show (t.val / 16 * 2 + t.val % 2) * 128 + i.val = t.val / 16 * 256 + t.val % 2 * 128 + i.val; omega)
  | ⟨1, _⟩ => exact (win0_1.rect_emb_val t _ 1).trans (by rw [a1]; rfl)

theorem k_at (c : Dev nD) (t : Fin cfg0.N) : key (iblk m c 2 t) = K (A m c) (seqOf t) (chunkOf t) (headOf t) := by
  obtain ⟨-, -, ⟨a0, a1⟩, -⟩ := where_blocks t
  funext i x
  refine congrArg (fun z : EReal => z * scale) (?_ : A m c ((win0_2.rect t).emb (ix2 i x)) = A m c _)
  refine congrArg (A m c) ?_
  funext a; apply Fin.ext
  match a with
  | ⟨0, _⟩ => exact (win0_2.rect_emb_val t _ 0).trans (by rw [a0]; show (t.val / 16 * 2 + t.val % 2) * 128 + i.val = t.val / 16 * 256 + t.val % 2 * 128 + i.val; omega)
  | ⟨1, _⟩ => exact (win0_2.rect_emb_val t _ 1).trans (by rw [a1]; show (8 + t.val / 2 % 8) * 256 + x.val = 2048 + t.val / 2 % 8 * 256 + x.val; omega)

theorem v_at (c : Dev nD) (t : Fin cfg0.N) (i : Fin 128) (e : Fin 512) :
    iblk m c 3 t (ix2 i e) = V (A m c) (seqOf t) (chunkOf t) (headOf t) i e := by
  obtain ⟨-, -, -, ⟨a0, a1⟩, -⟩ := where_blocks t
  show A m c ((win0_3.rect t).emb (ix2 i e)) = _
  refine congrArg (A m c) ?_
  funext a; apply Fin.ext
  match a with
  | ⟨0, _⟩ => exact (win0_3.rect_emb_val t _ 0).trans (by rw [a0]; show (t.val / 16 * 2 + t.val % 2) * 128 + i.val = t.val / 16 * 256 + t.val % 2 * 128 + i.val; omega)
  | ⟨1, _⟩ => exact (win0_3.rect_emb_val t _ 1).trans (by rw [a1]; show (8 + t.val / 2 % 8) * 512 + e.val = 4096 + t.val / 2 % 8 * 512 + e.val; omega)

/-! ### What a point computes -/

/-- An even point's output and the state it leaves. -/
theorem even_out (c : Dev nD) (t : Fin cfg0.N) (h0 : t.val % 2 = 0) (i : Fin 128) (e : Fin 512) :
    (outsAt0 m c t.val t.isLt).1 (ix2 i e)
      = out (G m c (ix2 0 (headOf t))) (Q (A m c) (seqOf t) (chunkOf t) (headOf t)) (K (A m c) (seqOf t) (chunkOf t) (headOf t))
          (V (A m c) (seqOf t) (chunkOf t) (headOf t)) (fun _ _ => 0) i e := by
  rw [outsAt0_A m c t h0 (by omega)]
  frame_out
  rw [decay_at]
  refine (pay2_apply _ (iblk m c 1 t) (iblk m c 2 t) (iblk m c 3 t) (k0_pay6 (F := Ideal)) i e).trans ?_
  rw [k_at]
  simp only [q_at, v_at, pay6_apply]

theorem even_state (c : Dev nD) (t : Fin cfg0.N) (h0 : t.val % 2 = 0) (x : Fin 256) (e : Fin 512) :
    (outsAt0 m c t.val t.isLt).2.2 (ix2 x e) = mid (G m c (ix2 0 (headOf t))) (A m c) (seqOf t) (headOf t) x e := by
  rw [outsAt0_A m c t h0 (by omega)]
  frame_out
  rw [decay_at]
  refine (pay4_apply _ (iblk m c 2 t) (iblk m c 3 t) (k0_pay6 (F := Ideal)) x e).trans ?_
  rw [k_at]
  simp only [v_at, pay6_apply]
  have hc : chunkOf t = 0 := Fin.ext h0
  rw [hc]
  rfl

/-- The state an odd point finds. -/
theorem odd_found (c : Dev nD) (t : Fin cfg0.N) (h1 : t.val % 2 = 1) (x : Fin 256) (e : Fin 512) (hlt : t.val - 1 < cfg0.N) :
    (outsAt0 m c (t.val - 1) hlt).2.2 (ix2 x e) = mid (G m c (ix2 0 (headOf t))) (A m c) (seqOf t) (headOf t) x e := by
  refine (even_state m c ⟨t.val - 1, hlt⟩ (by show (t.val - 1) % 2 = 0; omega) x e).trans ?_
  have hs : seqOf ⟨t.val - 1, hlt⟩ = seqOf t := Fin.ext (by show (t.val - 1) / 16 = t.val / 16; omega)
  have hh : headOf ⟨t.val - 1, hlt⟩ = headOf t := Fin.ext (by show (t.val - 1) / 2 % 8 = t.val / 2 % 8; omega)
  rw [hs, hh]

theorem odd_out (c : Dev nD) (t : Fin cfg0.N) (h1 : t.val % 2 = 1) (i : Fin 128) (e : Fin 512) :
    (outsAt0 m c t.val t.isLt).1 (ix2 i e)
      = out (G m c (ix2 0 (headOf t))) (Q (A m c) (seqOf t) (chunkOf t) (headOf t)) (K (A m c) (seqOf t) (chunkOf t) (headOf t))
          (V (A m c) (seqOf t) (chunkOf t) (headOf t)) (mid (G m c (ix2 0 (headOf t))) (A m c) (seqOf t) (headOf t)) i e := by
  rw [outsAt0_B m c t (by omega) h1]
  frame_out
  rw [decay_at, read_unread_whole]
  refine (pay2_apply _ (iblk m c 1 t) (iblk m c 2 t) (iblk m c 3 t) _ i e).trans ?_
  rw [k_at]
  simp only [q_at, v_at, odd_found m c t h1]

theorem odd_state (c : Dev nD) (t : Fin cfg0.N) (h1 : t.val % 2 = 1) (x : Fin 256) (e : Fin 512) :
    (outsAt0 m c t.val t.isLt).2.1 (ix4 0 0 x e)
      = next (G m c (ix2 0 (headOf t))) (K (A m c) (seqOf t) (chunkOf t) (headOf t))
          (V (A m c) (seqOf t) (chunkOf t) (headOf t)) (mid (G m c (ix2 0 (headOf t))) (A m c) (seqOf t) (headOf t)) x e := by
  rw [outsAt0_B m c t (by omega) h1]
  frame_out
  rw [decay_at, read_unread_whole]
  refine (pay5_apply _ (iblk m c 2 t) (iblk m c 3 t) _ x e).trans ?_
  rw [k_at]
  simp only [v_at, odd_found m c t h1]

/-! ### The blocks a point writes -/

theorem flushed4_eq (c : Dev nD) (t : Fin cfg0.N) :
    (dats m 0 c).flushed 4 t = ((cfg0.win 4).blk t).view.read (Elt Ideal) (goal4 m c) := by
  rw [Value.flushed4]
  obtain ⟨-, -, -, -, ⟨a0, a1⟩, -⟩ := where_blocks t
  funext (y : S128x512.Idx)
  obtain ⟨i, e, rfl⟩ : ∃ i e, y = ix2 i e := ⟨y 0, y 1, eq_ix2 y⟩
  show (outsAt0 m c t.val t.isLt).1 (ix2 i e) = goal4 m c ((win0_4.rect t).emb (ix2 i e))
  have he : (win0_4.rect t).emb (ix2 i e) = ix2 (row (seqOf t) (chunkOf t) i) ⟨(headOf t).val * 512 + e.val, by omega⟩ := by
    funext a; apply Fin.ext
    match a with
    | ⟨0, _⟩ => exact (win0_4.rect_emb_val t _ 0).trans (by rw [a0]; show (t.val / 16 * 2 + t.val % 2) * 128 + i.val = t.val / 16 * 256 + t.val % 2 * 128 + i.val; omega)
    | ⟨1, _⟩ => exact (win0_4.rect_emb_val t _ 1).trans (by rw [a1]; rfl)
  rw [he]
  rcases Nat.mod_two_eq_zero_or_one t.val with h | h
  · rw [even_out m c t h, show chunkOf t = 0 from Fin.ext h]
    exact (Cert.ReferenceIdeal.Retention.result0 (A m c) (G m c) (seqOf t) i (headOf t) e).symm
  · rw [odd_out m c t h, show chunkOf t = 1 from Fin.ext h]
    exact (Cert.ReferenceIdeal.Retention.result1 (A m c) (G m c) (seqOf t) i (headOf t) e).symm

theorem flushed5_eq (c : Dev nD) (t : Fin cfg0.N) (hf : (cfg0.win 5).flush t = true) :
    (dats m 0 c).flushed 5 t = ((cfg0.win 5).blk t).view.read (Elt Ideal) (goal5 m c) := by
  have h : t.val % 2 = 1 := of_decide_eq_true ((flush5 t).symm.trans hf)
  rw [Value.flushed5]
  obtain ⟨-, -, -, -, -, a0, a1, a2, a3⟩ := where_blocks t
  funext (y : S1x1x256x512.Idx)
  obtain ⟨x, e, rfl⟩ : ∃ x e, y = ix4 0 0 x e := ⟨y 2, y 3, by
    have h0 : y 0 = (0 : Fin 1) := Fin.ext (by have : (y 0).val < 1 := (y 0).isLt; show (y 0).val = 0; omega)
    have h1 : y 1 = (0 : Fin 1) := Fin.ext (by have : (y 1).val < 1 := (y 1).isLt; show (y 1).val = 0; omega)
    rw [eq_ix4 y, h0, h1]; rfl⟩
  show (outsAt0 m c t.val t.isLt).2.1 (ix4 0 0 x e) = goal5 m c ((win0_5.rect t).emb (ix4 0 0 x e))
  have he : (win0_5.rect t).emb (ix4 0 0 x e) = ix4 (seqOf t) (headOf t) x e := by
    funext a; apply Fin.ext
    match a with
    | ⟨0, _⟩ => exact (win0_5.rect_emb_val t _ 0).trans (by rw [a0]; show t.val / 16 * 1 + 0 = t.val / 16; omega)
    | ⟨1, _⟩ => exact (win0_5.rect_emb_val t _ 1).trans (by rw [a1]; show t.val / 2 % 8 * 1 + 0 = t.val / 2 % 8; omega)
    | ⟨2, _⟩ => exact win0_5.rect_emb_val_of_index_zero t 2 a2 _
    | ⟨3, _⟩ => exact win0_5.rect_emb_val_of_index_zero t 3 a3 _
  rw [he, odd_state m c t h, show chunkOf t = 1 from Fin.ext h]
  exact (Cert.ReferenceIdeal.Retention.next1 (A m c) (G m c) (seqOf t) (headOf t) x e).symm

theorem mem_block4 (t : Fin cfg0.N) (i : S8192x4096.Idx) :
    i ∈ ((cfg0.win 4).blk t).view.set ↔ ∀ a, win0_4.index t a * win0_4.size a ≤ i a ∧ (i a : Nat) < win0_4.index t a * win0_4.size a + win0_4.size a := by
  show i ∈ ((View.whole main_v0_0).slice (win0_4.rect t)).set ↔ _
  rw [View.set_slice_whole, Rect.mem_set_unit]

theorem mem_block5 (t : Fin cfg0.N) (i : S32x8x256x512.Idx) :
    i ∈ ((cfg0.win 5).blk t).view.set ↔ ∀ a, win0_5.index t a * win0_5.size a ≤ i a ∧ (i a : Nat) < win0_5.index t a * win0_5.size a + win0_5.size a := by
  show i ∈ ((View.whole main_v0_1).slice (win0_5.rect t)).set ↔ _
  rw [View.set_slice_whole, Rect.mem_set_unit]

theorem cover4 (i : S8192x4096.Idx) : ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN := N_eq
  refine ⟨⟨(i 0 : Nat) / 256 * 16 + (i 1 : Nat) / 512 * 2 + (i 0 : Nat) / 128 % 2, by omega⟩, flush4 _, ?_⟩
  obtain ⟨-, -, -, -, ⟨a0, a1⟩, -⟩ := where_blocks ⟨(i 0 : Nat) / 256 * 16 + (i 1 : Nat) / 512 * 2 + (i 0 : Nat) / 128 % 2, by omega⟩
  rw [mem_block4]
  intro a
  match a with
  | ⟨0, _⟩ => show win0_4.index _ 0 * 128 ≤ (i 0 : Nat) ∧ (i 0 : Nat) < win0_4.index _ 0 * 128 + 128
              rw [a0]; dsimp only; omega
  | ⟨1, _⟩ => show win0_4.index _ 1 * 512 ≤ (i 1 : Nat) ∧ (i 1 : Nat) < win0_4.index _ 1 * 512 + 512
              rw [a1]; dsimp only; omega

theorem cover5 (i : S32x8x256x512.Idx) : ∃ t : Fin cfg0.N, (cfg0.win 5).flush t = true ∧ i ∈ ((cfg0.win 5).blk t).view.set := by
  have h0 : (i 0 : Nat) < 32 := (i 0).isLt
  have h1 : (i 1 : Nat) < 8 := (i 1).isLt
  have h2 : (i 2 : Nat) < 256 := (i 2).isLt
  have h3 : (i 3 : Nat) < 512 := (i 3).isLt
  have hN := N_eq
  refine ⟨⟨(i 0 : Nat) * 16 + (i 1 : Nat) * 2 + 1, by omega⟩, (flush5 _).trans (decide_eq_true (by dsimp only; omega)), ?_⟩
  obtain ⟨-, -, -, -, -, a0, a1, a2, a3⟩ := where_blocks ⟨(i 0 : Nat) * 16 + (i 1 : Nat) * 2 + 1, by omega⟩
  rw [mem_block5]
  intro a
  match a with
  | ⟨0, _⟩ => show win0_5.index _ 0 * 1 ≤ (i 0 : Nat) ∧ (i 0 : Nat) < win0_5.index _ 0 * 1 + 1
              rw [a0]; dsimp only; omega
  | ⟨1, _⟩ => show win0_5.index _ 1 * 1 ≤ (i 1 : Nat) ∧ (i 1 : Nat) < win0_5.index _ 1 * 1 + 1
              rw [a1]; dsimp only; omega
  | ⟨2, _⟩ => show win0_5.index _ 2 * 256 ≤ (i 2 : Nat) ∧ (i 2 : Nat) < win0_5.index _ 2 * 256 + 256
              rw [a2]; omega
  | ⟨3, _⟩ => show win0_5.index _ 3 * 512 ≤ (i 3 : Nat) ∧ (i 3 : Nat) < win0_5.index _ 3 * 512 + 512
              rw [a3]; omega

theorem final4 (c : Dev nD) : (dats m 0 c).arrAt 4 cfg0.N = goal4 m c :=
  (dats m 0 c).arrAt_eq_of_cover 4 (goal4 m c) (fun t _ => flushed4_eq m c t) cover4

theorem final5 (c : Dev nD) : (dats m 0 c).arrAt 5 cfg0.N = goal5 m c :=
  (dats m 0 c).arrAt_eq_of_cover 5 (goal5 m c) (fun t hf => flushed5_eq m c t hf) cover5

end Cert.KernelIdeal.Retention

namespace Cert.Proof

theorem algebraic1 : Cert.algebraic_KernelIdeal_ReferenceIdeal := fun m g m' g' _ hagree =>
  ⟨fun c => Cert.KernelIdeal.Retention.goal4 m c, fun c => Cert.KernelIdeal.Retention.goal5 m c,
    (θ_run _ _ _).mono (fun r h c => ⟨(h c).1.trans (Cert.KernelIdeal.Retention.final4 m c),
        (h c).2.1.trans (Cert.KernelIdeal.Retention.final5 m c), (h c).2.2⟩)
      (Cert.KernelIdeal.Value.run_blocks m g),
    (θ_run _ _ _).mono (fun r h c => ⟨(h c).1.trans (by
          rw [Cert.ReferenceIdeal.Read.val_main_v101_eq, (hagree c).1, (hagree c).2]),
        (h c).2.1.trans (by rw [(hagree c).1, (hagree c).2, Cert.ReferenceIdeal.Read.val_main_v99_eq]), (h c).2.2⟩)
      (Cert.ReferenceIdeal.Value.run m' g')⟩

end Cert.Proof
-- ==== Proof.MatmulIn.lean ====
/- The odd layer's input projection (program 2): `bf16(h · w_in)`, computed block by block over a 32 × 24 grid.
   Every point reads 1024 rows of `h` (all 2048 columns) and 512 columns of `w_in`, and writes the product of the two. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.MatmulPlain
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx

namespace Cert.Kernel2Ideal.MatmulIn

open Cert.Kernel2Ideal Cert.Kernel2Ideal.Gen

variable (m : (ℓ : Loc nD τ sig) → Buf (Elt Ideal) ℓ) (ρ : Dev nD → PrngReg)

/-- The reference's result, of the kernel's own two argument arrays. -/
abbrev goal (c : Dev nD) : Buf (Elt Ideal) ((c : Thread nD τ).loc main_v0) :=
  Cert.Reference2Ideal.Read.val_main_v3 (F := Ideal) (m ((c : Thread nD τ).loc main_arg0)) (m ((c : Thread nD τ).loc main_arg1))

theorem zeros2 : (![0, 0] : Fin 2 → Nat) = fun _ => 0 := funext fun a => by fin_cases a <;> rfl

/-- The blocks of point `t`: block row `t / 24`, block column `t % 24`. -/
theorem where_blocks : ∀ t : Fin cfg0.N,
    (win0_0.index t 0 = t.val / 24 ∧ win0_0.index t 1 = 0) ∧ (win0_1.index t 0 = 0 ∧ win0_1.index t 1 = t.val % 24)
      ∧ (win0_2.index t 0 = t.val / 24 ∧ win0_2.index t 1 = t.val % 24) :=
  (by decide +kernel : ∀ t : Fin grid0.N, _)

/-- One block product at row `r`, column `n`. -/
theorem block_product (x : Vec Ideal S1024x2048 .bf16) (w : Vec Ideal S2048x512 .bf16) (r : Fin 1024) (n : Fin 512) :
    k0_pay1 x w (ix2 r n) = ∑ k : Fin 2048, x (ix2 r k) * w (ix2 k n) := by
  show FloatOps.matmul (F := Ideal) (φ₁ := .bf16) (φ₂ := .bf16) (DotDims.plain 1024 2048 512) none x w (constant S1024x512 .f32 0x00000000#32) (ix2 r n) = _
  rw [Ideal.matmul_plain_apply]
  show Ideal.ofBits .f32 0x00000000#32 + _ = _
  rw [Ideal.ofBits_zero_f32, zero_add]

theorem flushed_eq (c : Dev nD) (t : Fin cfg0.N) :
    (dats m 0 c).flushed 2 t = ((cfg0.win 2).blk t).view.read (Elt Ideal) (goal m c) := by
  rw [Value.flushed2]
  unfold out0_2
  rw [View.canon_unit_zero zeros2, View.ld_unit_zero zeros2, View.ld_unit_zero zeros2]
  obtain ⟨⟨a0, a1⟩, ⟨b0, b1⟩, o0, o1⟩ := where_blocks t
  funext (y : S1024x512.Idx)
  obtain ⟨r, n, rfl⟩ : ∃ r n, y = ix2 r n := ⟨y 0, y 1, eq_ix2 y⟩
  refine (block_product (iblk m c 0 t) (iblk m c 1 t) r n).trans ?_
  show _ = Cert.Reference2Ideal.Read.val_main_v2 (F := Ideal) _ _ ((win0_2.rect t).emb (ix2 r n))
  rw [Cert.Reference2Ideal.Read.val_main_v2_apply]
  refine Finset.sum_congr rfl fun k _ => ?_
  have e0 : (win0_0.rect t).emb (ix2 r k) = Cert.Reference2Ideal.Read.lidx_main_v2 ((win0_2.rect t).emb (ix2 r n)) k := by
    funext a; apply Fin.ext
    match a with
    | ⟨0, _⟩ => exact ((win0_0.rect_emb_val t _ 0).trans (by rw [a0, o0]; rfl)).trans (win0_2.rect_emb_val t (ix2 r n) 0).symm
    | ⟨1, _⟩ => exact win0_0.rect_emb_val_of_index_zero t 1 a1 _
  have e1 : (win0_1.rect t).emb (ix2 k n) = Cert.Reference2Ideal.Read.ridx_main_v2 ((win0_2.rect t).emb (ix2 r n)) k := by
    funext a; apply Fin.ext
    match a with
    | ⟨0, _⟩ => exact win0_1.rect_emb_val_of_index_zero t 0 b0 _
    | ⟨1, _⟩ => exact ((win0_1.rect_emb_val t _ 1).trans (by rw [b1, o1]; rfl)).trans (win0_2.rect_emb_val t (ix2 r n) 1).symm
  exact congrArg₂ (· * ·) (congrArg (m ((c : Thread nD τ).loc main_arg0)) e0) (congrArg (m ((c : Thread nD τ).loc main_arg1)) e1)

theorem mem_block (t : Fin cfg0.N) (i : S32768x12288.Idx) :
    i ∈ ((cfg0.win 2).blk t).view.set ↔ ∀ a, win0_2.index t a * win0_2.size a ≤ i a ∧ (i a : Nat) < win0_2.index t a * win0_2.size a + win0_2.size a := by
  show i ∈ ((View.whole main_v0).slice (win0_2.rect t)).set ↔ _
  rw [View.set_slice_whole, Rect.mem_set_unit]

theorem cover (i : S32768x12288.Idx) :
    ∃ t : Fin cfg0.N, (cfg0.win 2).flush t = true ∧ i ∈ ((cfg0.win 2).blk t).view.set := by
  have h0 : (i 0 : Nat) < 32768 := (i 0).isLt
  have h1 : (i 1 : Nat) < 12288 := (i 1).isLt
  have hN : cfg0.N = 768 := N_0
  refine ⟨⟨(i 0 : Nat) / 1024 * 24 + (i 1 : Nat) / 512, by omega⟩, flush0_2 _, ?_⟩
  obtain ⟨-, -, o0, o1⟩ := where_blocks ⟨(i 0 : Nat) / 1024 * 24 + (i 1 : Nat) / 512, by omega⟩
  rw [mem_block]
  intro a
  match a with
  | ⟨0, _⟩ => show win0_2.index _ 0 * 1024 ≤ (i 0 : Nat) ∧ (i 0 : Nat) < win0_2.index _ 0 * 1024 + 1024
              rw [o0]; dsimp only; omega
  | ⟨1, _⟩ => show win0_2.index _ 1 * 512 ≤ (i 1 : Nat) ∧ (i 1 : Nat) < win0_2.index _ 1 * 512 + 512
              rw [o1]; dsimp only; omega

/-- After the run the result array is the reference's product. -/
theorem final (c : Dev nD) : (dats m 0 c).arrAt 2 cfg0.N = goal m c :=
  (dats m 0 c).arrAt_eq_of_cover 2 (goal m c) (fun t _ => flushed_eq m c t) cover

end Cert.Kernel2Ideal.MatmulIn

namespace Cert.Proof

theorem algebraic2 : Cert.algebraic_Kernel2Ideal_Reference2Ideal := fun m g m' g' _ hagree =>
  ⟨fun c => Cert.Kernel2Ideal.MatmulIn.goal m c,
    (θ_run _ _ _).mono (fun r h c => ⟨(h c).1.trans (Cert.Kernel2Ideal.MatmulIn.final m c), (h c).2⟩)
      (Cert.Kernel2Ideal.Value.run_blocks m g),
    (θ_run _ _ _).mono (fun r h c => ⟨(h c).1.trans (by
        rw [(hagree c).1, (hagree c).2, Cert.Reference2Ideal.Read.val_main_v3_eq]), (h c).2⟩)
      (Cert.Reference2Ideal.Value.run m' g')⟩

end Cert.Proof
-- ==== Proof.MatmulEven.lean ====
/- The even layer's input projection (program 3): `h · w_in` in float32, computed block by block over a 32 × 9 grid.
   Every point reads 1024 rows of `h` (all 2048 columns) and 512 columns of `w_in`, and writes the product of the two. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.MatmulPlain
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx

namespace Cert.Kernel3Ideal.MatmulEven

open Cert.Kernel3Ideal Cert.Kernel3Ideal.Gen

variable (m : (ℓ : Loc nD τ sig) → Buf (Elt Ideal) ℓ) (ρ : Dev nD → PrngReg)

/-- The reference's result, of the kernel's own two argument arrays. -/
abbrev goal (c : Dev nD) : Buf (Elt Ideal) ((c : Thread nD τ).loc main_v0) :=
  Cert.Reference3Ideal.Read.val_main_v2 (F := Ideal) (m ((c : Thread nD τ).loc main_arg0)) (m ((c : Thread nD τ).loc main_arg1))

theorem zeros2 : (![0, 0] : Fin 2 → Nat) = fun _ => 0 := funext fun a => by fin_cases a <;> rfl

/-- The blocks of point `t`: block row `t / 9`, block column `t % 9`. -/
theorem where_blocks : ∀ t : Fin cfg0.N,
    (win0_0.index t 0 = t.val / 9 ∧ win0_0.index t 1 = 0) ∧ (win0_1.index t 0 = 0 ∧ win0_1.index t 1 = t.val % 9)
      ∧ (win0_2.index t 0 = t.val / 9 ∧ win0_2.index t 1 = t.val % 9) :=
  (by decide +kernel : ∀ t : Fin grid0.N, _)

/-- One block product at row `r`, column `n`. -/
theorem block_product (x : Vec Ideal S1024x2048 .bf16) (w : Vec Ideal S2048x512 .bf16) (r : Fin 1024) (n : Fin 512) :
    k0_pay1 x w (ix2 r n) = ∑ k : Fin 2048, x (ix2 r k) * w (ix2 k n) := by
  show FloatOps.matmul (F := Ideal) (φ₁ := .bf16) (φ₂ := .bf16) (DotDims.plain 1024 2048 512) none x w (constant S1024x512 .f32 0x00000000#32) (ix2 r n) = _
  rw [Ideal.matmul_plain_apply]
  show Ideal.ofBits .f32 0x00000000#32 + _ = _
  rw [Ideal.ofBits_zero_f32, zero_add]

theorem flushed_eq (c : Dev nD) (t : Fin cfg0.N) :
    (dats m 0 c).flushed 2 t = ((cfg0.win 2).blk t).view.read (Elt Ideal) (goal m c) := by
  rw [Value.flushed2]
  unfold out0_2
  rw [View.canon_unit_zero zeros2, View.ld_unit_zero zeros2, View.ld_unit_zero zeros2]
  obtain ⟨⟨a0, a1⟩, ⟨b0, b1⟩, o0, o1⟩ := where_blocks t
  funext (y : S1024x512.Idx)
  obtain ⟨r, n, rfl⟩ : ∃ r n, y = ix2 r n := ⟨y 0, y 1, eq_ix2 y⟩
  refine (block_product (iblk m c 0 t) (iblk m c 1 t) r n).trans ?_
  show _ = Cert.Reference3Ideal.Read.val_main_v2 (F := Ideal) _ _ ((win0_2.rect t).emb (ix2 r n))
  rw [Cert.Reference3Ideal.Read.val_main_v2_apply]
  refine Finset.sum_congr rfl fun k _ => ?_
  have e0 : (win0_0.rect t).emb (ix2 r k) = Cert.Reference3Ideal.Read.lidx_main_v2 ((win0_2.rect t).emb (ix2 r n)) k := by
    funext a; apply Fin.ext
    match a with
    | ⟨0, _⟩ => exact ((win0_0.rect_emb_val t _ 0).trans (by rw [a0, o0]; rfl)).trans (win0_2.rect_emb_val t (ix2 r n) 0).symm
    | ⟨1, _⟩ => exact win0_0.rect_emb_val_of_index_zero t 1 a1 _
  have e1 : (win0_1.rect t).emb (ix2 k n) = Cert.Reference3Ideal.Read.ridx_main_v2 ((win0_2.rect t).emb (ix2 r n)) k := by
    funext a; apply Fin.ext
    match a with
    | ⟨0, _⟩ => exact win0_1.rect_emb_val_of_index_zero t 0 b0 _
    | ⟨1, _⟩ => exact ((win0_1.rect_emb_val t _ 1).trans (by rw [b1, o1]; rfl)).trans (win0_2.rect_emb_val t (ix2 r n) 1).symm
  exact congrArg₂ (· * ·) (congrArg (m ((c : Thread nD τ).loc main_arg0)) e0) (congrArg (m ((c : Thread nD τ).loc main_arg1)) e1)

theorem mem_block (t : Fin cfg0.N) (i : S32768x4608.Idx) :
    i ∈ ((cfg0.win 2).blk t).view.set ↔ ∀ a, win0_2.index t a * win0_2.size a ≤ i a ∧ (i a : Nat) < win0_2.index t a * win0_2.size a + win0_2.size a := by
  show i ∈ ((View.whole main_v0).slice (win0_2.rect t)).set ↔ _
  rw [View.set_slice_whole, Rect.mem_set_unit]

theorem cover (i : S32768x4608.Idx) :
    ∃ t : Fin cfg0.N, (cfg0.win 2).flush t = true ∧ i ∈ ((cfg0.win 2).blk t).view.set := by
  have h0 : (i 0 : Nat) < 32768 := (i 0).isLt
  have h1 : (i 1 : Nat) < 4608 := (i 1).isLt
  have hN : cfg0.N = 288 := N_0
  refine ⟨⟨(i 0 : Nat) / 1024 * 9 + (i 1 : Nat) / 512, by omega⟩, flush0_2 _, ?_⟩
  obtain ⟨-, -, o0, o1⟩ := where_blocks ⟨(i 0 : Nat) / 1024 * 9 + (i 1 : Nat) / 512, by omega⟩
  rw [mem_block]
  intro a
  match a with
  | ⟨0, _⟩ => show win0_2.index _ 0 * 1024 ≤ (i 0 : Nat) ∧ (i 0 : Nat) < win0_2.index _ 0 * 1024 + 1024
              rw [o0]; dsimp only; omega
  | ⟨1, _⟩ => show win0_2.index _ 1 * 512 ≤ (i 1 : Nat) ∧ (i 1 : Nat) < win0_2.index _ 1 * 512 + 512
              rw [o1]; dsimp only; omega

/-- After the run the result array is the reference's product. -/
theorem final (c : Dev nD) : (dats m 0 c).arrAt 2 cfg0.N = goal m c :=
  (dats m 0 c).arrAt_eq_of_cover 2 (goal m c) (fun t _ => flushed_eq m c t) cover

end Cert.Kernel3Ideal.MatmulEven

namespace Cert.Proof

theorem algebraic3 : Cert.algebraic_Kernel3Ideal_Reference3Ideal := fun m g m' g' _ hagree =>
  ⟨fun c => Cert.Kernel3Ideal.MatmulEven.goal m c,
    (θ_run _ _ _).mono (fun r h c => ⟨(h c).1.trans (Cert.Kernel3Ideal.MatmulEven.final m c), (h c).2⟩)
      (Cert.Kernel3Ideal.Value.run_blocks m g),
    (θ_run _ _ _).mono (fun r h c => ⟨(h c).1.trans (by
        rw [(hagree c).1, (hagree c).2, Cert.Reference3Ideal.Read.val_main_v2_eq]), (h c).2⟩)
      (Cert.Reference3Ideal.Value.run m' g')⟩

end Cert.Proof
-- ==== Proof.MatmulOut.lean ====
/- The odd layer's output projection with its gated residual (program 4): `x + g · (o · w_out)`, the gate `g` one row of
   `mods` per batch row.  The grid is 32 × 4: a point owns 1024 rows and 512 columns of the result. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.MatmulPlain
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx

namespace Cert.Kernel4Ideal.MatmulOut

open Cert.Kernel4Ideal Cert.Kernel4Ideal.Gen

variable (m : (ℓ : Loc nD τ sig) → Buf (Elt Ideal) ℓ) (ρ : Dev nD → PrngReg)

/-- The reference's result, of the kernel's own argument arrays. -/
abbrev goal (c : Dev nD) : Buf (Elt Ideal) ((c : Thread nD τ).loc main_v0) :=
  Cert.Reference4Ideal.Read.val_main_v12 (F := Ideal) (m ((c : Thread nD τ).loc main_arg0)) (m ((c : Thread nD τ).loc main_arg1))
    (m ((c : Thread nD τ).loc main_arg2)) (m ((c : Thread nD τ).loc main_arg3))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The blocks of point `t`: block row `t / 4`, block column `t % 4`; the gate's row is of batch row `t / 16`. -/
theorem where_blocks : ∀ t : Fin cfg0.N,
    (win0_0.index t 0 = t.val / 4 ∧ win0_0.index t 1 = 0) ∧ (win0_1.index t 0 = 0 ∧ win0_1.index t 1 = t.val % 4)
      ∧ (win0_2.index t 0 = t.val / 4 ∧ win0_2.index t 1 = t.val % 4)
      ∧ (win0_3.index t 0 = (1 + t.val / 16) * 6 + 2 ∧ win0_3.index t 1 = 0 ∧ win0_3.index t 2 = t.val % 4)
      ∧ (win0_4.index t 0 = t.val / 4 ∧ win0_4.index t 1 = t.val % 4) :=
  (by decide +kernel : ∀ t : Fin grid0.N, _)

/-- One block of the result at row `r`, column `n`. -/
theorem block_value (o : Vec Ideal S1024x4096 .bf16) (w : Vec Ideal S4096x512 .bf16) (x : Vec Ideal S1024x512 .f32)
    (g : Vec Ideal S1x1x512 .f32) (r : Fin 1024) (n : Fin 512) :
    k0_pay1 o w x g (ix2 r n) = x (ix2 r n) + g (ix3 0 0 n) * ∑ k : Fin 4096, o (ix2 r k) * w (ix2 k n) := by
  have hg : broadcastTo S1024x512 (shapeCast S1x512 g shapeCasts_S1x1x512_S1x512 : Vec Ideal S1x512 .f32) broadcasts_S1x512_S1024x512 (ix2 r n)
      = g (ix3 0 0 n) := by
    rw [broadcastTo_apply _ broadcasts_S1x512_S1024x512 (ix2 r n) (ix2 0 n) (by
      intro a
      match a with
      | ⟨0, _⟩ => rfl
      | ⟨1, _⟩ => rfl)]
    exact shapeCast_apply g shapeCasts_S1x1x512_S1x512 _ (ix3 0 0 n) (by
      rw [Shape.rowMajor_val_three, Shape.rowMajor_val_two]; rfl)
  show x (ix2 r n) + broadcastTo S1024x512 (shapeCast S1x512 g shapeCasts_S1x1x512_S1x512 : Vec Ideal S1x512 .f32) broadcasts_S1x512_S1024x512 (ix2 r n)
    * FloatOps.matmul (F := Ideal) (φ₁ := .bf16) (φ₂ := .bf16) (DotDims.plain 1024 4096 512) none o w (constant S1024x512 .f32 0x00000000#32) (ix2 r n) = _
  rw [hg, Ideal.matmul_plain_apply]
  show _ + _ * (Ideal.ofBits .f32 0x00000000#32 + _) = _
  rw [Ideal.ofBits_zero_f32, zero_add]

/-- The reference at row `i 0`, column `i 1`. -/
theorem goal_apply (o : (⟨S32768x4096, .bf16⟩ : BufTy).Contents (Elt Ideal)) (w : (⟨S4096x2048, .bf16⟩ : BufTy).Contents (Elt Ideal))
    (x : (⟨S32768x2048, .f32⟩ : BufTy).Contents (Elt Ideal)) (g : (⟨S96x1x2048, .f32⟩ : BufTy).Contents (Elt Ideal))
    (r : Fin 32768) (n : Fin 2048) (q : Fin 96) (hq : q.val = (1 + r.val / 4096) * 6 + 2) :
    Cert.Reference4Ideal.Read.val_main_v12 (F := Ideal) o w x g (ix2 r n)
      = x (ix2 r n) + g (ix3 q 0 n) * ∑ k : Fin 4096, o (ix2 r k) * w (ix2 k n) := by
  have hr := r.isLt
  have hn := n.isLt
  rw [Cert.Reference4Ideal.Read.val_main_v12_apply, Cert.Reference4Ideal.Read.val_main_v11_apply,
    Cert.Reference4Ideal.Read.val_main_v10_apply, Cert.Reference4Ideal.Read.val_main_v9_apply,
    Cert.Reference4Ideal.Read.val_main_v8_apply, Cert.Reference4Ideal.Read.val_main_v7_apply,
    Cert.Reference4Ideal.Read.val_main_v6_apply, Cert.Reference4Ideal.Read.val_main_v3_apply,
    Cert.Reference4Ideal.Read.val_main_v2_apply, Cert.Reference4Ideal.Read.val_main_v1_apply,
    Cert.Reference4Ideal.Read.val_main_v0_apply]
  have back : ∀ (i : Cert.Reference4Ideal.S32768x2048.Idx), i 0 = r → i 1 = n → i = ix2 r n := fun i h0 h1 => by
    rw [eq_ix2 i, h0, h1]; rfl
  refine congrArg₂ (· + ·) (congrArg x (back _ (Fin.ext ?_) (Fin.ext ?_))) (congrArg₂ (· * ·) (congrArg g ?_)
    (Finset.sum_congr rfl fun k _ => congrArg₂ (· * ·) (congrArg o ?_) (congrArg w ?_)))
  · show ((((r.val * 2048 + n.val) / 8388608) * 4096 + (r.val * 2048 + n.val) / 2048 % 4096) * 2048 + (r.val * 2048 + n.val) % 2048) / 2048 = r.val
    omega
  · show ((((r.val * 2048 + n.val) / 8388608) * 4096 + (r.val * 2048 + n.val) / 2048 % 4096) * 2048 + (r.val * 2048 + n.val) % 2048) % 2048 = n.val
    omega
  · funext a; apply Fin.ext
    match a with
    | ⟨0, _⟩ => dsimp [ix3, ix2]; rw [hq]; omega
    | ⟨1, _⟩ => rfl
    | ⟨2, _⟩ => dsimp [ix3, ix2]; omega
  · funext a; apply Fin.ext
    match a with
    | ⟨0, _⟩ => dsimp [ix3, ix2]; omega
    | ⟨1, _⟩ => rfl
  · funext a; apply Fin.ext
    match a with
    | ⟨0, _⟩ => rfl
    | ⟨1, _⟩ => dsimp [ix3, ix2]; omega

theorem flushed_eq (c : Dev nD) (t : Fin cfg0.N) :
    (dats m 0 c).flushed 4 t = ((cfg0.win 4).blk t).view.read (Elt Ideal) (goal m c) := by
  rw [Value.flushed4]
  unfold out0_4
  rw [View.canon_unit_zero zeros2, View.ld_unit_zero zeros2, View.ld_unit_zero zeros2, View.ld_unit_zero zeros2,
    View.ld_unit_zero zeros3]
  obtain ⟨⟨a0, a1⟩, ⟨b0, b1⟩, ⟨x0, x1⟩, ⟨g0, g1, g2⟩, o0, o1⟩ := where_blocks t
  funext (y : S1024x512.Idx)
  obtain ⟨r, n, rfl⟩ : ∃ r n, y = ix2 r n := ⟨y 0, y 1, eq_ix2 y⟩
  have ht : t.val < 128 := lt_of_lt_of_eq t.isLt N_0
  have hr := r.isLt
  have hn := n.isLt
  refine (block_value (iblk m c 0 t) (iblk m c 1 t) (iblk m c 2 t) (iblk m c 3 t) r n).trans ?_
  show _ = Cert.Reference4Ideal.Read.val_main_v12 (F := Ideal) _ _ _ _ ((win0_4.rect t).emb (ix2 r n))
  have hR : t.val / 4 * 1024 + r.val < 32768 := by omega
  have hC : t.val % 4 * 512 + n.val < 2048 := by omega
  have eo : (win0_4.rect t).emb (ix2 r n) = ix2 ⟨t.val / 4 * 1024 + r.val, hR⟩ ⟨t.val % 4 * 512 + n.val, hC⟩ := by
    funext a; apply Fin.ext
    match a with
    | ⟨0, _⟩ => exact (win0_4.rect_emb_val t _ 0).trans (by rw [o0]; rfl)
    | ⟨1, _⟩ => exact (win0_4.rect_emb_val t _ 1).trans (by rw [o1]; rfl)
  have ex : (win0_2.rect t).emb (ix2 r n) = ix2 ⟨t.val / 4 * 1024 + r.val, hR⟩ ⟨t.val % 4 * 512 + n.val, hC⟩ := by
    funext a; apply Fin.ext
    match a with
    | ⟨0, _⟩ => exact (win0_2.rect_emb_val t _ 0).trans (by rw [x0]; rfl)
    | ⟨1, _⟩ => exact (win0_2.rect_emb_val t _ 1).trans (by rw [x1]; rfl)
  have hQ : (1 + t.val / 16) * 6 + 2 < 96 := by omega
  have eg : (win0_3.rect t).emb (ix3 0 0 n) = ix3 ⟨(1 + t.val / 16) * 6 + 2, hQ⟩ 0 ⟨t.val % 4 * 512 + n.val, hC⟩ := by
    funext a; apply Fin.ext
    match a with
    | ⟨0, _⟩ => exact (win0_3.rect_emb_val t _ 0).trans (by rw [g0]; show ((1 + t.val / 16) * 6 + 2) * 1 + 0 = (1 + t.val / 16) * 6 + 2; omega)
    | ⟨1, _⟩ => exact win0_3.rect_emb_val_of_index_zero t 1 g1 _
    | ⟨2, _⟩ => exact (win0_3.rect_emb_val t _ 2).trans (by rw [g2]; rfl)
  rw [eo, goal_apply _ _ _ _ _ _ ⟨(1 + t.val / 16) * 6 + 2, hQ⟩ (by
    show (1 + t.val / 16) * 6 + 2 = (1 + (t.val / 4 * 1024 + r.val) / 4096) * 6 + 2
    omega)]
  refine congrArg₂ (· + ·) (congrArg (m ((c : Thread nD τ).loc main_arg2)) ex) (congrArg₂ (· * ·)
    (congrArg (m ((c : Thread nD τ).loc main_arg3)) eg) (Finset.sum_congr rfl fun k _ => ?_))
  have e0 : (win0_0.rect t).emb (ix2 r k) = ix2 ⟨t.val / 4 * 1024 + r.val, hR⟩ k := by
    funext a; apply Fin.ext
    match a with
    | ⟨0, _⟩ => exact (win0_0.rect_emb_val t _ 0).trans (by rw [a0]; rfl)
    | ⟨1, _⟩ => exact win0_0.rect_emb_val_of_index_zero t 1 a1 _
  have e1 : (win0_1.rect t).emb (ix2 k n) = ix2 k ⟨t.val % 4 * 512 + n.val, hC⟩ := by
    funext a; apply Fin.ext
    match a with
    | ⟨0, _⟩ => exact win0_1.rect_emb_val_of_index_zero t 0 b0 _
    | ⟨1, _⟩ => exact (win0_1.rect_emb_val t _ 1).trans (by rw [b1]; rfl)
  exact congrArg₂ (· * ·) (congrArg (m ((c : Thread nD τ).loc main_arg0)) e0) (congrArg (m ((c : Thread nD τ).loc main_arg1)) e1)

theorem mem_block (t : Fin cfg0.N) (i : S32768x2048.Idx) :
    i ∈ ((cfg0.win 4).blk t).view.set ↔ ∀ a, win0_4.index t a * win0_4.size a ≤ i a ∧ (i a : Nat) < win0_4.index t a * win0_4.size a + win0_4.size a := by
  show i ∈ ((View.whole main_v0).slice (win0_4.rect t)).set ↔ _
  rw [View.set_slice_whole, Rect.mem_set_unit]

theorem cover (i : S32768x2048.Idx) :
    ∃ t : Fin cfg0.N, (cfg0.win 4).flush t = true ∧ i ∈ ((cfg0.win 4).blk t).view.set := by
  have h0 : (i 0 : Nat) < 32768 := (i 0).isLt
  have h1 : (i 1 : Nat) < 2048 := (i 1).isLt
  have hN : cfg0.N = 128 := N_0
  refine ⟨⟨(i 0 : Nat) / 1024 * 4 + (i 1 : Nat) / 512, by omega⟩, flush0_4 _, ?_⟩
  obtain ⟨-, -, -, -, o0, o1⟩ := where_blocks ⟨(i 0 : Nat) / 1024 * 4 + (i 1 : Nat) / 512, by omega⟩
  rw [mem_block]
  intro a
  match a with
  | ⟨0, _⟩ => show win0_4.index _ 0 * 1024 ≤ (i 0 : Nat) ∧ (i 0 : Nat) < win0_4.index _ 0 * 1024 + 1024
              rw [o0]; dsimp only; omega
  | ⟨1, _⟩ => show win0_4.index _ 1 * 512 ≤ (i 1 : Nat) ∧ (i 1 : Nat) < win0_4.index _ 1 * 512 + 512
              rw [o1]; dsimp only; omega

/-- After the run the result array is the reference's. -/
theorem final (c : Dev nD) : (dats m 0 c).arrAt 4 cfg0.N = goal m c :=
  (dats m 0 c).arrAt_eq_of_cover 4 (goal m c) (fun t _ => flushed_eq m c t) cover

end Cert.Kernel4Ideal.MatmulOut

namespace Cert.Proof

theorem algebraic4 : Cert.algebraic_Kernel4Ideal_Reference4Ideal := fun m g m' g' _ hagree =>
  ⟨fun c => Cert.Kernel4Ideal.MatmulOut.goal m c,
    (θ_run _ _ _).mono (fun r h c => ⟨(h c).1.trans (Cert.Kernel4Ideal.MatmulOut.final m c), (h c).2⟩)
      (Cert.Kernel4Ideal.Value.run_blocks m g),
    (θ_run _ _ _).mono (fun r h c => ⟨(h c).1.trans (by
        rw [(hagree c).1, (hagree c).2.1, (hagree c).2.2.1, (hagree c).2.2.2, Cert.Reference4Ideal.Read.val_main_v12_eq]), (h c).2⟩)
      (Cert.Reference4Ideal.Value.run m' g')⟩

end Cert.Proof
-- ==== Proof.MatmulOutEven.lean ====
/- The even layer's output projection with its gated residual (program 5): `x + g · ([ya, yb] · [w_out_a; w_out_b])`, the gate `g` one row of
   `mods` per batch row.  The grid is 32 × 4: a point owns 1024 rows and 512 columns of the result. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value
public import Idealize.ShloMosaic.Lib.MatmulPlain
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx

namespace Cert.Kernel5Ideal.MatmulOutEven

open Cert.Kernel5Ideal Cert.Kernel5Ideal.Gen

variable (m : (ℓ : Loc nD τ sig) → Buf (Elt Ideal) ℓ) (ρ : Dev nD → PrngReg)

/-- The reference's result, of the kernel's own argument arrays. -/
abbrev goal (c : Dev nD) : Buf (Elt Ideal) ((c : Thread nD τ).loc main_v0) :=
  Cert.Reference5Ideal.Read.val_main_v14 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The blocks of point `t`: block row `t / 4`, block column `t % 4`; the gate's row is of batch row `t / 16`. -/
theorem where_blocks : ∀ t : Fin cfg0.N,
    ((win0_0.index t 0 = t.val / 4 ∧ win0_0.index t 1 = 0) ∧ (win0_1.index t 0 = t.val / 4 ∧ win0_1.index t 1 = 0))
      ∧ ((win0_2.index t 0 = 0 ∧ win0_2.index t 1 = t.val % 4) ∧ (win0_3.index t 0 = 0 ∧ win0_3.index t 1 = t.val % 4))
      ∧ (win0_4.index t 0 = t.val / 4 ∧ win0_4.index t 1 = t.val % 4)
      ∧ (win0_5.index t 0 = (1 + t.val / 16) * 6 + 2 ∧ win0_5.index t 1 = 0 ∧ win0_5.index t 2 = t.val % 4)
      ∧ (win0_6.index t 0 = t.val / 4 ∧ win0_6.index t 1 = t.val % 4) :=
  (by decide +kernel : ∀ t : Fin grid0.N, _)

/-- One block of the result at row `r`, column `n`: both halves' products are summed before the gate. -/
theorem block_value (ya : Vec Ideal S1024x1024 .bf16) (wa : Vec Ideal S1024x512 .bf16) (yb : Vec Ideal S1024x1024 .bf16)
    (wb : Vec Ideal S1024x512 .bf16) (x : Vec Ideal S1024x512 .f32) (g : Vec Ideal S1x1x512 .f32) (r : Fin 1024) (n : Fin 512) :
    k0_pay1 ya wa yb wb x g (ix2 r n) = x (ix2 r n) + g (ix3 0 0 n)
      * ((∑ k : Fin 1024, ya (ix2 r k) * wa (ix2 k n)) + ∑ k : Fin 1024, yb (ix2 r k) * wb (ix2 k n)) := by
  have hg : broadcastTo S1024x512 (shapeCast S1x512 g shapeCasts_S1x1x512_S1x512 : Vec Ideal S1x512 .f32) broadcasts_S1x512_S1024x512 (ix2 r n)
      = g (ix3 0 0 n) := by
    rw [broadcastTo_apply _ broadcasts_S1x512_S1024x512 (ix2 r n) (ix2 0 n) (by
      intro a
      match a with
      | ⟨0, _⟩ => rfl
      | ⟨1, _⟩ => rfl)]
    exact shapeCast_apply g shapeCasts_S1x1x512_S1x512 _ (ix3 0 0 n) (by
      rw [Shape.rowMajor_val_three, Shape.rowMajor_val_two]; rfl)
  show x (ix2 r n) + broadcastTo S1024x512 (shapeCast S1x512 g shapeCasts_S1x1x512_S1x512 : Vec Ideal S1x512 .f32) broadcasts_S1x512_S1024x512 (ix2 r n)
    * (FloatOps.matmul (F := Ideal) (φ₁ := .bf16) (φ₂ := .bf16) (DotDims.plain 1024 1024 512) none ya wa (constant S1024x512 .f32 0x00000000#32) (ix2 r n)
      + FloatOps.matmul (F := Ideal) (φ₁ := .bf16) (φ₂ := .bf16) (DotDims.plain 1024 1024 512) none yb wb (constant S1024x512 .f32 0x00000000#32) (ix2 r n)) = _
  rw [hg, Ideal.matmul_plain_apply, Ideal.matmul_plain_apply]
  show _ + _ * ((Ideal.ofBits .f32 0x00000000#32 + _) + (Ideal.ofBits .f32 0x00000000#32 + _)) = _
  rw [Ideal.ofBits_zero_f32, zero_add, zero_add]

/-- The reference's two concatenations, at an index of either half. -/
theorem rows_left (ya yb : (⟨S32768x1024, .bf16⟩ : BufTy).Contents (Elt Ideal)) (r : Fin 32768) (k : Fin 1024) (i : Cert.Reference5Ideal.S32768x2048.Idx)
    (h0 : (i 0).val = r.val) (h1 : (i 1).val = k.val) : Cert.Reference5Ideal.Read.val_main_v4 (F := Ideal) ya yb i = ya (ix2 r k) :=
  concatenate_pair_apply_left (t := S32768x2048) (s₁ := S32768x1024) (s₂ := S32768x1024) (1 : Fin 2) _ _ _ i rfl (ix2 r k) (by
    intro b
    match b with
    | ⟨0, _⟩ => exact h0.symm
    | ⟨1, _⟩ => exact h1.symm)
theorem rows_right (ya yb : (⟨S32768x1024, .bf16⟩ : BufTy).Contents (Elt Ideal)) (r : Fin 32768) (k : Fin 1024) (i : Cert.Reference5Ideal.S32768x2048.Idx)
    (h0 : (i 0).val = r.val) (h1 : (i 1).val = 1024 + k.val) : Cert.Reference5Ideal.Read.val_main_v4 (F := Ideal) ya yb i = yb (ix2 r k) :=
  concatenate_pair_apply_right (t := S32768x2048) (s₁ := S32768x1024) (s₂ := S32768x1024) (1 : Fin 2) _ _ _ i rfl rfl (ix2 r k) (by
    intro b hb
    match b with
    | ⟨0, _⟩ => exact h0.symm
    | ⟨1, _⟩ => exact absurd rfl hb) ((Nat.add_comm _ _).trans h1.symm)
theorem weights_left (wa wb : (⟨S1024x2048, .bf16⟩ : BufTy).Contents (Elt Ideal)) (k : Fin 1024) (n : Fin 2048) (i : Cert.Reference5Ideal.S2048x2048.Idx)
    (h0 : (i 0).val = k.val) (h1 : (i 1).val = n.val) : Cert.Reference5Ideal.Read.val_main_v6 (F := Ideal) wa wb i = wa (ix2 k n) :=
  concatenate_pair_apply_left (t := Cert.Reference5Ideal.S2048x2048) (s₁ := S1024x2048) (s₂ := S1024x2048) (0 : Fin 2) _ _ _ i rfl (ix2 k n) (by
    intro b
    match b with
    | ⟨0, _⟩ => exact h0.symm
    | ⟨1, _⟩ => exact h1.symm)
theorem weights_right (wa wb : (⟨S1024x2048, .bf16⟩ : BufTy).Contents (Elt Ideal)) (k : Fin 1024) (n : Fin 2048) (i : Cert.Reference5Ideal.S2048x2048.Idx)
    (h0 : (i 0).val = 1024 + k.val) (h1 : (i 1).val = n.val) : Cert.Reference5Ideal.Read.val_main_v6 (F := Ideal) wa wb i = wb (ix2 k n) :=
  concatenate_pair_apply_right (t := Cert.Reference5Ideal.S2048x2048) (s₁ := S1024x2048) (s₂ := S1024x2048) (0 : Fin 2) _ _ _ i rfl rfl (ix2 k n) (by
    intro b hb
    match b with
    | ⟨0, _⟩ => exact absurd rfl hb
    | ⟨1, _⟩ => exact h1.symm) ((Nat.add_comm _ _).trans h0.symm)

/-- The reference at row `r`, column `n`: its one contraction over 2048 positions falls into the two halves'. -/
theorem goal_apply (ya yb : (⟨S32768x1024, .bf16⟩ : BufTy).Contents (Elt Ideal)) (wa wb : (⟨S1024x2048, .bf16⟩ : BufTy).Contents (Elt Ideal))
    (x : (⟨S32768x2048, .f32⟩ : BufTy).Contents (Elt Ideal)) (g : (⟨S96x1x2048, .f32⟩ : BufTy).Contents (Elt Ideal))
    (r : Fin 32768) (n : Fin 2048) (q : Fin 96) (hq : q.val = (1 + r.val / 4096) * 6 + 2) :
    Cert.Reference5Ideal.Read.val_main_v14 (F := Ideal) ya yb wa wb x g (ix2 r n)
      = x (ix2 r n) + g (ix3 q 0 n)
        * ((∑ k : Fin 1024, ya (ix2 r k) * wa (ix2 k n)) + ∑ k : Fin 1024, yb (ix2 r k) * wb (ix2 k n)) := by
  have hr := r.isLt
  have hn := n.isLt
  rw [Cert.Reference5Ideal.Read.val_main_v14_apply, Cert.Reference5Ideal.Read.val_main_v13_apply,
    Cert.Reference5Ideal.Read.val_main_v12_apply, Cert.Reference5Ideal.Read.val_main_v11_apply,
    Cert.Reference5Ideal.Read.val_main_v10_apply, Cert.Reference5Ideal.Read.val_main_v9_apply,
    Cert.Reference5Ideal.Read.val_main_v8_apply, Cert.Reference5Ideal.Read.val_main_v3_apply,
    Cert.Reference5Ideal.Read.val_main_v2_apply, Cert.Reference5Ideal.Read.val_main_v1_apply,
    Cert.Reference5Ideal.Read.val_main_v0_apply]
  have back : ∀ (i : Cert.Reference5Ideal.S32768x2048.Idx), i 0 = r → i 1 = n → i = ix2 r n := fun i h0 h1 => by
    rw [eq_ix2 i, h0, h1]; rfl
  rw [show ∀ f : Fin 2048 → EReal, ∑ k, f k = (∑ k : Fin 1024, f (Fin.castAdd 1024 k)) + ∑ k : Fin 1024, f (Fin.natAdd 1024 k)
    from fun f => Fin.sum_univ_add (a := 1024) (b := 1024) f]
  refine congrArg₂ (· + ·) (congrArg x (back _ (Fin.ext ?_) (Fin.ext ?_))) (congrArg₂ (· * ·) (congrArg g ?_)
    (congrArg₂ (· + ·) (Finset.sum_congr rfl fun k _ => congrArg₂ (· * ·) (rows_left ya yb r k _ ?_ ?_) (weights_left wa wb k n _ ?_ ?_))
      (Finset.sum_congr rfl fun k _ => congrArg₂ (· * ·) (rows_right ya yb r k _ ?_ ?_) (weights_right wa wb k n _ ?_ ?_))))
  · show ((((r.val * 2048 + n.val) / 8388608) * 4096 + (r.val * 2048 + n.val) / 2048 % 4096) * 2048 + (r.val * 2048 + n.val) % 2048) / 2048 = r.val
    omega
  · show ((((r.val * 2048 + n.val) / 8388608) * 4096 + (r.val * 2048 + n.val) / 2048 % 4096) * 2048 + (r.val * 2048 + n.val) % 2048) % 2048 = n.val
    omega
  · funext a; apply Fin.ext
    match a with
    | ⟨0, _⟩ => dsimp [ix3, ix2]; rw [hq]; omega
    | ⟨1, _⟩ => rfl
    | ⟨2, _⟩ => dsimp [ix3, ix2]; omega
  · dsimp [ix2]; omega
  · rfl
  · rfl
  · dsimp [ix2]; omega
  · dsimp [ix2]; omega
  · rfl
  · rfl
  · dsimp [ix2]; omega

theorem flushed_eq (c : Dev nD) (t : Fin cfg0.N) :
    (dats m 0 c).flushed 6 t = ((cfg0.win 6).blk t).view.read (Elt Ideal) (goal m c) := by
  rw [Value.flushed6]
  unfold out0_6
  rw [View.canon_unit_zero zeros2, View.ld_unit_zero zeros2, View.ld_unit_zero zeros2, View.ld_unit_zero zeros2,
    View.ld_unit_zero zeros2, View.ld_unit_zero zeros2,
    View.ld_unit_zero zeros3]
  obtain ⟨⟨⟨a0, a1⟩, c0, c1⟩, ⟨⟨b0, b1⟩, d0, d1⟩, ⟨x0, x1⟩, ⟨g0, g1, g2⟩, o0, o1⟩ := where_blocks t
  funext (y : S1024x512.Idx)
  obtain ⟨r, n, rfl⟩ : ∃ r n, y = ix2 r n := ⟨y 0, y 1, eq_ix2 y⟩
  have ht : t.val < 128 := lt_of_lt_of_eq t.isLt N_0
  have hr := r.isLt
  have hn := n.isLt
  refine (block_value (iblk m c 0 t) (iblk m c 2 t) (iblk m c 1 t) (iblk m c 3 t) (iblk m c 4 t) (iblk m c 5 t) r n).trans ?_
  show _ = Cert.Reference5Ideal.Read.val_main_v14 (F := Ideal) _ _ _ _ _ _ ((win0_6.rect t).emb (ix2 r n))
  have hR : t.val / 4 * 1024 + r.val < 32768 := by omega
  have hC : t.val % 4 * 512 + n.val < 2048 := by omega
  have eo : (win0_6.rect t).emb (ix2 r n) = ix2 ⟨t.val / 4 * 1024 + r.val, hR⟩ ⟨t.val % 4 * 512 + n.val, hC⟩ := by
    funext a; apply Fin.ext
    match a with
    | ⟨0, _⟩ => exact (win0_6.rect_emb_val t _ 0).trans (by rw [o0]; rfl)
    | ⟨1, _⟩ => exact (win0_6.rect_emb_val t _ 1).trans (by rw [o1]; rfl)
  have ex : (win0_4.rect t).emb (ix2 r n) = ix2 ⟨t.val / 4 * 1024 + r.val, hR⟩ ⟨t.val % 4 * 512 + n.val, hC⟩ := by
    funext a; apply Fin.ext
    match a with
    | ⟨0, _⟩ => exact (win0_4.rect_emb_val t _ 0).trans (by rw [x0]; rfl)
    | ⟨1, _⟩ => exact (win0_4.rect_emb_val t _ 1).trans (by rw [x1]; rfl)
  have hQ : (1 + t.val / 16) * 6 + 2 < 96 := by omega
  have eg : (win0_5.rect t).emb (ix3 0 0 n) = ix3 ⟨(1 + t.val / 16) * 6 + 2, hQ⟩ 0 ⟨t.val % 4 * 512 + n.val, hC⟩ := by
    funext a; apply Fin.ext
    match a with
    | ⟨0, _⟩ => exact (win0_5.rect_emb_val t _ 0).trans (by rw [g0]; show ((1 + t.val / 16) * 6 + 2) * 1 + 0 = (1 + t.val / 16) * 6 + 2; omega)
    | ⟨1, _⟩ => exact win0_5.rect_emb_val_of_index_zero t 1 g1 _
    | ⟨2, _⟩ => exact (win0_5.rect_emb_val t _ 2).trans (by rw [g2]; rfl)
  rw [eo, goal_apply _ _ _ _ _ _ _ _ ⟨(1 + t.val / 16) * 6 + 2, hQ⟩ (by
    show (1 + t.val / 16) * 6 + 2 = (1 + (t.val / 4 * 1024 + r.val) / 4096) * 6 + 2
    omega)]
  refine congrArg₂ (· + ·) (congrArg (m ((c : Thread nD τ).loc main_arg4)) ex) (congrArg₂ (· * ·)
    (congrArg (m ((c : Thread nD τ).loc main_arg5)) eg) (congrArg₂ (· + ·) (Finset.sum_congr rfl fun k _ => ?_)
      (Finset.sum_congr rfl fun k _ => ?_)))
  · have e0 : (win0_0.rect t).emb (ix2 r k) = ix2 ⟨t.val / 4 * 1024 + r.val, hR⟩ k := by
      funext a; apply Fin.ext
      match a with
      | ⟨0, _⟩ => exact (win0_0.rect_emb_val t _ 0).trans (by rw [a0]; rfl)
      | ⟨1, _⟩ => exact win0_0.rect_emb_val_of_index_zero t 1 a1 _
    have e1 : (win0_2.rect t).emb (ix2 k n) = ix2 k ⟨t.val % 4 * 512 + n.val, hC⟩ := by
      funext a; apply Fin.ext
      match a with
      | ⟨0, _⟩ => exact win0_2.rect_emb_val_of_index_zero t 0 b0 _
      | ⟨1, _⟩ => exact (win0_2.rect_emb_val t _ 1).trans (by rw [b1]; rfl)
    exact congrArg₂ (· * ·) (congrArg (m ((c : Thread nD τ).loc main_arg0)) e0) (congrArg (m ((c : Thread nD τ).loc main_arg2)) e1)
  · have e0 : (win0_1.rect t).emb (ix2 r k) = ix2 ⟨t.val / 4 * 1024 + r.val, hR⟩ k := by
      funext a; apply Fin.ext
      match a with
      | ⟨0, _⟩ => exact (win0_1.rect_emb_val t _ 0).trans (by rw [c0]; rfl)
      | ⟨1, _⟩ => exact win0_1.rect_emb_val_of_index_zero t 1 c1 _
    have e1 : (win0_3.rect t).emb (ix2 k n) = ix2 k ⟨t.val % 4 * 512 + n.val, hC⟩ := by
      funext a; apply Fin.ext
      match a with
      | ⟨0, _⟩ => exact win0_3.rect_emb_val_of_index_zero t 0 d0 _
      | ⟨1, _⟩ => exact (win0_3.rect_emb_val t _ 1).trans (by rw [d1]; rfl)
    exact congrArg₂ (· * ·) (congrArg (m ((c : Thread nD τ).loc main_arg1)) e0) (congrArg (m ((c : Thread nD τ).loc main_arg3)) e1)

theorem mem_block (t : Fin cfg0.N) (i : S32768x2048.Idx) :
    i ∈ ((cfg0.win 6).blk t).view.set ↔ ∀ a, win0_6.index t a * win0_6.size a ≤ i a ∧ (i a : Nat) < win0_6.index t a * win0_6.size a + win0_6.size a := by
  show i ∈ ((View.whole main_v0).slice (win0_6.rect t)).set ↔ _
  rw [View.set_slice_whole, Rect.mem_set_unit]

theorem cover (i : S32768x2048.Idx) :
    ∃ t : Fin cfg0.N, (cfg0.win 6).flush t = true ∧ i ∈ ((cfg0.win 6).blk t).view.set := by
  have h0 : (i 0 : Nat) < 32768 := (i 0).isLt
  have h1 : (i 1 : Nat) < 2048 := (i 1).isLt
  have hN : cfg0.N = 128 := N_0
  refine ⟨⟨(i 0 : Nat) / 1024 * 4 + (i 1 : Nat) / 512, by omega⟩, flush0_6 _, ?_⟩
  obtain ⟨-, -, -, -, o0, o1⟩ := where_blocks ⟨(i 0 : Nat) / 1024 * 4 + (i 1 : Nat) / 512, by omega⟩
  rw [mem_block]
  intro a
  match a with
  | ⟨0, _⟩ => show win0_6.index _ 0 * 1024 ≤ (i 0 : Nat) ∧ (i 0 : Nat) < win0_6.index _ 0 * 1024 + 1024
              rw [o0]; dsimp only; omega
  | ⟨1, _⟩ => show win0_6.index _ 1 * 512 ≤ (i 1 : Nat) ∧ (i 1 : Nat) < win0_6.index _ 1 * 512 + 512
              rw [o1]; dsimp only; omega

/-- After the run the result array is the reference's. -/
theorem final (c : Dev nD) : (dats m 0 c).arrAt 6 cfg0.N = goal m c :=
  (dats m 0 c).arrAt_eq_of_cover 6 (goal m c) (fun t _ => flushed_eq m c t) cover

end Cert.Kernel5Ideal.MatmulOutEven

namespace Cert.Proof

theorem algebraic5 : Cert.algebraic_Kernel5Ideal_Reference5Ideal := fun m g m' g' _ hagree =>
  ⟨fun c => Cert.Kernel5Ideal.MatmulOutEven.goal m c,
    (θ_run _ _ _).mono (fun r h c => ⟨(h c).1.trans (Cert.Kernel5Ideal.MatmulOutEven.final m c), (h c).2⟩)
      (Cert.Kernel5Ideal.Value.run_blocks m g),
    (θ_run _ _ _).mono (fun r h c => ⟨(h c).1.trans (by
        rw [(hagree c).1, (hagree c).2.1, (hagree c).2.2.1, (hagree c).2.2.2.1, (hagree c).2.2.2.2.1, (hagree c).2.2.2.2.2, Cert.Reference5Ideal.Read.val_main_v14_eq]), (h c).2⟩)
      (Cert.Reference5Ideal.Value.run m' g')⟩

end Cert.Proof
-- ==== Proof.RetentionBackChunk.lean ====
/- The backward retention's chunk: the forward one of `RetentionChunk.lean` on positions counted from the chunk's end, then
   the sum with the forward output, its normalisation over a head's 512 values and its gate; and the kernel's payloads
   read as that. -/
module

public import proofs.«01_k».proof.Proof.RetentionChunk
public import proofs.«01_k».proof.Proof.Gen.Kernel6Ideal.Value

@[expose] public section

noncomputable section

open Idealize.ShloMosaic Idealize.ShloMosaic.TcCoe Idealize.SL.Sem
open Idealize.ShloMosaic.ValueIdx
open scoped BigOperators

namespace Cert.Retention

/-- The projection read from the sequence's end: chunk `n` counted from the last, position `i` from the chunk's last. -/
abbrev QR (a : (⟨2, ![8192, 12288]⟩ : Shape).Idx → EReal) (b : Fin 32) (n : Fin 2) (h : Fin 8) (i : Fin 128) (x : Fin 256) : EReal := Q a b n.rev h i.rev x
abbrev KR (a : (⟨2, ![8192, 12288]⟩ : Shape).Idx → EReal) (b : Fin 32) (n : Fin 2) (h : Fin 8) (j : Fin 128) (x : Fin 256) : EReal := K a b n.rev h j.rev x
abbrev VR (a : (⟨2, ![8192, 12288]⟩ : Shape).Idx → EReal) (b : Fin 32) (n : Fin 2) (h : Fin 8) (j : Fin 128) (e : Fin 512) : EReal := V a b n.rev h j.rev e
/-- The state after the first chunk from the end. -/
def midR (d : EReal) (a : (⟨2, ![8192, 12288]⟩ : Shape).Idx → EReal) (b : Fin 32) (h : Fin 8) : Fin 256 → Fin 512 → EReal :=
  next d (KR a b 0 h) (VR a b 0 h) (fun _ _ => 0)

/-- The mean of a head's 512 values, and their variance about it. -/
def mean (y : Fin 512 → EReal) : EReal := Ideal.div (∑ e, y e) (Ideal.ofBits .f32 0x44000000#32)
def variance (y : Fin 512 → EReal) : EReal :=
  Ideal.div (∑ e, (y e - mean y) * (y e - mean y)) (Ideal.ofBits .f32 0x44000000#32)
/-- A head's values normalised, scaled by `w`, and gated by `g`. -/
def gated (y : Fin 512 → EReal) (w g : EReal) (e : Fin 512) : EReal :=
  (g * Ideal.logistic g) * (((y e - mean y) * Ideal.rsqrt (variance y + Ideal.ofBits .f32 0x358637BD#32)) * w)

theorem ofBits_127 : Ideal.ofBits .f32 0x42FE0000#32 = ((127 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num

theorem pos_rev (i : Fin 128) : pos i.rev = ((127 - (i.val : ℝ) : ℝ) : EReal) := by
  unfold pos
  refine congrArg (fun z : ℝ => (z : EReal)) ?_
  rw [Fin.val_rev, show 128 - (i.val + 1) = 127 - i.val by omega, Nat.cast_sub (by omega)]
  push_cast
  rfl

/-- The decays of a position counted from the end, in the position counted from the start. -/
theorem fromEntry_rev (d : EReal) (i : Fin 128) : Ideal.exp (rate d * (Ideal.ofBits .f32 0x43000000#32 - pos i)) = fromEntry d i.rev := by
  unfold fromEntry
  refine congrArg (fun z => Ideal.exp (rate d * z)) ?_
  rw [pos_rev, ofBits_128, ofBits_1]
  show ((128 : ℝ) : EReal) - ((((i.val : ℤ) : ℝ)) : EReal) = _
  rw [← EReal.coe_sub, ← EReal.coe_add]
  refine congrArg (fun z : ℝ => (z : EReal)) ?_
  push_cast
  ring

theorem toEnd_rev (d : EReal) (j : Fin 128) : Ideal.exp (rate d * pos j) = toEnd d j.rev := by
  unfold toEnd
  refine congrArg (fun z => Ideal.exp (rate d * z)) ?_
  rw [pos_rev, ofBits_127, ← EReal.coe_sub]
  unfold pos
  refine congrArg (fun z : ℝ => (z : EReal)) ?_
  push_cast
  ring

theorem sge_rev : ∀ i j : Fin 128, IntOp.cmpi .sge (IntOp.subi (BitVec.ofNat 32 j.val) (BitVec.ofNat 32 i.val)) 0#32 = BitVec.ofBool (decide (j.rev ≤ i.rev)) := by
  decide +kernel
theorem max_rev : ∀ i j : Fin 128, j.rev ≤ i.rev → (IntOp.maxsi (IntOp.subi (BitVec.ofNat 32 j.val) (BitVec.ofNat 32 i.val)) 0#32).toInt = (i.rev.val : ℤ) - (j.rev.val : ℤ) := by
  decide +kernel

/-- A sum over a chunk's positions, taken from the end. -/
theorem sum_rev (f : Fin 128 → EReal) : ∑ j, f j = ∑ j : Fin 128, f j.rev :=
  (Equiv.sum_comp Fin.revPerm f).symm

end Cert.Retention

namespace Cert.Kernel6Ideal.Retention

open Cert.Kernel6Ideal Cert.Kernel6Ideal.Gen Cert.Retention
open Cert.KernelIdeal.Retention (zero_sub_exp key)

theorem pay4_apply (d : EReal) (i j : Fin 128) : k0_pay4 (F := Ideal) d (ix2 i j) = within d i.rev j.rev := by
  rw [← masked d i.rev j.rev ((((IntOp.maxsi (IntOp.subi (BitVec.ofNat 32 j.val) (BitVec.ofNat 32 i.val)) 0#32).toInt : ℝ)) : EReal)
    (Ideal.ofBits .f32 0x00000000#32) (fun h => by rw [max_rev i j h]) Ideal.ofBits_zero_f32, ← sge_rev, ← zero_sub_exp]
  show Scalar.select (IntOp.cmpi .sge (IntOp.subi (iota .tc S128x128 32 [1] _ (ix2 i j)) (iota .tc S128x128 32 [0] _ (ix2 i j))) 0#32)
    (Ideal.exp (_ * (((IntOp.maxsi (IntOp.subi (iota .tc S128x128 32 [1] _ (ix2 i j)) (iota .tc S128x128 32 [0] _ (ix2 i j))) 0#32).toInt : ℝ) : EReal))) _ = _
  rw [iota_single_apply, iota_single_apply]
  rfl

theorem pay5_apply (i : Fin 128) : k0_pay5 (F := Ideal) (ix2 i 0) = pos i := by
  show (((iota .tc S128x1 32 [0] _ (ix2 i 0)).toInt : ℝ) : EReal) = _
  rw [iota_single_apply]
  exact congrArg (fun z : ℤ => ((z : ℝ) : EReal)) (toInt_small i)

theorem pay6_apply (d : EReal) (i : Fin 128) : k0_pay6 (F := Ideal) d (ix2 i 0) = rate d := zero_sub_exp d

theorem pay7_apply (d : EReal) (i : Fin 128) : k0_pay7 (F := Ideal) d (ix2 i 0) = fromEntry d i.rev := by
  show Ideal.exp (k0_pay6 (F := Ideal) d (ix2 i 0) * (Ideal.ofBits .f32 0x43000000#32 - k0_pay5 (F := Ideal) (ix2 i 0))) = _
  rw [pay6_apply, pay5_apply, fromEntry_rev]

theorem pay8_apply (d : EReal) (i : Fin 128) : k0_pay8 (F := Ideal) d (ix2 i 0) = toEnd d i.rev := by
  show Ideal.exp (k0_pay6 (F := Ideal) d (ix2 i 0) * k0_pay5 (F := Ideal) (ix2 i 0)) = _
  rw [pay6_apply, pay5_apply, toEnd_rev]

theorem pay9_apply (d : EReal) : k0_pay9 (F := Ideal) d (ix2 0 0) = across d := by
  show Ideal.exp ((Ideal.ofBits .f32 0x00000000#32 - Ideal.exp d) * _) = _
  rw [zero_sub_exp]; rfl

theorem pay3_apply (x : Fin 256) (e : Fin 512) : k0_pay3 (F := Ideal) (ix2 x e) = 0 := by
  unfold k0_pay3
  rw [shapeCast_self]
  exact Ideal.ofBits_zero_f32

/-- The sum of the forward output and the chunk's. -/
theorem pay13_apply (d : EReal) (q k : Vec Ideal S128x256 .bf16) (v : Vec Ideal S128x512 .bf16) (s : Vec Ideal S256x512 .f32)
    (o : Vec Ideal S128x512 .f32) (i : Fin 128) (e : Fin 512) :
    k0_pay13 (F := Ideal) (k0_pay4 d) (k0_pay7 d) q k v s o (ix2 i e)
      = o (ix2 i e) + out d (fun i x => q (ix2 i.rev x)) (fun j x => key k j.rev x) (fun j e => v (ix2 j.rev e)) (fun x e => s (ix2 x e)) i.rev e := by
  refine congrArg (o (ix2 i e) + ·) ?_
  show FloatOps.matmul (F := Ideal) (φ₁ := .bf16) (φ₂ := .bf16) (DotDims.plain 128 128 512) none
      (fun y => FloatOps.matmul (F := Ideal) (φ₁ := .bf16) (φ₂ := .bf16) (DotDims.transposedRhs 128 256 128) none q
        (fun y => k y * scale) (constant S128x128 .f32 0x00000000#32) y * k0_pay4 (F := Ideal) d y) v (constant S128x512 .f32 0x00000000#32) (ix2 i e)
    + FloatOps.matmul (F := Ideal) (φ₁ := .bf16) (φ₂ := .bf16) (DotDims.plain 128 256 512) none q s (constant S128x512 .f32 0x00000000#32) (ix2 i e)
      * broadcastTo S128x512 (k0_pay7 (F := Ideal) d) broadcasts_S128x1_S128x512 (ix2 i e) = _
  rw [Ideal.matmul_plain_apply, Ideal.matmul_plain_apply,
    broadcastTo_apply _ _ (ix2 i e) (ix2 i 0) (by intro a; match a with | ⟨0, _⟩ => rfl | ⟨1, _⟩ => rfl), pay7_apply]
  show (Ideal.ofBits .f32 0x00000000#32 + _) + (Ideal.ofBits .f32 0x00000000#32 + _) * _ = _
  rw [Ideal.ofBits_zero_f32, zero_add, zero_add, sum_rev]
  unfold out
  simp only [Fin.rev_rev]
  refine congrArg (· + _) (Finset.sum_congr rfl fun j _ => ?_)
  rw [Ideal.matmul_transposedRhs_apply, pay4_apply, Fin.rev_rev]
  show ((Ideal.ofBits .f32 0x00000000#32 + _) * _) * _ = _
  rw [Ideal.ofBits_zero_f32, zero_add]

theorem pay11_apply (d : EReal) (k : Vec Ideal S128x256 .bf16) (v : Vec Ideal S128x512 .bf16) (s : Vec Ideal S256x512 .f32) (x : Fin 256) (e : Fin 512) :
    k0_pay11 (F := Ideal) (k0_pay8 d) (k0_pay9 d) k v s (ix2 x e)
      = next d (fun j x => key k j.rev x) (fun j e => v (ix2 j.rev e)) (fun x e => s (ix2 x e)) x e := by
  show s (ix2 x e) * broadcastTo S256x512 (k0_pay9 (F := Ideal) d) broadcasts_S1x1_S256x512 (ix2 x e)
    + FloatOps.matmul (F := Ideal) (φ₁ := .bf16) (φ₂ := .bf16) Cert.KernelIdeal.dot_S128x256_S128x512_S256x512_0_0_1_1_n_n none
        (fun y => (k y * scale) * broadcastTo S128x256 (k0_pay8 (F := Ideal) d) broadcasts_S128x1_S128x256 y) v (constant S256x512 .f32 0x00000000#32) (ix2 x e) = _
  rw [Cert.KernelIdeal.Retention.matmul_first_apply, broadcastTo_apply _ _ (ix2 x e) (ix2 0 0) (by intro a; match a with | ⟨0, _⟩ => rfl | ⟨1, _⟩ => rfl), pay9_apply]
  show _ + (Ideal.ofBits .f32 0x00000000#32 + _) = _
  rw [Ideal.ofBits_zero_f32, zero_add, sum_rev]
  refine congrArg (_ + ·) (Finset.sum_congr rfl fun j _ => ?_)
  rw [broadcastTo_apply _ _ (ix2 j.rev x) (ix2 j.rev 0) (by intro a; match a with | ⟨0, _⟩ => rfl | ⟨1, _⟩ => rfl), pay8_apply, Fin.rev_rev]

theorem pay12_apply (d : EReal) (k : Vec Ideal S128x256 .bf16) (v : Vec Ideal S128x512 .bf16) (s : Vec Ideal S256x512 .f32) (x : Fin 256) (e : Fin 512) :
    k0_pay12 (F := Ideal) (k0_pay8 d) (k0_pay9 d) k v s (ix2 x e)
      = next d (fun j x => key k j.rev x) (fun j e => v (ix2 j.rev e)) (fun x e => s (ix2 x e)) x e := by
  unfold k0_pay12
  rw [shapeCast_self]
  exact pay11_apply d k v s x e

theorem pay2_apply (s : FVec Ideal S256x512 .f32) (x : Fin 256) (e : Fin 512) : k0_pay2 (F := Ideal) s (ix4 0 0 x e) = s (ix2 x e) :=
  shapeCast_apply _ _ (ix4 0 0 x e) (ix2 x e) (by rw [Shape.rowMajor_val_two, Shape.rowMajor_val_four]; show x.val * 512 + e.val = ((0 * 1 + 0) * 256 + x.val) * 512 + e.val; omega)

/-- A row's sum over its 512 values, kept as a column. -/
theorem rowSum_apply (y : FVec Ideal S128x512 .f32) (h) (h1) (h2) (i : Fin 128) :
    shapeCast S128x1 (multiReduction (F := Ideal) .add [1] S128 y 0x00000000#32 h h1 h2) shapeCasts_S128_S128x1 (ix2 i 0) = ∑ e : Fin 512, y (ix2 i e) := by
  rw [shapeCast_apply _ _ (ix2 i 0) (ix1 i) (by rw [Shape.rowMajor_val_two, Shape.rowMajor_val_one]; show i.val = i.val * 1 + 0; omega)]
  rw [Ideal.multiReduction_add_single]
  refine Finset.sum_congr rfl fun e _ => congrArg y ?_
  funext a
  match a with
  | ⟨0, _⟩ => rfl
  | ⟨1, _⟩ => rfl

section
variable (d : EReal) (q k : Vec Ideal S128x256 .bf16) (v : Vec Ideal S128x512 .bf16) (s : Vec Ideal S256x512 .f32) (o : Vec Ideal S128x512 .f32)

/-- Row `i` of the sum, as a head's 512 values. -/
abbrev summed (i : Fin 128) (e : Fin 512) : EReal :=
  k0_pay13 (F := Ideal) (k0_pay4 d) (k0_pay7 d) q k v s o (ix2 i e)

theorem pay14_apply (i : Fin 128) : k0_pay14 (F := Ideal) (k0_pay4 d) (k0_pay7 d) q k v s o (ix2 i 0) = mean (summed d q k v s o i) := by
  refine congrArg (fun z => Ideal.div z (Ideal.ofBits .f32 0x44000000#32)) ?_
  exact rowSum_apply (k0_pay13 (F := Ideal) (k0_pay4 d) (k0_pay7 d) q k v s o) _ _ _ i

theorem pay16_apply (i : Fin 128) (e : Fin 512) :
    k0_pay16 (F := Ideal) (k0_pay4 d) (k0_pay7 d) q k v s o (ix2 i e) = summed d q k v s o i e - mean (summed d q k v s o i) := by
  show _ - broadcastTo S128x512 (k0_pay14 (F := Ideal) (k0_pay4 d) (k0_pay7 d) q k v s o) broadcasts_S128x1_S128x512 (ix2 i e) = _
  rw [broadcastTo_apply _ _ (ix2 i e) (ix2 i 0) (by intro a; match a with | ⟨0, _⟩ => rfl | ⟨1, _⟩ => rfl), pay14_apply]

theorem pay15_apply (i : Fin 128) : k0_pay15 (F := Ideal) (k0_pay4 d) (k0_pay7 d) q k v s o (ix2 i 0) = variance (summed d q k v s o i) := by
  refine congrArg (fun z => Ideal.div z (Ideal.ofBits .f32 0x44000000#32)) ?_
  refine (rowSum_apply (fun y => k0_pay16 (F := Ideal) (k0_pay4 d) (k0_pay7 d) q k v s o y * k0_pay16 (F := Ideal) (k0_pay4 d) (k0_pay7 d) q k v s o y) _ _ _ i).trans ?_
  refine Finset.sum_congr rfl fun e _ => ?_
  rw [pay16_apply]

/-- The output payload. -/
theorem pay1_apply (c : Ideal .f32) (hc : c = Ideal.ofBits .f32 0x358637BD#32) (w : Vec Ideal S1x1x512 .f32) (g : Vec Ideal S128x512 .bf16) (i : Fin 128) (e : Fin 512) :
    k0_pay1 (F := Ideal) (k0_pay15 (k0_pay4 d) (k0_pay7 d) q k v s o) (k0_pay16 (k0_pay4 d) (k0_pay7 d) q k v s o) c w g (ix2 i e)
      = gated (summed d q k v s o i) (w (ix3 0 0 e)) (g (ix2 i e)) e := by
  subst hc
  show (g (ix2 i e) * Ideal.logistic (g (ix2 i e))) * ((k0_pay16 (F := Ideal) (k0_pay4 d) (k0_pay7 d) q k v s o (ix2 i e)
      * broadcastTo S128x512 (fun y => Ideal.rsqrt (k0_pay15 (F := Ideal) (k0_pay4 d) (k0_pay7 d) q k v s o y + Ideal.ofBits .f32 0x358637BD#32)) broadcasts_S128x1_S128x512 (ix2 i e))
      * broadcastTo S128x512 (shapeCast S1x512 w shapeCasts_S1x1x512_S1x512) broadcasts_S1x512_S128x512 (ix2 i e)) = _
  rw [broadcastTo_apply _ _ (ix2 i e) (ix2 i 0) (by intro a; match a with | ⟨0, _⟩ => rfl | ⟨1, _⟩ => rfl),
    broadcastTo_apply _ broadcasts_S1x512_S128x512 (ix2 i e) (ix2 0 e) (by intro a; match a with | ⟨0, _⟩ => rfl | ⟨1, _⟩ => rfl),
    shapeCast_apply _ _ (ix2 0 e) (ix3 0 0 e) (by rw [Shape.rowMajor_val_two, Shape.rowMajor_val_three]; show (0 * 1 + 0) * 512 + e.val = 0 * 512 + e.val; omega),
    pay15_apply, pay16_apply]
  rfl

end

end Cert.Kernel6Ideal.Retention
-- ==== Proof.RetentionBackRef.lean ====
/- The backward retention's reference, read chunk by chunk from the end: its two chunk outputs and its final state are `Retention.out`
   and `Retention.next` of the projection's entries. -/
module

public import proofs.«01_k».proof.Proof.RetentionBackChunk
public import proofs.«01_k».proof.Proof.Gen.Reference6Ideal.Read

@[expose] public section

noncomputable section

open Idealize.ShloMosaic Idealize.ShloMosaic.TcCoe Idealize.SL.Sem
open Idealize.ShloMosaic.ValueIdx
open scoped BigOperators

namespace Cert.Reference6Ideal.Retention

open Cert.Reference6Ideal Cert.Reference6Ideal.Gen Cert.Reference6Ideal.Read Cert.Retention

variable (a : (⟨S8192x12288, .bf16⟩ : BufTy).Contents (Elt Ideal)) (g : (⟨S2x8, .f32⟩ : BufTy).Contents (Elt Ideal))

/-- The reshape into sequences. -/
theorem token_apply (b : Fin 32) (t : Fin 256) (c : Fin 12288) :
    val_main_v1 (F := Ideal) a (ix3 b t c) = a (ix2 ⟨b.val * 256 + t.val, by omega⟩ c) := by
  rw [val_main_v1_apply]
  refine congrArg a ?_
  funext p; apply Fin.ext
  match p with
  | ⟨0, _⟩ => show ((b.val * 256 + t.val) * 12288 + c.val) / 12288 = _; dsimp only [ix2]; omega
  | ⟨1, _⟩ => show ((b.val * 256 + t.val) * 12288 + c.val) % 12288 = c.val; omega

theorem query_apply (b : Fin 32) (t : Fin 256) (h : Fin 8) (x : Fin 256) :
    val_main_v6 (F := Ideal) a (ix4 b t h x) = a (ix2 ⟨b.val * 256 + t.val, by omega⟩ (qcol h x)) := by
  rw [val_main_v6_apply, val_main_v2_apply, ← token_apply a]
  refine congrArg (val_main_v1 (F := Ideal) a) ?_
  funext p; apply Fin.ext
  match p with
  | ⟨0, _⟩ => show (((b.val * 256 + t.val) * 8 + h.val) * 256 + x.val) / 524288 = b.val; omega
  | ⟨1, _⟩ => show (((b.val * 256 + t.val) * 8 + h.val) * 256 + x.val) / 2048 % 256 = t.val; omega
  | ⟨2, _⟩ => show (((b.val * 256 + t.val) * 8 + h.val) * 256 + x.val) % 2048 = h.val * 256 + x.val; omega

theorem key_apply (b : Fin 32) (t : Fin 256) (h : Fin 8) (x : Fin 256) :
    val_main_v9 (F := Ideal) a (ix4 b t h x) = a (ix2 ⟨b.val * 256 + t.val, by omega⟩ (kcol h x)) * scale := by
  rw [val_main_v9_apply, val_main_v7_apply, val_main_v3_apply, val_main_v8_apply, ← token_apply a]
  refine congrArg (fun z => val_main_v1 (F := Ideal) a z * scale) ?_
  funext p; apply Fin.ext
  match p with
  | ⟨0, _⟩ => show (((b.val * 256 + t.val) * 8 + h.val) * 256 + x.val) / 524288 = b.val; omega
  | ⟨1, _⟩ => show (((b.val * 256 + t.val) * 8 + h.val) * 256 + x.val) / 2048 % 256 = t.val; omega
  | ⟨2, _⟩ => show 2048 + (((b.val * 256 + t.val) * 8 + h.val) * 256 + x.val) % 2048 = 2048 + h.val * 256 + x.val; omega

theorem value_apply (b : Fin 32) (t : Fin 256) (h : Fin 8) (e : Fin 512) :
    val_main_v10 (F := Ideal) a (ix4 b t h e) = a (ix2 ⟨b.val * 256 + t.val, by omega⟩ (vcol h e)) := by
  rw [val_main_v10_apply, val_main_v4_apply, ← token_apply a]
  refine congrArg (val_main_v1 (F := Ideal) a) ?_
  funext p; apply Fin.ext
  match p with
  | ⟨0, _⟩ => show (((b.val * 256 + t.val) * 8 + h.val) * 512 + e.val) / 1048576 = b.val; omega
  | ⟨1, _⟩ => show (((b.val * 256 + t.val) * 8 + h.val) * 512 + e.val) / 4096 % 256 = t.val; omega
  | ⟨2, _⟩ => show 4096 + (((b.val * 256 + t.val) * 8 + h.val) * 512 + e.val) % 4096 = 4096 + h.val * 512 + e.val; omega

/-- The head's log decay, kept in the reference's first row. -/
theorem rate_apply (h : Fin 8) : val_main_v18 (F := Ideal) g (ix1 h) = rate (g (ix2 1 h)) := by
  rw [val_main_v18_apply, val_main_v17_apply, val_main_v12_apply, val_main_v11_apply]
  refine congrArg (fun z => rate (g z)) ?_
  funext p; apply Fin.ext
  match p with
  | ⟨0, _⟩ => rfl
  | ⟨1, _⟩ => show h.val % 8 = h.val; omega

theorem pos_apply (i : Fin 128) : val_main_v19 (F := Ideal) (ix1 i) = pos i := by
  show (((BitVec.ofNat 32 i.val).toInt : ℝ) : EReal) = _
  exact congrArg (fun z : ℤ => ((z : ℝ) : EReal)) (toInt_small i)

theorem diff_apply (i j : Fin 128) : val_main_v24 (F := Ideal) (ix2 i j) = ((((i.val : ℤ) - (j.val : ℤ) : ℤ) : ℝ) : EReal) := by
  rw [val_main_v24_apply, val_main_v22_apply, val_main_v20_apply, val_main_v23_apply, val_main_v21_apply]
  have ei : idx_main_v20 (idx_main_v22 (ix2 i j)) = ix1 i := eq_ix1 _
  have ej : idx_main_v21 (idx_main_v23 (ix2 i j)) = ix1 j := eq_ix1 _
  rw [ei, ej, pos_apply, pos_apply]
  show ((((i.val : ℤ) : ℝ) : EReal)) - ((((j.val : ℤ) : ℝ) : EReal)) = _
  rw [← EReal.coe_sub]
  push_cast
  rfl

theorem within_apply (h : Fin 8) (i j : Fin 128) : val_main_v37 (F := Ideal) g (ix3 h i j) = within (g (ix2 1 h)) i j := by
  rw [val_main_v37_apply, val_main_v27_apply, val_main_v26_apply, val_main_v35_apply, val_main_v34_apply, val_main_v32_apply,
    val_main_v28_apply, val_main_v33_apply, val_main_v31_apply, val_main_v30_apply, val_main_v29_apply, val_main_v36_apply, val_main_v25_apply]
  have e0 : idx_main_v27 (ix3 h i j) = ix2 i j := eq_ix2 _
  have e1 : idx_main_v28 (idx_main_v32 (ix3 h i j)) = ix1 h := eq_ix1 _
  have e2 : idx_main_v31 (idx_main_v33 (ix3 h i j)) = ix2 i j := eq_ix2 _
  rw [e0, e1, e2, rate_apply, diff_apply]
  have hle : Ideal.cmp .oge ((((i.val : ℤ) - (j.val : ℤ) : ℤ) : ℝ) : EReal) (Ideal.ofBits .f32 0x00000000#32) = BitVec.ofBool (decide (j ≤ i)) := by
    rw [Ideal.ofBits_zero_f32]
    show BitVec.ofBool (decide ((0 : EReal) ≤ _)) = _
    refine congrArg BitVec.ofBool (decide_eq_decide.mpr ?_)
    rw [← EReal.coe_zero, EReal.coe_le_coe_iff]
    constructor
    · intro hh
      have : (0 : ℤ) ≤ (i.val : ℤ) - (j.val : ℤ) := by exact_mod_cast hh
      exact Fin.le_def.mpr (by omega)
    · intro hh
      have : (0 : ℤ) ≤ (i.val : ℤ) - (j.val : ℤ) := by have := Fin.le_def.mp hh; omega
      exact_mod_cast this
  show Scalar.select (Ideal.cmp .oge _ (Ideal.ofBits .f32 0x00000000#32)) (Ideal.exp (rate _ * max _ (Ideal.ofBits .f32 0x00000000#32))) (Ideal.ofBits .f32 0x00000000#32) = _
  rw [hle]
  refine masked _ i j _ _ (fun hh => ?_) Ideal.ofBits_zero_f32
  rw [Ideal.ofBits_zero_f32, max_eq_left]
  rw [← EReal.coe_zero, EReal.coe_le_coe_iff]
  have : (0 : ℤ) ≤ (i.val : ℤ) - (j.val : ℤ) := by have := Fin.le_def.mp hh; omega
  exact_mod_cast this

theorem fromEntry_apply (i : Fin 128) (h : Fin 8) : val_main_v45 (F := Ideal) g (ix2 i h) = fromEntry (g (ix2 1 h)) i := by
  rw [val_main_v45_apply, val_main_v44_apply, val_main_v42_apply, val_main_v38_apply, val_main_v43_apply, val_main_v41_apply,
    val_main_v39_apply, val_main_v40_apply]
  have e1 : idx_main_v38 (idx_main_v42 (ix2 i h)) = ix1 h := eq_ix1 _
  have e2 : idx_main_v39 (idx_main_v43 (ix2 i h)) = ix1 i := eq_ix1 _
  rw [e1, e2, rate_apply, pos_apply]
  rfl

theorem toEnd_apply (i : Fin 128) (h : Fin 8) : val_main_v53 (F := Ideal) g (ix2 i h) = toEnd (g (ix2 1 h)) i := by
  rw [val_main_v53_apply, val_main_v52_apply, val_main_v50_apply, val_main_v46_apply, val_main_v51_apply, val_main_v49_apply,
    val_main_v47_apply, val_main_v48_apply]
  have e1 : idx_main_v46 (idx_main_v50 (ix2 i h)) = ix1 h := eq_ix1 _
  have e2 : idx_main_v47 (idx_main_v51 (ix2 i h)) = ix1 i := eq_ix1 _
  rw [e1, e2, rate_apply, pos_apply]
  rfl

theorem across_apply (h : Fin 8) : val_main_v56 (F := Ideal) g (ix1 h) = across (g (ix2 1 h)) := by
  rw [val_main_v56_apply, val_main_v55_apply, val_main_v54_apply, rate_apply]
  rfl

/-- A reversal along the positions, read. -/
theorem reverse_apply {α : Type} {n : ℕ} (y : (⟨4, ![32, 256, 8, n]⟩ : Shape).Idx → α) (b : Fin 32) (t : Fin 256) (h : Fin 8) (x : Fin n) :
    Host.reverse [1] y (ix4 b t h x) = y (ix4 b t.rev h x) := by
  refine congrArg y (?_ : (fun a => if a ∈ [1] then (ix4 b t h x a).rev else ix4 b t h x a) = _)
  funext p
  match p with
  | ⟨0, _⟩ => rfl
  | ⟨1, _⟩ => rfl
  | ⟨2, _⟩ => rfl
  | ⟨3, _⟩ => rfl

/-! ### The first chunk from the end, from the empty state -/

theorem q0 (b : Fin 32) (i : Fin 128) (h : Fin 8) (x : Fin 256) : val_main_v57 (F := Ideal) a (ix4 b i h x) = QR a b 0 h i x := by
  rw [val_main_v57_apply]
  refine (reverse_apply (val_main_v6 (F := Ideal) a) b ⟨i.val, by omega⟩ h x).trans ?_
  refine (query_apply a b _ h x).trans (congrArg (fun z => a z) ?_)
  refine congrArg (fun r => ix2 r (qcol h x)) (Fin.ext ?_)
  show b.val * 256 + (256 - (i.val + 1)) = b.val * 256 + (2 - (0 + 1)) * 128 + (128 - (i.val + 1))
  omega

theorem k0 (b : Fin 32) (i : Fin 128) (h : Fin 8) (x : Fin 256) : val_main_v58 (F := Ideal) a (ix4 b i h x) = KR a b 0 h i x := by
  rw [val_main_v58_apply]
  refine (reverse_apply (val_main_v9 (F := Ideal) a) b ⟨i.val, by omega⟩ h x).trans ?_
  refine (key_apply a b _ h x).trans (congrArg (fun z => a z * scale) ?_)
  refine congrArg (fun r => ix2 r (kcol h x)) (Fin.ext ?_)
  show b.val * 256 + (256 - (i.val + 1)) = b.val * 256 + (2 - (0 + 1)) * 128 + (128 - (i.val + 1))
  omega

theorem v0 (b : Fin 32) (i : Fin 128) (h : Fin 8) (e : Fin 512) : val_main_v59 (F := Ideal) a (ix4 b i h e) = VR a b 0 h i e := by
  rw [val_main_v59_apply]
  refine (reverse_apply (val_main_v10 (F := Ideal) a) b ⟨i.val, by omega⟩ h e).trans ?_
  refine (value_apply a b _ h e).trans (congrArg (fun z => a z) ?_)
  refine congrArg (fun r => ix2 r (vcol h e)) (Fin.ext ?_)
  show b.val * 256 + (256 - (i.val + 1)) = b.val * 256 + (2 - (0 + 1)) * 128 + (128 - (i.val + 1))
  omega

theorem s0 (i : S32x8x256x512.Idx) : val_main_v13 (F := Ideal) i = 0 := by
  rw [val_main_v13_apply]
  exact Ideal.ofBits_zero_f32

theorem score0 (b : Fin 32) (h : Fin 8) (i j : Fin 128) :
    val_main_v63 (F := Ideal) a g (ix4 b h i j) = (∑ x : Fin 256, QR a b 0 h i x * KR a b 0 h j x) * within (g (ix2 1 h)) i j := by
  rw [val_main_v63_apply, val_main_v60_apply, val_main_v62_apply, val_main_v61_apply]
  refine congrArg₂ (· * ·) (Finset.sum_congr rfl fun x _ => ?_) ?_
  · exact congrArg₂ (· * ·) (q0 a b i h x) (k0 a b j h x)
  · exact within_apply g h i j

theorem out0 (b : Fin 32) (i : Fin 128) (h : Fin 8) (e : Fin 512) :
    val_main_v71 (F := Ideal) a g (ix4 b i h e) = out (g (ix2 1 h)) (QR a b 0 h) (KR a b 0 h) (VR a b 0 h) (fun _ _ => 0) i e := by
  rw [val_main_v71_apply, val_main_v65_apply, val_main_v64_apply, val_main_v70_apply, val_main_v67_apply, val_main_v66_apply,
    val_main_v69_apply, val_main_v68_apply]
  unfold out
  refine congrArg₂ (· + ·) (Finset.sum_congr rfl fun j _ => ?_) (congrArg₂ (· * ·) (Finset.sum_congr rfl fun x _ => ?_) ?_)
  · have el : lidx_main_v64 (idx_main_v65 (ix4 b i h e)) j = ix4 b j h e := eq_ix4 _
    have er : ridx_main_v64 (idx_main_v65 (ix4 b i h e)) j = ix4 b h i j := eq_ix4 _
    rw [el, er, v0, score0]
    exact mul_comm _ _
  · exact (congrArg₂ (· * ·) (s0 _) (q0 a b i h x)).trans (mul_comm _ _)
  · exact fromEntry_apply g i h

theorem next0 (b : Fin 32) (h : Fin 8) (x : Fin 256) (e : Fin 512) :
    val_main_v79 (F := Ideal) a g (ix4 b h x e) = midR (g (ix2 1 h)) a b h x e := by
  rw [val_main_v79_apply, val_main_v74_apply, val_main_v73_apply, val_main_v72_apply, val_main_v78_apply]
  unfold midR next
  refine congrArg₂ (· + ·) (congrArg₂ (· * ·) (s0 _) (across_apply g h)) (Finset.sum_congr rfl fun j _ => ?_)
  rw [val_main_v77_apply, val_main_v76_apply, val_main_v75_apply]
  exact congrArg₂ (· * ·) (congrArg₂ (· * ·) (k0 a b j h x) (toEnd_apply g j h)) (v0 a b j h e)

/-! ### The second chunk from the end, from the first one's state -/

theorem q1 (b : Fin 32) (i : Fin 128) (h : Fin 8) (x : Fin 256) : val_main_v80 (F := Ideal) a (ix4 b i h x) = QR a b 1 h i x := by
  rw [val_main_v80_apply]
  refine (reverse_apply (val_main_v6 (F := Ideal) a) b ⟨128 + i.val, by omega⟩ h x).trans ?_
  refine (query_apply a b _ h x).trans (congrArg (fun z => a z) ?_)
  refine congrArg (fun r => ix2 r (qcol h x)) (Fin.ext ?_)
  show b.val * 256 + (256 - (128 + i.val + 1)) = b.val * 256 + (2 - (1 + 1)) * 128 + (128 - (i.val + 1))
  omega

theorem k1 (b : Fin 32) (i : Fin 128) (h : Fin 8) (x : Fin 256) : val_main_v81 (F := Ideal) a (ix4 b i h x) = KR a b 1 h i x := by
  rw [val_main_v81_apply]
  refine (reverse_apply (val_main_v9 (F := Ideal) a) b ⟨128 + i.val, by omega⟩ h x).trans ?_
  refine (key_apply a b _ h x).trans (congrArg (fun z => a z * scale) ?_)
  refine congrArg (fun r => ix2 r (kcol h x)) (Fin.ext ?_)
  show b.val * 256 + (256 - (128 + i.val + 1)) = b.val * 256 + (2 - (1 + 1)) * 128 + (128 - (i.val + 1))
  omega

theorem v1 (b : Fin 32) (i : Fin 128) (h : Fin 8) (e : Fin 512) : val_main_v82 (F := Ideal) a (ix4 b i h e) = VR a b 1 h i e := by
  rw [val_main_v82_apply]
  refine (reverse_apply (val_main_v10 (F := Ideal) a) b ⟨128 + i.val, by omega⟩ h e).trans ?_
  refine (value_apply a b _ h e).trans (congrArg (fun z => a z) ?_)
  refine congrArg (fun r => ix2 r (vcol h e)) (Fin.ext ?_)
  show b.val * 256 + (256 - (128 + i.val + 1)) = b.val * 256 + (2 - (1 + 1)) * 128 + (128 - (i.val + 1))
  omega

theorem score1 (b : Fin 32) (h : Fin 8) (i j : Fin 128) :
    val_main_v86 (F := Ideal) a g (ix4 b h i j) = (∑ x : Fin 256, QR a b 1 h i x * KR a b 1 h j x) * within (g (ix2 1 h)) i j := by
  rw [val_main_v86_apply, val_main_v83_apply, val_main_v85_apply, val_main_v84_apply]
  refine congrArg₂ (· * ·) (Finset.sum_congr rfl fun x _ => ?_) ?_
  · exact congrArg₂ (· * ·) (q1 a b i h x) (k1 a b j h x)
  · exact within_apply g h i j

theorem out1 (b : Fin 32) (i : Fin 128) (h : Fin 8) (e : Fin 512) :
    val_main_v94 (F := Ideal) a g (ix4 b i h e) = out (g (ix2 1 h)) (QR a b 1 h) (KR a b 1 h) (VR a b 1 h) (midR (g (ix2 1 h)) a b h) i e := by
  rw [val_main_v94_apply, val_main_v88_apply, val_main_v87_apply, val_main_v93_apply, val_main_v90_apply, val_main_v89_apply,
    val_main_v92_apply, val_main_v91_apply]
  unfold out
  refine congrArg₂ (· + ·) (Finset.sum_congr rfl fun j _ => ?_) (congrArg₂ (· * ·) (Finset.sum_congr rfl fun x _ => ?_) ?_)
  · have el : lidx_main_v87 (idx_main_v88 (ix4 b i h e)) j = ix4 b j h e := eq_ix4 _
    have er : ridx_main_v87 (idx_main_v88 (ix4 b i h e)) j = ix4 b h i j := eq_ix4 _
    rw [el, er, v1, score1]
    exact mul_comm _ _
  · have el : lidx_main_v89 (idx_main_v90 (ix4 b i h e)) x = ix4 b h x e := eq_ix4 _
    have er : ridx_main_v89 (idx_main_v90 (ix4 b i h e)) x = ix4 b i h x := eq_ix4 _
    rw [el, er, next0, q1]
    exact mul_comm _ _
  · exact fromEntry_apply g i h

/-- The final state of head `h` of sequence `b`. -/
theorem next1 (b : Fin 32) (h : Fin 8) (x : Fin 256) (e : Fin 512) :
    val_main_v102 (F := Ideal) a g (ix4 b h x e) = next (g (ix2 1 h)) (KR a b 1 h) (VR a b 1 h) (midR (g (ix2 1 h)) a b h) x e := by
  rw [val_main_v102_apply, val_main_v97_apply, val_main_v96_apply, val_main_v95_apply, val_main_v101_apply]
  unfold next
  refine congrArg₂ (· + ·) (congrArg₂ (· * ·) (next0 a g b h x e) (across_apply g h)) (Finset.sum_congr rfl fun j _ => ?_)
  rw [val_main_v100_apply, val_main_v99_apply, val_main_v98_apply]
  exact congrArg₂ (· * ·) (congrArg₂ (· * ·) (k1 a b j h x) (toEnd_apply g j h)) (v1 a b j h e)

/-! ### The results -/

/-- Row `i` from the end of chunk `n` from the end. -/
abbrev rowR (b : Fin 32) (n : Fin 2) (i : Fin 128) : Fin 8192 := row b n.rev i.rev
/-- The chunk's output, with the state found. -/
abbrev chunkOut (n : Fin 2) (s : Fin 256 → Fin 512 → EReal) (b : Fin 32) (i : Fin 128) (h : Fin 8) (e : Fin 512) : EReal :=
  out (g (ix2 1 h)) (QR a b n h) (KR a b n h) (VR a b n h) s i e

theorem both0 (b : Fin 32) (i : Fin 128) (h : Fin 8) (e : Fin 512) :
    val_main_v103 (F := Ideal) a g (ix4 b ⟨i.val, by omega⟩ h e) = chunkOut a g 0 (fun _ _ => 0) b i h e := by
  refine Eq.trans ?_ (out0 a g b i h e)
  unfold val_main_v103
  refine concatenate_pair_apply_left (t := S32x256x8x512) (s₁ := S32x128x8x512) (s₂ := S32x128x8x512) (1 : Fin 4) _ _ _ _ rfl (ix4 b i h e) (fun p => ?_)
  match p with
  | ⟨0, _⟩ => rfl
  | ⟨1, _⟩ => rfl
  | ⟨2, _⟩ => rfl
  | ⟨3, _⟩ => rfl

theorem both1 (b : Fin 32) (i : Fin 128) (h : Fin 8) (e : Fin 512) :
    val_main_v103 (F := Ideal) a g (ix4 b ⟨128 + i.val, by omega⟩ h e) = chunkOut a g 1 (midR (g (ix2 1 h)) a b h) b i h e := by
  refine Eq.trans ?_ (out1 a g b i h e)
  unfold val_main_v103
  refine concatenate_pair_apply_right (t := S32x256x8x512) (s₁ := S32x128x8x512) (s₂ := S32x128x8x512) (1 : Fin 4) _ _ _ _ rfl rfl (ix4 b i h e) (fun p hp => ?_) ?_
  · match p with
    | ⟨0, _⟩ => rfl
    | ⟨1, _⟩ => exact absurd rfl hp
    | ⟨2, _⟩ => rfl
    | ⟨3, _⟩ => rfl
  · show i.val + 128 = 128 + i.val; omega

section
variable (o : (⟨S8192x4096, .f32⟩ : BufTy).Contents (Elt Ideal)) (w : (⟨S8x512, .f32⟩ : BufTy).Contents (Elt Ideal))

/-- A token's column of value `e` of head `h`. -/
abbrev ocol (h : Fin 8) (e : Fin 512) : Fin 4096 := ⟨h.val * 512 + e.val, by omega⟩
abbrev gcol (h : Fin 8) (e : Fin 512) : Fin 12288 := ⟨8192 + h.val * 512 + e.val, by omega⟩
abbrev tok (b : Fin 32) (t : Fin 256) : Fin 8192 := ⟨b.val * 256 + t.val, by omega⟩

theorem summed_apply (b : Fin 32) (t : Fin 256) (h : Fin 8) (e : Fin 512) :
    val_main_v106 (F := Ideal) a g o (ix4 b t h e) = o (ix2 (tok b t) (ocol h e)) + val_main_v103 (F := Ideal) a g (ix4 b t.rev h e) := by
  rw [val_main_v106_apply, val_main_v104_apply]
  refine congrArg₂ (· + ·) (congrArg o ?_) (reverse_apply (val_main_v103 (F := Ideal) a g) b t h e)
  funext p; apply Fin.ext
  match p with
  | ⟨0, _⟩ => show (((b.val * 256 + t.val) * 8 + h.val) * 512 + e.val) / 4096 = b.val * 256 + t.val; omega
  | ⟨1, _⟩ => show (((b.val * 256 + t.val) * 8 + h.val) * 512 + e.val) % 4096 = h.val * 512 + e.val; omega

theorem mean_apply (b : Fin 32) (t : Fin 256) (h : Fin 8) :
    val_main_v110 (F := Ideal) a g o (ix4 b t h 0) = mean (fun e => val_main_v106 (F := Ideal) a g o (ix4 b t h e)) := by
  rw [val_main_v110_apply, val_main_v108_apply, val_main_v107_apply]
  refine congrArg (fun z => Ideal.div z (Ideal.ofBits .f32 0x44000000#32)) ?_
  show Ideal.ofBits .f32 0x00000000#32 + _ = _
  rw [Ideal.ofBits_zero_f32, zero_add]
  refine Finset.sum_congr rfl fun e _ => congrArg (val_main_v106 (F := Ideal) a g o) ?_
  funext p
  match p with
  | ⟨0, _⟩ => rfl
  | ⟨1, _⟩ => rfl
  | ⟨2, _⟩ => rfl
  | ⟨3, _⟩ => rfl

theorem centred_apply (b : Fin 32) (t : Fin 256) (h : Fin 8) (e : Fin 512) :
    val_main_v112 (F := Ideal) a g o (ix4 b t h e) = val_main_v106 (F := Ideal) a g o (ix4 b t h e) - mean (fun e => val_main_v106 (F := Ideal) a g o (ix4 b t h e)) := by
  rw [val_main_v112_apply, val_main_v111_apply, ← mean_apply]
  refine congrArg (fun z => val_main_v106 (F := Ideal) a g o (ix4 b t h e) - val_main_v110 (F := Ideal) a g o z) ?_
  funext p
  match p with
  | ⟨0, _⟩ => rfl
  | ⟨1, _⟩ => rfl
  | ⟨2, _⟩ => rfl
  | ⟨3, _⟩ => rfl

theorem variance_apply (b : Fin 32) (t : Fin 256) (h : Fin 8) :
    val_main_v117 (F := Ideal) a g o (ix4 b t h 0) = variance (fun e => val_main_v106 (F := Ideal) a g o (ix4 b t h e)) := by
  rw [val_main_v117_apply, val_main_v115_apply, val_main_v114_apply]
  refine congrArg (fun z => Ideal.div z (Ideal.ofBits .f32 0x44000000#32)) ?_
  show Ideal.ofBits .f32 0x00000000#32 + _ = _
  rw [Ideal.ofBits_zero_f32, zero_add]
  refine Finset.sum_congr rfl fun e _ => ?_
  have ei : idx_main_v114 (idx_main_v115 (ix4 b t h 0)) e = ix4 b t h e := eq_ix4 _
  rw [ei, val_main_v113_apply, centred_apply]
  rfl

/-- The reference's output at token `t` of sequence `b`, value `e` of head `h`. -/
theorem result_apply (b : Fin 32) (t : Fin 256) (h : Fin 8) (e : Fin 512) :
    val_main_v132 (F := Ideal) a g o w (ix2 (tok b t) (ocol h e))
      = gated (fun e => val_main_v106 (F := Ideal) a g o (ix4 b t h e)) (w (ix2 h e)) (a (ix2 (tok b t) (gcol h e))) e := by
  rw [val_main_v132_apply, val_main_v131_apply]
  have ei : idx_main_v131 (ix2 (tok b t) (ocol h e)) = ix3 b t (ocol h e) := by
    funext p; apply Fin.ext
    match p with
    | ⟨0, _⟩ => show ((b.val * 256 + t.val) * 4096 + (h.val * 512 + e.val)) / 1048576 = b.val; omega
    | ⟨1, _⟩ => show ((b.val * 256 + t.val) * 4096 + (h.val * 512 + e.val)) / 4096 % 256 = t.val; omega
    | ⟨2, _⟩ => show ((b.val * 256 + t.val) * 4096 + (h.val * 512 + e.val)) % 4096 = h.val * 512 + e.val; omega
  rw [ei]
  have eg : val_main_v5 (F := Ideal) a (ix3 b t (ocol h e)) = a (ix2 (tok b t) (gcol h e)) := by
    rw [val_main_v5_apply, ← token_apply a]
    refine congrArg (val_main_v1 (F := Ideal) a) ?_
    funext p; apply Fin.ext
    match p with
    | ⟨0, _⟩ => rfl
    | ⟨1, _⟩ => rfl
    | ⟨2, _⟩ => show 8192 + (h.val * 512 + e.val) = 8192 + h.val * 512 + e.val; omega
  have en : val_main_v128 (F := Ideal) a g o w (ix3 b t (ocol h e)) = val_main_v127 (F := Ideal) a g o w (ix4 b t h e) := by
    rw [val_main_v128_apply]
    refine congrArg (val_main_v127 (F := Ideal) a g o w) ?_
    funext p; apply Fin.ext
    match p with
    | ⟨0, _⟩ => show ((b.val * 256 + t.val) * 4096 + (h.val * 512 + e.val)) / 1048576 = b.val; omega
    | ⟨1, _⟩ => show ((b.val * 256 + t.val) * 4096 + (h.val * 512 + e.val)) / 4096 % 256 = t.val; omega
    | ⟨2, _⟩ => show ((b.val * 256 + t.val) * 4096 + (h.val * 512 + e.val)) / 512 % 8 = h.val; omega
    | ⟨3, _⟩ => show ((b.val * 256 + t.val) * 4096 + (h.val * 512 + e.val)) % 512 = e.val; omega
  show val_main_v130 (F := Ideal) a g o w (ix3 b t (ocol h e)) = _
  rw [val_main_v130_apply, val_main_v129_apply, val_main_call0_v5_apply, val_main_call0_v4_apply, val_main_call0_v3_apply, val_main_call0_v2_apply,
    val_main_call0_v1_apply, val_main_call0_v0_apply, eg, en, val_main_v127_apply, val_main_v124_apply, val_main_v119_apply, val_main_v118_apply,
    val_main_v123_apply, val_main_v122_apply, val_main_v121_apply, val_main_v126_apply, val_main_v125_apply]
  have e1 : idx_main_v118 (ix4 b t h e) = ix4 b t h 0 := eq_ix4 _
  have e2 : idx_main_v123 (ix4 b t h e) = ix4 b t h 0 := eq_ix4 _
  have e3 : idx_main_v125 (idx_main_v126 (ix4 b t h e)) = ix2 h e := eq_ix2 _
  rw [e1, e2, e3, mean_apply, variance_apply]
  show (_ * Ideal.div (Ideal.ofBits .f32 0x3F800000#32) (Ideal.ofBits .f32 0x3F800000#32 + Ideal.exp (-_))) * _ = _
  rw [ofBits_1, EReal.coe_one]
  rfl

end

end Cert.Reference6Ideal.Retention
-- ==== Proof.RetentionBack.lean ====
/- The backward retention (program 6). Point `t` of the 32 × 8 × 2 grid takes chunk `1 - t % 2` of head `t / 2 % 8` of
   sequence `t / 16`. An even point starts from the empty state at the sequence's last chunk and leaves the state it reaches
   in scratch; the odd point after it takes that state, and writes the final one. -/
module

public import proofs.«01_k».proof.Defs
public import proofs.«01_k».proof.Proof.RetentionBackRef
public import proofs.«01_k».proof.Proof.Gen.Reference6Ideal.Run
public import Idealize.ShloMosaic.Lib.Pipeline.ValueKit
public import Idealize.ShloMosaic.Lib.Pipeline.ReadBack

@[expose] public section

noncomputable section

open Idealize.ShloMosaic hiding ix1 ix2 ix3 ix4 eq_ix1 eq_ix2 eq_ix3 eq_ix4
open Idealize.ShloMosaic.TcCoe Idealize.SL.Sem
open Idealize.ShloMosaic.Pipeline (Dat)
open Idealize.ShloMosaic.ValueIdx

namespace Cert.Kernel6Ideal.Retention

open Cert.Kernel6Ideal Cert.Kernel6Ideal.Gen Cert.Retention
open Cert.KernelIdeal.Retention (key)
open Cert.Reference6Ideal.Retention (chunkOut ocol gcol tok summed_apply both0 both1)

variable (m : (ℓ : Loc nD τ sig) → Buf (Elt Ideal) ℓ) (ρ : Dev nD → PrngReg)

/-- The projection, the decay parameters, the forward output and the normalisation's weights. -/
abbrev A (c : Dev nD) : Buf (Elt Ideal) ((c : Thread nD τ).loc main_arg0) := m ((c : Thread nD τ).loc main_arg0)
abbrev G (c : Dev nD) : Buf (Elt Ideal) ((c : Thread nD τ).loc main_arg1) := m ((c : Thread nD τ).loc main_arg1)
abbrev O (c : Dev nD) : Buf (Elt Ideal) ((c : Thread nD τ).loc main_arg2) := m ((c : Thread nD τ).loc main_arg2)
abbrev W (c : Dev nD) : Buf (Elt Ideal) ((c : Thread nD τ).loc main_arg3) := m ((c : Thread nD τ).loc main_arg3)
/-- The reference's two results, of the kernel's own arguments. -/
abbrev goal7 (c : Dev nD) : Buf (Elt Ideal) ((c : Thread nD τ).loc main_v1_0) :=
  Cert.Reference6Ideal.Read.val_main_v132 (F := Ideal) (A m c) (G m c) (O m c) (W m c)
abbrev goal8 (c : Dev nD) : Buf (Elt Ideal) ((c : Thread nD τ).loc main_v1_1) :=
  Cert.Reference6Ideal.Read.val_main_v102 (F := Ideal) (A m c) (G m c)

theorem N_eq : cfg0.N = 512 := N_0

/-- The sequence, the head and the chunk (counted from the end) of point `t`. -/
abbrev seqOf (t : Fin cfg0.N) : Fin 32 := ⟨t.val / 16, by have := t.isLt; have := N_eq; omega⟩
abbrev headOf (t : Fin cfg0.N) : Fin 8 := ⟨t.val / 2 % 8, by omega⟩
abbrev chunkOf (t : Fin cfg0.N) : Fin 2 := ⟨t.val % 2, by omega⟩

theorem where_blocks : ∀ t : Fin cfg0.N,
    (win0_0.index t 0 = 0 ∧ win0_0.index t 1 = 0) ∧ (win0_1.index t 0 = t.val / 16 * 2 + (1 - t.val % 2) ∧ win0_1.index t 1 = t.val / 2 % 8)
      ∧ (win0_2.index t 0 = t.val / 16 * 2 + (1 - t.val % 2) ∧ win0_2.index t 1 = 8 + t.val / 2 % 8)
      ∧ (win0_3.index t 0 = t.val / 16 * 2 + (1 - t.val % 2) ∧ win0_3.index t 1 = 8 + t.val / 2 % 8)
      ∧ (win0_4.index t 0 = t.val / 16 * 2 + (1 - t.val % 2) ∧ win0_4.index t 1 = t.val / 2 % 8)
      ∧ (win0_5.index t 0 = t.val / 16 * 2 + (1 - t.val % 2) ∧ win0_5.index t 1 = 16 + t.val / 2 % 8)
      ∧ (win0_6.index t 0 = t.val / 2 % 8 ∧ win0_6.index t 1 = 0 ∧ win0_6.index t 2 = 0)
      ∧ (win0_7.index t 0 = t.val / 16 * 2 + (1 - t.val % 2) ∧ win0_7.index t 1 = t.val / 2 % 8)
      ∧ (win0_8.index t 0 = t.val / 16 ∧ win0_8.index t 1 = t.val / 2 % 8 ∧ win0_8.index t 2 = 0 ∧ win0_8.index t 3 = 0) :=
  (by decide +kernel : ∀ t : Fin grid0.N, _)

theorem where_decay : ∀ t : Fin cfg0.N, k0_off1 (grid0.coords t) 0 = 1 ∧ k0_off1 (grid0.coords t) 1 = t.val / 2 % 8 :=
  (by decide +kernel : ∀ t : Fin grid0.N, _)

theorem flush7 : ∀ t : Fin cfg0.N, (cfg0.win 7).flush t = true := (by decide +kernel : ∀ t : Fin grid0.N, _)
theorem flush8 : ∀ t : Fin cfg0.N, (cfg0.win 8).flush t = decide (t.val % 2 = 1) := (by decide +kernel : ∀ t : Fin grid0.N, _)

/-- The weights with an axis inserted, as the launch passes them. -/
theorem weights (c : Dev nD) (h : Fin 8) (e : Fin 512) : V m c main_v0 (ix3 h 0 e) = W m c (ix2 h e) := by
  show broadcastInDim S8x1x512 ![0, 2] bcast_S8x512_S8x1x512_0_2 (W m c) (ix3 h 0 e) = _
  refine broadcastInDim_apply _ _ _ _ _ (fun a => ?_)
  match a with
  | ⟨0, _⟩ => rfl
  | ⟨1, _⟩ => rfl

/-! ### The blocks a point reads -/

/-- The decay parameter of the point's head. -/
theorem decay_at (c : Dev nD) (t : Fin cfg0.N) (hb) (p) :
    View.ld (iblk m c 0 t) (Rect.unit (s := S2x8) (k0_off1 (grid0.coords t)) ![1, 1] hb) (Shape.Idx.first p)
      = G m c (ix2 1 (headOf t)) := by
  obtain ⟨⟨a0, a1⟩, -⟩ := where_blocks t
  obtain ⟨d0, d1⟩ := where_decay t
  rw [View.ld_unit]
  show V m c main_arg1 ((win0_0.rect t).emb _) = _
  rw [V_main_arg1]
  refine congrArg (G m c) ?_
  funext a; apply Fin.ext
  match a with
  | ⟨0, _⟩ => exact (win0_0.rect_emb_val_of_index_zero t 0 a0 _).trans (by show k0_off1 (grid0.coords t) 0 + 0 = 1; omega)
  | ⟨1, _⟩ => exact (win0_0.rect_emb_val_of_index_zero t 1 a1 _).trans (by show k0_off1 (grid0.coords t) 1 + 0 = t.val / 2 % 8; omega)

theorem q_at (c : Dev nD) (t : Fin cfg0.N) (i : Fin 128) (x : Fin 256) : iblk m c 1 t (ix2 i.rev x) = QR (A m c) (seqOf t) (chunkOf t) (headOf t) i x := by
  obtain ⟨-, ⟨a0, a1⟩, -⟩ := where_blocks t
  show V m c main_arg0 ((win0_1.rect t).emb (ix2 i.rev x)) = _
  rw [V_main_arg0]
  refine congrArg (A m c) ?_
  funext a; apply Fin.ext
  match a with
  | ⟨0, _⟩ => exact (win0_1.rect_emb_val t _ 0).trans (by rw [a0]; show (t.val / 16 * 2 + (1 - t.val % 2)) * 128 + (128 - (i.val + 1)) = t.val / 16 * 256 + (2 - (t.val % 2 + 1)) * 128 + (128 - (i.val + 1)); omega)
  | ⟨1, _⟩ => exact (win0_1.rect_emb_val t _ 1).trans (by rw [a1]; rfl)

theorem k_at (c : Dev nD) (t : Fin cfg0.N) : (fun j x => key (iblk m c 2 t) (Fin.rev j) x) = KR (A m c) (seqOf t) (chunkOf t) (headOf t) := by
  obtain ⟨-, -, ⟨a0, a1⟩, -⟩ := where_blocks t
  funext i x
  refine congrArg (fun z : EReal => z * scale) (?_ : V m c main_arg0 ((win0_2.rect t).emb (ix2 i.rev x)) = A m c _)
  rw [V_main_arg0]
  refine congrArg (A m c) ?_
  funext a; apply Fin.ext
  match a with
  | ⟨0, _⟩ => exact (win0_2.rect_emb_val t _ 0).trans (by rw [a0]; show (t.val / 16 * 2 + (1 - t.val % 2)) * 128 + (128 - (i.val + 1)) = t.val / 16 * 256 + (2 - (t.val % 2 + 1)) * 128 + (128 - (i.val + 1)); omega)
  | ⟨1, _⟩ => exact (win0_2.rect_emb_val t _ 1).trans (by rw [a1]; show (8 + t.val / 2 % 8) * 256 + x.val = 2048 + t.val / 2 % 8 * 256 + x.val; omega)

theorem v_at (c : Dev nD) (t : Fin cfg0.N) (i : Fin 128) (e : Fin 512) : iblk m c 3 t (ix2 i.rev e) = VR (A m c) (seqOf t) (chunkOf t) (headOf t) i e := by
  obtain ⟨-, -, -, ⟨a0, a1⟩, -⟩ := where_blocks t
  show V m c main_arg0 ((win0_3.rect t).emb (ix2 i.rev e)) = _
  rw [V_main_arg0]
  refine congrArg (A m c) ?_
  funext a; apply Fin.ext
  match a with
  | ⟨0, _⟩ => exact (win0_3.rect_emb_val t _ 0).trans (by rw [a0]; show (t.val / 16 * 2 + (1 - t.val % 2)) * 128 + (128 - (i.val + 1)) = t.val / 16 * 256 + (2 - (t.val % 2 + 1)) * 128 + (128 - (i.val + 1)); omega)
  | ⟨1, _⟩ => exact (win0_3.rect_emb_val t _ 1).trans (by rw [a1]; show (8 + t.val / 2 % 8) * 512 + e.val = 4096 + t.val / 2 % 8 * 512 + e.val; omega)

/-- The row of position `i` of the point's chunk. -/
abbrev rowOf (t : Fin cfg0.N) (i : Fin 128) : Fin 8192 := row (seqOf t) (chunkOf t).rev i

theorem o_at (c : Dev nD) (t : Fin cfg0.N) (i : Fin 128) (e : Fin 512) : iblk m c 4 t (ix2 i e) = O m c (ix2 (rowOf t i) (ocol (headOf t) e)) := by
  obtain ⟨-, -, -, -, ⟨a0, a1⟩, -⟩ := where_blocks t
  show V m c main_arg2 ((win0_4.rect t).emb (ix2 i e)) = _
  rw [V_main_arg2]
  refine congrArg (O m c) ?_
  funext a; apply Fin.ext
  match a with
  | ⟨0, _⟩ => exact (win0_4.rect_emb_val t _ 0).trans (by rw [a0]; show (t.val / 16 * 2 + (1 - t.val % 2)) * 128 + i.val = t.val / 16 * 256 + (2 - (t.val % 2 + 1)) * 128 + i.val; omega)
  | ⟨1, _⟩ => exact (win0_4.rect_emb_val t _ 1).trans (by rw [a1]; rfl)

theorem g_at (c : Dev nD) (t : Fin cfg0.N) (i : Fin 128) (e : Fin 512) : iblk m c 5 t (ix2 i e) = A m c (ix2 (rowOf t i) (gcol (headOf t) e)) := by
  obtain ⟨-, -, -, -, -, ⟨a0, a1⟩, -⟩ := where_blocks t
  show V m c main_arg0 ((win0_5.rect t).emb (ix2 i e)) = _
  rw [V_main_arg0]
  refine congrArg (A m c) ?_
  funext a; apply Fin.ext
  match a with
  | ⟨0, _⟩ => exact (win0_5.rect_emb_val t _ 0).trans (by rw [a0]; show (t.val / 16 * 2 + (1 - t.val % 2)) * 128 + i.val = t.val / 16 * 256 + (2 - (t.val % 2 + 1)) * 128 + i.val; omega)
  | ⟨1, _⟩ => exact (win0_5.rect_emb_val t _ 1).trans (by rw [a1]; show (16 + t.val / 2 % 8) * 512 + e.val = 8192 + t.val / 2 % 8 * 512 + e.val; omega)

theorem w_at (c : Dev nD) (t : Fin cfg0.N) (e : Fin 512) : iblk m c 6 t (ix3 0 0 e) = W m c (ix2 (headOf t) e) := by
  obtain ⟨-, -, -, -, -, -, ⟨a0, a1, a2⟩, -⟩ := where_blocks t
  rw [← weights]
  show V m c main_v0 ((win0_6.rect t).emb (ix3 0 0 e)) = _
  refine congrArg (V m c main_v0) ?_
  funext a; apply Fin.ext
  match a with
  | ⟨0, _⟩ => exact (win0_6.rect_emb_val t _ 0).trans (by rw [a0]; show t.val / 2 % 8 * 1 + 0 = t.val / 2 % 8; omega)
  | ⟨1, _⟩ => exact win0_6.rect_emb_val_of_index_zero t 1 a1 _
  | ⟨2, _⟩ => exact win0_6.rect_emb_val_of_index_zero t 2 a2 _

/-! ### What a point computes -/

/-- An entry of the forward output. -/
abbrev oAt (c : Dev nD) (r : Fin 8192) (n : Fin 4096) : EReal := O m c (ix2 r n)

/-- The chunk's contribution with state `s`, and the output made of it. -/
abbrev made (c : Dev nD) (t : Fin cfg0.N) (s : Fin 256 → Fin 512 → EReal) (i : Fin 128) (e : Fin 512) : EReal :=
  oAt m c (rowOf t i) (ocol (headOf t) e)
    + chunkOut (A m c) (G m c) (chunkOf t) s (seqOf t) i.rev (headOf t) e

/-- The summed payload of a point that finds state `s`. -/
theorem summed_at (c : Dev nD) (t : Fin cfg0.N) (s : Vec Ideal S256x512 .f32) (i : Fin 128) :
    summed (G m c (ix2 1 (headOf t))) (iblk m c 1 t) (iblk m c 2 t) (iblk m c 3 t) s (iblk m c 4 t) i = made m c t (fun x e => s (ix2 x e)) i := by
  funext e
  refine (pay13_apply _ (iblk m c 1 t) (iblk m c 2 t) (iblk m c 3 t) s (iblk m c 4 t) i e).trans ?_
  rw [k_at, o_at]
  simp only [q_at, v_at]

theorem even_out (c : Dev nD) (t : Fin cfg0.N) (h0 : t.val % 2 = 0) (i : Fin 128) (e : Fin 512) :
    (outsAt0 m c t.val t.isLt).1 (ix2 i e)
      = gated (made m c t (fun _ _ => 0) i) (W m c (ix2 (headOf t) e)) (A m c (ix2 (rowOf t i) (gcol (headOf t) e))) e := by
  rw [outsAt0_A m c t h0 (by omega)]
  frame_out
  rw [decay_at]
  refine (pay1_apply _ (iblk m c 1 t) (iblk m c 2 t) (iblk m c 3 t) (k0_pay3 (F := Ideal)) (iblk m c 4 t) _ rfl (iblk m c 6 t) (iblk m c 5 t) i e).trans ?_
  rw [summed_at, w_at, g_at]
  simp only [pay3_apply]

theorem even_state (c : Dev nD) (t : Fin cfg0.N) (h0 : t.val % 2 = 0) (x : Fin 256) (e : Fin 512) :
    (outsAt0 m c t.val t.isLt).2.2 (ix2 x e) = midR (G m c (ix2 1 (headOf t))) (A m c) (seqOf t) (headOf t) x e := by
  rw [outsAt0_A m c t h0 (by omega)]
  frame_out
  rw [decay_at]
  refine (pay12_apply _ (iblk m c 2 t) (iblk m c 3 t) (k0_pay3 (F := Ideal)) x e).trans ?_
  rw [k_at]
  simp only [v_at, pay3_apply]
  have hc : chunkOf t = 0 := Fin.ext h0
  rw [hc]
  rfl

/-- The state an odd point finds. -/
theorem odd_found (c : Dev nD) (t : Fin cfg0.N) (h1 : t.val % 2 = 1) (x : Fin 256) (e : Fin 512) (hlt : t.val - 1 < cfg0.N) :
    (outsAt0 m c (t.val - 1) hlt).2.2 (ix2 x e) = midR (G m c (ix2 1 (headOf t))) (A m c) (seqOf t) (headOf t) x e := by
  refine (even_state m c ⟨t.val - 1, hlt⟩ (by show (t.val - 1) % 2 = 0; omega) x e).trans ?_
  have hs : seqOf ⟨t.val - 1, hlt⟩ = seqOf t := Fin.ext (by show (t.val - 1) / 16 = t.val / 16; omega)
  have hh : headOf ⟨t.val - 1, hlt⟩ = headOf t := Fin.ext (by show (t.val - 1) / 2 % 8 = t.val / 2 % 8; omega)
  rw [hs, hh]

theorem odd_out (c : Dev nD) (t : Fin cfg0.N) (h1 : t.val % 2 = 1) (i : Fin 128) (e : Fin 512) :
    (outsAt0 m c t.val t.isLt).1 (ix2 i e)
      = gated (made m c t (midR (G m c (ix2 1 (headOf t))) (A m c) (seqOf t) (headOf t)) i) (W m c (ix2 (headOf t) e)) (A m c (ix2 (rowOf t i) (gcol (headOf t) e))) e := by
  rw [outsAt0_B m c t (by omega) h1]
  frame_out
  rw [decay_at, read_unread_whole]
  refine (pay1_apply _ (iblk m c 1 t) (iblk m c 2 t) (iblk m c 3 t) _ (iblk m c 4 t) _ rfl (iblk m c 6 t) (iblk m c 5 t) i e).trans ?_
  rw [summed_at, w_at, g_at]
  simp only [odd_found m c t h1]

theorem odd_state (c : Dev nD) (t : Fin cfg0.N) (h1 : t.val % 2 = 1) (x : Fin 256) (e : Fin 512) :
    (outsAt0 m c t.val t.isLt).2.1 (ix4 0 0 x e)
      = next (G m c (ix2 1 (headOf t))) (KR (A m c) (seqOf t) (chunkOf t) (headOf t))
          (VR (A m c) (seqOf t) (chunkOf t) (headOf t)) (midR (G m c (ix2 1 (headOf t))) (A m c) (seqOf t) (headOf t)) x e := by
  rw [outsAt0_B m c t (by omega) h1]
  frame_out
  rw [decay_at, read_unread_whole]
  refine (pay2_apply _ x e).trans ((pay11_apply _ (iblk m c 2 t) (iblk m c 3 t) _ x e).trans ?_)
  rw [k_at]
  simp only [v_at, odd_found m c t h1]

/-! ### The blocks a point writes -/

/-- The reference's sum at a row of the point's chunk. -/
theorem ref_summed (c : Dev nD) (t : Fin cfg0.N) (i : Fin 128) (s : Fin 256 → Fin 512 → EReal)
    (hs : s = if t.val % 2 = 0 then (fun _ _ => 0) else midR (G m c (ix2 1 (headOf t))) (A m c) (seqOf t) (headOf t)) (r : Fin 256)
    (hr : r.val = (1 - t.val % 2) * 128 + i.val) :
    (fun e => Cert.Reference6Ideal.Read.val_main_v106 (F := Ideal) (A m c) (G m c) (O m c) (ix4 (seqOf t) r (headOf t) e)) = made m c t s i := by
  funext e
  rw [summed_apply]
  refine congrArg₂ (· + ·) (congrArg (fun z => oAt m c z (ocol (headOf t) e)) (Fin.ext ?_)) ?_
  · show t.val / 16 * 256 + r.val = t.val / 16 * 256 + (2 - (t.val % 2 + 1)) * 128 + i.val
    omega
  · rcases Nat.mod_two_eq_zero_or_one t.val with h | h
    · rw [if_pos h] at hs
      subst hs
      rw [show chunkOf t = 0 from Fin.ext h, ← both0]
      refine congrArg (fun z => Cert.Reference6Ideal.Read.val_main_v103 (F := Ideal) (A m c) (G m c) (ix4 (seqOf t) z (headOf t) e)) (Fin.ext ?_)
      show 256 - (r.val + 1) = 128 - (i.val + 1)
      omega
    · rw [if_neg (by omega)] at hs
      subst hs
      rw [show chunkOf t = 1 from Fin.ext h, ← both1]
      refine congrArg (fun z => Cert.Reference6Ideal.Read.val_main_v103 (F := Ideal) (A m c) (G m c) (ix4 (seqOf t) z (headOf t) e)) (Fin.ext ?_)
      show 256 - (r.val + 1) = 128 + (128 - (i.val + 1))
      omega

theorem flushed7_eq (c : Dev nD) (t : Fin cfg0.N) :
    (dats m 0 c).flushed 7 t = ((cfg0.win 7).blk t).view.read (Elt Ideal) (goal7 m c) := by
  rw [Value.flushed7]
  obtain ⟨-, -, -, -, -, -, -, ⟨a0, a1⟩, -⟩ := where_blocks t
  funext (y : S128x512.Idx)
  obtain ⟨i, e, rfl⟩ : ∃ i e, y = ix2 i e := ⟨y 0, y 1, eq_ix2 y⟩
  show (outsAt0 m c t.val t.isLt).1 (ix2 i e) = goal7 m c ((win0_7.rect t).emb (ix2 i e))
  have he : (win0_7.rect t).emb (ix2 i e) = ix2 (tok (seqOf t) ⟨(1 - t.val % 2) * 128 + i.val, by omega⟩) (ocol (headOf t) e) := by
    funext a; apply Fin.ext
    match a with
    | ⟨0, _⟩ => exact (win0_7.rect_emb_val t _ 0).trans (by rw [a0]; show (t.val / 16 * 2 + (1 - t.val % 2)) * 128 + i.val = t.val / 16 * 256 + ((1 - t.val % 2) * 128 + i.val); omega)
    | ⟨1, _⟩ => exact (win0_7.rect_emb_val t _ 1).trans (by rw [a1]; rfl)
  have hrow : tok (seqOf t) ⟨(1 - t.val % 2) * 128 + i.val, by omega⟩ = rowOf t i :=
    Fin.ext (by show t.val / 16 * 256 + ((1 - t.val % 2) * 128 + i.val) = t.val / 16 * 256 + (2 - (t.val % 2 + 1)) * 128 + i.val; omega)
  rw [he]
  refine Eq.trans ?_ (Cert.Reference6Ideal.Retention.result_apply (A m c) (G m c) (O m c) (W m c) (seqOf t) _ (headOf t) e).symm
  rcases Nat.mod_two_eq_zero_or_one t.val with h | h
  · rw [even_out m c t h, ref_summed m c t i (fun _ _ => 0) (if_pos h).symm ⟨(1 - t.val % 2) * 128 + i.val, by omega⟩ rfl, hrow]
  · rw [odd_out m c t h, ref_summed m c t i _ (if_neg (by omega)).symm ⟨(1 - t.val % 2) * 128 + i.val, by omega⟩ rfl, hrow]

theorem flushed8_eq (c : Dev nD) (t : Fin cfg0.N) (hf : (cfg0.win 8).flush t = true) :
    (dats m 0 c).flushed 8 t = ((cfg0.win 8).blk t).view.read (Elt Ideal) (goal8 m c) := by
  have h : t.val % 2 = 1 := of_decide_eq_true ((flush8 t).symm.trans hf)
  rw [Value.flushed8]
  obtain ⟨-, -, -, -, -, -, -, -, a0, a1, a2, a3⟩ := where_blocks t
  funext (y : S1x1x256x512.Idx)
  obtain ⟨x, e, rfl⟩ : ∃ x e, y = ix4 0 0 x e := ⟨y 2, y 3, by
    have h0 : y 0 = (0 : Fin 1) := Fin.ext (by have : (y 0).val < 1 := (y 0).isLt; show (y 0).val = 0; omega)
    have h1 : y 1 = (0 : Fin 1) := Fin.ext (by have : (y 1).val < 1 := (y 1).isLt; show (y 1).val = 0; omega)
    rw [eq_ix4 y, h0, h1]; rfl⟩
  show (outsAt0 m c t.val t.isLt).2.1 (ix4 0 0 x e) = goal8 m c ((win0_8.rect t).emb (ix4 0 0 x e))
  have he : (win0_8.rect t).emb (ix4 0 0 x e) = ix4 (seqOf t) (headOf t) x e := by
    funext a; apply Fin.ext
    match a with
    | ⟨0, _⟩ => exact (win0_8.rect_emb_val t _ 0).trans (by rw [a0]; show t.val / 16 * 1 + 0 = t.val / 16; omega)
    | ⟨1, _⟩ => exact (win0_8.rect_emb_val t _ 1).trans (by rw [a1]; show t.val / 2 % 8 * 1 + 0 = t.val / 2 % 8; omega)
    | ⟨2, _⟩ => exact win0_8.rect_emb_val_of_index_zero t 2 a2 _
    | ⟨3, _⟩ => exact win0_8.rect_emb_val_of_index_zero t 3 a3 _
  rw [he, odd_state m c t h, show chunkOf t = 1 from Fin.ext h]
  exact (Cert.Reference6Ideal.Retention.next1 (A m c) (G m c) (seqOf t) (headOf t) x e).symm

theorem mem_block7 (t : Fin cfg0.N) (i : S8192x4096.Idx) :
    i ∈ ((cfg0.win 7).blk t).view.set ↔ ∀ a, win0_7.index t a * win0_7.size a ≤ i a ∧ (i a : Nat) < win0_7.index t a * win0_7.size a + win0_7.size a := by
  show i ∈ ((View.whole main_v1_0).slice (win0_7.rect t)).set ↔ _
  rw [View.set_slice_whole, Rect.mem_set_unit]

theorem mem_block8 (t : Fin cfg0.N) (i : S32x8x256x512.Idx) :
    i ∈ ((cfg0.win 8).blk t).view.set ↔ ∀ a, win0_8.index t a * win0_8.size a ≤ i a ∧ (i a : Nat) < win0_8.index t a * win0_8.size a + win0_8.size a := by
  show i ∈ ((View.whole main_v1_1).slice (win0_8.rect t)).set ↔ _
  rw [View.set_slice_whole, Rect.mem_set_unit]

theorem cover7 (i : S8192x4096.Idx) : ∃ t : Fin cfg0.N, (cfg0.win 7).flush t = true ∧ i ∈ ((cfg0.win 7).blk t).view.set := by
  have h0 : (i 0 : Nat) < 8192 := (i 0).isLt
  have h1 : (i 1 : Nat) < 4096 := (i 1).isLt
  have hN := N_eq
  refine ⟨⟨(i 0 : Nat) / 256 * 16 + (i 1 : Nat) / 512 * 2 + (1 - (i 0 : Nat) / 128 % 2), by omega⟩, flush7 _, ?_⟩
  obtain ⟨-, -, -, -, -, -, -, ⟨a0, a1⟩, -⟩ := where_blocks ⟨(i 0 : Nat) / 256 * 16 + (i 1 : Nat) / 512 * 2 + (1 - (i 0 : Nat) / 128 % 2), by omega⟩
  rw [mem_block7]
  intro a
  match a with
  | ⟨0, _⟩ => show win0_7.index _ 0 * 128 ≤ (i 0 : Nat) ∧ (i 0 : Nat) < win0_7.index _ 0 * 128 + 128
              rw [a0]; dsimp only; omega
  | ⟨1, _⟩ => show win0_7.index _ 1 * 512 ≤ (i 1 : Nat) ∧ (i 1 : Nat) < win0_7.index _ 1 * 512 + 512
              rw [a1]; dsimp only; omega

theorem cover8 (i : S32x8x256x512.Idx) : ∃ t : Fin cfg0.N, (cfg0.win 8).flush t = true ∧ i ∈ ((cfg0.win 8).blk t).view.set := by
  have h0 : (i 0 : Nat) < 32 := (i 0).isLt
  have h1 : (i 1 : Nat) < 8 := (i 1).isLt
  have h2 : (i 2 : Nat) < 256 := (i 2).isLt
  have h3 : (i 3 : Nat) < 512 := (i 3).isLt
  have hN := N_eq
  refine ⟨⟨(i 0 : Nat) * 16 + (i 1 : Nat) * 2 + 1, by omega⟩, (flush8 _).trans (decide_eq_true (by dsimp only; omega)), ?_⟩
  obtain ⟨-, -, -, -, -, -, -, -, a0, a1, a2, a3⟩ := where_blocks ⟨(i 0 : Nat) * 16 + (i 1 : Nat) * 2 + 1, by omega⟩
  rw [mem_block8]
  intro a
  match a with
  | ⟨0, _⟩ => show win0_8.index _ 0 * 1 ≤ (i 0 : Nat) ∧ (i 0 : Nat) < win0_8.index _ 0 * 1 + 1
              rw [a0]; dsimp only; omega
  | ⟨1, _⟩ => show win0_8.index _ 1 * 1 ≤ (i 1 : Nat) ∧ (i 1 : Nat) < win0_8.index _ 1 * 1 + 1
              rw [a1]; dsimp only; omega
  | ⟨2, _⟩ => show win0_8.index _ 2 * 256 ≤ (i 2 : Nat) ∧ (i 2 : Nat) < win0_8.index _ 2 * 256 + 256
              rw [a2]; omega
  | ⟨3, _⟩ => show win0_8.index _ 3 * 512 ≤ (i 3 : Nat) ∧ (i 3 : Nat) < win0_8.index _ 3 * 512 + 512
              rw [a3]; omega

theorem final7 (c : Dev nD) : (dats m 0 c).arrAt 7 cfg0.N = goal7 m c :=
  (dats m 0 c).arrAt_eq_of_cover 7 (goal7 m c) (fun t _ => flushed7_eq m c t) cover7

theorem final8 (c : Dev nD) : (dats m 0 c).arrAt 8 cfg0.N = goal8 m c :=
  (dats m 0 c).arrAt_eq_of_cover 8 (goal8 m c) (fun t hf => flushed8_eq m c t hf) cover8

end Cert.Kernel6Ideal.Retention

namespace Cert.Proof

theorem algebraic6 : Cert.algebraic_Kernel6Ideal_Reference6Ideal := fun m g m' g' _ hagree =>
  ⟨fun c => Cert.Kernel6Ideal.Retention.goal7 m c, fun c => Cert.Kernel6Ideal.Retention.goal8 m c,
    (θ_run _ _ _).mono (fun r h c => ⟨(h c).1.trans (Cert.Kernel6Ideal.Retention.final7 m c),
        (h c).2.1.trans (Cert.Kernel6Ideal.Retention.final8 m c), (h c).2.2⟩)
      (Cert.Kernel6Ideal.Value.run_blocks m g),
    (θ_run _ _ _).mono (fun r h c => ⟨(h c).1.trans (by
          rw [Cert.Reference6Ideal.Read.val_main_v132_eq, (hagree c).1, (hagree c).2.1, (hagree c).2.2.1, (hagree c).2.2.2]),
        (h c).2.1.trans (by rw [Cert.Reference6Ideal.Read.val_main_v102_eq, (hagree c).1, (hagree c).2.1]), (h c).2.2⟩)
      (Cert.Reference6Ideal.Value.run m' g')⟩

end Cert.Proof
-- ==== Proof.AttentionHead.lean ====
/- One head of the context attention: a query row against a sequence's keys and values, with a sink logit in the softmax's
   denominator; and the kernel's payloads read as that. -/
module

public import Idealize.ShloMosaic.Lib.Pipeline.Value
public import Idealize.ShloMosaic.Lib.MatmulPlain
public import Idealize.ShloMosaic.Lib.ValueIdx
public import proofs.«01_k».proof.Proof.Gen.Kernel7Ideal.Value

@[expose] public section

noncomputable section

open Idealize.ShloMosaic Idealize.ShloMosaic.TcCoe Idealize.SL.Sem
open Idealize.ShloMosaic.ValueIdx
open scoped BigOperators

namespace Cert.Attention

/-- A head's 128 values over the root of their mean square, scaled by `w`. -/
def normed (x w : Fin 128 → EReal) (d : Fin 128) : EReal :=
  x d * Ideal.rsqrt (Ideal.div (∑ k, x k * x k) (Ideal.ofBits .f32 0x43000000#32) + Ideal.ofBits .f32 0x358637BD#32) * w d
/-- A query's logit at a key. -/
def logit (q k : Fin 128 → EReal) : EReal := (∑ x, q x * k x) * Ideal.ofBits .f32 0x3DB504F3#32
/-- The largest of the logits `s` and the sink `z`. -/
def top (s : Fin 256 → EReal) (z : EReal) : EReal :=
  max z ((Finset.univ : Finset (Fin 256)).fold max (Ideal.ofBits .f32 0xFF800000#32) s)
/-- The softmax's denominator, and the weight of key `j`. -/
def total (s : Fin 256 → EReal) (z : EReal) : EReal := Ideal.exp (z - top s z) + ∑ j, Ideal.exp (s j - top s z)
def weight (s : Fin 256 → EReal) (z : EReal) (j : Fin 256) : EReal :=
  Ideal.exp (s j - top s z) * Ideal.div (Ideal.ofBits .f32 0x3F800000#32) (total s z)
/-- The values `v` averaged by the weights. -/
def attend (q : Fin 128 → EReal) (k : Fin 256 → Fin 128 → EReal) (v : Fin 256 → EReal) (z : EReal) : EReal :=
  ∑ j, weight (fun j => logit q (k j)) z j * v j

end Cert.Attention

namespace Cert.Kernel7Ideal.Attention

open Cert.Kernel7Ideal Cert.Kernel7Ideal.Gen Cert.Attention

/-- A row's sum and a row's maximum, kept as columns. -/
theorem rowSum_apply {n : ℕ} (y : FVec Ideal ⟨2, ![256, n]⟩ .f32) (h) (h1) (h2) (i : Fin 256) :
    shapeCast S256x1 (multiReduction (F := Ideal) (s := ⟨2, ![256, n]⟩) .add [1] S256 y 0x00000000#32 h h1 h2) shapeCasts_S256_S256x1 (ix2 i 0) = ∑ e : Fin n, y (ix2 i e) := by
  rw [shapeCast_apply _ _ (ix2 i 0) (ix1 i) (by rw [Shape.rowMajor_val_two, Shape.rowMajor_val_one]; show i.val = i.val * 1 + 0; omega)]
  rw [Ideal.multiReduction_add_single]
  refine Finset.sum_congr rfl fun e _ => congrArg y ?_
  funext a
  match a with
  | ⟨0, _⟩ => rfl
  | ⟨1, _⟩ => rfl

theorem rowMax_apply (y : FVec Ideal S256x256 .f32) (h) (h1) (h2) (i : Fin 256) :
    shapeCast S256x1 (multiReduction (F := Ideal) .maximumf [1] S256 y 0xFF800000#32 h h1 h2) shapeCasts_S256_S256x1 (ix2 i 0)
      = (Finset.univ : Finset (Fin 256)).fold max (Ideal.ofBits .f32 0xFF800000#32) (fun e => y (ix2 i e)) := by
  rw [shapeCast_apply _ _ (ix2 i 0) (ix1 i) (by rw [Shape.rowMajor_val_two, Shape.rowMajor_val_one]; show i.val = i.val * 1 + 0; omega)]
  rw [Ideal.multiReduction_maximumf_single]
  refine Finset.fold_congr fun e _ => congrArg y ?_
  funext a
  match a with
  | ⟨0, _⟩ => rfl
  | ⟨1, _⟩ => rfl

theorem column {n : ℕ} {α : Type} (y : S256x1.Idx → α) (h) (i : Fin 256) (e : Fin n) : broadcastTo ⟨2, ![256, n]⟩ y h (ix2 i e) = y (ix2 i 0) :=
  broadcastTo_apply _ _ (ix2 i e) (ix2 i 0) (by intro a; match a with | ⟨0, _⟩ => rfl | ⟨1, _⟩ => rfl)

/-- The normalised keys. -/
theorem pay2_apply (x : Vec Ideal S256x128 .f32) (w : Vec Ideal S1x128 .f32) (i : Fin 256) (d : Fin 128) :
    k0_pay2 (F := Ideal) x w (ix2 i d) = normed (fun k => x (ix2 i k)) (fun k => w (ix2 0 k)) d := by
  show x (ix2 i d) * broadcastTo S256x128 (fun z => Ideal.rsqrt (Ideal.div (shapeCast S256x1 (multiReduction (F := Ideal) .add [1] S256 (mulf (F := Ideal) (φ := .f32) x x) 0x00000000#32 reduces_S256x128_S256 (.inl rfl) rfl) shapeCasts_S256_S256x1 z)
      (Ideal.ofBits .f32 0x43000000#32) + Ideal.ofBits .f32 0x358637BD#32)) broadcasts_S256x1_S256x128 (ix2 i d)
      * broadcastTo S256x128 (shapeCast S1x128 w shapeCasts_S1x128_S1x128) broadcasts_S1x128_S256x128 (ix2 i d) = _
  rw [column, broadcastTo_apply _ broadcasts_S1x128_S256x128 (ix2 i d) (ix2 0 d) (by intro a; match a with | ⟨0, _⟩ => rfl | ⟨1, _⟩ => rfl), shapeCast_self]
  refine congrArg (fun z => x (ix2 i d) * Ideal.rsqrt (Ideal.div z _ + _) * w (ix2 0 d)) ?_
  exact rowSum_apply (mulf (F := Ideal) (φ := .f32) x x) _ _ _ i

theorem pay3_apply (x : Vec Ideal S256x128 .f32) (w : Vec Ideal S1x128 .f32) (i : Fin 256) (d : Fin 128) :
    k0_pay3 (F := Ideal) x w (ix2 i d) = normed (fun k => x (ix2 i k)) (fun k => w (ix2 0 k)) d := pay2_apply x w i d

/-- The four heads of a group run the same arithmetic. -/
theorem pay5_apply (x : Vec Ideal S256x128 .f32) (w : Vec Ideal S1x128 .f32) (i : Fin 256) (d : Fin 128) :
    k0_pay5 (F := Ideal) x w (ix2 i d) = normed (fun k => x (ix2 i k)) (fun k => w (ix2 0 k)) d := pay2_apply x w i d
theorem second (k v : FVec Ideal S256x128 .bf16) (x : Vec Ideal S256x128 .f32) (w : Vec Ideal S1x128 .f32) (z : Elt Ideal .f32) :
    k0_pay9 (F := Ideal) k v (k0_pay7 x) (k0_pay8 w) z = k0_pay6 k v (k0_pay5 x w) z := rfl
theorem third (k v : FVec Ideal S256x128 .bf16) (x : Vec Ideal S256x128 .f32) (w : Vec Ideal S1x128 .f32) (z : Elt Ideal .f32) :
    k0_pay11 (F := Ideal) k v (k0_pay10 x) w z = k0_pay6 k v (k0_pay5 x w) z := rfl
theorem fourth (k v : FVec Ideal S256x128 .bf16) (x : Vec Ideal S256x128 .f32) (w : Vec Ideal S1x128 .f32) (z : Elt Ideal .f32) :
    k0_pay1 (F := Ideal) k v x (k0_pay12 x) w z = k0_pay6 k v (k0_pay5 x w) z := rfl

section
variable (k v q : FVec Ideal S256x128 .bf16) (z : EReal)

/-- The logits of a block, their maximum with the sink, and the denominators, as the payload spells them. -/
abbrev scores : FVec Ideal S256x256 .f32 :=
  mulf (F := Ideal) (φ := .f32) (matmul (F := Ideal) (φ₁ := .bf16) (φ₂ := .bf16) dot_S256x128_S256x128_S256x256_1_1_0_0_n_n none q k (constant S256x256 .f32 0x00000000#32))
    (broadcast S256x256 (Ideal.ofBits .f32 0x3DB504F3#32 : Ideal .f32))
abbrev tops : FVec Ideal S256x1 .f32 :=
  maximumf (F := Ideal) (φ := .f32) (broadcastTo S256x1 (broadcast S1x1 z : FVec Ideal S1x1 .f32) broadcasts_S1x1_S256x1)
    (shapeCast S256x1 (multiReduction (F := Ideal) .maximumf [1] S256 (scores k q) 0xFF800000#32 reduces_S256x256_S256 (.inl rfl) rfl) shapeCasts_S256_S256x1)
abbrev exps : FVec Ideal S256x256 .f32 := fun y => Ideal.exp (scores k q y - broadcastTo S256x256 (tops k q z) broadcasts_S256x1_S256x256 y)
abbrev totals : FVec Ideal S256x1 .f32 := fun y => Ideal.exp (z - tops k q z y)
  + shapeCast S256x1 (multiReduction (F := Ideal) .add [1] S256 (exps k q z) 0x00000000#32 reduces_S256x256_S256 (.inl rfl) rfl) shapeCasts_S256_S256x1 y

/-- A row's logits. -/
abbrev row (i : Fin 256) : Fin 256 → EReal := fun j => logit (fun x => q (ix2 i x)) (fun x => k (ix2 j x))

theorem scores_apply (i j : Fin 256) : scores k q (ix2 i j) = row k q i j := by
  refine congrArg (fun y => y * Ideal.ofBits .f32 0x3DB504F3#32) ?_
  show FloatOps.matmul (F := Ideal) (φ₁ := .bf16) (φ₂ := .bf16) (DotDims.transposedRhs 256 128 256) none q k (constant S256x256 .f32 0x00000000#32) (ix2 i j) = _
  rw [Ideal.matmul_transposedRhs_apply]
  show Ideal.ofBits .f32 0x00000000#32 + _ = _
  rw [Ideal.ofBits_zero_f32, zero_add]

theorem tops_apply (i : Fin 256) : tops k q z (ix2 i 0) = top (row k q i) z := by
  refine congrArg (max z) ((rowMax_apply (scores k q) _ _ _ i).trans ?_)
  simp only [scores_apply]

theorem exps_apply (i j : Fin 256) : exps k q z (ix2 i j) = Ideal.exp (row k q i j - top (row k q i) z) := by
  show Ideal.exp (scores k q (ix2 i j) - broadcastTo S256x256 (tops k q z) broadcasts_S256x1_S256x256 (ix2 i j)) = _
  rw [column, scores_apply, tops_apply]

theorem totals_apply (i : Fin 256) : totals k q z (ix2 i 0) = total (row k q i) z := by
  refine congrArg₂ (fun a b : EReal => Ideal.exp (z - a) + b) (tops_apply k q z i) ((rowSum_apply (exps k q z) _ _ _ i).trans ?_)
  simp only [exps_apply]

/-- A head's output. -/
theorem pay6_apply (i : Fin 256) (d : Fin 128) :
    k0_pay6 (F := Ideal) k v q z (ix2 i d) = attend (fun x => q (ix2 i x)) (fun j x => k (ix2 j x)) (fun j => v (ix2 j d)) z := by
  show FloatOps.matmul (F := Ideal) (φ₁ := .bf16) (φ₂ := .bf16) (DotDims.plain 256 256 128) none
    (fun y => exps k q z y * broadcastTo S256x256 (fun x => Ideal.div (Ideal.ofBits .f32 0x3F800000#32) (totals k q z x)) broadcasts_S256x1_S256x256 y) v
    (constant S256x128 .f32 0x00000000#32) (ix2 i d) = _
  rw [Ideal.matmul_plain_apply]
  show Ideal.ofBits .f32 0x00000000#32 + _ = _
  rw [Ideal.ofBits_zero_f32, zero_add]
  refine Finset.sum_congr rfl fun j _ => ?_
  dsimp only
  rw [column, exps_apply, totals_apply]
  rfl

end

end Cert.Kernel7Ideal.Attention
-- ==== Proof.AttentionRef.lean ====
/- The context attention's reference read at an entry: its results are `Attention.attend` and `Attention.normed` of the
   projection's entries. -/
module

public import proofs.«01_k».proof.Proof.AttentionHead
public import proofs.«01_k».proof.Proof.Gen.Reference7Ideal.Read

@[expose] public section

noncomputable section

open Idealize.ShloMosaic Idealize.ShloMosaic.TcCoe Idealize.SL.Sem
open Idealize.ShloMosaic.ValueIdx
open scoped BigOperators

namespace Cert.Reference7Ideal.Attention

open Cert.Reference7Ideal Cert.Reference7Ideal.Gen Cert.Reference7Ideal.Read Cert.Attention

variable (a : (⟨S8192x4608, .f32⟩ : BufTy).Contents (Elt Ideal)) (qn kn : (⟨S128, .f32⟩ : BufTy).Contents (Elt Ideal))
  (sink : (⟨S8, .f32⟩ : BufTy).Contents (Elt Ideal))

/-- The row of position `t` of sequence `b`; the columns of a query head, a key head and a value head; a head's number. -/
abbrev tok (b : Fin 32) (t : Fin 256) : Fin 8192 := ⟨b.val * 256 + t.val, by omega⟩
abbrev head (h : Fin 2) (g : Fin 4) : Fin 8 := ⟨h.val * 4 + g.val, by omega⟩
abbrev qcol (n : Fin 8) (d : Fin 128) : Fin 4608 := ⟨3072 + n.val * 128 + d.val, by omega⟩
abbrev kcol (h : Fin 2) (d : Fin 128) : Fin 4608 := ⟨4096 + h.val * 128 + d.val, by omega⟩
abbrev vcol (h : Fin 2) (d : Fin 128) : Fin 4608 := ⟨4352 + h.val * 128 + d.val, by omega⟩
/-- The columns of the results. -/
abbrev ocol (n : Fin 8) (d : Fin 128) : Fin 1024 := ⟨n.val * 128 + d.val, by omega⟩
abbrev ccol (h : Fin 2) (d : Fin 128) : Fin 256 := ⟨h.val * 128 + d.val, by omega⟩

theorem token_apply (b : Fin 32) (t : Fin 256) (c : Fin 4608) :
    val_main_v0 (F := Ideal) a (ix3 b t c) = a (ix2 (tok b t) c) := by
  rw [val_main_v0_apply]
  refine congrArg a ?_
  funext p; apply Fin.ext
  match p with
  | ⟨0, _⟩ => show ((b.val * 256 + t.val) * 4608 + c.val) / 4608 = b.val * 256 + t.val; omega
  | ⟨1, _⟩ => show ((b.val * 256 + t.val) * 4608 + c.val) % 4608 = c.val; omega

/-! ### Queries, keys and values -/

theorem q_apply (b : Fin 32) (t : Fin 256) (n : Fin 8) (d : Fin 128) :
    val_main_v5 (F := Ideal) a (ix4 b t n d) = a (ix2 (tok b t) (qcol n d)) := by
  rw [val_main_v5_apply, val_main_v2_apply, ← token_apply a]
  refine congrArg (val_main_v0 (F := Ideal) a) ?_
  funext p; apply Fin.ext
  match p with
  | ⟨0, _⟩ => show (((b.val * 256 + t.val) * 8 + n.val) * 128 + d.val) / 262144 = b.val; omega
  | ⟨1, _⟩ => show (((b.val * 256 + t.val) * 8 + n.val) * 128 + d.val) / 1024 % 256 = t.val; omega
  | ⟨2, _⟩ => show 3072 + (((b.val * 256 + t.val) * 8 + n.val) * 128 + d.val) % 1024 = 3072 + n.val * 128 + d.val; omega

theorem k_apply (b : Fin 32) (t : Fin 256) (h : Fin 2) (d : Fin 128) :
    val_main_v20 (F := Ideal) a (ix4 b t h d) = a (ix2 (tok b t) (kcol h d)) := by
  rw [val_main_v20_apply, val_main_v3_apply, ← token_apply a]
  refine congrArg (val_main_v0 (F := Ideal) a) ?_
  funext p; apply Fin.ext
  match p with
  | ⟨0, _⟩ => show (((b.val * 256 + t.val) * 2 + h.val) * 128 + d.val) / 65536 = b.val; omega
  | ⟨1, _⟩ => show (((b.val * 256 + t.val) * 2 + h.val) * 128 + d.val) / 256 % 256 = t.val; omega
  | ⟨2, _⟩ => show 4096 + (((b.val * 256 + t.val) * 2 + h.val) * 128 + d.val) % 256 = 4096 + h.val * 128 + d.val; omega

theorem v_apply (b : Fin 32) (t : Fin 256) (h : Fin 2) (d : Fin 128) :
    val_main_v34 (F := Ideal) a (ix4 b t h d) = a (ix2 (tok b t) (vcol h d)) := by
  rw [val_main_v34_apply, val_main_v4_apply, ← token_apply a]
  refine congrArg (val_main_v0 (F := Ideal) a) ?_
  funext p; apply Fin.ext
  match p with
  | ⟨0, _⟩ => show (((b.val * 256 + t.val) * 2 + h.val) * 128 + d.val) / 65536 = b.val; omega
  | ⟨1, _⟩ => show (((b.val * 256 + t.val) * 2 + h.val) * 128 + d.val) / 256 % 256 = t.val; omega
  | ⟨2, _⟩ => show 4352 + (((b.val * 256 + t.val) * 2 + h.val) * 128 + d.val) % 256 = 4352 + h.val * 128 + d.val; omega

/-- A normalised query head and a normalised key head. -/
abbrev query (b : Fin 32) (t : Fin 256) (n : Fin 8) : Fin 128 → EReal :=
  normed (fun k => a (ix2 (tok b t) (qcol n k))) (fun k => qn (ix1 k))
abbrev keys (b : Fin 32) (h : Fin 2) (t : Fin 256) : Fin 128 → EReal :=
  normed (fun k => a (ix2 (tok b t) (kcol h k))) (fun k => kn (ix1 k))

theorem query_apply (b : Fin 32) (t : Fin 256) (n : Fin 8) (d : Fin 128) :
    val_main_v18 (F := Ideal) a qn (ix4 b t n d) = query a qn b t n d := by
  rw [val_main_v18_apply, val_main_v15_apply, val_main_v14_apply, val_main_v13_apply, val_main_v12_apply, val_main_v11_apply, val_main_v10_apply,
    val_main_v9_apply, val_main_v8_apply, val_main_v7_apply, val_main_v17_apply, val_main_v16_apply, q_apply]
  have es : (∑ k : Fin 128, val_main_v6 (F := Ideal) a (idx_main_v7 (idx_main_v8 (idx_main_v14 (ix4 b t n d))) k))
      = ∑ k : Fin 128, a (ix2 (tok b t) (qcol n k)) * a (ix2 (tok b t) (qcol n k)) := by
    refine Finset.sum_congr rfl fun k _ => ?_
    rw [val_main_v6_apply]
    have e : idx_main_v7 (idx_main_v8 (idx_main_v14 (ix4 b t n d))) k = ix4 b t n k := eq_ix4 _
    rw [e, q_apply]
    rfl
  have ew : idx_main_v16 (idx_main_v17 (ix4 b t n d)) = ix1 d := eq_ix1 _
  rw [es, ew]
  show (_ * Ideal.rsqrt (Ideal.div (Ideal.ofBits .f32 0x00000000#32 + _) (Ideal.ofBits .f32 0x43000000#32) + Ideal.ofBits .f32 0x358637BD#32)) * _ = _
  rw [Ideal.ofBits_zero_f32, zero_add]
  rfl

theorem keys_apply (b : Fin 32) (t : Fin 256) (h : Fin 2) (d : Fin 128) :
    val_main_v33 (F := Ideal) a kn (ix4 b t h d) = keys a kn b h t d := by
  rw [val_main_v33_apply, val_main_v30_apply, val_main_v29_apply, val_main_v28_apply, val_main_v27_apply, val_main_v26_apply, val_main_v25_apply,
    val_main_v24_apply, val_main_v23_apply, val_main_v22_apply, val_main_v32_apply, val_main_v31_apply, k_apply]
  have es : (∑ k : Fin 128, val_main_v21 (F := Ideal) a (idx_main_v22 (idx_main_v23 (idx_main_v29 (ix4 b t h d))) k))
      = ∑ k : Fin 128, a (ix2 (tok b t) (kcol h k)) * a (ix2 (tok b t) (kcol h k)) := by
    refine Finset.sum_congr rfl fun k _ => ?_
    rw [val_main_v21_apply]
    have e : idx_main_v22 (idx_main_v23 (idx_main_v29 (ix4 b t h d))) k = ix4 b t h k := eq_ix4 _
    rw [e, k_apply]
    rfl
  have ew : idx_main_v31 (idx_main_v32 (ix4 b t h d)) = ix1 d := eq_ix1 _
  rw [es, ew]
  show (_ * Ideal.rsqrt (Ideal.div (Ideal.ofBits .f32 0x00000000#32 + _) (Ideal.ofBits .f32 0x43000000#32) + Ideal.ofBits .f32 0x358637BD#32)) * _ = _
  rw [Ideal.ofBits_zero_f32, zero_add]
  rfl

/-! ### The softmax with its sink -/

/-- A query's logits against its sequence's keys, and its sink. -/
abbrev logits (b : Fin 32) (h : Fin 2) (g : Fin 4) (i : Fin 256) (j : Fin 256) : EReal := logit (query a qn b i (head h g)) (keys a kn b h j)
abbrev sinkOf (h : Fin 2) (g : Fin 4) : EReal := sink (ix1 (head h g))

theorem logits_apply (b : Fin 32) (h : Fin 2) (g : Fin 4) (i j : Fin 256) :
    val_main_v38 (F := Ideal) a qn kn (ix5 b h g i j) = logits a qn kn b h g i j := by
  rw [val_main_v38_apply, val_main_v36_apply, val_main_v35_apply, val_main_v37_apply]
  refine congrArg (fun z : EReal => z * Ideal.ofBits .f32 0x3DB504F3#32) (Finset.sum_congr rfl fun k _ => ?_)
  have el : lidx_main_v35 (idx_main_v36 (ix5 b h g i j)) k = ix4 b j h k := eq_ix4 _
  have er : idx_main_v19 (ridx_main_v35 (idx_main_v36 (ix5 b h g i j)) k) = ix4 b i (head h g) k := by
    funext p; apply Fin.ext
    match p with
    | ⟨0, _⟩ => show ((((b.val * 256 + i.val) * 2 + h.val) * 4 + g.val) * 128 + k.val) / 262144 = b.val; omega
    | ⟨1, _⟩ => show ((((b.val * 256 + i.val) * 2 + h.val) * 4 + g.val) * 128 + k.val) / 1024 % 256 = i.val; omega
    | ⟨2, _⟩ => show ((((b.val * 256 + i.val) * 2 + h.val) * 4 + g.val) * 128 + k.val) / 128 % 8 = h.val * 4 + g.val; omega
    | ⟨3, _⟩ => show ((((b.val * 256 + i.val) * 2 + h.val) * 4 + g.val) * 128 + k.val) % 128 = k.val; omega
  rw [val_main_v19_apply, el, er, keys_apply, query_apply, mul_comm]

theorem sink_apply (b : Fin 32) (h : Fin 2) (g : Fin 4) (i : Fin 256) :
    val_main_v41 (F := Ideal) sink (ix5 b h g i 0) = sinkOf sink h g := by
  rw [val_main_v41_apply, val_main_v40_apply, val_main_v39_apply]
  refine congrArg sink ?_
  funext p; apply Fin.ext
  match p with
  | ⟨0, _⟩ => show h.val * 4 + g.val = h.val * 4 + g.val; rfl

theorem joined_key (b : Fin 32) (h : Fin 2) (g : Fin 4) (i j : Fin 256) :
    val_main_v42 (F := Ideal) a qn kn sink (ix5 b h g i j.castSucc) = logits a qn kn b h g i j := by
  unfold val_main_v42
  rw [← logits_apply]
  refine concatenate_pair_apply_left (t := S32x2x4x256x257) (s₁ := S32x2x4x256x256) (s₂ := S32x2x4x256x1) (4 : Fin 5) _ _ _ _ rfl (ix5 b h g i j) (fun p => ?_)
  match p with
  | ⟨0, _⟩ => rfl
  | ⟨1, _⟩ => rfl
  | ⟨2, _⟩ => rfl
  | ⟨3, _⟩ => rfl
  | ⟨4, _⟩ => rfl

theorem joined_sink (b : Fin 32) (h : Fin 2) (g : Fin 4) (i : Fin 256) :
    val_main_v42 (F := Ideal) a qn kn sink (ix5 b h g i (Fin.last 256)) = sinkOf sink h g := by
  unfold val_main_v42
  rw [← sink_apply sink b h g i]
  refine concatenate_pair_apply_right (t := S32x2x4x256x257) (s₁ := S32x2x4x256x256) (s₂ := S32x2x4x256x1) (4 : Fin 5) _ _ _ _ rfl rfl (ix5 b h g i 0) (fun p hp => ?_) ?_
  · match p with
    | ⟨0, _⟩ => rfl
    | ⟨1, _⟩ => rfl
    | ⟨2, _⟩ => rfl
    | ⟨3, _⟩ => rfl
    | ⟨4, _⟩ => exact absurd rfl hp
  · rfl

theorem top_apply (b : Fin 32) (h : Fin 2) (g : Fin 4) (i : Fin 256) :
    val_main_v43 (F := Ideal) a qn kn sink (ix4 b h g i) = top (logits a qn kn b h g i) (sinkOf sink h g) := by
  unfold val_main_v43
  rw [Host.reduce_eq_fold_single (FloatOps.maximumf (F := Ideal) (φ := .f32)) _ _ reducesTo_S32x2x4x256x257_S32x2x4x256_d4 (by decide)]
  have hf : (val_main_v42 (F := Ideal) a qn kn sink ∘ (by decide : S32x2x4x256x257.Reduces [4] S32x2x4x256).lift (ix4 b h g i))
      = fun k : Fin 257 => val_main_v42 (F := Ideal) a qn kn sink (ix5 b h g i k) := by
    funext k
    refine congrArg (val_main_v42 (F := Ideal) a qn kn sink) ?_
    exact eq_ix5 _
  rw [hf]
  show (Finset.univ : Finset (Fin 257)).fold max (Ideal.ofBits .f32 0xFF800000#32) _ = _
  refine eq_of_forall_ge_iff fun c => ?_
  rw [Finset.fold_max_le]
  unfold top
  rw [max_le_iff, Finset.fold_max_le]
  constructor
  · rintro ⟨h0, h1⟩
    refine ⟨?_, h0, fun j _ => ?_⟩
    · rw [← joined_sink a qn kn sink b h g i]; exact h1 _ (Finset.mem_univ _)
    · rw [← joined_key a qn kn sink b h g i j]; exact h1 _ (Finset.mem_univ _)
  · rintro ⟨h0, h1, h2⟩
    refine ⟨h1, fun k _ => ?_⟩
    refine Fin.lastCases ?_ (fun j => ?_) k
    · rw [joined_sink]; exact h0
    · rw [joined_key]; exact h2 _ (Finset.mem_univ _)

theorem exp_key (b : Fin 32) (h : Fin 2) (g : Fin 4) (i j : Fin 256) :
    val_main_v47 (F := Ideal) a qn kn sink (ix5 b h g i j.castSucc)
      = Ideal.exp (logits a qn kn b h g i j - top (logits a qn kn b h g i) (sinkOf sink h g)) := by
  rw [val_main_v47_apply, val_main_v46_apply, val_main_v45_apply, val_main_v44_apply, joined_key]
  have e : idx_main_v44 (idx_main_v45 (ix5 b h g i j.castSucc)) = ix4 b h g i := eq_ix4 _
  rw [e, top_apply]
  rfl

theorem exp_sink (b : Fin 32) (h : Fin 2) (g : Fin 4) (i : Fin 256) :
    val_main_v47 (F := Ideal) a qn kn sink (ix5 b h g i (Fin.last 256))
      = Ideal.exp (sinkOf sink h g - top (logits a qn kn b h g i) (sinkOf sink h g)) := by
  rw [val_main_v47_apply, val_main_v46_apply, val_main_v45_apply, val_main_v44_apply, joined_sink]
  have e : idx_main_v44 (idx_main_v45 (ix5 b h g i (Fin.last 256))) = ix4 b h g i := eq_ix4 _
  rw [e, top_apply]
  rfl

theorem total_apply (b : Fin 32) (h : Fin 2) (g : Fin 4) (i : Fin 256) :
    val_main_v48 (F := Ideal) a qn kn sink (ix4 b h g i) = total (logits a qn kn b h g i) (sinkOf sink h g) := by
  rw [val_main_v48_apply]
  have e : ∀ k : Fin 257, idx_main_v48 (ix4 b h g i) k = ix5 b h g i k := fun k => eq_ix5 _
  simp only [e]
  show Ideal.ofBits .f32 0x00000000#32 + (∑ k : Fin 257, val_main_v47 (F := Ideal) a qn kn sink (ix5 b h g i k) : EReal) = _
  rw [Ideal.ofBits_zero_f32, zero_add, Fin.sum_univ_castSucc, exp_sink, add_comm]
  simp only [exp_key]
  rfl

theorem weight_apply (b : Fin 32) (h : Fin 2) (g : Fin 4) (i j : Fin 256) :
    val_main_v54 (F := Ideal) a qn kn sink (ix5 b h g i j) = weight (logits a qn kn b h g i) (sinkOf sink h g) j := by
  rw [val_main_v54_apply, val_main_v53_apply, val_main_v52_apply, val_main_v51_apply, val_main_v50_apply, val_main_v49_apply]
  have e : idx_main_v54 (ix5 b h g i j) = ix5 b h g i j.castSucc := eq_ix5 _
  have e1 : idx_main_v49 (idx_main_v52 (idx_main_v54 (ix5 b h g i j))) = ix4 b h g i := eq_ix4 _
  rw [e1, e, exp_key, total_apply]
  rfl

/-! ### The results -/

theorem attended (b : Fin 32) (t : Fin 256) (h : Fin 2) (g : Fin 4) (d : Fin 128) :
    val_main_v58 (F := Ideal) a qn kn sink (ix2 (tok b t) (ocol (head h g) d))
      = attend (query a qn b t (head h g)) (keys a kn b h) (fun j => a (ix2 (tok b j) (vcol h d))) (sinkOf sink h g) := by
  rw [val_main_v58_apply, val_main_v57_apply]
  show val_main_v56 (F := Ideal) a qn kn sink _ = _
  rw [val_main_v56_apply, val_main_v55_apply]
  have e : idx_main_v57 (ix2 (tok b t) (ocol (head h g) d)) = ix5 b t h g d := by
    funext p; apply Fin.ext
    match p with
    | ⟨0, _⟩ => show ((b.val * 256 + t.val) * 1024 + ((h.val * 4 + g.val) * 128 + d.val)) / 262144 = b.val; omega
    | ⟨1, _⟩ => show ((b.val * 256 + t.val) * 1024 + ((h.val * 4 + g.val) * 128 + d.val)) / 1024 % 256 = t.val; omega
    | ⟨2, _⟩ => show ((b.val * 256 + t.val) * 1024 + ((h.val * 4 + g.val) * 128 + d.val)) / 512 % 2 = h.val; omega
    | ⟨3, _⟩ => show ((b.val * 256 + t.val) * 1024 + ((h.val * 4 + g.val) * 128 + d.val)) / 128 % 4 = g.val; omega
    | ⟨4, _⟩ => show ((b.val * 256 + t.val) * 1024 + ((h.val * 4 + g.val) * 128 + d.val)) % 128 = d.val; omega
  rw [e]
  refine Finset.sum_congr rfl fun j _ => ?_
  have el : lidx_main_v55 (idx_main_v56 (ix5 b t h g d)) j = ix4 b j h d := eq_ix4 _
  have er : ridx_main_v55 (idx_main_v56 (ix5 b t h g d)) j = ix5 b h g t j := eq_ix5 _
  rw [el, er, v_apply, weight_apply, mul_comm]

theorem cached_key (b : Fin 32) (t : Fin 256) (h : Fin 2) (d : Fin 128) :
    val_main_v59 (F := Ideal) a kn (ix2 (tok b t) (ccol h d)) = keys a kn b h t d := by
  rw [val_main_v59_apply, ← keys_apply]
  refine congrArg (val_main_v33 (F := Ideal) a kn) ?_
  funext p; apply Fin.ext
  match p with
  | ⟨0, _⟩ => show ((b.val * 256 + t.val) * 256 + (h.val * 128 + d.val)) / 65536 = b.val; omega
  | ⟨1, _⟩ => show ((b.val * 256 + t.val) * 256 + (h.val * 128 + d.val)) / 256 % 256 = t.val; omega
  | ⟨2, _⟩ => show ((b.val * 256 + t.val) * 256 + (h.val * 128 + d.val)) / 128 % 2 = h.val; omega
  | ⟨3, _⟩ => show ((b.val * 256 + t.val) * 256 + (h.val * 128 + d.val)) % 128 = d.val; omega

theorem cached_value (b : Fin 32) (t : Fin 256) (h : Fin 2) (d : Fin 128) :
    val_main_v60 (F := Ideal) a (ix2 (tok b t) (ccol h d)) = a (ix2 (tok b t) (vcol h d)) := by
  rw [val_main_v60_apply, ← v_apply a b t h d]
  refine congrArg (val_main_v34 (F := Ideal) a) ?_
  funext p; apply Fin.ext
  match p with
  | ⟨0, _⟩ => show ((b.val * 256 + t.val) * 256 + (h.val * 128 + d.val)) / 65536 = b.val; omega
  | ⟨1, _⟩ => show ((b.val * 256 + t.val) * 256 + (h.val * 128 + d.val)) / 256 % 256 = t.val; omega
  | ⟨2, _⟩ => show ((b.val * 256 + t.val) * 256 + (h.val * 128 + d.val)) / 128 % 2 = h.val; omega
  | ⟨3, _⟩ => show ((b.val * 256 + t.val) * 256 + (h.val * 128 + d.val)) % 128 = d.val; omega

end Cert.Reference7Ideal.Attention
-- ==== Proof.Attention.lean ====
/- The context attention (program 7). Point `t` of the 32 × 2 grid takes key head `t % 2` of sequence `t / 2` and the four
   query heads that share it. -/
module

public import proofs.«01_k».proof.Defs
public import proofs.«01_k».proof.Proof.AttentionRef
public import proofs.«01_k».proof.Proof.Gen.Reference7Ideal.Run
public import Idealize.ShloMosaic.Lib.Pipeline.ValueKit
public import Idealize.ShloMosaic.Lib.Pipeline.ReadBack

@[expose] public section

noncomputable section

open Idealize.ShloMosaic hiding ix1 ix2 ix3 ix4 ix5 eq_ix1 eq_ix2 eq_ix3 eq_ix4
open Idealize.ShloMosaic.TcCoe Idealize.SL.Sem
open Idealize.ShloMosaic.ValueIdx
open Idealize.ShloMosaic.Pipeline (Dat)
open scoped BigOperators

namespace Cert.Kernel7Ideal.Attention

open Cert.Kernel7Ideal Cert.Kernel7Ideal.Gen Cert.Attention
open Cert.Reference7Ideal.Attention (tok head qcol kcol vcol ocol ccol query keys sinkOf)

variable (m : (ℓ : Loc nD τ sig) → Buf (Elt Ideal) ℓ) (ρ : Dev nD → PrngReg)

/-- The projection, the two normalisations' weights and the sinks. -/
abbrev A (c : Dev nD) : Buf (Elt Ideal) ((c : Thread nD τ).loc main_arg0) := m ((c : Thread nD τ).loc main_arg0)
abbrev QN (c : Dev nD) : Buf (Elt Ideal) ((c : Thread nD τ).loc main_arg1) := m ((c : Thread nD τ).loc main_arg1)
abbrev KN (c : Dev nD) : Buf (Elt Ideal) ((c : Thread nD τ).loc main_arg2) := m ((c : Thread nD τ).loc main_arg2)
abbrev Z (c : Dev nD) : Buf (Elt Ideal) ((c : Thread nD τ).loc main_arg3) := m ((c : Thread nD τ).loc main_arg3)
/-- The reference's three results, of the kernel's own arguments. -/
abbrev goal6 (c : Dev nD) : Buf (Elt Ideal) ((c : Thread nD τ).loc main_v2_0) :=
  Cert.Reference7Ideal.Read.val_main_v58 (F := Ideal) (A m c) (QN m c) (KN m c) (Z m c)
abbrev goal7 (c : Dev nD) : Buf (Elt Ideal) ((c : Thread nD τ).loc main_v2_1) :=
  Cert.Reference7Ideal.Read.val_main_v59 (F := Ideal) (A m c) (KN m c)
abbrev goal8 (c : Dev nD) : Buf (Elt Ideal) ((c : Thread nD τ).loc main_v2_2) :=
  Cert.Reference7Ideal.Read.val_main_v60 (F := Ideal) (A m c)

theorem N_eq : cfg0.N = 64 := N_0

/-- The sequence and the key head of point `t`. -/
abbrev seqOf (t : Fin cfg0.N) : Fin 32 := ⟨t.val / 2, by have := t.isLt; have := N_eq; omega⟩
abbrev headOf (t : Fin cfg0.N) : Fin 2 := ⟨t.val % 2, by omega⟩

theorem where_blocks : ∀ t : Fin cfg0.N,
    (win0_0.index t 0 = 0) ∧ (win0_1.index t 0 = t.val / 2 ∧ win0_1.index t 1 = 6 + t.val % 2)
      ∧ (win0_2.index t 0 = t.val / 2 ∧ win0_2.index t 1 = 32 + t.val % 2) ∧ (win0_3.index t 0 = t.val / 2 ∧ win0_3.index t 1 = 34 + t.val % 2)
      ∧ (win0_4.index t 0 = 0 ∧ win0_4.index t 1 = 0) ∧ (win0_5.index t 0 = 0 ∧ win0_5.index t 1 = 0)
      ∧ (win0_6.index t 0 = t.val / 2 ∧ win0_6.index t 1 = t.val % 2)
      ∧ (win0_7.index t 0 = t.val / 2 ∧ win0_7.index t 1 = t.val % 2) ∧ (win0_8.index t 0 = t.val / 2 ∧ win0_8.index t 1 = t.val % 2) :=
  (by decide +kernel : ∀ t : Fin grid0.N, _)

theorem where_sink : ∀ t : Fin cfg0.N, ∀ g : Fin 4, k0_off1 (grid0.coords t) (BitVec.ofNat 32 g.val) 0 = t.val % 2 * 4 + g.val :=
  (by decide +kernel : ∀ t : Fin grid0.N, _)

theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)

/-- The weights with an axis inserted, as the launch passes them. -/
theorem weights4 (c : Dev nD) (d : Fin 128) : V m c main_v0 (ix2 0 d) = QN m c (ix1 d) := by
  show broadcastInDim S1x128 ![1] bcast_S128_S1x128_1 (QN m c) (ix2 0 d) = _
  refine broadcastInDim_apply _ _ _ _ _ (fun a => ?_)
  match a with
  | ⟨0, _⟩ => rfl
theorem weights5 (c : Dev nD) (d : Fin 128) : V m c main_v1 (ix2 0 d) = KN m c (ix1 d) := by
  show broadcastInDim S1x128 ![1] bcast_S128_S1x128_1 (KN m c) (ix2 0 d) = _
  refine broadcastInDim_apply _ _ _ _ _ (fun a => ?_)
  match a with
  | ⟨0, _⟩ => rfl

/-! ### The blocks a point reads -/

/-- The sink of query head `g` of the point's four. -/
theorem sink_at (c : Dev nD) (t : Fin cfg0.N) (g : Fin 4) (w : BitVec 32) (hw : w = BitVec.ofNat 32 g.val) (hb) (p) :
    View.ld (iblk m c 0 t) (Rect.unit (s := S8) (k0_off1 (grid0.coords t) w) ![1] hb) (Shape.Idx.first p)
      = sinkOf (Z m c) (headOf t) g := by
  subst hw
  obtain ⟨a0, -⟩ := where_blocks t
  have d0 := where_sink t g
  rw [View.ld_unit]
  show V m c main_arg3 ((win0_0.rect t).emb _) = _
  rw [V_main_arg3]
  refine congrArg (Z m c) ?_
  funext a; apply Fin.ext
  match a with
  | ⟨0, _⟩ => exact (win0_0.rect_emb_val_of_index_zero t 0 a0 _).trans (by show k0_off1 (grid0.coords t) (BitVec.ofNat 32 g.val) 0 + 0 = t.val % 2 * 4 + g.val; omega)

theorem q_at (c : Dev nD) (t : Fin cfg0.N) (g : Fin 4) (o : ℕ) (ho : o = g.val * 128) (hb) (i : Fin 256) (d : Fin 128) :
    View.ld (iblk m c 1 t) (Rect.unit (s := S256x512) ![0, o] ![256, 128] hb) (ix2 i d) = A m c (ix2 (tok (seqOf t) i) (qcol (head (headOf t) g) d)) := by
  subst ho
  obtain ⟨-, ⟨a0, a1⟩, -⟩ := where_blocks t
  rw [View.ld_unit]
  show V m c main_arg0 ((win0_1.rect t).emb _) = _
  rw [V_main_arg0]
  refine congrArg (A m c) ?_
  funext a; apply Fin.ext
  match a with
  | ⟨0, _⟩ => exact (win0_1.rect_emb_val t _ 0).trans (by rw [a0]; show t.val / 2 * 256 + (0 + i.val) = t.val / 2 * 256 + i.val; omega)
  | ⟨1, _⟩ => exact (win0_1.rect_emb_val t _ 1).trans (by rw [a1]; show (6 + t.val % 2) * 512 + (g.val * 128 + d.val) = 3072 + (t.val % 2 * 4 + g.val) * 128 + d.val; omega)

theorem k_at (c : Dev nD) (t : Fin cfg0.N) (i : Fin 256) (d : Fin 128) :
    iblk m c 2 t (ix2 i d) = A m c (ix2 (tok (seqOf t) i) (kcol (headOf t) d)) := by
  obtain ⟨-, -, ⟨a0, a1⟩, -⟩ := where_blocks t
  show V m c main_arg0 ((win0_2.rect t).emb (ix2 i d)) = _
  rw [V_main_arg0]
  refine congrArg (A m c) ?_
  funext a; apply Fin.ext
  match a with
  | ⟨0, _⟩ => exact (win0_2.rect_emb_val t _ 0).trans (by rw [a0]; rfl)
  | ⟨1, _⟩ => exact (win0_2.rect_emb_val t _ 1).trans (by rw [a1]; show (32 + t.val % 2) * 128 + d.val = 4096 + t.val % 2 * 128 + d.val; omega)

theorem v_at (c : Dev nD) (t : Fin cfg0.N) (i : Fin 256) (d : Fin 128) :
    iblk m c 3 t (ix2 i d) = A m c (ix2 (tok (seqOf t) i) (vcol (headOf t) d)) := by
  obtain ⟨-, -, -, ⟨a0, a1⟩, -⟩ := where_blocks t
  show V m c main_arg0 ((win0_3.rect t).emb (ix2 i d)) = _
  rw [V_main_arg0]
  refine congrArg (A m c) ?_
  funext a; apply Fin.ext
  match a with
  | ⟨0, _⟩ => exact (win0_3.rect_emb_val t _ 0).trans (by rw [a0]; rfl)
  | ⟨1, _⟩ => exact (win0_3.rect_emb_val t _ 1).trans (by rw [a1]; show (34 + t.val % 2) * 128 + d.val = 4352 + t.val % 2 * 128 + d.val; omega)

theorem qn_at (c : Dev nD) (t : Fin cfg0.N) (d : Fin 128) : iblk m c 4 t (ix2 0 d) = QN m c (ix1 d) := by
  obtain ⟨-, -, -, -, ⟨a0, a1⟩, -⟩ := where_blocks t
  rw [← weights4]
  show V m c main_v0 ((win0_4.rect t).emb (ix2 0 d)) = _
  refine congrArg (V m c main_v0) ?_
  funext a; apply Fin.ext
  match a with
  | ⟨0, _⟩ => exact win0_4.rect_emb_val_of_index_zero t 0 a0 _
  | ⟨1, _⟩ => exact win0_4.rect_emb_val_of_index_zero t 1 a1 _

theorem kn_at (c : Dev nD) (t : Fin cfg0.N) (d : Fin 128) : iblk m c 5 t (ix2 0 d) = KN m c (ix1 d) := by
  obtain ⟨-, -, -, -, -, ⟨a0, a1⟩, -⟩ := where_blocks t
  rw [← weights5]
  show V m c main_v1 ((win0_5.rect t).emb (ix2 0 d)) = _
  refine congrArg (V m c main_v1) ?_
  funext a; apply Fin.ext
  match a with
  | ⟨0, _⟩ => exact win0_5.rect_emb_val_of_index_zero t 0 a0 _
  | ⟨1, _⟩ => exact win0_5.rect_emb_val_of_index_zero t 1 a1 _

/-! ### What a point computes -/

theorem key_block (c : Dev nD) (t : Fin cfg0.N) (i : Fin 256) (d : Fin 128) :
    k0_pay2 (F := Ideal) (iblk m c 2 t) (iblk m c 5 t) (ix2 i d) = keys (A m c) (KN m c) (seqOf t) (headOf t) i d := by
  refine (pay2_apply (iblk m c 2 t) (iblk m c 5 t) i d).trans ?_
  simp only [k_at, kn_at]

/-- The output of query head `g`, from its 128 columns `x` and its sink `z`. -/
theorem head_block (c : Dev nD) (t : Fin cfg0.N) (g : Fin 4) (x : Vec Ideal S256x128 .f32) (z : Elt Ideal .f32)
    (hx : ∀ i d, x (ix2 i d) = A m c (ix2 (tok (seqOf t) i) (qcol (head (headOf t) g) d))) (hz : z = sinkOf (Z m c) (headOf t) g) (i : Fin 256) (d : Fin 128) :
    k0_pay6 (F := Ideal) (k0_pay3 (iblk m c 2 t) (iblk m c 5 t)) (k0_pay4 (iblk m c 3 t)) (k0_pay5 x (iblk m c 4 t)) z (ix2 i d)
      = goal6 m c (ix2 (tok (seqOf t) i) (ocol (head (headOf t) g) d)) := by
  refine (pay6_apply _ _ _ _ i d).trans (Eq.trans ?_ (Cert.Reference7Ideal.Attention.attended (A m c) (QN m c) (KN m c) (Z m c) (seqOf t) i (headOf t) g d).symm)
  subst hz
  have hq : (fun k => k0_pay5 (F := Ideal) x (iblk m c 4 t) (ix2 i k)) = query (A m c) (QN m c) (seqOf t) i (head (headOf t) g) := by
    funext k
    refine (pay5_apply x (iblk m c 4 t) i k).trans ?_
    simp only [hx, qn_at]
  have hk : (fun j k => k0_pay3 (F := Ideal) (iblk m c 2 t) (iblk m c 5 t) (ix2 j k)) = keys (A m c) (KN m c) (seqOf t) (headOf t) := by
    funext j k
    exact key_block m c t j k
  have hv : (fun j => k0_pay4 (F := Ideal) (iblk m c 3 t) (ix2 j d)) = fun j => A m c (ix2 (tok (seqOf t) j) (vcol (headOf t) d)) := by
    funext j
    exact v_at m c t j d
  rw [hq, hk, hv]

/-- Where the four heads' columns lie in the output's block. -/
theorem emb6 (c : Dev nD) (t : Fin cfg0.N) (i : Fin 256) (g : Fin 4) (d : Fin 128) (e : Fin 512) (he : e.val = g.val * 128 + d.val) :
    (win0_6.rect t).emb (ix2 i e) = ix2 (tok (seqOf t) i) (ocol (head (headOf t) g) d) := by
  obtain ⟨-, -, -, -, -, -, ⟨a0, a1⟩, -⟩ := where_blocks t
  funext a; apply Fin.ext
  match a with
  | ⟨0, _⟩ => exact (win0_6.rect_emb_val t _ 0).trans (by rw [a0]; rfl)
  | ⟨1, _⟩ => exact (win0_6.rect_emb_val t _ 1).trans (by rw [a1]; show t.val % 2 * 512 + e.val = (t.val % 2 * 4 + g.val) * 128 + d.val; omega)

theorem column_emb (o : ℕ) (ho : o + 128 ≤ 512) (hb) (i : Fin 256) (d : Fin 128) :
    (Rect.unit (s := S256x512) ![0, o] ![256, 128] hb).emb (ix2 i d) = ix2 i (⟨o + d.val, by omega⟩ : Fin 512) := by
  funext a; apply Fin.ext
  match a with
  | ⟨0, _⟩ => show 0 + 1 * i.val = i.val; omega
  | ⟨1, _⟩ => show o + 1 * d.val = o + d.val; omega

theorem column_mem (o : ℕ) (hb) (i : Fin 256) (e : Fin 512) (h : o ≤ e.val ∧ e.val < o + 128) :
    ix2 i e ∈ (Rect.unit (s := S256x512) ![0, o] ![256, 128] hb).set := by
  rw [Rect.mem_set_unit]
  intro a
  match a with
  | ⟨0, _⟩ => show 0 ≤ i.val ∧ i.val < 0 + 256; omega
  | ⟨1, _⟩ => exact h

theorem out_block (c : Dev nD) (t : Fin cfg0.N) (y : S256x512.Idx) : (outsAt0 m c t).1 y = goal6 m c ((win0_6.rect t).emb y) := by
  unfold outsAt0
  frame_out
  refine View.canon_apply_of_pieces (fun y => goal6 m c ((win0_6.rect t).emb y)) _ (View.PiecesOf.mem (G := fun y => goal6 m c ((win0_6.rect t).emb y)) ?_) y ?_
  · exact ⟨(fun x => by
    obtain ⟨i, d, rfl⟩ : ∃ (i : Fin 256) (d : Fin 128), x = ix2 i d := ⟨x 0, x 1, eq_ix2 x⟩
    refine Eq.trans ?_ (congrArg (goal6 m c) ((congrArg (win0_6.rect t).emb (column_emb 384 (by omega) inb_S256x512_S256x128_0_384 i d)).trans
      (emb6 c t i 3 d ⟨384 + d.val, by omega⟩ (by show 384 + d.val = 3 * 128 + d.val; omega))).symm)
    exact (congrFun (fourth _ _ _ _ _) _).trans <| head_block m c t 3 _ _ (fun i d => q_at m c t 3 384 rfl _ i d) (sink_at m c t 3 _ rfl _ _) i d),
    (fun x => by
    obtain ⟨i, d, rfl⟩ : ∃ (i : Fin 256) (d : Fin 128), x = ix2 i d := ⟨x 0, x 1, eq_ix2 x⟩
    refine Eq.trans ?_ (congrArg (goal6 m c) ((congrArg (win0_6.rect t).emb (column_emb 256 (by omega) inb_S256x512_S256x128_0_256 i d)).trans
      (emb6 c t i 2 d ⟨256 + d.val, by omega⟩ (by show 256 + d.val = 2 * 128 + d.val; omega))).symm)
    exact (congrFun (third _ _ _ _ _) _).trans <| head_block m c t 2 _ _ (fun i d => q_at m c t 2 256 rfl _ i d) (sink_at m c t 2 _ rfl _ _) i d),
    (fun x => by
    obtain ⟨i, d, rfl⟩ : ∃ (i : Fin 256) (d : Fin 128), x = ix2 i d := ⟨x 0, x 1, eq_ix2 x⟩
    refine Eq.trans ?_ (congrArg (goal6 m c) ((congrArg (win0_6.rect t).emb (column_emb 128 (by omega) inb_S256x512_S256x128_0_128 i d)).trans
      (emb6 c t i 1 d ⟨128 + d.val, by omega⟩ (by show 128 + d.val = 1 * 128 + d.val; omega))).symm)
    exact (congrFun (second _ _ _ _ _) _).trans <| head_block m c t 1 _ _ (fun i d => q_at m c t 1 128 rfl _ i d) (sink_at m c t 1 _ rfl _ _) i d),
    (fun x => by
    obtain ⟨i, d, rfl⟩ : ∃ (i : Fin 256) (d : Fin 128), x = ix2 i d := ⟨x 0, x 1, eq_ix2 x⟩
    refine Eq.trans ?_ (congrArg (goal6 m c) ((congrArg (win0_6.rect t).emb (column_emb 0 (by omega) inb_S256x512_S256x128_0_0 i d)).trans
      (emb6 c t i 0 d ⟨0 + d.val, by omega⟩ (by show 0 + d.val = 0 * 128 + d.val; omega))).symm)
    exact head_block m c t 0 _ _ (fun i d => q_at m c t 0 0 rfl _ i d) (sink_at m c t 0 _ rfl _ _) i d), trivial⟩
  obtain ⟨i, e, rfl⟩ : ∃ (i : Fin 256) (e : Fin 512), y = ix2 i e := ⟨y 0, y 1, eq_ix2 y⟩
  have he := e.isLt
  rcases (by omega : e.val < 128 ∨ (128 ≤ e.val ∧ e.val < 256) ∨ (256 ≤ e.val ∧ e.val < 384) ∨ 384 ≤ e.val) with h | h | h | h
  · exact ⟨_, .tail _ (.tail _ (.tail _ (.head _))), column_mem 0 inb_S256x512_S256x128_0_0 i e (by omega)⟩
  · exact ⟨_, .tail _ (.tail _ (.head _)), column_mem 128 inb_S256x512_S256x128_0_128 i e (by omega)⟩
  · exact ⟨_, .tail _ (.head _), column_mem 256 inb_S256x512_S256x128_0_256 i e (by omega)⟩
  · exact ⟨_, .head _, column_mem 384 inb_S256x512_S256x128_0_384 i e (by omega)⟩

theorem key_out (c : Dev nD) (t : Fin cfg0.N) (i : Fin 256) (d : Fin 128) :
    (outsAt0 m c t).2.1 (ix2 i d) = keys (A m c) (KN m c) (seqOf t) (headOf t) i d := by
  unfold outsAt0
  frame_out
  exact key_block m c t i d

theorem value_out (c : Dev nD) (t : Fin cfg0.N) (i : Fin 256) (d : Fin 128) :
    (outsAt0 m c t).2.2 (ix2 i d) = A m c (ix2 (tok (seqOf t) i) (vcol (headOf t) d)) := by
  unfold outsAt0
  frame_out
  exact v_at m c t i d

/-! ### The blocks written are the reference's, and cover the arrays -/

theorem flushed6_eq (c : Dev nD) (t : Fin cfg0.N) :
    (dats m 0 c).flushed 6 t = ((cfg0.win 6).blk t).view.read (Elt Ideal) (goal6 m c) := by
  rw [Value.flushed6]
  funext (y : S256x512.Idx)
  exact out_block m c t y

theorem flushed7_eq (c : Dev nD) (t : Fin cfg0.N) :
    (dats m 0 c).flushed 7 t = ((cfg0.win 7).blk t).view.read (Elt Ideal) (goal7 m c) := by
  rw [Value.flushed7]
  obtain ⟨-, -, -, -, -, -, -, ⟨a0, a1⟩, -⟩ := where_blocks t
  funext (y : S256x128.Idx)
  obtain ⟨i, d, rfl⟩ : ∃ i d, y = ix2 i d := ⟨y 0, y 1, eq_ix2 y⟩
  show (outsAt0 m c t).2.1 (ix2 i d) = goal7 m c ((win0_7.rect t).emb (ix2 i d))
  have he : (win0_7.rect t).emb (ix2 i d) = ix2 (tok (seqOf t) i) (ccol (headOf t) d) := by
    funext a; apply Fin.ext
    match a with
    | ⟨0, _⟩ => exact (win0_7.rect_emb_val t _ 0).trans (by rw [a0]; rfl)
    | ⟨1, _⟩ => exact (win0_7.rect_emb_val t _ 1).trans (by rw [a1]; rfl)
  rw [he, key_out]
  exact (Cert.Reference7Ideal.Attention.cached_key (A m c) (KN m c) (seqOf t) i (headOf t) d).symm

theorem flushed8_eq (c : Dev nD) (t : Fin cfg0.N) :
    (dats m 0 c).flushed 8 t = ((cfg0.win 8).blk t).view.read (Elt Ideal) (goal8 m c) := by
  rw [Value.flushed8]
  obtain ⟨-, -, -, -, -, -, -, -, ⟨a0, a1⟩⟩ := where_blocks t
  funext (y : S256x128.Idx)
  obtain ⟨i, d, rfl⟩ : ∃ i d, y = ix2 i d := ⟨y 0, y 1, eq_ix2 y⟩
  show (outsAt0 m c t).2.2 (ix2 i d) = goal8 m c ((win0_8.rect t).emb (ix2 i d))
  have he : (win0_8.rect t).emb (ix2 i d) = ix2 (tok (seqOf t) i) (ccol (headOf t) d) := by
    funext a; apply Fin.ext
    match a with
    | ⟨0, _⟩ => exact (win0_8.rect_emb_val t _ 0).trans (by rw [a0]; rfl)
    | ⟨1, _⟩ => exact (win0_8.rect_emb_val t _ 1).trans (by rw [a1]; rfl)
  rw [he, value_out]
  exact (Cert.Reference7Ideal.Attention.cached_value (A m c) (seqOf t) i (headOf t) d).symm

theorem mem_block6 (t : Fin cfg0.N) (i : S8192x1024.Idx) :
    i ∈ ((cfg0.win 6).blk t).view.set ↔ ∀ a, win0_6.index t a * win0_6.size a ≤ i a ∧ (i a : Nat) < win0_6.index t a * win0_6.size a + win0_6.size a := by
  show i ∈ ((View.whole main_v2_0).slice (win0_6.rect t)).set ↔ _
  rw [View.set_slice_whole, Rect.mem_set_unit]

theorem cover6 (i : S8192x1024.Idx) : ∃ t : Fin cfg0.N, (cfg0.win 6).flush t = true ∧ i ∈ ((cfg0.win 6).blk t).view.set := by
  have h0 : (i 0 : Nat) < 8192 := (i 0).isLt
  have h1 : (i 1 : Nat) < 1024 := (i 1).isLt
  have hN := N_eq
  refine ⟨⟨(i 0 : Nat) / 256 * 2 + (i 1 : Nat) / 512, by omega⟩, flush6 _, ?_⟩
  obtain ⟨-, -, -, -, -, -, ⟨a0, a1⟩, -⟩ := where_blocks ⟨(i 0 : Nat) / 256 * 2 + (i 1 : Nat) / 512, by omega⟩
  rw [mem_block6]
  intro a
  match a with
  | ⟨0, _⟩ => show win0_6.index _ 0 * 256 ≤ (i 0 : Nat) ∧ (i 0 : Nat) < win0_6.index _ 0 * 256 + 256
              rw [a0]; dsimp only; omega
  | ⟨1, _⟩ => show win0_6.index _ 1 * 512 ≤ (i 1 : Nat) ∧ (i 1 : Nat) < win0_6.index _ 1 * 512 + 512
              rw [a1]; dsimp only; omega

theorem final6 (c : Dev nD) : (dats m 0 c).arrAt 6 cfg0.N = goal6 m c :=
  (dats m 0 c).arrAt_eq_of_cover 6 (goal6 m c) (fun t _ => flushed6_eq m c t) cover6

theorem mem_block7 (t : Fin cfg0.N) (i : S8192x256.Idx) :
    i ∈ ((cfg0.win 7).blk t).view.set ↔ ∀ a, win0_7.index t a * win0_7.size a ≤ i a ∧ (i a : Nat) < win0_7.index t a * win0_7.size a + win0_7.size a := by
  show i ∈ ((View.whole main_v2_1).slice (win0_7.rect t)).set ↔ _
  rw [View.set_slice_whole, Rect.mem_set_unit]

theorem cover7 (i : S8192x256.Idx) : ∃ t : Fin cfg0.N, (cfg0.win 7).flush t = true ∧ i ∈ ((cfg0.win 7).blk t).view.set := by
  have h0 : (i 0 : Nat) < 8192 := (i 0).isLt
  have h1 : (i 1 : Nat) < 256 := (i 1).isLt
  have hN := N_eq
  refine ⟨⟨(i 0 : Nat) / 256 * 2 + (i 1 : Nat) / 128, by omega⟩, flush7 _, ?_⟩
  obtain ⟨-, -, -, -, -, -, -, ⟨a0, a1⟩, -⟩ := where_blocks ⟨(i 0 : Nat) / 256 * 2 + (i 1 : Nat) / 128, by omega⟩
  rw [mem_block7]
  intro a
  match a with
  | ⟨0, _⟩ => show win0_7.index _ 0 * 256 ≤ (i 0 : Nat) ∧ (i 0 : Nat) < win0_7.index _ 0 * 256 + 256
              rw [a0]; dsimp only; omega
  | ⟨1, _⟩ => show win0_7.index _ 1 * 128 ≤ (i 1 : Nat) ∧ (i 1 : Nat) < win0_7.index _ 1 * 128 + 128
              rw [a1]; dsimp only; omega

theorem final7 (c : Dev nD) : (dats m 0 c).arrAt 7 cfg0.N = goal7 m c :=
  (dats m 0 c).arrAt_eq_of_cover 7 (goal7 m c) (fun t _ => flushed7_eq m c t) cover7

theorem mem_block8 (t : Fin cfg0.N) (i : S8192x256.Idx) :
    i ∈ ((cfg0.win 8).blk t).view.set ↔ ∀ a, win0_8.index t a * win0_8.size a ≤ i a ∧ (i a : Nat) < win0_8.index t a * win0_8.size a + win0_8.size a := by
  show i ∈ ((View.whole main_v2_2).slice (win0_8.rect t)).set ↔ _
  rw [View.set_slice_whole, Rect.mem_set_unit]

theorem cover8 (i : S8192x256.Idx) : ∃ t : Fin cfg0.N, (cfg0.win 8).flush t = true ∧ i ∈ ((cfg0.win 8).blk t).view.set := by
  have h0 : (i 0 : Nat) < 8192 := (i 0).isLt
  have h1 : (i 1 : Nat) < 256 := (i 1).isLt
  have hN := N_eq
  refine ⟨⟨(i 0 : Nat) / 256 * 2 + (i 1 : Nat) / 128, by omega⟩, flush8 _, ?_⟩
  obtain ⟨-, -, -, -, -, -, -, -, ⟨a0, a1⟩⟩ := where_blocks ⟨(i 0 : Nat) / 256 * 2 + (i 1 : Nat) / 128, by omega⟩
  rw [mem_block8]
  intro a
  match a with
  | ⟨0, _⟩ => show win0_8.index _ 0 * 256 ≤ (i 0 : Nat) ∧ (i 0 : Nat) < win0_8.index _ 0 * 256 + 256
              rw [a0]; dsimp only; omega
  | ⟨1, _⟩ => show win0_8.index _ 1 * 128 ≤ (i 1 : Nat) ∧ (i 1 : Nat) < win0_8.index _ 1 * 128 + 128
              rw [a1]; dsimp only; omega

theorem final8 (c : Dev nD) : (dats m 0 c).arrAt 8 cfg0.N = goal8 m c :=
  (dats m 0 c).arrAt_eq_of_cover 8 (goal8 m c) (fun t _ => flushed8_eq m c t) cover8

end Cert.Kernel7Ideal.Attention

namespace Cert.Proof

theorem algebraic7 : Cert.algebraic_Kernel7Ideal_Reference7Ideal := fun m g m' g' _ hagree =>
  ⟨fun c => Cert.Kernel7Ideal.Attention.goal6 m c, fun c => Cert.Kernel7Ideal.Attention.goal7 m c, fun c => Cert.Kernel7Ideal.Attention.goal8 m c,
    (θ_run _ _ _).mono (fun r h c => ⟨(h c).1.trans (Cert.Kernel7Ideal.Attention.final6 m c),
        (h c).2.1.trans (Cert.Kernel7Ideal.Attention.final7 m c), (h c).2.2.1.trans (Cert.Kernel7Ideal.Attention.final8 m c), (h c).2.2.2⟩)
      (Cert.Kernel7Ideal.Value.run_blocks m g),
    (θ_run _ _ _).mono (fun r h c => ⟨(h c).1.trans (by
          rw [Cert.Reference7Ideal.Read.val_main_v58_eq, (hagree c).1, (hagree c).2.1, (hagree c).2.2.1, (hagree c).2.2.2]),
        (h c).2.1.trans (by rw [Cert.Reference7Ideal.Read.val_main_v59_eq, (hagree c).1, (hagree c).2.2.1]),
        (h c).2.2.1.trans (by rw [Cert.Reference7Ideal.Read.val_main_v60_eq, (hagree c).1]), (h c).2.2.2⟩)
      (Cert.Reference7Ideal.Value.run m' g')⟩

end Cert.Proof
-- ==== Proof.ExpertsRef.lean ====
/- What the experts' reference computes (program 8). Slot `s` of expert `e` takes one row of an array: of the prompt rows for
   the first 1024 slots, of the sample rows for the others. The row goes through the expert's two first products, the gate
   `x · 1 / (1 + exp (-x))` of one times the other, and the third product. -/
module

public import proofs.«01_k».proof.Defs
public import proofs.«01_k».proof.Proof.Gen.Reference8Ideal.Run
public import proofs.«01_k».proof.Proof.Gen.Reference8Ideal.Read
public import proofs.«01_k».proof.Proof.RetentionBackChunk
public import Idealize.ShloMosaic.Lib.Pipeline.ValueKit

@[expose] public section

noncomputable section

open Idealize.ShloMosaic hiding ix1 ix2 ix3 ix4 eq_ix1 eq_ix2 eq_ix3 eq_ix4
open Idealize.ShloMosaic.TcCoe Idealize.SL.Sem
open Idealize.ShloMosaic.ValueIdx

namespace Cert.Reference8Ideal.Experts

open Cert.Reference8Ideal Cert.Reference8Ideal.Gen Cert.Reference8Ideal.Read

/-- The dimension numbers of a take of whole rows. -/
abbrev rowsTaken {N n : Nat} (wf : GatherDims.WF ⟨2, ![N, 2048]⟩ ⟨3, ![16, n, 1]⟩ ⟨3, ![16, n, 2048]⟩ [2] [0] [] [0] [] 2 ![1, 2048]) :
    GatherDims ⟨2, ![N, 2048]⟩ ⟨3, ![16, n, 1]⟩ ⟨3, ![16, n, 2048]⟩ where
  offsetDims := [2]
  collapsedSliceDims := [0]
  operandBatchingDims := []
  startIndicesBatchingDims := []
  startIndexMap := [0]
  indexVectorDim := 2
  sliceSizes := ![1, 2048]
  wf := wf

/-- The take of whole rows: result row (e, s) is the table's row at the index of (e, s), when that index is inside. -/
theorem gather_rows {α : Type} {N n : Nat} (wf : GatherDims.WF ⟨2, ![N, 2048]⟩ ⟨3, ![16, n, 1]⟩ ⟨3, ![16, n, 2048]⟩ [2] [0] [] [0] [] 2 ![1, 2048])
    (x : (⟨2, ![N, 2048]⟩ : Shape).Idx → α) (idx : IVec ⟨3, ![16, n, 1]⟩ 32) (e : Fin 16) (s : Fin n) (k : Fin 2048) (r : Fin N)
    (hr : (idx (ix3 e s 0)).toInt.toNat = r.val) :
    Host.gather (rowsTaken wf) x idx (ix3 e s k) = x (ix2 r k) := by
  unfold Host.gather
  congr 1
  funext a
  apply Fin.ext
  have hb : ∀ a : Fin 2, a ∉ (rowsTaken wf).operandBatchingDims := fun _ => List.not_mem_nil
  match a with
  | ⟨0, _⟩ =>
    have hm : (0 : Fin 2) ∈ (rowsTaken wf).startIndexMap := List.mem_singleton.mpr rfl
    have hk : (0 : Fin 2) ∉ (rowsTaken wf).sKept := by rw [GatherDims.mem_sKept]; simp
    show ((rowsTaken wf).operandIdx (ix3 e s k) idx 0).val = r.val
    simp only [GatherDims.operandIdx, GatherDims.batchCoord_eq_zero _ _ _ (hb 0),
      GatherDims.offCoord_eq_zero _ _ _ hk, Nat.add_zero, GatherDims.start, dif_pos hm]
    have hi : (rowsTaken wf).siIdx (ix3 e s k) ⟨0, Nat.one_pos⟩ = ix3 e s 0 := by
      funext b
      match b with
      | ⟨0, _⟩ => rfl
      | ⟨1, _⟩ => rfl
      | ⟨2, _⟩ => rfl
    show min (idx ((rowsTaken wf).siIdx (ix3 e s k) ⟨0, Nat.one_pos⟩)).toInt.toNat (N - 1) = r.val
    rw [hi, hr]
    have := r.isLt
    omega
  | ⟨1, _⟩ =>
    have hm : (1 : Fin 2) ∉ (rowsTaken wf).startIndexMap := by simp
    have hk : (1 : Fin 2) ∈ (rowsTaken wf).sKept := by rw [GatherDims.mem_sKept]; simp
    show ((rowsTaken wf).operandIdx (ix3 e s k) idx 1).val = k.val
    simp only [GatherDims.operandIdx, GatherDims.batchCoord_eq_zero _ _ _ (hb 1),
      GatherDims.offCoord, dif_pos hk, Nat.add_zero, GatherDims.start, dif_neg hm, Nat.zero_add]
    rfl

/-- A row number that is not negative, read signed, is the number. -/
theorem taken {x : BitVec 32} {N : Nat} (hN : N ≤ 32768) (h : x.toNat < N) (y : BitVec 32) :
    (Scalar.select (IntOp.cmpi .slt x 0#32) y x).toInt.toNat = x.toNat := by
  have hs : IntOp.cmpi .slt x 0#32 = 0#1 := by
    have : BitVec.slt x 0#32 = false := by
      simp only [BitVec.slt, BitVec.toInt, BitVec.toNat_ofNat, decide_eq_false_iff_not]
      split <;> simp <;> omega
    show BitVec.ofBool (BitVec.slt x 0#32) = 0#1
    rw [this]; rfl
  have hsel : Scalar.select (IntOp.cmpi .slt x 0#32) y x = x := by rw [hs]; rfl
  rw [hsel, BitVec.toInt]
  split <;> omega

variable (x0 : (⟨S16x5120, .i32⟩ : BufTy).Contents (Elt Ideal)) (x1 : (⟨S8192x2048, .f32⟩ : BufTy).Contents (Elt Ideal))
  (x2 : (⟨S32768x2048, .f32⟩ : BufTy).Contents (Elt Ideal)) (x3 x4 x5 : (⟨S16x2048x2048, .bf16⟩ : BufTy).Contents (Elt Ideal))

/-- The row slot `s` of expert `e` takes. -/
def rowOf (e : Fin 16) (s : Fin 5120) (k : Fin 2048) : EReal :=
  if s.val < 1024 then x1 (ix2 ⟨(x0 (ix2 e s)).toNat % 8192, Nat.mod_lt _ (by decide)⟩ k)
  else x2 (ix2 ⟨(x0 (ix2 e s)).toNat % 32768, Nat.mod_lt _ (by decide)⟩ k)

theorem rows_apply (e : Fin 16) (s : Fin 5120) (h : (x0 (ix2 e s)).toNat < if s.val < 1024 then 8192 else 32768) (k : Fin 2048) :
    val_main_v19 (F := Ideal) x0 x1 x2 (ix3 e s k) = rowOf x0 x1 x2 e s k := by
  unfold rowOf val_main_v19
  by_cases hs : s.val < 1024
  · rw [if_pos hs] at h ⊢
    refine (concatenate_pair_apply_left (t := S16x5120x2048) (s₁ := S16x1024x2048) (s₂ := S16x4096x2048) 1 _ _ _ (ix3 e s k) rfl (ix3 e (⟨s.val, hs⟩ : Fin 1024) k : S16x1024x2048.Idx) (fun b => ?_)).trans ?_
    · match b with
      | ⟨0, _⟩ => rfl
      | ⟨1, _⟩ => rfl
      | ⟨2, _⟩ => rfl
    · refine gather_rows gather_S8192x2048_S16x1024x1_S16x1024x2048_2_0_n_n_0_2_12048_wf x1 _ e (⟨s.val, hs⟩ : Fin 1024) k _ ?_
      rw [val_main_v9_apply, val_main_v8_apply, val_main_v5_apply, val_main_v4_apply, val_main_c_apply, val_main_v3_apply]
      have hi : idx_main_v3 (idx_main_v9 (ix3 e (⟨s.val, hs⟩ : Fin 1024) 0)) = ix2 e s := by
        funext a
        match a with
        | ⟨0, _⟩ => rfl
        | ⟨1, _⟩ => rfl
      rw [hi]
      refine (taken (N := 8192) (by decide) h _).trans ?_
      show _ = (x0 (ix2 e s)).toNat % 8192
      omega
  · rw [if_neg hs] at h ⊢
    refine (concatenate_pair_apply_right (t := S16x5120x2048) (s₁ := S16x1024x2048) (s₂ := S16x4096x2048) 1 _ _ _ (ix3 e s k) rfl rfl (ix3 e (⟨s.val - 1024, by omega⟩ : Fin 4096) k : S16x4096x2048.Idx) (fun b hb => ?_) ?_).trans ?_
    · match b with
      | ⟨0, _⟩ => rfl
      | ⟨1, _⟩ => exact absurd rfl hb
      | ⟨2, _⟩ => rfl
    · show s.val - 1024 + 1024 = s.val
      omega
    · refine gather_rows gather_S32768x2048_S16x4096x1_S16x4096x2048_2_0_n_n_0_2_12048_wf x2 _ e (⟨s.val - 1024, by omega⟩ : Fin 4096) k _ ?_
      rw [val_main_v17_apply, val_main_v16_apply, val_main_v13_apply, val_main_v12_apply, val_main_c_1_apply, val_main_v11_apply]
      have hi : idx_main_v11 (idx_main_v17 (ix3 e (⟨s.val - 1024, by omega⟩ : Fin 4096) 0)) = ix2 e s := by
        funext a; apply Fin.ext
        match a with
        | ⟨0, _⟩ => rfl
        | ⟨1, _⟩ => show 1024 + (s.val - 1024) = s.val; omega
      rw [hi]
      refine (taken (N := 32768) (by decide) h _).trans ?_
      show _ = (x0 (ix2 e s)).toNat % 32768
      omega

/-- A first product: hidden unit `f` of a row. -/
abbrev hidden (w : (⟨S16x2048x2048, .bf16⟩ : BufTy).Contents (Elt Ideal)) (e : Fin 16) (x : Fin 2048 → EReal) (f : Fin 2048) : EReal :=
  ∑ k : Fin 2048, x k * (w (ix3 e k f) : EReal)

/-- The gate, and the expert's output for a row. -/
abbrev gate (a b : EReal) : EReal := a * Ideal.logistic a * b
def expert (e : Fin 16) (x : Fin 2048 → EReal) (d : Fin 2048) : EReal :=
  ∑ f : Fin 2048, gate (hidden x3 e x f) (hidden x4 e x f) * (x5 (ix3 e f d) : EReal)

theorem v20_apply (e : Fin 16) (s : Fin 5120) (h : (x0 (ix2 e s)).toNat < if s.val < 1024 then 8192 else 32768) (f : Fin 2048) :
    val_main_v20 (F := Ideal) x0 x1 x2 x3 (ix3 e s f) = hidden x3 e (rowOf x0 x1 x2 e s) f := by
  rw [val_main_v20_apply]
  refine Finset.sum_congr rfl fun k _ => congrArg₂ (fun a b : EReal => a * b) ?_ ?_
  · exact (congrArg (val_main_v19 (F := Ideal) x0 x1 x2) (eq_ix3 _)).trans (rows_apply x0 x1 x2 e s h k)
  · exact congrArg x3 (eq_ix3 (ridx_main_v20 (ix3 e s f) k))

theorem v21_apply (e : Fin 16) (s : Fin 5120) (h : (x0 (ix2 e s)).toNat < if s.val < 1024 then 8192 else 32768) (f : Fin 2048) :
    val_main_v21 (F := Ideal) x0 x1 x2 x4 (ix3 e s f) = hidden x4 e (rowOf x0 x1 x2 e s) f := by
  rw [val_main_v21_apply]
  refine Finset.sum_congr rfl fun k _ => congrArg₂ (fun a b : EReal => a * b) ?_ ?_
  · exact (congrArg (val_main_v19 (F := Ideal) x0 x1 x2) (eq_ix3 _)).trans (rows_apply x0 x1 x2 e s h k)
  · exact congrArg x4 (eq_ix3 (ridx_main_v21 (ix3 e s f) k))

/-- The reference's result. -/
theorem result_apply (e : Fin 16) (s : Fin 5120) (h : (x0 (ix2 e s)).toNat < if s.val < 1024 then 8192 else 32768) (d : Fin 2048) :
    val_main_v25 (F := Ideal) x0 x1 x2 x3 x4 x5 (ix3 e s d) = expert x3 x4 x5 e (rowOf x0 x1 x2 e s) d := by
  show val_main_v24 (F := Ideal) x0 x1 x2 x3 x4 x5 (ix3 e s d) = _
  rw [val_main_v24_apply]
  refine Finset.sum_congr rfl fun f _ => congrArg₂ (fun a b : EReal => a * b) ?_ ?_
  · refine (congrArg (val_main_v23 (F := Ideal) x0 x1 x2 x3 x4) (eq_ix3 (lidx_main_v24 (ix3 e s d) f))).trans ?_
    show val_main_v20 (F := Ideal) x0 x1 x2 x3 (ix3 e s f)
        * Ideal.div (Ideal.ofBits .f32 0x3F800000#32) (Ideal.ofBits .f32 0x3F800000#32 + Ideal.exp (-val_main_v20 (F := Ideal) x0 x1 x2 x3 (ix3 e s f)))
        * val_main_v21 (F := Ideal) x0 x1 x2 x4 (ix3 e s f) = _
    rw [v20_apply x0 x1 x2 x3 e s h f, v21_apply x0 x1 x2 x4 e s h f, Cert.Retention.ofBits_1, EReal.coe_one]
    rfl
  · exact congrArg x5 (eq_ix3 (ridx_main_v24 (ix3 e s d) f))

end Cert.Reference8Ideal.Experts
-- ==== Proof.ExpertsIdealGather.lean ====
module

public import proofs.«01_k».proof.Proof.Gen.Kernel8Ideal.Skeleton
public import proofs.«01_k».proof.Proof.Gen.Kernel8Ideal.Loops
public import proofs.«01_k».proof.Proof.Gen.Kernel8Ideal.Points
public import proofs.«01_k».proof.Proof.Gen.Kernel8Ideal.Launch
public import proofs.«01_k».proof.Proof.Gen.Kernel8Ideal.Frame
public import Idealize.ShloMosaic.Lib.Batch
public import Idealize.ShloMosaic.Lib.Ring
public import Idealize.ShloMosaic.Lib.WordCmp
public import Idealize.ShloMosaic.Lib.Exec
public import Idealize.ShloMosaic.Lib.WordArith.Masks
public import Idealize.ShloMosaic.Lib.Tactic

@[expose] public section

noncomputable section

namespace Cert.Kernel8Ideal.Hand

open Cert.Kernel8Ideal Cert.Kernel8Ideal.Gen
open Idealize.ShloMosaic Idealize.ShloMosaic.TcCoe Idealize.ShloMosaic.Tactic
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA

variable {F : FTy → Type} [FloatOps F]

/-- The resource algebra of a launch whose kernel has semaphores of its own. -/
abbrev MM (F : FTy → Type) [FloatOps F] : Type _ := MT nD τ sig Unit (Elt F) ℕ (Pipeline.UD sig nD τ) ℕ

/-! ## The rows a trip moves -/

theorem trips1 : k0_t1_loop.trips = 512 := by decide +kernel
theorem trips2 : k0_t2_loop.trips = 512 := by decide +kernel
theorem trips3 : k0_t3_loop.trips = 512 := by decide +kernel
theorem trips4 : k0_t4_loop.trips = 512 := by decide +kernel

theorem inbD (b : Fin 512) : ∀ a, (![b.val, 0] : Fin 2 → Nat) a + S1x2048.size a ≤ S512x2048.size a := by
  have := b.isLt; intro a; fin_cases a
  · show b.val + 1 ≤ 512; omega
  · show 0 + 2048 ≤ 2048; omega
/-- Row `b` of the gather buffer. -/
abbrev rowD (b : Fin 512) : Finset S512x2048.Idx := (Rect.unit (s := S512x2048) ![b.val, 0] S1x2048.size (inbD b)).set
theorem mem_rowD (b : Fin 512) (y : S512x2048.Idx) : y ∈ rowD b ↔ (y 0).val = b.val := by
  rw [Rect.mem_set_unit]
  have h1 : (y 1).val < 2048 := (y 1).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 2048; omega
theorem rowD_disjoint : ∀ b b' : Fin 512, b ≠ b' → Disjoint (rowD b) (rowD b') := fun b b' hne => by
  rw [Finset.disjoint_left]; intro y hy hy'; rw [mem_rowD] at hy hy'; exact hne (Fin.ext (by omega))
theorem rowD_cover : Finset.univ.biUnion rowD = Finset.univ := by
  ext y; simp only [Finset.mem_biUnion, Finset.mem_univ, true_and, iff_true]; exact ⟨y 0, (mem_rowD _ _).mpr rfl⟩

theorem off1_eq (k : Fin k0_t1_loop.trips) : k0_off1 k = ![0, 0, k.val] := by
  have hk : k.val < 512 := trips1 ▸ k.isLt
  have e : (Scf.iv 0#32 1#32 k.val).toNat = k.val := WordArith.toNat_iv_zero_one _ (by omega)
  funext a; fin_cases a
  · rfl
  · rfl
  · exact e
theorem off2_eq (k : Fin k0_t1_loop.trips) : k0_off2 k = ![k.val, 0] := by
  have hk : k.val < 512 := trips1 ▸ k.isLt
  have e : (Scf.iv 0#32 1#32 k.val).toNat = k.val := WordArith.toNat_iv_zero_one _ (by omega)
  funext a; fin_cases a
  · exact e
  · rfl

theorem off4_eq (k : Fin k0_t3_loop.trips) : k0_off4 k = ![0, 0, k.val] := by
  have hk : k.val < 512 := trips3 ▸ k.isLt
  have e : (Scf.iv 0#32 1#32 k.val).toNat = k.val := WordArith.toNat_iv_zero_one _ (by omega)
  funext a; fin_cases a
  · rfl
  · rfl
  · exact e
theorem off5_eq (k : Fin k0_t3_loop.trips) : k0_off5 k = ![k.val, 0] := by
  have hk : k.val < 512 := trips3 ▸ k.isLt
  have e : (Scf.iv 0#32 1#32 k.val).toNat = k.val := WordArith.toNat_iv_zero_one _ (by omega)
  funext a; fin_cases a
  · exact e
  · rfl

/-- The word of a block of row numbers at slot `r`. -/
abbrev word (d : Vec F S1x1x512 .i32) (r : ℕ) (h : r < 512) : BitVec 32 := d (fun a => match a with
  | ⟨0, _⟩ => ⟨0, Nat.one_pos⟩ | ⟨1, _⟩ => ⟨0, Nat.one_pos⟩ | ⟨2, _⟩ => ⟨r, h⟩)

section P

variable (c : Dev nD)

/-- The prompt rows and the gather buffer, as locations' contents. -/
abbrev srcP (q : PosShare TreeShare) (S : Finset S8192x2048.Idx) (A : S8192x2048.Idx → Elt F .f32) : sProp (MM F) :=
  (Memref.whole main_arg1).view.loc (c : Thread nD τ) ↦[S]{q} A
abbrev dstB (S : Finset S512x2048.Idx) (f : S512x2048.Idx → Elt F .f32) : sProp (MM F) :=
  (Memref.whole cc0_scratch0).view.loc (c : Thread nD τ) ↦[S]{fullShare} f

/-- The elements of the source's row `r`. -/
def rowP (r : ℕ) : Finset S8192x2048.Idx := Finset.univ.filter fun y => (y 0).val = r
/-- The rows the block of row numbers names, gathered. -/
def gathP (A : S8192x2048.Idx → Elt F .f32) (d : Vec F S1x1x512 .i32) : S512x2048.Idx → Elt F .f32 := fun y =>
  A (fun a => match a with
    | ⟨0, _⟩ => ⟨(word d (y 0).val (y 0).isLt).toNat % 8192, Nat.mod_lt _ (by decide)⟩
    | ⟨1, _⟩ => ⟨(y 1).val, (y 1).isLt⟩)

/-- Transfer `t`'s delivery: row `t` of the gather buffer at the row named, and the source's read token back. -/
def delivP (A : S8192x2048.Idx → Elt F .f32) (d : Vec F S1x1x512 .i32) (t : Fin 512) : sProp (MM F) :=
  iprop(dstB c (rowD t) (gathP A d) ∗ srcP c (Transfers.shareTokN fullShare t.val) (rowP (word d t.val t.isLt).toNat) A)

instance delivP_storable (A : S8192x2048.Idx → Elt F .f32) (d : Vec F S1x1x512 .i32) (t : Fin 512) :
    BI.Storable (upEmb : UEmb _ (MM F)) (delivP c A d t) := by unfold delivP; infer_instance

abbrev NN : ℕ := RefSig.tileCredit S1x2048 .f32
theorem NN_pos : 0 < NN := by decide +kernel

abbrev batchP (A : S8192x2048.Idx → Elt F .f32) (d : Vec F S1x1x512 .i32) (j u : ℕ) : sProp (MM F) :=
  Transfers.Batch (countersEmb (U := Pipeline.UD sig nD τ)) (c : Thread nD τ) (.dma cc0_scratch3.sem) () NN (delivP c A d) j u

def issueP (arg3 : Memref sig .tc .smem S1x1x512 .i32) (f3 : Buf (Elt F) (arg3.view.loc (c : Thread nD τ)))
    (A : S8192x2048.Idx → Elt F .f32) (f0 : S512x2048.Idx → Elt F .f32) (k : ℕ) (_ : Unit) : sProp (MM F) :=
  iprop(batchP c A (arg3.view.read (Elt F) f3) k 0
    ∗ bigSep (Ring.rangeSet 512 k 512) (fun b => dstB c (rowD b) f0)
    ∗ bigSep (Ring.rangeSet 512 k 512) (fun b => srcP c (Transfers.shareTokN fullShare b.val) Finset.univ A)
    ∗ bigSep (Ring.rangeSet 512 0 k) (fun b => srcP c (Transfers.shareTokN fullShare b.val)
        (Finset.univ \ rowP (word (arg3.view.read (Elt F) f3) b.val b.isLt).toNat) A)
    ∗ (arg3.view.loc (c : Thread nD τ) ↦[arg3.view.set]{fullShare} f3))

variable (i : grid0.Coords) (arg3 : Memref sig .tc .smem S1x1x512 .i32) (harg3 : arg3.IsWhole)
  (arg5 : Memref sig .tc .hbm S32768x2048 .f32) (harg5 : arg5.IsWhole) (arg6 : Memref sig .tc .vmem S1x2048x512 .bf16)
  (harg6 : arg6.IsWhole) (arg7 : Memref sig .tc .vmem S1x2048x512 .bf16) (harg7 : arg7.IsWhole)
  (arg8 : Memref sig .tc .vmem S1x512x2048 .bf16) (harg8 : arg8.IsWhole) (arg9 : Memref sig .tc .vmem S1x512x2048 .bf16)
  (harg9 : arg9.IsWhole) (arg11 : Memref sig .tc .vmem S512x2048 .bf16) (harg11 : arg11.IsWhole)
  (arg12 : Memref sig .tc .vmem S512x2048 .f32) (harg12 : arg12.IsWhole) (arg14 : DmaSems sig S_)
  (k0_h1 : k0_cond1 i = 1#1)

theorem off3_eq (w : BitVec 32) : k0_off3 w = ![w.toNat, 0] := rfl
theorem chk1_of_lt (w : BitVec 32) (h : w.toNat < 8192) : k0_chk1 i w := by
  intro _ a; fin_cases a
  · show w.toNat + 1 ≤ 8192; omega
  · show 0 + 2048 ≤ 2048; omega

theorem word_readAt (f3 : Buf (Elt F) (arg3.view.loc (c : Thread nD τ))) (off : Fin 3 → ℕ) (r : ℕ) (h : r < 512)
    (e : off = ![0, 0, r]) (hb : ∀ a, off a + S1x1x1.size a ≤ S1x1x512.size a) (hn : 0 < S1x1x1.numel) :
    View.readAt (Elt F) arg3.view (Rect.unit (s := S1x1x512) off S1x1x1.size hb).toLoadRect f3 (Shape.Idx.first hn)
      = word (arg3.view.read (Elt F) f3) r h := by
  subst e
  rw [View.readAt_apply]
  refine congrArg _ (funext fun a => Fin.ext ?_)
  fin_cases a <;> rfl

theorem set_rowP (off : Fin 2 → ℕ) (r : ℕ) (e : off = ![r, 0]) (hb : ∀ a, off a + S1x2048.size a ≤ S8192x2048.size a) :
    ((Memref.whole main_arg1 : Memref sig .tc .hbm S8192x2048 .f32).slice (Rect.unit (s := S8192x2048) off S1x2048.size hb) (fun _ => rfl)).view.set
      = rowP r := by
  subst e
  refine (View.set_slice_whole _ _).trans ?_
  ext y
  have h1 : (y 1).val < 2048 := (y 1).isLt
  rw [Rect.mem_set_unit, rowP, Finset.mem_filter]
  constructor
  · intro H; have a0 : r ≤ (y 0).val ∧ (y 0).val < r + 1 := H 0
    exact ⟨Finset.mem_univ _, by omega⟩
  · rintro ⟨-, H⟩ a; fin_cases a
    · show r ≤ (y 0).val ∧ (y 0).val < r + 1; omega
    · show 0 ≤ (y 1).val ∧ (y 1).val < 0 + 2048; omega

theorem set_rowD (off : Fin 2 → ℕ) (b : Fin 512) (e : off = ![b.val, 0]) (hb : ∀ a, off a + S1x2048.size a ≤ S512x2048.size a) :
    ((Memref.whole cc0_scratch0 : Memref sig .tc .vmem S512x2048 .f32).slice (Rect.unit (s := S512x2048) off S1x2048.size hb) (fun _ => rfl)).view.set
      = rowD b := by
  subst e
  exact View.set_slice_whole _ _

/-- One row moved: what the transfer leaves in the row of the gather buffer. -/
theorem landP (A : S8192x2048.Idx → Elt F .f32) (f0 : S512x2048.Idx → Elt F .f32) (d : Vec F S1x1x512 .i32) (b : Fin 512)
    (offs offd : Fin 2 → ℕ) (hlt : (word d b.val b.isLt).toNat < 8192)
    (es : offs = ![(word d b.val b.isLt).toNat, 0]) (ed : offd = ![b.val, 0])
    (hs : ∀ a, offs a + S1x2048.size a ≤ S8192x2048.size a) (hd : ∀ a, offd a + S1x2048.size a ≤ S512x2048.size a)
    (y : S512x2048.Idx) (hy : y ∈ rowD b) :
    ((Memref.whole cc0_scratch0 : Memref sig .tc .vmem S512x2048 .f32).slice (Rect.unit (s := S512x2048) offd S1x2048.size hd) (fun _ => rfl)).view.write
        (Elt F) f0 (((Memref.whole main_arg1 : Memref sig .tc .hbm S8192x2048 .f32).slice (Rect.unit (s := S8192x2048) offs S1x2048.size hs) (fun _ => rfl)).view.read
          (Elt F) A) Finset.univ y = gathP A d y := by
  subst es ed
  have h0 : (y 0).val = b.val := (mem_rowD b y).mp hy
  let x : S1x2048.Idx := fun a => match a with | ⟨0, _⟩ => ⟨0, Nat.one_pos⟩ | ⟨1, _⟩ => ⟨(y 1).val, (y 1).isLt⟩
  have hx : ((Memref.whole cc0_scratch0 : Memref sig .tc .vmem S512x2048 .f32).slice (Rect.unit (s := S512x2048) ![b.val, 0] S1x2048.size hd) (fun _ => rfl)).view.emb x = y := by
    funext a; apply Fin.ext; fin_cases a
    · show b.val + 1 * 0 = (y 0).val; omega
    · show 0 + 1 * (y 1).val = (y 1).val; omega
  conv_lhs => rw [← hx]
  rw [View.write_emb_of_mem (h := Finset.mem_univ _), View.read_apply, cast_eq, cast_eq]
  unfold gathP
  refine congrArg A (funext fun a => Fin.ext ?_)
  fin_cases a
  · show (word d b.val b.isLt).toNat + 1 * 0 = (word d (y 0).val (y 0).isLt).toNat % 8192
    have e : word d (y 0).val (y 0).isLt = word d b.val b.isLt := by congr
    rw [e, Nat.mod_eq_of_lt hlt]; omega
  · show 0 + 1 * (y 1).val = (y 1).val; omega

theorem enqueueP (A : S8192x2048.Idx → Elt F .f32) (f0 : S512x2048.Idx → Elt F .f32) (d : Vec F S1x1x512 .i32) (b : Fin 512)
    (offs offd : Fin 2 → ℕ) (hlt : (word d b.val b.isLt).toNat < 8192)
    (es : offs = ![(word d b.val b.isLt).toNat, 0]) (ed : offd = ![b.val, 0])
    (hs : ∀ a, offs a + S1x2048.size a ≤ S8192x2048.size a) (hd : ∀ a, offd a + S1x2048.size a ≤ S512x2048.size a)
    (h1 h2 h3) (kk : PUnit → Prog (TpuEff nD τ sig (Elt F) Λ₀ .tc) Unit) (Q : Unit → sProp (MM F)) :
    iprop(srcP c (Transfers.shareTokN fullShare b.val) (rowP (word d b.val b.isLt).toNat) A ∗ dstB c (rowD b) f0 ∗ batchP c A d b.val 0)
      ⊢ iprop((batchP c A d (b.val + 1) 0 -∗ wp frame (wpE defs₀ Variants.none (c : Thread nD τ) none) Set.univ (kk ⟨⟩) Q)
        -∗ wp frame (wpE defs₀ Variants.none (c : Thread nD τ) none) Set.univ
          (.op (.enqueueDma ((Memref.whole main_arg1 : Memref sig .tc .hbm S8192x2048 .f32).slice (Rect.unit (s := S8192x2048) offs S1x2048.size hs) (fun _ => rfl))
            (.here ((Memref.whole cc0_scratch0 : Memref sig .tc .vmem S512x2048 .f32).slice (Rect.unit (s := S512x2048) offd S1x2048.size hd) (fun _ => rfl)))
            (.dma cc0_scratch3.sem) h1 h2 h3) kk) Q) := by
  have hS := set_rowP offs _ es hs
  have hD := set_rowD offd _ ed hd
  have e := Transfers.wp_dmaBatch (Lvl := ℕ) (countersEmb (U := Pipeline.UD sig nD τ)) (defs := defs₀ (F := F)) Variants.none (c : Thread nD τ) none
    (src := (Memref.whole main_arg1 : Memref sig .tc .hbm S8192x2048 .f32).slice (Rect.unit (s := S8192x2048) offs S1x2048.size hs) (fun _ => rfl))
    (dst := (Memref.whole cc0_scratch0 : Memref sig .tc .vmem S512x2048 .f32).slice (Rect.unit (s := S512x2048) offd S1x2048.size hd) (fun _ => rfl))
    (via := .same) (sm := .dma cc0_scratch3.sem) (hsrc := h1) (hdst := h2) (hsem := h3) (k := kk) (Q := Q)
    (q := Transfers.shareTokN fullShare b.val) (fs := A) (Sd := rowD b) (fd := f0)
    (D := delivP c A d) (j := b.val) (u := 0) () NN rfl hD.le b.isLt (Nat.zero_le _) (by
      rw [hS]
      unfold delivP
      exact BI.Laws.sep_mono (Entails.of_eq (pointsTo_congr fun y hy => landP A f0 d b offs offd hlt es ed hs hd y hy)) .rfl)
  rw [hS] at e
  exact e

theorem issueP_step (f3 : Buf (Elt F) (arg3.view.loc (c : Thread nD τ))) (A : S8192x2048.Idx → Elt F .f32)
    (f0 : S512x2048.Idx → Elt F .f32)
    (hr : ∀ r h, (word (arg3.view.read (Elt F) f3) r h).toNat < 8192) (k : Fin k0_t1_loop.trips) (acc : Unit) :
    issueP c arg3 f3 A f0 k.val acc ⊢ wp frame (wpE defs₀ Variants.none (c : Thread nD τ) none) Set.univ
      (k0_t1_body (F := F) i arg3 harg3 (Memref.whole main_arg1) (Memref.isWhole_whole _) arg5 harg5 arg6 harg6 arg7 harg7
        arg8 harg8 arg9 harg9 (Memref.whole cc0_scratch0) (Memref.isWhole_whole _) arg11 harg11 arg12 harg12 cc0_scratch3 arg14
        k0_h1 k acc)
      (issueP c arg3 f3 A f0 (k.val + 1)) := by
  have hk : k.val < 512 := trips1 ▸ k.isLt
  unfold issueP
  rw [Ring.bigSep_rangeSet_head (Φ := fun b => dstB c (rowD b) f0) (by omega) hk,
    Ring.bigSep_rangeSet_head (Φ := fun b => srcP c (Transfers.shareTokN fullShare b.val) Finset.univ A) (by omega) hk]
  iintro ⟨HB, ⟨HD, HDs⟩, ⟨HS, HSs⟩, HR, H3⟩
  sl_unfold [k0_t1_body]
  sl_exec (disch := (apply chk1_of_lt; unfold issueP_step.sl.r; rw [word_readAt c arg3 f3 _ k.val hk (off1_eq k)]; exact hr _ _))
  ihave HS' := (pointsTo_split_subset (Finset.subset_univ (rowP (word (arg3.view.read (Elt F) f3) k.val hk).toNat))).1 $$ HS
  icases HS' with ⟨HS, HSr⟩
  iapply (enqueueP c A f0 (arg3.view.read (Elt F) f3) ⟨k.val, hk⟩ _ _ (hr _ _)
    (by unfold issueP_step.sl.r; rw [word_readAt c arg3 f3 _ k.val hk (off1_eq k)]; rfl) (off2_eq k) _ _ _ _ _ _ _) $$ [HS HD HB]
  · isplitl [HS]; · iexact HS
    isplitl [HD]; · iexact HD
    iexact HB
  iintro HB
  sl_step
  isplitl [HB]; · iexact HB
  isplitl [HDs]; · iexact HDs
  isplitl [HSs]; · iexact HSs
  isplitl [HR HSr]
  · rw [Ring.bigSep_rangeSet_last (lo := 0) (hi := k.val + 1) (by omega) (by omega)]
    isplitl [HSr]; · iexact HSr
    iexact HR
  iexact H3

/-- A rule applied by hand leaves its continuation applied. -/
theorem ret_bind' {E : Type → Type} {α β : Type} (a : α) (k : α → Prog E β) : (Prog.ret a).bind k = k a := rfl

/-- Before trip `k` of the drain: the waits so far, and either the transfers with `k` of them consumed or, after the
    last trip, the cell back at zero and every delivery. -/
def drainP (A : S8192x2048.Idx → Elt F .f32) (d : Vec F S1x1x512 .i32) (k : ℕ) (_ : Unit) : sProp (MM F) :=
  iprop((∃ W, owes (c : Thread nD τ) 0 W)
    ∗ (if k < 512 then batchP c A d 512 (k * NN)
       else iprop(semVal ((c : Thread nD τ), SemLoc.dma cc0_scratch3.sem) 0 ∗ bigSep Finset.univ (delivP c A d))))

theorem drainP_step (A : S8192x2048.Idx → Elt F .f32) (d : Vec F S1x1x512 .i32) (k : Fin k0_t2_loop.trips) (acc : Unit) :
    drainP c A d k.val acc ⊢ wp frame (wpE defs₀ Variants.none (c : Thread nD τ) none) Set.univ
      (k0_t2_body (F := F) i arg3 harg3 (Memref.whole main_arg1) (Memref.isWhole_whole _) arg5 harg5 arg6 harg6 arg7 harg7
        arg8 harg8 arg9 harg9 (Memref.whole cc0_scratch0) (Memref.isWhole_whole _) arg11 harg11 arg12 harg12 cc0_scratch3 arg14
        k0_h1 k acc)
      (drainP c A d (k.val + 1)) := by
  have hk : k.val < 512 := trips2 ▸ k.isLt
  have hN := NN_pos
  unfold drainP
  simp only [if_pos hk]
  rcases Nat.lt_or_ge (k.val + 1) 512 with h1 | h1
  · have hu : k.val * NN + NN < NN * 512 := by
      rw [← Nat.succ_mul, Nat.mul_comm NN]; exact Nat.mul_lt_mul_of_pos_right h1 hN
    simp only [if_pos h1]
    iintro ⟨⟨%W, HO⟩, HB⟩
    sl_unfold [k0_t2_body]
    iapply (Transfers.wp_waitBatch (Lvl := ℕ) (countersEmb (U := Pipeline.UD sig nD τ)) (defs := defs₀ (F := F)) Variants.none (c : Thread nD τ) none ()
      (N := NN) rfl (D := delivP c A d) (u := k.val * NN) hu) $$ [HB HO]
    · isplitl [HB] <;> iassumption
    iintro ⟨HB, HO⟩
    simp only [ret_bind']
    sl_step
    isplitl [HO]; · iexists _; iexact HO
    rw [Nat.succ_mul]
    iexact HB
  · have hu : k.val * NN + NN = NN * 512 := by
      rw [← Nat.succ_mul, Nat.mul_comm NN, show k.val.succ = 512 by omega]
    simp only [if_neg (Nat.not_lt.mpr h1)]
    iintro ⟨⟨%W, HO⟩, HB⟩
    sl_unfold [k0_t2_body]
    iapply (Transfers.wp_waitBatchLast (Lvl := ℕ) (countersEmb (U := Pipeline.UD sig nD τ)) (defs := defs₀ (F := F)) Variants.none (c : Thread nD τ) none ()
      (N := NN) rfl hN (D := delivP c A d) (u := k.val * NN) hu) $$ [HB HO]
    · isplitl [HB] <;> iassumption
    iintro ⟨HD, Hv, HO⟩
    simp only [ret_bind']
    sl_step
    isplitl [HO]; · iexists _; iexact HO
    isplitl [Hv]; · iexact Hv
    iexact HD

/-- The gather buffer whole as its rows, and back. -/
theorem rowsD (f : S512x2048.Idx → Elt F .f32) :
    (dstB c Finset.univ f : sProp (MM F)) = bigSep Finset.univ (fun b => dstB c (rowD b) f) :=
  Ring.pointsTo_blocks (ℓ := (Memref.whole cc0_scratch0).view.loc (c : Thread nD τ)) (q := fullShare) rowD rowD_disjoint rowD_cover f

/-- The source's read tokens. -/
abbrev toksP (A : S8192x2048.Idx → Elt F .f32) : sProp (MM F) :=
  bigSep Finset.univ (fun b : Fin 512 => srcP c (Transfers.shareTokN fullShare b.val) Finset.univ A)

theorem toksP_range (A : S8192x2048.Idx → Elt F .f32) :
    (toksP c A : sProp (MM F)) = bigSep (Finset.range 512) (fun t => srcP c (Transfers.shareTokN fullShare t) Finset.univ A) := by
  unfold toksP
  rw [← Ring.rangeSet_univ]
  exact (Ring.bigSep_rangeSet_eq_range (NB := 512) (lo := 0) (hi := 512)
    (Φ := fun b => srcP c (Transfers.shareTokN fullShare b.val) Finset.univ A) le_rfl
    (fun t => srcP c (Transfers.shareTokN fullShare t) Finset.univ A)
    (fun k hk => by show srcP c (Transfers.shareTokN fullShare k) Finset.univ A = srcP c (Transfers.shareTokN fullShare (0 + k)) Finset.univ A; rw [Nat.zero_add]))

/-- Every delivery and what stayed of each token: the buffer whole at the gathered rows and the tokens whole. -/
theorem collectP (A : S8192x2048.Idx → Elt F .f32) (d : Vec F S1x1x512 .i32) :
    iprop(bigSep Finset.univ (delivP c A d)
      ∗ bigSep (Ring.rangeSet 512 0 512) (fun b => srcP c (Transfers.shareTokN fullShare b.val) (Finset.univ \ rowP (word d b.val b.isLt).toNat) A))
    ⊢ iprop(dstB c Finset.univ (gathP A d) ∗ toksP c A : sProp (MM F)) := by
  rw [Ring.rangeSet_univ, rowsD]
  iintro ⟨HD, HR⟩
  ihave HD' := (show bigSep Finset.univ (delivP c A d) ⊢ iprop(bigSep Finset.univ (fun b => dstB c (rowD b) (gathP A d))
      ∗ bigSep Finset.univ (fun b : Fin 512 => srcP c (Transfers.shareTokN fullShare b.val) (rowP (word d b.val b.isLt).toNat) A))
    from Entails.of_eq (BI.bigSep_sep _ _ _)) $$ HD
  icases HD' with ⟨HD, HT⟩
  isplitl [HD]; · iexact HD
  icombine HT HR as H
  iapply (show iprop(bigSep Finset.univ (fun b : Fin 512 => srcP c (Transfers.shareTokN fullShare b.val) (rowP (word d b.val b.isLt).toNat) A)
      ∗ bigSep Finset.univ (fun b : Fin 512 => srcP c (Transfers.shareTokN fullShare b.val) (Finset.univ \ rowP (word d b.val b.isLt).toNat) A)) ⊢ toksP c A
    from (Entails.of_eq (BI.bigSep_sep _ _ _).symm).trans (BI.bigSep_mono fun b _ => (pointsTo_split_subset (Finset.subset_univ _)).2)) $$ H

/-- The two loops: the rows the block names, gathered; the source, the row numbers and the cell as they were. -/
theorem gatherP (f3 : Buf (Elt F) (arg3.view.loc (c : Thread nD τ))) (A : S8192x2048.Idx → Elt F .f32)
    (f0 : S512x2048.Idx → Elt F .f32)
    (hr : ∀ r h, (word (arg3.view.read (Elt F) f3) r h).toNat < 8192) (W : Waits sig Unit) (Q : Unit → sProp (MM F)) :
    iprop((arg3.view.loc (c : Thread nD τ) ↦[arg3.view.set]{fullShare} f3) ∗ srcP c fullShare Finset.univ A
        ∗ dstB c Finset.univ f0 ∗ semVal ((c : Thread nD τ), SemLoc.dma cc0_scratch3.sem) 0 ∗ owes (c : Thread nD τ) 0 W
        ∗ (iprop((arg3.view.loc (c : Thread nD τ) ↦[arg3.view.set]{fullShare} f3) ∗ srcP c fullShare Finset.univ A
            ∗ dstB c Finset.univ (gathP A (arg3.view.read (Elt F) f3)) ∗ semVal ((c : Thread nD τ), SemLoc.dma cc0_scratch3.sem) 0
            ∗ (∃ W', owes (c : Thread nD τ) 0 W')) -∗ Q ⟨⟩))
      ⊢ wp frame (wpE defs₀ Variants.none (c : Thread nD τ) none) Set.univ
        (do
          Scf.Loop.for k0_t1_loop (k0_t1_ok i k0_h1) ⟨⟩ (k0_t1_body (F := F) i arg3 harg3 (Memref.whole main_arg1) (Memref.isWhole_whole _) arg5 harg5 arg6 harg6 arg7 harg7
            arg8 harg8 arg9 harg9 (Memref.whole cc0_scratch0) (Memref.isWhole_whole _) arg11 harg11 arg12 harg12 cc0_scratch3 arg14 k0_h1)
          Scf.Loop.for k0_t2_loop (k0_t2_ok i k0_h1) ⟨⟩ (k0_t2_body (F := F) i arg3 harg3 (Memref.whole main_arg1) (Memref.isWhole_whole _) arg5 harg5 arg6 harg6 arg7 harg7
            arg8 harg8 arg9 harg9 (Memref.whole cc0_scratch0) (Memref.isWhole_whole _) arg11 harg11 arg12 harg12 cc0_scratch3 arg14 k0_h1)
          pure ⟨⟩) Q := by
  iintro ⟨H3, HA, HD, Hv, HO, Hk⟩
  ihave HA' := (Transfers.pointsTo_toks_range fullShare 512).1 $$ HA
  icases HA' with ⟨HAr, HAt⟩
  ihave HAt := (Entails.of_eq (toksP_range c A).symm) $$ HAt
  ihave HD := (Entails.of_eq (rowsD c f0)) $$ HD
  imod (Transfers.batch_alloc' (Lvl := ℕ) (countersEmb (U := Pipeline.UD sig nD τ)) (c : Thread nD τ) () NN (delivP c A (arg3.view.read (Elt F) f3))
    (sm := .dma cc0_scratch3.sem) (E := Set.univ)) $$ Hv with HB
  sl_for (issueP c arg3 f3 A f0) $$ [HB HD HAt H3]
  · intro k acc; exact issueP_step c i arg3 harg3 arg5 harg5 arg6 harg6 arg7 harg7 arg8 harg8 arg9 harg9 arg11 harg11 arg12 harg12 arg14 k0_h1 f3 A f0 hr k acc
  · unfold issueP
    isplitl [HB]; · iexact HB
    rw [Ring.rangeSet_univ]
    isplitl [HD]; · iexact HD
    isplitl [HAt]; · iexact HAt
    isplitr
    · rw [Ring.bigSep_rangeSet_empty (by omega)]; iempintro
    iexact H3
  iintro %acc HI
  rw [show Scf.trips k0_t1_loop.lb k0_t1_loop.ub k0_t1_loop.st = 512 from trips1]
  ihave HI' := (show issueP c arg3 f3 A f0 512 acc ⊢ iprop(batchP c A (arg3.view.read (Elt F) f3) 512 0
      ∗ bigSep (Ring.rangeSet 512 0 512) (fun b => srcP c (Transfers.shareTokN fullShare b.val)
        (Finset.univ \ rowP (word (arg3.view.read (Elt F) f3) b.val b.isLt).toNat) A)
      ∗ (arg3.view.loc (c : Thread nD τ) ↦[arg3.view.set]{fullShare} f3)) from by
    unfold issueP; rw [Ring.bigSep_rangeSet_empty (Φ := fun b => dstB c (rowD b) f0) (by omega),
      Ring.bigSep_rangeSet_empty (Φ := fun b => srcP c (Transfers.shareTokN fullShare b.val) Finset.univ A) (by omega)]
    iintro ⟨HB, -, -, HR, H3⟩
    isplitl [HB]; · iexact HB
    isplitl [HR] <;> iassumption) $$ HI
  icases HI' with ⟨HB, HR, H3⟩
  sl_unfold [gatherP.sl.prog.cont_1]
  sl_for (drainP c A (arg3.view.read (Elt F) f3)) $$ [HB HO]
  · intro k acc; exact drainP_step c i arg3 harg3 arg5 harg5 arg6 harg6 arg7 harg7 arg8 harg8 arg9 harg9 arg11 harg11 arg12 harg12 arg14 k0_h1 A _ k acc
  · unfold drainP
    rw [if_pos (by omega), Nat.zero_mul]
    isplitl [HO]; · iexists _; iexact HO
    iexact HB
  iintro %acc2 HI
  rw [show Scf.trips k0_t2_loop.lb k0_t2_loop.ub k0_t2_loop.st = 512 from trips2]
  ihave HI' := (show drainP c A (arg3.view.read (Elt F) f3) 512 acc2 ⊢ iprop((∃ W, owes (c : Thread nD τ) 0 W)
      ∗ semVal ((c : Thread nD τ), SemLoc.dma cc0_scratch3.sem) 0 ∗ bigSep Finset.univ (delivP c A (arg3.view.read (Elt F) f3))) from by
    unfold drainP; rw [if_neg (Nat.lt_irrefl _)]) $$ HI
  icases HI' with ⟨HO, Hv, HD⟩
  icombine HD HR as HC
  ihave HC' := (collectP c A (arg3.view.read (Elt F) f3)) $$ HC
  icases HC' with ⟨HD, HAt⟩
  ihave HAt := (Entails.of_eq (toksP_range c A)) $$ HAt
  sl_step
  iapply Hk
  isplitl [H3]; · iexact H3
  isplitl [HAr HAt]
  · iapply (Transfers.pointsTo_toks_range fullShare 512).2
    isplitl [HAr] <;> iassumption
  isplitl [HD]; · iexact HD
  isplitl [Hv]; · iexact Hv
  iexact HO

end P

section L

variable (c : Dev nD)

/-- The sample rows, as a location's contents. -/
abbrev srcL (q : PosShare TreeShare) (S : Finset S32768x2048.Idx) (A : S32768x2048.Idx → Elt F .f32) : sProp (MM F) :=
  (Memref.whole main_arg2).view.loc (c : Thread nD τ) ↦[S]{q} A

/-- The elements of the source's row `r`. -/
def rowL (r : ℕ) : Finset S32768x2048.Idx := Finset.univ.filter fun y => (y 0).val = r
/-- The rows the block of row numbers names, gathered. -/
def gathL (A : S32768x2048.Idx → Elt F .f32) (d : Vec F S1x1x512 .i32) : S512x2048.Idx → Elt F .f32 := fun y =>
  A (fun a => match a with
    | ⟨0, _⟩ => ⟨(word d (y 0).val (y 0).isLt).toNat % 32768, Nat.mod_lt _ (by decide)⟩
    | ⟨1, _⟩ => ⟨(y 1).val, (y 1).isLt⟩)

/-- Transfer `t`'s delivery: row `t` of the gather buffer at the row named, and the source's read token back. -/
def delivL (A : S32768x2048.Idx → Elt F .f32) (d : Vec F S1x1x512 .i32) (t : Fin 512) : sProp (MM F) :=
  iprop(dstB c (rowD t) (gathL A d) ∗ srcL c (Transfers.shareTokN fullShare t.val) (rowL (word d t.val t.isLt).toNat) A)

instance delivL_storable (A : S32768x2048.Idx → Elt F .f32) (d : Vec F S1x1x512 .i32) (t : Fin 512) :
    BI.Storable (upEmb : UEmb _ (MM F)) (delivL c A d t) := by unfold delivL; infer_instance

abbrev batchL (A : S32768x2048.Idx → Elt F .f32) (d : Vec F S1x1x512 .i32) (j u : ℕ) : sProp (MM F) :=
  Transfers.Batch (countersEmb (U := Pipeline.UD sig nD τ)) (c : Thread nD τ) (.dma cc0_scratch4.sem) () NN (delivL c A d) j u

def issueL (arg3 : Memref sig .tc .smem S1x1x512 .i32) (f3 : Buf (Elt F) (arg3.view.loc (c : Thread nD τ)))
    (A : S32768x2048.Idx → Elt F .f32) (f0 : S512x2048.Idx → Elt F .f32) (k : ℕ) (_ : Unit) : sProp (MM F) :=
  iprop(batchL c A (arg3.view.read (Elt F) f3) k 0
    ∗ bigSep (Ring.rangeSet 512 k 512) (fun b => dstB c (rowD b) f0)
    ∗ bigSep (Ring.rangeSet 512 k 512) (fun b => srcL c (Transfers.shareTokN fullShare b.val) Finset.univ A)
    ∗ bigSep (Ring.rangeSet 512 0 k) (fun b => srcL c (Transfers.shareTokN fullShare b.val)
        (Finset.univ \ rowL (word (arg3.view.read (Elt F) f3) b.val b.isLt).toNat) A)
    ∗ (arg3.view.loc (c : Thread nD τ) ↦[arg3.view.set]{fullShare} f3))

variable (i : grid0.Coords) (arg3 : Memref sig .tc .smem S1x1x512 .i32) (harg3 : arg3.IsWhole)
  (arg4 : Memref sig .tc .hbm S8192x2048 .f32) (harg4 : arg4.IsWhole) (arg6 : Memref sig .tc .vmem S1x2048x512 .bf16)
  (harg6 : arg6.IsWhole) (arg7 : Memref sig .tc .vmem S1x2048x512 .bf16) (harg7 : arg7.IsWhole)
  (arg8 : Memref sig .tc .vmem S1x512x2048 .bf16) (harg8 : arg8.IsWhole) (arg9 : Memref sig .tc .vmem S1x512x2048 .bf16)
  (harg9 : arg9.IsWhole) (arg11 : Memref sig .tc .vmem S512x2048 .bf16) (harg11 : arg11.IsWhole)
  (arg12 : Memref sig .tc .vmem S512x2048 .f32) (harg12 : arg12.IsWhole) (arg13 : DmaSems sig S_)
  (k0_h2 : k0_cond2 i = 1#1)

theorem off6_eq (w : BitVec 32) : k0_off6 w = ![w.toNat, 0] := rfl
theorem chk2_of_lt (w : BitVec 32) (h : w.toNat < 32768) : k0_chk2 i w := by
  intro _ a; fin_cases a
  · show w.toNat + 1 ≤ 32768; omega
  · show 0 + 2048 ≤ 2048; omega

theorem set_rowL (off : Fin 2 → ℕ) (r : ℕ) (e : off = ![r, 0]) (hb : ∀ a, off a + S1x2048.size a ≤ S32768x2048.size a) :
    ((Memref.whole main_arg2 : Memref sig .tc .hbm S32768x2048 .f32).slice (Rect.unit (s := S32768x2048) off S1x2048.size hb) (fun _ => rfl)).view.set
      = rowL r := by
  subst e
  refine (View.set_slice_whole _ _).trans ?_
  ext y
  have h1 : (y 1).val < 2048 := (y 1).isLt
  rw [Rect.mem_set_unit, rowL, Finset.mem_filter]
  constructor
  · intro H; have a0 : r ≤ (y 0).val ∧ (y 0).val < r + 1 := H 0
    exact ⟨Finset.mem_univ _, by omega⟩
  · rintro ⟨-, H⟩ a; fin_cases a
    · show r ≤ (y 0).val ∧ (y 0).val < r + 1; omega
    · show 0 ≤ (y 1).val ∧ (y 1).val < 0 + 2048; omega

/-- One row moved: what the transfer leaves in the row of the gather buffer. -/
theorem landL (A : S32768x2048.Idx → Elt F .f32) (f0 : S512x2048.Idx → Elt F .f32) (d : Vec F S1x1x512 .i32) (b : Fin 512)
    (offs offd : Fin 2 → ℕ) (hlt : (word d b.val b.isLt).toNat < 32768)
    (es : offs = ![(word d b.val b.isLt).toNat, 0]) (ed : offd = ![b.val, 0])
    (hs : ∀ a, offs a + S1x2048.size a ≤ S32768x2048.size a) (hd : ∀ a, offd a + S1x2048.size a ≤ S512x2048.size a)
    (y : S512x2048.Idx) (hy : y ∈ rowD b) :
    ((Memref.whole cc0_scratch0 : Memref sig .tc .vmem S512x2048 .f32).slice (Rect.unit (s := S512x2048) offd S1x2048.size hd) (fun _ => rfl)).view.write
        (Elt F) f0 (((Memref.whole main_arg2 : Memref sig .tc .hbm S32768x2048 .f32).slice (Rect.unit (s := S32768x2048) offs S1x2048.size hs) (fun _ => rfl)).view.read
          (Elt F) A) Finset.univ y = gathL A d y := by
  subst es ed
  have h0 : (y 0).val = b.val := (mem_rowD b y).mp hy
  let x : S1x2048.Idx := fun a => match a with | ⟨0, _⟩ => ⟨0, Nat.one_pos⟩ | ⟨1, _⟩ => ⟨(y 1).val, (y 1).isLt⟩
  have hx : ((Memref.whole cc0_scratch0 : Memref sig .tc .vmem S512x2048 .f32).slice (Rect.unit (s := S512x2048) ![b.val, 0] S1x2048.size hd) (fun _ => rfl)).view.emb x = y := by
    funext a; apply Fin.ext; fin_cases a
    · show b.val + 1 * 0 = (y 0).val; omega
    · show 0 + 1 * (y 1).val = (y 1).val; omega
  conv_lhs => rw [← hx]
  rw [View.write_emb_of_mem (h := Finset.mem_univ _), View.read_apply, cast_eq, cast_eq]
  unfold gathL
  refine congrArg A (funext fun a => Fin.ext ?_)
  fin_cases a
  · show (word d b.val b.isLt).toNat + 1 * 0 = (word d (y 0).val (y 0).isLt).toNat % 32768
    have e : word d (y 0).val (y 0).isLt = word d b.val b.isLt := by congr
    rw [e, Nat.mod_eq_of_lt hlt]; omega
  · show 0 + 1 * (y 1).val = (y 1).val; omega

theorem enqueueL (A : S32768x2048.Idx → Elt F .f32) (f0 : S512x2048.Idx → Elt F .f32) (d : Vec F S1x1x512 .i32) (b : Fin 512)
    (offs offd : Fin 2 → ℕ) (hlt : (word d b.val b.isLt).toNat < 32768)
    (es : offs = ![(word d b.val b.isLt).toNat, 0]) (ed : offd = ![b.val, 0])
    (hs : ∀ a, offs a + S1x2048.size a ≤ S32768x2048.size a) (hd : ∀ a, offd a + S1x2048.size a ≤ S512x2048.size a)
    (h1 h2 h3) (kk : PUnit → Prog (TpuEff nD τ sig (Elt F) Λ₀ .tc) Unit) (Q : Unit → sProp (MM F)) :
    iprop(srcL c (Transfers.shareTokN fullShare b.val) (rowL (word d b.val b.isLt).toNat) A ∗ dstB c (rowD b) f0 ∗ batchL c A d b.val 0)
      ⊢ iprop((batchL c A d (b.val + 1) 0 -∗ wp frame (wpE defs₀ Variants.none (c : Thread nD τ) none) Set.univ (kk ⟨⟩) Q)
        -∗ wp frame (wpE defs₀ Variants.none (c : Thread nD τ) none) Set.univ
          (.op (.enqueueDma ((Memref.whole main_arg2 : Memref sig .tc .hbm S32768x2048 .f32).slice (Rect.unit (s := S32768x2048) offs S1x2048.size hs) (fun _ => rfl))
            (.here ((Memref.whole cc0_scratch0 : Memref sig .tc .vmem S512x2048 .f32).slice (Rect.unit (s := S512x2048) offd S1x2048.size hd) (fun _ => rfl)))
            (.dma cc0_scratch4.sem) h1 h2 h3) kk) Q) := by
  have hS := set_rowL offs _ es hs
  have hD := set_rowD offd _ ed hd
  have e := Transfers.wp_dmaBatch (Lvl := ℕ) (countersEmb (U := Pipeline.UD sig nD τ)) (defs := defs₀ (F := F)) Variants.none (c : Thread nD τ) none
    (src := (Memref.whole main_arg2 : Memref sig .tc .hbm S32768x2048 .f32).slice (Rect.unit (s := S32768x2048) offs S1x2048.size hs) (fun _ => rfl))
    (dst := (Memref.whole cc0_scratch0 : Memref sig .tc .vmem S512x2048 .f32).slice (Rect.unit (s := S512x2048) offd S1x2048.size hd) (fun _ => rfl))
    (via := .same) (sm := .dma cc0_scratch4.sem) (hsrc := h1) (hdst := h2) (hsem := h3) (k := kk) (Q := Q)
    (q := Transfers.shareTokN fullShare b.val) (fs := A) (Sd := rowD b) (fd := f0)
    (D := delivL c A d) (j := b.val) (u := 0) () NN rfl hD.le b.isLt (Nat.zero_le _) (by
      rw [hS]
      unfold delivL
      exact BI.Laws.sep_mono (Entails.of_eq (pointsTo_congr fun y hy => landL A f0 d b offs offd hlt es ed hs hd y hy)) .rfl)
  rw [hS] at e
  exact e

theorem issueL_step (f3 : Buf (Elt F) (arg3.view.loc (c : Thread nD τ))) (A : S32768x2048.Idx → Elt F .f32)
    (f0 : S512x2048.Idx → Elt F .f32)
    (hr : ∀ r h, (word (arg3.view.read (Elt F) f3) r h).toNat < 32768) (k : Fin k0_t3_loop.trips) (acc : Unit) :
    issueL c arg3 f3 A f0 k.val acc ⊢ wp frame (wpE defs₀ Variants.none (c : Thread nD τ) none) Set.univ
      (k0_t3_body (F := F) i arg3 harg3 arg4 harg4 (Memref.whole main_arg2) (Memref.isWhole_whole _) arg6 harg6 arg7 harg7
        arg8 harg8 arg9 harg9 (Memref.whole cc0_scratch0) (Memref.isWhole_whole _) arg11 harg11 arg12 harg12 arg13 cc0_scratch4
        k0_h2 k acc)
      (issueL c arg3 f3 A f0 (k.val + 1)) := by
  have hk : k.val < 512 := trips3 ▸ k.isLt
  unfold issueL
  rw [Ring.bigSep_rangeSet_head (Φ := fun b => dstB c (rowD b) f0) (by omega) hk,
    Ring.bigSep_rangeSet_head (Φ := fun b => srcL c (Transfers.shareTokN fullShare b.val) Finset.univ A) (by omega) hk]
  iintro ⟨HB, ⟨HD, HDs⟩, ⟨HS, HSs⟩, HR, H3⟩
  sl_unfold [k0_t3_body]
  sl_exec (disch := (apply chk2_of_lt; unfold issueL_step.sl.r; rw [word_readAt c arg3 f3 _ k.val hk (off4_eq k)]; exact hr _ _))
  ihave HS' := (pointsTo_split_subset (Finset.subset_univ (rowL (word (arg3.view.read (Elt F) f3) k.val hk).toNat))).1 $$ HS
  icases HS' with ⟨HS, HSr⟩
  iapply (enqueueL c A f0 (arg3.view.read (Elt F) f3) ⟨k.val, hk⟩ _ _ (hr _ _)
    (by unfold issueL_step.sl.r; rw [word_readAt c arg3 f3 _ k.val hk (off4_eq k)]; rfl) (off5_eq k) _ _ _ _ _ _ _) $$ [HS HD HB]
  · isplitl [HS]; · iexact HS
    isplitl [HD]; · iexact HD
    iexact HB
  iintro HB
  sl_step
  isplitl [HB]; · iexact HB
  isplitl [HDs]; · iexact HDs
  isplitl [HSs]; · iexact HSs
  isplitl [HR HSr]
  · rw [Ring.bigSep_rangeSet_last (lo := 0) (hi := k.val + 1) (by omega) (by omega)]
    isplitl [HSr]; · iexact HSr
    iexact HR
  iexact H3

/-- Before trip `k` of the drain: the waits so far, and either the transfers with `k` of them consumed or, after the
    last trip, the cell back at zero and every delivery. -/
def drainL (A : S32768x2048.Idx → Elt F .f32) (d : Vec F S1x1x512 .i32) (k : ℕ) (_ : Unit) : sProp (MM F) :=
  iprop((∃ W, owes (c : Thread nD τ) 0 W)
    ∗ (if k < 512 then batchL c A d 512 (k * NN)
       else iprop(semVal ((c : Thread nD τ), SemLoc.dma cc0_scratch4.sem) 0 ∗ bigSep Finset.univ (delivL c A d))))

theorem drainL_step (A : S32768x2048.Idx → Elt F .f32) (d : Vec F S1x1x512 .i32) (k : Fin k0_t4_loop.trips) (acc : Unit) :
    drainL c A d k.val acc ⊢ wp frame (wpE defs₀ Variants.none (c : Thread nD τ) none) Set.univ
      (k0_t4_body (F := F) i arg3 harg3 arg4 harg4 (Memref.whole main_arg2) (Memref.isWhole_whole _) arg6 harg6 arg7 harg7
        arg8 harg8 arg9 harg9 (Memref.whole cc0_scratch0) (Memref.isWhole_whole _) arg11 harg11 arg12 harg12 arg13 cc0_scratch4
        k0_h2 k acc)
      (drainL c A d (k.val + 1)) := by
  have hk : k.val < 512 := trips4 ▸ k.isLt
  have hN := NN_pos
  unfold drainL
  simp only [if_pos hk]
  rcases Nat.lt_or_ge (k.val + 1) 512 with h1 | h1
  · have hu : k.val * NN + NN < NN * 512 := by
      rw [← Nat.succ_mul, Nat.mul_comm NN]; exact Nat.mul_lt_mul_of_pos_right h1 hN
    simp only [if_pos h1]
    iintro ⟨⟨%W, HO⟩, HB⟩
    sl_unfold [k0_t4_body]
    iapply (Transfers.wp_waitBatch (Lvl := ℕ) (countersEmb (U := Pipeline.UD sig nD τ)) (defs := defs₀ (F := F)) Variants.none (c : Thread nD τ) none ()
      (N := NN) rfl (D := delivL c A d) (u := k.val * NN) hu) $$ [HB HO]
    · isplitl [HB] <;> iassumption
    iintro ⟨HB, HO⟩
    simp only [ret_bind']
    sl_step
    isplitl [HO]; · iexists _; iexact HO
    rw [Nat.succ_mul]
    iexact HB
  · have hu : k.val * NN + NN = NN * 512 := by
      rw [← Nat.succ_mul, Nat.mul_comm NN, show k.val.succ = 512 by omega]
    simp only [if_neg (Nat.not_lt.mpr h1)]
    iintro ⟨⟨%W, HO⟩, HB⟩
    sl_unfold [k0_t4_body]
    iapply (Transfers.wp_waitBatchLast (Lvl := ℕ) (countersEmb (U := Pipeline.UD sig nD τ)) (defs := defs₀ (F := F)) Variants.none (c : Thread nD τ) none ()
      (N := NN) rfl hN (D := delivL c A d) (u := k.val * NN) hu) $$ [HB HO]
    · isplitl [HB] <;> iassumption
    iintro ⟨HD, Hv, HO⟩
    simp only [ret_bind']
    sl_step
    isplitl [HO]; · iexists _; iexact HO
    isplitl [Hv]; · iexact Hv
    iexact HD

/-- The source's read tokens. -/
abbrev toksL (A : S32768x2048.Idx → Elt F .f32) : sProp (MM F) :=
  bigSep Finset.univ (fun b : Fin 512 => srcL c (Transfers.shareTokN fullShare b.val) Finset.univ A)

theorem toksL_range (A : S32768x2048.Idx → Elt F .f32) :
    (toksL c A : sProp (MM F)) = bigSep (Finset.range 512) (fun t => srcL c (Transfers.shareTokN fullShare t) Finset.univ A) := by
  unfold toksL
  rw [← Ring.rangeSet_univ]
  exact (Ring.bigSep_rangeSet_eq_range (NB := 512) (lo := 0) (hi := 512)
    (Φ := fun b => srcL c (Transfers.shareTokN fullShare b.val) Finset.univ A) le_rfl
    (fun t => srcL c (Transfers.shareTokN fullShare t) Finset.univ A)
    (fun k hk => by show srcL c (Transfers.shareTokN fullShare k) Finset.univ A = srcL c (Transfers.shareTokN fullShare (0 + k)) Finset.univ A; rw [Nat.zero_add]))

/-- Every delivery and what stayed of each token: the buffer whole at the gathered rows and the tokens whole. -/
theorem collectL (A : S32768x2048.Idx → Elt F .f32) (d : Vec F S1x1x512 .i32) :
    iprop(bigSep Finset.univ (delivL c A d)
      ∗ bigSep (Ring.rangeSet 512 0 512) (fun b => srcL c (Transfers.shareTokN fullShare b.val) (Finset.univ \ rowL (word d b.val b.isLt).toNat) A))
    ⊢ iprop(dstB c Finset.univ (gathL A d) ∗ toksL c A : sProp (MM F)) := by
  rw [Ring.rangeSet_univ, rowsD]
  iintro ⟨HD, HR⟩
  ihave HD' := (show bigSep Finset.univ (delivL c A d) ⊢ iprop(bigSep Finset.univ (fun b => dstB c (rowD b) (gathL A d))
      ∗ bigSep Finset.univ (fun b : Fin 512 => srcL c (Transfers.shareTokN fullShare b.val) (rowL (word d b.val b.isLt).toNat) A))
    from Entails.of_eq (BI.bigSep_sep _ _ _)) $$ HD
  icases HD' with ⟨HD, HT⟩
  isplitl [HD]; · iexact HD
  icombine HT HR as H
  iapply (show iprop(bigSep Finset.univ (fun b : Fin 512 => srcL c (Transfers.shareTokN fullShare b.val) (rowL (word d b.val b.isLt).toNat) A)
      ∗ bigSep Finset.univ (fun b : Fin 512 => srcL c (Transfers.shareTokN fullShare b.val) (Finset.univ \ rowL (word d b.val b.isLt).toNat) A)) ⊢ toksL c A
    from (Entails.of_eq (BI.bigSep_sep _ _ _).symm).trans (BI.bigSep_mono fun b _ => (pointsTo_split_subset (Finset.subset_univ _)).2)) $$ H

/-- The two loops: the rows the block names, gathered; the source, the row numbers and the cell as they were. -/
theorem gatherL (f3 : Buf (Elt F) (arg3.view.loc (c : Thread nD τ))) (A : S32768x2048.Idx → Elt F .f32)
    (f0 : S512x2048.Idx → Elt F .f32)
    (hr : ∀ r h, (word (arg3.view.read (Elt F) f3) r h).toNat < 32768) (W : Waits sig Unit) (Q : Unit → sProp (MM F)) :
    iprop((arg3.view.loc (c : Thread nD τ) ↦[arg3.view.set]{fullShare} f3) ∗ srcL c fullShare Finset.univ A
        ∗ dstB c Finset.univ f0 ∗ semVal ((c : Thread nD τ), SemLoc.dma cc0_scratch4.sem) 0 ∗ owes (c : Thread nD τ) 0 W
        ∗ (iprop((arg3.view.loc (c : Thread nD τ) ↦[arg3.view.set]{fullShare} f3) ∗ srcL c fullShare Finset.univ A
            ∗ dstB c Finset.univ (gathL A (arg3.view.read (Elt F) f3)) ∗ semVal ((c : Thread nD τ), SemLoc.dma cc0_scratch4.sem) 0
            ∗ (∃ W', owes (c : Thread nD τ) 0 W')) -∗ Q ⟨⟩))
      ⊢ wp frame (wpE defs₀ Variants.none (c : Thread nD τ) none) Set.univ
        (do
          Scf.Loop.for k0_t3_loop (k0_t3_ok i k0_h2) ⟨⟩ (k0_t3_body (F := F) i arg3 harg3 arg4 harg4 (Memref.whole main_arg2) (Memref.isWhole_whole _) arg6 harg6 arg7 harg7
            arg8 harg8 arg9 harg9 (Memref.whole cc0_scratch0) (Memref.isWhole_whole _) arg11 harg11 arg12 harg12 arg13 cc0_scratch4 k0_h2)
          Scf.Loop.for k0_t4_loop (k0_t4_ok i k0_h2) ⟨⟩ (k0_t4_body (F := F) i arg3 harg3 arg4 harg4 (Memref.whole main_arg2) (Memref.isWhole_whole _) arg6 harg6 arg7 harg7
            arg8 harg8 arg9 harg9 (Memref.whole cc0_scratch0) (Memref.isWhole_whole _) arg11 harg11 arg12 harg12 arg13 cc0_scratch4 k0_h2)
          pure ⟨⟩) Q := by
  iintro ⟨H3, HA, HD, Hv, HO, Hk⟩
  ihave HA' := (Transfers.pointsTo_toks_range fullShare 512).1 $$ HA
  icases HA' with ⟨HAr, HAt⟩
  ihave HAt := (Entails.of_eq (toksL_range c A).symm) $$ HAt
  ihave HD := (Entails.of_eq (rowsD c f0)) $$ HD
  imod (Transfers.batch_alloc' (Lvl := ℕ) (countersEmb (U := Pipeline.UD sig nD τ)) (c : Thread nD τ) () NN (delivL c A (arg3.view.read (Elt F) f3))
    (sm := .dma cc0_scratch4.sem) (E := Set.univ)) $$ Hv with HB
  sl_for (issueL c arg3 f3 A f0) $$ [HB HD HAt H3]
  · intro k acc; exact issueL_step c i arg3 harg3 arg4 harg4 arg6 harg6 arg7 harg7 arg8 harg8 arg9 harg9 arg11 harg11 arg12 harg12 arg13 k0_h2 f3 A f0 hr k acc
  · unfold issueL
    isplitl [HB]; · iexact HB
    rw [Ring.rangeSet_univ]
    isplitl [HD]; · iexact HD
    isplitl [HAt]; · iexact HAt
    isplitr
    · rw [Ring.bigSep_rangeSet_empty (by omega)]; iempintro
    iexact H3
  iintro %acc HI
  rw [show Scf.trips k0_t3_loop.lb k0_t3_loop.ub k0_t3_loop.st = 512 from trips3]
  ihave HI' := (show issueL c arg3 f3 A f0 512 acc ⊢ iprop(batchL c A (arg3.view.read (Elt F) f3) 512 0
      ∗ bigSep (Ring.rangeSet 512 0 512) (fun b => srcL c (Transfers.shareTokN fullShare b.val)
        (Finset.univ \ rowL (word (arg3.view.read (Elt F) f3) b.val b.isLt).toNat) A)
      ∗ (arg3.view.loc (c : Thread nD τ) ↦[arg3.view.set]{fullShare} f3)) from by
    unfold issueL; rw [Ring.bigSep_rangeSet_empty (Φ := fun b => dstB c (rowD b) f0) (by omega),
      Ring.bigSep_rangeSet_empty (Φ := fun b => srcL c (Transfers.shareTokN fullShare b.val) Finset.univ A) (by omega)]
    iintro ⟨HB, -, -, HR, H3⟩
    isplitl [HB]; · iexact HB
    isplitl [HR] <;> iassumption) $$ HI
  icases HI' with ⟨HB, HR, H3⟩
  sl_unfold [gatherL.sl.prog.cont_1]
  sl_for (drainL c A (arg3.view.read (Elt F) f3)) $$ [HB HO]
  · intro k acc; exact drainL_step c i arg3 harg3 arg4 harg4 arg6 harg6 arg7 harg7 arg8 harg8 arg9 harg9 arg11 harg11 arg12 harg12 arg13 k0_h2 A _ k acc
  · unfold drainL
    rw [if_pos (by omega), Nat.zero_mul]
    isplitl [HO]; · iexists _; iexact HO
    iexact HB
  iintro %acc2 HI
  rw [show Scf.trips k0_t4_loop.lb k0_t4_loop.ub k0_t4_loop.st = 512 from trips4]
  ihave HI' := (show drainL c A (arg3.view.read (Elt F) f3) 512 acc2 ⊢ iprop((∃ W, owes (c : Thread nD τ) 0 W)
      ∗ semVal ((c : Thread nD τ), SemLoc.dma cc0_scratch4.sem) 0 ∗ bigSep Finset.univ (delivL c A (arg3.view.read (Elt F) f3))) from by
    unfold drainL; rw [if_neg (Nat.lt_irrefl _)]) $$ HI
  icases HI' with ⟨HO, Hv, HD⟩
  icombine HD HR as HC
  ihave HC' := (collectL c A (arg3.view.read (Elt F) f3)) $$ HC
  icases HC' with ⟨HD, HAt⟩
  ihave HAt := (Entails.of_eq (toksL_range c A)) $$ HAt
  sl_step
  iapply Hk
  isplitl [H3]; · iexact H3
  isplitl [HAr HAt]
  · iapply (Transfers.pointsTo_toks_range fullShare 512).2
    isplitl [HAr] <;> iassumption
  isplitl [HD]; · iexact HD
  isplitl [Hv]; · iexact Hv
  iexact HO

end L

end Cert.Kernel8Ideal.Hand
-- ==== Proof.ExpertsIdealFrame.lean ====
module

public import proofs.«01_k».proof.Proof.ExpertsIdealGather
public import Idealize.ShloMosaic.Lib.Pipeline.FrameBody
public import Idealize.ShloMosaic.Lib.VecWindow

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## The body's conditions, in closed form over the points -/

/-- The body's test that the hidden block is the first. -/
abbrev condFirst (i : grid0.Coords) : Prop :=
  Scalar.cmpi .ne (Scalar.extui (Scalar.cmpi .eq (BitVec.ofNat 32 (i 2).val) 0#32)) 0#32 = 1#1
/-- The body's test that the hidden block is a later one. -/
abbrev condLater (i : grid0.Coords) : Prop :=
  Scalar.cmpi .ne (Scalar.extui (Scalar.cmpi .sgt (BitVec.ofNat 32 (i 2).val) 0#32)) 0#32 = 1#1

theorem coords0 (t : Fin cfg0.N) : (grid0.coords t 0).val = t.val / 40 % 16 := Pipeline.Grid.coords_val t 0 (by decide) rfl
theorem coords1 (t : Fin cfg0.N) : (grid0.coords t 1).val = t.val / 4 % 10 := Pipeline.Grid.coords_val t 1 (by decide) rfl
theorem coords2 (t : Fin cfg0.N) : (grid0.coords t 2).val = t.val / 1 % 4 := Pipeline.Grid.coords_val t 2 (by decide) rfl
theorem lt_640 (t : Fin cfg0.N) : t.val < 640 := Nat.lt_of_lt_of_eq t.isLt N_0

theorem first_iff (t : Fin cfg0.N) : condFirst (grid0.coords t) ↔ t.val % 4 = 0 := by
  have ht := lt_640 t
  simp only [condFirst, coords2]; word_cmp
theorem later_iff (t : Fin cfg0.N) : condLater (grid0.coords t) ↔ t.val % 4 ≠ 0 := by
  have ht := lt_640 t
  simp only [condLater, coords2]; word_cmp
theorem prompt_iff (t : Fin cfg0.N) : k0_cond1 (grid0.coords t) = 1#1 ↔ (t.val % 4 = 0 ∧ t.val / 4 % 10 < 2) := by
  have ht := lt_640 t
  simp only [k0_cond1, coords1, coords2]; word_cmp
theorem sample_iff (t : Fin cfg0.N) : k0_cond2 (grid0.coords t) = 1#1 ↔ (t.val % 4 = 0 ∧ ¬ t.val / 4 % 10 < 2) := by
  have ht := lt_640 t
  simp only [k0_cond2, coords1, coords2]; word_cmp
theorem last_iff (t : Fin cfg0.N) : k0_cond6 (grid0.coords t) = 1#1 ↔ t.val % 4 = 3 := by
  have ht := lt_640 t
  simp only [k0_cond6, coords2]; word_cmp

/-! ## The body, case by case -/

/-- Two programs run in sequence before a third, the third in the post of the two. -/
theorem wp_two {α : Type} (c : Dev nD) (a b : Prog (TpuEff nD τ sig (Elt F) Λ₀ .tc) PUnit) (k : Prog (TpuEff nD τ sig (Elt F) Λ₀ .tc) α)
    (Q : α → sProp (MM F)) :
    wp frame (wpE defs₀ Variants.none (c : Thread nD τ) none) Set.univ (a >>= fun _ => b >>= fun _ => (pure ⟨⟩ : Prog (TpuEff nD τ sig (Elt F) Λ₀ .tc) PUnit))
        (fun _ => wp frame (wpE defs₀ Variants.none (c : Thread nD τ) none) Set.univ k Q)
      ⊢ wp frame (wpE defs₀ Variants.none (c : Thread nD τ) none) Set.univ (a >>= fun _ => b >>= fun _ => k) Q := by
  have e : (a >>= fun _ => b >>= fun _ => k)
      = ((a >>= fun _ => b >>= fun _ => (pure ⟨⟩ : Prog (TpuEff nD τ sig (Elt F) Λ₀ .tc) PUnit)) >>= fun _ => k) := by
    simp only [bind_assoc, pure_bind]
  rw [e]; exact .of_eq (wp_bind frame _ _ (a >>= fun _ => b >>= fun _ => (pure ⟨⟩ : Prog (TpuEff nD τ sig (Elt F) Λ₀ .tc) PUnit)) (fun _ => k) Q).symm

section Runs

variable (c : Dev nD) (i : grid0.Coords) (arg3 : Memref sig .tc .smem S1x1x512 .i32) (harg3 : arg3.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x512x2048 .bf16) (harg8 : arg8.IsWhole)
  (arg9 : Memref sig .tc .vmem S1x512x2048 .bf16) (harg9 : arg9.IsWhole)
  (arg11 : Memref sig .tc .vmem S512x2048 .bf16) (harg11 : arg11.IsWhole)
  (arg12 : Memref sig .tc .vmem S512x2048 .f32) (harg12 : arg12.IsWhole)
  (d3 : Vec F S1x1x512 .i32) (w1 w3 : Vec F S1x2048x512 .bf16) (w2 d9 : Vec F S1x512x2048 .bf16)
  (A : S8192x2048.Idx → Elt F .f32) (B : S32768x2048.Idx → Elt F .f32) (f0 : S512x2048.Idx → Elt F .f32)
  (xb : Vec F S512x2048 .bf16) (acc : Vec F S512x2048 .f32)

/-- The body at a point, on any staging memrefs. -/
abbrev bodyOn := cc0_moe_ffn (F := F) i arg3 harg3 (Memref.whole main_arg1) (Memref.isWhole_whole _) (Memref.whole main_arg2) (Memref.isWhole_whole _)
    arg6 harg6 arg7 harg7 arg8 harg8 arg9 harg9 (Memref.whole cc0_scratch0) (Memref.isWhole_whole _) arg11 harg11 arg12 harg12 cc0_scratch3 cc0_scratch4

/-- What every case holds throughout: the indices, the weights' blocks, the two inputs' rows, the semaphores at zero. -/
abbrev keptP : sProp (MM F) :=
  iprop(owns (c : Thread nD τ) arg3 fullShare d3 ∗ owns (c : Thread nD τ) arg6 fullShare w1 ∗ owns (c : Thread nD τ) arg7 fullShare w3
    ∗ owns (c : Thread nD τ) arg8 fullShare w2
    ∗ srcP c fullShare Finset.univ A ∗ srcL c fullShare Finset.univ B
    ∗ semVal ((c : Thread nD τ), SemLoc.dma cc0_scratch3.sem) 0 ∗ semVal ((c : Thread nD τ), SemLoc.dma cc0_scratch4.sem) 0)

set_option maxHeartbeats 1000000 in
/-- The first hidden block of a prompt slot block: the rows gathered from the prompt batch, the sum begun. -/
theorem run_prompt (hc1 : k0_cond1 i = 1#1) (hc2 : ¬ k0_cond2 i = 1#1) (hf : condFirst i) (hl : ¬ condLater i) (hc6 : ¬ k0_cond6 i = 1#1)
    (hr : ∀ r h, (word d3 r h).toNat < 8192) (W : Waits sig Unit) (K : PUnit → sProp (MM F)) :
    iprop(keptP c arg3 arg6 arg7 arg8 d3 w1 w3 w2 A B ∗ owns (c : Thread nD τ) arg9 fullShare d9
        ∗ dstB c Finset.univ f0 ∗ (∃ d, owns (c : Thread nD τ) arg11 fullShare d) ∗ (∃ d, owns (c : Thread nD τ) arg12 fullShare d)
        ∗ owes (c : Thread nD τ) 0 W
        ∗ (iprop(keptP c arg3 arg6 arg7 arg8 d3 w1 w3 w2 A B ∗ owns (c : Thread nD τ) arg9 fullShare d9
            ∗ dstB c Finset.univ (gathP A d3) ∗ owns (c : Thread nD τ) arg11 fullShare (k0_pay4 (gathP A d3))
            ∗ owns (c : Thread nD τ) arg12 fullShare (k0_pay1 (k0_pay5 (k0_pay4 (gathP A d3)) w1 w3 w2))
            ∗ (∃ W', owes (c : Thread nD τ) 0 W')) -∗ K ⟨⟩))
      ⊢ wp frame (wpE defs₀ Variants.none (c : Thread nD τ) none) Set.univ
        (bodyOn (F := F) i arg3 harg3 arg6 harg6 arg7 harg7 arg8 harg8 arg9 harg9 arg11 harg11 arg12 harg12) K := by
  unfold bodyOn keptP
  simp only [cc0_moe_ffn_eq_skeleton]; unfold cc0_moe_ffn_skel
  simp only [k0_part1_eq_skeleton]; unfold k0_part1_skel
  simp only [dif_pos hc1, dif_neg hc2]
  unfold owns
  iintro ⟨⟨⟨%f3, %h3, H3⟩, ⟨%f6, %h6, H6⟩, ⟨%f7, %h7, H7⟩, ⟨%f8, %h8, H8⟩, HA, HB, Hs, Ht⟩, H9, HD, ⟨%d11, %f11, -, H11⟩, ⟨%d12, %f12, -, H12⟩, HO, Hk⟩
  obtain rfl := harg3.eq_unread h3; obtain rfl := harg6.eq_unread h6; obtain rfl := harg7.eq_unread h7; obtain rfl := harg8.eq_unread h8
  rw [wp_bind]
  iapply (wp_two c _ _ _ _)
  iapply (gatherP c i arg3 harg3 (Memref.whole main_arg2) (Memref.isWhole_whole _) arg6 harg6 arg7 harg7 arg8 harg8 arg9 harg9 arg11 harg11 arg12 harg12
    cc0_scratch4 hc1 _ A f0 (by rw [harg3.read_unread]; exact hr) W)
  isplitl [H3]; · iexact H3
  isplitl [HA]; · iexact HA
  isplitl [HD]; · iexact HD
  isplitl [Hs]; · iexact Hs
  isplitl [HO]; · iexact HO
  iintro ⟨H3, HA, HD, Hs, ⟨%W', HO⟩⟩
  sl_exec (disch := first | sl_exact hf | sl_exact hl | sl_exact hc6)
  sl_step
  iapply Hk
  isplitl [H3 H6 H7 H8 HA HB Hs Ht]
  · isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexact HA
    isplitl [HB]; · iexact HB
    isplitl [Hs]; · iexact Hs
    iexact Ht
  isplitl [H9]; · iexact H9
  isplitl [HD]
  · rw [harg3.read_unread]; iexact HD
  isplitl [H11]
  · iexists _; isplitr; swap
    · iexact H11
    · ipureintro
      unfold run_prompt.sl.H11_1
      refine (View.read_writes_full _ _ _ _ _).trans ?_
      rw [harg3.read_unread]
      exact congrArg k0_pay4 (View.readAt_full _ _ _)
  isplitl [H12]
  · iexists _; isplitr; swap
    · iexact H12
    · ipureintro
      refine (View.read_writes_full _ _ _ _ _).trans (congrArg k0_pay1 ?_)
      unfold run_prompt.sl.r
      have e11 : run_prompt.sl.v13 c arg3 harg3 arg11 d3 A = k0_pay4 (gathP A d3) := by
        unfold run_prompt.sl.v13 run_prompt.sl.H11_1 View.readCov
        refine (View.readAt_writes_full _ _ _ _ _ _).trans ?_
        rw [harg3.read_unread]
        exact congrArg k0_pay4 (View.readAt_full _ _ _)
      have e6 := (View.readAt_full arg6.view (harg6.unread w1) inb_S1x2048x512_S1x2048x512_0_0_0).trans (harg6.read_unread w1)
      have e7 := (View.readAt_full arg7.view (harg7.unread w3) inb_S1x2048x512_S1x2048x512_0_0_0).trans (harg7.read_unread w3)
      have e8 := (View.readAt_full arg8.view (harg8.unread w2) inb_S1x512x2048_S1x512x2048_0_0_0).trans (harg8.read_unread w2)
      rw [e11]
      exact congr (congr (congrArg (k0_pay5 _) e6) e7) e8
  iexists _; iexact HO

set_option maxHeartbeats 1000000 in
/-- The first hidden block of a sample slot block: the rows gathered from the sample batch, the sum begun. -/
theorem run_sample (hc1 : ¬ k0_cond1 i = 1#1) (hc2 : k0_cond2 i = 1#1) (hf : condFirst i) (hl : ¬ condLater i) (hc6 : ¬ k0_cond6 i = 1#1)
    (hr : ∀ r h, (word d3 r h).toNat < 32768) (W : Waits sig Unit) (K : PUnit → sProp (MM F)) :
    iprop(keptP c arg3 arg6 arg7 arg8 d3 w1 w3 w2 A B ∗ owns (c : Thread nD τ) arg9 fullShare d9
        ∗ dstB c Finset.univ f0 ∗ (∃ d, owns (c : Thread nD τ) arg11 fullShare d) ∗ (∃ d, owns (c : Thread nD τ) arg12 fullShare d)
        ∗ owes (c : Thread nD τ) 0 W
        ∗ (iprop(keptP c arg3 arg6 arg7 arg8 d3 w1 w3 w2 A B ∗ owns (c : Thread nD τ) arg9 fullShare d9
            ∗ dstB c Finset.univ (gathL B d3) ∗ owns (c : Thread nD τ) arg11 fullShare (k0_pay4 (gathL B d3))
            ∗ owns (c : Thread nD τ) arg12 fullShare (k0_pay1 (k0_pay5 (k0_pay4 (gathL B d3)) w1 w3 w2))
            ∗ (∃ W', owes (c : Thread nD τ) 0 W')) -∗ K ⟨⟩))
      ⊢ wp frame (wpE defs₀ Variants.none (c : Thread nD τ) none) Set.univ
        (bodyOn (F := F) i arg3 harg3 arg6 harg6 arg7 harg7 arg8 harg8 arg9 harg9 arg11 harg11 arg12 harg12) K := by
  unfold bodyOn keptP
  simp only [cc0_moe_ffn_eq_skeleton]; unfold cc0_moe_ffn_skel
  simp only [k0_part1_eq_skeleton]; unfold k0_part1_skel
  simp only [dif_neg hc1, dif_pos hc2]
  unfold owns
  iintro ⟨⟨⟨%f3, %h3, H3⟩, ⟨%f6, %h6, H6⟩, ⟨%f7, %h7, H7⟩, ⟨%f8, %h8, H8⟩, HA, HB, Hs, Ht⟩, H9, HD, ⟨%d11, %f11, -, H11⟩, ⟨%d12, %f12, -, H12⟩, HO, Hk⟩
  obtain rfl := harg3.eq_unread h3; obtain rfl := harg6.eq_unread h6; obtain rfl := harg7.eq_unread h7; obtain rfl := harg8.eq_unread h8
  rw [wp_bind]
  iapply (wp_two c _ _ _ _)
  iapply (gatherL c i arg3 harg3 (Memref.whole main_arg1) (Memref.isWhole_whole _) arg6 harg6 arg7 harg7 arg8 harg8 arg9 harg9 arg11 harg11 arg12 harg12
    cc0_scratch3 hc2 _ B f0 (by rw [harg3.read_unread]; exact hr) W)
  isplitl [H3]; · iexact H3
  isplitl [HB]; · iexact HB
  isplitl [HD]; · iexact HD
  isplitl [Ht]; · iexact Ht
  isplitl [HO]; · iexact HO
  iintro ⟨H3, HB, HD, Ht, ⟨%W', HO⟩⟩
  sl_exec (disch := first | sl_exact hf | sl_exact hl | sl_exact hc6)
  sl_step
  iapply Hk
  isplitl [H3 H6 H7 H8 HA HB Hs Ht]
  · isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexact HA
    isplitl [HB]; · iexact HB
    isplitl [Hs]; · iexact Hs
    iexact Ht
  isplitl [H9]; · iexact H9
  isplitl [HD]
  · rw [harg3.read_unread]; iexact HD
  isplitl [H11]
  · iexists _; isplitr; swap
    · iexact H11
    · ipureintro
      unfold run_sample.sl.H11_1
      refine (View.read_writes_full _ _ _ _ _).trans ?_
      rw [harg3.read_unread]
      exact congrArg k0_pay4 (View.readAt_full _ _ _)
  isplitl [H12]
  · iexists _; isplitr; swap
    · iexact H12
    · ipureintro
      refine (View.read_writes_full _ _ _ _ _).trans (congrArg k0_pay1 ?_)
      unfold run_sample.sl.r
      have e11 : run_sample.sl.v13 c arg3 harg3 arg11 d3 B = k0_pay4 (gathL B d3) := by
        unfold run_sample.sl.v13 run_sample.sl.H11_1 View.readCov
        refine (View.readAt_writes_full _ _ _ _ _ _).trans ?_
        rw [harg3.read_unread]
        exact congrArg k0_pay4 (View.readAt_full _ _ _)
      have e6 := (View.readAt_full arg6.view (harg6.unread w1) inb_S1x2048x512_S1x2048x512_0_0_0).trans (harg6.read_unread w1)
      have e7 := (View.readAt_full arg7.view (harg7.unread w3) inb_S1x2048x512_S1x2048x512_0_0_0).trans (harg7.read_unread w3)
      have e8 := (View.readAt_full arg8.view (harg8.unread w2) inb_S1x512x2048_S1x512x2048_0_0_0).trans (harg8.read_unread w2)
      rw [e11]
      exact congr (congr (congrArg (k0_pay5 _) e6) e7) e8
  iexists _; iexact HO

set_option maxHeartbeats 1000000 in
/-- A later hidden block that is not the last: its part added to the sum. -/
theorem run_mid (hc1 : ¬ k0_cond1 i = 1#1) (hc2 : ¬ k0_cond2 i = 1#1) (hf : ¬ condFirst i) (hl : condLater i) (hc6 : ¬ k0_cond6 i = 1#1)
    (K : PUnit → sProp (MM F)) :
    iprop(keptP c arg3 arg6 arg7 arg8 d3 w1 w3 w2 A B ∗ owns (c : Thread nD τ) arg9 fullShare d9
        ∗ owns (c : Thread nD τ) arg11 fullShare xb ∗ owns (c : Thread nD τ) arg12 fullShare acc
        ∗ (iprop(keptP c arg3 arg6 arg7 arg8 d3 w1 w3 w2 A B ∗ owns (c : Thread nD τ) arg9 fullShare d9
            ∗ owns (c : Thread nD τ) arg11 fullShare xb
            ∗ owns (c : Thread nD τ) arg12 fullShare (k0_pay2 (k0_pay5 xb w1 w3 w2) acc)) -∗ K ⟨⟩))
      ⊢ wp frame (wpE defs₀ Variants.none (c : Thread nD τ) none) Set.univ
        (bodyOn (F := F) i arg3 harg3 arg6 harg6 arg7 harg7 arg8 harg8 arg9 harg9 arg11 harg11 arg12 harg12) K := by
  unfold bodyOn keptP
  simp only [cc0_moe_ffn_eq_skeleton]; unfold cc0_moe_ffn_skel
  simp only [k0_part1_eq_skeleton]; unfold k0_part1_skel
  unfold owns
  iintro ⟨⟨⟨%f3, %h3, H3⟩, ⟨%f6, %h6, H6⟩, ⟨%f7, %h7, H7⟩, ⟨%f8, %h8, H8⟩, HA, HB, Hs, Ht⟩, H9, ⟨%f11, %h11, H11⟩, ⟨%f12, %h12, H12⟩, Hk⟩
  obtain rfl := harg3.eq_unread h3; obtain rfl := harg6.eq_unread h6; obtain rfl := harg7.eq_unread h7; obtain rfl := harg8.eq_unread h8
  obtain rfl := harg11.eq_unread h11; obtain rfl := harg12.eq_unread h12
  have e6 := (View.readAt_full arg6.view (harg6.unread w1) inb_S1x2048x512_S1x2048x512_0_0_0).trans (harg6.read_unread w1)
  have e7 := (View.readAt_full arg7.view (harg7.unread w3) inb_S1x2048x512_S1x2048x512_0_0_0).trans (harg7.read_unread w3)
  have e8 := (View.readAt_full arg8.view (harg8.unread w2) inb_S1x512x2048_S1x512x2048_0_0_0).trans (harg8.read_unread w2)
  have e11 := (View.readAt_full arg11.view (harg11.unread xb) inb_S512x2048_S512x2048_0_0).trans (harg11.read_unread xb)
  have e12 := (View.readAt_full arg12.view (harg12.unread acc) inb_S512x2048_S512x2048_0_0).trans (harg12.read_unread acc)
  sl_exec (disch := first | sl_exact hc1 | sl_exact hc2 | sl_exact hf | sl_exact hl | sl_exact hc6)
  sl_step
  iapply Hk
  isplitl [H3 H6 H7 H8 HA HB Hs Ht]
  · isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexact HA
    isplitl [HB]; · iexact HB
    isplitl [Hs]; · iexact Hs
    iexact Ht
  isplitl [H9]; · iexact H9
  isplitl [H11]
  · iexists _; isplitr; · ipureintro; exact harg11.read_unread _
    iexact H11
  iexists _; isplitr; swap
  · iexact H12
  · ipureintro
    skip
    exact View.read_writes_full _ _ _ _ _

set_option maxHeartbeats 1000000 in
/-- The last hidden block: its part added to the sum, the sum written out. -/
theorem run_last (hc1 : ¬ k0_cond1 i = 1#1) (hc2 : ¬ k0_cond2 i = 1#1) (hf : ¬ condFirst i) (hl : condLater i) (hc6 : k0_cond6 i = 1#1)
    (K : PUnit → sProp (MM F)) :
    iprop(keptP c arg3 arg6 arg7 arg8 d3 w1 w3 w2 A B ∗ (∃ d, owns (c : Thread nD τ) arg9 fullShare d)
        ∗ owns (c : Thread nD τ) arg11 fullShare xb ∗ owns (c : Thread nD τ) arg12 fullShare acc
        ∗ (iprop(keptP c arg3 arg6 arg7 arg8 d3 w1 w3 w2 A B ∗ owns (c : Thread nD τ) arg9 fullShare (k0_pay3 (k0_pay2 (k0_pay5 xb w1 w3 w2) acc))
            ∗ owns (c : Thread nD τ) arg11 fullShare xb
            ∗ owns (c : Thread nD τ) arg12 fullShare (k0_pay2 (k0_pay5 xb w1 w3 w2) acc)) -∗ K ⟨⟩))
      ⊢ wp frame (wpE defs₀ Variants.none (c : Thread nD τ) none) Set.univ
        (bodyOn (F := F) i arg3 harg3 arg6 harg6 arg7 harg7 arg8 harg8 arg9 harg9 arg11 harg11 arg12 harg12) K := by
  unfold bodyOn keptP
  simp only [cc0_moe_ffn_eq_skeleton]; unfold cc0_moe_ffn_skel
  simp only [k0_part1_eq_skeleton]; unfold k0_part1_skel
  unfold owns
  iintro ⟨⟨⟨%f3, %h3, H3⟩, ⟨%f6, %h6, H6⟩, ⟨%f7, %h7, H7⟩, ⟨%f8, %h8, H8⟩, HA, HB, Hs, Ht⟩, ⟨%d9', %f9, -, H9⟩, ⟨%f11, %h11, H11⟩, ⟨%f12, %h12, H12⟩, Hk⟩
  obtain rfl := harg3.eq_unread h3; obtain rfl := harg6.eq_unread h6; obtain rfl := harg7.eq_unread h7; obtain rfl := harg8.eq_unread h8
  obtain rfl := harg11.eq_unread h11; obtain rfl := harg12.eq_unread h12
  have e6 := (View.readAt_full arg6.view (harg6.unread w1) inb_S1x2048x512_S1x2048x512_0_0_0).trans (harg6.read_unread w1)
  have e7 := (View.readAt_full arg7.view (harg7.unread w3) inb_S1x2048x512_S1x2048x512_0_0_0).trans (harg7.read_unread w3)
  have e8 := (View.readAt_full arg8.view (harg8.unread w2) inb_S1x512x2048_S1x512x2048_0_0_0).trans (harg8.read_unread w2)
  have e11 := (View.readAt_full arg11.view (harg11.unread xb) inb_S512x2048_S512x2048_0_0).trans (harg11.read_unread xb)
  have e12 := (View.readAt_full arg12.view (harg12.unread acc) inb_S512x2048_S512x2048_0_0).trans (harg12.read_unread acc)
  sl_exec (disch := first | sl_exact hc1 | sl_exact hc2 | sl_exact hf | sl_exact hl | sl_exact hc6)
  sl_step
  iapply Hk
  isplitl [H3 H6 H7 H8 HA HB Hs Ht]
  · isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexact HA
    isplitl [HB]; · iexact HB
    isplitl [Hs]; · iexact Hs
    iexact Ht
  isplitl [H9]
  · iexists _; isplitr; swap
    · iexact H9
    · ipureintro
      refine (View.read_writes_full _ _ _ _ _).trans (congrArg k0_pay3 ?_)
      unfold run_last.sl.v36 run_last.sl.H12_1 View.readCov
      exact View.readAt_writes_full _ _ _ _ _ _
  isplitl [H11]
  · iexists _; isplitr; · ipureintro; exact harg11.read_unread _
    iexact H11
  iexists _; isplitr; swap
  · iexact H12
  · ipureintro
    unfold run_last.sl.H12_1
    exact View.read_writes_full _ _ _ _ _

end Runs

variable (m : (ℓ : Loc nD τ sig) → Buf (Elt F) ℓ) (ρ : Dev nD → PrngReg)

/-! ## The launch, at the algebra of a kernel with semaphores of its own -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's two semaphores. -/
abbrev osem0 : Fin 2 → SemLoc sig := fun j => (![SemLoc.dma cc0_scratch3.sem, SemLoc.dma cc0_scratch4.sem] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma cc0_scratch3.sem) 0 ∗ semVal ((c : Thread nD τ), SemLoc.dma cc0_scratch4.sem) 0) := by
  rw [Pipeline.ownSems0_eq_of_list c osem0 [0, 1] (by decide) (by decide)]; rfl
/-- The inputs the body's copies read. -/
def H0 : Finset (Ref sig .tc) := {main_arg1, main_arg2}
theorem H0_sub : H0 ⊆ Pipeline.restRefs sig spec0 := by decide
theorem hbmPts0_eq (c : Dev nD) :
    (bigSep H0 (fun b => ((c : Thread nD τ).loc b) ↦{fullShare} V m c b) : sProp (MM F))
      = iprop(srcP c fullShare Finset.univ (V m c main_arg1) ∗ srcL c fullShare Finset.univ (V m c main_arg2)) := by
  rw [BI.bigSep_eq_bigSepL_of_eq [main_arg1, main_arg2] (by decide) (by decide)]; rfl

abbrev scM1 : Memref sig .tc .vmem S512x2048 .bf16 := Memref.whole cc0_scratch1
abbrev scM2 : Memref sig .tc .vmem S512x2048 .f32 := Memref.whole cc0_scratch2

/-- What the body holds of its own at every point: the inputs it copies from, its semaphores at zero. -/
abbrev ownP (c : Dev nD) : sProp (MM F) :=
  iprop((∃ r, prngReg c r)
    ∗ iprop(semVal ((c : Thread nD τ), SemLoc.dma cc0_scratch3.sem) 0 ∗ semVal ((c : Thread nD τ), SemLoc.dma cc0_scratch4.sem) 0)
    ∗ iprop(srcP c fullShare Finset.univ (V m c main_arg1) ∗ srcL c fullShare Finset.univ (V m c main_arg2)))

theorem PhiD0_eq (c : Dev nD) :
    (Pipeline.ΦD osem0 spec0 H0 (V m) c : sProp (MM F))
      = iprop(iprop((∃ f, dstB c Finset.univ f) ∗ (∃ d, owns (c : Thread nD τ) scM1 fullShare d) ∗ (∃ d, owns (c : Thread nD τ) scM2 fullShare d))
          ∗ ownP m c) := by
  rw [Pipeline.ΦD_eq, scopedRest0_eq, ownSems00_eq, hbmPts0_eq]
  simp only [scM1, scM2, owns_whole]; try rfl

/-! ## What the scratch buffers hold after each point -/

/-- The rows gathered for the slot block of point `t`, rounded to the products' precision. -/
def rowsAt (c : Dev nD) (t : Fin cfg0.N) : Vec F S512x2048 .bf16 :=
  k0_pay4 (if t.val / 4 % 10 < 2 then gathP (V m c main_arg1) (iblk m c 0 t) else gathL (V m c main_arg2) (iblk m c 0 t))

/-- The part of the sum that the hidden block of point `t` gives on rows `xb`. -/
abbrev partAt (c : Dev nD) (t : Fin cfg0.N) (xb : Vec F S512x2048 .bf16) : FVec F S512x2048 .f32 :=
  k0_pay5 xb (iblk m c 1 t) (iblk m c 2 t) (iblk m c 3 t)

/-- The rows and the sum after point `n`. -/
def scr (c : Dev nD) : (n : ℕ) → n < cfg0.N → Vec F S512x2048 .bf16 × Vec F S512x2048 .f32
  | 0, hn => (rowsAt m c ⟨0, hn⟩, k0_pay1 (partAt m c ⟨0, hn⟩ (rowsAt m c ⟨0, hn⟩)))
  | n + 1, hn =>
    if (n + 1) % 4 = 0 then (rowsAt m c ⟨n + 1, hn⟩, k0_pay1 (partAt m c ⟨n + 1, hn⟩ (rowsAt m c ⟨n + 1, hn⟩)))
    else ((scr c n (Nat.lt_of_succ_lt hn)).1,
      k0_pay2 (partAt m c ⟨n + 1, hn⟩ (scr c n (Nat.lt_of_succ_lt hn)).1) (scr c n (Nat.lt_of_succ_lt hn)).2)

theorem scr_first (c : Dev nD) (t : Fin cfg0.N) (h : t.val % 4 = 0) :
    scr m c t.val t.isLt = (rowsAt m c t, k0_pay1 (partAt m c t (rowsAt m c t))) := by
  obtain ⟨n, hn⟩ := t
  cases n with
  | zero => rfl
  | succ n => exact if_pos h
theorem scr_later (c : Dev nD) (t : Fin cfg0.N) (h : ¬ t.val % 4 = 0) :
    scr m c t.val t.isLt = ((scr m c (t.val - 1) (Nat.lt_of_le_of_lt (Nat.sub_le _ _) t.isLt)).1,
      k0_pay2 (partAt m c t (scr m c (t.val - 1) (Nat.lt_of_le_of_lt (Nat.sub_le _ _) t.isLt)).1)
        (scr m c (t.val - 1) (Nat.lt_of_le_of_lt (Nat.sub_le _ _) t.isLt)).2) := by
  obtain ⟨n, hn⟩ := t
  cases n with
  | zero => exact absurd rfl h
  | succ n => exact if_neg h

/-- The invariant before position `n`. -/
def PhiS (c : Dev nD) : (n : ℕ) → n ≤ cfg0.N → sProp (MM F)
  | 0, _ => Pipeline.ΦD osem0 spec0 H0 (V m) c
  | n + 1, hn => iprop(iprop((∃ f, dstB c Finset.univ f) ∗ owns (c : Thread nD τ) scM1 fullShare (scr m c n hn).1
      ∗ owns (c : Thread nD τ) scM2 fullShare (scr m c n hn).2) ∗ ownP m c)

theorem PhiS_succ (c : Dev nD) (n : ℕ) (hn : n < cfg0.N) :
    PhiS m c (n + 1) hn = iprop(iprop((∃ f, dstB c Finset.univ f) ∗ owns (c : Thread nD τ) scM1 fullShare (scr m c n hn).1
      ∗ owns (c : Thread nD τ) scM2 fullShare (scr m c n hn).2) ∗ ownP m c) := rfl
theorem PhiS_pos (c : Dev nD) (n : ℕ) (h : n ≤ cfg0.N) (hz : n ≠ 0) :
    PhiS m c n h = iprop(iprop((∃ f, dstB c Finset.univ f) ∗ owns (c : Thread nD τ) scM1 fullShare (scr m c (n - 1) (by omega)).1
      ∗ owns (c : Thread nD τ) scM2 fullShare (scr m c (n - 1) (by omega)).2) ∗ ownP m c) := by
  cases n with
  | zero => exact absurd rfl hz
  | succ n => rfl
/-- The invariant with the scratch buffers' contents forgotten. -/
theorem PhiS_loose (c : Dev nD) (n : ℕ) (h : n ≤ cfg0.N) : PhiS m c n h ⊢ Pipeline.ΦD osem0 spec0 H0 (V m) c := by
  cases n with
  | zero => exact .rfl
  | succ n =>
    rw [PhiS_succ, PhiD0_eq]
    iintro ⟨⟨HD, H1, H2⟩, HR⟩
    isplitr [HR]
    · isplitl [HD]; · iexact HD
      isplitl [H1]; · iexists _; iexact H1
      iexists _; iexact H2
    iexact HR

/-! ## The proof data, the body obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (scr m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem Phi_last (c : Dev nD) : (dats m 0 c).Φ (Fin.last cfg0.N) ⊢ Pipeline.ΦD osem0 spec0 H0 (V m) c := by
  dsimp only [dats]; exact PhiS_loose m c _ _

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (scr m c t.val t.isLt).2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem idle4 (t : Fin cfg0.N) (h : ¬ t.val % 4 = 3) : cfg0.idle 4 (grid0.coords t) = true := by
  show (!(k0_cond6 (grid0.coords t) == 1#1)) = true
  have : ¬ k0_cond6 (grid0.coords t) = 1#1 := fun e => h ((last_iff t).mp e)
  simp [this]
theorem live4 (t : Fin cfg0.N) (h : t.val % 4 = 3) : cfg0.idle 4 (grid0.coords t) = false := by
  show (!(k0_cond6 (grid0.coords t) == 1#1)) = false
  have : k0_cond6 (grid0.coords t) = 1#1 := (last_iff t).mpr h
  simp [this]
theorem noFlush4 (t : Fin cfg0.N) (h : ¬ t.val % 4 = 3) : (cfg0.win 4).flush t = false := by
  have := (flush0_4 t).not.mpr h
  simpa using this
theorem leaves0_4 (c : Dev nD) (t : Fin cfg0.N) (h : t.val % 4 = 3) :
    (dats m 0 c).leavesExact 4 t = owns (c : Thread nD τ) (st0_4 t) fullShare (k0_pay3 (scr m c t.val t.isLt).2) := by
  unfold Dat.leavesExact; rw [live4 t h, after0_4]

/-- The indices are in range of the batch each slot block gathers from. -/
def InRange : Prop := ∀ (c : Dev nD) (t : Fin cfg0.N) (r : ℕ) (h : r < 512),
  (word (iblk m c 0 t) r h).toNat < if t.val / 4 % 10 < 2 then 8192 else 32768

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp (MM F) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1000000 in
theorem sound_prompt (hm : InRange m) (c : Dev nD) (t : Fin cfg0.N) (h0 : t.val % 4 = 0) (h1 : t.val / 4 % 10 < 2) :
    bodyPre m c t ⊢ wp frame (wpE (defs₀ (F := F)) Variants.none c none) Set.univ (bodyAt0 t) (fun _ => bodyPost m c t) := by
  have hrow : rowsAt m c t = k0_pay4 (gathP (V m c main_arg1) (iblk m c 0 t)) := by unfold rowsAt; rw [if_pos h1]
  unfold bodyPre bodyPost
  rw [show (dats m 0 c).Φ t.succ = PhiS m c (t.val + 1) t.isLt from rfl, PhiS_succ, PhiS_castSucc, leaves0_0, leaves0_1, leaves0_2, leaves0_3]
  simp only [before0_0, before0_1, before0_2, before0_3]
  unfold Dat.owesAt Pipeline.owesWithin
  rw [show (dats m 0 c).owed t.castSucc = 0 from rfl, show (dats m 0 c).owed t.succ = 0 from rfl]
  rw [Dat.leavesExact_idle (dats m 0 c) 4 t (idle4 t (by omega)) (noFlush4 t (by omega)), scr_first m c t h0, hrow]
  refine (sep_mono (PhiS_loose m c _ _) .rfl).trans ?_
  rw [PhiD0_eq]
  iintro ⟨⟨⟨⟨%f0, HD⟩, S1, S2⟩, Hg, ⟨Hs, Ht⟩, ⟨HA, HB⟩⟩, ⟨%W, -, HW⟩, ⟨%d0, H0⟩, ⟨%d1, H1⟩, ⟨%d2, H2⟩, ⟨%d3, H3⟩, ⟨%d4, H4⟩⟩
  iapply (run_prompt c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    scM1 (Memref.isWhole_whole _) scM2 (Memref.isWhole_whole _) (iblk m c 0 t) (iblk m c 1 t) (iblk m c 2 t) (iblk m c 3 t)
    _ (V m c main_arg1) (V m c main_arg2) f0 ((prompt_iff t).mpr ⟨h0, h1⟩) (fun e => ((sample_iff t).mp e).2 h1) ((first_iff t).mpr h0)
    (fun e => (later_iff t).mp e h0) (fun e => by have := (last_iff t).mp e; omega) (fun r h => by have := hm c t r h; rwa [if_pos h1] at this) W)
  isplitl [H0 H1 H2 H3 HA HB Hs Ht]
  · unfold keptP
    isplitl [H0]; · iexact H0
    isplitl [H1]; · iexact H1
    isplitl [H2]; · iexact H2
    isplitl [H3]; · iexact H3
    isplitl [HA]; · iexact HA
    isplitl [HB]; · iexact HB
    isplitl [Hs]; · iexact Hs
    iexact Ht
  isplitl [H4]; · iexact H4
  isplitl [HD]; · iexact HD
  isplitl [S1]; · iexact S1
  isplitl [S2]; · iexact S2
  isplitl [HW]; · iexact HW
  unfold keptP
  iintro ⟨⟨H0, H1, H2, H3, HA, HB, Hs, Ht⟩, H4, HD, S1, S2, ⟨%W', HW⟩⟩
  isplitl [HD S1 S2 Hg Hs Ht HA HB]
  · isplitl [HD S1 S2]
    · isplitl [HD]; · iexists _; iexact HD
      isplitl [S1]; · iexact S1
      iexact S2
    isplitl [Hg]; · iexact Hg
    isplitl [Hs Ht]
    · isplitl [Hs]; · iexact Hs
      iexact Ht
    isplitl [HA]; · iexact HA
    iexact HB
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexists d4; iexact H4

set_option maxHeartbeats 1000000 in
theorem sound_sample (hm : InRange m) (c : Dev nD) (t : Fin cfg0.N) (h0 : t.val % 4 = 0) (h1 : ¬ t.val / 4 % 10 < 2) :
    bodyPre m c t ⊢ wp frame (wpE (defs₀ (F := F)) Variants.none c none) Set.univ (bodyAt0 t) (fun _ => bodyPost m c t) := by
  have hrow : rowsAt m c t = k0_pay4 (gathL (V m c main_arg2) (iblk m c 0 t)) := by unfold rowsAt; rw [if_neg h1]
  unfold bodyPre bodyPost
  rw [show (dats m 0 c).Φ t.succ = PhiS m c (t.val + 1) t.isLt from rfl, PhiS_succ, PhiS_castSucc, leaves0_0, leaves0_1, leaves0_2, leaves0_3]
  simp only [before0_0, before0_1, before0_2, before0_3]
  unfold Dat.owesAt Pipeline.owesWithin
  rw [show (dats m 0 c).owed t.castSucc = 0 from rfl, show (dats m 0 c).owed t.succ = 0 from rfl]
  rw [Dat.leavesExact_idle (dats m 0 c) 4 t (idle4 t (by omega)) (noFlush4 t (by omega)), scr_first m c t h0, hrow]
  refine (sep_mono (PhiS_loose m c _ _) .rfl).trans ?_
  rw [PhiD0_eq]
  iintro ⟨⟨⟨⟨%f0, HD⟩, S1, S2⟩, Hg, ⟨Hs, Ht⟩, ⟨HA, HB⟩⟩, ⟨%W, -, HW⟩, ⟨%d0, H0⟩, ⟨%d1, H1⟩, ⟨%d2, H2⟩, ⟨%d3, H3⟩, ⟨%d4, H4⟩⟩
  iapply (run_sample c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    scM1 (Memref.isWhole_whole _) scM2 (Memref.isWhole_whole _) (iblk m c 0 t) (iblk m c 1 t) (iblk m c 2 t) (iblk m c 3 t)
    _ (V m c main_arg1) (V m c main_arg2) f0 (fun e => h1 ((prompt_iff t).mp e).2) ((sample_iff t).mpr ⟨h0, h1⟩) ((first_iff t).mpr h0)
    (fun e => (later_iff t).mp e h0) (fun e => by have := (last_iff t).mp e; omega) (fun r h => by have := hm c t r h; rwa [if_neg h1] at this) W)
  isplitl [H0 H1 H2 H3 HA HB Hs Ht]
  · unfold keptP
    isplitl [H0]; · iexact H0
    isplitl [H1]; · iexact H1
    isplitl [H2]; · iexact H2
    isplitl [H3]; · iexact H3
    isplitl [HA]; · iexact HA
    isplitl [HB]; · iexact HB
    isplitl [Hs]; · iexact Hs
    iexact Ht
  isplitl [H4]; · iexact H4
  isplitl [HD]; · iexact HD
  isplitl [S1]; · iexact S1
  isplitl [S2]; · iexact S2
  isplitl [HW]; · iexact HW
  unfold keptP
  iintro ⟨⟨H0, H1, H2, H3, HA, HB, Hs, Ht⟩, H4, HD, S1, S2, ⟨%W', HW⟩⟩
  isplitl [HD S1 S2 Hg Hs Ht HA HB]
  · isplitl [HD S1 S2]
    · isplitl [HD]; · iexists _; iexact HD
      isplitl [S1]; · iexact S1
      iexact S2
    isplitl [Hg]; · iexact Hg
    isplitl [Hs Ht]
    · isplitl [Hs]; · iexact Hs
      iexact Ht
    isplitl [HA]; · iexact HA
    iexact HB
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexists d4; iexact H4

set_option maxHeartbeats 1000000 in
theorem sound_mid (c : Dev nD) (t : Fin cfg0.N) (h0 : ¬ t.val % 4 = 0) (h3 : ¬ t.val % 4 = 3) :
    bodyPre m c t ⊢ wp frame (wpE (defs₀ (F := F)) Variants.none c none) Set.univ (bodyAt0 t) (fun _ => bodyPost m c t) := by
  unfold bodyPre bodyPost
  rw [show (dats m 0 c).Φ t.succ = PhiS m c (t.val + 1) t.isLt from rfl, PhiS_succ, PhiS_castSucc, leaves0_0, leaves0_1, leaves0_2, leaves0_3]
  simp only [before0_0, before0_1, before0_2, before0_3]
  unfold Dat.owesAt Pipeline.owesWithin
  rw [show (dats m 0 c).owed t.castSucc = 0 from rfl, show (dats m 0 c).owed t.succ = 0 from rfl]
  rw [Dat.leavesExact_idle (dats m 0 c) 4 t (idle4 t h3) (noFlush4 t h3), PhiS_pos m c _ _ (show t.val ≠ 0 by omega), scr_later m c t h0]
  iintro ⟨⟨⟨⟨%f0, HD⟩, S1, S2⟩, Hg, ⟨Hs, Ht⟩, ⟨HA, HB⟩⟩, ⟨%W', -, HW⟩, ⟨%d0, H0⟩, ⟨%d1, H1⟩, ⟨%d2, H2⟩, ⟨%d3, H3⟩, ⟨%d4, H4⟩⟩
  iapply (run_mid c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    scM1 (Memref.isWhole_whole _) scM2 (Memref.isWhole_whole _) (iblk m c 0 t) (iblk m c 1 t) (iblk m c 2 t) (iblk m c 3 t)
    _ (V m c main_arg1) (V m c main_arg2) _ _ (fun e => by have := (prompt_iff t).mp e; omega) (fun e => by have := (sample_iff t).mp e; omega)
    (fun e => by have := (first_iff t).mp e; omega) ((later_iff t).mpr (by omega)) (fun e => h3 ((last_iff t).mp e)))
  isplitl [H0 H1 H2 H3 HA HB Hs Ht]
  · unfold keptP
    isplitl [H0]; · iexact H0
    isplitl [H1]; · iexact H1
    isplitl [H2]; · iexact H2
    isplitl [H3]; · iexact H3
    isplitl [HA]; · iexact HA
    isplitl [HB]; · iexact HB
    isplitl [Hs]; · iexact Hs
    iexact Ht
  isplitl [H4]; · iexact H4
  isplitl [S1]; · iexact S1
  isplitl [S2]; · iexact S2
  unfold keptP
  iintro ⟨⟨H0, H1, H2, H3, HA, HB, Hs, Ht⟩, H4, S1, S2⟩
  isplitl [HD S1 S2 Hg Hs Ht HA HB]
  · isplitl [HD S1 S2]
    · isplitl [HD]; · iexists _; iexact HD
      isplitl [S1]; · iexact S1
      iexact S2
    isplitl [Hg]; · iexact Hg
    isplitl [Hs Ht]
    · isplitl [Hs]; · iexact Hs
      iexact Ht
    isplitl [HA]; · iexact HA
    iexact HB
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexists d4; iexact H4

set_option maxHeartbeats 1000000 in
theorem sound_last (c : Dev nD) (t : Fin cfg0.N) (h3 : t.val % 4 = 3) :
    bodyPre m c t ⊢ wp frame (wpE (defs₀ (F := F)) Variants.none c none) Set.univ (bodyAt0 t) (fun _ => bodyPost m c t) := by
  unfold bodyPre bodyPost
  rw [show (dats m 0 c).Φ t.succ = PhiS m c (t.val + 1) t.isLt from rfl, PhiS_succ, PhiS_castSucc, leaves0_0, leaves0_1, leaves0_2, leaves0_3]
  simp only [before0_0, before0_1, before0_2, before0_3]
  unfold Dat.owesAt Pipeline.owesWithin
  rw [show (dats m 0 c).owed t.castSucc = 0 from rfl, show (dats m 0 c).owed t.succ = 0 from rfl]
  rw [leaves0_4 m c t h3, PhiS_pos m c _ _ (show t.val ≠ 0 by omega), scr_later m c t (show ¬ t.val % 4 = 0 by omega)]
  iintro ⟨⟨⟨⟨%f0, HD⟩, S1, S2⟩, Hg, ⟨Hs, Ht⟩, ⟨HA, HB⟩⟩, ⟨%W', -, HW⟩, ⟨%d0, H0⟩, ⟨%d1, H1⟩, ⟨%d2, H2⟩, ⟨%d3, H3⟩, ⟨%d4, H4⟩⟩
  iapply (run_last c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    scM1 (Memref.isWhole_whole _) scM2 (Memref.isWhole_whole _) (iblk m c 0 t) (iblk m c 1 t) (iblk m c 2 t) (iblk m c 3 t)
    (V m c main_arg1) (V m c main_arg2) _ _ (fun e => by have := (prompt_iff t).mp e; omega) (fun e => by have := (sample_iff t).mp e; omega)
    (fun e => by have := (first_iff t).mp e; omega) ((later_iff t).mpr (by omega)) ((last_iff t).mpr h3))
  isplitl [H0 H1 H2 H3 HA HB Hs Ht]
  · unfold keptP
    isplitl [H0]; · iexact H0
    isplitl [H1]; · iexact H1
    isplitl [H2]; · iexact H2
    isplitl [H3]; · iexact H3
    isplitl [HA]; · iexact HA
    isplitl [HB]; · iexact HB
    isplitl [Hs]; · iexact Hs
    iexact Ht
  isplitl [H4]; · iexists _; iexact H4
  isplitl [S1]; · iexact S1
  isplitl [S2]; · iexact S2
  unfold keptP
  iintro ⟨⟨H0, H1, H2, H3, HA, HB, Hs, Ht⟩, H4, S1, S2⟩
  isplitl [HD S1 S2 Hg Hs Ht HA HB]
  · isplitl [HD S1 S2]
    · isplitl [HD]; · iexists _; iexact HD
      isplitl [S1]; · iexact S1
      iexact S2
    isplitl [Hg]; · iexact Hg
    isplitl [Hs Ht]
    · isplitl [Hs]; · iexact Hs
      iexact Ht
    isplitl [HA]; · iexact HA
    iexact HB
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem sound_body (hm : InRange m) (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases h1 : t.val / 4 % 10 < 2
    · exact sound_prompt m hm c t h0 h1
    · exact sound_sample m hm c t h0 h1
  · by_cases h3 : t.val % 4 = 3
    · exact sound_last m c t h3
    · exact sound_mid m c t h0 h3

theorem defs₀_row (t : Fin cfg0.N) :
    defs₀ (F := F) .tc cfg0.body (cfg0.bodyArgs t (cfg0.slots t)) = bodyAt0 t := by
  unfold defs₀; rw [Defs.onTc_tc]

theorem body_obligation (hm : InRange m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run and the frame -/

set_option backward.isDefEq.respectTransparency.types false in
theorem run_main (hm : InRange m) : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hm c).loose) (hshare := fun c => (dats m 0 c).share_full fun _ => rfl)
    (howed := fun _ _ => rfl) (V := V m) (hmain := hmainD m Variants.none) (hA := A_eq m)
    (hin := fun _ => .rfl) (hout := Phi_last m)

theorem frame (hm : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 1).trans (((dats m 0 c).arrAt_in 1 rfl _).trans ((A_eq m c 1).trans (V_main_arg3 m c))),
      ((h.1 c).1 2).trans (((dats m 0 c).arrAt_in 2 rfl _).trans ((A_eq m c 2).trans (V_main_arg4 m c))),
      ((h.1 c).1 3).trans (((dats m 0 c).arrAt_in 3 rfl _).trans ((A_eq m c 3).trans (V_main_arg5 m c)))⟩, h.2⟩) (run_main m ρ hm)

end Cert.Kernel8Ideal.Hand

end
-- ==== Proof.ExpertsIdealRange.lean ====
/- The row numbers a point of the experts' grid finds, and the precondition on them (program 8). Point `t` of the
   16 × 10 × 4 grid takes slots `512 (t / 4 % 10)` and on of expert `t / 40`; the first two of the ten slot blocks name rows
   of the 8192 prompt rows, the others of the 32768 sample rows. -/
module

public import proofs.«01_k».proof.Defs
public import proofs.«01_k».proof.Proof.ExpertsIdealFrame
public import proofs.«01_k».proof.Proof.Gen.Pre_slots_in_range
public import Idealize.ShloMosaic.Lib.Pipeline.ValueKit

@[expose] public section

noncomputable section

open Idealize.ShloMosaic hiding ix1 ix2 ix3 ix4 eq_ix1 eq_ix2 eq_ix3 eq_ix4
open Idealize.ShloMosaic.TcCoe Idealize.SL.Sem
open Idealize.ShloMosaic.ValueIdx

namespace Cert.Kernel8Ideal.Hand

open Cert.Kernel8Ideal Cert.Kernel8Ideal.Gen

variable {F : FTy → Type} [FloatOps F] (m : (ℓ : Loc nD τ sig) → Buf (Elt F) ℓ)

/-- The row numbers. -/
abbrev slots (c : Dev nD) : Buf (Elt F) ((c : Thread nD τ).loc main_arg0) := m ((c : Thread nD τ).loc main_arg0)

/-- The expert of point `t`, and the slot of row `r` of its block. -/
abbrev expertOf (t : Fin cfg0.N) : Fin 16 := ⟨t.val / 40, by have := lt_640 t; omega⟩
abbrev slotOf (t : Fin cfg0.N) (r : Fin 512) : Fin 5120 := ⟨t.val / 4 % 10 * 512 + r.val, by omega⟩

theorem where_slots : ∀ t : Fin cfg0.N, win0_0.index t 0 = t.val / 4 ∧ win0_0.index t 1 = 0 ∧ win0_0.index t 2 = 0 :=
  (by decide +kernel : ∀ t : Fin grid0.N, _)

/-- The row numbers as the launch passes them: ten blocks of 512 an expert. -/
theorem reshaped (c : Dev nD) (b : Fin 160) (r : Fin 512) :
    V m c main_v0 (ix3 b 0 r) = slots m c (ix2 ⟨b.val / 10, by omega⟩ ⟨b.val % 10 * 512 + r.val, by omega⟩) := by
  show shapeCast S160x1x512 (slots m c) shapeCasts_S16x5120_S160x1x512 (ix3 b 0 r) = _
  exact shapeCast_apply _ _ _ _ (by
    refine (Shape.rowMajor_val_two (ix2 (n0 := 16) (n1 := 5120) _ _)).trans (Eq.trans ?_ (Shape.rowMajor_val_three (ix3 b 0 r)).symm)
    show b.val / 10 * 5120 + (b.val % 10 * 512 + r.val) = (b.val * 1 + 0) * 512 + r.val
    omega)

/-- The row number of slot `r` of a point's block. -/
theorem word_at (c : Dev nD) (t : Fin cfg0.N) (r : ℕ) (h : r < 512) :
    word (iblk m c 0 t) r h = slots m c (ix2 (expertOf t) (slotOf t ⟨r, h⟩)) := by
  have ht := lt_640 t
  obtain ⟨a0, a1, a2⟩ := where_slots t
  refine Eq.trans ?_ ((reshaped m c ⟨t.val / 4, by omega⟩ ⟨r, h⟩).trans (congrArg₂ (fun x y => slots m c (ix2 x y)) (Fin.ext ?_) (Fin.ext rfl)))
  · show V m c main_v0 ((win0_0.rect t).emb _) = _
    refine congrArg (V m c main_v0) ?_
    funext a; apply Fin.ext
    match a with
    | ⟨0, _⟩ => exact (win0_0.rect_emb_val t _ 0).trans (by rw [a0]; show t.val / 4 * 1 + 0 = t.val / 4; omega)
    | ⟨1, _⟩ => exact win0_0.rect_emb_val_of_index_zero t 1 a1 _
    | ⟨2, _⟩ => exact win0_0.rect_emb_val_of_index_zero t 2 a2 _
  · show t.val / 4 / 10 = t.val / 40
    omega

/-- The precondition, on the row numbers of one core. -/
abbrev Slots (c : Dev nD) : Prop :=
  ∀ (e : Fin 16) (s : Fin 5120), (slots m c (ix2 e s)).toNat < if s.val < 1024 then 8192 else 32768

/-- What the printed precondition says of every row number. -/
theorem slots_of_pre (c : Dev nD)
    (h : Cert.Pre_slots_in_range.fn (F := F) (slots m c) (m ((c : Thread nD τ).loc main_arg1)) (m ((c : Thread nD τ).loc main_arg2))
      (m ((c : Thread nD τ).loc main_arg3)) (m ((c : Thread nD τ).loc main_arg4)) (m ((c : Thread nD τ).loc main_arg5)) = fun _ => 1#1) :
    Slots m c := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  intro e s
  have e' := congrFun h (ix2 e s)
  simp only [Cert.Pre_slots_in_range.fn, andi, ori, cmpi, broadcastInDim, constantI, iotaInDim, IntOp.cmpi, andi_ofBool, ori_ofBool,
    ofBool_eq_one, Bool.and_eq_true, Bool.or_eq_true] at e'
  obtain ⟨⟨h0, h1⟩, h2⟩ := e'
  have hs : (BitVec.ofNat 32 s.val).toNat = s.val := by rw [BitVec.toNat_ofNat]; omega
  generalize hx : slots m c (ix2 e s) = x at *
  have h2' : BitVec.sle 1024#32 (BitVec.ofNat 32 s.val) = true ∨ BitVec.slt x 8192#32 = true := h2
  simp only [BitVec.sle, BitVec.slt, decide_eq_true_eq, BitVec.toInt, BitVec.toNat_ofNat] at h0 h1 h2'
  split <;> omega

/-- So every point's row numbers are inside the array they are rows of. -/
theorem inRange_of_slots (h : ∀ c, Slots m c) : InRange m := by
  intro c t r hr
  rw [word_at]
  refine lt_of_lt_of_eq (h c (expertOf t) (slotOf t ⟨r, hr⟩)) ?_
  by_cases h2 : t.val / 4 % 10 < 2
  · rw [if_pos h2, if_pos (by show t.val / 4 % 10 * 512 + r < 1024; omega)]
  · rw [if_neg h2, if_neg (by show ¬ t.val / 4 % 10 * 512 + r < 1024; omega)]

end Cert.Kernel8Ideal.Hand
-- ==== Proof.Experts.lean ====
/- The experts' feed-forward (program 8). Point `t` of the 16 × 10 × 4 grid takes hidden units `512 (t % 4)` and on of slot
   block `t / 4 % 10` of expert `t / 40`. The first of the four points gathers the block's rows, each adds its share of the
   third product to the block's accumulator, and the last writes the accumulator out. -/
module

public import proofs.«01_k».proof.Defs
public import proofs.«01_k».proof.Proof.ExpertsRef
public import proofs.«01_k».proof.Proof.ExpertsIdealRange
public import proofs.«01_k».proof.Proof.Gen.Kernel8
public import Idealize.ShloMosaic.Lib.Pipeline.ReadBack

@[expose] public section

noncomputable section

open Idealize.ShloMosaic hiding ix1 ix2 ix3 ix4 eq_ix1 eq_ix2 eq_ix3 eq_ix4
open Idealize.ShloMosaic.TcCoe Idealize.SL.Sem
open Idealize.ShloMosaic.Pipeline (Dat)
open Idealize.ShloMosaic.ValueIdx

namespace Cert.Kernel8Ideal.Hand

open Cert.Kernel8Ideal Cert.Kernel8Ideal.Gen
open Cert.Reference8Ideal.Experts (rowOf hidden gate expert)

/-! ### The payloads -/

/-- A first product of a block: hidden unit `f` of the block's 512 of row `r`. -/
theorem first_product (x : Vec Ideal S512x2048 .bf16) (w : Vec Ideal S1x2048x512 .bf16) (r f : Fin 512) :
    FloatOps.matmul (F := Ideal) (φ₁ := .bf16) (φ₂ := .bf16) (DotDims.plain 512 2048 512) none x (shapeCast S2048x512 w shapeCasts_S1x2048x512_S2048x512)
      (constant S512x512 .f32 0x00000000#32) (ix2 r f) = ∑ k : Fin 2048, (x (ix2 r k) : EReal) * (w (ix3 0 k f) : EReal) := by
  rw [Ideal.matmul_plain_apply]
  show Ideal.ofBits .f32 0x00000000#32 + _ = _
  rw [Ideal.ofBits_zero_f32, zero_add]
  refine Finset.sum_congr rfl fun k _ => congrArg (fun z : EReal => (x (ix2 r k) : EReal) * z) ?_
  exact shapeCast_apply w shapeCasts_S1x2048x512_S2048x512 (ix2 k f) (ix3 0 k f) (by
    rw [Shape.rowMajor_val_three, Shape.rowMajor_val_two]
    show (0 * 2048 + k.val) * 512 + f.val = k.val * 512 + f.val
    omega)

/-- A block's share of the third product. -/
theorem pay5_apply (x : Vec Ideal S512x2048 .bf16) (w1 w3 : Vec Ideal S1x2048x512 .bf16) (w2 : Vec Ideal S1x512x2048 .bf16) (r : Fin 512) (d : Fin 2048) :
    k0_pay5 (F := Ideal) x w1 w3 w2 (ix2 r d)
      = ∑ f : Fin 512, gate (∑ k : Fin 2048, (x (ix2 r k) : EReal) * (w1 (ix3 0 k f) : EReal)) (∑ k : Fin 2048, (x (ix2 r k) : EReal) * (w3 (ix3 0 k f) : EReal))
          * (w2 (ix3 0 f d) : EReal) := by
  show FloatOps.matmul (F := Ideal) (φ₁ := .bf16) (φ₂ := .bf16) (DotDims.plain 512 512 2048) none
    (fun y => gate (FloatOps.matmul (F := Ideal) (φ₁ := .bf16) (φ₂ := .bf16) (DotDims.plain 512 2048 512) none x (shapeCast S2048x512 w1 shapeCasts_S1x2048x512_S2048x512) (constant S512x512 .f32 0x00000000#32) y)
      (FloatOps.matmul (F := Ideal) (φ₁ := .bf16) (φ₂ := .bf16) (DotDims.plain 512 2048 512) none x (shapeCast S2048x512 w3 shapeCasts_S1x2048x512_S2048x512) (constant S512x512 .f32 0x00000000#32) y))
    (shapeCast S512x2048 w2 shapeCasts_S1x512x2048_S512x2048) (constant S512x2048 .f32 0x00000000#32) (ix2 r d) = _
  rw [Ideal.matmul_plain_apply]
  show Ideal.ofBits .f32 0x00000000#32 + _ = _
  rw [Ideal.ofBits_zero_f32, zero_add]
  refine Finset.sum_congr rfl fun f _ => congrArg₂ (fun a b : EReal => a * b) ?_ ?_
  · exact congrArg₂ gate (first_product x w1 r f) (first_product x w3 r f)
  · exact shapeCast_apply w2 shapeCasts_S1x512x2048_S512x2048 (ix2 f d) (ix3 0 f d) (by
      rw [Shape.rowMajor_val_three, Shape.rowMajor_val_two]
      show (0 * 512 + f.val) * 2048 + d.val = f.val * 2048 + d.val
      omega)

theorem pay1_apply (x : FVec Ideal S512x2048 .f32) (y : S512x2048.Idx) : k0_pay1 (F := Ideal) x y = x y := by
  unfold k0_pay1; rw [shapeCast_self]

theorem pay2_apply (x : FVec Ideal S512x2048 .f32) (a : Vec Ideal S512x2048 .f32) (y : S512x2048.Idx) :
    k0_pay2 (F := Ideal) x a y = (a y : EReal) + x y := by
  unfold k0_pay2; rw [shapeCast_self]; rfl

theorem pay3_apply (a : Vec Ideal S512x2048 .f32) (r : Fin 512) (d : Fin 2048) : k0_pay3 (F := Ideal) a (ix3 0 r d) = a (ix2 r d) := by
  refine (shapeCast_apply _ shapeCasts_S512x2048_S1x512x2048 (ix3 0 r d) (ix2 r d) (by
    rw [Shape.rowMajor_val_three, Shape.rowMajor_val_two]
    show r.val * 2048 + d.val = (0 * 512 + r.val) * 2048 + d.val
    omega)).trans rfl

theorem pay4_apply (a : Vec Ideal S512x2048 .f32) (y : S512x2048.Idx) : k0_pay4 (F := Ideal) a y = a y := by
  unfold k0_pay4; rw [shapeCast_self]; rfl

variable (m : (ℓ : Loc nD τ sig) → Buf (Elt Ideal) ℓ) (ρ : Dev nD → PrngReg)

/-- The prompt rows, the sample rows and the three matrices. -/
abbrev HP (c : Dev nD) : Buf (Elt Ideal) ((c : Thread nD τ).loc main_arg1) := m ((c : Thread nD τ).loc main_arg1)
abbrev HS (c : Dev nD) : Buf (Elt Ideal) ((c : Thread nD τ).loc main_arg2) := m ((c : Thread nD τ).loc main_arg2)
abbrev W1 (c : Dev nD) : Buf (Elt Ideal) ((c : Thread nD τ).loc main_arg3) := m ((c : Thread nD τ).loc main_arg3)
abbrev W3 (c : Dev nD) : Buf (Elt Ideal) ((c : Thread nD τ).loc main_arg4) := m ((c : Thread nD τ).loc main_arg4)
abbrev W2 (c : Dev nD) : Buf (Elt Ideal) ((c : Thread nD τ).loc main_arg5) := m ((c : Thread nD τ).loc main_arg5)
/-- The reference's result, of the kernel's own arguments. -/
abbrev goal (c : Dev nD) : Buf (Elt Ideal) ((c : Thread nD τ).loc main_v1) :=
  Cert.Reference8Ideal.Read.val_main_v25 (F := Ideal) (slots m c) (HP m c) (HS m c) (W1 m c) (W3 m c) (W2 m c)

/-- Hidden unit `f` of the point's block. -/
abbrev unitOf (t : Fin cfg0.N) (f : Fin 512) : Fin 2048 := ⟨t.val % 4 * 512 + f.val, by omega⟩

theorem where_blocks : ∀ t : Fin cfg0.N,
    (win0_1.index t 0 = t.val / 40 ∧ win0_1.index t 1 = 0 ∧ win0_1.index t 2 = t.val % 4)
      ∧ (win0_2.index t 0 = t.val / 40 ∧ win0_2.index t 1 = 0 ∧ win0_2.index t 2 = t.val % 4)
      ∧ (win0_3.index t 0 = t.val / 40 ∧ win0_3.index t 1 = t.val % 4 ∧ win0_3.index t 2 = 0)
      ∧ (win0_4.index t 0 = t.val / 40 ∧ win0_4.index t 1 = t.val / 4 % 10 ∧ win0_4.index t 2 = 0) :=
  (by decide +kernel : ∀ t : Fin grid0.N, _)

theorem flush4 : ∀ t : Fin cfg0.N, (cfg0.win 4).flush t = decide (t.val % 4 = 3) := (by decide +kernel : ∀ t : Fin grid0.N, _)

/-! ### What a point reads -/

theorem w1_at (c : Dev nD) (t : Fin cfg0.N) (k : Fin 2048) (f : Fin 512) :
    iblk m c 1 t (ix3 0 k f) = W1 m c (ix3 (expertOf t) k (unitOf t f)) := by
  obtain ⟨⟨a0, a1, a2⟩, -⟩ := where_blocks t
  show V m c main_arg3 ((win0_1.rect t).emb (ix3 0 k f)) = _
  rw [V_main_arg3]
  refine congrArg (W1 m c) ?_
  funext a; apply Fin.ext
  match a with
  | ⟨0, _⟩ => exact (win0_1.rect_emb_val t _ 0).trans (by rw [a0]; show t.val / 40 * 1 + 0 = t.val / 40; omega)
  | ⟨1, _⟩ => exact win0_1.rect_emb_val_of_index_zero t 1 a1 _
  | ⟨2, _⟩ => exact (win0_1.rect_emb_val t _ 2).trans (by rw [a2]; rfl)

theorem w3_at (c : Dev nD) (t : Fin cfg0.N) (k : Fin 2048) (f : Fin 512) :
    iblk m c 2 t (ix3 0 k f) = W3 m c (ix3 (expertOf t) k (unitOf t f)) := by
  obtain ⟨-, ⟨a0, a1, a2⟩, -⟩ := where_blocks t
  show V m c main_arg4 ((win0_2.rect t).emb (ix3 0 k f)) = _
  rw [V_main_arg4]
  refine congrArg (W3 m c) ?_
  funext a; apply Fin.ext
  match a with
  | ⟨0, _⟩ => exact (win0_2.rect_emb_val t _ 0).trans (by rw [a0]; show t.val / 40 * 1 + 0 = t.val / 40; omega)
  | ⟨1, _⟩ => exact win0_2.rect_emb_val_of_index_zero t 1 a1 _
  | ⟨2, _⟩ => exact (win0_2.rect_emb_val t _ 2).trans (by rw [a2]; rfl)

theorem w2_at (c : Dev nD) (t : Fin cfg0.N) (f : Fin 512) (d : Fin 2048) :
    iblk m c 3 t (ix3 0 f d) = W2 m c (ix3 (expertOf t) (unitOf t f) d) := by
  obtain ⟨-, -, ⟨a0, a1, a2⟩, -⟩ := where_blocks t
  show V m c main_arg5 ((win0_3.rect t).emb (ix3 0 f d)) = _
  rw [V_main_arg5]
  refine congrArg (W2 m c) ?_
  funext a; apply Fin.ext
  match a with
  | ⟨0, _⟩ => exact (win0_3.rect_emb_val t _ 0).trans (by rw [a0]; show t.val / 40 * 1 + 0 = t.val / 40; omega)
  | ⟨1, _⟩ => exact (win0_3.rect_emb_val t _ 1).trans (by rw [a1]; rfl)
  | ⟨2, _⟩ => exact win0_3.rect_emb_val_of_index_zero t 2 a2 _

/-- The row of slot `r` of the point's block. -/
abbrev rowAt (c : Dev nD) (t : Fin cfg0.N) (r : Fin 512) : Fin 2048 → EReal :=
  rowOf (slots m c) (HP m c) (HS m c) (expertOf t) (slotOf t r)

/-- The gathered rows. -/
theorem rowsAt_apply (c : Dev nD) (t : Fin cfg0.N) (r : Fin 512) (k : Fin 2048) : rowsAt m c t (ix2 r k) = rowAt m c t r k := by
  unfold rowsAt
  rw [pay4_apply]
  unfold rowAt rowOf
  by_cases h : t.val / 4 % 10 < 2
  · rw [if_pos h, if_pos (by show t.val / 4 % 10 * 512 + r.val < 1024; omega)]
    unfold gathP
    rw [V_main_arg1]
    refine congrArg (HP m c) ?_
    funext a; apply Fin.ext
    match a with
    | ⟨0, _⟩ => exact congrArg (fun x : BitVec 32 => x.toNat % 8192) (word_at m c t r.val r.isLt)
    | ⟨1, _⟩ => rfl
  · rw [if_neg h, if_neg (by show ¬ t.val / 4 % 10 * 512 + r.val < 1024; omega)]
    unfold gathL
    rw [V_main_arg2]
    refine congrArg (HS m c) ?_
    funext a; apply Fin.ext
    match a with
    | ⟨0, _⟩ => exact congrArg (fun x : BitVec 32 => x.toNat % 32768) (word_at m c t r.val r.isLt)
    | ⟨1, _⟩ => rfl

/-! ### What a point computes -/

/-- Hidden unit `f`'s term of a row's output. -/
def term (c : Dev nD) (e : Fin 16) (x : Fin 2048 → EReal) (d : Fin 2048) (f : Fin 2048) : EReal :=
  gate (hidden (W1 m c) e x f) (hidden (W3 m c) e x f) * (W2 m c (ix3 e f d) : EReal)

/-- The share of hidden block `b`. -/
def share (c : Dev nD) (e : Fin 16) (x : Fin 2048 → EReal) (d : Fin 2048) (b : Fin 4) : EReal :=
  ∑ f : Fin 512, term m c e x d ⟨b.val * 512 + f.val, by omega⟩

/-- The point's hidden block. -/
abbrev blockOf (t : Fin cfg0.N) : Fin 4 := ⟨t.val % 4, by omega⟩

theorem part_apply (c : Dev nD) (t : Fin cfg0.N) (x : Vec Ideal S512x2048 .bf16) (r : Fin 512) (d : Fin 2048)
    (hx : ∀ k, (x (ix2 r k) : EReal) = rowAt m c t r k) :
    partAt m c t x (ix2 r d) = share m c (expertOf t) (rowAt m c t r) d (blockOf t) := by
  refine (pay5_apply x (iblk m c 1 t) (iblk m c 2 t) (iblk m c 3 t) r d).trans ?_
  refine Finset.sum_congr rfl fun f _ => ?_
  simp only [hx, w1_at, w3_at, w2_at]
  rfl

/-- After a point: the gathered rows of its slot block, and the shares so far. -/
theorem scr_apply (c : Dev nD) : ∀ (n : ℕ) (t : Fin cfg0.N), t.val % 4 = n →
    (∀ (r : Fin 512) (k : Fin 2048), (scr m c t.val t.isLt).1 (ix2 r k) = rowAt m c t r k)
      ∧ ∀ (r : Fin 512) (d : Fin 2048), (scr m c t.val t.isLt).2 (ix2 r d)
          = ∑ b ∈ Finset.univ.filter (fun b : Fin 4 => b.val ≤ n), share m c (expertOf t) (rowAt m c t r) d b := by
  intro n
  induction n with
  | zero =>
    intro t h
    rw [scr_first m c t h]
    refine ⟨fun r k => rowsAt_apply m c t r k, fun r d => ?_⟩
    show k0_pay1 (partAt m c t (rowsAt m c t)) (ix2 r d) = _
    rw [pay1_apply, part_apply m c t _ r d (fun k => rowsAt_apply m c t r k)]
    rw [show blockOf t = 0 from Fin.ext h, show (Finset.univ.filter fun b : Fin 4 => b.val ≤ 0) = {0} by decide, Finset.sum_singleton]
  | succ n ih =>
    intro t h
    have hn : n < 3 := by omega
    have ht : t.val - 1 < cfg0.N := Nat.lt_of_le_of_lt (Nat.sub_le _ _) t.isLt
    obtain ⟨i1, i2⟩ := ih ⟨t.val - 1, ht⟩ (by show (t.val - 1) % 4 = n; omega)
    have he : expertOf ⟨t.val - 1, ht⟩ = expertOf t := Fin.ext (by show (t.val - 1) / 40 = t.val / 40; omega)
    have hs : ∀ r, slotOf ⟨t.val - 1, ht⟩ r = slotOf t r := fun r => Fin.ext (by
      show (t.val - 1) / 4 % 10 * 512 + r.val = t.val / 4 % 10 * 512 + r.val; omega)
    have hr : ∀ r, rowAt m c ⟨t.val - 1, ht⟩ r = rowAt m c t r := fun r => by unfold rowAt; rw [he, hs]
    simp only [hr, he] at i1 i2
    rw [scr_later m c t (by omega)]
    refine ⟨i1, fun r d => ?_⟩
    refine (pay2_apply _ _ _).trans ?_
    refine (congrArg₂ (fun a b : EReal => a + b) (i2 r d) (part_apply m c t _ r d (i1 r))).trans ?_
    have hb : blockOf t = ⟨n + 1, by omega⟩ := Fin.ext h
    have hset : (Finset.univ.filter fun b : Fin 4 => b.val ≤ n + 1) = insert (⟨n + 1, by omega⟩ : Fin 4) (Finset.univ.filter fun b : Fin 4 => b.val ≤ n) := by
      ext b; simp only [Finset.mem_filter, Finset.mem_univ, true_and, Finset.mem_insert, Fin.ext_iff]; omega
    rw [hb, hset, Finset.sum_insert (by simp), add_comm]

/-- The four shares make the row's output. -/
theorem shares (c : Dev nD) (e : Fin 16) (x : Fin 2048 → EReal) (d : Fin 2048) :
    ∑ b : Fin 4, share m c e x d b = expert (W1 m c) (W3 m c) (W2 m c) e x d := by
  unfold share
  rw [← Fintype.sum_prod_type' (fun (b : Fin 4) (f : Fin 512) => term m c e x d ⟨b.val * 512 + f.val, by omega⟩)]
  refine Fintype.sum_equiv (finProdFinEquiv (m := 4) (n := 512)) _ (term m c e x d) fun p => congrArg (term m c e x d) (Fin.ext ?_)
  show p.1.val * 512 + p.2.val = p.2.val + 512 * p.1.val
  omega

/-! ### The blocks a point writes -/

theorem flushed_eq (hs : ∀ c, Slots m c) (c : Dev nD) (t : Fin cfg0.N) (hf : (cfg0.win 4).flush t = true) :
    (dats m 0 c).flushed 4 t = ((cfg0.win 4).blk t).view.read (Elt Ideal) (goal m c) := by
  have h : t.val % 4 = 3 := of_decide_eq_true ((flush4 t).symm.trans hf)
  show (cfg0.win 4).cut (grid0.coords t) ((dats m 0 c).after 4 t) = _
  rw [after0_4]
  obtain ⟨-, -, -, a0, a1, a2⟩ := where_blocks t
  funext (y : S1x512x2048.Idx)
  obtain ⟨r, d, rfl⟩ : ∃ r d, y = ix3 0 r d := ⟨y 1, y 2, by
    have h0 : y 0 = (0 : Fin 1) := Fin.ext (by have : (y 0).val < 1 := (y 0).isLt; show (y 0).val = 0; omega)
    rw [eq_ix3 y, h0]; rfl⟩
  show k0_pay3 (scr m c t.val t.isLt).2 (ix3 0 r d) = goal m c ((win0_4.rect t).emb (ix3 0 r d))
  have he : (win0_4.rect t).emb (ix3 0 r d) = ix3 (expertOf t) (slotOf t r) d := by
    funext a; apply Fin.ext
    match a with
    | ⟨0, _⟩ => exact (win0_4.rect_emb_val t _ 0).trans (by rw [a0]; show t.val / 40 * 1 + 0 = t.val / 40; omega)
    | ⟨1, _⟩ => exact (win0_4.rect_emb_val t _ 1).trans (by rw [a1]; rfl)
    | ⟨2, _⟩ => exact win0_4.rect_emb_val_of_index_zero t 2 a2 _
  rw [he, pay3_apply, (scr_apply m c 3 t h).2 r d]
  refine Eq.trans ?_ (Cert.Reference8Ideal.Experts.result_apply (slots m c) (HP m c) (HS m c) (W1 m c) (W3 m c) (W2 m c)
    (expertOf t) (slotOf t r) (hs c (expertOf t) (slotOf t r)) d).symm
  rw [show (Finset.univ.filter fun b : Fin 4 => b.val ≤ 3) = Finset.univ by decide, shares]

theorem mem_block (t : Fin cfg0.N) (i : S16x5120x2048.Idx) :
    i ∈ ((cfg0.win 4).blk t).view.set ↔ ∀ a, win0_4.index t a * win0_4.size a ≤ i a ∧ (i a : Nat) < win0_4.index t a * win0_4.size a + win0_4.size a := by
  show i ∈ ((View.whole main_v1).slice (win0_4.rect t)).set ↔ _
  rw [View.set_slice_whole, Rect.mem_set_unit]

theorem cover (i : S16x5120x2048.Idx) : ∃ t : Fin cfg0.N, (cfg0.win 4).flush t = true ∧ i ∈ ((cfg0.win 4).blk t).view.set := by
  have h0 : (i 0 : Nat) < 16 := (i 0).isLt
  have h1 : (i 1 : Nat) < 5120 := (i 1).isLt
  have h2 : (i 2 : Nat) < 2048 := (i 2).isLt
  have hN : cfg0.N = 640 := N_0
  refine ⟨⟨(i 0 : Nat) * 40 + (i 1 : Nat) / 512 * 4 + 3, by omega⟩, (flush4 _).trans (decide_eq_true (by dsimp only; omega)), ?_⟩
  obtain ⟨-, -, -, a0, a1, a2⟩ := where_blocks ⟨(i 0 : Nat) * 40 + (i 1 : Nat) / 512 * 4 + 3, by omega⟩
  rw [mem_block]
  intro a
  match a with
  | ⟨0, _⟩ => show win0_4.index _ 0 * 1 ≤ (i 0 : Nat) ∧ (i 0 : Nat) < win0_4.index _ 0 * 1 + 1
              rw [a0]; dsimp only; omega
  | ⟨1, _⟩ => show win0_4.index _ 1 * 512 ≤ (i 1 : Nat) ∧ (i 1 : Nat) < win0_4.index _ 1 * 512 + 512
              rw [a1]; dsimp only; omega
  | ⟨2, _⟩ => show win0_4.index _ 2 * 2048 ≤ (i 2 : Nat) ∧ (i 2 : Nat) < win0_4.index _ 2 * 2048 + 2048
              rw [a2]; omega

theorem final (hs : ∀ c, Slots m c) (c : Dev nD) : (dats m 0 c).arrAt 4 cfg0.N = goal m c :=
  (dats m 0 c).arrAt_eq_of_cover 4 (goal m c) (fun t hf => flushed_eq m hs c t hf) cover

end Cert.Kernel8Ideal.Hand

namespace Cert.Proof

section Same

variable {F : FTy → Type} [FloatOps F]

/-- The kernel as it is and the kernel at exact values are one program: the body table, and the launches over it. -/
theorem bodies8 : Cert.Kernel8.defs₀ (F := F) = Cert.Kernel8Ideal.defs₀ (F := F) := by
  refine congrArg Defs.onTc ?_
  funext l x
  match l, x with
  | 0, (t, s) => rfl
  | ⟨n + 1, h⟩, _ => exact absurd h (Nat.not_lt.2 (Nat.le_add_left _ _))
theorem table8 : Cert.Kernel8.defs (F := F) = Cert.Kernel8Ideal.defs (F := F) :=
  congrArg (Pipeline.defs (Cert.Kernel8Ideal.pcfgs (F := F))) bodies8

end Same

theorem frame8 : Cert.quiescent_Kernel8 := fun m ρ h => by
  rw [table8]
  exact Cert.Kernel8Ideal.Hand.frame (F := Bits) m ρ (Cert.Kernel8Ideal.Hand.inRange_of_slots m fun c => Cert.Kernel8Ideal.Hand.slots_of_pre m c (h c))

theorem frame8Ideal : Cert.quiescent_Kernel8Ideal := fun m ρ h =>
  Cert.Kernel8Ideal.Hand.frame m ρ (Cert.Kernel8Ideal.Hand.inRange_of_slots m fun c => Cert.Kernel8Ideal.Hand.slots_of_pre m c (h c))

open Cert.Kernel8Ideal Cert.Kernel8Ideal.Gen Cert.Kernel8Ideal.Hand in
theorem algebraic8 : Cert.algebraic_Kernel8Ideal_Reference8Ideal := fun m g m' g' hpre hagree =>
  have hs : ∀ c, Cert.Kernel8Ideal.Hand.Slots m c := fun c => Cert.Kernel8Ideal.Hand.slots_of_pre m c (hpre c)
  ⟨fun c => Cert.Kernel8Ideal.Hand.goal m c,
    (θ_run _ _ _).mono (fun r h c => ⟨((h.1 c).1 4).trans (Cert.Kernel8Ideal.Hand.final m hs c), ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).1 1).trans (((dats m 0 c).arrAt_in 1 rfl _).trans ((A_eq m c 1).trans (V_main_arg3 m c))),
        ((h.1 c).1 2).trans (((dats m 0 c).arrAt_in 2 rfl _).trans ((A_eq m c 2).trans (V_main_arg4 m c))),
        ((h.1 c).1 3).trans (((dats m 0 c).arrAt_in 3 rfl _).trans ((A_eq m c 3).trans (V_main_arg5 m c)))⟩)
      (Cert.Kernel8Ideal.Hand.run_main m g (Cert.Kernel8Ideal.Hand.inRange_of_slots m hs)),
    (θ_run _ _ _).mono (fun r h c => ⟨(h c).1.trans (by
          rw [Cert.Reference8Ideal.Read.val_main_v25_eq, (hagree c).1, (hagree c).2.1, (hagree c).2.2.1, (hagree c).2.2.2.1,
            (hagree c).2.2.2.2.1, (hagree c).2.2.2.2.2]), (h c).2⟩)
      (Cert.Reference8Ideal.Value.run m' g')⟩

end Cert.Proof
-- ==== Proof.CombineIdealFrame.lean ====
module

public import proofs.«01_k».proof.Proof.Gen.Kernel9Ideal.Skeleton
public import proofs.«01_k».proof.Proof.Gen.Kernel9Ideal.Points
public import proofs.«01_k».proof.Proof.Gen.Kernel9Ideal.Launch
public import proofs.«01_k».proof.Proof.Gen.Kernel9Ideal.Frame
public import Idealize.ShloMosaic.Lib.WordCmp
public import Idealize.ShloMosaic.Lib.Exec
public import Idealize.ShloMosaic.Lib.WordArith.Masks
public import Idealize.ShloMosaic.Lib.WritesUnit
public import Idealize.ShloMosaic.Lib.Claim
public import Idealize.ShloMosaic.Lib.VecWindow
public import Idealize.ShloMosaic.Lib.Tactic

@[expose] public section

noncomputable section

namespace Cert.Kernel9Ideal.Hand

open Cert.Kernel9Ideal Cert.Kernel9Ideal.Gen
open Idealize.ShloMosaic Idealize.ShloMosaic.TcCoe Idealize.ShloMosaic.Tactic
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Pipeline (Dat Cfg Window BodyObligation)

variable {F : FTy → Type} [FloatOps F]

abbrev MM (F : FTy → Type) [FloatOps F] : Type _ := MT nD τ sig Unit (Elt F) ℕ (UR sig nD τ) ℕ

theorem trips1 : k0_t1_loop.trips = 2 := by decide +kernel

/-! ## One row added to the block of rows -/

/-- Slot `r` of a block of one word per slot. -/
def slot (r : ℕ) : S1x1x32.Idx := fun a => match a with
  | ⟨0, _⟩ => ⟨0, Nat.one_pos⟩ | ⟨1, _⟩ => ⟨0, Nat.one_pos⟩ | ⟨2, _⟩ => ⟨r % 32, Nat.mod_lt _ (by decide)⟩

theorem slot_eq (y : S1x1x32.Idx) : y = slot (y 2).val := by
  have h0 : (y 0).val < 1 := (y 0).isLt
  have h1 : (y 1).val < 1 := (y 1).isLt
  have h2 : (y 2).val < 32 := (y 2).isLt
  funext a; apply Fin.ext; fin_cases a
  · show (y 0).val = 0; omega
  · show (y 1).val = 0; omega
  · show (y 2).val = (y 2).val % 32; omega

/-- The row number at slot `r`, and the gate there. -/
abbrev word (d : Vec F S1x1x32 .i32) (r : ℕ) : BitVec 32 := d (slot r)
abbrev gate (d : Vec F S1x1x32 .f32) (r : ℕ) : Elt F .f32 := d (slot r)

theorem chk_of_lt (w : BitVec 32) (h : w.toNat < 256) : k0_chk1 w := by
  intro a; fin_cases a
  · show w.toNat + 1 ≤ 256; omega
  · show 0 + 2048 ≤ 2048; omega

theorem readAt_slot {e : EltTy} (v : View sig .tc .smem S1x1x32 e) (f : v.ty.Contents (Elt F)) (off : Fin 3 → ℕ) (r : ℕ) (h : r < 32)
    (e : off = ![0, 0, r]) (hb : ∀ a, off a + S1x1x1.size a ≤ S1x1x32.size a) (hn : 0 < S1x1x1.numel) :
    View.readAt (Elt F) v (Rect.unit (s := S1x1x32) off S1x1x1.size hb).toLoadRect f (Shape.Idx.first hn) = v.read (Elt F) f (slot r) := by
  subst e
  rw [View.readAt_apply]
  refine congrArg _ (funext fun a => Fin.ext ?_)
  fin_cases a
  · rfl
  · rfl
  · show r + 1 * 0 = r % 32; omega

theorem readAt_lt {arg3 : Memref sig .tc .smem S1x1x32 .i32} (harg3 : arg3.IsWhole) {d3 : Vec F S1x1x32 .i32}
    (hr : ∀ r, (word d3 r).toNat < 256) (off : Fin 3 → ℕ) (hb : ∀ a, off a + S1x1x1.size a ≤ S1x1x32.size a) (hn : 0 < S1x1x1.numel) :
    BitVec.toNat (w := 32) (View.readAt (Elt F) arg3.view (Rect.unit (s := S1x1x32) off S1x1x1.size hb).toLoadRect (harg3.unread d3) (Shape.Idx.first hn)) < 256 := by
  rw [View.readAt_apply, harg3.read_unread]
  exact lt_of_eq_of_lt (congrArg (fun y => BitVec.toNat (w := 32) (d3 y)) (slot_eq _)) (hr _)

/-- Column `x` of row `r` of the block of rows; the column of an element of the block. -/
def cell (r : ℕ) (x : S1x2048.Idx) : S256x2048.Idx := fun a => match a with
  | ⟨0, _⟩ => ⟨r % 256, Nat.mod_lt _ (by decide)⟩ | ⟨1, _⟩ => ⟨(x 1).val, (x 1).isLt⟩
def col (y : S256x2048.Idx) : S1x2048.Idx := fun a => match a with
  | ⟨0, _⟩ => ⟨0, Nat.one_pos⟩ | ⟨1, _⟩ => ⟨(y 1).val, (y 1).isLt⟩

/-- The block of rows with the row named by `w` replaced by `p` of it. -/
def addRow (w : BitVec 32) (p : Vec F S1x2048 .f32 → Vec F S1x2048 .f32) (X : Vec F S256x2048 .f32) : Vec F S256x2048 .f32 := fun y =>
  if (y 0).val = w.toNat then p (fun x => X (cell w.toNat x)) (col y) else X y

theorem read_row (v : View sig .tc .vmem S256x2048 .f32) (f : v.ty.Contents (Elt F)) (L : List (View.Piece (Elt F) S256x2048 .f32))
    (w : BitVec 32) (hw : w.toNat < 256) (off : Fin 2 → ℕ) (e : off = ![w.toNat, 0])
    (hb : ∀ a, off a + S1x2048.size a ≤ S256x2048.size a) (p : Vec F S1x2048 .f32 → Vec F S1x2048 .f32) :
    v.read (Elt F) (v.writes (Elt F) f (⟨Rect.unit (s := S256x2048) off S1x2048.size hb,
        p (View.readAt (Elt F) v (Rect.unit (s := S256x2048) off S1x2048.size hb).toLoadRect (v.writes (Elt F) f L))⟩ :: L))
      = addRow w p (v.read (Elt F) (v.writes (Elt F) f L)) := by
  subst e
  have hrow : View.readAt (Elt F) v (Rect.unit (s := S256x2048) ![w.toNat, 0] S1x2048.size hb).toLoadRect (v.writes (Elt F) f L)
      = fun x => v.read (Elt F) (v.writes (Elt F) f L) (cell w.toNat x) := by
    funext x
    rw [View.readAt_apply]
    refine congrArg _ (funext fun a => Fin.ext ?_)
    have h0 : (x 0).val < 1 := (x 0).isLt
    fin_cases a
    · show w.toNat + 1 * (x 0).val = w.toNat % 256; omega
    · show 0 + 1 * (x 1).val = (x 1).val; omega
  rw [hrow]
  funext y
  unfold addRow
  by_cases h : (y 0).val = w.toNat
  · rw [if_pos h]
    exact View.read_writes_cons_rows_of_mem v f hb _ L y (col y) rfl (by show (y 0).val = w.toNat + 0; omega) rfl
  · rw [if_neg h]
    exact View.read_writes_cons_rows_of_not_mem v f (W := 1) hb _ L y rfl rfl (by omega)

/-! ## The slots of a block, one after another -/

theorem slices (q : ℕ) (h : q < 16) : S16x2048.Slices ![q, 0] S1x2048 :=
  ⟨rfl, fun a => by
    fin_cases a
    · show q + 1 ≤ 16; omega
    · show 0 + 2048 ≤ 2048; omega⟩

/-- A row with a gated row added. -/
abbrev plus (row : Vec F S1x2048 .f32) (g : Elt F .f32) (y : Vec F S1x2048 .f32) : Vec F S1x2048 .f32 :=
  addf (shapeCast S1x2048 row shapeCasts_S1x2048_S1x2048) (mulf (broadcast S1x2048 g) y)

/-- Sixteen rows of a block of expert rows. -/
def rows (d5 : Vec F S1x32x2048 .bf16) (k : ℕ) : Vec F S1x16x2048 .bf16 := fun x => d5 (fun a => match a with
  | ⟨0, _⟩ => ⟨0, Nat.one_pos⟩ | ⟨1, _⟩ => ⟨(16 * k + (x 1).val) % 32, Nat.mod_lt _ (by decide)⟩ | ⟨2, _⟩ => ⟨(x 2).val, (x 2).isLt⟩)
/-- The expert's row at slot `s`, widened. -/
def yrow (d5 : Vec F S1x32x2048 .bf16) (s : ℕ) : Vec F S1x2048 .f32 :=
  extractStridedSlice S1x2048 ![s % 16, 0] (k0_pay5 (rows d5 (s / 16))) (slices _ (Nat.mod_lt _ (by decide)))

theorem yrow_eq (d5 : Vec F S1x32x2048 .bf16) (k q : ℕ) (hq : q < 16) (sl : S16x2048.Slices ![q, 0] S1x2048) (v : Vec F S1x16x2048 .bf16)
    (h : v = rows d5 k) : extractStridedSlice S1x2048 ![q, 0] (k0_pay5 v) sl = yrow d5 (16 * k + q) := by
  subst h
  have H : ∀ (a b : ℕ) (_ : a = q) (_ : b = k) (sl' : S16x2048.Slices ![a, 0] S1x2048),
      extractStridedSlice S1x2048 ![q, 0] (k0_pay5 (rows d5 k)) sl = extractStridedSlice S1x2048 ![a, 0] (k0_pay5 (rows d5 b)) sl' := by
    rintro a b rfl rfl _; rfl
  exact H _ _ (by omega) (by omega) _

/-- The block of rows after the first `n` slots of a block, from `X`. -/
def fold (d3 : Vec F S1x1x32 .i32) (d4 : Vec F S1x1x32 .f32) (d5 : Vec F S1x32x2048 .bf16) (X : Vec F S256x2048 .f32) : ℕ → Vec F S256x2048 .f32
  | 0 => X
  | n + 1 => addRow (word d3 n) (fun row => plus row (gate d4 n) (yrow d5 n)) (fold d3 d4 d5 X n)

theorem read_step (d3 : Vec F S1x1x32 .i32) (d4 : Vec F S1x1x32 .f32) (d5 : Vec F S1x32x2048 .bf16) (X : Vec F S256x2048 .f32) (s : ℕ)
    (hr : ∀ r, (word d3 r).toNat < 256)
    (v : View sig .tc .vmem S256x2048 .f32) (f : v.ty.Contents (Elt F)) (L : List (View.Piece (Elt F) S256x2048 .f32))
    (off : Fin 2 → ℕ) (e : off = ![(word d3 s).toNat, 0]) (hb : ∀ a, off a + S1x2048.size a ≤ S256x2048.size a)
    (g : Elt F .f32) (eg : g = gate d4 s) (y : Vec F S1x2048 .f32) (ey : y = yrow d5 s)
    (hL : v.read (Elt F) (v.writes (Elt F) f L) = fold d3 d4 d5 X s) :
    v.read (Elt F) (v.writes (Elt F) f (⟨Rect.unit (s := S256x2048) off S1x2048.size hb,
        plus (View.readAt (Elt F) v (Rect.unit (s := S256x2048) off S1x2048.size hb).toLoadRect (v.writes (Elt F) f L)) g y⟩ :: L))
      = fold d3 d4 d5 X (s + 1) := by
  subst eg ey
  refine (read_row v f L (word d3 s) (hr s) off e hb (fun row => plus row (gate d4 s) (yrow d5 s))).trans ?_
  rw [hL]; rfl

section Runs

variable (c : Dev nD) (i : grid0.Coords) (arg3 : Memref sig .tc .smem S1x1x32 .i32) (harg3 : arg3.IsWhole)
  (arg4 : Memref sig .tc .smem S1x1x32 .f32) (harg4 : arg4.IsWhole)
  (arg5 : Memref sig .tc .vmem S1x32x2048 .bf16) (harg5 : arg5.IsWhole)
  (arg6 : Memref sig .tc .vmem S256x2048 .f32) (harg6 : arg6.IsWhole)
  (arg7 : Memref sig .tc .vmem S1x1x2048 .f32) (harg7 : arg7.IsWhole)
  (arg8 : Memref sig .tc .vmem S256x2048 .f32) (harg8 : arg8.IsWhole)
  (d3 : Vec F S1x1x32 .i32) (d4 : Vec F S1x1x32 .f32) (d5 : Vec F S1x32x2048 .bf16)

theorem word_at (off : Fin 3 → ℕ) (r : ℕ) (h : r < 32) (e : off = ![0, 0, r]) (hb : ∀ a, off a + S1x1x1.size a ≤ S1x1x32.size a) (hn : 0 < S1x1x1.numel) :
    View.readAt (Elt F) arg3.view (Rect.unit (s := S1x1x32) off S1x1x1.size hb).toLoadRect (harg3.unread d3) (Shape.Idx.first hn) = word d3 r :=
  (readAt_slot arg3.view _ off r h e hb hn).trans (by rw [harg3.read_unread])
theorem row_at (off : Fin 3 → ℕ) (r : ℕ) (h : r < 32) (e : off = ![0, 0, r]) (hb : ∀ a, off a + S1x1x1.size a ≤ S1x1x32.size a) (hn : 0 < S1x1x1.numel) :
    (![BitVec.toNat (w := 32) (View.readAt (Elt F) arg3.view (Rect.unit (s := S1x1x32) off S1x1x1.size hb).toLoadRect (harg3.unread d3) (Shape.Idx.first hn)), 0] : Fin 2 → ℕ)
      = ![(word d3 r).toNat, 0] := by rw [word_at arg3 harg3 d3 off r h e hb hn]
theorem gate_at (off : Fin 3 → ℕ) (r : ℕ) (h : r < 32) (e : off = ![0, 0, r]) (hb : ∀ a, off a + S1x1x1.size a ≤ S1x1x32.size a) (hn : 0 < S1x1x1.numel) :
    View.readAt (Elt F) arg4.view (Rect.unit (s := S1x1x32) off S1x1x1.size hb).toLoadRect (harg4.unread d4) (Shape.Idx.first hn) = gate d4 r :=
  (readAt_slot arg4.view _ off r h e hb hn).trans (by rw [harg4.read_unread])
theorem rows_at (k : Fin k0_t1_loop.trips) (hb : ∀ a, k0_off1 k a + S1x16x2048.size a ≤ S1x32x2048.size a) :
    View.readAt (Elt F) arg5.view (Rect.unit (s := S1x32x2048) (k0_off1 k) S1x16x2048.size hb).toLoadRect (harg5.unread d5) = rows d5 k.val := by
  have hk : k.val < 2 := lt_of_lt_of_eq k.isLt trips1
  funext x
  rw [View.readAt_apply, harg5.read_unread]
  refine congrArg _ (funext fun a => Fin.ext ?_)
  have h0 : (x 0).val < 1 := (x 0).isLt
  have h1 : (x 1).val < 16 := (x 1).isLt
  have e : ∀ a, k0_off1 k a = (![0, 16 * k.val, 0] : Fin 3 → ℕ) a := fun a => congrFun (k0_off1_eq k) a
  fin_cases a
  · show k0_off1 k 0 + 1 * (x 0).val = 0
    rw [e 0]; show 0 + 1 * (x 0).val = 0; omega
  · show k0_off1 k 1 + 1 * (x 1).val = (16 * k.val + (x 1).val) % 32
    rw [e 1]; show 16 * k.val + 1 * (x 1).val = _; omega
  · show k0_off1 k 2 + 1 * (x 2).val = (x 2).val
    rw [e 2]; show 0 + 1 * (x 2).val = _; omega

/-- Where the row of the word at `off` lies. -/
abbrev rowOff (off : Fin 3 → ℕ) (hb : ∀ a, off a + S1x1x1.size a ≤ S1x1x32.size a) (hn : 0 < S1x1x1.numel) : Fin 2 → ℕ :=
  ![BitVec.toNat (w := 32) (View.readAt (Elt F) arg3.view (Rect.unit (s := S1x1x32) off S1x1x1.size hb).toLoadRect (harg3.unread d3) (Shape.Idx.first hn)), 0]

/-- A trip's slot `q` added: its word, its gate and its row read where they lie. -/
theorem step (hr : ∀ r, (word d3 r).toNat < 256) (X : Vec F S256x2048 .f32) (k : Fin k0_t1_loop.trips) (f8 : arg8.view.ty.Contents (Elt F))
    (v : Vec F S1x16x2048 .bf16) (ev : v = rows d5 k.val) (q : ℕ) (hq : q < 16) (o g : Fin k0_t1_loop.trips → Fin 3 → ℕ)
    (eo : ∀ k, o k = ![0, 0, 16 * k.val + q]) (eg : ∀ k, g k = ![0, 0, 16 * k.val + q]) {L : List (View.Piece (Elt F) S256x2048 .f32)} {hb hn hb' hg hn' sl}
    (hL : arg8.view.read (Elt F) (arg8.view.writes (Elt F) f8 L) = fold d3 d4 d5 X (16 * k.val + q)) :
    arg8.view.read (Elt F) (arg8.view.writes (Elt F) f8 (⟨Rect.unit (s := S256x2048)
        (rowOff arg3 harg3 d3 (o k) hb hn) S1x2048.size hb', plus (View.readAt (Elt F) arg8.view (Rect.unit (s := S256x2048) (rowOff arg3 harg3 d3 (o k) hb hn) S1x2048.size hb').toLoadRect (arg8.view.writes (Elt F) f8 L))
          (View.readAt (Elt F) arg4.view (Rect.unit (s := S1x1x32) (g k) S1x1x1.size hg).toLoadRect (harg4.unread d4) (Shape.Idx.first hn'))
          (extractStridedSlice S1x2048 ![q, 0] (k0_pay5 v) sl)⟩ :: L)) = fold d3 d4 d5 X (16 * k.val + q + 1) :=
  have hk : k.val < 2 := lt_of_lt_of_eq k.isLt trips1
  read_step d3 d4 d5 X (16 * k.val + q) hr arg8.view f8 _ _ (row_at arg3 harg3 d3 _ _ (by omega) (eo k) _ _) _ _
    (gate_at arg4 harg4 d4 _ _ (by omega) (eg k) _ _) _ (yrow_eq d5 k.val q hq sl _ ev) hL

/-- One of the body's three indices blocks, kept by the loop. -/
abbrev keptL : sProp (MM F) :=
  iprop((arg3.view.loc (c : Thread nD τ) ↦[arg3.view.set]{fullShare} harg3.unread d3)
    ∗ (arg4.view.loc (c : Thread nD τ) ↦[arg4.view.set]{fullShare} harg4.unread d4)
    ∗ (arg5.view.loc (c : Thread nD τ) ↦[arg5.view.set]{fullShare} harg5.unread d5))

/-- The loop's invariant: the block of rows after the slots of the first `k` trips, from `X`. -/
def inv (X : Vec F S256x2048 .f32) (k : ℕ) (_ : Unit) : sProp (MM F) :=
  iprop(keptL c arg3 harg3 arg4 harg4 arg5 harg5 d3 d4 d5
    ∗ (∃ f8, ⌜arg8.view.read (Elt F) f8 = fold d3 d4 d5 X (16 * k)⌝ ∗ (arg8.view.loc (c : Thread nD τ) ↦[arg8.view.set]{fullShare} f8)))

set_option maxHeartbeats 4000000 in
theorem run_trip (hr : ∀ r, (word d3 r).toNat < 256) (X : Vec F S256x2048 .f32) (k : Fin k0_t1_loop.trips) (acc : Unit) :
    inv c arg3 harg3 arg4 harg4 arg5 harg5 arg8 d3 d4 d5 X k.val acc
      ⊢ wp frame (wpE (defs₀ (F := F)) Variants.none (c : Thread nD τ) none) Set.univ
        (k0_t1_body (F := F) i arg3 harg3 arg4 harg4 arg5 harg5 arg6 harg6 arg7 harg7 arg8 harg8 k acc)
        (inv c arg3 harg3 arg4 harg4 arg5 harg5 arg8 d3 d4 d5 X (k.val + 1)) := by
  have hk : k.val < 2 := lt_of_lt_of_eq k.isLt trips1
  unfold k0_t1_body inv keptL
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨⟨H3, H4, H5⟩, ⟨%f8, %h0, H8⟩⟩
  sl_exec (disch := exact chk_of_lt _ (readAt_lt harg3 hr _ _ _))
  sl_step
  isplitl [H3 H4 H5]
  · isplitl [H3]; · iexact H3
    isplitl [H4]; · iexact H4
    iexact H5
  iexists _; isplitr; swap
  · iexact H8
  ipureintro
  have S := step arg3 harg3 arg4 harg4 arg8 d3 d4 d5 hr X k f8 _ (rows_at arg5 harg5 d5 k (k0_off1_inb k))
  rw [show 16 * (k.val + 1) = 16 * k.val + 15 + 1 from by omega]
  refine S 15 (by decide) (k0_off32 · 15#32) k0_off34 (by decide +kernel) (by decide +kernel) ?_
  refine S 14 (by decide) (k0_off30 · 14#32) (k0_off32 · 14#32) (by decide +kernel) (by decide +kernel) ?_
  refine S 13 (by decide) (k0_off28 · 13#32) (k0_off30 · 13#32) (by decide +kernel) (by decide +kernel) ?_
  refine S 12 (by decide) (k0_off26 · 12#32) (k0_off28 · 12#32) (by decide +kernel) (by decide +kernel) ?_
  refine S 11 (by decide) (k0_off24 · 11#32) (k0_off26 · 11#32) (by decide +kernel) (by decide +kernel) ?_
  refine S 10 (by decide) (k0_off22 · 10#32) (k0_off24 · 10#32) (by decide +kernel) (by decide +kernel) ?_
  refine S 9 (by decide) (k0_off20 · 9#32) (k0_off22 · 9#32) (by decide +kernel) (by decide +kernel) ?_
  refine S 8 (by decide) (k0_off18 · 8#32) (k0_off20 · 8#32) (by decide +kernel) (by decide +kernel) ?_
  refine S 7 (by decide) (k0_off16 · 7#32) (k0_off18 · 7#32) (by decide +kernel) (by decide +kernel) ?_
  refine S 6 (by decide) (k0_off14 · 6#32) (k0_off16 · 6#32) (by decide +kernel) (by decide +kernel) ?_
  refine S 5 (by decide) (k0_off12 · 5#32) (k0_off14 · 5#32) (by decide +kernel) (by decide +kernel) ?_
  refine S 4 (by decide) (k0_off10 · 4#32) (k0_off12 · 4#32) (by decide +kernel) (by decide +kernel) ?_
  refine S 3 (by decide) (k0_off8 · 3#32) (k0_off10 · 3#32) (by decide +kernel) (by decide +kernel) ?_
  refine S 2 (by decide) (k0_off6 · 2#32) (k0_off8 · 2#32) (by decide +kernel) (by decide +kernel) ?_
  refine S 1 (by decide) (k0_off4 · 1#32) (k0_off6 · 1#32) (by decide +kernel) (by decide +kernel) ?_
  refine S 0 (by decide) k0_off2 (k0_off4 · 0#32) (by decide +kernel) (by decide +kernel) ?_
  exact h0

/-! ## The body, first expert, middle experts, last expert -/

variable (d6 : Vec F S256x2048 .f32) (d7 : Vec F S1x1x2048 .f32) (X : Vec F S256x2048 .f32)

/-- The tests of the expert's number. -/
abbrev condFirst : Prop := Scalar.cmpi .ne (Scalar.extui (Scalar.cmpi .eq (BitVec.ofNat 32 (i 2).val) 0#32) : BitVec 32) 0#32 = 1#1
abbrev condLast : Prop := Scalar.cmpi .ne (Scalar.extui (Scalar.cmpi .eq (BitVec.ofNat 32 (i 2).val) 15#32) : BitVec 32) 0#32 = 1#1

/-- What the body finds and leaves in place. -/
abbrev kept : sProp (MM F) :=
  iprop(owns (c : Thread nD τ) arg3 fullShare d3 ∗ owns (c : Thread nD τ) arg4 fullShare d4 ∗ owns (c : Thread nD τ) arg5 fullShare d5
    ∗ owns (c : Thread nD τ) arg6 fullShare d6 ∗ owns (c : Thread nD τ) arg7 fullShare d7)

/-- The first expert of a block of rows: its slots added to zeros. -/
theorem run_first (hr : ∀ r, (word d3 r).toNat < 256) (hc1 : condFirst i) (hc2 : ¬ condLast i) (K : PUnit → sProp (MM F)) :
    iprop(kept c arg3 arg4 arg5 arg6 arg7 d3 d4 d5 d6 d7 ∗ (∃ d, owns (c : Thread nD τ) arg8 fullShare d)
        ∗ (iprop(kept c arg3 arg4 arg5 arg6 arg7 d3 d4 d5 d6 d7 ∗ owns (c : Thread nD τ) arg8 fullShare (fold d3 d4 d5 (k0_pay1 (F := F)) 32)) -∗ K ⟨⟩))
      ⊢ wp frame (wpE (defs₀ (F := F)) Variants.none (c : Thread nD τ) none) Set.univ
        (cc0_moe_combine (F := F) i arg3 harg3 arg4 harg4 arg5 harg5 arg6 harg6 arg7 harg7 arg8 harg8) K := by
  unfold kept
  simp only [cc0_moe_combine_eq_skeleton]; unfold cc0_moe_combine_skel
  unfold owns
  iintro ⟨⟨⟨%f3, %h3, H3⟩, ⟨%f4, %h4, H4⟩, ⟨%f5, %h5, H5⟩, ⟨%f6, %h6, H6⟩, ⟨%f7, %h7, H7⟩⟩, ⟨%d8, %f8, -, H8⟩, Hk⟩
  obtain rfl := harg3.eq_unread h3; obtain rfl := harg4.eq_unread h4; obtain rfl := harg5.eq_unread h5
  obtain rfl := harg6.eq_unread h6; obtain rfl := harg7.eq_unread h7
  sl_exec (disch := first | sl_exact hc1 | sl_exact hc2)
  sl_for (inv c arg3 harg3 arg4 harg4 arg5 harg5 arg8 d3 d4 d5 (k0_pay1 (F := F))) $$ [H3 H4 H5 H8]
  · intro k acc; exact run_trip c i arg3 harg3 arg4 harg4 arg5 harg5 arg6 harg6 arg7 harg7 arg8 harg8 d3 d4 d5 hr _ k acc
  · unfold inv keptL
    isplitl [H3 H4 H5]
    · isplitl [H3]; · iexact H3
      isplitl [H4]; · iexact H4
      iexact H5
    iexists _; isplitr; swap
    · iexact H8
    ipureintro
    exact View.read_writes_full _ _ _ _ _
  iintro %acc HI
  rw [show Scf.trips k0_t1_loop.lb k0_t1_loop.ub k0_t1_loop.st = 2 from trips1]
  unfold inv keptL
  icases HI with ⟨⟨H3, H4, H5⟩, ⟨%g8, %h8, H8⟩⟩
  sl_exec (disch := first | sl_exact hc1 | sl_exact hc2)
  sl_step
  iapply Hk
  isplitr [H8]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  iexists _; isplitr; swap
  · iexact H8
  ipureintro
  exact h8

/-- A later expert: its slots added to the sum. -/
theorem run_mid (hr : ∀ r, (word d3 r).toNat < 256) (hc1 : ¬ condFirst i) (hc2 : ¬ condLast i) (K : PUnit → sProp (MM F)) :
    iprop(kept c arg3 arg4 arg5 arg6 arg7 d3 d4 d5 d6 d7 ∗ owns (c : Thread nD τ) arg8 fullShare X
        ∗ (iprop(kept c arg3 arg4 arg5 arg6 arg7 d3 d4 d5 d6 d7 ∗ owns (c : Thread nD τ) arg8 fullShare (fold d3 d4 d5 X 32)) -∗ K ⟨⟩))
      ⊢ wp frame (wpE (defs₀ (F := F)) Variants.none (c : Thread nD τ) none) Set.univ
        (cc0_moe_combine (F := F) i arg3 harg3 arg4 harg4 arg5 harg5 arg6 harg6 arg7 harg7 arg8 harg8) K := by
  unfold kept
  simp only [cc0_moe_combine_eq_skeleton]; unfold cc0_moe_combine_skel
  unfold owns
  iintro ⟨⟨⟨%f3, %h3, H3⟩, ⟨%f4, %h4, H4⟩, ⟨%f5, %h5, H5⟩, ⟨%f6, %h6, H6⟩, ⟨%f7, %h7, H7⟩⟩, ⟨%f8, %hX, H8⟩, Hk⟩
  obtain rfl := harg3.eq_unread h3; obtain rfl := harg4.eq_unread h4; obtain rfl := harg5.eq_unread h5
  obtain rfl := harg6.eq_unread h6; obtain rfl := harg7.eq_unread h7
  sl_exec (disch := first | sl_exact hc1 | sl_exact hc2)
  sl_for (inv c arg3 harg3 arg4 harg4 arg5 harg5 arg8 d3 d4 d5 X) $$ [H3 H4 H5 H8]
  · intro k acc; exact run_trip c i arg3 harg3 arg4 harg4 arg5 harg5 arg6 harg6 arg7 harg7 arg8 harg8 d3 d4 d5 hr _ k acc
  · unfold inv keptL
    isplitl [H3 H4 H5]
    · isplitl [H3]; · iexact H3
      isplitl [H4]; · iexact H4
      iexact H5
    iexists _; isplitr; swap
    · iexact H8
    ipureintro
    exact hX
  iintro %acc HI
  rw [show Scf.trips k0_t1_loop.lb k0_t1_loop.ub k0_t1_loop.st = 2 from trips1]
  unfold inv keptL
  icases HI with ⟨⟨H3, H4, H5⟩, ⟨%g8, %h8, H8⟩⟩
  sl_exec (disch := first | sl_exact hc1 | sl_exact hc2)
  sl_step
  iapply Hk
  isplitr [H8]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  iexists _; isplitr; swap
  · iexact H8
  ipureintro
  exact h8

/-- The last expert: its slots added, then the gated sum to the residual. -/
theorem run_last (hr : ∀ r, (word d3 r).toNat < 256) (hc1 : ¬ condFirst i) (hc2 : condLast i) (K : PUnit → sProp (MM F)) :
    iprop(kept c arg3 arg4 arg5 arg6 arg7 d3 d4 d5 d6 d7 ∗ owns (c : Thread nD τ) arg8 fullShare X
        ∗ (iprop(kept c arg3 arg4 arg5 arg6 arg7 d3 d4 d5 d6 d7 ∗ owns (c : Thread nD τ) arg8 fullShare (k0_pay4 d6 d7 (fold d3 d4 d5 X 32))) -∗ K ⟨⟩))
      ⊢ wp frame (wpE (defs₀ (F := F)) Variants.none (c : Thread nD τ) none) Set.univ
        (cc0_moe_combine (F := F) i arg3 harg3 arg4 harg4 arg5 harg5 arg6 harg6 arg7 harg7 arg8 harg8) K := by
  unfold kept
  simp only [cc0_moe_combine_eq_skeleton]; unfold cc0_moe_combine_skel
  unfold owns
  iintro ⟨⟨⟨%f3, %h3, H3⟩, ⟨%f4, %h4, H4⟩, ⟨%f5, %h5, H5⟩, ⟨%f6, %h6, H6⟩, ⟨%f7, %h7, H7⟩⟩, ⟨%f8, %hX, H8⟩, Hk⟩
  obtain rfl := harg3.eq_unread h3; obtain rfl := harg4.eq_unread h4; obtain rfl := harg5.eq_unread h5
  obtain rfl := harg6.eq_unread h6; obtain rfl := harg7.eq_unread h7
  sl_exec (disch := first | sl_exact hc1 | sl_exact hc2)
  sl_for (inv c arg3 harg3 arg4 harg4 arg5 harg5 arg8 d3 d4 d5 X) $$ [H3 H4 H5 H8]
  · intro k acc; exact run_trip c i arg3 harg3 arg4 harg4 arg5 harg5 arg6 harg6 arg7 harg7 arg8 harg8 d3 d4 d5 hr _ k acc
  · unfold inv keptL
    isplitl [H3 H4 H5]
    · isplitl [H3]; · iexact H3
      isplitl [H4]; · iexact H4
      iexact H5
    iexists _; isplitr; swap
    · iexact H8
    ipureintro
    exact hX
  iintro %acc HI
  rw [show Scf.trips k0_t1_loop.lb k0_t1_loop.ub k0_t1_loop.st = 2 from trips1]
  unfold inv keptL
  icases HI with ⟨⟨H3, H4, H5⟩, ⟨%g8, %h8, H8⟩⟩
  sl_exec (disch := first | sl_exact hc1 | sl_exact hc2)
  sl_step
  iapply Hk
  isplitr [H8]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  iexists _; isplitr; swap
  · iexact H8
  ipureintro
  refine (View.read_writes_full _ _ _ _ _).trans ?_
  rw [show View.readAt (Elt F) arg6.view (Rect.unit (s := S256x2048) ![0, 0] S256x2048.size inb_S256x2048_S256x2048_0_0).toLoadRect (harg6.unread d6) = d6 from
      (View.readAt_full arg6.view (harg6.unread d6) inb_S256x2048_S256x2048_0_0).trans (harg6.read_unread d6),
    show View.readAt (Elt F) arg7.view (Rect.unit (s := S1x1x2048) ![0, 0, 0] S1x1x2048.size inb_S1x1x2048_S1x1x2048_0_0_0).toLoadRect (harg7.unread d7) = d7 from
      (View.readAt_full arg7.view (harg7.unread d7) inb_S1x1x2048_S1x1x2048_0_0_0).trans (harg7.read_unread d7)]
  exact congrArg (k0_pay4 d6 d7) ((View.readAt_full arg8.view g8 inb_S256x2048_S256x2048_0_0).trans h8)

end Runs

variable (m : (ℓ : Loc nD τ sig) → Buf (Elt F) ℓ) (ρ : Dev nD → PrngReg)

/-! ## The block of rows after each point -/

theorem lt_N (t : Fin cfg0.N) : t.val < 512 := lt_of_lt_of_eq t.isLt N_0

/-- Every row number a point finds is a row of its block. -/
abbrev InRange : Prop := ∀ (c : Dev nD) (t : Fin cfg0.N) (r : ℕ), (word (iblk m c 0 t) r).toNat < 256

/-- The slots of point `t` added to `X`. -/
abbrev addAt (c : Dev nD) (t : Fin cfg0.N) (X : Vec F S256x2048 .f32) : Vec F S256x2048 .f32 :=
  fold (iblk m c 0 t) (iblk m c 1 t) (iblk m c 2 t) X 32

/-- The sum after point `n`, before the residual. -/
def acc (c : Dev nD) : (n : ℕ) → n < cfg0.N → Vec F S256x2048 .f32
  | 0, hn => addAt m c ⟨0, hn⟩ (k0_pay1 (F := F))
  | n + 1, hn => if (n + 1) % 16 = 0 then addAt m c ⟨n + 1, hn⟩ (k0_pay1 (F := F))
    else addAt m c ⟨n + 1, hn⟩ (acc c n (Nat.lt_of_succ_lt hn))

theorem acc_first (c : Dev nD) (t : Fin cfg0.N) (h : t.val % 16 = 0) : acc m c t.val t.isLt = addAt m c t (k0_pay1 (F := F)) := by
  obtain ⟨n, hn⟩ := t
  cases n with
  | zero => rfl
  | succ n => exact if_pos h
theorem acc_later (c : Dev nD) (t : Fin cfg0.N) (h : ¬ t.val % 16 = 0) :
    acc m c t.val t.isLt = addAt m c t (acc m c (t.val - 1) (Nat.lt_of_le_of_lt (Nat.sub_le _ _) t.isLt)) := by
  obtain ⟨n, hn⟩ := t
  cases n with
  | zero => exact absurd rfl h
  | succ n => exact if_neg h

/-! ## The proof data, the body obligation -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if t.val % 16 = 15 then k0_pay4 (iblk m c 3 t) (iblk m c 4 t) (acc m c t.val t.isLt) else acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = if t.val % 16 = 15 then k0_pay4 (iblk m c 3 t) (iblk m c 4 t) (acc m c t.val t.isLt) else acc m c t.val t.isLt := by dsimp only [dats]
theorem after0_5_mid (c : Dev nD) (t : Fin cfg0.N) (h : ¬ t.val % 16 = 15) : (dats m 0 c).after 5 t = acc m c t.val t.isLt :=
  (after0_5 m c t).trans (if_neg h)
theorem after0_5_last (c : Dev nD) (t : Fin cfg0.N) (h : t.val % 16 = 15) :
    (dats m 0 c).after 5 t = k0_pay4 (iblk m c 3 t) (iblk m c 4 t) (acc m c t.val t.isLt) :=
  (after0_5 m c t).trans (if_pos h)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- After the first expert of a block of rows, the output's buffer holds the sum so far. -/
theorem before0_5 (c : Dev nD) (t : Fin cfg0.N) (h : ¬ t.val % 16 = 0) (d) :
    (dats m 0 c).before 5 t d = acc m c (t.val - 1) (Nat.lt_of_le_of_lt (Nat.sub_le _ _) t.isLt) := by
  have hz : t.val ≠ 0 := fun e => h (by omega)
  have hl : t.val - 1 < cfg0.N := Nat.lt_of_le_of_lt (Nat.sub_le _ _) t.isLt
  have hf : (cfg0.win 5).flush ⟨t.val - 1, hl⟩ = false := by
    rw [Bool.eq_false_iff]; intro e
    have e' : (t.val - 1) % 16 = 15 := (flush0_5 ⟨t.val - 1, hl⟩).mp e
    omega
  refine ((dats m 0 c).before_out_kept 5 rfl t hz hf (fun _ => rfl) (fun _ _ => rfl) d).trans ?_
  refine after0_5_mid m c ⟨t.val - 1, hl⟩ ?_
  show ¬ (t.val - 1) % 16 = 15
  omega

theorem coords2' (t : Fin cfg0.N) : (grid0.coords t 2).val = t.val / 1 % 16 := Pipeline.Grid.coords_val t 2 (by decide) rfl
theorem coords2 (t : Fin cfg0.N) : (grid0.coords t 2).val = t.val % 16 := (coords2' t).trans (by rw [Nat.div_one])

theorem first_iff (t : Fin cfg0.N) : condFirst (grid0.coords t) ↔ t.val % 16 = 0 := by
  have ht := lt_N t
  unfold condFirst; simp only [coords2]; word_cmp
theorem last_iff (t : Fin cfg0.N) : condLast (grid0.coords t) ↔ t.val % 16 = 15 := by
  have ht := lt_N t
  unfold condLast; simp only [coords2]; word_cmp

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A run of the body from `P` to `Y` in the output's buffer is the point's step. -/
theorem sound_of (c : Dev nD) (t : Fin cfg0.N) (P : sProp (MM F)) (Y : Vec F S256x2048 .f32) (hY : (dats m 0 c).after 5 t = Y)
    (hP : ∀ d, owns (c : Thread nD τ) (st0_5 t) fullShare ((dats m 0 c).before 5 t d) ⊢ P)
    (run : ∀ K : PUnit → sProp (MM F), iprop(kept c (st0_0 t) (st0_1 t) (st0_2 t) (st0_3 t) (st0_4 t) (iblk m c 0 t) (iblk m c 1 t) (iblk m c 2 t) (iblk m c 3 t) (iblk m c 4 t) ∗ P
        ∗ (iprop(kept c (st0_0 t) (st0_1 t) (st0_2 t) (st0_3 t) (st0_4 t) (iblk m c 0 t) (iblk m c 1 t) (iblk m c 2 t) (iblk m c 3 t) (iblk m c 4 t) ∗ owns (c : Thread nD τ) (st0_5 t) fullShare Y) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, hY]
  iintro ⟨HΦ, Ho, ⟨%e0, H0⟩, ⟨%e1, H1⟩, ⟨%e2, H2⟩, ⟨%e3, H3⟩, ⟨%e4, H4⟩, ⟨%e5, H5⟩⟩
  iapply (run _)
  isplitl [H0 H1 H2 H3 H4]
  · isplitl [H0]; · iexact H0
    isplitl [H1]; · iexact H1
    isplitl [H2]; · iexact H2
    isplitl [H3]; · iexact H3
    iexact H4
  isplitl [H5]; · iapply (hP e5); iexact H5
  iintro ⟨⟨H0, H1, H2, H3, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem sound_body (hm : InRange m) (c : Dev nD) (t : Fin cfg0.N) :
    bodyPre m c t ⊢ wp frame (wpE (defs₀ (F := F)) Variants.none c none) Set.univ (bodyAt0 t) (fun _ => bodyPost m c t) := by
  by_cases h0 : t.val % 16 = 0
  · refine sound_of m c t (iprop(∃ d, owns (c : Thread nD τ) (st0_5 t) fullShare d)) _ ((after0_5_mid m c t (by omega)).trans (acc_first m c t h0)) (fun d => ?_)
      (fun K => by unfold bodyAt0; exact run_first c (grid0.coords t) _ _ _ _ _ _ _ _ _ _ _ _ _ _ _ _ _ (hm c t) ((first_iff t).mpr h0) (fun e => by have := (last_iff t).mp e; omega) K)
    iintro H; iexists _; iexact H
  · by_cases h1 : t.val % 16 = 15
    · exact sound_of m c t _ _ ((after0_5_last m c t h1).trans (congrArg _ (acc_later m c t h0))) (fun d => by rw [before0_5 m c t h0])
        (fun K => by unfold bodyAt0; exact run_last c (grid0.coords t) _ _ _ _ _ _ _ _ _ _ _ _ _ _ _ _ _ _ (hm c t) (fun e => h0 ((first_iff t).mp e)) ((last_iff t).mpr h1) K)
    · exact sound_of m c t _ _ ((after0_5_mid m c t h1).trans (acc_later m c t h0)) (fun d => by rw [before0_5 m c t h0])
        (fun K => by unfold bodyAt0; exact run_mid c (grid0.coords t) _ _ _ _ _ _ _ _ _ _ _ _ _ _ _ _ _ _ (hm c t) (fun e => h0 ((first_iff t).mp e)) (fun e => h1 ((last_iff t).mp e)) K)

theorem defs₀_row (t : Fin cfg0.N) :
    defs₀ (F := F) .tc cfg0.body (cfg0.bodyArgs t (cfg0.slots t)) = bodyAt0 t := by
  unfold defs₀; rw [Defs.onTc_tc]

theorem body_obligation (hm : InRange m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run and the frame -/

set_option backward.isDefEq.respectTransparency.types false in
set_option maxHeartbeats 800000 in
theorem run_main_quiescent (hm : InRange m) : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

theorem frame (hm : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ hm)))
    ((θ_run defs _ _).mono (fun _ h => h.2) (run_main_quiescent m ρ hm))

end Cert.Kernel9Ideal.Hand

end
-- ==== Proof.Combine.lean ====
/- The experts' rows added to the prompt rows (program 9). Block of rows `b` takes `32` rows of each of the 16 experts; row
   `s` of expert `e` goes, times its gate, to the row of the block that the word at (`b`, `e`, `s`) names. The kernel adds them
   one at a time, expert by expert, into the output's block; the reference sums, for each row, over all slots that name it. -/
module

public import proofs.«01_k».proof.Defs
public import proofs.«01_k».proof.Proof.CombineIdealFrame
public import proofs.«01_k».proof.Proof.Gen.Kernel9
public import proofs.«01_k».proof.Proof.Gen.Reference9Ideal.Run
public import proofs.«01_k».proof.Proof.Gen.Reference9Ideal.Read
public import proofs.«01_k».proof.Proof.Gen.Pre_tokens_in_range
public import Idealize.ShloMosaic.Lib.Pipeline.ValueKit
public import Idealize.ShloMosaic.Lib.Pipeline.ReadBack
public import Idealize.ShloMosaic.Lib.TwoAxisContraction

@[expose] public section

noncomputable section

open Idealize.ShloMosaic hiding ix1 ix2 ix3 ix4 eq_ix1 eq_ix2 eq_ix3 eq_ix4
open Idealize.ShloMosaic.TcCoe Idealize.SL.Sem
open Idealize.ShloMosaic.Pipeline (Dat)
open Idealize.ShloMosaic.ValueIdx

/-! ### What the reference computes -/

namespace Cert.Reference9Ideal.Combine

open Cert.Reference9Ideal Cert.Reference9Ideal.Gen Cert.Reference9Ideal.Read

variable (x0 : (⟨S32x16x32, .i32⟩ : BufTy).Contents (Elt Ideal)) (x1 : (⟨S32x16x32, .f32⟩ : BufTy).Contents (Elt Ideal))
  (x2 : (⟨S16x5120x2048, .bf16⟩ : BufTy).Contents (Elt Ideal)) (x3 : (⟨S8192x2048, .f32⟩ : BufTy).Contents (Elt Ideal))
  (x4 : (⟨S96x1x2048, .f32⟩ : BufTy).Contents (Elt Ideal))

/-- Where slot `s` of block `b` lies among an expert's rows; row `y` of block `b`; the block's modulation. -/
abbrev slotOf (b : Fin 32) (s : Fin 32) : Fin 5120 := ⟨(0 + b.val) * 32 + s.val, by omega⟩
abbrev rowOf (b : Fin 32) (y : Fin 256) : Fin 8192 := ⟨b.val * 256 + y.val, by omega⟩
abbrev modOf (b : Fin 32) : Fin 96 := ⟨5, by omega⟩

/-- What expert `e` adds to row `y` of block `b`. -/
def part (b : Fin 32) (e : Fin 16) (y : Fin 256) (z : Fin 2048) : EReal :=
  ∑ s : Fin 32, if (x0 (ix3 b e s)).toNat = y.val then (x1 (ix3 b e s) : EReal) * (x2 (ix3 e (slotOf b s) z) : EReal) else 0

theorem onehot_apply (b : Fin 32) (y : Fin 256) (e : Fin 16) (s : Fin 32) :
    val_main_v16 (F := Ideal) x0 (ix4 b y e s) = if (x0 (ix3 b e s)).toNat = y.val then (1 : EReal) else 0 := by
  rw [val_main_v16_apply, val_main_v15_apply, val_main_v13_apply, val_main_v10_apply, val_main_v14_apply, val_main_v12_apply, val_main_v11_apply]
  have hi : idx_main_v10 (idx_main_v13 (ix4 b y e s)) = ix3 b e s := eq_ix3 _
  rw [hi]
  show (((BitVec.ofBool (x0 (ix3 b e s) == BitVec.ofNat 32 y.val)).toNat : ℝ) : EReal) = _
  by_cases h : (x0 (ix3 b e s)).toNat = y.val
  · have hy : x0 (ix3 b e s) = BitVec.ofNat 32 y.val := by
      apply BitVec.eq_of_toNat_eq; rw [BitVec.toNat_ofNat, h]; omega
    rw [if_pos h, ← hy, beq_self_eq_true]
    simp
  · have hy : (x0 (ix3 b e s) == BitVec.ofNat 32 y.val) = false := by
      rw [beq_eq_false_iff_ne]
      intro e'
      refine h ?_
      rw [e', BitVec.toNat_ofNat]; omega
    rw [if_neg h, hy]
    simp

theorem gated_apply (e : Fin 16) (b : Fin 32) (s : Fin 32) (z : Fin 2048) :
    val_main_v9 (F := Ideal) x1 x2 (ix4 e b s z) = (x2 (ix3 e (slotOf b s) z) : EReal) * (x1 (ix3 b e s) : EReal) := by
  rw [val_main_v9_apply, val_main_v5_apply, val_main_v4_apply, val_main_v3_apply, val_main_v8_apply, val_main_v7_apply, val_main_v6_apply]
  refine congrArg₂ (fun u v : EReal => u * v) (congrArg x2 ?_) (congrArg x1 ?_)
  · funext a; apply Fin.ext
    match a with
    | ⟨0, _⟩ => show (((e.val * 32 + b.val) * 32 + s.val) * 2048 + z.val) / 2097152 = e.val; omega
    | ⟨1, _⟩ => show (((e.val * 32 + b.val) * 32 + s.val) * 2048 + z.val) / 2048 % 1024 = (0 + b.val) * 32 + s.val; omega
    | ⟨2, _⟩ => show (((e.val * 32 + b.val) * 32 + s.val) * 2048 + z.val) % 2048 = z.val; omega
  · exact eq_ix3 _

theorem sum_apply (b : Fin 32) (y : Fin 256) (z : Fin 2048) :
    val_main_v17 (F := Ideal) x0 x1 x2 (ix3 b y z) = ∑ e : Fin 16, part x0 x1 x2 b e y z := by
  unfold val_main_v17
  simp only [Host.dotGeneral]
  let D := dot_S32x256x16x32_S16x32x32x2048_S32x256x2048_32_20_1_3_0_1
  have hr : D.contr.rank = 2 := rfl
  have c0 : D.contr.size ⟨0, by rw [hr]; omega⟩ = 32 := rfl
  have c1 : D.contr.size ⟨1, by rw [hr]; omega⟩ = 16 := rfl
  rw [Ideal.dotGeneral_apply, ← Equiv.sum_comp (contrEquiv2 D 32 16 hr c0 c1).symm, Fintype.sum_prod_type, Finset.sum_comm]
  refine Finset.sum_congr rfl fun e _ => Finset.sum_congr rfl fun s _ => ?_
  have h0 := contrEquiv2_symm_val0 D 32 16 hr c0 c1 (s, e)
  have h1 := contrEquiv2_symm_val1 D 32 16 hr c0 c1 (s, e)
  have el : D.lhsIdx (ix3 b y z) ((contrEquiv2 D 32 16 hr c0 c1).symm (s, e)) = ix4 b y e s := by
    funext a; apply Fin.ext
    match a with
    | ⟨0, _⟩ => rfl
    | ⟨1, _⟩ => rfl
    | ⟨2, _⟩ => exact h1
    | ⟨3, _⟩ => exact h0
  have er : D.rhsIdx (ix3 b y z) ((contrEquiv2 D 32 16 hr c0 c1).symm (s, e)) = ix4 e b s z := by
    funext a; apply Fin.ext
    match a with
    | ⟨0, _⟩ => exact h1
    | ⟨1, _⟩ => rfl
    | ⟨2, _⟩ => exact h0
    | ⟨3, _⟩ => rfl
  refine (congrArg₂ (fun u v : EReal => u * v) ((congrArg _ el).trans (onehot_apply x0 b y e s)) ((congrArg _ er).trans (gated_apply x1 x2 e b s z))).trans ?_
  show (if (x0 (ix3 b e s)).toNat = y.val then (1 : EReal) else 0) * ((x2 (ix3 e (slotOf b s) z) : EReal) * (x1 (ix3 b e s) : EReal)) = _
  split
  · rw [one_mul, mul_comm]
  · rw [zero_mul]

theorem mods_apply (b : Fin 32) (y : Fin 256) (z : Fin 2048) : val_main_v20 (F := Ideal) x4 (ix3 b y z) = x4 (ix3 (modOf b) 0 z) := by
  rw [val_main_v20_apply, val_main_v19_apply, val_main_v2_apply, val_main_v1_apply, val_main_v0_apply]
  refine congrArg x4 (funext fun a => Fin.ext ?_)
  match a with
  | ⟨0, _⟩ => show ((0 * 6 + (5 + 0)) * 2048 + z.val % 2048) / 2048 = 5; omega
  | ⟨1, _⟩ => rfl
  | ⟨2, _⟩ => show ((0 * 6 + (5 + 0)) * 2048 + z.val % 2048) % 2048 = z.val; omega

/-- Row `y` of block `b` of the result. -/
theorem result_apply (b : Fin 32) (y : Fin 256) (z : Fin 2048) :
    val_main_v23 (F := Ideal) x0 x1 x2 x3 x4 (ix2 (rowOf b y) z)
      = (x3 (ix2 (rowOf b y) z) : EReal) + (x4 (ix3 (modOf b) 0 z) : EReal) * ∑ e : Fin 16, part x0 x1 x2 b e y z := by
  rw [val_main_v23_apply]
  have hi : idx_main_v23 (ix2 (rowOf b y) z) = ix3 b y z := by
    funext a; apply Fin.ext
    match a with
    | ⟨0, _⟩ => show ((b.val * 256 + y.val) * 2048 + z.val) / 524288 = b.val; omega
    | ⟨1, _⟩ => show ((b.val * 256 + y.val) * 2048 + z.val) / 2048 % 256 = y.val; omega
    | ⟨2, _⟩ => show ((b.val * 256 + y.val) * 2048 + z.val) % 2048 = z.val; omega
  rw [hi, val_main_v22_apply, val_main_v18_apply, val_main_v21_apply, sum_apply, mods_apply]
  refine congrArg₂ (fun u v : EReal => u + v) (congrArg x3 (funext fun a => Fin.ext ?_)) rfl
  match a with
  | ⟨0, _⟩ => show ((b.val * 256 + y.val) * 2048 + z.val) / 2048 = b.val * 256 + y.val; omega
  | ⟨1, _⟩ => show ((b.val * 256 + y.val) * 2048 + z.val) % 2048 = z.val; omega

end Cert.Reference9Ideal.Combine

namespace Cert.Kernel9Ideal.Hand

open Cert.Kernel9Ideal Cert.Kernel9Ideal.Gen
open Cert.Reference9Ideal.Combine (slotOf rowOf modOf part)

/-! ### Where a point lies, and the precondition -/

/-- The block of rows, the column block and the expert of point `t`; a column of the block. -/
abbrev bOf (t : Fin cfg0.N) : Fin 32 := ⟨t.val / 16 / 1, by have := lt_N t; omega⟩
abbrev eOf (t : Fin cfg0.N) : Fin 16 := ⟨t.val % 16, by omega⟩
abbrev zOf (t : Fin cfg0.N) (x : Fin 2048) : Fin 2048 := ⟨t.val / 16 % 1 * 2048 + x.val, by omega⟩

theorem where_words : ∀ t : Fin cfg0.N,
    (win0_0.index t 0 = t.val / 16 / 1 * 16 + t.val % 16 ∧ win0_0.index t 1 = 0 ∧ win0_0.index t 2 = 0)
      ∧ (win0_1.index t 0 = t.val / 16 / 1 * 16 + t.val % 16 ∧ win0_1.index t 1 = 0 ∧ win0_1.index t 2 = 0) :=
  (by decide +kernel : ∀ t : Fin grid0.N, _)
theorem where_blocks : ∀ t : Fin cfg0.N,
    (win0_2.index t 0 = t.val % 16 ∧ win0_2.index t 1 = 0 + t.val / 16 / 1 ∧ win0_2.index t 2 = t.val / 16 % 1)
      ∧ (win0_3.index t 0 = t.val / 16 / 1 ∧ win0_3.index t 1 = t.val / 16 % 1)
      ∧ (win0_4.index t 0 = 5 ∧ win0_4.index t 1 = 0 ∧ win0_4.index t 2 = t.val / 16 % 1)
      ∧ (win0_5.index t 0 = t.val / 16 / 1 ∧ win0_5.index t 1 = t.val / 16 % 1) :=
  (by decide +kernel : ∀ t : Fin grid0.N, _)

section Words

variable {F : FTy → Type} [FloatOps F] (m : (ℓ : Loc nD τ sig) → Buf (Elt F) ℓ)

/-- The row numbers, the gates, the experts' rows, the residual rows and the modulations. -/
abbrev ROWS (c : Dev nD) : Buf (Elt F) ((c : Thread nD τ).loc main_arg0) := m ((c : Thread nD τ).loc main_arg0)
abbrev GATES (c : Dev nD) : Buf (Elt F) ((c : Thread nD τ).loc main_arg1) := m ((c : Thread nD τ).loc main_arg1)
abbrev YS (c : Dev nD) : Buf (Elt F) ((c : Thread nD τ).loc main_arg2) := m ((c : Thread nD τ).loc main_arg2)
abbrev XS (c : Dev nD) : Buf (Elt F) ((c : Thread nD τ).loc main_arg3) := m ((c : Thread nD τ).loc main_arg3)
abbrev MODS (c : Dev nD) : Buf (Elt F) ((c : Thread nD τ).loc main_arg4) := m ((c : Thread nD τ).loc main_arg4)

/-- A table of one entry a slot, as the launch passes it. -/
theorem reshaped {α : Type} (v : S32x16x32.Idx → α) (j : Fin 512) (r : Fin 32) :
    shapeCast S512x1x32 v shapeCasts_S32x16x32_S512x1x32 (ix3 j 0 r) = v (ix3 ⟨j.val / 16, by omega⟩ ⟨j.val % 16, by omega⟩ r) :=
  shapeCast_apply _ _ _ _ (by
    refine (Shape.rowMajor_val_three (ix3 (n0 := 32) (n1 := 16) (n2 := 32) _ _ _)).trans (Eq.trans ?_ (Shape.rowMajor_val_three (ix3 j 0 r)).symm)
    show (j.val / 16 * 16 + j.val % 16) * 32 + r.val = (j.val * 1 + 0) * 32 + r.val
    omega)

/-- The row number and the gate of slot `s` of a point's block. -/
theorem word_of (c : Dev nD) (t : Fin cfg0.N) (s : ℕ) :
    word (iblk m c 0 t) s = ROWS m c (ix3 (bOf t) (eOf t) ⟨s % 32, Nat.mod_lt _ (by decide)⟩) := by
  have ht := lt_N t
  obtain ⟨⟨a0, a1, a2⟩, -⟩ := where_words t
  refine Eq.trans ?_ ((reshaped (ROWS m c) ⟨t.val / 16 / 1 * 16 + t.val % 16, by omega⟩ ⟨s % 32, Nat.mod_lt _ (by decide)⟩).trans
    (congrArg₂ (fun x y => ROWS m c (ix3 x y _)) (Fin.ext ?_) (Fin.ext ?_)))
  · show V m c main_v0 ((win0_0.rect t).emb (slot s)) = V m c main_v0 _
    refine congrArg (V m c main_v0) ?_
    funext a; apply Fin.ext
    match a with
    | ⟨0, _⟩ => exact (win0_0.rect_emb_val t _ 0).trans (by rw [a0]; show (t.val / 16 / 1 * 16 + t.val % 16) * 1 + 0 = t.val / 16 / 1 * 16 + t.val % 16; omega)
    | ⟨1, _⟩ => exact win0_0.rect_emb_val_of_index_zero t 1 a1 _
    | ⟨2, _⟩ => exact win0_0.rect_emb_val_of_index_zero t 2 a2 _
  · show (t.val / 16 / 1 * 16 + t.val % 16) / 16 = t.val / 16 / 1; omega
  · show (t.val / 16 / 1 * 16 + t.val % 16) % 16 = t.val % 16; omega
theorem gate_of (c : Dev nD) (t : Fin cfg0.N) (s : ℕ) :
    gate (iblk m c 1 t) s = GATES m c (ix3 (bOf t) (eOf t) ⟨s % 32, Nat.mod_lt _ (by decide)⟩) := by
  have ht := lt_N t
  obtain ⟨-, a0, a1, a2⟩ := where_words t
  refine Eq.trans ?_ ((reshaped (GATES m c) ⟨t.val / 16 / 1 * 16 + t.val % 16, by omega⟩ ⟨s % 32, Nat.mod_lt _ (by decide)⟩).trans
    (congrArg₂ (fun x y => GATES m c (ix3 x y _)) (Fin.ext ?_) (Fin.ext ?_)))
  · show V m c main_v1 ((win0_1.rect t).emb (slot s)) = V m c main_v1 _
    refine congrArg (V m c main_v1) ?_
    funext a; apply Fin.ext
    match a with
    | ⟨0, _⟩ => exact (win0_1.rect_emb_val t _ 0).trans (by rw [a0]; show (t.val / 16 / 1 * 16 + t.val % 16) * 1 + 0 = t.val / 16 / 1 * 16 + t.val % 16; omega)
    | ⟨1, _⟩ => exact win0_1.rect_emb_val_of_index_zero t 1 a1 _
    | ⟨2, _⟩ => exact win0_1.rect_emb_val_of_index_zero t 2 a2 _
  · show (t.val / 16 / 1 * 16 + t.val % 16) / 16 = t.val / 16 / 1; omega
  · show (t.val / 16 / 1 * 16 + t.val % 16) % 16 = t.val % 16; omega

/-- What the printed precondition says of every row number. -/
theorem rows_of_pre (c : Dev nD)
    (h : Cert.Pre_tokens_in_range.fn (F := F) (ROWS m c) (GATES m c) (YS m c) (XS m c) (MODS m c) = fun _ => 1#1)
    (b : Fin 32) (e : Fin 16) (s : Fin 32) : (ROWS m c (ix3 b e s)).toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e' := congrFun h (ix3 b e s)
  simp only [Cert.Pre_tokens_in_range.fn, andi, cmpi, broadcastInDim, constantI, IntOp.cmpi, andi_ofBool, ofBool_eq_one, Bool.and_eq_true] at e'
  obtain ⟨h0, h1⟩ := e'
  generalize hx : ROWS m c (ix3 b e s) = x at *
  simp only [BitVec.sle, BitVec.slt, decide_eq_true_eq, BitVec.toInt, BitVec.toNat_ofNat] at h0 h1
  omega

/-- So every row number a point finds is inside its block. -/
theorem inRange_of_pre (h : ∀ c, Cert.Pre_tokens_in_range.fn (F := F) (ROWS m c) (GATES m c) (YS m c) (XS m c) (MODS m c) = fun _ => 1#1) : InRange m := by
  intro c t r
  rw [word_of]
  exact rows_of_pre m c (h c) _ _ _

end Words

/-! ### The payloads -/

theorem pay1_apply (y : S256x2048.Idx) : (k0_pay1 (F := Ideal) y : EReal) = 0 := Ideal.ofBits_zero_f32

theorem pay4_apply (x a : Vec Ideal S256x2048 .f32) (g : Vec Ideal S1x1x2048 .f32) (y : Fin 256) (z : Fin 2048) :
    k0_pay4 (F := Ideal) x g a (ix2 y z) = (x (ix2 y z) : EReal) + (g (ix3 0 0 z) : EReal) * (a (ix2 y z) : EReal) := by
  show (x (ix2 y z) : EReal) + (broadcastTo S256x2048 (shapeCast S1x2048 g shapeCasts_S1x1x2048_S1x2048) broadcasts_S1x2048_S256x2048 (ix2 y z) : EReal)
    * (shapeCast S256x2048 a shapeCasts_S256x2048_S256x2048 (ix2 y z) : EReal) = _
  rw [shapeCast_self, broadcastTo_apply _ broadcasts_S1x2048_S256x2048 (ix2 y z) (ix2 0 z) (by intro a; match a with | ⟨0, _⟩ => rfl | ⟨1, _⟩ => rfl),
    shapeCast_apply g shapeCasts_S1x1x2048_S1x2048 (ix2 0 z) (ix3 0 0 z) (by
      rw [Shape.rowMajor_val_three, Shape.rowMajor_val_two]
      show (0 * 1 + 0) * 2048 + z.val = 0 * 2048 + z.val
      omega)]

/-- The expert's row at slot `s`. -/
theorem yrow_apply (d5 : Vec Ideal S1x32x2048 .bf16) (s : ℕ) (hs : s < 32) (z : Fin 2048) :
    (yrow d5 s (ix2 0 z) : EReal) = d5 (ix3 0 ⟨s, hs⟩ z) := by
  unfold yrow
  refine (extractStridedSlice_apply ![s % 16, 0] _ _ (ix2 0 z) (ix2 (⟨s % 16, by omega⟩ : Fin 16) z) (fun a => match a with
    | ⟨0, _⟩ => by show s % 16 = s % 16 + 0; omega
    | ⟨1, _⟩ => by show z.val = 0 + z.val; omega)).trans ?_
  show shapeCast S16x2048 (rows d5 (s / 16)) shapeCasts_S1x16x2048_S16x2048 (ix2 (⟨s % 16, by omega⟩ : Fin 16) z) = _
  refine (shapeCast_apply (rows d5 (s / 16)) shapeCasts_S1x16x2048_S16x2048 (ix2 (⟨s % 16, by omega⟩ : Fin 16) z) (ix3 0 (⟨s % 16, by omega⟩ : Fin 16) z) (by
    rw [Shape.rowMajor_val_three, Shape.rowMajor_val_two]
    show (0 * 16 + s % 16) * 2048 + z.val = s % 16 * 2048 + z.val
    omega)).trans ?_
  refine congrArg d5 (funext fun a => Fin.ext ?_)
  match a with
  | ⟨0, _⟩ => rfl
  | ⟨1, _⟩ => show (16 * (s / 16) + s % 16) % 32 = s; omega
  | ⟨2, _⟩ => rfl

/-- The block of rows after the first `n` slots of a block. -/
theorem fold_apply (d3 : Vec Ideal S1x1x32 .i32) (d4 : Vec Ideal S1x1x32 .f32) (d5 : Vec Ideal S1x32x2048 .bf16) (X : Vec Ideal S256x2048 .f32)
    (y : Fin 256) (z : Fin 2048) : ∀ n : ℕ, (fold (F := Ideal) d3 d4 d5 X n (ix2 y z) : EReal)
      = (X (ix2 y z) : EReal) + ∑ s ∈ Finset.range n, if (word d3 s).toNat = y.val then (gate d4 s : EReal) * (yrow d5 s (ix2 0 z) : EReal) else 0
  | 0 => by rw [Finset.sum_range_zero, add_zero]; rfl
  | n + 1 => by
    rw [Finset.sum_range_succ, ← add_assoc, ← fold_apply d3 d4 d5 X y z n]
    show addRow (word d3 n) (fun row => plus row (gate d4 n) (yrow d5 n)) (fold d3 d4 d5 X n) (ix2 y z) = _
    unfold addRow
    by_cases h : (word d3 n).toNat = y.val
    · rw [if_pos (show ((ix2 y z : S256x2048.Idx) 0).val = (word d3 n).toNat from h.symm), if_pos h]
      have hc : col (ix2 y z) = ix2 0 z := eq_ix2 _
      have hx : cell (word d3 n).toNat (ix2 0 z) = ix2 y z := by
        funext a; apply Fin.ext
        match a with
        | ⟨0, _⟩ => show (word d3 n).toNat % 256 = y.val; omega
        | ⟨1, _⟩ => rfl
      rw [hc]
      show (shapeCast S1x2048 (fun x => fold d3 d4 d5 X n (cell (word d3 n).toNat x)) shapeCasts_S1x2048_S1x2048 (ix2 0 z) : EReal) + _ = _
      rw [shapeCast_self, hx]
      rfl
    · rw [if_neg (show ¬ ((ix2 y z : S256x2048.Idx) 0).val = (word d3 n).toNat from fun e => h e.symm), if_neg h, add_zero]

variable (m : (ℓ : Loc nD τ sig) → Buf (Elt Ideal) ℓ) (ρ : Dev nD → PrngReg)

/-- The reference's result, of the kernel's own arguments. -/
abbrev goal (c : Dev nD) : Buf (Elt Ideal) ((c : Thread nD τ).loc main_v2) :=
  Cert.Reference9Ideal.Read.val_main_v23 (F := Ideal) (ROWS m c) (GATES m c) (YS m c) (XS m c) (MODS m c)

/-! ### What a point reads -/

theorem ys_at (c : Dev nD) (t : Fin cfg0.N) (s : Fin 32) (z : Fin 2048) :
    iblk m c 2 t (ix3 0 s z) = YS m c (ix3 (eOf t) (slotOf (bOf t) s) (zOf t z)) := by
  obtain ⟨⟨a0, a1, a2⟩, -⟩ := where_blocks t
  show V m c main_arg2 ((win0_2.rect t).emb (ix3 0 s z)) = _
  rw [V_main_arg2]
  refine congrArg (YS m c) ?_
  funext a; apply Fin.ext
  match a with
  | ⟨0, _⟩ => exact (win0_2.rect_emb_val t _ 0).trans (by rw [a0]; show t.val % 16 * 1 + 0 = t.val % 16; omega)
  | ⟨1, _⟩ => exact (win0_2.rect_emb_val t _ 1).trans (by rw [a1]; rfl)
  | ⟨2, _⟩ => exact (win0_2.rect_emb_val t _ 2).trans (by rw [a2]; rfl)

theorem xs_at (c : Dev nD) (t : Fin cfg0.N) (y : Fin 256) (z : Fin 2048) :
    iblk m c 3 t (ix2 y z) = XS m c (ix2 (rowOf (bOf t) y) (zOf t z)) := by
  obtain ⟨-, ⟨a0, a1⟩, -⟩ := where_blocks t
  show V m c main_arg3 ((win0_3.rect t).emb (ix2 y z)) = _
  rw [V_main_arg3]
  refine congrArg (XS m c) ?_
  funext a; apply Fin.ext
  match a with
  | ⟨0, _⟩ => exact (win0_3.rect_emb_val t _ 0).trans (by rw [a0]; rfl)
  | ⟨1, _⟩ => exact (win0_3.rect_emb_val t _ 1).trans (by rw [a1]; rfl)

theorem mods_at (c : Dev nD) (t : Fin cfg0.N) (z : Fin 2048) :
    iblk m c 4 t (ix3 0 0 z) = MODS m c (ix3 (modOf (bOf t)) 0 (zOf t z)) := by
  obtain ⟨-, -, ⟨a0, a1, a2⟩, -⟩ := where_blocks t
  show V m c main_arg4 ((win0_4.rect t).emb (ix3 0 0 z)) = _
  rw [V_main_arg4]
  refine congrArg (MODS m c) ?_
  funext a; apply Fin.ext
  match a with
  | ⟨0, _⟩ => exact (win0_4.rect_emb_val t _ 0).trans (by rw [a0]; show (5) * 1 + 0 = 5; omega)
  | ⟨1, _⟩ => exact win0_4.rect_emb_val_of_index_zero t 1 a1 _
  | ⟨2, _⟩ => exact (win0_4.rect_emb_val t _ 2).trans (by rw [a2]; rfl)

/-! ### What a point computes -/

/-- What an expert adds to a row of a point's block. -/
abbrev share (c : Dev nD) (b : Fin 32) (y : Fin 256) (z : Fin 2048) (e : Fin 16) : EReal := part (ROWS m c) (GATES m c) (YS m c) b e y z

theorem addAt_apply (c : Dev nD) (t : Fin cfg0.N) (X : Vec Ideal S256x2048 .f32) (y : Fin 256) (z : Fin 2048) :
    (addAt m c t X (ix2 y z) : EReal) = (X (ix2 y z) : EReal) + share m c (bOf t) y (zOf t z) (eOf t) := by
  refine (fold_apply _ _ _ X y z 32).trans (congrArg (fun v : EReal => (X (ix2 y z) : EReal) + v) ?_)
  rw [Finset.sum_range]
  refine Finset.sum_congr rfl fun s _ => ?_
  rw [word_of, gate_of, yrow_apply _ s.val s.isLt, ys_at]
  have hs : (⟨s.val % 32, Nat.mod_lt _ (by decide)⟩ : Fin 32) = s := Fin.ext (by show s.val % 32 = s.val; omega)
  rw [hs]

/-- After a point: what the experts so far have added. -/
theorem acc_apply (c : Dev nD) : ∀ (n : ℕ) (t : Fin cfg0.N), t.val % 16 = n → ∀ (y : Fin 256) (z : Fin 2048),
    (acc m c t.val t.isLt (ix2 y z) : EReal) = ∑ e ∈ Finset.univ.filter (fun e : Fin 16 => e.val ≤ n), share m c (bOf t) y (zOf t z) e := by
  intro n
  induction n with
  | zero =>
    intro t h y z
    rw [acc_first m c t h, addAt_apply, pay1_apply, zero_add]
    rw [show eOf t = 0 from Fin.ext h, show (Finset.univ.filter fun e : Fin 16 => e.val ≤ 0) = {0} by decide, Finset.sum_singleton]
  | succ n ih =>
    intro t h y z
    have hl : t.val - 1 < cfg0.N := Nat.lt_of_le_of_lt (Nat.sub_le _ _) t.isLt
    have i := ih ⟨t.val - 1, hl⟩ (by show (t.val - 1) % 16 = n; omega) y z
    rw [show bOf ⟨t.val - 1, hl⟩ = bOf t from Fin.ext (by show (t.val - 1) / 16 / 1 = t.val / 16 / 1; omega),
      show zOf ⟨t.val - 1, hl⟩ z = zOf t z from Fin.ext (by show (t.val - 1) / 16 % 1 * 2048 + z.val = t.val / 16 % 1 * 2048 + z.val; omega)] at i
    rw [acc_later m c t (by omega), addAt_apply]
    refine (congrArg (fun v : EReal => v + share m c (bOf t) y (zOf t z) (eOf t)) i).trans ?_
    have hn : n + 1 < 16 := by omega
    have he : eOf t = ⟨n + 1, hn⟩ := Fin.ext h
    have hset : (Finset.univ.filter fun e : Fin 16 => e.val ≤ n + 1) = insert (⟨n + 1, hn⟩ : Fin 16) (Finset.univ.filter fun e : Fin 16 => e.val ≤ n) := by
      ext e; simp only [Finset.mem_filter, Finset.mem_univ, true_and, Finset.mem_insert, Fin.ext_iff]; omega
    rw [he, hset, Finset.sum_insert (by simp), add_comm]

/-! ### The blocks a point writes -/

theorem flushed_eq (c : Dev nD) (t : Fin cfg0.N) (hf : (cfg0.win 5).flush t = true) :
    (dats m 0 c).flushed 5 t = ((cfg0.win 5).blk t).view.read (Elt Ideal) (goal m c) := by
  have h : t.val % 16 = 15 := (flush0_5 t).mp hf
  show (cfg0.win 5).cut (grid0.coords t) ((dats m 0 c).after 5 t) = _
  rw [after0_5_last m c t h]
  obtain ⟨-, -, -, a0, a1⟩ := where_blocks t
  funext (i : S256x2048.Idx)
  obtain ⟨y, z, rfl⟩ : ∃ y z, i = ix2 y z := ⟨i 0, i 1, eq_ix2 i⟩
  show k0_pay4 (iblk m c 3 t) (iblk m c 4 t) (acc m c t.val t.isLt) (ix2 y z) = goal m c ((win0_5.rect t).emb (ix2 y z))
  have he : (win0_5.rect t).emb (ix2 y z) = ix2 (rowOf (bOf t) y) (zOf t z) := by
    funext a; apply Fin.ext
    match a with
    | ⟨0, _⟩ => exact (win0_5.rect_emb_val t _ 0).trans (by rw [a0]; rfl)
    | ⟨1, _⟩ => exact (win0_5.rect_emb_val t _ 1).trans (by rw [a1]; rfl)
  rw [he]
  refine (pay4_apply _ _ _ y z).trans (Eq.trans ?_ (Cert.Reference9Ideal.Combine.result_apply (ROWS m c) (GATES m c) (YS m c) (XS m c) (MODS m c) (bOf t) y (zOf t z)).symm)
  rw [acc_apply m c 15 t h y z, xs_at, mods_at, show (Finset.univ.filter fun e : Fin 16 => e.val ≤ 15) = Finset.univ by decide]

theorem mem_block (t : Fin cfg0.N) (i : S8192x2048.Idx) :
    i ∈ ((cfg0.win 5).blk t).view.set ↔ ∀ a, win0_5.index t a * win0_5.size a ≤ i a ∧ (i a : Nat) < win0_5.index t a * win0_5.size a + win0_5.size a := by
  show i ∈ ((View.whole main_v2).slice (win0_5.rect t)).set ↔ _
  rw [View.set_slice_whole, Rect.mem_set_unit]

theorem cover (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 512 := N_0
  refine ⟨⟨((i 0 : Nat) / 256 * 1 + (i 1 : Nat) / 2048) * 16 + 15, by omega⟩, (flush0_5 _).mpr (by dsimp only; omega), ?_⟩
  obtain ⟨-, -, -, a0, a1⟩ := where_blocks ⟨((i 0 : Nat) / 256 * 1 + (i 1 : Nat) / 2048) * 16 + 15, by omega⟩
  rw [mem_block]
  intro a
  match a with
  | ⟨0, _⟩ => show win0_5.index _ 0 * 256 ≤ (i 0 : Nat) ∧ (i 0 : Nat) < win0_5.index _ 0 * 256 + 256
              rw [a0]; dsimp only; omega
  | ⟨1, _⟩ => show win0_5.index _ 1 * 2048 ≤ (i 1 : Nat) ∧ (i 1 : Nat) < win0_5.index _ 1 * 2048 + 2048
              rw [a1]; dsimp only; omega

theorem final (c : Dev nD) : (dats m 0 c).arrAt 5 cfg0.N = goal m c :=
  (dats m 0 c).arrAt_eq_of_cover 5 (goal m c) (fun t hf => flushed_eq m c t hf) cover

end Cert.Kernel9Ideal.Hand

namespace Cert.Proof

/-! ### The claims -/

section Same

variable {F : FTy → Type} [FloatOps F]

/-- The kernel as it is and the kernel at exact values are one program: the body table, and the launches over it. -/
theorem bodies9 : Cert.Kernel9.defs₀ (F := F) = Cert.Kernel9Ideal.defs₀ (F := F) := by
  refine congrArg Defs.onTc ?_
  funext l x
  match l, x with
  | 0, (t, s) => rfl
  | ⟨n + 1, h⟩, _ => exact absurd h (Nat.not_lt.2 (Nat.le_add_left _ _))
theorem table9 : Cert.Kernel9.defs (F := F) = Cert.Kernel9Ideal.defs (F := F) :=
  congrArg (Pipeline.defs (Cert.Kernel9Ideal.pcfgs (F := F))) bodies9

end Same

theorem frame9 : Cert.quiescent_Kernel9 := fun m ρ h => by
  rw [table9]
  exact Cert.Kernel9Ideal.Hand.frame (F := Bits) m ρ (Cert.Kernel9Ideal.Hand.inRange_of_pre m h)

theorem frame9Ideal : Cert.quiescent_Kernel9Ideal := fun m ρ h =>
  Cert.Kernel9Ideal.Hand.frame m ρ (Cert.Kernel9Ideal.Hand.inRange_of_pre m h)

open Cert.Kernel9Ideal Cert.Kernel9Ideal.Gen Cert.Kernel9Ideal.Hand in
theorem algebraic9 : Cert.algebraic_Kernel9Ideal_Reference9Ideal := fun m g m' g' hpre hagree =>
  ⟨fun c => Cert.Kernel9Ideal.Hand.goal m c,
    (θ_run _ _ _).mono (fun r h c => ⟨((h.1 c).1 5).trans (Cert.Kernel9Ideal.Hand.final m c), ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).1 2).trans (((dats m 0 c).arrAt_in 2 rfl _).trans ((A_eq m c 2).trans (V_main_arg2 m c))),
        ((h.1 c).1 3).trans (((dats m 0 c).arrAt_in 3 rfl _).trans ((A_eq m c 3).trans (V_main_arg3 m c))),
        ((h.1 c).1 4).trans (((dats m 0 c).arrAt_in 4 rfl _).trans ((A_eq m c 4).trans (V_main_arg4 m c)))⟩)
      (Cert.Kernel9Ideal.Hand.run_main_quiescent m g (Cert.Kernel9Ideal.Hand.inRange_of_pre m hpre)),
    (θ_run _ _ _).mono (fun r h c => ⟨(h c).1.trans (by
          rw [Cert.Reference9Ideal.Read.val_main_v23_eq, (hagree c).1, (hagree c).2.1, (hagree c).2.2.1, (hagree c).2.2.2.1, (hagree c).2.2.2.2]), (h c).2⟩)
      (Cert.Reference9Ideal.Value.run m' g')⟩

end Cert.Proof
-- ==== Proof.CombineSampleIdealFrame.lean ====
module

public import proofs.«01_k».proof.Proof.Gen.Kernel10Ideal.Skeleton
public import proofs.«01_k».proof.Proof.Gen.Kernel10Ideal.Points
public import proofs.«01_k».proof.Proof.Gen.Kernel10Ideal.Launch
public import proofs.«01_k».proof.Proof.Gen.Kernel10Ideal.Frame
public import Idealize.ShloMosaic.Lib.WordCmp
public import Idealize.ShloMosaic.Lib.Exec
public import Idealize.ShloMosaic.Lib.WordArith.Masks
public import Idealize.ShloMosaic.Lib.WritesUnit
public import Idealize.ShloMosaic.Lib.Claim
public import Idealize.ShloMosaic.Lib.VecWindow
public import Idealize.ShloMosaic.Lib.Tactic

@[expose] public section

noncomputable section

namespace Cert.Kernel10Ideal.Hand

open Cert.Kernel10Ideal Cert.Kernel10Ideal.Gen
open Idealize.ShloMosaic Idealize.ShloMosaic.TcCoe Idealize.ShloMosaic.Tactic
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Pipeline (Dat Cfg Window BodyObligation)

variable {F : FTy → Type} [FloatOps F]

abbrev MM (F : FTy → Type) [FloatOps F] : Type _ := MT nD τ sig Unit (Elt F) ℕ (UR sig nD τ) ℕ

theorem trips1 : k0_t1_loop.trips = 32 := by decide +kernel

/-! ## One row added to the block of rows -/

/-- Slot `r` of a block of one word per slot. -/
def slot (r : ℕ) : S1x1x512.Idx := fun a => match a with
  | ⟨0, _⟩ => ⟨0, Nat.one_pos⟩ | ⟨1, _⟩ => ⟨0, Nat.one_pos⟩ | ⟨2, _⟩ => ⟨r % 512, Nat.mod_lt _ (by decide)⟩

theorem slot_eq (y : S1x1x512.Idx) : y = slot (y 2).val := by
  have h0 : (y 0).val < 1 := (y 0).isLt
  have h1 : (y 1).val < 1 := (y 1).isLt
  have h2 : (y 2).val < 512 := (y 2).isLt
  funext a; apply Fin.ext; fin_cases a
  · show (y 0).val = 0; omega
  · show (y 1).val = 0; omega
  · show (y 2).val = (y 2).val % 512; omega

/-- The row number at slot `r`, and the gate there. -/
abbrev word (d : Vec F S1x1x512 .i32) (r : ℕ) : BitVec 32 := d (slot r)
abbrev gate (d : Vec F S1x1x512 .f32) (r : ℕ) : Elt F .f32 := d (slot r)

theorem chk_of_lt (w : BitVec 32) (h : w.toNat < 4096) : k0_chk1 w := by
  intro a; fin_cases a
  · show w.toNat + 1 ≤ 4096; omega
  · show 0 + 1024 ≤ 1024; omega

theorem readAt_slot {e : EltTy} (v : View sig .tc .smem S1x1x512 e) (f : v.ty.Contents (Elt F)) (off : Fin 3 → ℕ) (r : ℕ) (h : r < 512)
    (e : off = ![0, 0, r]) (hb : ∀ a, off a + S1x1x1.size a ≤ S1x1x512.size a) (hn : 0 < S1x1x1.numel) :
    View.readAt (Elt F) v (Rect.unit (s := S1x1x512) off S1x1x1.size hb).toLoadRect f (Shape.Idx.first hn) = v.read (Elt F) f (slot r) := by
  subst e
  rw [View.readAt_apply]
  refine congrArg _ (funext fun a => Fin.ext ?_)
  fin_cases a
  · rfl
  · rfl
  · show r + 1 * 0 = r % 512; omega

theorem readAt_lt {arg3 : Memref sig .tc .smem S1x1x512 .i32} (harg3 : arg3.IsWhole) {d3 : Vec F S1x1x512 .i32}
    (hr : ∀ r, (word d3 r).toNat < 4096) (off : Fin 3 → ℕ) (hb : ∀ a, off a + S1x1x1.size a ≤ S1x1x512.size a) (hn : 0 < S1x1x1.numel) :
    BitVec.toNat (w := 32) (View.readAt (Elt F) arg3.view (Rect.unit (s := S1x1x512) off S1x1x1.size hb).toLoadRect (harg3.unread d3) (Shape.Idx.first hn)) < 4096 := by
  rw [View.readAt_apply, harg3.read_unread]
  exact lt_of_eq_of_lt (congrArg (fun y => BitVec.toNat (w := 32) (d3 y)) (slot_eq _)) (hr _)

/-- Column `x` of row `r` of the block of rows; the column of an element of the block. -/
def cell (r : ℕ) (x : S1x1024.Idx) : S4096x1024.Idx := fun a => match a with
  | ⟨0, _⟩ => ⟨r % 4096, Nat.mod_lt _ (by decide)⟩ | ⟨1, _⟩ => ⟨(x 1).val, (x 1).isLt⟩
def col (y : S4096x1024.Idx) : S1x1024.Idx := fun a => match a with
  | ⟨0, _⟩ => ⟨0, Nat.one_pos⟩ | ⟨1, _⟩ => ⟨(y 1).val, (y 1).isLt⟩

/-- The block of rows with the row named by `w` replaced by `p` of it. -/
def addRow (w : BitVec 32) (p : Vec F S1x1024 .f32 → Vec F S1x1024 .f32) (X : Vec F S4096x1024 .f32) : Vec F S4096x1024 .f32 := fun y =>
  if (y 0).val = w.toNat then p (fun x => X (cell w.toNat x)) (col y) else X y

theorem read_row (v : View sig .tc .vmem S4096x1024 .f32) (f : v.ty.Contents (Elt F)) (L : List (View.Piece (Elt F) S4096x1024 .f32))
    (w : BitVec 32) (hw : w.toNat < 4096) (off : Fin 2 → ℕ) (e : off = ![w.toNat, 0])
    (hb : ∀ a, off a + S1x1024.size a ≤ S4096x1024.size a) (p : Vec F S1x1024 .f32 → Vec F S1x1024 .f32) :
    v.read (Elt F) (v.writes (Elt F) f (⟨Rect.unit (s := S4096x1024) off S1x1024.size hb,
        p (View.readAt (Elt F) v (Rect.unit (s := S4096x1024) off S1x1024.size hb).toLoadRect (v.writes (Elt F) f L))⟩ :: L))
      = addRow w p (v.read (Elt F) (v.writes (Elt F) f L)) := by
  subst e
  have hrow : View.readAt (Elt F) v (Rect.unit (s := S4096x1024) ![w.toNat, 0] S1x1024.size hb).toLoadRect (v.writes (Elt F) f L)
      = fun x => v.read (Elt F) (v.writes (Elt F) f L) (cell w.toNat x) := by
    funext x
    rw [View.readAt_apply]
    refine congrArg _ (funext fun a => Fin.ext ?_)
    have h0 : (x 0).val < 1 := (x 0).isLt
    fin_cases a
    · show w.toNat + 1 * (x 0).val = w.toNat % 4096; omega
    · show 0 + 1 * (x 1).val = (x 1).val; omega
  rw [hrow]
  funext y
  unfold addRow
  by_cases h : (y 0).val = w.toNat
  · rw [if_pos h]
    exact View.read_writes_cons_rows_of_mem v f hb _ L y (col y) rfl (by show (y 0).val = w.toNat + 0; omega) rfl
  · rw [if_neg h]
    exact View.read_writes_cons_rows_of_not_mem v f (W := 1) hb _ L y rfl rfl (by omega)

/-! ## The slots of a block, one after another -/

theorem slices (q : ℕ) (h : q < 16) : S16x1024.Slices ![q, 0] S1x1024 :=
  ⟨rfl, fun a => by
    fin_cases a
    · show q + 1 ≤ 16; omega
    · show 0 + 1024 ≤ 1024; omega⟩

/-- A row with a gated row added. -/
abbrev plus (row : Vec F S1x1024 .f32) (g : Elt F .f32) (y : Vec F S1x1024 .f32) : Vec F S1x1024 .f32 :=
  addf (shapeCast S1x1024 row shapeCasts_S1x1024_S1x1024) (mulf (broadcast S1x1024 g) y)

/-- Sixteen rows of a block of expert rows. -/
def rows (d5 : Vec F S1x512x1024 .bf16) (k : ℕ) : Vec F S1x16x1024 .bf16 := fun x => d5 (fun a => match a with
  | ⟨0, _⟩ => ⟨0, Nat.one_pos⟩ | ⟨1, _⟩ => ⟨(16 * k + (x 1).val) % 512, Nat.mod_lt _ (by decide)⟩ | ⟨2, _⟩ => ⟨(x 2).val, (x 2).isLt⟩)
/-- The expert's row at slot `s`, widened. -/
def yrow (d5 : Vec F S1x512x1024 .bf16) (s : ℕ) : Vec F S1x1024 .f32 :=
  extractStridedSlice S1x1024 ![s % 16, 0] (k0_pay5 (rows d5 (s / 16))) (slices _ (Nat.mod_lt _ (by decide)))

theorem yrow_eq (d5 : Vec F S1x512x1024 .bf16) (k q : ℕ) (hq : q < 16) (sl : S16x1024.Slices ![q, 0] S1x1024) (v : Vec F S1x16x1024 .bf16)
    (h : v = rows d5 k) : extractStridedSlice S1x1024 ![q, 0] (k0_pay5 v) sl = yrow d5 (16 * k + q) := by
  subst h
  have H : ∀ (a b : ℕ) (_ : a = q) (_ : b = k) (sl' : S16x1024.Slices ![a, 0] S1x1024),
      extractStridedSlice S1x1024 ![q, 0] (k0_pay5 (rows d5 k)) sl = extractStridedSlice S1x1024 ![a, 0] (k0_pay5 (rows d5 b)) sl' := by
    rintro a b rfl rfl _; rfl
  exact H _ _ (by omega) (by omega) _

/-- The block of rows after the first `n` slots of a block, from `X`. -/
def fold (d3 : Vec F S1x1x512 .i32) (d4 : Vec F S1x1x512 .f32) (d5 : Vec F S1x512x1024 .bf16) (X : Vec F S4096x1024 .f32) : ℕ → Vec F S4096x1024 .f32
  | 0 => X
  | n + 1 => addRow (word d3 n) (fun row => plus row (gate d4 n) (yrow d5 n)) (fold d3 d4 d5 X n)

theorem read_step (d3 : Vec F S1x1x512 .i32) (d4 : Vec F S1x1x512 .f32) (d5 : Vec F S1x512x1024 .bf16) (X : Vec F S4096x1024 .f32) (s : ℕ)
    (hr : ∀ r, (word d3 r).toNat < 4096)
    (v : View sig .tc .vmem S4096x1024 .f32) (f : v.ty.Contents (Elt F)) (L : List (View.Piece (Elt F) S4096x1024 .f32))
    (off : Fin 2 → ℕ) (e : off = ![(word d3 s).toNat, 0]) (hb : ∀ a, off a + S1x1024.size a ≤ S4096x1024.size a)
    (g : Elt F .f32) (eg : g = gate d4 s) (y : Vec F S1x1024 .f32) (ey : y = yrow d5 s)
    (hL : v.read (Elt F) (v.writes (Elt F) f L) = fold d3 d4 d5 X s) :
    v.read (Elt F) (v.writes (Elt F) f (⟨Rect.unit (s := S4096x1024) off S1x1024.size hb,
        plus (View.readAt (Elt F) v (Rect.unit (s := S4096x1024) off S1x1024.size hb).toLoadRect (v.writes (Elt F) f L)) g y⟩ :: L))
      = fold d3 d4 d5 X (s + 1) := by
  subst eg ey
  refine (read_row v f L (word d3 s) (hr s) off e hb (fun row => plus row (gate d4 s) (yrow d5 s))).trans ?_
  rw [hL]; rfl

section Runs

variable (c : Dev nD) (i : grid0.Coords) (arg3 : Memref sig .tc .smem S1x1x512 .i32) (harg3 : arg3.IsWhole)
  (arg4 : Memref sig .tc .smem S1x1x512 .f32) (harg4 : arg4.IsWhole)
  (arg5 : Memref sig .tc .vmem S1x512x1024 .bf16) (harg5 : arg5.IsWhole)
  (arg6 : Memref sig .tc .vmem S4096x1024 .f32) (harg6 : arg6.IsWhole)
  (arg7 : Memref sig .tc .vmem S1x1x1024 .f32) (harg7 : arg7.IsWhole)
  (arg8 : Memref sig .tc .vmem S4096x1024 .f32) (harg8 : arg8.IsWhole)
  (d3 : Vec F S1x1x512 .i32) (d4 : Vec F S1x1x512 .f32) (d5 : Vec F S1x512x1024 .bf16)

theorem word_at (off : Fin 3 → ℕ) (r : ℕ) (h : r < 512) (e : off = ![0, 0, r]) (hb : ∀ a, off a + S1x1x1.size a ≤ S1x1x512.size a) (hn : 0 < S1x1x1.numel) :
    View.readAt (Elt F) arg3.view (Rect.unit (s := S1x1x512) off S1x1x1.size hb).toLoadRect (harg3.unread d3) (Shape.Idx.first hn) = word d3 r :=
  (readAt_slot arg3.view _ off r h e hb hn).trans (by rw [harg3.read_unread])
theorem row_at (off : Fin 3 → ℕ) (r : ℕ) (h : r < 512) (e : off = ![0, 0, r]) (hb : ∀ a, off a + S1x1x1.size a ≤ S1x1x512.size a) (hn : 0 < S1x1x1.numel) :
    (![BitVec.toNat (w := 32) (View.readAt (Elt F) arg3.view (Rect.unit (s := S1x1x512) off S1x1x1.size hb).toLoadRect (harg3.unread d3) (Shape.Idx.first hn)), 0] : Fin 2 → ℕ)
      = ![(word d3 r).toNat, 0] := by rw [word_at arg3 harg3 d3 off r h e hb hn]
theorem gate_at (off : Fin 3 → ℕ) (r : ℕ) (h : r < 512) (e : off = ![0, 0, r]) (hb : ∀ a, off a + S1x1x1.size a ≤ S1x1x512.size a) (hn : 0 < S1x1x1.numel) :
    View.readAt (Elt F) arg4.view (Rect.unit (s := S1x1x512) off S1x1x1.size hb).toLoadRect (harg4.unread d4) (Shape.Idx.first hn) = gate d4 r :=
  (readAt_slot arg4.view _ off r h e hb hn).trans (by rw [harg4.read_unread])
theorem rows_at (k : Fin k0_t1_loop.trips) (hb : ∀ a, k0_off1 k a + S1x16x1024.size a ≤ S1x512x1024.size a) :
    View.readAt (Elt F) arg5.view (Rect.unit (s := S1x512x1024) (k0_off1 k) S1x16x1024.size hb).toLoadRect (harg5.unread d5) = rows d5 k.val := by
  have hk : k.val < 32 := lt_of_lt_of_eq k.isLt trips1
  funext x
  rw [View.readAt_apply, harg5.read_unread]
  refine congrArg _ (funext fun a => Fin.ext ?_)
  have h0 : (x 0).val < 1 := (x 0).isLt
  have h1 : (x 1).val < 16 := (x 1).isLt
  have e : ∀ a, k0_off1 k a = (![0, 16 * k.val, 0] : Fin 3 → ℕ) a := fun a => congrFun (k0_off1_eq k) a
  fin_cases a
  · show k0_off1 k 0 + 1 * (x 0).val = 0
    rw [e 0]; show 0 + 1 * (x 0).val = 0; omega
  · show k0_off1 k 1 + 1 * (x 1).val = (16 * k.val + (x 1).val) % 512
    rw [e 1]; show 16 * k.val + 1 * (x 1).val = _; omega
  · show k0_off1 k 2 + 1 * (x 2).val = (x 2).val
    rw [e 2]; show 0 + 1 * (x 2).val = _; omega

/-- Where the row of the word at `off` lies. -/
abbrev rowOff (off : Fin 3 → ℕ) (hb : ∀ a, off a + S1x1x1.size a ≤ S1x1x512.size a) (hn : 0 < S1x1x1.numel) : Fin 2 → ℕ :=
  ![BitVec.toNat (w := 32) (View.readAt (Elt F) arg3.view (Rect.unit (s := S1x1x512) off S1x1x1.size hb).toLoadRect (harg3.unread d3) (Shape.Idx.first hn)), 0]

/-- A trip's slot `q` added: its word, its gate and its row read where they lie. -/
theorem step (hr : ∀ r, (word d3 r).toNat < 4096) (X : Vec F S4096x1024 .f32) (k : Fin k0_t1_loop.trips) (f8 : arg8.view.ty.Contents (Elt F))
    (v : Vec F S1x16x1024 .bf16) (ev : v = rows d5 k.val) (q : ℕ) (hq : q < 16) (o g : Fin k0_t1_loop.trips → Fin 3 → ℕ)
    (eo : ∀ k, o k = ![0, 0, 16 * k.val + q]) (eg : ∀ k, g k = ![0, 0, 16 * k.val + q]) {L : List (View.Piece (Elt F) S4096x1024 .f32)} {hb hn hb' hg hn' sl}
    (hL : arg8.view.read (Elt F) (arg8.view.writes (Elt F) f8 L) = fold d3 d4 d5 X (16 * k.val + q)) :
    arg8.view.read (Elt F) (arg8.view.writes (Elt F) f8 (⟨Rect.unit (s := S4096x1024)
        (rowOff arg3 harg3 d3 (o k) hb hn) S1x1024.size hb', plus (View.readAt (Elt F) arg8.view (Rect.unit (s := S4096x1024) (rowOff arg3 harg3 d3 (o k) hb hn) S1x1024.size hb').toLoadRect (arg8.view.writes (Elt F) f8 L))
          (View.readAt (Elt F) arg4.view (Rect.unit (s := S1x1x512) (g k) S1x1x1.size hg).toLoadRect (harg4.unread d4) (Shape.Idx.first hn'))
          (extractStridedSlice S1x1024 ![q, 0] (k0_pay5 v) sl)⟩ :: L)) = fold d3 d4 d5 X (16 * k.val + q + 1) :=
  have hk : k.val < 32 := lt_of_lt_of_eq k.isLt trips1
  read_step d3 d4 d5 X (16 * k.val + q) hr arg8.view f8 _ _ (row_at arg3 harg3 d3 _ _ (by omega) (eo k) _ _) _ _
    (gate_at arg4 harg4 d4 _ _ (by omega) (eg k) _ _) _ (yrow_eq d5 k.val q hq sl _ ev) hL

/-- One of the body's three indices blocks, kept by the loop. -/
abbrev keptL : sProp (MM F) :=
  iprop((arg3.view.loc (c : Thread nD τ) ↦[arg3.view.set]{fullShare} harg3.unread d3)
    ∗ (arg4.view.loc (c : Thread nD τ) ↦[arg4.view.set]{fullShare} harg4.unread d4)
    ∗ (arg5.view.loc (c : Thread nD τ) ↦[arg5.view.set]{fullShare} harg5.unread d5))

/-- The loop's invariant: the block of rows after the slots of the first `k` trips, from `X`. -/
def inv (X : Vec F S4096x1024 .f32) (k : ℕ) (_ : Unit) : sProp (MM F) :=
  iprop(keptL c arg3 harg3 arg4 harg4 arg5 harg5 d3 d4 d5
    ∗ (∃ f8, ⌜arg8.view.read (Elt F) f8 = fold d3 d4 d5 X (16 * k)⌝ ∗ (arg8.view.loc (c : Thread nD τ) ↦[arg8.view.set]{fullShare} f8)))

set_option maxHeartbeats 4000000 in
theorem run_trip (hr : ∀ r, (word d3 r).toNat < 4096) (X : Vec F S4096x1024 .f32) (k : Fin k0_t1_loop.trips) (acc : Unit) :
    inv c arg3 harg3 arg4 harg4 arg5 harg5 arg8 d3 d4 d5 X k.val acc
      ⊢ wp frame (wpE (defs₀ (F := F)) Variants.none (c : Thread nD τ) none) Set.univ
        (k0_t1_body (F := F) i arg3 harg3 arg4 harg4 arg5 harg5 arg6 harg6 arg7 harg7 arg8 harg8 k acc)
        (inv c arg3 harg3 arg4 harg4 arg5 harg5 arg8 d3 d4 d5 X (k.val + 1)) := by
  have hk : k.val < 32 := lt_of_lt_of_eq k.isLt trips1
  unfold k0_t1_body inv keptL
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨⟨H3, H4, H5⟩, ⟨%f8, %h0, H8⟩⟩
  sl_exec (disch := exact chk_of_lt _ (readAt_lt harg3 hr _ _ _))
  sl_step
  isplitl [H3 H4 H5]
  · isplitl [H3]; · iexact H3
    isplitl [H4]; · iexact H4
    iexact H5
  iexists _; isplitr; swap
  · iexact H8
  ipureintro
  have S := step arg3 harg3 arg4 harg4 arg8 d3 d4 d5 hr X k f8 _ (rows_at arg5 harg5 d5 k (k0_off1_inb k))
  rw [show 16 * (k.val + 1) = 16 * k.val + 15 + 1 from by omega]
  refine S 15 (by decide) (k0_off32 · 15#32) k0_off34 (by decide +kernel) (by decide +kernel) ?_
  refine S 14 (by decide) (k0_off30 · 14#32) (k0_off32 · 14#32) (by decide +kernel) (by decide +kernel) ?_
  refine S 13 (by decide) (k0_off28 · 13#32) (k0_off30 · 13#32) (by decide +kernel) (by decide +kernel) ?_
  refine S 12 (by decide) (k0_off26 · 12#32) (k0_off28 · 12#32) (by decide +kernel) (by decide +kernel) ?_
  refine S 11 (by decide) (k0_off24 · 11#32) (k0_off26 · 11#32) (by decide +kernel) (by decide +kernel) ?_
  refine S 10 (by decide) (k0_off22 · 10#32) (k0_off24 · 10#32) (by decide +kernel) (by decide +kernel) ?_
  refine S 9 (by decide) (k0_off20 · 9#32) (k0_off22 · 9#32) (by decide +kernel) (by decide +kernel) ?_
  refine S 8 (by decide) (k0_off18 · 8#32) (k0_off20 · 8#32) (by decide +kernel) (by decide +kernel) ?_
  refine S 7 (by decide) (k0_off16 · 7#32) (k0_off18 · 7#32) (by decide +kernel) (by decide +kernel) ?_
  refine S 6 (by decide) (k0_off14 · 6#32) (k0_off16 · 6#32) (by decide +kernel) (by decide +kernel) ?_
  refine S 5 (by decide) (k0_off12 · 5#32) (k0_off14 · 5#32) (by decide +kernel) (by decide +kernel) ?_
  refine S 4 (by decide) (k0_off10 · 4#32) (k0_off12 · 4#32) (by decide +kernel) (by decide +kernel) ?_
  refine S 3 (by decide) (k0_off8 · 3#32) (k0_off10 · 3#32) (by decide +kernel) (by decide +kernel) ?_
  refine S 2 (by decide) (k0_off6 · 2#32) (k0_off8 · 2#32) (by decide +kernel) (by decide +kernel) ?_
  refine S 1 (by decide) (k0_off4 · 1#32) (k0_off6 · 1#32) (by decide +kernel) (by decide +kernel) ?_
  refine S 0 (by decide) k0_off2 (k0_off4 · 0#32) (by decide +kernel) (by decide +kernel) ?_
  exact h0

/-! ## The body, first expert, middle experts, last expert -/

variable (d6 : Vec F S4096x1024 .f32) (d7 : Vec F S1x1x1024 .f32) (X : Vec F S4096x1024 .f32)

/-- The tests of the expert's number. -/
abbrev condFirst : Prop := Scalar.cmpi .ne (Scalar.extui (Scalar.cmpi .eq (BitVec.ofNat 32 (i 2).val) 0#32) : BitVec 32) 0#32 = 1#1
abbrev condLast : Prop := Scalar.cmpi .ne (Scalar.extui (Scalar.cmpi .eq (BitVec.ofNat 32 (i 2).val) 15#32) : BitVec 32) 0#32 = 1#1

/-- What the body finds and leaves in place. -/
abbrev kept : sProp (MM F) :=
  iprop(owns (c : Thread nD τ) arg3 fullShare d3 ∗ owns (c : Thread nD τ) arg4 fullShare d4 ∗ owns (c : Thread nD τ) arg5 fullShare d5
    ∗ owns (c : Thread nD τ) arg6 fullShare d6 ∗ owns (c : Thread nD τ) arg7 fullShare d7)

/-- The first expert of a block of rows: its slots added to zeros. -/
theorem run_first (hr : ∀ r, (word d3 r).toNat < 4096) (hc1 : condFirst i) (hc2 : ¬ condLast i) (K : PUnit → sProp (MM F)) :
    iprop(kept c arg3 arg4 arg5 arg6 arg7 d3 d4 d5 d6 d7 ∗ (∃ d, owns (c : Thread nD τ) arg8 fullShare d)
        ∗ (iprop(kept c arg3 arg4 arg5 arg6 arg7 d3 d4 d5 d6 d7 ∗ owns (c : Thread nD τ) arg8 fullShare (fold d3 d4 d5 (k0_pay1 (F := F)) 512)) -∗ K ⟨⟩))
      ⊢ wp frame (wpE (defs₀ (F := F)) Variants.none (c : Thread nD τ) none) Set.univ
        (cc0_moe_combine (F := F) i arg3 harg3 arg4 harg4 arg5 harg5 arg6 harg6 arg7 harg7 arg8 harg8) K := by
  unfold kept
  simp only [cc0_moe_combine_eq_skeleton]; unfold cc0_moe_combine_skel
  unfold owns
  iintro ⟨⟨⟨%f3, %h3, H3⟩, ⟨%f4, %h4, H4⟩, ⟨%f5, %h5, H5⟩, ⟨%f6, %h6, H6⟩, ⟨%f7, %h7, H7⟩⟩, ⟨%d8, %f8, -, H8⟩, Hk⟩
  obtain rfl := harg3.eq_unread h3; obtain rfl := harg4.eq_unread h4; obtain rfl := harg5.eq_unread h5
  obtain rfl := harg6.eq_unread h6; obtain rfl := harg7.eq_unread h7
  sl_exec (disch := first | sl_exact hc1 | sl_exact hc2)
  sl_for (inv c arg3 harg3 arg4 harg4 arg5 harg5 arg8 d3 d4 d5 (k0_pay1 (F := F))) $$ [H3 H4 H5 H8]
  · intro k acc; exact run_trip c i arg3 harg3 arg4 harg4 arg5 harg5 arg6 harg6 arg7 harg7 arg8 harg8 d3 d4 d5 hr _ k acc
  · unfold inv keptL
    isplitl [H3 H4 H5]
    · isplitl [H3]; · iexact H3
      isplitl [H4]; · iexact H4
      iexact H5
    iexists _; isplitr; swap
    · iexact H8
    ipureintro
    exact View.read_writes_full _ _ _ _ _
  iintro %acc HI
  rw [show Scf.trips k0_t1_loop.lb k0_t1_loop.ub k0_t1_loop.st = 32 from trips1]
  unfold inv keptL
  icases HI with ⟨⟨H3, H4, H5⟩, ⟨%g8, %h8, H8⟩⟩
  sl_exec (disch := first | sl_exact hc1 | sl_exact hc2)
  sl_step
  iapply Hk
  isplitr [H8]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  iexists _; isplitr; swap
  · iexact H8
  ipureintro
  exact h8

/-- A later expert: its slots added to the sum. -/
theorem run_mid (hr : ∀ r, (word d3 r).toNat < 4096) (hc1 : ¬ condFirst i) (hc2 : ¬ condLast i) (K : PUnit → sProp (MM F)) :
    iprop(kept c arg3 arg4 arg5 arg6 arg7 d3 d4 d5 d6 d7 ∗ owns (c : Thread nD τ) arg8 fullShare X
        ∗ (iprop(kept c arg3 arg4 arg5 arg6 arg7 d3 d4 d5 d6 d7 ∗ owns (c : Thread nD τ) arg8 fullShare (fold d3 d4 d5 X 512)) -∗ K ⟨⟩))
      ⊢ wp frame (wpE (defs₀ (F := F)) Variants.none (c : Thread nD τ) none) Set.univ
        (cc0_moe_combine (F := F) i arg3 harg3 arg4 harg4 arg5 harg5 arg6 harg6 arg7 harg7 arg8 harg8) K := by
  unfold kept
  simp only [cc0_moe_combine_eq_skeleton]; unfold cc0_moe_combine_skel
  unfold owns
  iintro ⟨⟨⟨%f3, %h3, H3⟩, ⟨%f4, %h4, H4⟩, ⟨%f5, %h5, H5⟩, ⟨%f6, %h6, H6⟩, ⟨%f7, %h7, H7⟩⟩, ⟨%f8, %hX, H8⟩, Hk⟩
  obtain rfl := harg3.eq_unread h3; obtain rfl := harg4.eq_unread h4; obtain rfl := harg5.eq_unread h5
  obtain rfl := harg6.eq_unread h6; obtain rfl := harg7.eq_unread h7
  sl_exec (disch := first | sl_exact hc1 | sl_exact hc2)
  sl_for (inv c arg3 harg3 arg4 harg4 arg5 harg5 arg8 d3 d4 d5 X) $$ [H3 H4 H5 H8]
  · intro k acc; exact run_trip c i arg3 harg3 arg4 harg4 arg5 harg5 arg6 harg6 arg7 harg7 arg8 harg8 d3 d4 d5 hr _ k acc
  · unfold inv keptL
    isplitl [H3 H4 H5]
    · isplitl [H3]; · iexact H3
      isplitl [H4]; · iexact H4
      iexact H5
    iexists _; isplitr; swap
    · iexact H8
    ipureintro
    exact hX
  iintro %acc HI
  rw [show Scf.trips k0_t1_loop.lb k0_t1_loop.ub k0_t1_loop.st = 32 from trips1]
  unfold inv keptL
  icases HI with ⟨⟨H3, H4, H5⟩, ⟨%g8, %h8, H8⟩⟩
  sl_exec (disch := first | sl_exact hc1 | sl_exact hc2)
  sl_step
  iapply Hk
  isplitr [H8]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  iexists _; isplitr; swap
  · iexact H8
  ipureintro
  exact h8

/-- The last expert: its slots added, then the gated sum to the residual. -/
theorem run_last (hr : ∀ r, (word d3 r).toNat < 4096) (hc1 : ¬ condFirst i) (hc2 : condLast i) (K : PUnit → sProp (MM F)) :
    iprop(kept c arg3 arg4 arg5 arg6 arg7 d3 d4 d5 d6 d7 ∗ owns (c : Thread nD τ) arg8 fullShare X
        ∗ (iprop(kept c arg3 arg4 arg5 arg6 arg7 d3 d4 d5 d6 d7 ∗ owns (c : Thread nD τ) arg8 fullShare (k0_pay4 d6 d7 (fold d3 d4 d5 X 512))) -∗ K ⟨⟩))
      ⊢ wp frame (wpE (defs₀ (F := F)) Variants.none (c : Thread nD τ) none) Set.univ
        (cc0_moe_combine (F := F) i arg3 harg3 arg4 harg4 arg5 harg5 arg6 harg6 arg7 harg7 arg8 harg8) K := by
  unfold kept
  simp only [cc0_moe_combine_eq_skeleton]; unfold cc0_moe_combine_skel
  unfold owns
  iintro ⟨⟨⟨%f3, %h3, H3⟩, ⟨%f4, %h4, H4⟩, ⟨%f5, %h5, H5⟩, ⟨%f6, %h6, H6⟩, ⟨%f7, %h7, H7⟩⟩, ⟨%f8, %hX, H8⟩, Hk⟩
  obtain rfl := harg3.eq_unread h3; obtain rfl := harg4.eq_unread h4; obtain rfl := harg5.eq_unread h5
  obtain rfl := harg6.eq_unread h6; obtain rfl := harg7.eq_unread h7
  sl_exec (disch := first | sl_exact hc1 | sl_exact hc2)
  sl_for (inv c arg3 harg3 arg4 harg4 arg5 harg5 arg8 d3 d4 d5 X) $$ [H3 H4 H5 H8]
  · intro k acc; exact run_trip c i arg3 harg3 arg4 harg4 arg5 harg5 arg6 harg6 arg7 harg7 arg8 harg8 d3 d4 d5 hr _ k acc
  · unfold inv keptL
    isplitl [H3 H4 H5]
    · isplitl [H3]; · iexact H3
      isplitl [H4]; · iexact H4
      iexact H5
    iexists _; isplitr; swap
    · iexact H8
    ipureintro
    exact hX
  iintro %acc HI
  rw [show Scf.trips k0_t1_loop.lb k0_t1_loop.ub k0_t1_loop.st = 32 from trips1]
  unfold inv keptL
  icases HI with ⟨⟨H3, H4, H5⟩, ⟨%g8, %h8, H8⟩⟩
  sl_exec (disch := first | sl_exact hc1 | sl_exact hc2)
  sl_step
  iapply Hk
  isplitr [H8]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; isplitr; · ipureintro; exact harg7.read_unread _
    iexact H7
  iexists _; isplitr; swap
  · iexact H8
  ipureintro
  refine (View.read_writes_full _ _ _ _ _).trans ?_
  rw [show View.readAt (Elt F) arg6.view (Rect.unit (s := S4096x1024) ![0, 0] S4096x1024.size inb_S4096x1024_S4096x1024_0_0).toLoadRect (harg6.unread d6) = d6 from
      (View.readAt_full arg6.view (harg6.unread d6) inb_S4096x1024_S4096x1024_0_0).trans (harg6.read_unread d6),
    show View.readAt (Elt F) arg7.view (Rect.unit (s := S1x1x1024) ![0, 0, 0] S1x1x1024.size inb_S1x1x1024_S1x1x1024_0_0_0).toLoadRect (harg7.unread d7) = d7 from
      (View.readAt_full arg7.view (harg7.unread d7) inb_S1x1x1024_S1x1x1024_0_0_0).trans (harg7.read_unread d7)]
  exact congrArg (k0_pay4 d6 d7) ((View.readAt_full arg8.view g8 inb_S4096x1024_S4096x1024_0_0).trans h8)

end Runs

variable (m : (ℓ : Loc nD τ sig) → Buf (Elt F) ℓ) (ρ : Dev nD → PrngReg)

/-! ## The block of rows after each point -/

theorem lt_N (t : Fin cfg0.N) : t.val < 256 := lt_of_lt_of_eq t.isLt N_0

/-- Every row number a point finds is a row of its block. -/
abbrev InRange : Prop := ∀ (c : Dev nD) (t : Fin cfg0.N) (r : ℕ), (word (iblk m c 0 t) r).toNat < 4096

/-- The slots of point `t` added to `X`. -/
abbrev addAt (c : Dev nD) (t : Fin cfg0.N) (X : Vec F S4096x1024 .f32) : Vec F S4096x1024 .f32 :=
  fold (iblk m c 0 t) (iblk m c 1 t) (iblk m c 2 t) X 512

/-- The sum after point `n`, before the residual. -/
def acc (c : Dev nD) : (n : ℕ) → n < cfg0.N → Vec F S4096x1024 .f32
  | 0, hn => addAt m c ⟨0, hn⟩ (k0_pay1 (F := F))
  | n + 1, hn => if (n + 1) % 16 = 0 then addAt m c ⟨n + 1, hn⟩ (k0_pay1 (F := F))
    else addAt m c ⟨n + 1, hn⟩ (acc c n (Nat.lt_of_succ_lt hn))

theorem acc_first (c : Dev nD) (t : Fin cfg0.N) (h : t.val % 16 = 0) : acc m c t.val t.isLt = addAt m c t (k0_pay1 (F := F)) := by
  obtain ⟨n, hn⟩ := t
  cases n with
  | zero => rfl
  | succ n => exact if_pos h
theorem acc_later (c : Dev nD) (t : Fin cfg0.N) (h : ¬ t.val % 16 = 0) :
    acc m c t.val t.isLt = addAt m c t (acc m c (t.val - 1) (Nat.lt_of_le_of_lt (Nat.sub_le _ _) t.isLt)) := by
  obtain ⟨n, hn⟩ := t
  cases n with
  | zero => exact absurd rfl h
  | succ n => exact if_neg h

/-! ## The proof data, the body obligation -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if t.val % 16 = 15 then k0_pay4 (iblk m c 3 t) (iblk m c 4 t) (acc m c t.val t.isLt) else acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = if t.val % 16 = 15 then k0_pay4 (iblk m c 3 t) (iblk m c 4 t) (acc m c t.val t.isLt) else acc m c t.val t.isLt := by dsimp only [dats]
theorem after0_5_mid (c : Dev nD) (t : Fin cfg0.N) (h : ¬ t.val % 16 = 15) : (dats m 0 c).after 5 t = acc m c t.val t.isLt :=
  (after0_5 m c t).trans (if_neg h)
theorem after0_5_last (c : Dev nD) (t : Fin cfg0.N) (h : t.val % 16 = 15) :
    (dats m 0 c).after 5 t = k0_pay4 (iblk m c 3 t) (iblk m c 4 t) (acc m c t.val t.isLt) :=
  (after0_5 m c t).trans (if_pos h)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- After the first expert of a block of rows, the output's buffer holds the sum so far. -/
theorem before0_5 (c : Dev nD) (t : Fin cfg0.N) (h : ¬ t.val % 16 = 0) (d) :
    (dats m 0 c).before 5 t d = acc m c (t.val - 1) (Nat.lt_of_le_of_lt (Nat.sub_le _ _) t.isLt) := by
  have hz : t.val ≠ 0 := fun e => h (by omega)
  have hl : t.val - 1 < cfg0.N := Nat.lt_of_le_of_lt (Nat.sub_le _ _) t.isLt
  have hf : (cfg0.win 5).flush ⟨t.val - 1, hl⟩ = false := by
    rw [Bool.eq_false_iff]; intro e
    have e' : (t.val - 1) % 16 = 15 := (flush0_5 ⟨t.val - 1, hl⟩).mp e
    omega
  refine ((dats m 0 c).before_out_kept 5 rfl t hz hf (fun _ => rfl) (fun _ _ => rfl) d).trans ?_
  refine after0_5_mid m c ⟨t.val - 1, hl⟩ ?_
  show ¬ (t.val - 1) % 16 = 15
  omega

theorem coords2' (t : Fin cfg0.N) : (grid0.coords t 2).val = t.val / 1 % 16 := Pipeline.Grid.coords_val t 2 (by decide) rfl
theorem coords2 (t : Fin cfg0.N) : (grid0.coords t 2).val = t.val % 16 := (coords2' t).trans (by rw [Nat.div_one])

theorem first_iff (t : Fin cfg0.N) : condFirst (grid0.coords t) ↔ t.val % 16 = 0 := by
  have ht := lt_N t
  unfold condFirst; simp only [coords2]; word_cmp
theorem last_iff (t : Fin cfg0.N) : condLast (grid0.coords t) ↔ t.val % 16 = 15 := by
  have ht := lt_N t
  unfold condLast; simp only [coords2]; word_cmp

def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A run of the body from `P` to `Y` in the output's buffer is the point's step. -/
theorem sound_of (c : Dev nD) (t : Fin cfg0.N) (P : sProp (MM F)) (Y : Vec F S4096x1024 .f32) (hY : (dats m 0 c).after 5 t = Y)
    (hP : ∀ d, owns (c : Thread nD τ) (st0_5 t) fullShare ((dats m 0 c).before 5 t d) ⊢ P)
    (run : ∀ K : PUnit → sProp (MM F), iprop(kept c (st0_0 t) (st0_1 t) (st0_2 t) (st0_3 t) (st0_4 t) (iblk m c 0 t) (iblk m c 1 t) (iblk m c 2 t) (iblk m c 3 t) (iblk m c 4 t) ∗ P
        ∗ (iprop(kept c (st0_0 t) (st0_1 t) (st0_2 t) (st0_3 t) (st0_4 t) (iblk m c 0 t) (iblk m c 1 t) (iblk m c 2 t) (iblk m c 3 t) (iblk m c 4 t) ∗ owns (c : Thread nD τ) (st0_5 t) fullShare Y) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, hY]
  iintro ⟨HΦ, Ho, ⟨%e0, H0⟩, ⟨%e1, H1⟩, ⟨%e2, H2⟩, ⟨%e3, H3⟩, ⟨%e4, H4⟩, ⟨%e5, H5⟩⟩
  iapply (run _)
  isplitl [H0 H1 H2 H3 H4]
  · isplitl [H0]; · iexact H0
    isplitl [H1]; · iexact H1
    isplitl [H2]; · iexact H2
    isplitl [H3]; · iexact H3
    iexact H4
  isplitl [H5]; · iapply (hP e5); iexact H5
  iintro ⟨⟨H0, H1, H2, H3, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem sound_body (hm : InRange m) (c : Dev nD) (t : Fin cfg0.N) :
    bodyPre m c t ⊢ wp frame (wpE (defs₀ (F := F)) Variants.none c none) Set.univ (bodyAt0 t) (fun _ => bodyPost m c t) := by
  by_cases h0 : t.val % 16 = 0
  · refine sound_of m c t (iprop(∃ d, owns (c : Thread nD τ) (st0_5 t) fullShare d)) _ ((after0_5_mid m c t (by omega)).trans (acc_first m c t h0)) (fun d => ?_)
      (fun K => by unfold bodyAt0; exact run_first c (grid0.coords t) _ _ _ _ _ _ _ _ _ _ _ _ _ _ _ _ _ (hm c t) ((first_iff t).mpr h0) (fun e => by have := (last_iff t).mp e; omega) K)
    iintro H; iexists _; iexact H
  · by_cases h1 : t.val % 16 = 15
    · exact sound_of m c t _ _ ((after0_5_last m c t h1).trans (congrArg _ (acc_later m c t h0))) (fun d => by rw [before0_5 m c t h0])
        (fun K => by unfold bodyAt0; exact run_last c (grid0.coords t) _ _ _ _ _ _ _ _ _ _ _ _ _ _ _ _ _ _ (hm c t) (fun e => h0 ((first_iff t).mp e)) ((last_iff t).mpr h1) K)
    · exact sound_of m c t _ _ ((after0_5_mid m c t h1).trans (acc_later m c t h0)) (fun d => by rw [before0_5 m c t h0])
        (fun K => by unfold bodyAt0; exact run_mid c (grid0.coords t) _ _ _ _ _ _ _ _ _ _ _ _ _ _ _ _ _ _ (hm c t) (fun e => h0 ((first_iff t).mp e)) (fun e => h1 ((last_iff t).mp e)) K)

theorem defs₀_row (t : Fin cfg0.N) :
    defs₀ (F := F) .tc cfg0.body (cfg0.bodyArgs t (cfg0.slots t)) = bodyAt0 t := by
  unfold defs₀; rw [Defs.onTc_tc]

theorem body_obligation (hm : InRange m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run and the frame -/

set_option backward.isDefEq.respectTransparency.types false in
set_option maxHeartbeats 800000 in
theorem run_main_quiescent (hm : InRange m) : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

theorem frame (hm : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ hm)))
    ((θ_run defs _ _).mono (fun _ h => h.2) (run_main_quiescent m ρ hm))

end Cert.Kernel10Ideal.Hand

end
-- ==== Proof.CombineSample.lean ====
/- The experts' rows added to the sample rows (program 10). Block of rows `b` takes `512` rows of each of the 16 experts; row
   `s` of expert `e` goes, times its gate, to the row of the block that the word at (`b`, `e`, `s`) names. The kernel adds them
   one at a time, expert by expert, into the output's block; the reference sums, for each row, over all slots that name it. -/
module

public import proofs.«01_k».proof.Defs
public import proofs.«01_k».proof.Proof.CombineSampleIdealFrame
public import proofs.«01_k».proof.Proof.Gen.Kernel10
public import proofs.«01_k».proof.Proof.Gen.Reference10Ideal.Run
public import proofs.«01_k».proof.Proof.Gen.Reference10Ideal.Read
public import proofs.«01_k».proof.Proof.Gen.Pre_sample_tokens_in_range
public import Idealize.ShloMosaic.Lib.Pipeline.ValueKit
public import Idealize.ShloMosaic.Lib.Pipeline.ReadBack
public import Idealize.ShloMosaic.Lib.TwoAxisContraction

@[expose] public section

noncomputable section

open Idealize.ShloMosaic hiding ix1 ix2 ix3 ix4 eq_ix1 eq_ix2 eq_ix3 eq_ix4
open Idealize.ShloMosaic.TcCoe Idealize.SL.Sem
open Idealize.ShloMosaic.Pipeline (Dat)
open Idealize.ShloMosaic.ValueIdx

/-! ### What the reference computes -/

namespace Cert.Reference10Ideal.Combine

open Cert.Reference10Ideal Cert.Reference10Ideal.Gen Cert.Reference10Ideal.Read

variable (x0 : (⟨S8x16x512, .i32⟩ : BufTy).Contents (Elt Ideal)) (x1 : (⟨S8x16x512, .f32⟩ : BufTy).Contents (Elt Ideal))
  (x2 : (⟨S16x5120x2048, .bf16⟩ : BufTy).Contents (Elt Ideal)) (x3 : (⟨S32768x2048, .f32⟩ : BufTy).Contents (Elt Ideal))
  (x4 : (⟨S96x1x2048, .f32⟩ : BufTy).Contents (Elt Ideal))

/-- Where slot `s` of block `b` lies among an expert's rows; row `y` of block `b`; the block's modulation. -/
abbrev slotOf (b : Fin 8) (s : Fin 512) : Fin 5120 := ⟨(2 + b.val) * 512 + s.val, by omega⟩
abbrev rowOf (b : Fin 8) (y : Fin 4096) : Fin 32768 := ⟨b.val * 4096 + y.val, by omega⟩
abbrev modOf (b : Fin 8) : Fin 96 := ⟨(1 + b.val) * 6 + 5, by omega⟩

/-- What expert `e` adds to row `y` of block `b`. -/
def part (b : Fin 8) (e : Fin 16) (y : Fin 4096) (z : Fin 2048) : EReal :=
  ∑ s : Fin 512, if (x0 (ix3 b e s)).toNat = y.val then (x1 (ix3 b e s) : EReal) * (x2 (ix3 e (slotOf b s) z) : EReal) else 0

theorem onehot_apply (b : Fin 8) (y : Fin 4096) (e : Fin 16) (s : Fin 512) :
    val_main_v17 (F := Ideal) x0 (ix4 b y e s) = if (x0 (ix3 b e s)).toNat = y.val then (1 : EReal) else 0 := by
  rw [val_main_v17_apply, val_main_v16_apply, val_main_v14_apply, val_main_v11_apply, val_main_v15_apply, val_main_v13_apply, val_main_v12_apply]
  have hi : idx_main_v11 (idx_main_v14 (ix4 b y e s)) = ix3 b e s := eq_ix3 _
  rw [hi]
  show (((BitVec.ofBool (x0 (ix3 b e s) == BitVec.ofNat 32 y.val)).toNat : ℝ) : EReal) = _
  by_cases h : (x0 (ix3 b e s)).toNat = y.val
  · have hy : x0 (ix3 b e s) = BitVec.ofNat 32 y.val := by
      apply BitVec.eq_of_toNat_eq; rw [BitVec.toNat_ofNat, h]; omega
    rw [if_pos h, ← hy, beq_self_eq_true]
    simp
  · have hy : (x0 (ix3 b e s) == BitVec.ofNat 32 y.val) = false := by
      rw [beq_eq_false_iff_ne]
      intro e'
      refine h ?_
      rw [e', BitVec.toNat_ofNat]; omega
    rw [if_neg h, hy]
    simp

theorem gated_apply (e : Fin 16) (b : Fin 8) (s : Fin 512) (z : Fin 2048) :
    val_main_v10 (F := Ideal) x1 x2 (ix4 e b s z) = (x2 (ix3 e (slotOf b s) z) : EReal) * (x1 (ix3 b e s) : EReal) := by
  rw [val_main_v10_apply, val_main_v6_apply, val_main_v5_apply, val_main_v4_apply, val_main_v9_apply, val_main_v8_apply, val_main_v7_apply]
  refine congrArg₂ (fun u v : EReal => u * v) (congrArg x2 ?_) (congrArg x1 ?_)
  · funext a; apply Fin.ext
    match a with
    | ⟨0, _⟩ => show (((e.val * 8 + b.val) * 512 + s.val) * 2048 + z.val) / 8388608 = e.val; omega
    | ⟨1, _⟩ => show 1024 + (((e.val * 8 + b.val) * 512 + s.val) * 2048 + z.val) / 2048 % 4096 = (2 + b.val) * 512 + s.val; omega
    | ⟨2, _⟩ => show (((e.val * 8 + b.val) * 512 + s.val) * 2048 + z.val) % 2048 = z.val; omega
  · exact eq_ix3 _

theorem sum_apply (b : Fin 8) (y : Fin 4096) (z : Fin 2048) :
    val_main_v18 (F := Ideal) x0 x1 x2 (ix3 b y z) = ∑ e : Fin 16, part x0 x1 x2 b e y z := by
  unfold val_main_v18
  simp only [Host.dotGeneral]
  let D := dot_S8x4096x16x512_S16x8x512x2048_S8x4096x2048_32_20_1_3_0_1
  have hr : D.contr.rank = 2 := rfl
  have c0 : D.contr.size ⟨0, by rw [hr]; omega⟩ = 512 := rfl
  have c1 : D.contr.size ⟨1, by rw [hr]; omega⟩ = 16 := rfl
  rw [Ideal.dotGeneral_apply, ← Equiv.sum_comp (contrEquiv2 D 512 16 hr c0 c1).symm, Fintype.sum_prod_type, Finset.sum_comm]
  refine Finset.sum_congr rfl fun e _ => Finset.sum_congr rfl fun s _ => ?_
  have h0 := contrEquiv2_symm_val0 D 512 16 hr c0 c1 (s, e)
  have h1 := contrEquiv2_symm_val1 D 512 16 hr c0 c1 (s, e)
  have el : D.lhsIdx (ix3 b y z) ((contrEquiv2 D 512 16 hr c0 c1).symm (s, e)) = ix4 b y e s := by
    funext a; apply Fin.ext
    match a with
    | ⟨0, _⟩ => rfl
    | ⟨1, _⟩ => rfl
    | ⟨2, _⟩ => exact h1
    | ⟨3, _⟩ => exact h0
  have er : D.rhsIdx (ix3 b y z) ((contrEquiv2 D 512 16 hr c0 c1).symm (s, e)) = ix4 e b s z := by
    funext a; apply Fin.ext
    match a with
    | ⟨0, _⟩ => exact h1
    | ⟨1, _⟩ => rfl
    | ⟨2, _⟩ => exact h0
    | ⟨3, _⟩ => rfl
  refine (congrArg₂ (fun u v : EReal => u * v) ((congrArg _ el).trans (onehot_apply x0 b y e s)) ((congrArg _ er).trans (gated_apply x1 x2 e b s z))).trans ?_
  show (if (x0 (ix3 b e s)).toNat = y.val then (1 : EReal) else 0) * ((x2 (ix3 e (slotOf b s) z) : EReal) * (x1 (ix3 b e s) : EReal)) = _
  split
  · rw [one_mul, mul_comm]
  · rw [zero_mul]

theorem mods_apply (b : Fin 8) (y : Fin 4096) (z : Fin 2048) : val_main_v20 (F := Ideal) x4 (ix3 b y z) = x4 (ix3 (modOf b) 0 z) := by
  rw [val_main_v20_apply, val_main_v3_apply, val_main_v2_apply, val_main_v1_apply, val_main_v0_apply]
  refine congrArg x4 (funext fun a => Fin.ext ?_)
  match a with
  | ⟨0, _⟩ => show (((1 + (b.val * 2048 + z.val) / 2048) * 6 + (5 + 0)) * 2048 + (b.val * 2048 + z.val) % 2048) / 2048 = (1 + b.val) * 6 + 5; omega
  | ⟨1, _⟩ => rfl
  | ⟨2, _⟩ => show (((1 + (b.val * 2048 + z.val) / 2048) * 6 + (5 + 0)) * 2048 + (b.val * 2048 + z.val) % 2048) % 2048 = z.val; omega

/-- Row `y` of block `b` of the result. -/
theorem result_apply (b : Fin 8) (y : Fin 4096) (z : Fin 2048) :
    val_main_v23 (F := Ideal) x0 x1 x2 x3 x4 (ix2 (rowOf b y) z)
      = (x3 (ix2 (rowOf b y) z) : EReal) + (x4 (ix3 (modOf b) 0 z) : EReal) * ∑ e : Fin 16, part x0 x1 x2 b e y z := by
  rw [val_main_v23_apply]
  have hi : idx_main_v23 (ix2 (rowOf b y) z) = ix3 b y z := by
    funext a; apply Fin.ext
    match a with
    | ⟨0, _⟩ => show ((b.val * 4096 + y.val) * 2048 + z.val) / 8388608 = b.val; omega
    | ⟨1, _⟩ => show ((b.val * 4096 + y.val) * 2048 + z.val) / 2048 % 4096 = y.val; omega
    | ⟨2, _⟩ => show ((b.val * 4096 + y.val) * 2048 + z.val) % 2048 = z.val; omega
  rw [hi, val_main_v22_apply, val_main_v19_apply, val_main_v21_apply, sum_apply, mods_apply]
  refine congrArg₂ (fun u v : EReal => u + v) (congrArg x3 (funext fun a => Fin.ext ?_)) rfl
  match a with
  | ⟨0, _⟩ => show ((b.val * 4096 + y.val) * 2048 + z.val) / 2048 = b.val * 4096 + y.val; omega
  | ⟨1, _⟩ => show ((b.val * 4096 + y.val) * 2048 + z.val) % 2048 = z.val; omega

end Cert.Reference10Ideal.Combine

namespace Cert.Kernel10Ideal.Hand

open Cert.Kernel10Ideal Cert.Kernel10Ideal.Gen
open Cert.Reference10Ideal.Combine (slotOf rowOf modOf part)

/-! ### Where a point lies, and the precondition -/

/-- The block of rows, the column block and the expert of point `t`; a column of the block. -/
abbrev bOf (t : Fin cfg0.N) : Fin 8 := ⟨t.val / 16 / 2, by have := lt_N t; omega⟩
abbrev eOf (t : Fin cfg0.N) : Fin 16 := ⟨t.val % 16, by omega⟩
abbrev zOf (t : Fin cfg0.N) (x : Fin 1024) : Fin 2048 := ⟨t.val / 16 % 2 * 1024 + x.val, by omega⟩

theorem where_words : ∀ t : Fin cfg0.N,
    (win0_0.index t 0 = t.val / 16 / 2 * 16 + t.val % 16 ∧ win0_0.index t 1 = 0 ∧ win0_0.index t 2 = 0)
      ∧ (win0_1.index t 0 = t.val / 16 / 2 * 16 + t.val % 16 ∧ win0_1.index t 1 = 0 ∧ win0_1.index t 2 = 0) :=
  (by decide +kernel : ∀ t : Fin grid0.N, _)
theorem where_blocks : ∀ t : Fin cfg0.N,
    (win0_2.index t 0 = t.val % 16 ∧ win0_2.index t 1 = 2 + t.val / 16 / 2 ∧ win0_2.index t 2 = t.val / 16 % 2)
      ∧ (win0_3.index t 0 = t.val / 16 / 2 ∧ win0_3.index t 1 = t.val / 16 % 2)
      ∧ (win0_4.index t 0 = (1 + t.val / 16 / 2) * 6 + 5 ∧ win0_4.index t 1 = 0 ∧ win0_4.index t 2 = t.val / 16 % 2)
      ∧ (win0_5.index t 0 = t.val / 16 / 2 ∧ win0_5.index t 1 = t.val / 16 % 2) :=
  (by decide +kernel : ∀ t : Fin grid0.N, _)

section Words

variable {F : FTy → Type} [FloatOps F] (m : (ℓ : Loc nD τ sig) → Buf (Elt F) ℓ)

/-- The row numbers, the gates, the experts' rows, the residual rows and the modulations. -/
abbrev ROWS (c : Dev nD) : Buf (Elt F) ((c : Thread nD τ).loc main_arg0) := m ((c : Thread nD τ).loc main_arg0)
abbrev GATES (c : Dev nD) : Buf (Elt F) ((c : Thread nD τ).loc main_arg1) := m ((c : Thread nD τ).loc main_arg1)
abbrev YS (c : Dev nD) : Buf (Elt F) ((c : Thread nD τ).loc main_arg2) := m ((c : Thread nD τ).loc main_arg2)
abbrev XS (c : Dev nD) : Buf (Elt F) ((c : Thread nD τ).loc main_arg3) := m ((c : Thread nD τ).loc main_arg3)
abbrev MODS (c : Dev nD) : Buf (Elt F) ((c : Thread nD τ).loc main_arg4) := m ((c : Thread nD τ).loc main_arg4)

/-- A table of one entry a slot, as the launch passes it. -/
theorem reshaped {α : Type} (v : S8x16x512.Idx → α) (j : Fin 128) (r : Fin 512) :
    shapeCast S128x1x512 v shapeCasts_S8x16x512_S128x1x512 (ix3 j 0 r) = v (ix3 ⟨j.val / 16, by omega⟩ ⟨j.val % 16, by omega⟩ r) :=
  shapeCast_apply _ _ _ _ (by
    refine (Shape.rowMajor_val_three (ix3 (n0 := 8) (n1 := 16) (n2 := 512) _ _ _)).trans (Eq.trans ?_ (Shape.rowMajor_val_three (ix3 j 0 r)).symm)
    show (j.val / 16 * 16 + j.val % 16) * 512 + r.val = (j.val * 1 + 0) * 512 + r.val
    omega)

/-- The row number and the gate of slot `s` of a point's block. -/
theorem word_of (c : Dev nD) (t : Fin cfg0.N) (s : ℕ) :
    word (iblk m c 0 t) s = ROWS m c (ix3 (bOf t) (eOf t) ⟨s % 512, Nat.mod_lt _ (by decide)⟩) := by
  have ht := lt_N t
  obtain ⟨⟨a0, a1, a2⟩, -⟩ := where_words t
  refine Eq.trans ?_ ((reshaped (ROWS m c) ⟨t.val / 16 / 2 * 16 + t.val % 16, by omega⟩ ⟨s % 512, Nat.mod_lt _ (by decide)⟩).trans
    (congrArg₂ (fun x y => ROWS m c (ix3 x y _)) (Fin.ext ?_) (Fin.ext ?_)))
  · show V m c main_v0 ((win0_0.rect t).emb (slot s)) = V m c main_v0 _
    refine congrArg (V m c main_v0) ?_
    funext a; apply Fin.ext
    match a with
    | ⟨0, _⟩ => exact (win0_0.rect_emb_val t _ 0).trans (by rw [a0]; show (t.val / 16 / 2 * 16 + t.val % 16) * 1 + 0 = t.val / 16 / 2 * 16 + t.val % 16; omega)
    | ⟨1, _⟩ => exact win0_0.rect_emb_val_of_index_zero t 1 a1 _
    | ⟨2, _⟩ => exact win0_0.rect_emb_val_of_index_zero t 2 a2 _
  · show (t.val / 16 / 2 * 16 + t.val % 16) / 16 = t.val / 16 / 2; omega
  · show (t.val / 16 / 2 * 16 + t.val % 16) % 16 = t.val % 16; omega
theorem gate_of (c : Dev nD) (t : Fin cfg0.N) (s : ℕ) :
    gate (iblk m c 1 t) s = GATES m c (ix3 (bOf t) (eOf t) ⟨s % 512, Nat.mod_lt _ (by decide)⟩) := by
  have ht := lt_N t
  obtain ⟨-, a0, a1, a2⟩ := where_words t
  refine Eq.trans ?_ ((reshaped (GATES m c) ⟨t.val / 16 / 2 * 16 + t.val % 16, by omega⟩ ⟨s % 512, Nat.mod_lt _ (by decide)⟩).trans
    (congrArg₂ (fun x y => GATES m c (ix3 x y _)) (Fin.ext ?_) (Fin.ext ?_)))
  · show V m c main_v1 ((win0_1.rect t).emb (slot s)) = V m c main_v1 _
    refine congrArg (V m c main_v1) ?_
    funext a; apply Fin.ext
    match a with
    | ⟨0, _⟩ => exact (win0_1.rect_emb_val t _ 0).trans (by rw [a0]; show (t.val / 16 / 2 * 16 + t.val % 16) * 1 + 0 = t.val / 16 / 2 * 16 + t.val % 16; omega)
    | ⟨1, _⟩ => exact win0_1.rect_emb_val_of_index_zero t 1 a1 _
    | ⟨2, _⟩ => exact win0_1.rect_emb_val_of_index_zero t 2 a2 _
  · show (t.val / 16 / 2 * 16 + t.val % 16) / 16 = t.val / 16 / 2; omega
  · show (t.val / 16 / 2 * 16 + t.val % 16) % 16 = t.val % 16; omega

/-- What the printed precondition says of every row number. -/
theorem rows_of_pre (c : Dev nD)
    (h : Cert.Pre_sample_tokens_in_range.fn (F := F) (ROWS m c) (GATES m c) (YS m c) (XS m c) (MODS m c) = fun _ => 1#1)
    (b : Fin 8) (e : Fin 16) (s : Fin 512) : (ROWS m c (ix3 b e s)).toNat < 4096 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e' := congrFun h (ix3 b e s)
  simp only [Cert.Pre_sample_tokens_in_range.fn, andi, cmpi, broadcastInDim, constantI, IntOp.cmpi, andi_ofBool, ofBool_eq_one, Bool.and_eq_true] at e'
  obtain ⟨h0, h1⟩ := e'
  generalize hx : ROWS m c (ix3 b e s) = x at *
  simp only [BitVec.sle, BitVec.slt, decide_eq_true_eq, BitVec.toInt, BitVec.toNat_ofNat] at h0 h1
  omega

/-- So every row number a point finds is inside its block. -/
theorem inRange_of_pre (h : ∀ c, Cert.Pre_sample_tokens_in_range.fn (F := F) (ROWS m c) (GATES m c) (YS m c) (XS m c) (MODS m c) = fun _ => 1#1) : InRange m := by
  intro c t r
  rw [word_of]
  exact rows_of_pre m c (h c) _ _ _

end Words

/-! ### The payloads -/

theorem pay1_apply (y : S4096x1024.Idx) : (k0_pay1 (F := Ideal) y : EReal) = 0 := Ideal.ofBits_zero_f32

theorem pay4_apply (x a : Vec Ideal S4096x1024 .f32) (g : Vec Ideal S1x1x1024 .f32) (y : Fin 4096) (z : Fin 1024) :
    k0_pay4 (F := Ideal) x g a (ix2 y z) = (x (ix2 y z) : EReal) + (g (ix3 0 0 z) : EReal) * (a (ix2 y z) : EReal) := by
  show (x (ix2 y z) : EReal) + (broadcastTo S4096x1024 (shapeCast S1x1024 g shapeCasts_S1x1x1024_S1x1024) broadcasts_S1x1024_S4096x1024 (ix2 y z) : EReal)
    * (shapeCast S4096x1024 a shapeCasts_S4096x1024_S4096x1024 (ix2 y z) : EReal) = _
  rw [shapeCast_self, broadcastTo_apply _ broadcasts_S1x1024_S4096x1024 (ix2 y z) (ix2 0 z) (by intro a; match a with | ⟨0, _⟩ => rfl | ⟨1, _⟩ => rfl),
    shapeCast_apply g shapeCasts_S1x1x1024_S1x1024 (ix2 0 z) (ix3 0 0 z) (by
      rw [Shape.rowMajor_val_three, Shape.rowMajor_val_two]
      show (0 * 1 + 0) * 1024 + z.val = 0 * 1024 + z.val
      omega)]

/-- The expert's row at slot `s`. -/
theorem yrow_apply (d5 : Vec Ideal S1x512x1024 .bf16) (s : ℕ) (hs : s < 512) (z : Fin 1024) :
    (yrow d5 s (ix2 0 z) : EReal) = d5 (ix3 0 ⟨s, hs⟩ z) := by
  unfold yrow
  refine (extractStridedSlice_apply ![s % 16, 0] _ _ (ix2 0 z) (ix2 (⟨s % 16, by omega⟩ : Fin 16) z) (fun a => match a with
    | ⟨0, _⟩ => by show s % 16 = s % 16 + 0; omega
    | ⟨1, _⟩ => by show z.val = 0 + z.val; omega)).trans ?_
  show shapeCast S16x1024 (rows d5 (s / 16)) shapeCasts_S1x16x1024_S16x1024 (ix2 (⟨s % 16, by omega⟩ : Fin 16) z) = _
  refine (shapeCast_apply (rows d5 (s / 16)) shapeCasts_S1x16x1024_S16x1024 (ix2 (⟨s % 16, by omega⟩ : Fin 16) z) (ix3 0 (⟨s % 16, by omega⟩ : Fin 16) z) (by
    rw [Shape.rowMajor_val_three, Shape.rowMajor_val_two]
    show (0 * 16 + s % 16) * 1024 + z.val = s % 16 * 1024 + z.val
    omega)).trans ?_
  refine congrArg d5 (funext fun a => Fin.ext ?_)
  match a with
  | ⟨0, _⟩ => rfl
  | ⟨1, _⟩ => show (16 * (s / 16) + s % 16) % 512 = s; omega
  | ⟨2, _⟩ => rfl

/-- The block of rows after the first `n` slots of a block. -/
theorem fold_apply (d3 : Vec Ideal S1x1x512 .i32) (d4 : Vec Ideal S1x1x512 .f32) (d5 : Vec Ideal S1x512x1024 .bf16) (X : Vec Ideal S4096x1024 .f32)
    (y : Fin 4096) (z : Fin 1024) : ∀ n : ℕ, (fold (F := Ideal) d3 d4 d5 X n (ix2 y z) : EReal)
      = (X (ix2 y z) : EReal) + ∑ s ∈ Finset.range n, if (word d3 s).toNat = y.val then (gate d4 s : EReal) * (yrow d5 s (ix2 0 z) : EReal) else 0
  | 0 => by rw [Finset.sum_range_zero, add_zero]; rfl
  | n + 1 => by
    rw [Finset.sum_range_succ, ← add_assoc, ← fold_apply d3 d4 d5 X y z n]
    show addRow (word d3 n) (fun row => plus row (gate d4 n) (yrow d5 n)) (fold d3 d4 d5 X n) (ix2 y z) = _
    unfold addRow
    by_cases h : (word d3 n).toNat = y.val
    · rw [if_pos (show ((ix2 y z : S4096x1024.Idx) 0).val = (word d3 n).toNat from h.symm), if_pos h]
      have hc : col (ix2 y z) = ix2 0 z := eq_ix2 _
      have hx : cell (word d3 n).toNat (ix2 0 z) = ix2 y z := by
        funext a; apply Fin.ext
        match a with
        | ⟨0, _⟩ => show (word d3 n).toNat % 4096 = y.val; omega
        | ⟨1, _⟩ => rfl
      rw [hc]
      show (shapeCast S1x1024 (fun x => fold d3 d4 d5 X n (cell (word d3 n).toNat x)) shapeCasts_S1x1024_S1x1024 (ix2 0 z) : EReal) + _ = _
      rw [shapeCast_self, hx]
      rfl
    · rw [if_neg (show ¬ ((ix2 y z : S4096x1024.Idx) 0).val = (word d3 n).toNat from fun e => h e.symm), if_neg h, add_zero]

variable (m : (ℓ : Loc nD τ sig) → Buf (Elt Ideal) ℓ) (ρ : Dev nD → PrngReg)

/-- The reference's result, of the kernel's own arguments. -/
abbrev goal (c : Dev nD) : Buf (Elt Ideal) ((c : Thread nD τ).loc main_v2) :=
  Cert.Reference10Ideal.Read.val_main_v23 (F := Ideal) (ROWS m c) (GATES m c) (YS m c) (XS m c) (MODS m c)

/-! ### What a point reads -/

theorem ys_at (c : Dev nD) (t : Fin cfg0.N) (s : Fin 512) (z : Fin 1024) :
    iblk m c 2 t (ix3 0 s z) = YS m c (ix3 (eOf t) (slotOf (bOf t) s) (zOf t z)) := by
  obtain ⟨⟨a0, a1, a2⟩, -⟩ := where_blocks t
  show V m c main_arg2 ((win0_2.rect t).emb (ix3 0 s z)) = _
  rw [V_main_arg2]
  refine congrArg (YS m c) ?_
  funext a; apply Fin.ext
  match a with
  | ⟨0, _⟩ => exact (win0_2.rect_emb_val t _ 0).trans (by rw [a0]; show t.val % 16 * 1 + 0 = t.val % 16; omega)
  | ⟨1, _⟩ => exact (win0_2.rect_emb_val t _ 1).trans (by rw [a1]; rfl)
  | ⟨2, _⟩ => exact (win0_2.rect_emb_val t _ 2).trans (by rw [a2]; rfl)

theorem xs_at (c : Dev nD) (t : Fin cfg0.N) (y : Fin 4096) (z : Fin 1024) :
    iblk m c 3 t (ix2 y z) = XS m c (ix2 (rowOf (bOf t) y) (zOf t z)) := by
  obtain ⟨-, ⟨a0, a1⟩, -⟩ := where_blocks t
  show V m c main_arg3 ((win0_3.rect t).emb (ix2 y z)) = _
  rw [V_main_arg3]
  refine congrArg (XS m c) ?_
  funext a; apply Fin.ext
  match a with
  | ⟨0, _⟩ => exact (win0_3.rect_emb_val t _ 0).trans (by rw [a0]; rfl)
  | ⟨1, _⟩ => exact (win0_3.rect_emb_val t _ 1).trans (by rw [a1]; rfl)

theorem mods_at (c : Dev nD) (t : Fin cfg0.N) (z : Fin 1024) :
    iblk m c 4 t (ix3 0 0 z) = MODS m c (ix3 (modOf (bOf t)) 0 (zOf t z)) := by
  obtain ⟨-, -, ⟨a0, a1, a2⟩, -⟩ := where_blocks t
  show V m c main_arg4 ((win0_4.rect t).emb (ix3 0 0 z)) = _
  rw [V_main_arg4]
  refine congrArg (MODS m c) ?_
  funext a; apply Fin.ext
  match a with
  | ⟨0, _⟩ => exact (win0_4.rect_emb_val t _ 0).trans (by rw [a0]; show ((1 + t.val / 16 / 2) * 6 + 5) * 1 + 0 = (1 + t.val / 16 / 2) * 6 + 5; omega)
  | ⟨1, _⟩ => exact win0_4.rect_emb_val_of_index_zero t 1 a1 _
  | ⟨2, _⟩ => exact (win0_4.rect_emb_val t _ 2).trans (by rw [a2]; rfl)

/-! ### What a point computes -/

/-- What an expert adds to a row of a point's block. -/
abbrev share (c : Dev nD) (b : Fin 8) (y : Fin 4096) (z : Fin 2048) (e : Fin 16) : EReal := part (ROWS m c) (GATES m c) (YS m c) b e y z

theorem addAt_apply (c : Dev nD) (t : Fin cfg0.N) (X : Vec Ideal S4096x1024 .f32) (y : Fin 4096) (z : Fin 1024) :
    (addAt m c t X (ix2 y z) : EReal) = (X (ix2 y z) : EReal) + share m c (bOf t) y (zOf t z) (eOf t) := by
  refine (fold_apply _ _ _ X y z 512).trans (congrArg (fun v : EReal => (X (ix2 y z) : EReal) + v) ?_)
  rw [Finset.sum_range]
  refine Finset.sum_congr rfl fun s _ => ?_
  rw [word_of, gate_of, yrow_apply _ s.val s.isLt, ys_at]
  have hs : (⟨s.val % 512, Nat.mod_lt _ (by decide)⟩ : Fin 512) = s := Fin.ext (by show s.val % 512 = s.val; omega)
  rw [hs]

/-- After a point: what the experts so far have added. -/
theorem acc_apply (c : Dev nD) : ∀ (n : ℕ) (t : Fin cfg0.N), t.val % 16 = n → ∀ (y : Fin 4096) (z : Fin 1024),
    (acc m c t.val t.isLt (ix2 y z) : EReal) = ∑ e ∈ Finset.univ.filter (fun e : Fin 16 => e.val ≤ n), share m c (bOf t) y (zOf t z) e := by
  intro n
  induction n with
  | zero =>
    intro t h y z
    rw [acc_first m c t h, addAt_apply, pay1_apply, zero_add]
    rw [show eOf t = 0 from Fin.ext h, show (Finset.univ.filter fun e : Fin 16 => e.val ≤ 0) = {0} by decide, Finset.sum_singleton]
  | succ n ih =>
    intro t h y z
    have hl : t.val - 1 < cfg0.N := Nat.lt_of_le_of_lt (Nat.sub_le _ _) t.isLt
    have i := ih ⟨t.val - 1, hl⟩ (by show (t.val - 1) % 16 = n; omega) y z
    rw [show bOf ⟨t.val - 1, hl⟩ = bOf t from Fin.ext (by show (t.val - 1) / 16 / 2 = t.val / 16 / 2; omega),
      show zOf ⟨t.val - 1, hl⟩ z = zOf t z from Fin.ext (by show (t.val - 1) / 16 % 2 * 1024 + z.val = t.val / 16 % 2 * 1024 + z.val; omega)] at i
    rw [acc_later m c t (by omega), addAt_apply]
    refine (congrArg (fun v : EReal => v + share m c (bOf t) y (zOf t z) (eOf t)) i).trans ?_
    have hn : n + 1 < 16 := by omega
    have he : eOf t = ⟨n + 1, hn⟩ := Fin.ext h
    have hset : (Finset.univ.filter fun e : Fin 16 => e.val ≤ n + 1) = insert (⟨n + 1, hn⟩ : Fin 16) (Finset.univ.filter fun e : Fin 16 => e.val ≤ n) := by
      ext e; simp only [Finset.mem_filter, Finset.mem_univ, true_and, Finset.mem_insert, Fin.ext_iff]; omega
    rw [he, hset, Finset.sum_insert (by simp), add_comm]

/-! ### The blocks a point writes -/

theorem flushed_eq (c : Dev nD) (t : Fin cfg0.N) (hf : (cfg0.win 5).flush t = true) :
    (dats m 0 c).flushed 5 t = ((cfg0.win 5).blk t).view.read (Elt Ideal) (goal m c) := by
  have h : t.val % 16 = 15 := (flush0_5 t).mp hf
  show (cfg0.win 5).cut (grid0.coords t) ((dats m 0 c).after 5 t) = _
  rw [after0_5_last m c t h]
  obtain ⟨-, -, -, a0, a1⟩ := where_blocks t
  funext (i : S4096x1024.Idx)
  obtain ⟨y, z, rfl⟩ : ∃ y z, i = ix2 y z := ⟨i 0, i 1, eq_ix2 i⟩
  show k0_pay4 (iblk m c 3 t) (iblk m c 4 t) (acc m c t.val t.isLt) (ix2 y z) = goal m c ((win0_5.rect t).emb (ix2 y z))
  have he : (win0_5.rect t).emb (ix2 y z) = ix2 (rowOf (bOf t) y) (zOf t z) := by
    funext a; apply Fin.ext
    match a with
    | ⟨0, _⟩ => exact (win0_5.rect_emb_val t _ 0).trans (by rw [a0]; rfl)
    | ⟨1, _⟩ => exact (win0_5.rect_emb_val t _ 1).trans (by rw [a1]; rfl)
  rw [he]
  refine (pay4_apply _ _ _ y z).trans (Eq.trans ?_ (Cert.Reference10Ideal.Combine.result_apply (ROWS m c) (GATES m c) (YS m c) (XS m c) (MODS m c) (bOf t) y (zOf t z)).symm)
  rw [acc_apply m c 15 t h y z, xs_at, mods_at, show (Finset.univ.filter fun e : Fin 16 => e.val ≤ 15) = Finset.univ by decide]

theorem mem_block (t : Fin cfg0.N) (i : S32768x2048.Idx) :
    i ∈ ((cfg0.win 5).blk t).view.set ↔ ∀ a, win0_5.index t a * win0_5.size a ≤ i a ∧ (i a : Nat) < win0_5.index t a * win0_5.size a + win0_5.size a := by
  show i ∈ ((View.whole main_v2).slice (win0_5.rect t)).set ↔ _
  rw [View.set_slice_whole, Rect.mem_set_unit]

theorem cover (i : S32768x2048.Idx) : ∃ t : Fin cfg0.N, (cfg0.win 5).flush t = true ∧ i ∈ ((cfg0.win 5).blk t).view.set := by
  have h0 : (i 0 : Nat) < 32768 := (i 0).isLt
  have h1 : (i 1 : Nat) < 2048 := (i 1).isLt
  have hN : cfg0.N = 256 := N_0
  refine ⟨⟨((i 0 : Nat) / 4096 * 2 + (i 1 : Nat) / 1024) * 16 + 15, by omega⟩, (flush0_5 _).mpr (by dsimp only; omega), ?_⟩
  obtain ⟨-, -, -, a0, a1⟩ := where_blocks ⟨((i 0 : Nat) / 4096 * 2 + (i 1 : Nat) / 1024) * 16 + 15, by omega⟩
  rw [mem_block]
  intro a
  match a with
  | ⟨0, _⟩ => show win0_5.index _ 0 * 4096 ≤ (i 0 : Nat) ∧ (i 0 : Nat) < win0_5.index _ 0 * 4096 + 4096
              rw [a0]; dsimp only; omega
  | ⟨1, _⟩ => show win0_5.index _ 1 * 1024 ≤ (i 1 : Nat) ∧ (i 1 : Nat) < win0_5.index _ 1 * 1024 + 1024
              rw [a1]; dsimp only; omega

theorem final (c : Dev nD) : (dats m 0 c).arrAt 5 cfg0.N = goal m c :=
  (dats m 0 c).arrAt_eq_of_cover 5 (goal m c) (fun t hf => flushed_eq m c t hf) cover

end Cert.Kernel10Ideal.Hand

namespace Cert.Proof

/-! ### The claims -/

section Same

variable {F : FTy → Type} [FloatOps F]

/-- The kernel as it is and the kernel at exact values are one program: the body table, and the launches over it. -/
theorem bodies10 : Cert.Kernel10.defs₀ (F := F) = Cert.Kernel10Ideal.defs₀ (F := F) := by
  refine congrArg Defs.onTc ?_
  funext l x
  match l, x with
  | 0, (t, s) => rfl
  | ⟨n + 1, h⟩, _ => exact absurd h (Nat.not_lt.2 (Nat.le_add_left _ _))
theorem table10 : Cert.Kernel10.defs (F := F) = Cert.Kernel10Ideal.defs (F := F) :=
  congrArg (Pipeline.defs (Cert.Kernel10Ideal.pcfgs (F := F))) bodies10

end Same

theorem frame10 : Cert.quiescent_Kernel10 := fun m ρ h => by
  rw [table10]
  exact Cert.Kernel10Ideal.Hand.frame (F := Bits) m ρ (Cert.Kernel10Ideal.Hand.inRange_of_pre m h)

theorem frame10Ideal : Cert.quiescent_Kernel10Ideal := fun m ρ h =>
  Cert.Kernel10Ideal.Hand.frame m ρ (Cert.Kernel10Ideal.Hand.inRange_of_pre m h)

open Cert.Kernel10Ideal Cert.Kernel10Ideal.Gen Cert.Kernel10Ideal.Hand in
theorem algebraic10 : Cert.algebraic_Kernel10Ideal_Reference10Ideal := fun m g m' g' hpre hagree =>
  ⟨fun c => Cert.Kernel10Ideal.Hand.goal m c,
    (θ_run _ _ _).mono (fun r h c => ⟨((h.1 c).1 5).trans (Cert.Kernel10Ideal.Hand.final m c), ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).1 2).trans (((dats m 0 c).arrAt_in 2 rfl _).trans ((A_eq m c 2).trans (V_main_arg2 m c))),
        ((h.1 c).1 3).trans (((dats m 0 c).arrAt_in 3 rfl _).trans ((A_eq m c 3).trans (V_main_arg3 m c))),
        ((h.1 c).1 4).trans (((dats m 0 c).arrAt_in 4 rfl _).trans ((A_eq m c 4).trans (V_main_arg4 m c)))⟩)
      (Cert.Kernel10Ideal.Hand.run_main_quiescent m g (Cert.Kernel10Ideal.Hand.inRange_of_pre m hpre)),
    (θ_run _ _ _).mono (fun r h c => ⟨(h c).1.trans (by
          rw [Cert.Reference10Ideal.Read.val_main_v23_eq, (hagree c).1, (hagree c).2.1, (hagree c).2.2.1, (hagree c).2.2.2.1, (hagree c).2.2.2.2]), (h c).2⟩)
      (Cert.Reference10Ideal.Value.run m' g')⟩

end Cert.Proof
-- ==== Proof.NormMod.lean ====
/- The norm before a layer's projection, with its modulation (program 11): a row over the root of its mean square, times the
   gain, times one plus the scale, plus the shift; scale and shift are rows of `mods`, one of each per batch row. A point owns
   256 rows of the result. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.Value
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx

namespace Cert.NormMod

/-- A row `x` normed, with gain `g`, scale `sc` and shift `sh`. -/
def modulated (x g sc sh : Fin 2048 → EReal) (d : Fin 2048) : EReal :=
  x d * Ideal.rsqrt (Ideal.div (∑ k, x k * x k) (Ideal.ofBits .f32 0x45000000#32) + Ideal.ofBits .f32 0x358637BD#32) * g d
    * (Ideal.ofBits .f32 0x3F800000#32 + sc d) + sh d

end Cert.NormMod

open Cert.NormMod

/-! ### What the reference computes -/

namespace Cert.Reference11Ideal.NormMod

open Cert.Reference11Ideal Cert.Reference11Ideal.Read

variable (x0 : (⟨S32768x2048, .f32⟩ : BufTy).Contents (Elt Ideal)) (x1 : (⟨S1x2048, .f32⟩ : BufTy).Contents (Elt Ideal))
  (x2 : (⟨S96x1x2048, .f32⟩ : BufTy).Contents (Elt Ideal))

/-- Row `y` of batch row `b`; the rows of `mods` that batch row reads. -/
abbrev rowOf (b : Fin 8) (y : Fin 4096) : Fin 32768 := ⟨b.val * 4096 + y.val, by omega⟩
abbrev shiftOf (b : Fin 8) : Fin 96 := ⟨(1 + b.val) * 6 + 0, by omega⟩
abbrev scaleOf (b : Fin 8) : Fin 96 := ⟨(1 + b.val) * 6 + 1, by omega⟩

theorem row_apply (b : Fin 8) (y : Fin 4096) (z : Fin 2048) : val_main_v8 (F := Ideal) x0 (ix3 b y z) = x0 (ix2 (rowOf b y) z) := by
  rw [val_main_v8_apply]
  refine congrArg x0 (funext fun a => Fin.ext ?_)
  match a with
  | ⟨0, _⟩ => show ((b.val * 4096 + y.val) * 2048 + z.val) / 2048 = b.val * 4096 + y.val; omega
  | ⟨1, _⟩ => show ((b.val * 4096 + y.val) * 2048 + z.val) % 2048 = z.val; omega

theorem squares_apply (b : Fin 8) (y : Fin 4096) :
    val_main_v11 (F := Ideal) x0 (ix2 b y) = ∑ k : Fin 2048, (x0 (ix2 (rowOf b y) k) : EReal) * x0 (ix2 (rowOf b y) k) := by
  rw [val_main_v11_apply]
  show (Ideal.ofBits .f32 0x00000000#32 : EReal) + _ = _
  rw [Ideal.ofBits_zero_f32, zero_add]
  refine Finset.sum_congr rfl fun k _ => ?_
  have hi : idx_main_v11 (ix2 b y) k = ix3 b y k := eq_ix3 _
  rw [hi, val_main_v10_apply, row_apply]
  rfl

theorem gain_apply (b : Fin 8) (y : Fin 4096) (z : Fin 2048) : val_main_v21 (F := Ideal) x1 (ix3 b y z) = x1 (ix2 0 z) := by
  rw [val_main_v21_apply, val_main_v20_apply, val_main_v9_apply]
  refine congrArg x1 (funext fun a => Fin.ext ?_)
  match a with
  | ⟨0, _⟩ => rfl
  | ⟨1, _⟩ => show z.val % 2048 = z.val; omega

theorem shift_apply (b : Fin 8) (y : Fin 4096) (z : Fin 2048) : val_main_v27 (F := Ideal) x2 (ix3 b y z) = x2 (ix3 (shiftOf b) 0 z) := by
  rw [val_main_v27_apply, val_main_v3_apply, val_main_v2_apply, val_main_v1_apply, val_main_v0_apply]
  refine congrArg x2 (funext fun a => Fin.ext ?_)
  match a with
  | ⟨0, _⟩ => show (((1 + (b.val * 2048 + z.val) / 2048) * 6 + 0) * 2048 + (b.val * 2048 + z.val) % 2048) / 2048 = (1 + b.val) * 6 + 0; omega
  | ⟨1, _⟩ => rfl
  | ⟨2, _⟩ => show (((1 + (b.val * 2048 + z.val) / 2048) * 6 + 0) * 2048 + (b.val * 2048 + z.val) % 2048) % 2048 = z.val; omega

theorem scale_apply (b : Fin 8) (z : Fin 2048) : val_main_v7 (F := Ideal) x2 (ix3 b 0 z) = x2 (ix3 (scaleOf b) 0 z) := by
  rw [val_main_v7_apply, val_main_v6_apply, val_main_v5_apply, val_main_v4_apply]
  refine congrArg x2 (funext fun a => Fin.ext ?_)
  match a with
  | ⟨0, _⟩ => show (((1 + (b.val * 2048 + z.val) / 2048) * 6 + (1 + 0)) * 2048 + (b.val * 2048 + z.val) % 2048) / 2048 = (1 + b.val) * 6 + 1; omega
  | ⟨1, _⟩ => rfl
  | ⟨2, _⟩ => show (((1 + (b.val * 2048 + z.val) / 2048) * 6 + (1 + 0)) * 2048 + (b.val * 2048 + z.val) % 2048) % 2048 = z.val; omega

/-- Row `y` of batch row `b` of the result. -/
theorem result_apply (b : Fin 8) (y : Fin 4096) (z : Fin 2048) :
    val_main_v30 (F := Ideal) x0 x1 x2 (ix2 (rowOf b y) z)
      = modulated (fun k => x0 (ix2 (rowOf b y) k)) (fun k => x1 (ix2 0 k)) (fun k => x2 (ix3 (scaleOf b) 0 k)) (fun k => x2 (ix3 (shiftOf b) 0 k)) z := by
  have hi : idx_main_v29 (ix2 (rowOf b y) z) = ix3 b y z := by
    funext a; apply Fin.ext
    match a with
    | ⟨0, _⟩ => show ((b.val * 4096 + y.val) * 2048 + z.val) / 8388608 = b.val; omega
    | ⟨1, _⟩ => show ((b.val * 4096 + y.val) * 2048 + z.val) / 2048 % 4096 = y.val; omega
    | ⟨2, _⟩ => show ((b.val * 4096 + y.val) * 2048 + z.val) % 2048 = z.val; omega
  have h25 : idx_main_v25 (ix3 b y z) = ix3 b 0 z := eq_ix3 _
  have h12 : idx_main_v12 (idx_main_v18 (ix3 b y z)) = ix2 b y := eq_ix2 _
  show val_main_v29 (F := Ideal) x0 x1 x2 (ix2 (rowOf b y) z) = _
  rw [val_main_v29_apply, hi, val_main_v28_apply, val_main_v26_apply, val_main_v22_apply, val_main_v19_apply, row_apply, gain_apply, shift_apply,
    val_main_v25_apply, h25, val_main_v24_apply, scale_apply, val_main_v18_apply, val_main_v17_apply, val_main_v16_apply, val_main_v14_apply,
    val_main_v12_apply, h12, squares_apply]
  rfl

end Cert.Reference11Ideal.NormMod

namespace Cert.Kernel11Ideal.NormMod

open Cert.Kernel11Ideal Cert.Kernel11Ideal.Gen
open Cert.Reference11Ideal.NormMod (rowOf shiftOf scaleOf)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The blocks of point `t`: rows `256 t` on, of batch row `t / 16`. -/
theorem where_blocks : ∀ t : Fin cfg0.N,
    (win0_0.index t 0 = t.val ∧ win0_0.index t 1 = 0) ∧ (win0_1.index t 0 = 0 ∧ win0_1.index t 1 = 0)
      ∧ (win0_2.index t 0 = (1 + t.val / 16) * 6 + 1 ∧ win0_2.index t 1 = 0 ∧ win0_2.index t 2 = 0)
      ∧ (win0_3.index t 0 = (1 + t.val / 16) * 6 + 0 ∧ win0_3.index t 1 = 0 ∧ win0_3.index t 2 = 0)
      ∧ (win0_4.index t 0 = t.val ∧ win0_4.index t 1 = 0) :=
  (by decide +kernel : ∀ t : Fin grid0.N, _)

theorem lt_N (t : Fin cfg0.N) : t.val < 128 := lt_of_lt_of_eq t.isLt N_0

/-- One row spread over the block. -/
theorem spread (g : Vec Ideal S1x2048 .f32) (i : Fin 256) (d : Fin 2048) : broadcastTo S256x2048 g broadcasts_S1x2048_S256x2048 (ix2 i d) = g (ix2 0 d) :=
  broadcastTo_apply _ broadcasts_S1x2048_S256x2048 (ix2 i d) (ix2 0 d) (by intro a; match a with | ⟨0, _⟩ => rfl | ⟨1, _⟩ => rfl)
theorem flat (g : Vec Ideal S1x1x2048 .f32) (d : Fin 2048) : shapeCast S1x2048 g shapeCasts_S1x1x2048_S1x2048 (ix2 0 d) = g (ix3 0 0 d) :=
  shapeCast_apply g shapeCasts_S1x1x2048_S1x2048 _ (ix3 0 0 d) (by rw [Shape.rowMajor_val_three, Shape.rowMajor_val_two]; rfl)

theorem rowSum (y : FVec Ideal S256x2048 .f32) (h) (h1) (h2) (i : Fin 256) :
    multiReduction (F := Ideal) .add [1] S256 y 0x00000000#32 h h1 h2 (ix1 i) = ∑ e : Fin 2048, y (ix2 i e) := by
  rw [Ideal.multiReduction_add_single]
  refine Finset.sum_congr rfl fun e _ => congrArg y ?_
  funext a
  match a with
  | ⟨0, _⟩ => rfl
  | ⟨1, _⟩ => rfl

/-- One block of the result at row `i`, column `d`. -/
theorem block_value (x : Vec Ideal S256x2048 .f32) (g : Vec Ideal S1x2048 .f32) (sc sh : Vec Ideal S1x1x2048 .f32) (i : Fin 256) (d : Fin 2048) :
    k0_pay1 (F := Ideal) x g sc sh (ix2 i d)
      = modulated (fun k => x (ix2 i k)) (fun k => g (ix2 0 k)) (fun k => sc (ix3 0 0 k)) (fun k => sh (ix3 0 0 k)) d := by
  show (x (ix2 i d) : EReal) * broadcastTo S256x2048 (fun z => Ideal.rsqrt (Ideal.div (shapeCast S256x1 (multiReduction (F := Ideal) .add [1] S256 (mulf (F := Ideal) (φ := .f32) x x) 0x00000000#32 reduces_S256x2048_S256 (.inl rfl) rfl) shapeCasts_S256_S256x1 z)
      (Ideal.ofBits .f32 0x45000000#32) + Ideal.ofBits .f32 0x358637BD#32)) broadcasts_S256x1_S256x2048 (ix2 i d)
      * broadcastTo S256x2048 g broadcasts_S1x2048_S256x2048 (ix2 i d)
      * broadcastTo S256x2048 (addf (F := Ideal) (φ := .f32) (broadcast S1x2048 (Ideal.ofBits .f32 0x3F800000#32 : Ideal .f32)) (shapeCast S1x2048 sc shapeCasts_S1x1x2048_S1x2048)) broadcasts_S1x2048_S256x2048 (ix2 i d)
      + broadcastTo S256x2048 (shapeCast S1x2048 sh shapeCasts_S1x1x2048_S1x2048) broadcasts_S1x2048_S256x2048 (ix2 i d) = _
  rw [spread, spread, spread, flat, broadcastTo_apply _ broadcasts_S256x1_S256x2048 (ix2 i d) (ix2 i 0) (by intro a; match a with | ⟨0, _⟩ => rfl | ⟨1, _⟩ => rfl),
    shapeCast_apply _ shapeCasts_S256_S256x1 (ix2 i 0) (ix1 i) (by rw [Shape.rowMajor_val_two, Shape.rowMajor_val_one]; show i.val = i.val * 1 + 0; omega)]
  show (x (ix2 i d) : EReal) * Ideal.rsqrt (Ideal.div _ _ + _) * g (ix2 0 d) * (Ideal.ofBits .f32 0x3F800000#32 + shapeCast S1x2048 sc shapeCasts_S1x1x2048_S1x2048 (ix2 0 d)) + _ = _
  rw [flat]
  exact congrArg (fun u : EReal => (x (ix2 i d) : EReal) * Ideal.rsqrt (Ideal.div u (Ideal.ofBits .f32 0x45000000#32) + Ideal.ofBits .f32 0x358637BD#32) * g (ix2 0 d)
    * (Ideal.ofBits .f32 0x3F800000#32 + sc (ix3 0 0 d)) + sh (ix3 0 0 d)) (rowSum (mulf (F := Ideal) (φ := .f32) x x) _ _ _ i)

variable (m : (ℓ : Loc nD τ sig) → Buf (Elt Ideal) ℓ) (ρ : Dev nD → PrngReg)

/-- The reference's result, of the kernel's own argument arrays. -/
abbrev goal (c : Dev nD) : Buf (Elt Ideal) ((c : Thread nD τ).loc main_v0) :=
  Cert.Reference11Ideal.Read.val_main_v30 (F := Ideal) (m ((c : Thread nD τ).loc main_arg0)) (m ((c : Thread nD τ).loc main_arg1)) (m ((c : Thread nD τ).loc main_arg2))

theorem flushed_eq (c : Dev nD) (t : Fin cfg0.N) :
    (dats m 0 c).flushed 4 t = ((cfg0.win 4).blk t).view.read (Elt Ideal) (goal m c) := by
  rw [Value.flushed4]
  unfold out0_4
  rw [View.canon_unit_zero zeros2, View.ld_unit_zero zeros2, View.ld_unit_zero zeros2, View.ld_unit_zero zeros3, View.ld_unit_zero zeros3]
  obtain ⟨⟨a0, a1⟩, ⟨b0, b1⟩, ⟨c0, c1, c2⟩, ⟨d0, d1, d2⟩, o0, o1⟩ := where_blocks t
  funext (y : S256x2048.Idx)
  obtain ⟨r, n, rfl⟩ : ∃ r n, y = ix2 r n := ⟨y 0, y 1, eq_ix2 y⟩
  have ht := lt_N t
  have hb : t.val / 16 < 8 := by omega
  have hy : t.val % 16 * 256 + r.val < 4096 := by omega
  refine (block_value (iblk m c 0 t) (iblk m c 1 t) (iblk m c 2 t) (iblk m c 3 t) r n).trans ?_
  show _ = Cert.Reference11Ideal.Read.val_main_v30 (F := Ideal) _ _ _ ((win0_4.rect t).emb (ix2 r n))
  have eo : (win0_4.rect t).emb (ix2 r n) = ix2 (rowOf ⟨t.val / 16, hb⟩ ⟨t.val % 16 * 256 + r.val, hy⟩) n := by
    funext a; apply Fin.ext
    match a with
    | ⟨0, _⟩ => exact (win0_4.rect_emb_val t _ 0).trans (by rw [o0]; show t.val * 256 + r.val = t.val / 16 * 4096 + (t.val % 16 * 256 + r.val); omega)
    | ⟨1, _⟩ => exact win0_4.rect_emb_val_of_index_zero t 1 o1 _
  rw [eo, Cert.Reference11Ideal.NormMod.result_apply]
  have e0 : ∀ k : Fin 2048, (win0_0.rect t).emb (ix2 r k) = ix2 (rowOf ⟨t.val / 16, hb⟩ ⟨t.val % 16 * 256 + r.val, hy⟩) k := fun k => by
    funext a; apply Fin.ext
    match a with
    | ⟨0, _⟩ => exact (win0_0.rect_emb_val t _ 0).trans (by rw [a0]; show t.val * 256 + r.val = t.val / 16 * 4096 + (t.val % 16 * 256 + r.val); omega)
    | ⟨1, _⟩ => exact win0_0.rect_emb_val_of_index_zero t 1 a1 _
  have e1 : ∀ k : Fin 2048, (win0_1.rect t).emb (ix2 0 k) = ix2 0 k := fun k => by
    funext a; apply Fin.ext
    match a with
    | ⟨0, _⟩ => exact win0_1.rect_emb_val_of_index_zero t 0 b0 _
    | ⟨1, _⟩ => exact win0_1.rect_emb_val_of_index_zero t 1 b1 _
  have e2 : ∀ k : Fin 2048, (win0_2.rect t).emb (ix3 0 0 k) = ix3 (scaleOf ⟨t.val / 16, hb⟩) 0 k := fun k => by
    funext a; apply Fin.ext
    match a with
    | ⟨0, _⟩ => exact (win0_2.rect_emb_val t _ 0).trans (by rw [c0]; show ((1 + t.val / 16) * 6 + 1) * 1 + 0 = (1 + t.val / 16) * 6 + 1; omega)
    | ⟨1, _⟩ => exact win0_2.rect_emb_val_of_index_zero t 1 c1 _
    | ⟨2, _⟩ => exact win0_2.rect_emb_val_of_index_zero t 2 c2 _
  have e3 : ∀ k : Fin 2048, (win0_3.rect t).emb (ix3 0 0 k) = ix3 (shiftOf ⟨t.val / 16, hb⟩) 0 k := fun k => by
    funext a; apply Fin.ext
    match a with
    | ⟨0, _⟩ => exact (win0_3.rect_emb_val t _ 0).trans (by rw [d0]; show ((1 + t.val / 16) * 6 + 0) * 1 + 0 = (1 + t.val / 16) * 6 + 0; omega)
    | ⟨1, _⟩ => exact win0_3.rect_emb_val_of_index_zero t 1 d1 _
    | ⟨2, _⟩ => exact win0_3.rect_emb_val_of_index_zero t 2 d2 _
  have f0 : (fun k : Fin 2048 => iblk m c 0 t (ix2 r k)) = fun k => m ((c : Thread nD τ).loc main_arg0) (ix2 (rowOf ⟨t.val / 16, hb⟩ ⟨t.val % 16 * 256 + r.val, hy⟩) k) :=
    funext fun k => congrArg (m ((c : Thread nD τ).loc main_arg0)) (e0 k)
  have f1 : (fun k : Fin 2048 => iblk m c 1 t (ix2 0 k)) = fun k => m ((c : Thread nD τ).loc main_arg1) (ix2 0 k) :=
    funext fun k => congrArg (m ((c : Thread nD τ).loc main_arg1)) (e1 k)
  have f2 : (fun k : Fin 2048 => iblk m c 2 t (ix3 0 0 k)) = fun k => m ((c : Thread nD τ).loc main_arg2) (ix3 (scaleOf ⟨t.val / 16, hb⟩) 0 k) :=
    funext fun k => congrArg (m ((c : Thread nD τ).loc main_arg2)) (e2 k)
  have f3 : (fun k : Fin 2048 => iblk m c 3 t (ix3 0 0 k)) = fun k => m ((c : Thread nD τ).loc main_arg2) (ix3 (shiftOf ⟨t.val / 16, hb⟩) 0 k) :=
    funext fun k => congrArg (m ((c : Thread nD τ).loc main_arg2)) (e3 k)
  rw [f0, f1, f2, f3]

theorem mem_block (t : Fin cfg0.N) (i : S32768x2048.Idx) :
    i ∈ ((cfg0.win 4).blk t).view.set ↔ ∀ a, win0_4.index t a * win0_4.size a ≤ i a ∧ (i a : Nat) < win0_4.index t a * win0_4.size a + win0_4.size a := by
  show i ∈ ((View.whole main_v0).slice (win0_4.rect t)).set ↔ _
  rw [View.set_slice_whole, Rect.mem_set_unit]

theorem cover (i : S32768x2048.Idx) : ∃ t : Fin cfg0.N, (cfg0.win 4).flush t = true ∧ i ∈ ((cfg0.win 4).blk t).view.set := by
  have h0 : (i 0 : Nat) < 32768 := (i 0).isLt
  have h1 : (i 1 : Nat) < 2048 := (i 1).isLt
  have hN : cfg0.N = 128 := N_0
  refine ⟨⟨(i 0 : Nat) / 256, by omega⟩, flush0_4 _, ?_⟩
  obtain ⟨-, -, -, -, o0, o1⟩ := where_blocks ⟨(i 0 : Nat) / 256, by omega⟩
  rw [mem_block]
  intro a
  match a with
  | ⟨0, _⟩ => show win0_4.index _ 0 * 256 ≤ (i 0 : Nat) ∧ (i 0 : Nat) < win0_4.index _ 0 * 256 + 256
              rw [o0]; dsimp only; omega
  | ⟨1, _⟩ => show win0_4.index _ 1 * 2048 ≤ (i 1 : Nat) ∧ (i 1 : Nat) < win0_4.index _ 1 * 2048 + 2048
              rw [o1]; omega

/-- After the run the result array is the reference's. -/
theorem final (c : Dev nD) : (dats m 0 c).arrAt 4 cfg0.N = goal m c :=
  (dats m 0 c).arrAt_eq_of_cover 4 (goal m c) (fun t _ => flushed_eq m c t) cover

end Cert.Kernel11Ideal.NormMod

namespace Cert.Proof

theorem algebraic11 : Cert.algebraic_Kernel11Ideal_Reference11Ideal := fun m g m' g' _ hagree =>
  ⟨fun c => Cert.Kernel11Ideal.NormMod.goal m c,
    (θ_run _ _ _).mono (fun r h c => ⟨(h c).1.trans (Cert.Kernel11Ideal.NormMod.final m c), (h c).2⟩)
      (Cert.Kernel11Ideal.Value.run_blocks m g),
    (θ_run _ _ _).mono (fun r h c => ⟨(h c).1.trans (by
        rw [(hagree c).1, (hagree c).2.1, (hagree c).2.2, Cert.Reference11Ideal.Read.val_main_v30_eq]), (h c).2⟩)
      (Cert.Reference11Ideal.Value.run m' g')⟩

end Cert.Proof
-- ==== Proof.HyenaPost.lean ====
/- The end of the hyena (program 12): the input's gate times the convolution plus the biased input. The convolution arrives
   channel first; a point owns one batch row and 128 channels of the result. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.Value
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx

/-! ### What the reference computes -/

namespace Cert.Reference12Ideal.HyenaPost

open Cert.Reference12Ideal Cert.Reference12Ideal.Read

variable (x0 : (⟨S1024x1x8192, .f32⟩ : BufTy).Contents (Elt Ideal)) (x1 x2 : (⟨S8192x1024, .f32⟩ : BufTy).Contents (Elt Ideal))
  (x3 : (⟨S1024, .f32⟩ : BufTy).Contents (Elt Ideal))

/-- Position `y` of batch row `b`. -/
abbrev rowOf (b : Fin 32) (y : Fin 256) : Fin 8192 := ⟨b.val * 256 + y.val, by omega⟩

theorem conv_apply (b : Fin 32) (y : Fin 256) (z : Fin 1024) : val_main_v2 (F := Ideal) x0 (ix3 b y z) = x0 (ix3 z 0 (rowOf b y)) := by
  rw [val_main_v2_apply, val_main_v1_apply, val_main_v0_apply]
  refine congrArg x0 (funext fun a => Fin.ext ?_)
  have e0 : ((b.val * 256 + y.val) * 1024 + z.val) / 262144 = b.val := by omega
  have e1 : ((b.val * 256 + y.val) * 1024 + z.val) / 1024 % 256 = y.val := by omega
  have e2 : ((b.val * 256 + y.val) * 1024 + z.val) % 1024 = z.val := by omega
  match a with
  | ⟨0, _⟩ => show (((((b.val * 256 + y.val) * 1024 + z.val) % 1024 * 1 + 0) * 32 + ((b.val * 256 + y.val) * 1024 + z.val) / 262144) * 256 + ((b.val * 256 + y.val) * 1024 + z.val) / 1024 % 256) / 8192 = z.val
              rw [e0, e1, e2]; omega
  | ⟨1, _⟩ => rfl
  | ⟨2, _⟩ => show (((((b.val * 256 + y.val) * 1024 + z.val) % 1024 * 1 + 0) * 32 + ((b.val * 256 + y.val) * 1024 + z.val) / 262144) * 256 + ((b.val * 256 + y.val) * 1024 + z.val) / 1024 % 256) % 8192 = b.val * 256 + y.val
              rw [e0, e1, e2]; omega

theorem gate_apply (b : Fin 32) (y : Fin 256) (z : Fin 1024) : val_main_v3 (F := Ideal) x1 (ix3 b y z) = x1 (ix2 (rowOf b y) z) := by
  rw [val_main_v3_apply]
  refine congrArg x1 (funext fun a => Fin.ext ?_)
  match a with
  | ⟨0, _⟩ => show ((b.val * 256 + y.val) * 1024 + z.val) / 1024 = b.val * 256 + y.val; omega
  | ⟨1, _⟩ => show ((b.val * 256 + y.val) * 1024 + z.val) % 1024 = z.val; omega

theorem input_apply (b : Fin 32) (y : Fin 256) (z : Fin 1024) : val_main_v4 (F := Ideal) x2 (ix3 b y z) = x2 (ix2 (rowOf b y) z) := by
  rw [val_main_v4_apply]
  refine congrArg x2 (funext fun a => Fin.ext ?_)
  match a with
  | ⟨0, _⟩ => show ((b.val * 256 + y.val) * 1024 + z.val) / 1024 = b.val * 256 + y.val; omega
  | ⟨1, _⟩ => show ((b.val * 256 + y.val) * 1024 + z.val) % 1024 = z.val; omega

theorem bias_apply (b : Fin 32) (y : Fin 256) (z : Fin 1024) : val_main_v6 (F := Ideal) x3 (ix3 b y z) = x3 (ix1 z) := by
  rw [val_main_v6_apply, val_main_v5_apply]
  exact congrArg x3 (funext fun a => match a with | ⟨0, _⟩ => rfl)

/-- Position `y` of batch row `b` of the result. -/
theorem result_apply (b : Fin 32) (y : Fin 256) (z : Fin 1024) :
    (val_main_v11 (F := Ideal) x0 x1 x2 x3 (ix2 (rowOf b y) z) : EReal)
      = x1 (ix2 (rowOf b y) z) * (x0 (ix3 z 0 (rowOf b y)) + x2 (ix2 (rowOf b y) z) * x3 (ix1 z)) := by
  have hi : idx_main_v10 (ix2 (rowOf b y) z) = ix3 b y z := by
    funext a; apply Fin.ext
    match a with
    | ⟨0, _⟩ => show ((b.val * 256 + y.val) * 1024 + z.val) / 262144 = b.val; omega
    | ⟨1, _⟩ => show ((b.val * 256 + y.val) * 1024 + z.val) / 1024 % 256 = y.val; omega
    | ⟨2, _⟩ => show ((b.val * 256 + y.val) * 1024 + z.val) % 1024 = z.val; omega
  show val_main_v10 (F := Ideal) x0 x1 x2 x3 (ix2 (rowOf b y) z) = _
  rw [val_main_v10_apply, hi, val_main_v9_apply, val_main_v8_apply, val_main_v7_apply, conv_apply, gate_apply, input_apply, bias_apply]
  rfl

end Cert.Reference12Ideal.HyenaPost

namespace Cert.Kernel12Ideal.HyenaPost

open Cert.Kernel12Ideal Cert.Kernel12Ideal.Gen
open Cert.Reference12Ideal.HyenaPost (rowOf)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The blocks of point `t`: batch row `t / 8`, channels `128 (t % 8)` on. -/
theorem where_blocks : ∀ t : Fin cfg0.N,
    (win0_0.index t 0 = t.val % 8 ∧ win0_0.index t 1 = 0 ∧ win0_0.index t 2 = t.val / 8)
      ∧ (win0_1.index t 0 = t.val / 8 ∧ win0_1.index t 1 = t.val % 8) ∧ (win0_2.index t 0 = t.val / 8 ∧ win0_2.index t 1 = t.val % 8)
      ∧ (win0_3.index t 0 = 0 ∧ win0_3.index t 1 = t.val % 8) ∧ (win0_4.index t 0 = t.val / 8 ∧ win0_4.index t 1 = t.val % 8) :=
  (by decide +kernel : ∀ t : Fin grid0.N, _)

theorem lt_N (t : Fin cfg0.N) : t.val < 256 := lt_of_lt_of_eq t.isLt N_0

/-- One block of the result at row `i`, channel `d`. -/
theorem block_value (y : Vec Ideal S128x1x256 .f32) (g z : Vec Ideal S256x128 .f32) (b : Vec Ideal S1x128 .f32) (i : Fin 256) (d : Fin 128) :
    (k0_pay1 (F := Ideal) y g z b (ix2 i d) : EReal) = g (ix2 i d) * (y (ix3 d 0 i) + z (ix2 i d) * b (ix2 0 d)) := by
  show (g (ix2 i d) : EReal) * (transpose S256x128 [1, 0] (shapeCast S128x256 y shapeCasts_S128x1x256_S128x256) transposes_S128x256_p1_0_S256x128 (ix2 i d)
    + z (ix2 i d) * broadcastTo S256x128 (shapeCast S1x128 b shapeCasts_S1x128_S1x128) broadcasts_S1x128_S256x128 (ix2 i d)) = _
  rw [broadcastTo_apply _ broadcasts_S1x128_S256x128 (ix2 i d) (ix2 0 d) (by intro a; match a with | ⟨0, _⟩ => rfl | ⟨1, _⟩ => rfl),
    shapeCast_apply b shapeCasts_S1x128_S1x128 (ix2 0 d) (ix2 0 d) rfl,
    transpose_apply [1, 0] _ transposes_S128x256_p1_0_S256x128 (ix2 i d) (ix2 d i) (by intro a; match a with | ⟨0, _⟩ => rfl | ⟨1, _⟩ => rfl),
    shapeCast_apply y shapeCasts_S128x1x256_S128x256 (ix2 d i) (ix3 d 0 i)
      (by rw [Shape.rowMajor_val_three, Shape.rowMajor_val_two]; show (d.val * 1 + 0) * 256 + i.val = d.val * 256 + i.val; omega)]

variable (m : (ℓ : Loc nD τ sig) → Buf (Elt Ideal) ℓ) (ρ : Dev nD → PrngReg)

/-- The reference's result, of the kernel's own argument arrays. -/
abbrev goal (c : Dev nD) : Buf (Elt Ideal) ((c : Thread nD τ).loc main_v1) :=
  Cert.Reference12Ideal.Read.val_main_v11 (F := Ideal) (m ((c : Thread nD τ).loc main_arg0)) (m ((c : Thread nD τ).loc main_arg1))
    (m ((c : Thread nD τ).loc main_arg2)) (m ((c : Thread nD τ).loc main_arg3))

/-- The bias as the call takes it. -/
theorem bias_row (c : Dev nD) (d : Fin 1024) : V m c main_v0 (ix2 0 d) = m ((c : Thread nD τ).loc main_arg3) (ix1 d) := by
  have e : V m c main_v0 = broadcastInDim S1x1024 ![1] bcast_S1024_S1x1024_1 (m ((c : Thread nD τ).loc main_arg3)) := rfl
  rw [e]
  exact broadcastInDim_apply _ _ _ _ _ (by intro a; match a with | ⟨0, _⟩ => rfl)

theorem flushed_eq (c : Dev nD) (t : Fin cfg0.N) :
    (dats m 0 c).flushed 4 t = ((cfg0.win 4).blk t).view.read (Elt Ideal) (goal m c) := by
  rw [Value.flushed4]
  unfold out0_4
  rw [View.canon_unit_zero zeros2, View.ld_unit_zero zeros3, View.ld_unit_zero zeros2, View.ld_unit_zero zeros2, View.ld_unit_zero zeros2]
  obtain ⟨⟨a0, a1, a2⟩, ⟨b0, b1⟩, ⟨c0, c1⟩, ⟨d0, d1⟩, o0, o1⟩ := where_blocks t
  funext (y : S256x128.Idx)
  obtain ⟨r, n, rfl⟩ : ∃ r n, y = ix2 r n := ⟨y 0, y 1, eq_ix2 y⟩
  have ht := lt_N t
  have hb : t.val / 8 < 32 := by omega
  have hn : t.val % 8 * 128 + n.val < 1024 := by omega
  refine (block_value (iblk m c 0 t) (iblk m c 1 t) (iblk m c 2 t) (iblk m c 3 t) r n).trans ?_
  show _ = Cert.Reference12Ideal.Read.val_main_v11 (F := Ideal) _ _ _ _ ((win0_4.rect t).emb (ix2 r n))
  have eo : (win0_4.rect t).emb (ix2 r n) = ix2 (rowOf ⟨t.val / 8, hb⟩ r) ⟨t.val % 8 * 128 + n.val, hn⟩ := by
    funext a; apply Fin.ext
    match a with
    | ⟨0, _⟩ => exact (win0_4.rect_emb_val t _ 0).trans (by rw [o0]; rfl)
    | ⟨1, _⟩ => exact (win0_4.rect_emb_val t _ 1).trans (by rw [o1]; rfl)
  rw [eo, Cert.Reference12Ideal.HyenaPost.result_apply]
  have e0 : (win0_0.rect t).emb (ix3 n 0 r) = ix3 ⟨t.val % 8 * 128 + n.val, hn⟩ 0 (rowOf ⟨t.val / 8, hb⟩ r) := by
    funext a; apply Fin.ext
    match a with
    | ⟨0, _⟩ => exact (win0_0.rect_emb_val t _ 0).trans (by rw [a0]; rfl)
    | ⟨1, _⟩ => exact win0_0.rect_emb_val_of_index_zero t 1 a1 _
    | ⟨2, _⟩ => exact (win0_0.rect_emb_val t _ 2).trans (by rw [a2]; rfl)
  have e1 : (win0_1.rect t).emb (ix2 r n) = ix2 (rowOf ⟨t.val / 8, hb⟩ r) ⟨t.val % 8 * 128 + n.val, hn⟩ := by
    funext a; apply Fin.ext
    match a with
    | ⟨0, _⟩ => exact (win0_1.rect_emb_val t _ 0).trans (by rw [b0]; rfl)
    | ⟨1, _⟩ => exact (win0_1.rect_emb_val t _ 1).trans (by rw [b1]; rfl)
  have e2 : (win0_2.rect t).emb (ix2 r n) = ix2 (rowOf ⟨t.val / 8, hb⟩ r) ⟨t.val % 8 * 128 + n.val, hn⟩ := by
    funext a; apply Fin.ext
    match a with
    | ⟨0, _⟩ => exact (win0_2.rect_emb_val t _ 0).trans (by rw [c0]; rfl)
    | ⟨1, _⟩ => exact (win0_2.rect_emb_val t _ 1).trans (by rw [c1]; rfl)
  have e3 : (win0_3.rect t).emb (ix2 0 n) = ix2 0 ⟨t.val % 8 * 128 + n.val, hn⟩ := by
    funext a; apply Fin.ext
    match a with
    | ⟨0, _⟩ => exact win0_3.rect_emb_val_of_index_zero t 0 d0 _
    | ⟨1, _⟩ => exact (win0_3.rect_emb_val t _ 1).trans (by rw [d1]; rfl)
  have f0 : iblk m c 0 t (ix3 n 0 r) = m ((c : Thread nD τ).loc main_arg0) (ix3 ⟨t.val % 8 * 128 + n.val, hn⟩ 0 (rowOf ⟨t.val / 8, hb⟩ r)) :=
    (congrArg (V m c main_arg0) e0).trans (congrFun (V_main_arg0 m c) _)
  have f1 : iblk m c 1 t (ix2 r n) = m ((c : Thread nD τ).loc main_arg1) (ix2 (rowOf ⟨t.val / 8, hb⟩ r) ⟨t.val % 8 * 128 + n.val, hn⟩) :=
    (congrArg (V m c main_arg1) e1).trans (congrFun (V_main_arg1 m c) _)
  have f2 : iblk m c 2 t (ix2 r n) = m ((c : Thread nD τ).loc main_arg2) (ix2 (rowOf ⟨t.val / 8, hb⟩ r) ⟨t.val % 8 * 128 + n.val, hn⟩) :=
    (congrArg (V m c main_arg2) e2).trans (congrFun (V_main_arg2 m c) _)
  have f3 : iblk m c 3 t (ix2 0 n) = m ((c : Thread nD τ).loc main_arg3) (ix1 ⟨t.val % 8 * 128 + n.val, hn⟩) :=
    (congrArg (V m c main_v0) e3).trans (bias_row m c _)
  rw [f0, f1, f2, f3]

theorem mem_block (t : Fin cfg0.N) (i : S8192x1024.Idx) :
    i ∈ ((cfg0.win 4).blk t).view.set ↔ ∀ a, win0_4.index t a * win0_4.size a ≤ i a ∧ (i a : Nat) < win0_4.index t a * win0_4.size a + win0_4.size a := by
  show i ∈ ((View.whole main_v1).slice (win0_4.rect t)).set ↔ _
  rw [View.set_slice_whole, Rect.mem_set_unit]

theorem cover (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : cfg0.N = 256 := N_0
  refine ⟨⟨(i 0 : Nat) / 256 * 8 + (i 1 : Nat) / 128, by omega⟩, flush0_4 _, ?_⟩
  obtain ⟨-, -, -, -, o0, o1⟩ := where_blocks ⟨(i 0 : Nat) / 256 * 8 + (i 1 : Nat) / 128, by omega⟩
  rw [mem_block]
  intro a
  match a with
  | ⟨0, _⟩ => show win0_4.index _ 0 * 256 ≤ (i 0 : Nat) ∧ (i 0 : Nat) < win0_4.index _ 0 * 256 + 256
              rw [o0]; dsimp only; omega
  | ⟨1, _⟩ => show win0_4.index _ 1 * 128 ≤ (i 1 : Nat) ∧ (i 1 : Nat) < win0_4.index _ 1 * 128 + 128
              rw [o1]; dsimp only; omega

/-- After the run the result array is the reference's. -/
theorem final (c : Dev nD) : (dats m 0 c).arrAt 4 cfg0.N = goal m c :=
  (dats m 0 c).arrAt_eq_of_cover 4 (goal m c) (fun t _ => flushed_eq m c t) cover

end Cert.Kernel12Ideal.HyenaPost

namespace Cert.Proof

theorem algebraic12 : Cert.algebraic_Kernel12Ideal_Reference12Ideal := fun m g m' g' _ hagree =>
  ⟨fun c => Cert.Kernel12Ideal.HyenaPost.goal m c,
    (θ_run _ _ _).mono (fun r h c => ⟨(h c).1.trans (Cert.Kernel12Ideal.HyenaPost.final m c), (h c).2⟩)
      (Cert.Kernel12Ideal.Value.run_blocks m g),
    (θ_run _ _ _).mono (fun r h c => ⟨(h c).1.trans (by
        rw [(hagree c).1, (hagree c).2.1, (hagree c).2.2.1, (hagree c).2.2.2, Cert.Reference12Ideal.Read.val_main_v11_eq]), (h c).2⟩)
      (Cert.Reference12Ideal.Value.run m' g')⟩

end Cert.Proof
-- ==== Proof.HyenaPre.lean ====
/- The start of the hyena (program 13): a centred convolution of width three over the positions of a batch row, on each
   channel of three groups; the product of the last group with the first leaves twice, once channel first, and the middle
   group leaves as it is. A point owns one batch row and 128 channels of each group. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.Value
public import Idealize.ShloMosaic.Lib.ValueIdx
public import Idealize.ShloMosaic.Lib.KernelVsHost

@[expose] public section

noncomputable section

open Idealize.ShloMosaic Idealize.ShloMosaic.TcCoe Idealize.SL.Sem
open Idealize.ShloMosaic.Pipeline (Dat)
open Idealize.ShloMosaic.ValueIdx

namespace Cert.HyenaPre

/-- The position before and the position after, zero outside the row. -/
def before (u : Fin 256 → EReal) (i : Fin 256) : EReal := if i.val = 0 then 0 else u ⟨i.val - 1, by omega⟩
def after (u : Fin 256 → EReal) (i : Fin 256) : EReal := if h : i.val + 1 < 256 then u ⟨i.val + 1, h⟩ else 0

/-- The convolution of one channel `u` with weights `a`, `b`, `d` and bias `e`. -/
def conv (u : Fin 256 → EReal) (a b d e : EReal) (i : Fin 256) : EReal := before u i * a + u i * b + after u i * d + e

end Cert.HyenaPre

open Cert.HyenaPre

/-! ### What the reference computes -/

namespace Cert.Reference13Ideal.HyenaPre

open Cert.Reference13Ideal Cert.Reference13Ideal.Read

variable (x0 : (⟨S8192x4608, .f32⟩ : BufTy).Contents (Elt Ideal)) (x1 : (⟨S3x3072, .f32⟩ : BufTy).Contents (Elt Ideal))
  (x2 : (⟨S3072, .f32⟩ : BufTy).Contents (Elt Ideal))

/-- Position `y` of batch row `b`; channel `z` of group `g`; that channel among the projection's columns. -/
abbrev rowOf (b : Fin 32) (y : Fin 256) : Fin 8192 := ⟨b.val * 256 + y.val, by omega⟩
abbrev chan (g : Fin 3) (z : Fin 1024) : Fin 3072 := ⟨g.val * 1024 + z.val, by omega⟩
abbrev wide (z : Fin 3072) : Fin 4608 := ⟨z.val, by omega⟩

/-- The convolution of channel `z` of batch row `b` at position `y`. -/
def convAt (b : Fin 32) (y : Fin 256) (z : Fin 3072) : EReal :=
  conv (fun k => x0 (ix2 (rowOf b k) (wide z))) (x1 (ix2 0 z)) (x1 (ix2 1 z)) (x1 (ix2 2 z)) (x2 (ix1 z)) y

theorem row_apply (b : Fin 32) (y : Fin 256) (z : Fin 3072) : val_main_v1 (F := Ideal) x0 (ix3 b y z) = x0 (ix2 (rowOf b y) (wide z)) := by
  rw [val_main_v1_apply, val_main_v0_apply]
  refine congrArg x0 (funext fun a => Fin.ext ?_)
  match a with
  | ⟨0, _⟩ => show ((b.val * 256 + y.val) * 4608 + z.val) / 4608 = b.val * 256 + y.val; omega
  | ⟨1, _⟩ => show ((b.val * 256 + y.val) * 4608 + z.val) % 4608 = z.val; omega

theorem padding (i : S_.Idx) : (val_main_call0_v0 (F := Ideal) i : EReal) = 0 := sitofp_zero (φ := .f32)

theorem before_apply (b : Fin 32) (y : Fin 256) (z : Fin 3072) :
    (val_main_v3 (F := Ideal) x0 (ix3 b y z) : EReal) = before (fun k => x0 (ix2 (rowOf b k) (wide z))) y := by
  rw [val_main_v3_apply]
  unfold val_main_v2 before
  by_cases h : y.val = 0
  · rw [if_pos h, pad_apply_of_not_inside _ _ _ _ _ _ _ _ (1 : Fin 3) (by
      intro hh
      have h1 : 1 ≤ y.val := hh.1
      omega)]
    exact padding _
  · rw [if_neg h, pad_apply_of_inside _ _ _ _ _ _ _ _ (ix3 b ⟨y.val - 1, by omega⟩ z) (by
      intro a
      match a with
      | ⟨0, _⟩ => show b.val = 0 + b.val * (0 + 1); omega
      | ⟨1, _⟩ => show y.val = 1 + (y.val - 1) * (0 + 1); omega
      | ⟨2, _⟩ => show z.val = 0 + z.val * (0 + 1); omega)]
    exact row_apply x0 b _ z

theorem after_apply (b : Fin 32) (y : Fin 256) (z : Fin 3072) :
    (val_main_v15 (F := Ideal) x0 (ix3 b y z) : EReal) = after (fun k => x0 (ix2 (rowOf b k) (wide z))) y := by
  rw [val_main_v15_apply]
  unfold val_main_v2 after
  by_cases h : y.val + 1 < 256
  · rw [dif_pos h, pad_apply_of_inside _ _ _ _ _ _ _ _ (ix3 b ⟨y.val + 1, h⟩ z) (by
      intro a
      match a with
      | ⟨0, _⟩ => show b.val = 0 + b.val * (0 + 1); omega
      | ⟨1, _⟩ => show 2 + y.val = 1 + (y.val + 1) * (0 + 1); omega
      | ⟨2, _⟩ => show z.val = 0 + z.val * (0 + 1); omega)]
    exact row_apply x0 b _ z
  · rw [dif_neg h, pad_apply_of_not_inside _ _ _ _ _ _ _ _ (1 : Fin 3) (by
      intro hh
      have h1 : (2 + y.val - 1) / (0 + 1) < 256 := hh.2.2
      omega)]
    exact padding _

theorem weight0_apply (b : Fin 32) (y : Fin 256) (z : Fin 3072) : val_main_v7 (F := Ideal) x1 (ix3 b y z) = x1 (ix2 0 z) := by
  rw [val_main_v7_apply, val_main_v6_apply, val_main_v5_apply, val_main_v4_apply]
  refine congrArg x1 (funext fun a => Fin.ext ?_)
  match a with
  | ⟨0, _⟩ => rfl
  | ⟨1, _⟩ => show z.val % 3072 = z.val; omega

theorem weight1_apply (b : Fin 32) (y : Fin 256) (z : Fin 3072) : val_main_v12 (F := Ideal) x1 (ix3 b y z) = x1 (ix2 1 z) := by
  rw [val_main_v12_apply, val_main_v11_apply, val_main_v10_apply, val_main_v9_apply]
  refine congrArg x1 (funext fun a => Fin.ext ?_)
  match a with
  | ⟨0, _⟩ => rfl
  | ⟨1, _⟩ => show z.val % 3072 = z.val; omega

theorem weight2_apply (b : Fin 32) (y : Fin 256) (z : Fin 3072) : val_main_v19 (F := Ideal) x1 (ix3 b y z) = x1 (ix2 2 z) := by
  rw [val_main_v19_apply, val_main_v18_apply, val_main_v17_apply, val_main_v16_apply]
  refine congrArg x1 (funext fun a => Fin.ext ?_)
  match a with
  | ⟨0, _⟩ => rfl
  | ⟨1, _⟩ => show z.val % 3072 = z.val; omega

theorem bias_apply (b : Fin 32) (y : Fin 256) (z : Fin 3072) : val_main_v23 (F := Ideal) x2 (ix3 b y z) = x2 (ix1 z) := by
  rw [val_main_v23_apply, val_main_v22_apply]
  exact congrArg x2 (funext fun a => match a with | ⟨0, _⟩ => rfl)

theorem conv_apply (b : Fin 32) (y : Fin 256) (z : Fin 3072) : (val_main_v24 (F := Ideal) x0 x1 x2 (ix3 b y z) : EReal) = convAt x0 x1 x2 b y z := by
  rw [val_main_v24_apply, val_main_v21_apply, val_main_v14_apply, val_main_v8_apply, val_main_v13_apply, val_main_v20_apply, before_apply, after_apply,
    row_apply, weight0_apply, weight1_apply, weight2_apply, bias_apply]
  rfl

theorem product_apply (b : Fin 32) (y : Fin 256) (z : Fin 1024) :
    (val_main_v28 (F := Ideal) x0 x1 x2 (ix3 b y z) : EReal) = convAt x0 x1 x2 b y (chan 2 z) * convAt x0 x1 x2 b y (chan 0 z) := by
  have h27 : idx_main_v27 (ix3 b y z) = ix3 b y (chan 2 z) := eq_ix3 _
  have h25 : idx_main_v25 (ix3 b y z) = ix3 b y (chan 0 z) := by
    funext a; apply Fin.ext
    match a with | ⟨0, _⟩ => rfl | ⟨1, _⟩ => rfl | ⟨2, _⟩ => show z.val = 0 * 1024 + z.val; omega
  rw [val_main_v28_apply, val_main_v27_apply, val_main_v25_apply, h27, h25, conv_apply, conv_apply]
  rfl

/-- The results at position `y` of batch row `b`: the product, the middle group, the product channel first. -/
theorem result0_apply (b : Fin 32) (y : Fin 256) (z : Fin 1024) :
    (val_main_v31 (F := Ideal) x0 x1 x2 (ix2 (rowOf b y) z) : EReal) = convAt x0 x1 x2 b y (chan 2 z) * convAt x0 x1 x2 b y (chan 0 z) := by
  have hi : idx_main_v31 (ix2 (rowOf b y) z) = ix3 b y z := by
    funext a; apply Fin.ext
    match a with
    | ⟨0, _⟩ => show ((b.val * 256 + y.val) * 1024 + z.val) / 262144 = b.val; omega
    | ⟨1, _⟩ => show ((b.val * 256 + y.val) * 1024 + z.val) / 1024 % 256 = y.val; omega
    | ⟨2, _⟩ => show ((b.val * 256 + y.val) * 1024 + z.val) % 1024 = z.val; omega
  rw [val_main_v31_apply, hi, product_apply]

theorem result1_apply (b : Fin 32) (y : Fin 256) (z : Fin 1024) :
    (val_main_v32 (F := Ideal) x0 x1 x2 (ix2 (rowOf b y) z) : EReal) = convAt x0 x1 x2 b y (chan 1 z) := by
  have hi : idx_main_v32 (ix2 (rowOf b y) z) = ix3 b y z := by
    funext a; apply Fin.ext
    match a with
    | ⟨0, _⟩ => show ((b.val * 256 + y.val) * 1024 + z.val) / 262144 = b.val; omega
    | ⟨1, _⟩ => show ((b.val * 256 + y.val) * 1024 + z.val) / 1024 % 256 = y.val; omega
    | ⟨2, _⟩ => show ((b.val * 256 + y.val) * 1024 + z.val) % 1024 = z.val; omega
  have h26 : idx_main_v26 (ix3 b y z) = ix3 b y (chan 1 z) := eq_ix3 _
  rw [val_main_v32_apply, hi, val_main_v26_apply, h26, conv_apply]

theorem result2_apply (b : Fin 32) (y : Fin 256) (z : Fin 1024) :
    (val_main_v33 (F := Ideal) x0 x1 x2 (ix3 z 0 (rowOf b y)) : EReal) = convAt x0 x1 x2 b y (chan 2 z) * convAt x0 x1 x2 b y (chan 0 z) := by
  have f1 : (((b.val * 1 + 0) * 256 + y.val) * 1024 + z.val) / 1024 % 256 = y.val := by omega
  have e0 : ((z.val * 1 + 0) * 8192 + (b.val * 256 + y.val)) / 8192 = z.val := by omega
  have e2 : ((z.val * 1 + 0) * 8192 + (b.val * 256 + y.val)) / 256 % 32 = b.val := by omega
  have e3 : ((z.val * 1 + 0) * 8192 + (b.val * 256 + y.val)) % 256 = y.val := by omega
  have hi : idx_main_v29 (idx_main_v30 (idx_main_v33 (ix3 z 0 (rowOf b y)))) = ix3 b y z := by
    funext a; apply Fin.ext
    match a with
    | ⟨0, _⟩ => show (((((z.val * 1 + 0) * 8192 + (b.val * 256 + y.val)) / 256 % 32 * 1 + 0) * 256 + ((z.val * 1 + 0) * 8192 + (b.val * 256 + y.val)) % 256) * 1024 + ((z.val * 1 + 0) * 8192 + (b.val * 256 + y.val)) / 8192) / 262144 = b.val
                rw [e0, e2, e3]; omega
    | ⟨1, _⟩ => show (((((z.val * 1 + 0) * 8192 + (b.val * 256 + y.val)) / 256 % 32 * 1 + 0) * 256 + ((z.val * 1 + 0) * 8192 + (b.val * 256 + y.val)) % 256) * 1024 + ((z.val * 1 + 0) * 8192 + (b.val * 256 + y.val)) / 8192) / 1024 % 256 = y.val
                rw [e0, e2, e3]; exact f1
    | ⟨2, _⟩ => show (((((z.val * 1 + 0) * 8192 + (b.val * 256 + y.val)) / 256 % 32 * 1 + 0) * 256 + ((z.val * 1 + 0) * 8192 + (b.val * 256 + y.val)) % 256) * 1024 + ((z.val * 1 + 0) * 8192 + (b.val * 256 + y.val)) / 8192) % 1024 = z.val
                rw [e0, e2, e3]; omega
  rw [val_main_v33_apply, val_main_v30_apply, val_main_v29_apply, hi, product_apply]

end Cert.Reference13Ideal.HyenaPre

namespace Cert.Kernel13Ideal.HyenaPre

open Cert.Kernel13Ideal Cert.Kernel13Ideal.Gen
open Cert.Reference13Ideal.HyenaPre (rowOf chan wide convAt)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The blocks of point `t`: batch row `t / 8`, channels `128 (t % 8)` on of each group. -/
theorem where_in : ∀ t : Fin cfg0.N,
    (win0_0.index t 0 = t.val / 8 ∧ win0_0.index t 1 = t.val % 8) ∧ (win0_1.index t 0 = t.val / 8 ∧ win0_1.index t 1 = 8 + t.val % 8)
      ∧ (win0_2.index t 0 = t.val / 8 ∧ win0_2.index t 1 = 16 + t.val % 8) :=
  (by decide +kernel : ∀ t : Fin grid0.N, _)
theorem where_weights : ∀ t : Fin cfg0.N,
    (win0_3.index t 0 = 0 ∧ win0_3.index t 1 = t.val % 8) ∧ (win0_4.index t 0 = 0 ∧ win0_4.index t 1 = 8 + t.val % 8)
      ∧ (win0_5.index t 0 = 0 ∧ win0_5.index t 1 = 16 + t.val % 8) :=
  (by decide +kernel : ∀ t : Fin grid0.N, _)
theorem where_biases : ∀ t : Fin cfg0.N,
    (win0_6.index t 0 = 0 ∧ win0_6.index t 1 = t.val % 8) ∧ (win0_7.index t 0 = 0 ∧ win0_7.index t 1 = 8 + t.val % 8)
      ∧ (win0_8.index t 0 = 0 ∧ win0_8.index t 1 = 16 + t.val % 8) :=
  (by decide +kernel : ∀ t : Fin grid0.N, _)
theorem where_out : ∀ t : Fin cfg0.N,
    (win0_9.index t 0 = t.val / 8 ∧ win0_9.index t 1 = t.val % 8) ∧ (win0_10.index t 0 = t.val / 8 ∧ win0_10.index t 1 = t.val % 8)
      ∧ (win0_11.index t 0 = t.val % 8 ∧ win0_11.index t 1 = 0 ∧ win0_11.index t 2 = t.val / 8) :=
  (by decide +kernel : ∀ t : Fin grid0.N, _)

theorem lt_N (t : Fin cfg0.N) : t.val < 256 := lt_of_lt_of_eq t.isLt N_0

/-- The batch row of a point; channel `n` of its block among a group's. -/
abbrev rowAt (t : Fin cfg0.N) : Fin 32 := ⟨t.val / 8, by have := lt_N t; omega⟩
abbrev chanAt (t : Fin cfg0.N) (n : Fin 128) : Fin 1024 := ⟨t.val % 8 * 128 + n.val, by omega⟩

/-! ### One block -/

theorem first_row : ∀ i : Fin 256, IntOp.cmpi .eq (BitVec.ofNat 32 i.val) 0#32 = if i.val = 0 then 1#1 else 0#1 := by decide +kernel
theorem last_row : ∀ i : Fin 256, IntOp.cmpi .eq (BitVec.ofNat 32 i.val) 255#32 = if i.val + 1 < 256 then 0#1 else 1#1 := by decide +kernel

abbrev rows : IVec S256x128 32 := iota .tc S256x128 32 [0] iota_S256x128_d0_w32
abbrev noRow : FVec Ideal S256x128 .f32 := broadcast S256x128 (Scalar.ofBits .f32 0x00000000#32)

theorem shifted_before (x : Vec Ideal S256x128 .f32) (i : Fin 256) (d : Fin 128) :
    (select (cmpi .eq rows (broadcast S256x128 0#32)) noRow (dynamicRotate 0 1#32 none x rotates_S256x128_d0) (ix2 i d) : EReal)
      = before (fun k => x (ix2 k d)) i := by
  show Scalar.select (IntOp.cmpi .eq (rows (ix2 i d)) 0#32) (Ideal.ofBits .f32 0x00000000#32 : EReal) (dynamicRotate 0 1#32 none x rotates_S256x128_d0 (ix2 i d)) = _
  have hr : rows (ix2 i d) = BitVec.ofNat 32 i.val := iota_single_apply .tc S256x128 32 0 iota_S256x128_d0_w32 (ix2 i d)
  rw [hr, first_row, Ideal.ofBits_zero_f32]
  unfold before
  by_cases h : i.val = 0
  · rw [if_pos h, if_pos h]; rfl
  · rw [if_neg h, if_neg h]
    show dynamicRotate 0 1#32 none x rotates_S256x128_d0 (ix2 i d) = _
    refine dynamicRotate_apply _ _ _ _ _ (ix2 ⟨i.val - 1, by omega⟩ d) (fun b => ?_)
    match b with
    | ⟨0, _⟩ => show i.val - 1 = (i.val + 256 - 1 % 256) % 256; omega
    | ⟨1, _⟩ => rfl

theorem shifted_after (x : Vec Ideal S256x128 .f32) (i : Fin 256) (d : Fin 128) :
    (select (cmpi .eq rows (broadcast S256x128 255#32)) noRow (dynamicRotate 0 255#32 none x rotates_S256x128_d0) (ix2 i d) : EReal)
      = after (fun k => x (ix2 k d)) i := by
  show Scalar.select (IntOp.cmpi .eq (rows (ix2 i d)) 255#32) (Ideal.ofBits .f32 0x00000000#32 : EReal) (dynamicRotate 0 255#32 none x rotates_S256x128_d0 (ix2 i d)) = _
  have hr : rows (ix2 i d) = BitVec.ofNat 32 i.val := iota_single_apply .tc S256x128 32 0 iota_S256x128_d0_w32 (ix2 i d)
  rw [hr, last_row, Ideal.ofBits_zero_f32]
  unfold after
  by_cases h : i.val + 1 < 256
  · rw [if_pos h, dif_pos h]
    show dynamicRotate 0 255#32 none x rotates_S256x128_d0 (ix2 i d) = _
    refine dynamicRotate_apply _ _ _ _ _ (ix2 ⟨i.val + 1, h⟩ d) (fun b => ?_)
    match b with
    | ⟨0, _⟩ => show i.val + 1 = (i.val + 256 - 255 % 256) % 256; omega
    | ⟨1, _⟩ => rfl
  · rw [if_neg h, dif_neg h]; rfl

theorem spread (g : Vec Ideal S1x128 .f32) (i : Fin 256) (d : Fin 128) : broadcastTo S256x128 g broadcasts_S1x128_S256x128 (ix2 i d) = g (ix2 0 d) :=
  broadcastTo_apply _ broadcasts_S1x128_S256x128 (ix2 i d) (ix2 0 d) (by intro a; match a with | ⟨0, _⟩ => rfl | ⟨1, _⟩ => rfl)
theorem weight_row (w : Vec Ideal S3x128 .f32) (k : Fin 3) (h : S3x128.Slices ![k.val, 0] S1x128) (d : Fin 128) :
    extractStridedSlice S1x128 ![k.val, 0] w h (ix2 0 d) = w (ix2 k d) :=
  extractStridedSlice_apply _ _ _ _ _ (by
    intro a; match a with | ⟨0, _⟩ => rfl | ⟨1, _⟩ => show d.val = 0 + d.val; omega)

/-- The convolution of a block at position `i`, channel `d`. -/
theorem block_conv (x : Vec Ideal S256x128 .f32) (w : Vec Ideal S3x128 .f32) (b : Vec Ideal S1x128 .f32) (i : Fin 256) (d : Fin 128) :
    (k0_pay4 (F := Ideal) x w b (ix2 i d) : EReal)
      = conv (fun k => x (ix2 k d)) (w (ix2 0 d)) (w (ix2 1 d)) (w (ix2 2 d)) (b (ix2 0 d)) i := by
  show (select (cmpi .eq rows (broadcast S256x128 0#32)) noRow (dynamicRotate 0 1#32 none x rotates_S256x128_d0) (ix2 i d) : EReal)
      * broadcastTo S256x128 (extractStridedSlice S1x128 ![0, 0] w slices_S3x128_o0_0_S1x128) broadcasts_S1x128_S256x128 (ix2 i d)
    + x (ix2 i d) * broadcastTo S256x128 (extractStridedSlice S1x128 ![1, 0] w slices_S3x128_o1_0_S1x128) broadcasts_S1x128_S256x128 (ix2 i d)
    + select (cmpi .eq rows (broadcast S256x128 255#32)) noRow (dynamicRotate 0 255#32 none x rotates_S256x128_d0) (ix2 i d)
      * broadcastTo S256x128 (extractStridedSlice S1x128 ![2, 0] w slices_S3x128_o2_0_S1x128) broadcasts_S1x128_S256x128 (ix2 i d)
    + broadcastTo S256x128 (shapeCast S1x128 b shapeCasts_S1x128_S1x128) broadcasts_S1x128_S256x128 (ix2 i d) = _
  rw [shifted_before, shifted_after, spread, spread, spread, spread, shapeCast_apply b shapeCasts_S1x128_S1x128 (ix2 0 d) (ix2 0 d) rfl]
  have w0 : extractStridedSlice S1x128 ![0, 0] w slices_S3x128_o0_0_S1x128 (ix2 0 d) = w (ix2 0 d) := weight_row w 0 slices_S3x128_o0_0_S1x128 d
  have w1 : extractStridedSlice S1x128 ![1, 0] w slices_S3x128_o1_0_S1x128 (ix2 0 d) = w (ix2 1 d) := weight_row w 1 slices_S3x128_o1_0_S1x128 d
  have w2 : extractStridedSlice S1x128 ![2, 0] w slices_S3x128_o2_0_S1x128 (ix2 0 d) = w (ix2 2 d) := weight_row w 2 slices_S3x128_o2_0_S1x128 d
  rw [w0, w1, w2]
  rfl

theorem turned (v : FVec Ideal S256x128 .f32) (d : Fin 128) (i : Fin 256) :
    shapeCast S128x1x256 (transpose S128x256 [1, 0] v transposes_S256x128_p1_0_S128x256) shapeCasts_S128x256_S128x1x256 (ix3 d 0 i) = v (ix2 i d) := by
  rw [shapeCast_apply _ shapeCasts_S128x256_S128x1x256 (ix3 d 0 i) (ix2 d i)
      (by rw [Shape.rowMajor_val_three, Shape.rowMajor_val_two]; show d.val * 256 + i.val = (d.val * 1 + 0) * 256 + i.val; omega),
    transpose_apply [1, 0] _ transposes_S256x128_p1_0_S128x256 (ix2 d i) (ix2 i d) (by intro a; match a with | ⟨0, _⟩ => rfl | ⟨1, _⟩ => rfl)]

variable (m : (ℓ : Loc nD τ sig) → Buf (Elt Ideal) ℓ) (ρ : Dev nD → PrngReg)

/-- The kernel's own argument arrays. -/
abbrev A0 (c : Dev nD) := m ((c : Thread nD τ).loc main_arg0)
abbrev A1 (c : Dev nD) := m ((c : Thread nD τ).loc main_arg1)
abbrev A2 (c : Dev nD) := m ((c : Thread nD τ).loc main_arg2)

/-- The biases as the call takes them. -/
theorem bias_row (c : Dev nD) (d : Fin 3072) : V m c main_v0 (ix2 0 d) = A2 m c (ix1 d) := by
  show broadcastInDim S1x3072 ![1] bcast_S3072_S1x3072_1 (A2 m c) (ix2 0 d) = _
  exact broadcastInDim_apply _ _ _ _ _ (by intro a; match a with | ⟨0, _⟩ => rfl)

/-- Group 0's convolution at a point. -/
theorem group0 (c : Dev nD) (t : Fin cfg0.N) (r : Fin 256) (n : Fin 128) :
    (k0_pay4 (F := Ideal) (iblk m c 0 t) (iblk m c 3 t) (iblk m c 6 t) (ix2 r n) : EReal)
      = convAt (A0 m c) (A1 m c) (A2 m c) (rowAt t) r (chan 0 (chanAt t n)) := by
  obtain ⟨⟨h0, h1⟩, -, -⟩ := where_in t
  obtain ⟨⟨k0, k1⟩, -, -⟩ := where_weights t
  obtain ⟨⟨l0, l1⟩, -, -⟩ := where_biases t
  refine (block_conv (iblk m c 0 t) (iblk m c 3 t) (iblk m c 6 t) r n).trans ?_
  have ex : ∀ k : Fin 256, (win0_0.rect t).emb (ix2 k n) = ix2 (rowOf (rowAt t) k) (wide (chan 0 (chanAt t n))) := fun k => by
    funext a; apply Fin.ext
    match a with
    | ⟨0, _⟩ => exact (win0_0.rect_emb_val t _ 0).trans (by rw [h0]; rfl)
    | ⟨1, _⟩ => exact (win0_0.rect_emb_val t _ 1).trans (by rw [h1]; show (t.val % 8) * 128 + n.val = 0 * 1024 + (t.val % 8 * 128 + n.val); omega)
  have ew : ∀ k : Fin 3, (win0_3.rect t).emb (ix2 k n) = ix2 k (chan 0 (chanAt t n)) := fun k => by
    funext a; apply Fin.ext
    match a with
    | ⟨0, _⟩ => exact win0_3.rect_emb_val_of_index_zero t 0 k0 _
    | ⟨1, _⟩ => exact (win0_3.rect_emb_val t _ 1).trans (by rw [k1]; show (t.val % 8) * 128 + n.val = 0 * 1024 + (t.val % 8 * 128 + n.val); omega)
  have eb : (win0_6.rect t).emb (ix2 0 n) = ix2 0 (chan 0 (chanAt t n)) := by
    funext a; apply Fin.ext
    match a with
    | ⟨0, _⟩ => exact win0_6.rect_emb_val_of_index_zero t 0 l0 _
    | ⟨1, _⟩ => exact (win0_6.rect_emb_val t _ 1).trans (by rw [l1]; show (t.val % 8) * 128 + n.val = 0 * 1024 + (t.val % 8 * 128 + n.val); omega)
  have fx : (fun k : Fin 256 => iblk m c 0 t (ix2 k n)) = fun k => A0 m c (ix2 (rowOf (rowAt t) k) (wide (chan 0 (chanAt t n)))) :=
    funext fun k => (congrArg (V m c main_arg0) (ex k)).trans (congrFun (V_main_arg0 m c) _)
  have fw : ∀ k : Fin 3, iblk m c 3 t (ix2 k n) = A1 m c (ix2 k (chan 0 (chanAt t n))) :=
    fun k => (congrArg (V m c main_arg1) (ew k)).trans (congrFun (V_main_arg1 m c) _)
  have fb : iblk m c 6 t (ix2 0 n) = A2 m c (ix1 (chan 0 (chanAt t n))) :=
    (congrArg (V m c main_v0) eb).trans (bias_row m c _)
  rw [fx, fw 0, fw 1, fw 2, fb]
  rfl

/-- Group 1's convolution at a point. -/
theorem group1 (c : Dev nD) (t : Fin cfg0.N) (r : Fin 256) (n : Fin 128) :
    (k0_pay4 (F := Ideal) (iblk m c 1 t) (iblk m c 4 t) (iblk m c 7 t) (ix2 r n) : EReal)
      = convAt (A0 m c) (A1 m c) (A2 m c) (rowAt t) r (chan 1 (chanAt t n)) := by
  obtain ⟨-, ⟨h0, h1⟩, -⟩ := where_in t
  obtain ⟨-, ⟨k0, k1⟩, -⟩ := where_weights t
  obtain ⟨-, ⟨l0, l1⟩, -⟩ := where_biases t
  refine (block_conv (iblk m c 1 t) (iblk m c 4 t) (iblk m c 7 t) r n).trans ?_
  have ex : ∀ k : Fin 256, (win0_1.rect t).emb (ix2 k n) = ix2 (rowOf (rowAt t) k) (wide (chan 1 (chanAt t n))) := fun k => by
    funext a; apply Fin.ext
    match a with
    | ⟨0, _⟩ => exact (win0_1.rect_emb_val t _ 0).trans (by rw [h0]; rfl)
    | ⟨1, _⟩ => exact (win0_1.rect_emb_val t _ 1).trans (by rw [h1]; show (8 + t.val % 8) * 128 + n.val = 1 * 1024 + (t.val % 8 * 128 + n.val); omega)
  have ew : ∀ k : Fin 3, (win0_4.rect t).emb (ix2 k n) = ix2 k (chan 1 (chanAt t n)) := fun k => by
    funext a; apply Fin.ext
    match a with
    | ⟨0, _⟩ => exact win0_4.rect_emb_val_of_index_zero t 0 k0 _
    | ⟨1, _⟩ => exact (win0_4.rect_emb_val t _ 1).trans (by rw [k1]; show (8 + t.val % 8) * 128 + n.val = 1 * 1024 + (t.val % 8 * 128 + n.val); omega)
  have eb : (win0_7.rect t).emb (ix2 0 n) = ix2 0 (chan 1 (chanAt t n)) := by
    funext a; apply Fin.ext
    match a with
    | ⟨0, _⟩ => exact win0_7.rect_emb_val_of_index_zero t 0 l0 _
    | ⟨1, _⟩ => exact (win0_7.rect_emb_val t _ 1).trans (by rw [l1]; show (8 + t.val % 8) * 128 + n.val = 1 * 1024 + (t.val % 8 * 128 + n.val); omega)
  have fx : (fun k : Fin 256 => iblk m c 1 t (ix2 k n)) = fun k => A0 m c (ix2 (rowOf (rowAt t) k) (wide (chan 1 (chanAt t n)))) :=
    funext fun k => (congrArg (V m c main_arg0) (ex k)).trans (congrFun (V_main_arg0 m c) _)
  have fw : ∀ k : Fin 3, iblk m c 4 t (ix2 k n) = A1 m c (ix2 k (chan 1 (chanAt t n))) :=
    fun k => (congrArg (V m c main_arg1) (ew k)).trans (congrFun (V_main_arg1 m c) _)
  have fb : iblk m c 7 t (ix2 0 n) = A2 m c (ix1 (chan 1 (chanAt t n))) :=
    (congrArg (V m c main_v0) eb).trans (bias_row m c _)
  rw [fx, fw 0, fw 1, fw 2, fb]
  rfl

/-- Group 2's convolution at a point. -/
theorem group2 (c : Dev nD) (t : Fin cfg0.N) (r : Fin 256) (n : Fin 128) :
    (k0_pay4 (F := Ideal) (iblk m c 2 t) (iblk m c 5 t) (iblk m c 8 t) (ix2 r n) : EReal)
      = convAt (A0 m c) (A1 m c) (A2 m c) (rowAt t) r (chan 2 (chanAt t n)) := by
  obtain ⟨-, -, h0, h1⟩ := where_in t
  obtain ⟨-, -, k0, k1⟩ := where_weights t
  obtain ⟨-, -, l0, l1⟩ := where_biases t
  refine (block_conv (iblk m c 2 t) (iblk m c 5 t) (iblk m c 8 t) r n).trans ?_
  have ex : ∀ k : Fin 256, (win0_2.rect t).emb (ix2 k n) = ix2 (rowOf (rowAt t) k) (wide (chan 2 (chanAt t n))) := fun k => by
    funext a; apply Fin.ext
    match a with
    | ⟨0, _⟩ => exact (win0_2.rect_emb_val t _ 0).trans (by rw [h0]; rfl)
    | ⟨1, _⟩ => exact (win0_2.rect_emb_val t _ 1).trans (by rw [h1]; show (16 + t.val % 8) * 128 + n.val = 2 * 1024 + (t.val % 8 * 128 + n.val); omega)
  have ew : ∀ k : Fin 3, (win0_5.rect t).emb (ix2 k n) = ix2 k (chan 2 (chanAt t n)) := fun k => by
    funext a; apply Fin.ext
    match a with
    | ⟨0, _⟩ => exact win0_5.rect_emb_val_of_index_zero t 0 k0 _
    | ⟨1, _⟩ => exact (win0_5.rect_emb_val t _ 1).trans (by rw [k1]; show (16 + t.val % 8) * 128 + n.val = 2 * 1024 + (t.val % 8 * 128 + n.val); omega)
  have eb : (win0_8.rect t).emb (ix2 0 n) = ix2 0 (chan 2 (chanAt t n)) := by
    funext a; apply Fin.ext
    match a with
    | ⟨0, _⟩ => exact win0_8.rect_emb_val_of_index_zero t 0 l0 _
    | ⟨1, _⟩ => exact (win0_8.rect_emb_val t _ 1).trans (by rw [l1]; show (16 + t.val % 8) * 128 + n.val = 2 * 1024 + (t.val % 8 * 128 + n.val); omega)
  have fx : (fun k : Fin 256 => iblk m c 2 t (ix2 k n)) = fun k => A0 m c (ix2 (rowOf (rowAt t) k) (wide (chan 2 (chanAt t n)))) :=
    funext fun k => (congrArg (V m c main_arg0) (ex k)).trans (congrFun (V_main_arg0 m c) _)
  have fw : ∀ k : Fin 3, iblk m c 5 t (ix2 k n) = A1 m c (ix2 k (chan 2 (chanAt t n))) :=
    fun k => (congrArg (V m c main_arg1) (ew k)).trans (congrFun (V_main_arg1 m c) _)
  have fb : iblk m c 8 t (ix2 0 n) = A2 m c (ix1 (chan 2 (chanAt t n))) :=
    (congrArg (V m c main_v0) eb).trans (bias_row m c _)
  rw [fx, fw 0, fw 1, fw 2, fb]
  rfl

/-- The reference's results, of the kernel's own argument arrays. -/
abbrev goal9 (c : Dev nD) : Buf (Elt Ideal) ((c : Thread nD τ).loc main_v1_0) := Cert.Reference13Ideal.Read.val_main_v31 (F := Ideal) (A0 m c) (A1 m c) (A2 m c)
abbrev goal10 (c : Dev nD) : Buf (Elt Ideal) ((c : Thread nD τ).loc main_v1_1) := Cert.Reference13Ideal.Read.val_main_v32 (F := Ideal) (A0 m c) (A1 m c) (A2 m c)
abbrev goal11 (c : Dev nD) : Buf (Elt Ideal) ((c : Thread nD τ).loc main_v1_2) := Cert.Reference13Ideal.Read.val_main_v33 (F := Ideal) (A0 m c) (A1 m c) (A2 m c)

/-- What a point leaves, by the convolutions of its blocks. -/
theorem out9_eq (c : Dev nD) (t : Fin cfg0.N) :
    out0_9 (F := Ideal) (iblk m c 0 t) (iblk m c 1 t) (iblk m c 2 t) (iblk m c 3 t) (iblk m c 4 t) (iblk m c 5 t) (iblk m c 6 t) (iblk m c 7 t) (iblk m c 8 t)
      = mulf (F := Ideal) (φ := .f32) (k0_pay4 (iblk m c 2 t) (iblk m c 5 t) (iblk m c 8 t)) (k0_pay4 (iblk m c 0 t) (iblk m c 3 t) (iblk m c 6 t)) := by
  unfold out0_9 k0_pay12 k0_pay13
  rw [View.canon_unit_zero zeros2, View.ld_unit_zero zeros2, View.ld_unit_zero zeros2, View.ld_unit_zero zeros2, View.ld_unit_zero zeros2,
    View.ld_unit_zero zeros2, View.ld_unit_zero zeros2]
  rfl
theorem out10_eq (c : Dev nD) (t : Fin cfg0.N) :
    out0_10 (F := Ideal) (iblk m c 0 t) (iblk m c 1 t) (iblk m c 2 t) (iblk m c 3 t) (iblk m c 4 t) (iblk m c 5 t) (iblk m c 6 t) (iblk m c 7 t) (iblk m c 8 t)
      = k0_pay4 (iblk m c 1 t) (iblk m c 4 t) (iblk m c 7 t) := by
  unfold out0_10
  rw [View.canon_unit_zero zeros2, View.ld_unit_zero zeros2, View.ld_unit_zero zeros2, View.ld_unit_zero zeros2]
  rfl
theorem out11_eq (c : Dev nD) (t : Fin cfg0.N) :
    out0_11 (F := Ideal) (iblk m c 0 t) (iblk m c 1 t) (iblk m c 2 t) (iblk m c 3 t) (iblk m c 4 t) (iblk m c 5 t) (iblk m c 6 t) (iblk m c 7 t) (iblk m c 8 t)
      = shapeCast S128x1x256 (transpose S128x256 [1, 0] (mulf (F := Ideal) (φ := .f32) (k0_pay4 (iblk m c 2 t) (iblk m c 5 t) (iblk m c 8 t))
          (k0_pay4 (iblk m c 0 t) (iblk m c 3 t) (iblk m c 6 t))) transposes_S256x128_p1_0_S128x256) shapeCasts_S128x256_S128x1x256 := by
  unfold out0_11 k0_pay12 k0_pay13
  rw [View.canon_unit_zero zeros3, View.ld_unit_zero zeros2, View.ld_unit_zero zeros2, View.ld_unit_zero zeros2, View.ld_unit_zero zeros2,
    View.ld_unit_zero zeros2, View.ld_unit_zero zeros2]
  rfl

theorem flushed9_eq (c : Dev nD) (t : Fin cfg0.N) :
    (dats m 0 c).flushed 9 t = ((cfg0.win 9).blk t).view.read (Elt Ideal) (goal9 m c) := by
  rw [Value.flushed9, out9_eq]
  obtain ⟨⟨o0, o1⟩, -, -⟩ := where_out t
  funext (y : S256x128.Idx)
  obtain ⟨r, n, rfl⟩ : ∃ r n, y = ix2 r n := ⟨y 0, y 1, eq_ix2 y⟩
  have eo : (win0_9.rect t).emb (ix2 r n) = ix2 (rowOf (rowAt t) r) (chanAt t n) := by
    funext a; apply Fin.ext
    match a with
    | ⟨0, _⟩ => exact (win0_9.rect_emb_val t _ 0).trans (by rw [o0]; rfl)
    | ⟨1, _⟩ => exact (win0_9.rect_emb_val t _ 1).trans (by rw [o1]; rfl)
  have hg : ((cfg0.win 9).blk t).view.read (Elt Ideal) (goal9 m c) (ix2 r n) = goal9 m c (ix2 (rowOf (rowAt t) r) (chanAt t n)) := congrArg (goal9 m c) eo
  refine Eq.trans ?_ (hg.trans (Cert.Reference13Ideal.HyenaPre.result0_apply _ _ _ _ _ _)).symm
  show (k0_pay4 (F := Ideal) (iblk m c 2 t) (iblk m c 5 t) (iblk m c 8 t) (ix2 r n) : EReal) * k0_pay4 (F := Ideal) (iblk m c 0 t) (iblk m c 3 t) (iblk m c 6 t) (ix2 r n) = _
  rw [group2, group0]

theorem mem_block9 (t : Fin cfg0.N) (i : S8192x1024.Idx) :
    i ∈ ((cfg0.win 9).blk t).view.set ↔ ∀ a, win0_9.index t a * win0_9.size a ≤ i a ∧ (i a : Nat) < win0_9.index t a * win0_9.size a + win0_9.size a := by
  show i ∈ ((View.whole main_v1_0).slice (win0_9.rect t)).set ↔ _
  rw [View.set_slice_whole, Rect.mem_set_unit]

theorem cover9 (i : S8192x1024.Idx) : ∃ t : Fin cfg0.N, (cfg0.win 9).flush t = true ∧ i ∈ ((cfg0.win 9).blk t).view.set := by
  have h0 : (i 0 : Nat) < 8192 := (i 0).isLt
  have h1 : (i 1 : Nat) < 1024 := (i 1).isLt
  have hN : cfg0.N = 256 := N_0
  refine ⟨⟨(i 0 : Nat) / 256 * 8 + (i 1 : Nat) / 128, by omega⟩, flush0_9 _, ?_⟩
  obtain ⟨⟨o0, o1⟩, -, -⟩ := where_out ⟨(i 0 : Nat) / 256 * 8 + (i 1 : Nat) / 128, by omega⟩
  rw [mem_block9]
  intro a
  match a with
  | ⟨0, _⟩ => show win0_9.index _ 0 * 256 ≤ (i 0 : Nat) ∧ (i 0 : Nat) < win0_9.index _ 0 * 256 + 256
              rw [o0]; dsimp only; omega
  | ⟨1, _⟩ => show win0_9.index _ 1 * 128 ≤ (i 1 : Nat) ∧ (i 1 : Nat) < win0_9.index _ 1 * 128 + 128
              rw [o1]; dsimp only; omega

theorem flushed10_eq (c : Dev nD) (t : Fin cfg0.N) :
    (dats m 0 c).flushed 10 t = ((cfg0.win 10).blk t).view.read (Elt Ideal) (goal10 m c) := by
  rw [Value.flushed10, out10_eq]
  obtain ⟨-, ⟨o0, o1⟩, -⟩ := where_out t
  funext (y : S256x128.Idx)
  obtain ⟨r, n, rfl⟩ : ∃ r n, y = ix2 r n := ⟨y 0, y 1, eq_ix2 y⟩
  have eo : (win0_10.rect t).emb (ix2 r n) = ix2 (rowOf (rowAt t) r) (chanAt t n) := by
    funext a; apply Fin.ext
    match a with
    | ⟨0, _⟩ => exact (win0_10.rect_emb_val t _ 0).trans (by rw [o0]; rfl)
    | ⟨1, _⟩ => exact (win0_10.rect_emb_val t _ 1).trans (by rw [o1]; rfl)
  have hg : ((cfg0.win 10).blk t).view.read (Elt Ideal) (goal10 m c) (ix2 r n) = goal10 m c (ix2 (rowOf (rowAt t) r) (chanAt t n)) := congrArg (goal10 m c) eo
  refine Eq.trans ?_ (hg.trans (Cert.Reference13Ideal.HyenaPre.result1_apply _ _ _ _ _ _)).symm
  show (k0_pay4 (F := Ideal) (iblk m c 1 t) (iblk m c 4 t) (iblk m c 7 t) (ix2 r n) : EReal) = _
  rw [group1]

theorem mem_block10 (t : Fin cfg0.N) (i : S8192x1024.Idx) :
    i ∈ ((cfg0.win 10).blk t).view.set ↔ ∀ a, win0_10.index t a * win0_10.size a ≤ i a ∧ (i a : Nat) < win0_10.index t a * win0_10.size a + win0_10.size a := by
  show i ∈ ((View.whole main_v1_1).slice (win0_10.rect t)).set ↔ _
  rw [View.set_slice_whole, Rect.mem_set_unit]

theorem cover10 (i : S8192x1024.Idx) : ∃ t : Fin cfg0.N, (cfg0.win 10).flush t = true ∧ i ∈ ((cfg0.win 10).blk t).view.set := by
  have h0 : (i 0 : Nat) < 8192 := (i 0).isLt
  have h1 : (i 1 : Nat) < 1024 := (i 1).isLt
  have hN : cfg0.N = 256 := N_0
  refine ⟨⟨(i 0 : Nat) / 256 * 8 + (i 1 : Nat) / 128, by omega⟩, flush0_10 _, ?_⟩
  obtain ⟨-, ⟨o0, o1⟩, -⟩ := where_out ⟨(i 0 : Nat) / 256 * 8 + (i 1 : Nat) / 128, by omega⟩
  rw [mem_block10]
  intro a
  match a with
  | ⟨0, _⟩ => show win0_10.index _ 0 * 256 ≤ (i 0 : Nat) ∧ (i 0 : Nat) < win0_10.index _ 0 * 256 + 256
              rw [o0]; dsimp only; omega
  | ⟨1, _⟩ => show win0_10.index _ 1 * 128 ≤ (i 1 : Nat) ∧ (i 1 : Nat) < win0_10.index _ 1 * 128 + 128
              rw [o1]; dsimp only; omega

theorem flushed11_eq (c : Dev nD) (t : Fin cfg0.N) :
    (dats m 0 c).flushed 11 t = ((cfg0.win 11).blk t).view.read (Elt Ideal) (goal11 m c) := by
  rw [Value.flushed11, out11_eq]
  obtain ⟨-, -, o0, o1, o2⟩ := where_out t
  funext (y : S128x1x256.Idx)
  obtain ⟨n, r, rfl⟩ : ∃ n r, y = ix3 n 0 r := ⟨y 0, y 2, by
    funext a; match a with | ⟨0, _⟩ => rfl | ⟨1, _⟩ => exact Fin.ext (by have h : (y 1).val < 1 := (y 1).isLt; show (y 1).val = 0; omega) | ⟨2, _⟩ => rfl⟩
  have eo : (win0_11.rect t).emb (ix3 n 0 r) = ix3 (chanAt t n) 0 (rowOf (rowAt t) r) := by
    funext a; apply Fin.ext
    match a with
    | ⟨0, _⟩ => exact (win0_11.rect_emb_val t _ 0).trans (by rw [o0]; rfl)
    | ⟨1, _⟩ => exact win0_11.rect_emb_val_of_index_zero t 1 o1 _
    | ⟨2, _⟩ => exact (win0_11.rect_emb_val t _ 2).trans (by rw [o2]; rfl)
  have hg : ((cfg0.win 11).blk t).view.read (Elt Ideal) (goal11 m c) (ix3 n 0 r) = goal11 m c (ix3 (chanAt t n) 0 (rowOf (rowAt t) r)) := congrArg (goal11 m c) eo
  refine Eq.trans ?_ (hg.trans (Cert.Reference13Ideal.HyenaPre.result2_apply _ _ _ _ _ _)).symm
  refine (turned _ n r).trans ?_
  show (k0_pay4 (F := Ideal) (iblk m c 2 t) (iblk m c 5 t) (iblk m c 8 t) (ix2 r n) : EReal) * k0_pay4 (F := Ideal) (iblk m c 0 t) (iblk m c 3 t) (iblk m c 6 t) (ix2 r n) = _
  rw [group2, group0]

theorem mem_block11 (t : Fin cfg0.N) (i : S1024x1x8192.Idx) :
    i ∈ ((cfg0.win 11).blk t).view.set ↔ ∀ a, win0_11.index t a * win0_11.size a ≤ i a ∧ (i a : Nat) < win0_11.index t a * win0_11.size a + win0_11.size a := by
  show i ∈ ((View.whole main_v1_2).slice (win0_11.rect t)).set ↔ _
  rw [View.set_slice_whole, Rect.mem_set_unit]

theorem cover11 (i : S1024x1x8192.Idx) : ∃ t : Fin cfg0.N, (cfg0.win 11).flush t = true ∧ i ∈ ((cfg0.win 11).blk t).view.set := by
  have h0 : (i 0 : Nat) < 1024 := (i 0).isLt
  have h1 : (i 1 : Nat) < 1 := (i 1).isLt
  have h2 : (i 2 : Nat) < 8192 := (i 2).isLt
  have hN : cfg0.N = 256 := N_0
  refine ⟨⟨(i 2 : Nat) / 256 * 8 + (i 0 : Nat) / 128, by omega⟩, flush0_11 _, ?_⟩
  obtain ⟨-, -, o0, o1, o2⟩ := where_out ⟨(i 2 : Nat) / 256 * 8 + (i 0 : Nat) / 128, by omega⟩
  rw [mem_block11]
  intro a
  match a with
  | ⟨0, _⟩ => show win0_11.index _ 0 * 128 ≤ (i 0 : Nat) ∧ (i 0 : Nat) < win0_11.index _ 0 * 128 + 128
              rw [o0]; dsimp only; omega
  | ⟨1, _⟩ => show win0_11.index _ 1 * 1 ≤ (i 1 : Nat) ∧ (i 1 : Nat) < win0_11.index _ 1 * 1 + 1
              rw [o1]; omega
  | ⟨2, _⟩ => show win0_11.index _ 2 * 256 ≤ (i 2 : Nat) ∧ (i 2 : Nat) < win0_11.index _ 2 * 256 + 256
              rw [o2]; dsimp only; omega

/-- After the run the result arrays are the reference's. -/
theorem final9 (c : Dev nD) : (dats m 0 c).arrAt 9 cfg0.N = goal9 m c :=
  (dats m 0 c).arrAt_eq_of_cover 9 (goal9 m c) (fun t _ => flushed9_eq m c t) cover9
theorem final10 (c : Dev nD) : (dats m 0 c).arrAt 10 cfg0.N = goal10 m c :=
  (dats m 0 c).arrAt_eq_of_cover 10 (goal10 m c) (fun t _ => flushed10_eq m c t) cover10
theorem final11 (c : Dev nD) : (dats m 0 c).arrAt 11 cfg0.N = goal11 m c :=
  (dats m 0 c).arrAt_eq_of_cover 11 (goal11 m c) (fun t _ => flushed11_eq m c t) cover11

end Cert.Kernel13Ideal.HyenaPre

namespace Cert.Proof

theorem algebraic13 : Cert.algebraic_Kernel13Ideal_Reference13Ideal := fun m g m' g' _ hagree =>
  ⟨fun c => Cert.Kernel13Ideal.HyenaPre.goal9 m c, fun c => Cert.Kernel13Ideal.HyenaPre.goal10 m c, fun c => Cert.Kernel13Ideal.HyenaPre.goal11 m c,
    (θ_run _ _ _).mono (fun r h c => ⟨(h c).1.trans (Cert.Kernel13Ideal.HyenaPre.final9 m c),
        (h c).2.1.trans (Cert.Kernel13Ideal.HyenaPre.final10 m c), (h c).2.2.1.trans (Cert.Kernel13Ideal.HyenaPre.final11 m c), (h c).2.2.2⟩)
      (Cert.Kernel13Ideal.Value.run_blocks m g),
    (θ_run _ _ _).mono (fun r h c => ⟨(h c).1.trans (by
          rw [Cert.Reference13Ideal.Read.val_main_v31_eq, (hagree c).1, (hagree c).2.1, (hagree c).2.2]),
        (h c).2.1.trans (by rw [Cert.Reference13Ideal.Read.val_main_v32_eq, (hagree c).1, (hagree c).2.1, (hagree c).2.2]),
        (h c).2.2.1.trans (by rw [Cert.Reference13Ideal.Read.val_main_v33_eq, (hagree c).1, (hagree c).2.1, (hagree c).2.2]), (h c).2.2.2⟩)
      (Cert.Reference13Ideal.Value.run m' g')⟩

end Cert.Proof
-- ==== Proof.BandSoftmax.lean ====
/- Attention over a band of keys and a cache, with a sink logit in the softmax's denominator; and the equality of the
   attention over all the keys, masked with −∞ off the band, and over a window that holds the band. -/
module

public import proofs.«01_k».proof.Proof.AttentionHead

@[expose] public section

noncomputable section

open Idealize.ShloMosaic
open scoped BigOperators

namespace Cert.AttentionBand

theorem bits_bot : Ideal.ofBits .f32 0xFF800000#32 = (⊥ : EReal) := by simp [Ideal.ofBits, Ideal.ieee]

/-- The entry a rotation pairs with entry `d`: the two halves of each 64 change places. -/
def partner (d : Fin 128) : Fin 128 :=
  if h : d.val / 32 % 2 = 0 then ⟨d.val + 32, by omega⟩ else ⟨d.val - 32, by omega⟩
/-- A head turned by the angles whose cosines are `c` and whose signed sines are `s`. -/
def turned (x c s : Fin 128 → EReal) (d : Fin 128) : EReal := x d * c d + x (partner d) * s d

section
variable {n : ℕ}

/-- The largest of the logits `s` of the keys, the logits `u` of the cache, and the sink `z`. -/
def top (s : Fin n → EReal) (u : Fin 512 → EReal) (z : EReal) : EReal :=
  max (max z ((Finset.univ : Finset (Fin n)).fold max ⊥ s)) ((Finset.univ : Finset (Fin 512)).fold max ⊥ u)
/-- The softmax's denominator, and the weight of the logit `x`. -/
def total (s : Fin n → EReal) (u : Fin 512 → EReal) (z : EReal) : EReal :=
  Ideal.exp (z - top s u z) + ∑ j, Ideal.exp (s j - top s u z) + ∑ j, Ideal.exp (u j - top s u z)
def weight (s : Fin n → EReal) (u : Fin 512 → EReal) (z x : EReal) : EReal :=
  Ideal.exp (x - top s u z) * Ideal.div (Ideal.ofBits .f32 0x3F800000#32) (total s u z)
/-- The values `v` of the keys and `w` of the cache averaged by the weights. -/
def attend (s : Fin n → EReal) (u : Fin 512 → EReal) (z : EReal) (v : Fin n → EReal) (w : Fin 512 → EReal) : EReal :=
  ∑ j, weight s u z (s j) * v j + ∑ j, weight s u z (u j) * w j
end

theorem exp_bot (t : EReal) : Ideal.exp (⊥ - t) = 0 := by
  rw [EReal.bot_sub]; rfl

/-- Two sums whose nonzero terms are matched by `R`. -/
theorem sum_matched {m n : ℕ} (R : Fin m → Fin n → Prop) (hl : ∀ a b c, R a c → R b c → a = b) (hr : ∀ a b c, R a b → R a c → b = c)
    (f : Fin m → EReal) (g : Fin n → EReal) (hf : ∀ j, f j ≠ 0 → ∃ k, R j k ∧ f j = g k) (hg : ∀ k, g k ≠ 0 → ∃ j, R j k ∧ f j = g k) :
    ∑ j, f j = ∑ k, g k := by
  refine Finset.sum_bij_ne_zero (fun j _ h => (hf j h).choose) (fun _ _ _ => Finset.mem_univ _) ?_ ?_ ?_
  · intro a _ ha b _ hb e
    refine hl a b _ (hf a ha).choose_spec.1 ?_
    rw [e]; exact (hf b hb).choose_spec.1
  · intro k _ hk
    obtain ⟨j, h1, h2⟩ := hg k hk
    have hj : f j ≠ 0 := by rw [h2]; exact hk
    exact ⟨j, Finset.mem_univ _, hj, hr j _ _ (hf j hj).choose_spec.1 h1⟩
  · intro j _ hj
    exact (hf j hj).choose_spec.2

/-- A window `s` that holds every logit of `r` above −∞, and has −∞ elsewhere, attends as `r` does. -/
theorem attend_window {m n : ℕ} (R : Fin m → Fin n → Prop) (hl : ∀ a b c, R a c → R b c → a = b) (hr : ∀ a b c, R a b → R a c → b = c)
    (s v : Fin m → EReal) (r w : Fin n → EReal) (u : Fin 512 → EReal) (z : EReal) (y : Fin 512 → EReal)
    (hin : ∀ j, s j = ⊥ ∨ ∃ k, R j k ∧ s j = r k ∧ v j = w k) (hout : ∀ k, r k = ⊥ ∨ ∃ j, R j k ∧ s j = r k ∧ v j = w k) :
    attend s u z v y = attend r u z w y := by
  have ht : top s u z = top r u z := by
    unfold top
    refine congrArg (fun a => max (max z a) _) (eq_of_forall_ge_iff fun c => ?_)
    rw [Finset.fold_max_le, Finset.fold_max_le]
    refine and_congr_right fun _ => ⟨fun h k _ => ?_, fun h j _ => ?_⟩
    · rcases hout k with e | ⟨j, -, e, -⟩
      · rw [e]; exact bot_le
      · rw [← e]; exact h j (Finset.mem_univ _)
    · rcases hin j with e | ⟨k, -, e, -⟩
      · rw [e]; exact bot_le
      · rw [e]; exact h k (Finset.mem_univ _)
  have hs : ∀ F : EReal → EReal → EReal, (∀ b, F ⊥ b = 0) → ∑ j, F (s j) (v j) = ∑ k, F (r k) (w k) := fun F hF =>
    sum_matched R hl hr _ _
      (fun j hj => by
        rcases hin j with e | ⟨k, h, e, e'⟩
        · exact absurd (by rw [e, hF]) hj
        · exact ⟨k, h, by rw [e, e']⟩)
      (fun k hk => by
        rcases hout k with e | ⟨j, h, e, e'⟩
        · exact absurd (by rw [e, hF]) hk
        · exact ⟨j, h, by rw [e, e']⟩)
  have hT : total s u z = total r u z := by
    unfold total
    rw [ht]
    exact congrArg (fun a => _ + a + _) (hs (fun x _ => Ideal.exp (x - top r u z)) (fun _ => exp_bot _))
  have hw : weight s u z = weight r u z := by
    funext x
    unfold weight
    rw [ht, hT]
  unfold attend
  rw [hw]
  refine congrArg (· + _) (hs (fun x b => weight r u z x * b) (fun b => ?_))
  unfold weight
  rw [exp_bot, zero_mul, zero_mul]

/-! ### The band's comparisons -/

theorem small_int (n : ℕ) (h : n < 100000) : (BitVec.ofNat 32 n).toInt = n := by
  simp only [BitVec.toInt, BitVec.toNat_ofNat]
  omega

theorem add_int (n k : ℕ) : IntOp.addi (BitVec.ofNat 32 n) (BitVec.ofNat 32 k) = BitVec.ofNat 32 (n + k) := by
  apply BitVec.eq_of_toNat_eq
  simp only [IntOp.addi, BitVec.toNat_add, BitVec.toNat_ofNat]
  omega

theorem sub_int (n k : ℕ) (h : n < 100000) (hk : k < 100000) : (IntOp.subi (BitVec.ofNat 32 n) (BitVec.ofNat 32 k)).toInt = n - k := by
  simp only [IntOp.subi, BitVec.toInt, BitVec.toNat_sub, BitVec.toNat_ofNat]
  omega

theorem ge_int (x y : BitVec 32) : IntOp.cmpi .sge x y = if y.toInt ≤ x.toInt then 1#1 else 0#1 := by
  by_cases h : y.toInt ≤ x.toInt <;> simp [IntOp.cmpi, BitVec.sle, h]
theorem le_int (x y : BitVec 32) : IntOp.cmpi .sle x y = if x.toInt ≤ y.toInt then 1#1 else 0#1 := by
  by_cases h : x.toInt ≤ y.toInt <;> simp [IntOp.cmpi, BitVec.sle, h]
theorem lt_int (x y : BitVec 32) : IntOp.cmpi .slt x y = if x.toInt < y.toInt then 1#1 else 0#1 := by
  by_cases h : x.toInt < y.toInt <;> simp [IntOp.cmpi, BitVec.slt, h]
theorem and_int (p q : Prop) [Decidable p] [Decidable q] : IntOp.andi (if p then 1#1 else 0#1) (if q then 1#1 else 0#1) = if p ∧ q then 1#1 else 0#1 := by
  by_cases hp : p <;> by_cases hq : q <;> simp [hp, hq, IntOp.andi]

/-- Key `j` is in the band of the query at `t`. -/
abbrev near (t j : ℕ) : Prop := t ≤ j + 128 ∧ j ≤ t + 128

theorem band_mask (t j : ℕ) (ht : t < 4096) (hj : j < 4096) :
    IntOp.andi (IntOp.cmpi .sge (BitVec.ofNat 32 j) (IntOp.subi (BitVec.ofNat 32 t) (BitVec.ofNat 32 128)))
      (IntOp.cmpi .sle (BitVec.ofNat 32 j) (IntOp.addi (BitVec.ofNat 32 t) (BitVec.ofNat 32 128))) = if near t j then 1#1 else 0#1 := by
  rw [ge_int, le_int, add_int, sub_int t 128 (by omega) (by omega), small_int j (by omega), small_int (t + 128) (by omega), and_int]
  refine if_congr ?_ rfl rfl
  unfold near
  omega

/-- Position `j` of the window of block `n` is in the band of the block's row `r`, and is a key's. -/
abbrev nearIn (n r j : ℕ) : Prop := (r ≤ j ∧ j ≤ r + 256) ∧ 128 ≤ n * 128 + j ∧ n * 128 + j < 4224

theorem window_start (n j : ℕ) (hn : n < 32) (hj : j < 384) :
    (IntOp.addi (Scalar.muli (Scalar.subi (BitVec.ofNat 32 n) 1#32) 128#32) (BitVec.ofNat 32 j)).toInt = (n * 128 + j : ℤ) - 128 := by
  simp only [IntOp.addi, Scalar.muli, Scalar.subi, IntOp.muli, IntOp.subi, BitVec.toInt, BitVec.toNat_add, BitVec.toNat_mul, BitVec.toNat_sub, BitVec.toNat_ofNat]
  omega

theorem window_mask (n r j : ℕ) (hn : n < 32) (hr : r < 128) (hj : j < 384) :
    IntOp.andi (IntOp.andi (IntOp.andi (IntOp.cmpi .sge (BitVec.ofNat 32 j) (BitVec.ofNat 32 r)) (IntOp.cmpi .sle (BitVec.ofNat 32 j) (IntOp.addi (BitVec.ofNat 32 r) (BitVec.ofNat 32 256))))
        (IntOp.cmpi .sge (IntOp.addi (Scalar.muli (Scalar.subi (BitVec.ofNat 32 n) 1#32) 128#32) (BitVec.ofNat 32 j)) (BitVec.ofNat 32 0)))
      (IntOp.cmpi .slt (IntOp.addi (Scalar.muli (Scalar.subi (BitVec.ofNat 32 n) 1#32) 128#32) (BitVec.ofNat 32 j)) (BitVec.ofNat 32 4096))
      = if nearIn n r j then 1#1 else 0#1 := by
  rw [ge_int, ge_int, le_int, lt_int, window_start n j hn hj, add_int, small_int j (by omega), small_int r (by omega), small_int (r + 256) (by omega),
    small_int 0 (by omega), small_int 4096 (by omega), and_int, and_int, and_int]
  refine if_congr ?_ rfl rfl
  unfold nearIn
  omega

end Cert.AttentionBand
-- ==== Proof.AttentionBandHead.lean ====
/- The banded attention's payloads read at an entry: keys and queries turned by their angles, the band's mask, and one head
   as `AttentionBand.attend` over the window of 384 keys and the 512 of the cache. -/
module

public import Idealize.ShloMosaic.Lib.KernelVsHost
public import proofs.«01_k».proof.Proof.BandSoftmax
public import proofs.«01_k».proof.Proof.Gen.Kernel14Ideal.Value

@[expose] public section

noncomputable section

open Idealize.ShloMosaic Idealize.ShloMosaic.TcCoe Idealize.SL.Sem
open Idealize.ShloMosaic.ValueIdx
open scoped BigOperators

namespace Cert.Kernel14Ideal.Band

open Cert.Kernel14Ideal Cert.Kernel14Ideal.Gen Cert.AttentionBand
open Cert.Attention (normed logit)

/-- A row's sum and a row's maximum, kept as columns. -/
theorem rowSum_apply {n : ℕ} (y : FVec Ideal ⟨2, ![128, n]⟩ .f32) (h) (h1) (h2) (i : Fin 128) :
    shapeCast S128x1 (multiReduction (F := Ideal) (s := ⟨2, ![128, n]⟩) .add [1] S128 y 0x00000000#32 h h1 h2) shapeCasts_S128_S128x1 (ix2 i 0) = ∑ e : Fin n, y (ix2 i e) := by
  rw [shapeCast_apply _ _ (ix2 i 0) (ix1 i) (by rw [Shape.rowMajor_val_two, Shape.rowMajor_val_one]; show i.val = i.val * 1 + 0; omega)]
  rw [Ideal.multiReduction_add_single]
  refine Finset.sum_congr rfl fun e _ => congrArg y ?_
  funext a
  match a with
  | ⟨0, _⟩ => rfl
  | ⟨1, _⟩ => rfl

theorem rowMax_apply {n : ℕ} (y : FVec Ideal ⟨2, ![128, n]⟩ .f32) (h) (h1) (h2) (i : Fin 128) :
    shapeCast S128x1 (multiReduction (F := Ideal) (s := ⟨2, ![128, n]⟩) .maximumf [1] S128 y 0xFF800000#32 h h1 h2) shapeCasts_S128_S128x1 (ix2 i 0)
      = (Finset.univ : Finset (Fin n)).fold max ⊥ (fun e => y (ix2 i e)) := by
  rw [shapeCast_apply _ _ (ix2 i 0) (ix1 i) (by rw [Shape.rowMajor_val_two, Shape.rowMajor_val_one]; show i.val = i.val * 1 + 0; omega)]
  rw [Ideal.multiReduction_maximumf_single]
  show Finset.fold max (Ideal.ofBits .f32 0xFF800000#32) _ _ = _
  rw [bits_bot]
  refine Finset.fold_congr fun e _ => congrArg y ?_
  funext a
  match a with
  | ⟨0, _⟩ => rfl
  | ⟨1, _⟩ => rfl

theorem column {n : ℕ} {α : Type} (y : S128x1.Idx → α) (h) (i : Fin 128) (e : Fin n) : broadcastTo ⟨2, ![128, n]⟩ y h (ix2 i e) = y (ix2 i 0) :=
  broadcastTo_apply _ _ (ix2 i e) (ix2 i 0) (by intro a; match a with | ⟨0, _⟩ => rfl | ⟨1, _⟩ => rfl)

/-! ### Normalised and turned -/

theorem pay2_apply (x : Vec Ideal S128x128 .f32) (w : Vec Ideal S1x128 .f32) (i : Fin 128) (d : Fin 128) :
    k0_pay2 (F := Ideal) x w (ix2 i d) = normed (fun k => x (ix2 i k)) (fun k => w (ix2 0 k)) d := by
  show x (ix2 i d) * broadcastTo S128x128 (fun z => Ideal.rsqrt (Ideal.div (shapeCast S128x1 (multiReduction (F := Ideal) .add [1] S128 (mulf (F := Ideal) (φ := .f32) x x) 0x00000000#32 reduces_S128x128_S128 (.inl rfl) rfl) shapeCasts_S128_S128x1 z)
      (Ideal.ofBits .f32 0x43000000#32) + Ideal.ofBits .f32 0x358637BD#32)) broadcasts_S128x1_S128x128 (ix2 i d)
      * broadcastTo S128x128 (shapeCast S1x128 w shapeCasts_S1x128_S1x128) broadcasts_S1x128_S128x128 (ix2 i d) = _
  rw [column, broadcastTo_apply _ broadcasts_S1x128_S128x128 (ix2 i d) (ix2 0 d) (by intro a; match a with | ⟨0, _⟩ => rfl | ⟨1, _⟩ => rfl), shapeCast_self]
  refine congrArg (fun z => x (ix2 i d) * Ideal.rsqrt (Ideal.div z _ + _) * w (ix2 0 d)) ?_
  exact rowSum_apply (mulf (F := Ideal) (φ := .f32) x x) _ _ _ i

/-- A block of heads normalised and turned. -/
abbrev roped (x : Vec Ideal S128x128 .f32) (w : Vec Ideal S1x128 .f32) (c s : Vec Ideal S128x128 .f32) : FVec Ideal S128x128 .bf16 :=
  k0_pay8 (F := Ideal) (k0_pay2 x w) (k0_pay3 c) (k0_pay4 s) k0_pay5 k0_pay6 k0_pay7

theorem roped_second (x : Vec Ideal S128x128 .f32) (w : Vec Ideal S1x128 .f32) (c s : Vec Ideal S128x128 .f32) :
    k0_pay16 (F := Ideal) (k0_pay11 (k0_pay9 x) (k0_pay10 w)) (k0_pay12 c) (k0_pay13 s) (Scalar.select (Scalar.cmpi .eq 2#32 0#32) 1#32 2#32) k0_pay14 k0_pay15
      = roped x w c s := rfl

/-- Which half of its 64 the column numbered `v` is in: one at the first. -/
def half (v : BitVec 32) : BitVec 1 :=
  let q := IntOp.divsi .vector v 32#32
  let p := Scalar.select (IntOp.andi (IntOp.cmpi .ne (IntOp.subi ((IntOp.cmpi .sgt v 0#32).setWidth 32) ((IntOp.cmpi .slt v 0#32).setWidth 32))
      (Scalar.subi (Scalar.extui (Scalar.cmpi .sgt 32#32 0#32)) (Scalar.extui (Scalar.cmpi .slt 32#32 0#32))))
    (IntOp.cmpi .ne (IntOp.remsi .vector v 32#32) 0#32)) (IntOp.subi q 1#32) q
  let two := Scalar.select (Scalar.cmpi .eq 2#32 0#32) 1#32 2#32
  let r := IntOp.remsi .vector p two
  IntOp.cmpi .eq (Scalar.select (IntOp.andi (IntOp.xori (IntOp.cmpi .slt r 0#32) (Scalar.cmpi .slt two 0#32)) (IntOp.cmpi .ne r 0#32)) (IntOp.addi r two) r) 0#32

theorem half_eq : ∀ d : Fin 128, half (BitVec.ofNat 32 d.val) = if d.val / 32 % 2 = 0 then 1#1 else 0#1 := by decide +kernel

theorem roped_apply (x : Vec Ideal S128x128 .f32) (w : Vec Ideal S1x128 .f32) (c s : Vec Ideal S128x128 .f32) (i d : Fin 128) :
    roped x w c s (ix2 i d) = turned (normed (fun k => x (ix2 i k)) (fun k => w (ix2 0 k))) (fun k => c (ix2 i k)) (fun k => s (ix2 i k)) d := by
  show k0_pay2 (F := Ideal) x w (ix2 i d) * shapeCast S128x128 c shapeCasts_S128x128_S128x128 (ix2 i d)
    + Scalar.select (half (iota .tc S128x128 32 [1] iota_S128x128_d1_w32 (ix2 i d)))
        (dynamicRotate 1 96#32 none (k0_pay2 (F := Ideal) x w) rotates_S128x128_d1 (ix2 i d))
        (dynamicRotate 1 32#32 none (k0_pay2 (F := Ideal) x w) rotates_S128x128_d1 (ix2 i d))
      * shapeCast S128x128 s shapeCasts_S128x128_S128x128 (ix2 i d) = _
  have hr : iota .tc S128x128 32 [1] iota_S128x128_d1_w32 (ix2 i d) = BitVec.ofNat 32 d.val := iota_single_apply .tc S128x128 32 1 iota_S128x128_d1_w32 (ix2 i d)
  rw [hr, half_eq, shapeCast_self, shapeCast_self]
  unfold turned
  rw [pay2_apply]
  refine congrArg (fun y : EReal => normed (fun k => x (ix2 i k)) (fun k => w (ix2 0 k)) d * c (ix2 i d) + y * s (ix2 i d)) ?_
  unfold partner
  by_cases h : d.val / 32 % 2 = 0
  · rw [if_pos h, dif_pos h, ← pay2_apply]
    show dynamicRotate 1 96#32 none (k0_pay2 (F := Ideal) x w) rotates_S128x128_d1 (ix2 i d) = _
    refine dynamicRotate_apply _ _ _ _ _ (ix2 i ⟨d.val + 32, by omega⟩) (fun b => ?_)
    match b with
    | ⟨0, _⟩ => rfl
    | ⟨1, _⟩ => show d.val + 32 = (d.val + 128 - 96 % 128) % 128; omega
  · rw [if_neg h, dif_neg h, ← pay2_apply]
    show dynamicRotate 1 32#32 none (k0_pay2 (F := Ideal) x w) rotates_S128x128_d1 (ix2 i d) = _
    refine dynamicRotate_apply _ _ _ _ _ (ix2 i ⟨d.val - 32, by omega⟩) (fun b => ?_)
    match b with
    | ⟨0, _⟩ => rfl
    | ⟨1, _⟩ => show d.val - 32 = (d.val + 128 - 32 % 128) % 128; omega

/-! ### The window of three blocks -/

theorem three_apply {α : Type} (a b c : S128x128.Idx → α) (h) (j : Fin 384) (d : Fin 128) :
    concatenate S384x128 0 [⟨S128x128, a⟩, ⟨S128x128, b⟩, ⟨S128x128, c⟩] h (ix2 j d)
      = (if j.val < 128 then a else if j.val < 256 then b else c) (ix2 (⟨j.val % 128, by omega⟩ : Fin 128) d) := by
  have hj := j.isLt
  have hoff : ∀ (o : ℕ) (b : Fin 2), b.cast rfl ≠ (0 : Fin 2) → ((ix2 (⟨j.val % 128, by omega⟩ : Fin 128) d : S128x128.Idx) b).val = ((ix2 j d : S384x128.Idx) (b.cast rfl)).val := fun o b hb => by
    match b with
    | ⟨0, _⟩ => exact absurd rfl hb
    | ⟨1, _⟩ => rfl
  rcases (by omega : j.val < 128 ∨ (128 ≤ j.val ∧ j.val < 256) ∨ 256 ≤ j.val) with g | g | g
  · rw [if_pos g]
    exact concatenate_apply_piece (t := S384x128) 0 _ h (ix2 j d) 0 (by show 0 < 3; omega) S128x128 a rfl rfl 0 rfl _ (hoff 0) (by show 0 + j.val % 128 = j.val; omega)
  · rw [if_neg (by omega), if_pos g.2]
    exact concatenate_apply_piece (t := S384x128) 0 _ h (ix2 j d) 1 (by show 1 < 3; omega) S128x128 b rfl rfl 128 rfl _ (hoff 0) (by show 128 + j.val % 128 = j.val; omega)
  · rw [if_neg (by omega), if_neg (by omega)]
    exact concatenate_apply_piece (t := S384x128) 0 _ h (ix2 j d) 2 (by show 2 < 3; omega) S128x128 c rfl rfl 256 rfl _ (hoff 0) (by show 256 + j.val % 128 = j.val; omega)

/-- The window's keys, of which the third block is normalised and turned where the three are joined. -/
theorem keys_joined (k0 k1 : FVec Ideal S128x128 .bf16) (x : Vec Ideal S128x128 .f32) (w : Vec Ideal S1x128 .f32) (c s : Vec Ideal S128x128 .f32) :
    k0_pay22 (F := Ideal) k0 k1 (k0_pay17 x w) (k0_pay18 c) (k0_pay19 s) (iota .tc S128x128 32 [1] iota_S128x128_d1_w32) 32#32 k0_pay20 k0_pay21 (Scalar.cmpi .sgt 32#32 0#32)
      = concatenate S384x128 0 [⟨S128x128, k0⟩, ⟨S128x128, k1⟩, ⟨S128x128, roped x w c s⟩] concatenates_S128x128_S128x128_S128x128_S384x128_d0 := rfl

/-- The band's mask. -/
def inBand (n r j : BitVec 32) : BitVec 1 :=
  let p := IntOp.addi (Scalar.muli (Scalar.subi n 1#32) 128#32) j
  IntOp.andi (IntOp.andi (IntOp.andi (IntOp.cmpi .sge j r) (IntOp.cmpi .sle j (IntOp.addi r 256#32))) (IntOp.cmpi .sge p 0#32)) (IntOp.cmpi .slt p 4096#32)

theorem mask_apply (n : BitVec 32) (r : Fin 128) (j : Fin 384) : k0_pay26 n (ix2 r j) = inBand n (BitVec.ofNat 32 r.val) (BitVec.ofNat 32 j.val) := by
  have h0 : iota .tc S128x384 32 [0] iota_S128x384_d0_w32 (ix2 r j) = BitVec.ofNat 32 r.val := iota_single_apply .tc S128x384 32 0 iota_S128x384_d0_w32 (ix2 r j)
  have h1 : iota .tc S128x384 32 [1] iota_S128x384_d1_w32 (ix2 r j) = BitVec.ofNat 32 j.val := iota_single_apply .tc S128x384 32 1 iota_S128x384_d1_w32 (ix2 r j)
  rw [← h0, ← h1]
  rfl

/-! ### One head -/

section
variable (k v : FVec Ideal S384x128 .bf16) (ck cv : FVec Ideal S512x128 .bf16) (b : IVec S128x384 1) (q : FVec Ideal S128x128 .bf16) (z : EReal)

abbrev scores : FVec Ideal S128x384 .f32 :=
  select b (mulf (F := Ideal) (φ := .f32) (matmul (F := Ideal) (φ₁ := .bf16) (φ₂ := .bf16) dot_S128x128_S384x128_S128x384_1_1_0_0_n_n none q k (constant S128x384 .f32 0x00000000#32))
    (broadcast S128x384 (Ideal.ofBits .f32 0x3DB504F3#32 : Ideal .f32))) (broadcast S128x384 (Named.named κ "mask" 0xF149F2CA#32 : Ideal .f32))
abbrev cached : FVec Ideal S128x512 .f32 :=
  mulf (F := Ideal) (φ := .f32) (matmul (F := Ideal) (φ₁ := .bf16) (φ₂ := .bf16) dot_S128x128_S512x128_S128x512_1_1_0_0_n_n none q ck (constant S128x512 .f32 0x00000000#32))
    (broadcast S128x512 (Ideal.ofBits .f32 0x3DB504F3#32 : Ideal .f32))
abbrev tops : FVec Ideal S128x1 .f32 :=
  maximumf (F := Ideal) (φ := .f32) (maximumf (F := Ideal) (φ := .f32) (broadcastTo S128x1 (broadcast S1x1 z : FVec Ideal S1x1 .f32) broadcasts_S1x1_S128x1)
    (shapeCast S128x1 (multiReduction (F := Ideal) .maximumf [1] S128 (scores k b q) 0xFF800000#32 reduces_S128x384_S128 (.inl rfl) rfl) shapeCasts_S128_S128x1))
    (shapeCast S128x1 (multiReduction (F := Ideal) .maximumf [1] S128 (cached ck q) 0xFF800000#32 reduces_S128x512_S128 (.inl rfl) rfl) shapeCasts_S128_S128x1)
abbrev exps : FVec Ideal S128x384 .f32 := fun y => Ideal.exp (scores k b q y - broadcastTo S128x384 (tops k ck b q z) broadcasts_S128x1_S128x384 y)
abbrev cexps : FVec Ideal S128x512 .f32 := fun y => Ideal.exp (cached ck q y - broadcastTo S128x512 (tops k ck b q z) broadcasts_S128x1_S128x512 y)
abbrev totals : FVec Ideal S128x1 .f32 := fun y => Ideal.exp (z - tops k ck b q z y)
  + shapeCast S128x1 (multiReduction (F := Ideal) .add [1] S128 (exps k ck b q z) 0x00000000#32 reduces_S128x384_S128 (.inl rfl) rfl) shapeCasts_S128_S128x1 y
  + shapeCast S128x1 (multiReduction (F := Ideal) .add [1] S128 (cexps k ck b q z) 0x00000000#32 reduces_S128x512_S128 (.inl rfl) rfl) shapeCasts_S128_S128x1 y
/-- A head's output. -/
abbrev headOut : FVec Ideal S128x128 .bf16 :=
  addf (F := Ideal) (φ := .f32)
    (matmul (F := Ideal) (φ₁ := .bf16) (φ₂ := .bf16) dot_S128x384_S384x128_S128x128_1_0_0_1_n_n none
      (fun y => exps k ck b q z y * broadcastTo S128x384 (fun x => Ideal.div (Ideal.ofBits .f32 0x3F800000#32) (totals k ck b q z x)) broadcasts_S128x1_S128x384 y) v
      (constant S128x128 .f32 0x00000000#32))
    (matmul (F := Ideal) (φ₁ := .bf16) (φ₂ := .bf16) dot_S128x512_S512x128_S128x128_1_0_0_1_n_n none
      (fun y => cexps k ck b q z y * broadcastTo S128x512 (fun x => Ideal.div (Ideal.ofBits .f32 0x3F800000#32) (totals k ck b q z x)) broadcasts_S128x1_S128x512 y) cv
      (constant S128x128 .f32 0x00000000#32))

/-- A row's logits, −∞ off the band, and its logits at the cache. -/
abbrev row (i : Fin 128) : Fin 384 → EReal := fun j => if b (ix2 i j) = 1 then logit (fun x => q (ix2 i x)) (fun x => k (ix2 j x)) else ⊥
abbrev crow (i : Fin 128) : Fin 512 → EReal := fun j => logit (fun x => q (ix2 i x)) (fun x => ck (ix2 j x))

theorem scores_apply (i : Fin 128) (j : Fin 384) : scores k b q (ix2 i j) = row k b q i j := by
  show (if b (ix2 i j) = 1 then (_ : EReal) else (Named.named κ "mask" 0xF149F2CA#32 : Ideal .f32)) = _
  have hm : (Named.named κ "mask" 0xF149F2CA#32 : Ideal .f32) = (⊥ : EReal) := IdealRules.named_const.ideal_named_scalar _ _ _ _ rfl
  rw [hm]
  refine congrArg (fun y => if b (ix2 i j) = 1 then y else ⊥) (congrArg (fun y => y * Ideal.ofBits .f32 0x3DB504F3#32) ?_)
  show FloatOps.matmul (F := Ideal) (φ₁ := .bf16) (φ₂ := .bf16) (DotDims.transposedRhs 128 128 384) none q k (constant S128x384 .f32 0x00000000#32) (ix2 i j) = _
  rw [Ideal.matmul_transposedRhs_apply]
  show Ideal.ofBits .f32 0x00000000#32 + _ = _
  rw [Ideal.ofBits_zero_f32, zero_add]

theorem cached_apply (i : Fin 128) (j : Fin 512) : cached ck q (ix2 i j) = crow ck q i j := by
  refine congrArg (fun y => y * Ideal.ofBits .f32 0x3DB504F3#32) ?_
  show FloatOps.matmul (F := Ideal) (φ₁ := .bf16) (φ₂ := .bf16) (DotDims.transposedRhs 128 128 512) none q ck (constant S128x512 .f32 0x00000000#32) (ix2 i j) = _
  rw [Ideal.matmul_transposedRhs_apply]
  show Ideal.ofBits .f32 0x00000000#32 + _ = _
  rw [Ideal.ofBits_zero_f32, zero_add]

theorem tops_apply (i : Fin 128) : tops k ck b q z (ix2 i 0) = top (row k b q i) (crow ck q i) z := by
  refine congrArg₂ (fun x y => max (max z x) y) ((rowMax_apply (scores k b q) _ _ _ i).trans ?_) ((rowMax_apply (cached ck q) _ _ _ i).trans ?_)
  · simp only [scores_apply]
  · simp only [cached_apply]

theorem exps_apply (i : Fin 128) (j : Fin 384) : exps k ck b q z (ix2 i j) = Ideal.exp (row k b q i j - top (row k b q i) (crow ck q i) z) := by
  show Ideal.exp (scores k b q (ix2 i j) - broadcastTo S128x384 (tops k ck b q z) broadcasts_S128x1_S128x384 (ix2 i j)) = _
  rw [column, scores_apply, tops_apply]

theorem cexps_apply (i : Fin 128) (j : Fin 512) : cexps k ck b q z (ix2 i j) = Ideal.exp (crow ck q i j - top (row k b q i) (crow ck q i) z) := by
  show Ideal.exp (cached ck q (ix2 i j) - broadcastTo S128x512 (tops k ck b q z) broadcasts_S128x1_S128x512 (ix2 i j)) = _
  rw [column, cached_apply, tops_apply]

theorem totals_apply (i : Fin 128) : totals k ck b q z (ix2 i 0) = total (row k b q i) (crow ck q i) z := by
  unfold total
  refine congrArg₂ (fun x y : EReal => x + y) (congrArg₂ (fun x y : EReal => Ideal.exp (z - x) + y) (tops_apply k ck b q z i)
    ((rowSum_apply (exps k ck b q z) _ _ _ i).trans ?_)) ((rowSum_apply (cexps k ck b q z) _ _ _ i).trans ?_)
  · simp only [exps_apply]
  · simp only [cexps_apply]

theorem headOut_apply (i d : Fin 128) :
    headOut k v ck cv b q z (ix2 i d) = attend (row k b q i) (crow ck q i) z (fun j => v (ix2 j d)) (fun j => cv (ix2 j d)) := by
  unfold attend
  refine congrArg₂ (fun x y : EReal => x + y) ?_ ?_
  · show FloatOps.matmul (F := Ideal) (φ₁ := .bf16) (φ₂ := .bf16) (DotDims.plain 128 384 128) none _ v (constant S128x128 .f32 0x00000000#32) (ix2 i d) = _
    rw [Ideal.matmul_plain_apply]
    show Ideal.ofBits .f32 0x00000000#32 + _ = _
    rw [Ideal.ofBits_zero_f32, zero_add]
    refine Finset.sum_congr rfl fun j _ => ?_
    dsimp only
    rw [column, exps_apply, totals_apply]
    rfl
  · show FloatOps.matmul (F := Ideal) (φ₁ := .bf16) (φ₂ := .bf16) (DotDims.plain 128 512 128) none _ cv (constant S128x128 .f32 0x00000000#32) (ix2 i d) = _
    rw [Ideal.matmul_plain_apply]
    show Ideal.ofBits .f32 0x00000000#32 + _ = _
    rw [Ideal.ofBits_zero_f32, zero_add]
    refine Finset.sum_congr rfl fun j _ => ?_
    dsimp only
    rw [column, cexps_apply, totals_apply]
    rfl
end

/-! ### The four heads of a group run the same arithmetic -/

section
variable (k v : FVec Ideal S384x128 .bf16) (ck cv : FVec Ideal S512x128 .bf16) (b : IVec S128x384 1)
  (x : Vec Ideal S128x128 .f32) (w : Vec Ideal S1x128 .f32) (c s : Vec Ideal S128x128 .f32) (z : Elt Ideal .f32)

theorem first :
    k0_pay41 (F := Ideal) v cv (k0_pay38 k ck b (k0_pay27 x w) (k0_pay28 c) (k0_pay29 s) k0_pay30 k0_pay31 k0_pay32 z)
      (k0_pay39 k ck b (k0_pay27 x w) (k0_pay28 c) (k0_pay29 s) k0_pay30 k0_pay31 k0_pay32 z)
      (k0_pay40 k ck b (k0_pay27 x w) (k0_pay28 c) (k0_pay29 s) k0_pay30 k0_pay31 k0_pay32 z) (Scalar.ofBits .f32 0x3F800000#32)
      = headOut k v ck cv b (roped x w c s) z := rfl
theorem second :
    k0_pay50 (F := Ideal) v ck cv b (k0_pay48 (k0_pay42 x w) (k0_pay43 c) (k0_pay44 s) (iota .tc S128x128 32 [1] iota_S128x128_d1_w32) 32#32 k0_pay45 k0_pay46 k0_pay47)
      (k0_pay49 k (k0_pay42 x w) (k0_pay43 c) (k0_pay44 s) (iota .tc S128x128 32 [1] iota_S128x128_d1_w32) 32#32 k0_pay45 k0_pay46 k0_pay47)
      (Named.named κ "mask" 0xF149F2CA#32) z
      = headOut k v ck cv b (roped x w c s) z := rfl
theorem third :
    k0_pay62 (F := Ideal) v cv (k0_pay58 k b (k0_pay51 x w) (k0_pay52 c) (k0_pay53 s) k0_pay54 k0_pay55 k0_pay56)
      (k0_pay59 ck (k0_pay51 x w) (k0_pay52 c) (k0_pay53 s) k0_pay54 k0_pay55 k0_pay56) (k0_pay60 z)
      (k0_pay61 k b (k0_pay51 x w) (k0_pay52 c) (k0_pay53 s) k0_pay54 k0_pay55 k0_pay56 z)
      = headOut k v ck cv b (roped x w c s) z := rfl
abbrev two : BitVec 32 := Scalar.select (Scalar.cmpi .eq 2#32 0#32) 1#32 2#32
theorem fourth :
    k0_pay1 (F := Ideal) v cv (k0_pay76 k ck b (k0_pay65 (k0_pay63 x) (k0_pay64 w)) (k0_pay66 c) (k0_pay67 s) two k0_pay68 k0_pay69 k0_pay70 z)
      (k0_pay77 k ck b (k0_pay65 (k0_pay63 x) (k0_pay64 w)) (k0_pay66 c) (k0_pay67 s) two k0_pay68 k0_pay69 k0_pay70 z)
      (k0_pay78 k ck b (k0_pay65 (k0_pay63 x) (k0_pay64 w)) (k0_pay66 c) (k0_pay67 s) two k0_pay68 k0_pay69 k0_pay70 z)
      (k0_pay79 k ck b (k0_pay65 (k0_pay63 x) (k0_pay64 w)) (k0_pay66 c) (k0_pay67 s) two k0_pay68 k0_pay69 k0_pay70 z)
      = headOut k v ck cv b (roped x w c s) z := rfl
end

end Cert.Kernel14Ideal.Band
-- ==== Proof.AttentionBandRef.lean ====
/- The banded attention's reference read at an entry: its result is `AttentionBand.attend` of the projection's entries, over
   all the keys of the sequence with −∞ off the band. -/
module

public import proofs.«01_k».proof.Proof.BandSoftmax
public import proofs.«01_k».proof.Proof.Gen.Reference14Ideal.Read

@[expose] public section

noncomputable section

open Idealize.ShloMosaic Idealize.ShloMosaic.TcCoe Idealize.SL.Sem
open Idealize.ShloMosaic.ValueIdx
open scoped BigOperators

namespace Cert.Reference14Ideal.Band

open Cert.Reference14Ideal Cert.Reference14Ideal.Gen Cert.Reference14Ideal.Read Cert.AttentionBand
open Cert.Attention (normed logit)

variable (a : (⟨S32768x4608, .f32⟩ : BufTy).Contents (Elt Ideal)) (ck cv : (⟨S8x512x256, .f32⟩ : BufTy).Contents (Elt Ideal))
  (qn kn : (⟨S128, .f32⟩ : BufTy).Contents (Elt Ideal)) (sink : (⟨S8, .f32⟩ : BufTy).Contents (Elt Ideal))

/-- The row of position `t` of sequence `b`; the columns of a query head, a key head and a value head; a head's number. -/
abbrev tok (b : Fin 8) (t : Fin 4096) : Fin 32768 := ⟨b.val * 4096 + t.val, by omega⟩
abbrev head (h : Fin 2) (g : Fin 4) : Fin 8 := ⟨h.val * 4 + g.val, by omega⟩
abbrev qcol (n : Fin 8) (d : Fin 128) : Fin 4608 := ⟨3072 + n.val * 128 + d.val, by omega⟩
abbrev kcol (h : Fin 2) (d : Fin 128) : Fin 4608 := ⟨4096 + h.val * 128 + d.val, by omega⟩
abbrev vcol (h : Fin 2) (d : Fin 128) : Fin 4608 := ⟨4352 + h.val * 128 + d.val, by omega⟩
/-- The columns of the result and of the cache. -/
abbrev ocol (n : Fin 8) (d : Fin 128) : Fin 1024 := ⟨n.val * 128 + d.val, by omega⟩
abbrev ccol (h : Fin 2) (d : Fin 128) : Fin 256 := ⟨h.val * 128 + d.val, by omega⟩

theorem token_apply (b : Fin 8) (t : Fin 4096) (c : Fin 4608) :
    val_main_v0 (F := Ideal) a (ix3 b t c) = a (ix2 (tok b t) c) := by
  rw [val_main_v0_apply]
  refine congrArg a ?_
  funext p; apply Fin.ext
  match p with
  | ⟨0, _⟩ => show ((b.val * 4096 + t.val) * 4608 + c.val) / 4608 = b.val * 4096 + t.val; omega
  | ⟨1, _⟩ => show ((b.val * 4096 + t.val) * 4608 + c.val) % 4608 = c.val; omega

/-! ### Queries, keys and values -/

theorem q_apply (b : Fin 8) (t : Fin 4096) (n : Fin 8) (d : Fin 128) :
    val_main_v5 (F := Ideal) a (ix4 b t n d) = a (ix2 (tok b t) (qcol n d)) := by
  rw [val_main_v5_apply, val_main_v2_apply, ← token_apply a]
  refine congrArg (val_main_v0 (F := Ideal) a) ?_
  funext p; apply Fin.ext
  match p with
  | ⟨0, _⟩ => show (((b.val * 4096 + t.val) * 8 + n.val) * 128 + d.val) / 4194304 = b.val; omega
  | ⟨1, _⟩ => show (((b.val * 4096 + t.val) * 8 + n.val) * 128 + d.val) / 1024 % 4096 = t.val; omega
  | ⟨2, _⟩ => show 3072 + (((b.val * 4096 + t.val) * 8 + n.val) * 128 + d.val) % 1024 = 3072 + n.val * 128 + d.val; omega

theorem k_apply (b : Fin 8) (t : Fin 4096) (n : Fin 2) (d : Fin 128) :
    val_main_v82 (F := Ideal) a (ix4 b t n d) = a (ix2 (tok b t) (kcol n d)) := by
  rw [val_main_v82_apply, val_main_v3_apply, ← token_apply a]
  refine congrArg (val_main_v0 (F := Ideal) a) ?_
  funext p; apply Fin.ext
  match p with
  | ⟨0, _⟩ => show (((b.val * 4096 + t.val) * 2 + n.val) * 128 + d.val) / 1048576 = b.val; omega
  | ⟨1, _⟩ => show (((b.val * 4096 + t.val) * 2 + n.val) * 128 + d.val) / 256 % 4096 = t.val; omega
  | ⟨2, _⟩ => show 4096 + (((b.val * 4096 + t.val) * 2 + n.val) * 128 + d.val) % 256 = 4096 + n.val * 128 + d.val; omega

theorem v_apply (b : Fin 8) (t : Fin 4096) (n : Fin 2) (d : Fin 128) :
    val_main_v158 (F := Ideal) a (ix4 b t n d) = a (ix2 (tok b t) (vcol n d)) := by
  rw [val_main_v158_apply, val_main_v4_apply, ← token_apply a]
  refine congrArg (val_main_v0 (F := Ideal) a) ?_
  funext p; apply Fin.ext
  match p with
  | ⟨0, _⟩ => show (((b.val * 4096 + t.val) * 2 + n.val) * 128 + d.val) / 1048576 = b.val; omega
  | ⟨1, _⟩ => show (((b.val * 4096 + t.val) * 2 + n.val) * 128 + d.val) / 256 % 4096 = t.val; omega
  | ⟨2, _⟩ => show 4352 + (((b.val * 4096 + t.val) * 2 + n.val) * 128 + d.val) % 256 = 4352 + n.val * 128 + d.val; omega

theorem ck_apply (b : Fin 8) (j : Fin 512) (h : Fin 2) (d : Fin 128) :
    val_main_v159 (F := Ideal) ck (ix4 b j h d) = ck (ix3 b j (ccol h d)) := by
  rw [val_main_v159_apply]
  refine congrArg ck ?_
  funext p; apply Fin.ext
  match p with
  | ⟨0, _⟩ => show (((b.val * 512 + j.val) * 2 + h.val) * 128 + d.val) / 131072 = b.val; omega
  | ⟨1, _⟩ => show (((b.val * 512 + j.val) * 2 + h.val) * 128 + d.val) / 256 % 512 = j.val; omega
  | ⟨2, _⟩ => show (((b.val * 512 + j.val) * 2 + h.val) * 128 + d.val) % 256 = h.val * 128 + d.val; omega

theorem cv_apply (b : Fin 8) (j : Fin 512) (h : Fin 2) (d : Fin 128) :
    val_main_v160 (F := Ideal) cv (ix4 b j h d) = cv (ix3 b j (ccol h d)) := by
  rw [val_main_v160_apply]
  refine congrArg cv ?_
  funext p; apply Fin.ext
  match p with
  | ⟨0, _⟩ => show (((b.val * 512 + j.val) * 2 + h.val) * 128 + d.val) / 131072 = b.val; omega
  | ⟨1, _⟩ => show (((b.val * 512 + j.val) * 2 + h.val) * 128 + d.val) / 256 % 512 = j.val; omega
  | ⟨2, _⟩ => show (((b.val * 512 + j.val) * 2 + h.val) * 128 + d.val) % 256 = h.val * 128 + d.val; omega

/-- A normalised query head and a normalised key head. -/
abbrev nquery (b : Fin 8) (t : Fin 4096) (n : Fin 8) : Fin 128 → EReal :=
  normed (fun k => a (ix2 (tok b t) (qcol n k))) (fun k => qn (ix1 k))
abbrev nkeys (b : Fin 8) (t : Fin 4096) (h : Fin 2) : Fin 128 → EReal :=
  normed (fun k => a (ix2 (tok b t) (kcol h k))) (fun k => kn (ix1 k))

theorem nquery_apply (b : Fin 8) (t : Fin 4096) (n : Fin 8) (d : Fin 128) :
    val_main_v18 (F := Ideal) a qn (ix4 b t n d) = nquery a qn b t n d := by
  rw [val_main_v18_apply, val_main_v15_apply, val_main_v14_apply, val_main_v13_apply, val_main_v12_apply, val_main_v11_apply, val_main_v10_apply,
    val_main_v9_apply, val_main_v8_apply, val_main_v7_apply, val_main_v17_apply, val_main_v16_apply, q_apply]
  have es : (∑ k : Fin 128, val_main_v6 (F := Ideal) a (idx_main_v7 (idx_main_v8 (idx_main_v14 (ix4 b t n d))) k))
      = ∑ k : Fin 128, a (ix2 (tok b t) (qcol n k)) * a (ix2 (tok b t) (qcol n k)) := by
    refine Finset.sum_congr rfl fun k _ => ?_
    rw [val_main_v6_apply]
    have e : idx_main_v7 (idx_main_v8 (idx_main_v14 (ix4 b t n d))) k = ix4 b t n k := eq_ix4 _
    rw [e, q_apply]
    rfl
  have ew : idx_main_v16 (idx_main_v17 (ix4 b t n d)) = ix1 d := eq_ix1 _
  rw [es, ew]
  show (_ * Ideal.rsqrt (Ideal.div (Ideal.ofBits .f32 0x00000000#32 + _) (Ideal.ofBits .f32 0x43000000#32) + Ideal.ofBits .f32 0x358637BD#32)) * _ = _
  rw [Ideal.ofBits_zero_f32, zero_add]
  rfl

theorem nkeys_apply (b : Fin 8) (t : Fin 4096) (n : Fin 2) (d : Fin 128) :
    val_main_v95 (F := Ideal) a kn (ix4 b t n d) = nkeys a kn b t n d := by
  rw [val_main_v95_apply, val_main_v92_apply, val_main_v91_apply, val_main_v90_apply, val_main_v89_apply, val_main_v88_apply, val_main_v87_apply,
    val_main_v86_apply, val_main_v85_apply, val_main_v84_apply, val_main_v94_apply, val_main_v93_apply, k_apply]
  have es : (∑ k : Fin 128, val_main_v83 (F := Ideal) a (idx_main_v84 (idx_main_v85 (idx_main_v91 (ix4 b t n d))) k))
      = ∑ k : Fin 128, a (ix2 (tok b t) (kcol n k)) * a (ix2 (tok b t) (kcol n k)) := by
    refine Finset.sum_congr rfl fun k _ => ?_
    rw [val_main_v83_apply]
    have e : idx_main_v84 (idx_main_v85 (idx_main_v91 (ix4 b t n d))) k = ix4 b t n k := eq_ix4 _
    rw [e, k_apply]
    rfl
  have ew : idx_main_v93 (idx_main_v94 (ix4 b t n d)) = ix1 d := eq_ix1 _
  rw [es, ew]
  show (_ * Ideal.rsqrt (Ideal.div (Ideal.ofBits .f32 0x00000000#32 + _) (Ideal.ofBits .f32 0x43000000#32) + Ideal.ofBits .f32 0x358637BD#32)) * _ = _
  rw [Ideal.ofBits_zero_f32, zero_add]
  rfl

/-! ### The turn by the positions' angles -/

abbrev cosOf (x : EReal) : EReal := FloatOps.hostUnary (F := Ideal) (φ := .f32) .cos x
abbrev sinOf (x : EReal) : EReal := FloatOps.hostUnary (F := Ideal) (φ := .f32) .sin x
abbrev rowAngle (t : Fin 4096) (f : Fin 32) : EReal := val_main_v39 (F := Ideal) (ix2 t f)
abbrev colAngle (t : Fin 4096) (f : Fin 32) : EReal := val_main_v62 (F := Ideal) (ix2 t f)
/-- The angle of entry `d` of a head at position `t`: the row's for the first 64, the column's for the last. -/
def angle (t : Fin 4096) (d : Fin 128) : EReal :=
  if d.val < 64 then rowAngle t ⟨d.val % 32, by omega⟩ else colAngle t ⟨d.val % 32, by omega⟩
def cosAt (t : Fin 4096) (d : Fin 128) : EReal := cosOf (angle t d)
/-- The sine of the angle, negative for the first of each pair. -/
def sinAt (t : Fin 4096) (d : Fin 128) : EReal := if d.val / 32 % 2 = 0 then -sinOf (angle t d) else sinOf (angle t d)

theorem row_again : val_main_v116 (F := Ideal) = val_main_v39 (F := Ideal) := rfl
theorem col_again : val_main_v139 (F := Ideal) = val_main_v62 (F := Ideal) := rfl

theorem join_left {n m p : ℕ} (A B : (⟨4, ![8, 4096, n, m]⟩ : Shape).Idx → EReal) (h) (b : Fin 8) (t : Fin 4096) (k : Fin n) (d : Fin p) (e : Fin m) (he : e.val = d.val) :
    concatenate (⟨4, ![8, 4096, n, p]⟩ : Shape) 3 [⟨(⟨4, ![8, 4096, n, m]⟩ : Shape), A⟩, ⟨(⟨4, ![8, 4096, n, m]⟩ : Shape), B⟩] h (ix4 b t k d : (⟨4, ![8, 4096, n, p]⟩ : Shape).Idx) = A (ix4 b t k e) := by
  refine concatenate_pair_apply_left (t := ⟨4, ![8, 4096, n, p]⟩) (s₁ := ⟨4, ![8, 4096, n, m]⟩) (s₂ := ⟨4, ![8, 4096, n, m]⟩) (3 : Fin 4) _ _ _ _ rfl (ix4 b t k e : (⟨4, ![8, 4096, n, m]⟩ : Shape).Idx) (fun q => ?_)
  match q with
  | ⟨0, _⟩ => rfl
  | ⟨1, _⟩ => rfl
  | ⟨2, _⟩ => rfl
  | ⟨3, _⟩ => exact he
theorem join_right {n m p : ℕ} (A B : (⟨4, ![8, 4096, n, m]⟩ : Shape).Idx → EReal) (h) (b : Fin 8) (t : Fin 4096) (k : Fin n) (d : Fin p) (e : Fin m) (he : e.val + m = d.val) :
    concatenate (⟨4, ![8, 4096, n, p]⟩ : Shape) 3 [⟨(⟨4, ![8, 4096, n, m]⟩ : Shape), A⟩, ⟨(⟨4, ![8, 4096, n, m]⟩ : Shape), B⟩] h (ix4 b t k d : (⟨4, ![8, 4096, n, p]⟩ : Shape).Idx) = B (ix4 b t k e) := by
  refine concatenate_pair_apply_right (t := ⟨4, ![8, 4096, n, p]⟩) (s₁ := ⟨4, ![8, 4096, n, m]⟩) (s₂ := ⟨4, ![8, 4096, n, m]⟩) (3 : Fin 4) _ _ _ _ rfl rfl (ix4 b t k e : (⟨4, ![8, 4096, n, m]⟩ : Shape).Idx) (fun q hq => ?_) he
  match q with
  | ⟨0, _⟩ => rfl
  | ⟨1, _⟩ => rfl
  | ⟨2, _⟩ => rfl
  | ⟨3, _⟩ => exact absurd rfl hq

/-- A turned entry, by the quarter of the head it lies in. -/
theorem turned_first (x : Fin 128 → EReal) (t : Fin 4096) (d : Fin 128) (y : EReal) (p : Fin 128) (hp : p.val = d.val + 32)
    (hq : d.val / 32 % 2 = 0) (ha : angle t d = y) : turned x (cosAt t) (sinAt t) d = x d * cosOf y - x p * sinOf y := by
  unfold turned cosAt sinAt partner
  rw [dif_pos hq, if_pos hq, ha, mul_neg, sub_eq_add_neg]
  exact congrArg (fun i => _ + -(x i * _)) (Fin.ext hp.symm)
theorem turned_last (x : Fin 128 → EReal) (t : Fin 4096) (d : Fin 128) (y : EReal) (p : Fin 128) (hp : p.val + 32 = d.val)
    (hq : ¬ d.val / 32 % 2 = 0) (ha : angle t d = y) : turned x (cosAt t) (sinAt t) d = x p * sinOf y + x d * cosOf y := by
  unfold turned cosAt sinAt partner
  rw [dif_neg hq, if_neg hq, ha, add_comm]
  exact congrArg (fun i => x i * _ + _) (Fin.ext (by show d.val - 32 = p.val; omega))

/-- Four quarters turned, joined, are the head turned. -/
theorem whole {n : ℕ} (p q r s : (⟨4, ![8, 4096, n, 32]⟩ : Shape).Idx → EReal) (L R : (⟨4, ![8, 4096, n, 64]⟩ : Shape).Idx → EReal) (h h' h'')
    (hL : L = concatenate ⟨4, ![8, 4096, n, 64]⟩ 3 [⟨⟨4, ![8, 4096, n, 32]⟩, p⟩, ⟨⟨4, ![8, 4096, n, 32]⟩, q⟩] h)
    (hR : R = concatenate ⟨4, ![8, 4096, n, 64]⟩ 3 [⟨⟨4, ![8, 4096, n, 32]⟩, r⟩, ⟨⟨4, ![8, 4096, n, 32]⟩, s⟩] h')
    (b : Fin 8) (t : Fin 4096) (k : Fin n) (x : Fin 128 → EReal)
    (hp : ∀ f : Fin 32, p (ix4 b t k f) = x ⟨f.val, by omega⟩ * cosOf (rowAngle t f) - x ⟨32 + f.val, by omega⟩ * sinOf (rowAngle t f))
    (hq : ∀ f : Fin 32, q (ix4 b t k f) = x ⟨f.val, by omega⟩ * sinOf (rowAngle t f) + x ⟨32 + f.val, by omega⟩ * cosOf (rowAngle t f))
    (hr : ∀ f : Fin 32, r (ix4 b t k f) = x ⟨64 + f.val, by omega⟩ * cosOf (colAngle t f) - x ⟨64 + (32 + f.val), by omega⟩ * sinOf (colAngle t f))
    (hs : ∀ f : Fin 32, s (ix4 b t k f) = x ⟨64 + f.val, by omega⟩ * sinOf (colAngle t f) + x ⟨64 + (32 + f.val), by omega⟩ * cosOf (colAngle t f)) (d : Fin 128) :
    concatenate ⟨4, ![8, 4096, n, 128]⟩ 3 [⟨⟨4, ![8, 4096, n, 64]⟩, L⟩, ⟨⟨4, ![8, 4096, n, 64]⟩, R⟩] h'' (ix4 b t k d) = turned x (cosAt t) (sinAt t) d := by
  have hd := d.isLt
  subst hL; subst hR
  rcases (by omega : d.val < 32 ∨ (32 ≤ d.val ∧ d.val < 64) ∨ (64 ≤ d.val ∧ d.val < 96) ∨ 96 ≤ d.val) with hc | hc | hc | hc
  · refine (join_left _ _ _ b t k d (⟨d.val, by omega⟩ : Fin 64) (by rfl)).trans ?_
    refine (join_left _ _ _ b t k _ (⟨d.val - 0, by omega⟩ : Fin 32) (by show d.val - 0 = d.val; omega)).trans ?_
    have ea : angle t d = rowAngle t (⟨d.val - 0, by omega⟩ : Fin 32) := by
      unfold angle
      rw [if_pos (by omega)]
      exact congrArg (rowAngle t) (Fin.ext (by show d.val % 32 = d.val - 0; omega))
    have ed : (⟨d.val - 0, by omega⟩ : Fin 128) = d := Fin.ext (by show d.val - 0 = d.val; omega)
    rw [hp, turned_first _ t d _ (⟨32 + (d.val - 0), by omega⟩ : Fin 128) (by show 32 + (d.val - 0) = d.val + 32; omega) (by omega) ea, ed]
  · refine (join_left _ _ _ b t k d (⟨d.val, by omega⟩ : Fin 64) (by rfl)).trans ?_
    refine (join_right _ _ _ b t k _ (⟨d.val - 32, by omega⟩ : Fin 32) (by show d.val - 32 + 32 = d.val; omega)).trans ?_
    have ea : angle t d = rowAngle t (⟨d.val - 32, by omega⟩ : Fin 32) := by
      unfold angle
      rw [if_pos (by omega)]
      exact congrArg (rowAngle t) (Fin.ext (by show d.val % 32 = d.val - 32; omega))
    have ed : (⟨32 + (d.val - 32), by omega⟩ : Fin 128) = d := Fin.ext (by show 32 + (d.val - 32) = d.val; omega)
    rw [hq, turned_last _ t d _ (⟨d.val - 32, by omega⟩ : Fin 128) (by show d.val - 32 + 32 = d.val; omega) (by omega) ea, ed]
  · refine (join_right _ _ _ b t k d (⟨d.val - 64, by omega⟩ : Fin 64) (by show d.val - 64 + 64 = d.val; omega)).trans ?_
    refine (join_left _ _ _ b t k _ (⟨d.val - 64, by omega⟩ : Fin 32) (by show d.val - 64 = d.val - 64; omega)).trans ?_
    have ea : angle t d = colAngle t (⟨d.val - 64, by omega⟩ : Fin 32) := by
      unfold angle
      rw [if_neg (by omega)]
      exact congrArg (colAngle t) (Fin.ext (by show d.val % 32 = d.val - 64; omega))
    have ed : (⟨64 + (d.val - 64), by omega⟩ : Fin 128) = d := Fin.ext (by show 64 + (d.val - 64) = d.val; omega)
    rw [hr, turned_first _ t d _ (⟨64 + (32 + (d.val - 64)), by omega⟩ : Fin 128) (by show 64 + (32 + (d.val - 64)) = d.val + 32; omega) (by omega) ea, ed]
  · refine (join_right _ _ _ b t k d (⟨d.val - 64, by omega⟩ : Fin 64) (by show d.val - 64 + 64 = d.val; omega)).trans ?_
    refine (join_right _ _ _ b t k _ (⟨d.val - 96, by omega⟩ : Fin 32) (by show d.val - 96 + 32 = d.val - 64; omega)).trans ?_
    have ea : angle t d = colAngle t (⟨d.val - 96, by omega⟩ : Fin 32) := by
      unfold angle
      rw [if_neg (by omega)]
      exact congrArg (colAngle t) (Fin.ext (by show d.val % 32 = d.val - 96; omega))
    have ed : (⟨64 + (32 + (d.val - 96)), by omega⟩ : Fin 128) = d := Fin.ext (by show 64 + (32 + (d.val - 96)) = d.val; omega)
    rw [hs, turned_last _ t d _ (⟨64 + (d.val - 96), by omega⟩ : Fin 128) (by show 64 + (d.val - 96) + 32 = d.val; omega) (by omega) ea, ed]

/-- The turned head. -/
abbrev query (b : Fin 8) (t : Fin 4096) (n : Fin 8) : Fin 128 → EReal := turned (nquery a qn b t n) (cosAt t) (sinAt t)

theorem query_apply (b : Fin 8) (t : Fin 4096) (n : Fin 8) (d : Fin 128) : val_main_v80 (F := Ideal) a qn (ix4 b t n d) = query a qn b t n d := by
  unfold val_main_v80
  have at4 : ∀ (i : S8x4096x8x128.Idx) (e : Fin 128), i = ix4 b t n e → val_main_v18 (F := Ideal) a qn i = nquery a qn b t n e := fun i e h => h ▸ nquery_apply a qn b t n e
  refine whole _ _ _ _ _ _ _ _ _ (by unfold val_main_v56; rfl) (by unfold val_main_v79; rfl) b t n _
    (fun f => by
      rw [val_main_v50_apply, val_main_v47_apply, val_main_v49_apply, val_main_v44_apply, val_main_v45_apply, val_main_v34_apply, val_main_v34_apply,
        val_main_v46_apply, val_main_v48_apply, val_main_v41_apply, val_main_v43_apply, val_main_v40_apply, val_main_v42_apply]
      exact congrArg₂ (· - ·) (congrArg₂ (· * ·) (at4 _ _ (eq_ix4 _)) rfl) (congrArg₂ (· * ·) (at4 _ _ (eq_ix4 _)) rfl))
    (fun f => by
      rw [val_main_v55_apply, val_main_v52_apply, val_main_v54_apply, val_main_v44_apply, val_main_v45_apply, val_main_v34_apply, val_main_v34_apply,
        val_main_v51_apply, val_main_v53_apply, val_main_v43_apply, val_main_v41_apply, val_main_v42_apply, val_main_v40_apply]
      exact congrArg₂ (· + ·) (congrArg₂ (· * ·) (at4 _ _ (eq_ix4 _)) rfl) (congrArg₂ (· * ·) (at4 _ _ (eq_ix4 _)) rfl))
    (fun f => by
      rw [val_main_v73_apply, val_main_v70_apply, val_main_v72_apply, val_main_v67_apply, val_main_v68_apply, val_main_v57_apply, val_main_v57_apply,
        val_main_v69_apply, val_main_v71_apply, val_main_v64_apply, val_main_v66_apply, val_main_v63_apply, val_main_v65_apply]
      exact congrArg₂ (· - ·) (congrArg₂ (· * ·) (at4 _ _ (eq_ix4 _)) rfl) (congrArg₂ (· * ·) (at4 _ _ (eq_ix4 _)) rfl))
    (fun f => by
      rw [val_main_v78_apply, val_main_v75_apply, val_main_v77_apply, val_main_v67_apply, val_main_v68_apply, val_main_v57_apply, val_main_v57_apply,
        val_main_v74_apply, val_main_v76_apply, val_main_v66_apply, val_main_v64_apply, val_main_v65_apply, val_main_v63_apply]
      exact congrArg₂ (· + ·) (congrArg₂ (· * ·) (at4 _ _ (eq_ix4 _)) rfl) (congrArg₂ (· * ·) (at4 _ _ (eq_ix4 _)) rfl)) d

/-- The turned head. -/
abbrev keys (b : Fin 8) (t : Fin 4096) (n : Fin 2) : Fin 128 → EReal := turned (nkeys a kn b t n) (cosAt t) (sinAt t)

theorem keys_apply (b : Fin 8) (t : Fin 4096) (n : Fin 2) (d : Fin 128) : val_main_v157 (F := Ideal) a kn (ix4 b t n d) = keys a kn b t n d := by
  unfold val_main_v157
  have at4 : ∀ (i : S8x4096x2x128.Idx) (e : Fin 128), i = ix4 b t n e → val_main_v95 (F := Ideal) a kn i = nkeys a kn b t n e := fun i e h => h ▸ nkeys_apply a kn b t n e
  refine whole _ _ _ _ _ _ _ _ _ (by unfold val_main_v133; rfl) (by unfold val_main_v156; rfl) b t n _
    (fun f => by
      rw [val_main_v127_apply, val_main_v124_apply, val_main_v126_apply, val_main_v121_apply, val_main_v122_apply, val_main_v111_apply, val_main_v111_apply,
        val_main_v123_apply, val_main_v125_apply, val_main_v118_apply, val_main_v120_apply, val_main_v117_apply, val_main_v119_apply, row_again]
      exact congrArg₂ (· - ·) (congrArg₂ (· * ·) (at4 _ _ (eq_ix4 _)) rfl) (congrArg₂ (· * ·) (at4 _ _ (eq_ix4 _)) rfl))
    (fun f => by
      rw [val_main_v132_apply, val_main_v129_apply, val_main_v131_apply, val_main_v121_apply, val_main_v122_apply, val_main_v111_apply, val_main_v111_apply,
        val_main_v128_apply, val_main_v130_apply, val_main_v120_apply, val_main_v118_apply, val_main_v119_apply, val_main_v117_apply, row_again]
      exact congrArg₂ (· + ·) (congrArg₂ (· * ·) (at4 _ _ (eq_ix4 _)) rfl) (congrArg₂ (· * ·) (at4 _ _ (eq_ix4 _)) rfl))
    (fun f => by
      rw [val_main_v150_apply, val_main_v147_apply, val_main_v149_apply, val_main_v144_apply, val_main_v145_apply, val_main_v134_apply, val_main_v134_apply,
        val_main_v146_apply, val_main_v148_apply, val_main_v141_apply, val_main_v143_apply, val_main_v140_apply, val_main_v142_apply, col_again]
      exact congrArg₂ (· - ·) (congrArg₂ (· * ·) (at4 _ _ (eq_ix4 _)) rfl) (congrArg₂ (· * ·) (at4 _ _ (eq_ix4 _)) rfl))
    (fun f => by
      rw [val_main_v155_apply, val_main_v152_apply, val_main_v154_apply, val_main_v144_apply, val_main_v145_apply, val_main_v134_apply, val_main_v134_apply,
        val_main_v151_apply, val_main_v153_apply, val_main_v143_apply, val_main_v141_apply, val_main_v142_apply, val_main_v140_apply, col_again]
      exact congrArg₂ (· + ·) (congrArg₂ (· * ·) (at4 _ _ (eq_ix4 _)) rfl) (congrArg₂ (· * ·) (at4 _ _ (eq_ix4 _)) rfl)) d

/-! ### The softmax with its sink -/

/-- A query's logits at its sequence's keys, −∞ off the band, and at the cache; and its sink. -/
abbrev logits (b : Fin 8) (h : Fin 2) (g : Fin 4) (i : Fin 4096) (j : Fin 4096) : EReal :=
  if near i.val j.val then logit (query a qn b i (head h g)) (keys a kn b j h) else ⊥
abbrev clogits (b : Fin 8) (h : Fin 2) (g : Fin 4) (i : Fin 4096) (j : Fin 512) : EReal :=
  logit (query a qn b i (head h g)) (fun d => ck (ix3 b j (ccol h d)))
abbrev sinkOf (h : Fin 2) (g : Fin 4) : EReal := sink (ix1 (head h g))

theorem grouped (b : Fin 8) (i : Fin 4096) (h : Fin 2) (g : Fin 4) (k : Fin 128) :
    val_main_v81 (F := Ideal) a qn (ix5 b i h g k) = query a qn b i (head h g) k := by
  rw [val_main_v81_apply, ← query_apply]
  refine congrArg (val_main_v80 (F := Ideal) a qn) ?_
  funext p; apply Fin.ext
  match p with
  | ⟨0, _⟩ => show ((((b.val * 4096 + i.val) * 2 + h.val) * 4 + g.val) * 128 + k.val) / 4194304 = b.val; omega
  | ⟨1, _⟩ => show ((((b.val * 4096 + i.val) * 2 + h.val) * 4 + g.val) * 128 + k.val) / 1024 % 4096 = i.val; omega
  | ⟨2, _⟩ => show ((((b.val * 4096 + i.val) * 2 + h.val) * 4 + g.val) * 128 + k.val) / 128 % 8 = h.val * 4 + g.val; omega
  | ⟨3, _⟩ => show ((((b.val * 4096 + i.val) * 2 + h.val) * 4 + g.val) * 128 + k.val) % 128 = k.val; omega

theorem mask_apply (i j : Fin 4096) : val_main_v176 (F := Ideal) (ix2 i j) = if near i.val j.val then 1#1 else 0#1 := by
  rw [val_main_v176_apply, val_main_v168_apply, val_main_v175_apply, val_main_v166_apply, val_main_v162_apply, val_main_v161_apply,
    val_main_v167_apply, val_main_v165_apply, val_main_v163_apply, val_main_v161_apply, val_main_v164_apply,
    val_main_v173_apply, val_main_v169_apply, val_main_v161_apply, val_main_v174_apply, val_main_v172_apply, val_main_v170_apply, val_main_v161_apply, val_main_v171_apply]
  exact band_mask i.val j.val i.isLt j.isLt

theorem logits_apply (b : Fin 8) (h : Fin 2) (g : Fin 4) (i j : Fin 4096) :
    val_main_v181 (F := Ideal) a qn kn (ix5 b h g i j) = logits a qn kn b h g i j := by
  rw [val_main_v181_apply, val_main_call0_v1_apply, val_main_call0_v2_apply]
  have em : idx_main_call0_v1 (ix5 b h g i j) = ix2 i j := eq_ix2 _
  rw [em, mask_apply]
  by_cases hn : near i.val j.val
  · rw [if_pos hn]
    show val_main_v180 (F := Ideal) a qn kn (ix5 b h g i j) = _
    rw [val_main_v180_apply, val_main_v178_apply, val_main_v177_apply, val_main_v179_apply]
    unfold logits
    rw [if_pos hn]
    refine congrArg (fun z : EReal => z * Ideal.ofBits .f32 0x3DB504F3#32) (Finset.sum_congr rfl fun k _ => ?_)
    have el : lidx_main_v177 (idx_main_v178 (ix5 b h g i j)) k = ix4 b j h k := eq_ix4 _
    have er : ridx_main_v177 (idx_main_v178 (ix5 b h g i j)) k = ix5 b i h g k := eq_ix5 _
    rw [el, er, keys_apply, grouped, mul_comm]
  · rw [if_neg hn]
    show Ideal.ofBits .f32 0xFF800000#32 = _
    unfold logits
    rw [if_neg hn]
    exact bits_bot

theorem clogits_apply (b : Fin 8) (h : Fin 2) (g : Fin 4) (i : Fin 4096) (j : Fin 512) :
    val_main_v185 (F := Ideal) a ck qn (ix5 b h g i j) = clogits a ck qn b h g i j := by
  rw [val_main_v185_apply, val_main_v183_apply, val_main_v182_apply, val_main_v184_apply]
  refine congrArg (fun z : EReal => z * Ideal.ofBits .f32 0x3DB504F3#32) (Finset.sum_congr rfl fun k _ => ?_)
  have el : lidx_main_v182 (idx_main_v183 (ix5 b h g i j)) k = ix4 b j h k := eq_ix4 _
  have er : ridx_main_v182 (idx_main_v183 (ix5 b h g i j)) k = ix5 b i h g k := eq_ix5 _
  rw [el, er, ck_apply, grouped, mul_comm]

theorem sink_apply (b : Fin 8) (h : Fin 2) (g : Fin 4) (i : Fin 4096) :
    val_main_v189 (F := Ideal) sink (ix5 b h g i 0) = sinkOf sink h g := by
  rw [val_main_v189_apply, val_main_v188_apply, val_main_v187_apply]
  refine congrArg sink ?_
  funext p; apply Fin.ext
  match p with
  | ⟨0, _⟩ => show h.val * 4 + g.val = h.val * 4 + g.val; rfl

/-- The places of a key, of an entry of the cache and of the sink among the 4609 logits. -/
abbrev keyAt (j : Fin 4096) : Fin 4609 := ⟨j.val, by omega⟩
abbrev cacheAt (j : Fin 512) : Fin 4609 := ⟨4096 + j.val, by omega⟩
abbrev sinkAt : Fin 4609 := ⟨4608, by omega⟩

theorem inner_apply (b : Fin 8) (h : Fin 2) (g : Fin 4) (i : Fin 4096) (e : Fin 4608) (e' : Fin 4609) (he : e.val = e'.val) :
    val_main_v190 (F := Ideal) a ck qn kn sink (ix5 b h g i e') = val_main_v186 (F := Ideal) a ck qn kn (ix5 b h g i e) := by
  unfold val_main_v190
  refine concatenate_pair_apply_left (t := S8x2x4x4096x4609) (s₁ := S8x2x4x4096x4608) (s₂ := S8x2x4x4096x1) (4 : Fin 5) _ _ _ _ rfl (ix5 b h g i e) (fun p => ?_)
  match p with
  | ⟨0, _⟩ => rfl
  | ⟨1, _⟩ => rfl
  | ⟨2, _⟩ => rfl
  | ⟨3, _⟩ => rfl
  | ⟨4, _⟩ => exact he

theorem joined_key (b : Fin 8) (h : Fin 2) (g : Fin 4) (i j : Fin 4096) :
    val_main_v190 (F := Ideal) a ck qn kn sink (ix5 b h g i (keyAt j)) = logits a qn kn b h g i j := by
  rw [inner_apply a ck qn kn sink b h g i ⟨j.val, by omega⟩ (keyAt j) rfl, ← logits_apply]
  unfold val_main_v186
  refine concatenate_pair_apply_left (t := S8x2x4x4096x4608) (s₁ := S8x2x4x4096x4096) (s₂ := S8x2x4x4096x512) (4 : Fin 5) _ _ _ _ rfl (ix5 b h g i j) (fun p => ?_)
  match p with
  | ⟨0, _⟩ => rfl
  | ⟨1, _⟩ => rfl
  | ⟨2, _⟩ => rfl
  | ⟨3, _⟩ => rfl
  | ⟨4, _⟩ => rfl

theorem joined_cache (b : Fin 8) (h : Fin 2) (g : Fin 4) (i : Fin 4096) (j : Fin 512) :
    val_main_v190 (F := Ideal) a ck qn kn sink (ix5 b h g i (cacheAt j)) = clogits a ck qn b h g i j := by
  rw [inner_apply a ck qn kn sink b h g i ⟨4096 + j.val, by omega⟩ (cacheAt j) rfl, ← clogits_apply]
  unfold val_main_v186
  refine concatenate_pair_apply_right (t := S8x2x4x4096x4608) (s₁ := S8x2x4x4096x4096) (s₂ := S8x2x4x4096x512) (4 : Fin 5) _ _ _ _ rfl rfl (ix5 b h g i j) (fun p hp => ?_) ?_
  · match p with
    | ⟨0, _⟩ => rfl
    | ⟨1, _⟩ => rfl
    | ⟨2, _⟩ => rfl
    | ⟨3, _⟩ => rfl
    | ⟨4, _⟩ => exact absurd rfl hp
  · show j.val + 4096 = 4096 + j.val; omega

theorem joined_sink (b : Fin 8) (h : Fin 2) (g : Fin 4) (i : Fin 4096) :
    val_main_v190 (F := Ideal) a ck qn kn sink (ix5 b h g i sinkAt) = sinkOf sink h g := by
  unfold val_main_v190
  rw [← sink_apply sink b h g i]
  refine concatenate_pair_apply_right (t := S8x2x4x4096x4609) (s₁ := S8x2x4x4096x4608) (s₂ := S8x2x4x4096x1) (4 : Fin 5) _ _ _ _ rfl rfl (ix5 b h g i 0) (fun p hp => ?_) ?_
  · match p with
    | ⟨0, _⟩ => rfl
    | ⟨1, _⟩ => rfl
    | ⟨2, _⟩ => rfl
    | ⟨3, _⟩ => rfl
    | ⟨4, _⟩ => exact absurd rfl hp
  · rfl

/-- The 4609 places are the keys', the cache's and the sink's. -/
theorem places (k : Fin 4609) : (∃ j, k = keyAt j) ∨ (∃ j, k = cacheAt j) ∨ k = sinkAt := by
  have hk := k.isLt
  rcases (by omega : k.val < 4096 ∨ (4096 ≤ k.val ∧ k.val < 4608) ∨ k.val = 4608) with h | h | h
  · exact .inl ⟨⟨k.val, h⟩, rfl⟩
  · exact .inr (.inl ⟨⟨k.val - 4096, by omega⟩, Fin.ext (by show k.val = 4096 + (k.val - 4096); omega)⟩)
  · exact .inr (.inr (Fin.ext h))

theorem top_apply (b : Fin 8) (h : Fin 2) (g : Fin 4) (i : Fin 4096) :
    val_main_v191 (F := Ideal) a ck qn kn sink (ix4 b h g i) = top (logits a qn kn b h g i) (clogits a ck qn b h g i) (sinkOf sink h g) := by
  unfold val_main_v191
  rw [Host.reduce_eq_fold_single (FloatOps.maximumf (F := Ideal) (φ := .f32)) _ _ reducesTo_S8x2x4x4096x4609_S8x2x4x4096_d4 (by decide)]
  have hf : (val_main_v190 (F := Ideal) a ck qn kn sink ∘ (by decide : S8x2x4x4096x4609.Reduces [4] S8x2x4x4096).lift (ix4 b h g i))
      = fun k : Fin 4609 => val_main_v190 (F := Ideal) a ck qn kn sink (ix5 b h g i k) := by
    funext k
    refine congrArg (val_main_v190 (F := Ideal) a ck qn kn sink) ?_
    exact eq_ix5 _
  rw [hf]
  show (Finset.univ : Finset (Fin 4609)).fold max (Ideal.ofBits .f32 0xFF800000#32) _ = _
  rw [bits_bot]
  refine eq_of_forall_ge_iff fun c => ?_
  rw [Finset.fold_max_le]
  unfold top
  rw [max_le_iff, max_le_iff, Finset.fold_max_le, Finset.fold_max_le]
  constructor
  · rintro ⟨-, h1⟩
    refine ⟨⟨?_, bot_le, fun j _ => ?_⟩, bot_le, fun j _ => ?_⟩
    · rw [← joined_sink a ck qn kn sink b h g i]; exact h1 _ (Finset.mem_univ _)
    · rw [← joined_key a ck qn kn sink b h g i j]; exact h1 _ (Finset.mem_univ _)
    · rw [← joined_cache a ck qn kn sink b h g i j]; exact h1 _ (Finset.mem_univ _)
  · rintro ⟨⟨h0, -, h1⟩, -, h2⟩
    refine ⟨bot_le, fun k _ => ?_⟩
    rcases places k with ⟨j, rfl⟩ | ⟨j, rfl⟩ | rfl
    · rw [joined_key]; exact h1 _ (Finset.mem_univ _)
    · rw [joined_cache]; exact h2 _ (Finset.mem_univ _)
    · rw [joined_sink]; exact h0

theorem exp_apply (b : Fin 8) (h : Fin 2) (g : Fin 4) (i : Fin 4096) (k : Fin 4609) :
    val_main_v195 (F := Ideal) a ck qn kn sink (ix5 b h g i k)
      = Ideal.exp (val_main_v190 (F := Ideal) a ck qn kn sink (ix5 b h g i k) - top (logits a qn kn b h g i) (clogits a ck qn b h g i) (sinkOf sink h g)) := by
  rw [val_main_v195_apply, val_main_v194_apply, val_main_v193_apply, val_main_v192_apply]
  have e : idx_main_v192 (idx_main_v193 (ix5 b h g i k)) = ix4 b h g i := eq_ix4 _
  rw [e, top_apply]
  rfl

/-- A sum over the 4609 places. -/
theorem sum_places (f : Fin 4609 → EReal) : ∑ k, f k = f sinkAt + ∑ j, f (keyAt j) + ∑ j, f (cacheAt j) := by
  rw [show ∑ k, f k = ∑ k : Fin (4608 + 1), f k from rfl, Fin.sum_univ_castSucc,
    show ∑ k : Fin 4608, f (Fin.castSucc k) = ∑ k : Fin (4096 + 512), f (Fin.castSucc k) from rfl, Fin.sum_univ_add, add_comm, ← add_assoc]
  rfl

theorem total_apply (b : Fin 8) (h : Fin 2) (g : Fin 4) (i : Fin 4096) :
    val_main_v196 (F := Ideal) a ck qn kn sink (ix4 b h g i) = total (logits a qn kn b h g i) (clogits a ck qn b h g i) (sinkOf sink h g) := by
  rw [val_main_v196_apply]
  have e : ∀ k : Fin 4609, idx_main_v196 (ix4 b h g i) k = ix5 b h g i k := fun k => eq_ix5 _
  simp only [e]
  show Ideal.ofBits .f32 0x00000000#32 + (∑ k : Fin 4609, val_main_v195 (F := Ideal) a ck qn kn sink (ix5 b h g i k) : EReal) = _
  rw [Ideal.ofBits_zero_f32, zero_add, sum_places]
  simp only [exp_apply, joined_key, joined_cache, joined_sink]
  rfl

theorem weight_apply (b : Fin 8) (h : Fin 2) (g : Fin 4) (i : Fin 4096) (k : Fin 4609) :
    val_main_v201 (F := Ideal) a ck qn kn sink (ix5 b h g i k)
      = weight (logits a qn kn b h g i) (clogits a ck qn b h g i) (sinkOf sink h g) (val_main_v190 (F := Ideal) a ck qn kn sink (ix5 b h g i k)) := by
  rw [val_main_v201_apply, val_main_v200_apply, val_main_v199_apply, val_main_v198_apply, val_main_v197_apply]
  have e1 : idx_main_v197 (idx_main_v200 (ix5 b h g i k)) = ix4 b h g i := eq_ix4 _
  rw [e1, exp_apply, total_apply]
  rfl

/-! ### The result -/

theorem attended (b : Fin 8) (t : Fin 4096) (h : Fin 2) (g : Fin 4) (d : Fin 128) :
    val_main_v211 (F := Ideal) a ck cv qn kn sink (ix2 (tok b t) (ocol (head h g) d))
      = attend (logits a qn kn b h g t) (clogits a ck qn b h g t) (sinkOf sink h g) (fun j => a (ix2 (tok b j) (vcol h d))) (fun j => cv (ix3 b j (ccol h d))) := by
  rw [val_main_v211_apply]
  show val_main_v210 (F := Ideal) a ck cv qn kn sink _ = _
  rw [val_main_v210_apply]
  have e : idx_main_v210 (ix2 (tok b t) (ocol (head h g) d)) = ix5 b t h g d := by
    funext p; apply Fin.ext
    match p with
    | ⟨0, _⟩ => show ((b.val * 4096 + t.val) * 1024 + ((h.val * 4 + g.val) * 128 + d.val)) / 4194304 = b.val; omega
    | ⟨1, _⟩ => show ((b.val * 4096 + t.val) * 1024 + ((h.val * 4 + g.val) * 128 + d.val)) / 1024 % 4096 = t.val; omega
    | ⟨2, _⟩ => show ((b.val * 4096 + t.val) * 1024 + ((h.val * 4 + g.val) * 128 + d.val)) / 512 % 2 = h.val; omega
    | ⟨3, _⟩ => show ((b.val * 4096 + t.val) * 1024 + ((h.val * 4 + g.val) * 128 + d.val)) / 128 % 4 = g.val; omega
    | ⟨4, _⟩ => show ((b.val * 4096 + t.val) * 1024 + ((h.val * 4 + g.val) * 128 + d.val)) % 128 = d.val; omega
  rw [e, val_main_v209_apply, val_main_v205_apply, val_main_v208_apply, val_main_v204_apply, val_main_v207_apply]
  unfold attend
  refine congrArg₂ (fun x y : EReal => x + y) (Finset.sum_congr rfl fun j _ => ?_) (Finset.sum_congr rfl fun j _ => ?_)
  · have el : lidx_main_v204 (idx_main_v205 (ix5 b t h g d)) j = ix4 b j h d := eq_ix4 _
    have er : idx_main_v202 (idx_main_v203 (ridx_main_v204 (idx_main_v205 (ix5 b t h g d)) j)) = ix5 b h g t (keyAt j) := eq_ix5 _
    rw [val_main_v203_apply, val_main_v202_apply, el, er, v_apply, weight_apply, joined_key, mul_comm]
  · have el : lidx_main_v207 (idx_main_v208 (ix5 b t h g d)) j = ix4 b j h d := eq_ix4 _
    have er : idx_main_v202 (idx_main_v206 (ridx_main_v207 (idx_main_v208 (ix5 b t h g d)) j)) = ix5 b h g t (cacheAt j) := eq_ix5 _
    rw [val_main_v206_apply, val_main_v202_apply, el, er, cv_apply, weight_apply, joined_cache, mul_comm]

end Cert.Reference14Ideal.Band
-- ==== Proof.AttentionBand.lean ====
/- The banded attention (program 14). Point `t` of the 8 × 2 × 32 grid takes block `t % 32` of sequence `t / 64` and the four
   query heads that share key head `t / 32 % 2`; its window is that block of keys and the two beside it. -/
module

public import proofs.«01_k».proof.Defs
public import proofs.«01_k».proof.Proof.AttentionBandHead
public import proofs.«01_k».proof.Proof.AttentionBandRef
public import proofs.«01_k».proof.Proof.Gen.Reference14Ideal.Run
public import Idealize.ShloMosaic.Lib.Pipeline.ValueKit
public import Idealize.ShloMosaic.Lib.Pipeline.ReadBack

@[expose] public section

noncomputable section

open Idealize.ShloMosaic hiding ix1 ix2 ix3 ix4 ix5 eq_ix1 eq_ix2 eq_ix3 eq_ix4
open Idealize.ShloMosaic.TcCoe Idealize.SL.Sem
open Idealize.ShloMosaic.ValueIdx
open Idealize.ShloMosaic.Pipeline (Dat)
open scoped BigOperators

namespace Cert.Kernel14Ideal.Band

open Cert.Kernel14Ideal Cert.Kernel14Ideal.Gen Cert.AttentionBand
open Cert.Attention (normed logit)
open Cert.Reference14Ideal.Band (tok head qcol kcol vcol ocol ccol query keys logits clogits sinkOf cosOf sinOf rowAngle colAngle angle cosAt sinAt)

variable (m : (ℓ : Loc nD τ sig) → Buf (Elt Ideal) ℓ) (ρ : Dev nD → PrngReg)

/-- The projection, the cache, the two normalisations' weights and the sinks. -/
abbrev A (c : Dev nD) : Buf (Elt Ideal) ((c : Thread nD τ).loc main_arg0) := m ((c : Thread nD τ).loc main_arg0)
abbrev CK (c : Dev nD) : Buf (Elt Ideal) ((c : Thread nD τ).loc main_arg1) := m ((c : Thread nD τ).loc main_arg1)
abbrev CV (c : Dev nD) : Buf (Elt Ideal) ((c : Thread nD τ).loc main_arg2) := m ((c : Thread nD τ).loc main_arg2)
abbrev QN (c : Dev nD) : Buf (Elt Ideal) ((c : Thread nD τ).loc main_arg3) := m ((c : Thread nD τ).loc main_arg3)
abbrev KN (c : Dev nD) : Buf (Elt Ideal) ((c : Thread nD τ).loc main_arg4) := m ((c : Thread nD τ).loc main_arg4)
abbrev Z (c : Dev nD) : Buf (Elt Ideal) ((c : Thread nD τ).loc main_arg5) := m ((c : Thread nD τ).loc main_arg5)
/-- The reference's result, of the kernel's own arguments. -/
abbrev goal (c : Dev nD) : Buf (Elt Ideal) ((c : Thread nD τ).loc main_v39) :=
  Cert.Reference14Ideal.Read.val_main_v211 (F := Ideal) (A m c) (CK m c) (CV m c) (QN m c) (KN m c) (Z m c)

theorem N_eq : cfg0.N = 512 := N_0

/-- The sequence and the key head of point `t`; its block of positions and the two beside it, at an end itself. -/
abbrev seqOf (t : Fin cfg0.N) : Fin 8 := ⟨t.val / 64, by have := t.isLt; have := N_eq; omega⟩
abbrev headOf (t : Fin cfg0.N) : Fin 2 := ⟨t.val / 32 % 2, by omega⟩
abbrev same (t : Fin cfg0.N) : Fin 32 := ⟨t.val % 32, by omega⟩
abbrev prev (t : Fin cfg0.N) : Fin 32 := ⟨t.val % 32 - 1, by omega⟩
abbrev next (t : Fin cfg0.N) : Fin 32 := ⟨min (t.val % 32 + 1) 31, by omega⟩
/-- Position `i` of block `p`. -/
abbrev pos (p : Fin 32) (i : Fin 128) : Fin 4096 := ⟨p.val * 128 + i.val, by omega⟩

theorem where_sink : ∀ t : Fin cfg0.N, win0_0.index t 0 = 0 ∧ (grid0.coords t 2).val = t.val % 32 ∧ ∀ g : Fin 4, k0_off1 (grid0.coords t) (BitVec.ofNat 32 g.val) 0 = t.val / 32 % 2 * 4 + g.val :=
  (by decide +kernel : ∀ t : Fin grid0.N, _)
theorem where1 : ∀ t : Fin cfg0.N, win0_1.index t 0 = t.val / 64 * 32 + t.val % 32 ∧ win0_1.index t 1 = 6 + t.val / 32 % 2 :=
  (by decide +kernel : ∀ t : Fin grid0.N, _)
theorem where2 : ∀ t : Fin cfg0.N, win0_2.index t 0 = t.val / 64 * 32 + (t.val % 32 - 1) ∧ win0_2.index t 1 = 32 + t.val / 32 % 2 :=
  (by decide +kernel : ∀ t : Fin grid0.N, _)
theorem where3 : ∀ t : Fin cfg0.N, win0_3.index t 0 = t.val / 64 * 32 + t.val % 32 ∧ win0_3.index t 1 = 32 + t.val / 32 % 2 :=
  (by decide +kernel : ∀ t : Fin grid0.N, _)
theorem where4 : ∀ t : Fin cfg0.N, win0_4.index t 0 = t.val / 64 * 32 + min (t.val % 32 + 1) 31 ∧ win0_4.index t 1 = 32 + t.val / 32 % 2 :=
  (by decide +kernel : ∀ t : Fin grid0.N, _)
theorem where5 : ∀ t : Fin cfg0.N, win0_5.index t 0 = t.val / 64 * 32 + (t.val % 32 - 1) ∧ win0_5.index t 1 = 34 + t.val / 32 % 2 :=
  (by decide +kernel : ∀ t : Fin grid0.N, _)
theorem where6 : ∀ t : Fin cfg0.N, win0_6.index t 0 = t.val / 64 * 32 + t.val % 32 ∧ win0_6.index t 1 = 34 + t.val / 32 % 2 :=
  (by decide +kernel : ∀ t : Fin grid0.N, _)
theorem where7 : ∀ t : Fin cfg0.N, win0_7.index t 0 = t.val / 64 * 32 + min (t.val % 32 + 1) 31 ∧ win0_7.index t 1 = 34 + t.val / 32 % 2 :=
  (by decide +kernel : ∀ t : Fin grid0.N, _)
theorem where8 : ∀ t : Fin cfg0.N, win0_8.index t 0 = t.val / 64 ∧ win0_8.index t 1 = 0 ∧ win0_8.index t 2 = t.val / 32 % 2 :=
  (by decide +kernel : ∀ t : Fin grid0.N, _)
theorem where9 : ∀ t : Fin cfg0.N, win0_9.index t 0 = t.val / 64 ∧ win0_9.index t 1 = 0 ∧ win0_9.index t 2 = t.val / 32 % 2 :=
  (by decide +kernel : ∀ t : Fin grid0.N, _)
theorem where10 : ∀ t : Fin cfg0.N, win0_10.index t 0 = t.val % 32 ∧ win0_10.index t 1 = 0 :=
  (by decide +kernel : ∀ t : Fin grid0.N, _)
theorem where11 : ∀ t : Fin cfg0.N, win0_11.index t 0 = t.val % 32 ∧ win0_11.index t 1 = 0 :=
  (by decide +kernel : ∀ t : Fin grid0.N, _)
theorem where12 : ∀ t : Fin cfg0.N, win0_12.index t 0 = (t.val % 32 - 1) ∧ win0_12.index t 1 = 0 :=
  (by decide +kernel : ∀ t : Fin grid0.N, _)
theorem where13 : ∀ t : Fin cfg0.N, win0_13.index t 0 = (t.val % 32 - 1) ∧ win0_13.index t 1 = 0 :=
  (by decide +kernel : ∀ t : Fin grid0.N, _)
theorem where14 : ∀ t : Fin cfg0.N, win0_14.index t 0 = min (t.val % 32 + 1) 31 ∧ win0_14.index t 1 = 0 :=
  (by decide +kernel : ∀ t : Fin grid0.N, _)
theorem where15 : ∀ t : Fin cfg0.N, win0_15.index t 0 = min (t.val % 32 + 1) 31 ∧ win0_15.index t 1 = 0 :=
  (by decide +kernel : ∀ t : Fin grid0.N, _)
theorem where16 : ∀ t : Fin cfg0.N, win0_16.index t 0 = 0 ∧ win0_16.index t 1 = 0 :=
  (by decide +kernel : ∀ t : Fin grid0.N, _)
theorem where17 : ∀ t : Fin cfg0.N, win0_17.index t 0 = 0 ∧ win0_17.index t 1 = 0 :=
  (by decide +kernel : ∀ t : Fin grid0.N, _)
theorem where18 : ∀ t : Fin cfg0.N, win0_18.index t 0 = t.val / 64 * 32 + t.val % 32 ∧ win0_18.index t 1 = t.val / 32 % 2 :=
  (by decide +kernel : ∀ t : Fin grid0.N, _)
theorem flush18 : ∀ t : Fin cfg0.N, (cfg0.win 18).flush t = true := (by decide +kernel : ∀ t : Fin grid0.N, _)

theorem ext2 {n k : ℕ} {x y : (⟨2, ![n, k]⟩ : Shape).Idx} (h0 : (x 0).val = (y 0).val) (h1 : (x 1).val = (y 1).val) : x = y := by
  funext a; apply Fin.ext
  match a with
  | ⟨0, _⟩ => exact h0
  | ⟨1, _⟩ => exact h1
theorem rowIs (b p i : ℕ) : (b * 32 + p) * 128 + i = b * 4096 + (p * 128 + i) := by omega

/-! ### The tables and the weights the launch passes -/

theorem four_apply {α : Type} (p q r s : S4096x32.Idx → α) (h) (t : Fin 4096) (d : Fin 128) :
    concatenate S4096x128 1 [⟨S4096x32, p⟩, ⟨S4096x32, q⟩, ⟨S4096x32, r⟩, ⟨S4096x32, s⟩] h (ix2 t d)
      = (if d.val < 64 then if d.val / 32 % 2 = 0 then p else q else if d.val / 32 % 2 = 0 then r else s) (ix2 t (⟨d.val % 32, by omega⟩ : Fin 32)) := by
  have hd := d.isLt
  have hoff : ∀ b : Fin 2, b.cast rfl ≠ (1 : Fin 2) → ((ix2 t (⟨d.val % 32, by omega⟩ : Fin 32) : S4096x32.Idx) b).val = ((ix2 t d : S4096x128.Idx) (b.cast rfl)).val := fun b hb => by
    match b with
    | ⟨0, _⟩ => rfl
    | ⟨1, _⟩ => exact absurd rfl hb
  rcases (by omega : d.val < 32 ∨ (32 ≤ d.val ∧ d.val < 64) ∨ (64 ≤ d.val ∧ d.val < 96) ∨ 96 ≤ d.val) with g | g | g | g
  · rw [if_pos (by omega), if_pos (by omega)]
    exact concatenate_apply_piece (t := S4096x128) 1 _ h (ix2 t d) 0 (by show 0 < 4; omega) S4096x32 p rfl rfl 0 rfl _ hoff (by show 0 + d.val % 32 = d.val; omega)
  · rw [if_pos (by omega), if_neg (by omega)]
    exact concatenate_apply_piece (t := S4096x128) 1 _ h (ix2 t d) 1 (by show 1 < 4; omega) S4096x32 q rfl rfl 32 rfl _ hoff (by show 32 + d.val % 32 = d.val; omega)
  · rw [if_neg (by omega), if_pos (by omega)]
    exact concatenate_apply_piece (t := S4096x128) 1 _ h (ix2 t d) 2 (by show 2 < 4; omega) S4096x32 r rfl rfl 64 rfl _ hoff (by show 64 + d.val % 32 = d.val; omega)
  · rw [if_neg (by omega), if_neg (by omega)]
    exact concatenate_apply_piece (t := S4096x128) 1 _ h (ix2 t d) 3 (by show 3 < 4; omega) S4096x32 s rfl rfl 96 rfl _ hoff (by show 96 + d.val % 32 = d.val; omega)

abbrev rows : FVec Ideal S4096x32 .f32 := Cert.Reference14Ideal.Read.val_main_v39 (F := Ideal)
abbrev cols : FVec Ideal S4096x32 .f32 := Cert.Reference14Ideal.Read.val_main_v62 (F := Ideal)

theorem cos_table (c : Dev nD) (t : Fin 4096) (d : Fin 128) : V m c main_v29 (ix2 t d) = cosAt t d := by
  show concatenate S4096x128 1 [⟨S4096x32, Host.cos (F := Ideal) (φ := .f32) rows⟩, ⟨S4096x32, Host.cos (F := Ideal) (φ := .f32) rows⟩, ⟨S4096x32, Host.cos (F := Ideal) (φ := .f32) cols⟩,
    ⟨S4096x32, Host.cos (F := Ideal) (φ := .f32) cols⟩] concatenates_S4096x32_S4096x32_S4096x32_S4096x32_S4096x128_d1 (ix2 t d) = _
  rw [four_apply]
  unfold cosAt angle
  split_ifs <;> rfl
theorem sin_table (c : Dev nD) (t : Fin 4096) (d : Fin 128) : V m c main_v36 (ix2 t d) = sinAt t d := by
  show concatenate S4096x128 1 [⟨S4096x32, Host.negf (F := Ideal) (φ := .f32) (Host.sin (F := Ideal) (φ := .f32) rows)⟩, ⟨S4096x32, Host.sin (F := Ideal) (φ := .f32) rows⟩,
    ⟨S4096x32, Host.negf (F := Ideal) (φ := .f32) (Host.sin (F := Ideal) (φ := .f32) cols)⟩, ⟨S4096x32, Host.sin (F := Ideal) (φ := .f32) cols⟩] concatenates_S4096x32_S4096x32_S4096x32_S4096x32_S4096x128_d1 (ix2 t d) = _
  rw [four_apply]
  unfold sinAt angle
  split_ifs <;> rfl

theorem qn_at (c : Dev nD) (t : Fin cfg0.N) (d : Fin 128) : iblk m c 16 t (ix2 0 d) = QN m c (ix1 d) := by
  obtain ⟨a0, a1⟩ := where16 t
  refine (congrArg (V m c main_v37) (ext2 (win0_16.rect_emb_val_of_index_zero t 0 a0 (ix2 0 d)) (win0_16.rect_emb_val_of_index_zero t 1 a1 (ix2 0 d)) : (win0_16.rect t).emb (ix2 0 d) = ix2 0 d)).trans ?_
  show broadcastInDim S1x128 ![1] bcast_S128_S1x128_1 (QN m c) (ix2 0 d) = _
  refine broadcastInDim_apply _ _ _ _ _ (fun a => ?_)
  match a with
  | ⟨0, _⟩ => rfl
theorem kn_at (c : Dev nD) (t : Fin cfg0.N) (d : Fin 128) : iblk m c 17 t (ix2 0 d) = KN m c (ix1 d) := by
  obtain ⟨a0, a1⟩ := where17 t
  refine (congrArg (V m c main_v38) (ext2 (win0_17.rect_emb_val_of_index_zero t 0 a0 (ix2 0 d)) (win0_17.rect_emb_val_of_index_zero t 1 a1 (ix2 0 d)) : (win0_17.rect t).emb (ix2 0 d) = ix2 0 d)).trans ?_
  show broadcastInDim S1x128 ![1] bcast_S128_S1x128_1 (KN m c) (ix2 0 d) = _
  refine broadcastInDim_apply _ _ _ _ _ (fun a => ?_)
  match a with
  | ⟨0, _⟩ => rfl

/-! ### The blocks a point reads -/

theorem arg0_at (c : Dev nD) (t : Fin cfg0.N) (p : Fin 32) (i : Fin 128) (k : Fin 4608) (e : S32768x4608.Idx) (h0 : (e 0).val = (t.val / 64 * 32 + p.val) * 128 + i.val) (h1 : (e 1).val = k.val) :
    V m c main_arg0 e = A m c (ix2 (tok (seqOf t) (pos p i)) k) := by
  rw [V_main_arg0]
  exact congrArg (A m c) (ext2 (h0.trans (rowIs _ _ _)) h1)
theorem k_prev (c : Dev nD) (t : Fin cfg0.N) (i d : Fin 128) : iblk m c 2 t (ix2 i d) = A m c (ix2 (tok (seqOf t) (pos (prev t) i)) (kcol (headOf t) d)) :=
  arg0_at m c t _ i _ _ ((win0_2.rect_emb_val t _ 0).trans (by rw [(where2 t).1]; rfl))
    ((win0_2.rect_emb_val t _ 1).trans (by rw [(where2 t).2]; show (32 + t.val / 32 % 2) * 128 + d.val = 4096 + t.val / 32 % 2 * 128 + d.val; omega))
theorem k_same (c : Dev nD) (t : Fin cfg0.N) (i d : Fin 128) : iblk m c 3 t (ix2 i d) = A m c (ix2 (tok (seqOf t) (pos (same t) i)) (kcol (headOf t) d)) :=
  arg0_at m c t _ i _ _ ((win0_3.rect_emb_val t _ 0).trans (by rw [(where3 t).1]; rfl))
    ((win0_3.rect_emb_val t _ 1).trans (by rw [(where3 t).2]; show (32 + t.val / 32 % 2) * 128 + d.val = 4096 + t.val / 32 % 2 * 128 + d.val; omega))
theorem k_next (c : Dev nD) (t : Fin cfg0.N) (i d : Fin 128) : iblk m c 4 t (ix2 i d) = A m c (ix2 (tok (seqOf t) (pos (next t) i)) (kcol (headOf t) d)) :=
  arg0_at m c t _ i _ _ ((win0_4.rect_emb_val t _ 0).trans (by rw [(where4 t).1]; rfl))
    ((win0_4.rect_emb_val t _ 1).trans (by rw [(where4 t).2]; show (32 + t.val / 32 % 2) * 128 + d.val = 4096 + t.val / 32 % 2 * 128 + d.val; omega))
theorem v_prev (c : Dev nD) (t : Fin cfg0.N) (i d : Fin 128) : iblk m c 5 t (ix2 i d) = A m c (ix2 (tok (seqOf t) (pos (prev t) i)) (vcol (headOf t) d)) :=
  arg0_at m c t _ i _ _ ((win0_5.rect_emb_val t _ 0).trans (by rw [(where5 t).1]; rfl))
    ((win0_5.rect_emb_val t _ 1).trans (by rw [(where5 t).2]; show (34 + t.val / 32 % 2) * 128 + d.val = 4352 + t.val / 32 % 2 * 128 + d.val; omega))
theorem v_same (c : Dev nD) (t : Fin cfg0.N) (i d : Fin 128) : iblk m c 6 t (ix2 i d) = A m c (ix2 (tok (seqOf t) (pos (same t) i)) (vcol (headOf t) d)) :=
  arg0_at m c t _ i _ _ ((win0_6.rect_emb_val t _ 0).trans (by rw [(where6 t).1]; rfl))
    ((win0_6.rect_emb_val t _ 1).trans (by rw [(where6 t).2]; show (34 + t.val / 32 % 2) * 128 + d.val = 4352 + t.val / 32 % 2 * 128 + d.val; omega))
theorem v_next (c : Dev nD) (t : Fin cfg0.N) (i d : Fin 128) : iblk m c 7 t (ix2 i d) = A m c (ix2 (tok (seqOf t) (pos (next t) i)) (vcol (headOf t) d)) :=
  arg0_at m c t _ i _ _ ((win0_7.rect_emb_val t _ 0).trans (by rw [(where7 t).1]; rfl))
    ((win0_7.rect_emb_val t _ 1).trans (by rw [(where7 t).2]; show (34 + t.val / 32 % 2) * 128 + d.val = 4352 + t.val / 32 % 2 * 128 + d.val; omega))
theorem cos_same (c : Dev nD) (t : Fin cfg0.N) (i d : Fin 128) : iblk m c 10 t (ix2 i d) = cosAt (pos (same t) i) d :=
  (congrArg (V m c main_v29) (ext2 ((win0_10.rect_emb_val t _ 0).trans (by rw [(where10 t).1]; rfl)) (win0_10.rect_emb_val_of_index_zero t 1 (where10 t).2 _))).trans (cos_table m c _ d)
theorem sin_same (c : Dev nD) (t : Fin cfg0.N) (i d : Fin 128) : iblk m c 11 t (ix2 i d) = sinAt (pos (same t) i) d :=
  (congrArg (V m c main_v36) (ext2 ((win0_11.rect_emb_val t _ 0).trans (by rw [(where11 t).1]; rfl)) (win0_11.rect_emb_val_of_index_zero t 1 (where11 t).2 _))).trans (sin_table m c _ d)
theorem cos_prev (c : Dev nD) (t : Fin cfg0.N) (i d : Fin 128) : iblk m c 12 t (ix2 i d) = cosAt (pos (prev t) i) d :=
  (congrArg (V m c main_v29) (ext2 ((win0_12.rect_emb_val t _ 0).trans (by rw [(where12 t).1]; rfl)) (win0_12.rect_emb_val_of_index_zero t 1 (where12 t).2 _))).trans (cos_table m c _ d)
theorem sin_prev (c : Dev nD) (t : Fin cfg0.N) (i d : Fin 128) : iblk m c 13 t (ix2 i d) = sinAt (pos (prev t) i) d :=
  (congrArg (V m c main_v36) (ext2 ((win0_13.rect_emb_val t _ 0).trans (by rw [(where13 t).1]; rfl)) (win0_13.rect_emb_val_of_index_zero t 1 (where13 t).2 _))).trans (sin_table m c _ d)
theorem cos_next (c : Dev nD) (t : Fin cfg0.N) (i d : Fin 128) : iblk m c 14 t (ix2 i d) = cosAt (pos (next t) i) d :=
  (congrArg (V m c main_v29) (ext2 ((win0_14.rect_emb_val t _ 0).trans (by rw [(where14 t).1]; rfl)) (win0_14.rect_emb_val_of_index_zero t 1 (where14 t).2 _))).trans (cos_table m c _ d)
theorem sin_next (c : Dev nD) (t : Fin cfg0.N) (i d : Fin 128) : iblk m c 15 t (ix2 i d) = sinAt (pos (next t) i) d :=
  (congrArg (V m c main_v36) (ext2 ((win0_15.rect_emb_val t _ 0).trans (by rw [(where15 t).1]; rfl)) (win0_15.rect_emb_val_of_index_zero t 1 (where15 t).2 _))).trans (sin_table m c _ d)
theorem ck_at (c : Dev nD) (t : Fin cfg0.N) (j : Fin 512) (d : Fin 128) : k0_pay24 (F := Ideal) (iblk m c 8 t) (ix2 j d) = CK m c (ix3 (seqOf t) j (ccol (headOf t) d)) := by
  obtain ⟨a0, a1, a2⟩ := where8 t
  show shapeCast S512x128 (iblk m c 8 t) _ (ix2 j d) = _
  rw [shapeCast_apply _ _ (ix2 j d) (ix3 0 j d) (by rw [Shape.rowMajor_val_two, Shape.rowMajor_val_three]; show (0 * 512 + j.val) * 128 + d.val = j.val * 128 + d.val; omega)]
  show V m c main_arg1 ((win0_8.rect t).emb (ix3 0 j d)) = _
  rw [V_main_arg1]
  refine congrArg (CK m c) ?_
  funext a; apply Fin.ext
  match a with
  | ⟨0, _⟩ => exact (win0_8.rect_emb_val t _ 0).trans (by rw [a0]; show t.val / 64 * 1 + 0 = t.val / 64; omega)
  | ⟨1, _⟩ => exact win0_8.rect_emb_val_of_index_zero t 1 a1 _
  | ⟨2, _⟩ => exact (win0_8.rect_emb_val t _ 2).trans (by rw [a2]; rfl)
theorem cv_at (c : Dev nD) (t : Fin cfg0.N) (j : Fin 512) (d : Fin 128) : k0_pay25 (F := Ideal) (iblk m c 9 t) (ix2 j d) = CV m c (ix3 (seqOf t) j (ccol (headOf t) d)) := by
  obtain ⟨a0, a1, a2⟩ := where9 t
  show shapeCast S512x128 (iblk m c 9 t) _ (ix2 j d) = _
  rw [shapeCast_apply _ _ (ix2 j d) (ix3 0 j d) (by rw [Shape.rowMajor_val_two, Shape.rowMajor_val_three]; show (0 * 512 + j.val) * 128 + d.val = j.val * 128 + d.val; omega)]
  show V m c main_arg2 ((win0_9.rect t).emb (ix3 0 j d)) = _
  rw [V_main_arg2]
  refine congrArg (CV m c) ?_
  funext a; apply Fin.ext
  match a with
  | ⟨0, _⟩ => exact (win0_9.rect_emb_val t _ 0).trans (by rw [a0]; show t.val / 64 * 1 + 0 = t.val / 64; omega)
  | ⟨1, _⟩ => exact win0_9.rect_emb_val_of_index_zero t 1 a1 _
  | ⟨2, _⟩ => exact (win0_9.rect_emb_val t _ 2).trans (by rw [a2]; rfl)

/-- The sink of query head `g` of the point's four, and that head's columns. -/
theorem sink_at (c : Dev nD) (t : Fin cfg0.N) (g : Fin 4) (w : BitVec 32) (hw : w = BitVec.ofNat 32 g.val) (hb) (p) :
    View.ld (iblk m c 0 t) (Rect.unit (s := S8) (k0_off1 (grid0.coords t) w) ![1] hb) (Shape.Idx.first p)
      = sinkOf (Z m c) (headOf t) g := by
  subst hw
  obtain ⟨a0, -, d0⟩ := where_sink t
  have d0 := d0 g
  rw [View.ld_unit]
  show V m c main_arg5 ((win0_0.rect t).emb _) = _
  rw [V_main_arg5]
  refine congrArg (Z m c) ?_
  funext a; apply Fin.ext
  match a with
  | ⟨0, _⟩ => exact (win0_0.rect_emb_val_of_index_zero t 0 a0 _).trans (by show k0_off1 (grid0.coords t) (BitVec.ofNat 32 g.val) 0 + 0 = t.val / 32 % 2 * 4 + g.val; omega)

theorem q_at (c : Dev nD) (t : Fin cfg0.N) (g : Fin 4) (o : ℕ) (ho : o = g.val * 128) (hb) (i d : Fin 128) :
    View.ld (iblk m c 1 t) (Rect.unit (s := S128x512) ![0, o] ![128, 128] hb) (ix2 i d) = A m c (ix2 (tok (seqOf t) (pos (same t) i)) (qcol (head (headOf t) g) d)) := by
  subst ho
  obtain ⟨a0, a1⟩ := where1 t
  rw [View.ld_unit]
  show V m c main_arg0 ((win0_1.rect t).emb _) = _
  rw [V_main_arg0]
  exact congrArg (A m c) (ext2 ((win0_1.rect_emb_val t _ 0).trans (by rw [a0]; show (t.val / 64 * 32 + t.val % 32) * 128 + (0 + i.val) = t.val / 64 * 4096 + (t.val % 32 * 128 + i.val); omega))
    ((win0_1.rect_emb_val t _ 1).trans (by rw [a1]; show (6 + t.val / 32 % 2) * 512 + (g.val * 128 + d.val) = 3072 + (t.val / 32 % 2 * 4 + g.val) * 128 + d.val; omega)))

/-! ### What a point computes -/

/-- The position of the window's key `j`. -/
abbrev wpos (t : Fin cfg0.N) (j : Fin 384) : Fin 4096 := pos (if j.val < 128 then prev t else if j.val < 256 then same t else next t) ⟨j.val % 128, by omega⟩

theorem wpos_near (t : Fin cfg0.N) (r : ℕ) (j : Fin 384) (h : nearIn (t.val % 32) r j.val) : (wpos t j).val + 128 = t.val % 32 * 128 + j.val := by
  obtain ⟨-, h1, h2⟩ := h
  have hj := j.isLt
  show (if j.val < 128 then prev t else if j.val < 256 then same t else next t).val * 128 + j.val % 128 + 128 = _
  split_ifs
  · show (t.val % 32 - 1) * 128 + j.val % 128 + 128 = _; omega
  · show t.val % 32 * 128 + j.val % 128 + 128 = _; omega
  · show min (t.val % 32 + 1) 31 * 128 + j.val % 128 + 128 = _; omega

/-- The window's keys, its values, and its mask. -/
abbrev KW (c : Dev nD) (t : Fin cfg0.N) : FVec Ideal S384x128 .bf16 :=
  concatenate S384x128 0 [⟨S128x128, roped (iblk m c 2 t) (iblk m c 17 t) (iblk m c 12 t) (iblk m c 13 t)⟩, ⟨S128x128, roped (iblk m c 3 t) (iblk m c 17 t) (iblk m c 10 t) (iblk m c 11 t)⟩,
    ⟨S128x128, roped (iblk m c 4 t) (iblk m c 17 t) (iblk m c 14 t) (iblk m c 15 t)⟩] concatenates_S128x128_S128x128_S128x128_S384x128_d0
abbrev VW (c : Dev nD) (t : Fin cfg0.N) : FVec Ideal S384x128 .bf16 :=
  concatenate S384x128 0 [⟨S128x128, (iblk m c 5 t : S128x128.Idx → EReal)⟩, ⟨S128x128, (iblk m c 6 t : S128x128.Idx → EReal)⟩, ⟨S128x128, (iblk m c 7 t : S128x128.Idx → EReal)⟩] concatenates_S128x128_S128x128_S128x128_S384x128_d0
abbrev MW (t : Fin cfg0.N) : IVec S128x384 1 := k0_pay26 (BitVec.ofNat 32 (grid0.coords t 2).val)

theorem key_block (c : Dev nD) (t : Fin cfg0.N) (p : Fin 32) (x e s : Vec Ideal S128x128 .f32) (hx : ∀ i d, x (ix2 i d) = A m c (ix2 (tok (seqOf t) (pos p i)) (kcol (headOf t) d)))
    (he : ∀ i d, e (ix2 i d) = cosAt (pos p i) d) (hs : ∀ i d, s (ix2 i d) = sinAt (pos p i) d) (i d : Fin 128) :
    roped x (iblk m c 17 t) e s (ix2 i d) = keys (A m c) (KN m c) (seqOf t) (pos p i) (headOf t) d := by
  refine (roped_apply x (iblk m c 17 t) e s i d).trans ?_
  simp only [hx, he, hs, kn_at]

theorem key_window (c : Dev nD) (t : Fin cfg0.N) (j : Fin 384) (d : Fin 128) : KW m c t (ix2 j d) = keys (A m c) (KN m c) (seqOf t) (wpos t j) (headOf t) d := by
  refine (three_apply _ _ _ _ j d).trans ?_
  unfold wpos
  split_ifs
  · exact key_block m c t (prev t) _ _ _ (k_prev m c t) (cos_prev m c t) (sin_prev m c t) _ d
  · exact key_block m c t (same t) _ _ _ (k_same m c t) (cos_same m c t) (sin_same m c t) _ d
  · exact key_block m c t (next t) _ _ _ (k_next m c t) (cos_next m c t) (sin_next m c t) _ d

theorem value_window (c : Dev nD) (t : Fin cfg0.N) (j : Fin 384) (d : Fin 128) : VW m c t (ix2 j d) = A m c (ix2 (tok (seqOf t) (wpos t j)) (vcol (headOf t) d)) := by
  refine (three_apply _ _ _ _ j d).trans ?_
  unfold wpos
  split_ifs
  · exact v_prev m c t _ d
  · exact v_same m c t _ d
  · exact v_next m c t _ d

theorem mask_window (t : Fin cfg0.N) (i : Fin 128) (j : Fin 384) : MW t (ix2 i j) = if nearIn (t.val % 32) i.val j.val then 1#1 else 0#1 := by
  unfold MW
  rw [mask_apply, (where_sink t).2.1]
  exact window_mask (t.val % 32) i.val j.val (by omega) i.isLt j.isLt

/-- The output of query head `g`, from its 128 columns `x` and its sink `z`. -/
theorem head_block (c : Dev nD) (t : Fin cfg0.N) (g : Fin 4) (x : Vec Ideal S128x128 .f32) (z : Elt Ideal .f32)
    (hx : ∀ i d, x (ix2 i d) = A m c (ix2 (tok (seqOf t) (pos (same t) i)) (qcol (head (headOf t) g) d))) (hz : z = sinkOf (Z m c) (headOf t) g) (i d : Fin 128) :
    headOut (KW m c t) (VW m c t) (k0_pay24 (iblk m c 8 t)) (k0_pay25 (iblk m c 9 t)) (MW t) (roped x (iblk m c 16 t) (iblk m c 10 t) (iblk m c 11 t)) z (ix2 i d)
      = goal m c (ix2 (tok (seqOf t) (pos (same t) i)) (ocol (head (headOf t) g) d)) := by
  refine (headOut_apply _ _ _ _ _ _ _ i d).trans (Eq.trans ?_ (Cert.Reference14Ideal.Band.attended (A m c) (CK m c) (CV m c) (QN m c) (KN m c) (Z m c) (seqOf t) (pos (same t) i) (headOf t) g d).symm)
  subst hz
  have hq : (fun k => roped x (iblk m c 16 t) (iblk m c 10 t) (iblk m c 11 t) (ix2 i k)) = query (A m c) (QN m c) (seqOf t) (pos (same t) i) (head (headOf t) g) := by
    funext k
    refine (roped_apply x (iblk m c 16 t) (iblk m c 10 t) (iblk m c 11 t) i k).trans ?_
    simp only [hx, cos_same, sin_same, qn_at]
  have hc : crow (k0_pay24 (F := Ideal) (iblk m c 8 t)) (roped x (iblk m c 16 t) (iblk m c 10 t) (iblk m c 11 t)) i
      = clogits (A m c) (CK m c) (QN m c) (seqOf t) (headOf t) g (pos (same t) i) := by
    funext j
    unfold crow clogits
    rw [hq]
    simp only [ck_at]
  have hv : (fun j => k0_pay25 (F := Ideal) (iblk m c 9 t) (ix2 j d)) = fun j => CV m c (ix3 (seqOf t) j (ccol (headOf t) d)) := funext fun j => cv_at m c t j d
  rw [hc, hv]
  have hw : ∀ j, row (KW m c t) (MW t) (roped x (iblk m c 16 t) (iblk m c 10 t) (iblk m c 11 t)) i j
      = if nearIn (t.val % 32) i.val j.val then logit (query (A m c) (QN m c) (seqOf t) (pos (same t) i) (head (headOf t) g)) (keys (A m c) (KN m c) (seqOf t) (wpos t j) (headOf t)) else ⊥ := fun j => by
    unfold row
    rw [hq, mask_window, show (fun k => KW m c t (ix2 j k)) = keys (A m c) (KN m c) (seqOf t) (wpos t j) (headOf t) from funext fun k => key_window m c t j k]
    by_cases h : nearIn (t.val % 32) i.val j.val
    · rw [if_pos h, if_pos h]; exact if_pos rfl
    · rw [if_neg h, if_neg h, if_neg (by decide)]
  have hin : ∀ j, nearIn (t.val % 32) i.val j.val → near (pos (same t) i).val (wpos t j).val := fun j h => by
    have e := wpos_near t i.val j h
    obtain ⟨⟨h1, h2⟩, -⟩ := h
    show t.val % 32 * 128 + i.val ≤ (wpos t j).val + 128 ∧ (wpos t j).val ≤ t.val % 32 * 128 + i.val + 128
    omega
  refine attend_window (fun j k => k.val + 128 = t.val % 32 * 128 + j.val) (fun a b k h1 h2 => Fin.ext (by omega)) (fun a k k' h1 h2 => Fin.ext (by omega)) _ _ _ _ _ _ _ (fun j => ?_) (fun k => ?_)
  · rw [hw]
    by_cases h : nearIn (t.val % 32) i.val j.val
    · refine .inr ⟨wpos t j, wpos_near t i.val j h, ?_, value_window m c t j d⟩
      unfold logits
      rw [if_pos h, if_pos (hin j h)]
    · exact .inl (if_neg h)
  · by_cases h : near (pos (same t) i).val k.val
    · have h' := h
      obtain ⟨h1, h2⟩ := h'
      have e1 : t.val % 32 * 128 + i.val ≤ k.val + 128 := h1
      have e2 : k.val ≤ t.val % 32 * 128 + i.val + 128 := h2
      have hk := k.isLt
      have hi := i.isLt
      have hn : nearIn (t.val % 32) i.val (k.val + 128 - t.val % 32 * 128) := ⟨⟨by omega, by omega⟩, by omega, by omega⟩
      have e3 : (wpos t ⟨k.val + 128 - t.val % 32 * 128, by omega⟩).val + 128 = t.val % 32 * 128 + (k.val + 128 - t.val % 32 * 128) := wpos_near t i.val _ hn
      have hj : wpos t ⟨k.val + 128 - t.val % 32 * 128, by omega⟩ = k := Fin.ext (Nat.add_right_cancel (m := 128) (e3.trans (by omega)))
      refine .inr ⟨⟨k.val + 128 - t.val % 32 * 128, by omega⟩, by show k.val + 128 = t.val % 32 * 128 + (k.val + 128 - t.val % 32 * 128); omega, ?_, ?_⟩
      · rw [hw, hj]
        unfold logits
        rw [if_pos hn, if_pos h]
      · rw [value_window, hj]
    · exact .inl (if_neg h)

/-- Where the four heads' columns lie in the output's block. -/
theorem emb18 (t : Fin cfg0.N) (i : Fin 128) (g : Fin 4) (d : Fin 128) (o : ℕ) (ho : o = g.val * 128) (hb) :
    (win0_18.rect t).emb ((Rect.unit (s := S128x512) ![0, o] ![128, 128] hb).emb (ix2 i d)) = ix2 (tok (seqOf t) (pos (same t) i)) (ocol (head (headOf t) g) d) := by
  subst ho
  obtain ⟨a0, a1⟩ := where18 t
  exact ext2 ((win0_18.rect_emb_val t _ 0).trans (by rw [a0]; show (t.val / 64 * 32 + t.val % 32) * 128 + (0 + 1 * i.val) = t.val / 64 * 4096 + (t.val % 32 * 128 + i.val); omega))
    ((win0_18.rect_emb_val t _ 1).trans (by rw [a1]; show t.val / 32 % 2 * 512 + (g.val * 128 + 1 * d.val) = (t.val / 32 % 2 * 4 + g.val) * 128 + d.val; omega))

theorem column_mem (o : ℕ) (hb) (i : Fin 128) (e : Fin 512) (h : o ≤ e.val ∧ e.val < o + 128) :
    ix2 i e ∈ (Rect.unit (s := S128x512) ![0, o] ![128, 128] hb).set := by
  rw [Rect.mem_set_unit]
  intro a
  match a with
  | ⟨0, _⟩ => show 0 ≤ i.val ∧ i.val < 0 + 128; omega
  | ⟨1, _⟩ => exact h

theorem out_block (c : Dev nD) (t : Fin cfg0.N) (y : S128x512.Idx) : outsAt0 m c t y = goal m c ((win0_18.rect t).emb y) := by
  unfold outsAt0
  frame_out
  refine View.canon_apply_of_pieces (fun y => goal m c ((win0_18.rect t).emb y)) _ (View.PiecesOf.mem (G := fun y => goal m c ((win0_18.rect t).emb y)) ?_) y ?_
  · exact ⟨(fun x => by
      obtain ⟨i, d, rfl⟩ : ∃ i d : Fin 128, x = ix2 i d := ⟨x 0, x 1, eq_ix2 x⟩
      refine Eq.trans ?_ (congrArg (goal m c) (emb18 t i 3 d 384 rfl inb_S128x512_S128x128_0_384)).symm
      exact (congrFun (fourth (KW m c t) (VW m c t) _ _ (MW t) _ _ _ _ _) _).trans <| head_block m c t 3 _ _ (fun i d => q_at m c t 3 384 rfl _ i d) (sink_at m c t 3 _ rfl _ _) i d),
    (fun x => by
      obtain ⟨i, d, rfl⟩ : ∃ i d : Fin 128, x = ix2 i d := ⟨x 0, x 1, eq_ix2 x⟩
      refine Eq.trans ?_ (congrArg (goal m c) (emb18 t i 2 d 256 rfl inb_S128x512_S128x128_0_256)).symm
      exact (congrFun (third (KW m c t) (VW m c t) _ _ (MW t) _ _ _ _ _) _).trans <| head_block m c t 2 _ _ (fun i d => q_at m c t 2 256 rfl _ i d) (sink_at m c t 2 _ rfl _ _) i d),
    (fun x => by
      obtain ⟨i, d, rfl⟩ : ∃ i d : Fin 128, x = ix2 i d := ⟨x 0, x 1, eq_ix2 x⟩
      refine Eq.trans ?_ (congrArg (goal m c) (emb18 t i 1 d 128 rfl inb_S128x512_S128x128_0_128)).symm
      exact (congrFun (second (KW m c t) (VW m c t) _ _ (MW t) _ _ _ _ _) _).trans <| head_block m c t 1 _ _ (fun i d => q_at m c t 1 128 rfl _ i d) (sink_at m c t 1 _ rfl _ _) i d),
    (fun x => by
      obtain ⟨i, d, rfl⟩ : ∃ i d : Fin 128, x = ix2 i d := ⟨x 0, x 1, eq_ix2 x⟩
      refine Eq.trans ?_ (congrArg (goal m c) (emb18 t i 0 d 0 rfl inb_S128x512_S128x128_0_0)).symm
      exact (congrFun (first (KW m c t) (VW m c t) _ _ (MW t) _ _ _ _ _) _).trans <| head_block m c t 0 _ _ (fun i d => q_at m c t 0 0 rfl _ i d) (sink_at m c t 0 _ rfl _ _) i d),
    trivial⟩
  obtain ⟨i, e, rfl⟩ : ∃ (i : Fin 128) (e : Fin 512), y = ix2 i e := ⟨y 0, y 1, eq_ix2 y⟩
  have he := e.isLt
  rcases (by omega : e.val < 128 ∨ (128 ≤ e.val ∧ e.val < 256) ∨ (256 ≤ e.val ∧ e.val < 384) ∨ 384 ≤ e.val) with h | h | h | h
  · exact ⟨_, .tail _ (.tail _ (.tail _ (.head _))), column_mem 0 inb_S128x512_S128x128_0_0 i e (by omega)⟩
  · exact ⟨_, .tail _ (.tail _ (.head _)), column_mem 128 inb_S128x512_S128x128_0_128 i e (by omega)⟩
  · exact ⟨_, .tail _ (.head _), column_mem 256 inb_S128x512_S128x128_0_256 i e (by omega)⟩
  · exact ⟨_, .head _, column_mem 384 inb_S128x512_S128x128_0_384 i e (by omega)⟩

theorem flushed18_eq (c : Dev nD) (t : Fin cfg0.N) :
    (dats m 0 c).flushed 18 t = ((cfg0.win 18).blk t).view.read (Elt Ideal) (goal m c) := by
  rw [Value.flushed18]
  funext (y : S128x512.Idx)
  exact out_block m c t y

theorem mem_block (t : Fin cfg0.N) (i : S32768x1024.Idx) :
    i ∈ ((cfg0.win 18).blk t).view.set ↔ ∀ a, win0_18.index t a * win0_18.size a ≤ i a ∧ (i a : Nat) < win0_18.index t a * win0_18.size a + win0_18.size a := by
  show i ∈ ((View.whole main_v39).slice (win0_18.rect t)).set ↔ _
  rw [View.set_slice_whole, Rect.mem_set_unit]

theorem cover18 (i : S32768x1024.Idx) : ∃ t : Fin cfg0.N, (cfg0.win 18).flush t = true ∧ i ∈ ((cfg0.win 18).blk t).view.set := by
  have h0 : (i 0 : Nat) < 32768 := (i 0).isLt
  have h1 : (i 1 : Nat) < 1024 := (i 1).isLt
  have hN := N_eq
  refine ⟨⟨(i 0 : Nat) / 4096 * 64 + (i 1 : Nat) / 512 * 32 + (i 0 : Nat) / 128 % 32, by omega⟩, flush18 _, ?_⟩
  obtain ⟨a0, a1⟩ := where18 ⟨(i 0 : Nat) / 4096 * 64 + (i 1 : Nat) / 512 * 32 + (i 0 : Nat) / 128 % 32, by omega⟩
  rw [mem_block]
  intro a
  match a with
  | ⟨0, _⟩ => show win0_18.index _ 0 * 128 ≤ (i 0 : Nat) ∧ (i 0 : Nat) < win0_18.index _ 0 * 128 + 128
              rw [a0]; dsimp only; omega
  | ⟨1, _⟩ => show win0_18.index _ 1 * 512 ≤ (i 1 : Nat) ∧ (i 1 : Nat) < win0_18.index _ 1 * 512 + 512
              rw [a1]; dsimp only; omega

theorem final (c : Dev nD) : (dats m 0 c).arrAt 18 cfg0.N = goal m c :=
  (dats m 0 c).arrAt_eq_of_cover 18 (goal m c) (fun t _ => flushed18_eq m c t) cover18

end Cert.Kernel14Ideal.Band

namespace Cert.Proof

/-- The places where the mask's constant is read as −∞. -/
theorem preserves14 : Cert.preserves_Kernel14_Kernel14Ideal := IdealRules.named_const.statement Cert.Kernel14Ideal.κ "mask" .f32 _ ⊥ rfl

theorem algebraic14 : Cert.algebraic_Kernel14Ideal_Reference14Ideal := fun m g m' g' _ hagree =>
  ⟨fun c => Cert.Kernel14Ideal.Band.goal m c,
    (θ_run _ _ _).mono (fun r h c => ⟨(h c).1.trans (Cert.Kernel14Ideal.Band.final m c), (h c).2⟩)
      (Cert.Kernel14Ideal.Value.run_blocks m g),
    (θ_run _ _ _).mono (fun r h c => ⟨(h c).1.trans (by
          obtain ⟨e0, e1, e2, e3, e4, e5⟩ := hagree c
          rw [Cert.Reference14Ideal.Read.val_main_v211_eq]
          show Cert.Reference14Ideal.Read.val_main_v211 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg5)) = _
          rw [e0, e1, e2, e3, e4, e5]), (h c).2⟩)
      (Cert.Reference14Ideal.Value.run m' g')⟩

end Cert.Proof
-- ==== Proof.lean ====
/- The certificate: the facts of the printed programs, the frame of every program, and the value claims proved in the
   modules beside this one. -/
module

public import proofs.«01_k».proof.Defs
public import proofs.«01_k».proof.Proof.Gen.Kernel.Frame
public import proofs.«01_k».proof.Proof.Retention
public import proofs.«01_k».proof.Proof.Gen.Kernel2.Frame
public import proofs.«01_k».proof.Proof.MatmulIn
public import proofs.«01_k».proof.Proof.Gen.Kernel3.Frame
public import proofs.«01_k».proof.Proof.MatmulEven
public import proofs.«01_k».proof.Proof.Gen.Kernel4.Frame
public import proofs.«01_k».proof.Proof.MatmulOut
public import proofs.«01_k».proof.Proof.Gen.Kernel5.Frame
public import proofs.«01_k».proof.Proof.MatmulOutEven
public import proofs.«01_k».proof.Proof.Gen.Kernel6.Frame
public import proofs.«01_k».proof.Proof.RetentionBack
public import proofs.«01_k».proof.Proof.Gen.Kernel7.Frame
public import proofs.«01_k».proof.Proof.Attention
public import proofs.«01_k».proof.Proof.Gen.Kernel8.Frame
public import proofs.«01_k».proof.Proof.Experts
public import proofs.«01_k».proof.Proof.Gen.Kernel9.Frame
public import proofs.«01_k».proof.Proof.Combine
public import proofs.«01_k».proof.Proof.Gen.Kernel10.Frame
public import proofs.«01_k».proof.Proof.CombineSample
public import proofs.«01_k».proof.Proof.Gen.Kernel11.Frame
public import proofs.«01_k».proof.Proof.NormMod
public import proofs.«01_k».proof.Proof.Gen.Kernel12.Frame
public import proofs.«01_k».proof.Proof.HyenaPost
public import proofs.«01_k».proof.Proof.Gen.Kernel13.Frame
public import proofs.«01_k».proof.Proof.HyenaPre
public import proofs.«01_k».proof.Proof.Gen.Kernel14.Frame
public import proofs.«01_k».proof.Proof.AttentionBand
public import proofs.«01_k».proof.Proof.Gen.Pre_slots_in_range
public import proofs.«01_k».proof.Proof.Gen.Pre_tokens_in_range
public import proofs.«01_k».proof.Proof.Gen.Pre_sample_tokens_in_range

@[expose] public section

noncomputable section

open Idealize.ShloMosaic Idealize.SL.Sem

namespace Cert.Proof

theorem quiescentRef1 : letI := Cert.ReferenceIdeal.Gen.facts; Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

theorem quiescentRef2 : letI := Cert.Reference2Ideal.Gen.facts; Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem quiescentRef3 : letI := Cert.Reference3Ideal.Gen.facts; Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem quiescentRef4 : letI := Cert.Reference4Ideal.Gen.facts; Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem quiescentRef5 : letI := Cert.Reference5Ideal.Gen.facts; Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem quiescentRef6 : letI := Cert.Reference6Ideal.Gen.facts; Cert.quiescent_Reference6Ideal := by
  intro m ρ _
  exact (θ_run Cert.Reference6Ideal.defs _ _).mono (fun r h => ⟨fun c => (h c).2.2, sem_eq_zero_of_no_sems (by decide) r.2⟩)
    (Cert.Reference6Ideal.Value.run (F := Ideal) m ρ)

theorem quiescentRef7 : letI := Cert.Reference7Ideal.Gen.facts; Cert.quiescent_Reference7Ideal := by
  intro m ρ _
  exact (θ_run Cert.Reference7Ideal.defs _ _).mono (fun r h => ⟨fun c => (h c).2.2.2, sem_eq_zero_of_no_sems (by decide) r.2⟩)
    (Cert.Reference7Ideal.Value.run (F := Ideal) m ρ)

theorem quiescentRef8 : letI := Cert.Reference8Ideal.Gen.facts; Cert.quiescent_Reference8Ideal := by
  intro m ρ _
  exact (θ_run Cert.Reference8Ideal.defs _ _).mono (fun r h => ⟨fun c => (h c).2, sem_eq_zero_of_no_sems (by decide) r.2⟩)
    (Cert.Reference8Ideal.Value.run (F := Ideal) m ρ)

theorem quiescentRef9 : letI := Cert.Reference9Ideal.Gen.facts; Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run (F := Ideal) m ρ)

theorem quiescentRef10 : letI := Cert.Reference10Ideal.Gen.facts; Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run (F := Ideal) m ρ)

theorem quiescentRef11 : letI := Cert.Reference11Ideal.Gen.facts; Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run (F := Ideal) m ρ)

theorem quiescentRef12 : letI := Cert.Reference12Ideal.Gen.facts; Cert.quiescent_Reference12Ideal := by
  intro m ρ _
  exact (θ_run Cert.Reference12Ideal.defs _ _).mono (fun r h => ⟨fun c => (h c).2, sem_eq_zero_of_no_sems (by decide) r.2⟩)
    (Cert.Reference12Ideal.Value.run (F := Ideal) m ρ)

theorem quiescentRef13 : letI := Cert.Reference13Ideal.Gen.facts; Cert.quiescent_Reference13Ideal := by
  intro m ρ _
  exact (θ_run Cert.Reference13Ideal.defs _ _).mono (fun r h => ⟨fun c => (h c).2.2.2, sem_eq_zero_of_no_sems (by decide) r.2⟩)
    (Cert.Reference13Ideal.Value.run (F := Ideal) m ρ)

theorem quiescentRef14 : letI := Cert.Reference14Ideal.Gen.facts; Cert.quiescent_Reference14Ideal := by
  intro m ρ _
  exact (θ_run Cert.Reference14Ideal.defs _ _).mono (fun r h => ⟨fun c => (h c).2, sem_eq_zero_of_no_sems (by decide) r.2⟩)
    (Cert.Reference14Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Pre_slots_in_range.Gen.facts,
    Cert.Pre_tokens_in_range.Gen.facts,
    Cert.Pre_sample_tokens_in_range.Gen.facts,
    fun m ρ _ => Cert.Kernel.Gen.frame m ρ,
    fun m ρ _ => Cert.KernelIdeal.Gen.frame m ρ,
    quiescentRef1,
    fun m ρ _ => Cert.Kernel2.Gen.frame m ρ,
    fun m ρ _ => Cert.Kernel2Ideal.Gen.frame m ρ,
    quiescentRef2,
    fun m ρ _ => Cert.Kernel3.Gen.frame m ρ,
    fun m ρ _ => Cert.Kernel3Ideal.Gen.frame m ρ,
    quiescentRef3,
    fun m ρ _ => Cert.Kernel4.Gen.frame m ρ,
    fun m ρ _ => Cert.Kernel4Ideal.Gen.frame m ρ,
    quiescentRef4,
    fun m ρ _ => Cert.Kernel5.Gen.frame m ρ,
    fun m ρ _ => Cert.Kernel5Ideal.Gen.frame m ρ,
    quiescentRef5,
    fun m ρ _ => Cert.Kernel6.Gen.frame m ρ,
    fun m ρ _ => Cert.Kernel6Ideal.Gen.frame m ρ,
    quiescentRef6,
    fun m ρ _ => Cert.Kernel7.Gen.frame m ρ,
    fun m ρ _ => Cert.Kernel7Ideal.Gen.frame m ρ,
    quiescentRef7,
    frame8,
    frame8Ideal,
    quiescentRef8,
    fun m ρ _ => quiescentRef8 m ρ trivial,
    frame9,
    frame9Ideal,
    quiescentRef9,
    fun m ρ _ => quiescentRef9 m ρ trivial,
    frame10,
    frame10Ideal,
    quiescentRef10,
    fun m ρ _ => quiescentRef10 m ρ trivial,
    fun m ρ _ => Cert.Kernel11.Gen.frame m ρ,
    fun m ρ _ => Cert.Kernel11Ideal.Gen.frame m ρ,
    quiescentRef11,
    fun m ρ _ => Cert.Kernel12.Gen.frame m ρ,
    fun m ρ _ => Cert.Kernel12Ideal.Gen.frame m ρ,
    quiescentRef12,
    fun m ρ _ => Cert.Kernel13.Gen.frame m ρ,
    fun m ρ _ => Cert.Kernel13Ideal.Gen.frame m ρ,
    quiescentRef13,
    fun m ρ _ => Cert.Kernel14.Gen.frame m ρ,
    fun m ρ _ => Cert.Kernel14Ideal.Gen.frame m ρ,
    quiescentRef14,
    trivial,
    algebraic1,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    preserves14,
    algebraic14⟩

end Cert.Proof
